-- ==== Defs.lean ====
def Pre_MemoryBwd (m : (ℓ : Loc Cert.MemoryBwd.nD Cert.MemoryBwd.τ Cert.MemoryBwd.sig) → Buf (Elt Bits) ℓ) : Prop :=
  True

def Pre_MemoryBwdIdeal (m : (ℓ : Loc Cert.MemoryBwdIdeal.nD Cert.MemoryBwdIdeal.τ Cert.MemoryBwdIdeal.sig) → Buf (Elt Ideal) ℓ) : Prop :=
  True

def Pre_MemoryBwdIdeal_mem_finite [hPre_mem_finite : Cert.Pre_mem_finite.Facts] (m : (ℓ : Loc Cert.MemoryBwdIdeal.nD Cert.MemoryBwdIdeal.τ Cert.MemoryBwdIdeal.sig) → Buf (Elt Ideal) ℓ) : Prop :=
  ∀ c : Dev Cert.MemoryBwdIdeal.nD,
    (Cert.Pre_mem_finite.fn (F := Ideal) (m ((c.tc : Thread Cert.MemoryBwdIdeal.nD Cert.MemoryBwdIdeal.τ).loc Cert.MemoryBwdIdeal.main_arg0)) (m ((c.tc : Thread Cert.MemoryBwdIdeal.nD Cert.MemoryBwdIdeal.τ).loc Cert.MemoryBwdIdeal.main_arg1)) (m ((c.tc : Thread Cert.MemoryBwdIdeal.nD Cert.MemoryBwdIdeal.τ).loc Cert.MemoryBwdIdeal.main_arg2))) = (fun _ => 1#1)

def Pre_MemoryGradIdeal (m : (ℓ : Loc Cert.MemoryGradIdeal.nD Cert.MemoryGradIdeal.τ Cert.MemoryGradIdeal.sig) → Buf (Elt Ideal) ℓ) : Prop :=
  True

def Pre_MemoryGradIdeal_mem_finite [hPre_mem_finite : Cert.Pre_mem_finite.Facts] (m : (ℓ : Loc Cert.MemoryGradIdeal.nD Cert.MemoryGradIdeal.τ Cert.MemoryGradIdeal.sig) → Buf (Elt Ideal) ℓ) : Prop :=
  ∀ c : Dev Cert.MemoryGradIdeal.nD,
    (Cert.Pre_mem_finite.fn (F := Ideal) (m ((c.tc : Thread Cert.MemoryGradIdeal.nD Cert.MemoryGradIdeal.τ).loc Cert.MemoryGradIdeal.main_arg0)) (m ((c.tc : Thread Cert.MemoryGradIdeal.nD Cert.MemoryGradIdeal.τ).loc Cert.MemoryGradIdeal.main_arg1)) (m ((c.tc : Thread Cert.MemoryGradIdeal.nD Cert.MemoryGradIdeal.τ).loc Cert.MemoryGradIdeal.main_arg2))) = (fun _ => 1#1)

def Pre_MlpDownDx (m : (ℓ : Loc Cert.MlpDownDx.nD Cert.MlpDownDx.τ Cert.MlpDownDx.sig) → Buf (Elt Bits) ℓ) : Prop :=
  True

def Pre_MlpDownDxIdeal (m : (ℓ : Loc Cert.MlpDownDxIdeal.nD Cert.MlpDownDxIdeal.τ Cert.MlpDownDxIdeal.sig) → Buf (Elt Ideal) ℓ) : Prop :=
  True

def Pre_MlpDownDxRefIdeal (m : (ℓ : Loc Cert.MlpDownDxRefIdeal.nD Cert.MlpDownDxRefIdeal.τ Cert.MlpDownDxRefIdeal.sig) → Buf (Elt Ideal) ℓ) : Prop :=
  True

def Pre_MlpDownDw (m : (ℓ : Loc Cert.MlpDownDw.nD Cert.MlpDownDw.τ Cert.MlpDownDw.sig) → Buf (Elt Bits) ℓ) : Prop :=
  True

def Pre_MlpDownDwIdeal (m : (ℓ : Loc Cert.MlpDownDwIdeal.nD Cert.MlpDownDwIdeal.τ Cert.MlpDownDwIdeal.sig) → Buf (Elt Ideal) ℓ) : Prop :=
  True

def Pre_MlpDownDwRefIdeal (m : (ℓ : Loc Cert.MlpDownDwRefIdeal.nD Cert.MlpDownDwRefIdeal.τ Cert.MlpDownDwRefIdeal.sig) → Buf (Elt Ideal) ℓ) : Prop :=
  True

def Pre_MlpUpDx (m : (ℓ : Loc Cert.MlpUpDx.nD Cert.MlpUpDx.τ Cert.MlpUpDx.sig) → Buf (Elt Bits) ℓ) : Prop :=
  True

def Pre_MlpUpDxIdeal (m : (ℓ : Loc Cert.MlpUpDxIdeal.nD Cert.MlpUpDxIdeal.τ Cert.MlpUpDxIdeal.sig) → Buf (Elt Ideal) ℓ) : Prop :=
  True

def Pre_MlpUpDxRefIdeal (m : (ℓ : Loc Cert.MlpUpDxRefIdeal.nD Cert.MlpUpDxRefIdeal.τ Cert.MlpUpDxRefIdeal.sig) → Buf (Elt Ideal) ℓ) : Prop :=
  True

def Pre_MlpUpDw (m : (ℓ : Loc Cert.MlpUpDw.nD Cert.MlpUpDw.τ Cert.MlpUpDw.sig) → Buf (Elt Bits) ℓ) : Prop :=
  True

def Pre_MlpUpDwIdeal (m : (ℓ : Loc Cert.MlpUpDwIdeal.nD Cert.MlpUpDwIdeal.τ Cert.MlpUpDwIdeal.sig) → Buf (Elt Ideal) ℓ) : Prop :=
  True

def Pre_MlpUpDwRefIdeal (m : (ℓ : Loc Cert.MlpUpDwRefIdeal.nD Cert.MlpUpDwRefIdeal.τ Cert.MlpUpDwRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_MemoryFwd (m : (ℓ : Loc Cert.MemoryFwd.nD Cert.MemoryFwd.τ Cert.MemoryFwd.sig) → Buf (Elt Bits) ℓ) : Prop :=
  True

def Pre_MemoryFwdIdeal (m : (ℓ : Loc Cert.MemoryFwdIdeal.nD Cert.MemoryFwdIdeal.τ Cert.MemoryFwdIdeal.sig) → Buf (Elt Ideal) ℓ) : Prop :=
  True

def Pre_MemoryFwdIdeal_mem_fwd_finite [hPre_mem_fwd_finite : Cert.Pre_mem_fwd_finite.Facts] (m : (ℓ : Loc Cert.MemoryFwdIdeal.nD Cert.MemoryFwdIdeal.τ Cert.MemoryFwdIdeal.sig) → Buf (Elt Ideal) ℓ) : Prop :=
  ∀ c : Dev Cert.MemoryFwdIdeal.nD,
    (Cert.Pre_mem_fwd_finite.fn (F := Ideal) (m ((c.tc : Thread Cert.MemoryFwdIdeal.nD Cert.MemoryFwdIdeal.τ).loc Cert.MemoryFwdIdeal.main_arg0)) (m ((c.tc : Thread Cert.MemoryFwdIdeal.nD Cert.MemoryFwdIdeal.τ).loc Cert.MemoryFwdIdeal.main_arg1))) = (fun _ => 1#1)

def Pre_MemoryFwdRefIdeal (m : (ℓ : Loc Cert.MemoryFwdRefIdeal.nD Cert.MemoryFwdRefIdeal.τ Cert.MemoryFwdRefIdeal.sig) → Buf (Elt Ideal) ℓ) : Prop :=
  True

def Pre_MemoryFwdRefIdeal_mem_fwd_finite [hPre_mem_fwd_finite : Cert.Pre_mem_fwd_finite.Facts] (m : (ℓ : Loc Cert.MemoryFwdRefIdeal.nD Cert.MemoryFwdRefIdeal.τ Cert.MemoryFwdRefIdeal.sig) → Buf (Elt Ideal) ℓ) : Prop :=
  ∀ c : Dev Cert.MemoryFwdRefIdeal.nD,
    (Cert.Pre_mem_fwd_finite.fn (F := Ideal) (m ((c.tc : Thread Cert.MemoryFwdRefIdeal.nD Cert.MemoryFwdRefIdeal.τ).loc Cert.MemoryFwdRefIdeal.main_arg0)) (m ((c.tc : Thread Cert.MemoryFwdRefIdeal.nD Cert.MemoryFwdRefIdeal.τ).loc Cert.MemoryFwdRefIdeal.main_arg1))) = (fun _ => 1#1)

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_BranchProjDx (m : (ℓ : Loc Cert.BranchProjDx.nD Cert.BranchProjDx.τ Cert.BranchProjDx.sig) → Buf (Elt Bits) ℓ) : Prop :=
  True

def Pre_BranchProjDxIdeal (m : (ℓ : Loc Cert.BranchProjDxIdeal.nD Cert.BranchProjDxIdeal.τ Cert.BranchProjDxIdeal.sig) → Buf (Elt Ideal) ℓ) : Prop :=
  True

def Pre_BranchProjDxRefIdeal (m : (ℓ : Loc Cert.BranchProjDxRefIdeal.nD Cert.BranchProjDxRefIdeal.τ Cert.BranchProjDxRefIdeal.sig) → Buf (Elt Ideal) ℓ) : Prop :=
  True

def Pre_BranchProjDw (m : (ℓ : Loc Cert.BranchProjDw.nD Cert.BranchProjDw.τ Cert.BranchProjDw.sig) → Buf (Elt Bits) ℓ) : Prop :=
  True

def Pre_BranchProjDwIdeal (m : (ℓ : Loc Cert.BranchProjDwIdeal.nD Cert.BranchProjDwIdeal.τ Cert.BranchProjDwIdeal.sig) → Buf (Elt Ideal) ℓ) : Prop :=
  True

def Pre_BranchProjDwRefIdeal (m : (ℓ : Loc Cert.BranchProjDwRefIdeal.nD Cert.BranchProjDwRefIdeal.τ Cert.BranchProjDwRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_MemQDx (m : (ℓ : Loc Cert.MemQDx.nD Cert.MemQDx.τ Cert.MemQDx.sig) → Buf (Elt Bits) ℓ) : Prop :=
  True

def Pre_MemQDxIdeal (m : (ℓ : Loc Cert.MemQDxIdeal.nD Cert.MemQDxIdeal.τ Cert.MemQDxIdeal.sig) → Buf (Elt Ideal) ℓ) : Prop :=
  True

def Pre_MemQDxRefIdeal (m : (ℓ : Loc Cert.MemQDxRefIdeal.nD Cert.MemQDxRefIdeal.τ Cert.MemQDxRefIdeal.sig) → Buf (Elt Ideal) ℓ) : Prop :=
  True

def Pre_MemQDw (m : (ℓ : Loc Cert.MemQDw.nD Cert.MemQDw.τ Cert.MemQDw.sig) → Buf (Elt Bits) ℓ) : Prop :=
  True

def Pre_MemQDwIdeal (m : (ℓ : Loc Cert.MemQDwIdeal.nD Cert.MemQDwIdeal.τ Cert.MemQDwIdeal.sig) → Buf (Elt Ideal) ℓ) : Prop :=
  True

def Pre_MemQDwRefIdeal (m : (ℓ : Loc Cert.MemQDwRefIdeal.nD Cert.MemQDwRefIdeal.τ Cert.MemQDwRefIdeal.sig) → Buf (Elt Ideal) ℓ) : Prop :=
  True

def Pre_MemODx (m : (ℓ : Loc Cert.MemODx.nD Cert.MemODx.τ Cert.MemODx.sig) → Buf (Elt Bits) ℓ) : Prop :=
  True

def Pre_MemODxIdeal (m : (ℓ : Loc Cert.MemODxIdeal.nD Cert.MemODxIdeal.τ Cert.MemODxIdeal.sig) → Buf (Elt Ideal) ℓ) : Prop :=
  True

def Pre_MemODxRefIdeal (m : (ℓ : Loc Cert.MemODxRefIdeal.nD Cert.MemODxRefIdeal.τ Cert.MemODxRefIdeal.sig) → Buf (Elt Ideal) ℓ) : Prop :=
  True

def Pre_MemODw (m : (ℓ : Loc Cert.MemODw.nD Cert.MemODw.τ Cert.MemODw.sig) → Buf (Elt Bits) ℓ) : Prop :=
  True

def Pre_MemODwIdeal (m : (ℓ : Loc Cert.MemODwIdeal.nD Cert.MemODwIdeal.τ Cert.MemODwIdeal.sig) → Buf (Elt Ideal) ℓ) : Prop :=
  True

def Pre_MemODwRefIdeal (m : (ℓ : Loc Cert.MemODwRefIdeal.nD Cert.MemODwRefIdeal.τ Cert.MemODwRefIdeal.sig) → Buf (Elt Ideal) ℓ) : Prop :=
  True

def Pre_MemKvDx (m : (ℓ : Loc Cert.MemKvDx.nD Cert.MemKvDx.τ Cert.MemKvDx.sig) → Buf (Elt Bits) ℓ) : Prop :=
  True

def Pre_MemKvDxIdeal (m : (ℓ : Loc Cert.MemKvDxIdeal.nD Cert.MemKvDxIdeal.τ Cert.MemKvDxIdeal.sig) → Buf (Elt Ideal) ℓ) : Prop :=
  True

def Pre_MemKvDxRefIdeal (m : (ℓ : Loc Cert.MemKvDxRefIdeal.nD Cert.MemKvDxRefIdeal.τ Cert.MemKvDxRefIdeal.sig) → Buf (Elt Ideal) ℓ) : Prop :=
  True

def Pre_MemKvDw (m : (ℓ : Loc Cert.MemKvDw.nD Cert.MemKvDw.τ Cert.MemKvDw.sig) → Buf (Elt Bits) ℓ) : Prop :=
  True

def Pre_MemKvDwIdeal (m : (ℓ : Loc Cert.MemKvDwIdeal.nD Cert.MemKvDwIdeal.τ Cert.MemKvDwIdeal.sig) → Buf (Elt Ideal) ℓ) : Prop :=
  True

def Pre_MemKvDwRefIdeal (m : (ℓ : Loc Cert.MemKvDwRefIdeal.nD Cert.MemKvDwRefIdeal.τ Cert.MemKvDwRefIdeal.sig) → Buf (Elt Ideal) ℓ) : Prop :=
  True

def Pre_BranchProj (m : (ℓ : Loc Cert.BranchProj.nD Cert.BranchProj.τ Cert.BranchProj.sig) → Buf (Elt Bits) ℓ) : Prop :=
  True

def Pre_BranchProjIdeal (m : (ℓ : Loc Cert.BranchProjIdeal.nD Cert.BranchProjIdeal.τ Cert.BranchProjIdeal.sig) → Buf (Elt Ideal) ℓ) : Prop :=
  True

def Pre_BranchProjRefIdeal (m : (ℓ : Loc Cert.BranchProjRefIdeal.nD Cert.BranchProjRefIdeal.τ Cert.BranchProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MemQ (m : (ℓ : Loc Cert.MemQ.nD Cert.MemQ.τ Cert.MemQ.sig) → Buf (Elt Bits) ℓ) : Prop :=
  True

def Pre_MemQIdeal (m : (ℓ : Loc Cert.MemQIdeal.nD Cert.MemQIdeal.τ Cert.MemQIdeal.sig) → Buf (Elt Ideal) ℓ) : Prop :=
  True

def Pre_MemQRefIdeal (m : (ℓ : Loc Cert.MemQRefIdeal.nD Cert.MemQRefIdeal.τ Cert.MemQRefIdeal.sig) → Buf (Elt Ideal) ℓ) : Prop :=
  True

def Pre_MemO (m : (ℓ : Loc Cert.MemO.nD Cert.MemO.τ Cert.MemO.sig) → Buf (Elt Bits) ℓ) : Prop :=
  True

def Pre_MemOIdeal (m : (ℓ : Loc Cert.MemOIdeal.nD Cert.MemOIdeal.τ Cert.MemOIdeal.sig) → Buf (Elt Ideal) ℓ) : Prop :=
  True

def Pre_MemORefIdeal (m : (ℓ : Loc Cert.MemORefIdeal.nD Cert.MemORefIdeal.τ Cert.MemORefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_NormInBwd (m : (ℓ : Loc Cert.NormInBwd.nD Cert.NormInBwd.τ Cert.NormInBwd.sig) → Buf (Elt Bits) ℓ) : Prop :=
  True

def Pre_NormInBwdIdeal (m : (ℓ : Loc Cert.NormInBwdIdeal.nD Cert.NormInBwdIdeal.τ Cert.NormInBwdIdeal.sig) → Buf (Elt Ideal) ℓ) : Prop :=
  True

def Pre_NormInBwdRefIdeal (m : (ℓ : Loc Cert.NormInBwdRefIdeal.nD Cert.NormInBwdRefIdeal.τ Cert.NormInBwdRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_MemNormBwd (m : (ℓ : Loc Cert.MemNormBwd.nD Cert.MemNormBwd.τ Cert.MemNormBwd.sig) → Buf (Elt Bits) ℓ) : Prop :=
  True

def Pre_MemNormBwdIdeal (m : (ℓ : Loc Cert.MemNormBwdIdeal.nD Cert.MemNormBwdIdeal.τ Cert.MemNormBwdIdeal.sig) → Buf (Elt Ideal) ℓ) : Prop :=
  True

def Pre_MemNormBwdRefIdeal (m : (ℓ : Loc Cert.MemNormBwdRefIdeal.nD Cert.MemNormBwdRefIdeal.τ Cert.MemNormBwdRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_NormTopBwd (m : (ℓ : Loc Cert.NormTopBwd.nD Cert.NormTopBwd.τ Cert.NormTopBwd.sig) → Buf (Elt Bits) ℓ) : Prop :=
  True

def Pre_NormTopBwdIdeal (m : (ℓ : Loc Cert.NormTopBwdIdeal.nD Cert.NormTopBwdIdeal.τ Cert.NormTopBwdIdeal.sig) → Buf (Elt Ideal) ℓ) : Prop :=
  True

def Pre_NormTopBwdRefIdeal (m : (ℓ : Loc Cert.NormTopBwdRefIdeal.nD Cert.NormTopBwdRefIdeal.τ Cert.NormTopBwdRefIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallRefIdeal (m : (ℓ : Loc Cert.StepSmallRefIdeal.nD Cert.StepSmallRefIdeal.τ Cert.StepSmallRefIdeal.sig) → Buf (Elt Ideal) ℓ) : Prop :=
  True

def quiescent_MemoryBwd [hMemoryBwd : Cert.MemoryBwd.Facts] : Prop :=
  ∀ (m : (ℓ : Loc Cert.MemoryBwd.nD Cert.MemoryBwd.τ Cert.MemoryBwd.sig) → Buf (Elt Bits) ℓ) (g : Dev Cert.MemoryBwd.nD → PrngReg), Pre_MemoryBwd m →
    θ_run (Cert.MemoryBwd.defs (F := Bits)) (onTc (τ := Cert.MemoryBwd.τ) (Cert.MemoryBwd.main (F := Bits))) ⟨m, fun _ => 0, g⟩ (fun r => (∀ c : Dev Cert.MemoryBwd.nD,
      r.2.mem ((c.tc : Thread Cert.MemoryBwd.nD Cert.MemoryBwd.τ).loc Cert.MemoryBwd.main_arg0) = m ((c.tc : Thread Cert.MemoryBwd.nD Cert.MemoryBwd.τ).loc Cert.MemoryBwd.main_arg0)
      ∧ r.2.mem ((c.tc : Thread Cert.MemoryBwd.nD Cert.MemoryBwd.τ).loc Cert.MemoryBwd.main_arg1) = m ((c.tc : Thread Cert.MemoryBwd.nD Cert.MemoryBwd.τ).loc Cert.MemoryBwd.main_arg1)
      ∧ r.2.mem ((c.tc : Thread Cert.MemoryBwd.nD Cert.MemoryBwd.τ).loc Cert.MemoryBwd.main_arg2) = m ((c.tc : Thread Cert.MemoryBwd.nD Cert.MemoryBwd.τ).loc Cert.MemoryBwd.main_arg2))
      ∧ r.2.sem = fun _ => 0)

def quiescent_MemoryBwdIdeal [hMemoryBwdIdeal : Cert.MemoryBwdIdeal.Facts] : Prop :=
  ∀ (m : (ℓ : Loc Cert.MemoryBwdIdeal.nD Cert.MemoryBwdIdeal.τ Cert.MemoryBwdIdeal.sig) → Buf (Elt Ideal) ℓ) (g : Dev Cert.MemoryBwdIdeal.nD → PrngReg), Pre_MemoryBwdIdeal m →
    θ_run (Cert.MemoryBwdIdeal.defs (F := Ideal)) (onTc (τ := Cert.MemoryBwdIdeal.τ) (Cert.MemoryBwdIdeal.main (F := Ideal))) ⟨m, fun _ => 0, g⟩ (fun r => (∀ c : Dev Cert.MemoryBwdIdeal.nD,
      r.2.mem ((c.tc : Thread Cert.MemoryBwdIdeal.nD Cert.MemoryBwdIdeal.τ).loc Cert.MemoryBwdIdeal.main_arg0) = m ((c.tc : Thread Cert.MemoryBwdIdeal.nD Cert.MemoryBwdIdeal.τ).loc Cert.MemoryBwdIdeal.main_arg0)
      ∧ r.2.mem ((c.tc : Thread Cert.MemoryBwdIdeal.nD Cert.MemoryBwdIdeal.τ).loc Cert.MemoryBwdIdeal.main_arg1) = m ((c.tc : Thread Cert.MemoryBwdIdeal.nD Cert.MemoryBwdIdeal.τ).loc Cert.MemoryBwdIdeal.main_arg1)
      ∧ r.2.mem ((c.tc : Thread Cert.MemoryBwdIdeal.nD Cert.MemoryBwdIdeal.τ).loc Cert.MemoryBwdIdeal.main_arg2) = m ((c.tc : Thread Cert.MemoryBwdIdeal.nD Cert.MemoryBwdIdeal.τ).loc Cert.MemoryBwdIdeal.main_arg2))
      ∧ r.2.sem = fun _ => 0)

def quiescent_MemoryBwdIdeal_pre_mem_finite [hMemoryBwdIdeal : Cert.MemoryBwdIdeal.Facts] [hPre_mem_finite : Cert.Pre_mem_finite.Facts] : Prop :=
  ∀ (m : (ℓ : Loc Cert.MemoryBwdIdeal.nD Cert.MemoryBwdIdeal.τ Cert.MemoryBwdIdeal.sig) → Buf (Elt Ideal) ℓ) (g : Dev Cert.MemoryBwdIdeal.nD → PrngReg), Pre_MemoryBwdIdeal_mem_finite m →
    θ_run (Cert.MemoryBwdIdeal.defs (F := Ideal)) (onTc (τ := Cert.MemoryBwdIdeal.τ) (Cert.MemoryBwdIdeal.main (F := Ideal))) ⟨m, fun _ => 0, g⟩ (fun r => (∀ c : Dev Cert.MemoryBwdIdeal.nD,
      r.2.mem ((c.tc : Thread Cert.MemoryBwdIdeal.nD Cert.MemoryBwdIdeal.τ).loc Cert.MemoryBwdIdeal.main_arg0) = m ((c.tc : Thread Cert.MemoryBwdIdeal.nD Cert.MemoryBwdIdeal.τ).loc Cert.MemoryBwdIdeal.main_arg0)
      ∧ r.2.mem ((c.tc : Thread Cert.MemoryBwdIdeal.nD Cert.MemoryBwdIdeal.τ).loc Cert.MemoryBwdIdeal.main_arg1) = m ((c.tc : Thread Cert.MemoryBwdIdeal.nD Cert.MemoryBwdIdeal.τ).loc Cert.MemoryBwdIdeal.main_arg1)
      ∧ r.2.mem ((c.tc : Thread Cert.MemoryBwdIdeal.nD Cert.MemoryBwdIdeal.τ).loc Cert.MemoryBwdIdeal.main_arg2) = m ((c.tc : Thread Cert.MemoryBwdIdeal.nD Cert.MemoryBwdIdeal.τ).loc Cert.MemoryBwdIdeal.main_arg2))
      ∧ r.2.sem = fun _ => 0)

def quiescent_MemoryGradIdeal [hMemoryGradIdeal : Cert.MemoryGradIdeal.Facts] : Prop :=
  ∀ (m : (ℓ : Loc Cert.MemoryGradIdeal.nD Cert.MemoryGradIdeal.τ Cert.MemoryGradIdeal.sig) → Buf (Elt Ideal) ℓ) (g : Dev Cert.MemoryGradIdeal.nD → PrngReg), Pre_MemoryGradIdeal m →
    θ_run (Cert.MemoryGradIdeal.defs (F := Ideal)) (onTc (τ := Cert.MemoryGradIdeal.τ) (Cert.MemoryGradIdeal.main (F := Ideal))) ⟨m, fun _ => 0, g⟩ (fun r => (∀ c : Dev Cert.MemoryGradIdeal.nD,
      r.2.mem ((c.tc : Thread Cert.MemoryGradIdeal.nD Cert.MemoryGradIdeal.τ).loc Cert.MemoryGradIdeal.main_arg0) = m ((c.tc : Thread Cert.MemoryGradIdeal.nD Cert.MemoryGradIdeal.τ).loc Cert.MemoryGradIdeal.main_arg0)
      ∧ r.2.mem ((c.tc : Thread Cert.MemoryGradIdeal.nD Cert.MemoryGradIdeal.τ).loc Cert.MemoryGradIdeal.main_arg1) = m ((c.tc : Thread Cert.MemoryGradIdeal.nD Cert.MemoryGradIdeal.τ).loc Cert.MemoryGradIdeal.main_arg1)
      ∧ r.2.mem ((c.tc : Thread Cert.MemoryGradIdeal.nD Cert.MemoryGradIdeal.τ).loc Cert.MemoryGradIdeal.main_arg2) = m ((c.tc : Thread Cert.MemoryGradIdeal.nD Cert.MemoryGradIdeal.τ).loc Cert.MemoryGradIdeal.main_arg2))
      ∧ r.2.sem = fun _ => 0)

def quiescent_MemoryGradIdeal_pre_mem_finite [hMemoryGradIdeal : Cert.MemoryGradIdeal.Facts] [hPre_mem_finite : Cert.Pre_mem_finite.Facts] : Prop :=
  ∀ (m : (ℓ : Loc Cert.MemoryGradIdeal.nD Cert.MemoryGradIdeal.τ Cert.MemoryGradIdeal.sig) → Buf (Elt Ideal) ℓ) (g : Dev Cert.MemoryGradIdeal.nD → PrngReg), Pre_MemoryGradIdeal_mem_finite m →
    θ_run (Cert.MemoryGradIdeal.defs (F := Ideal)) (onTc (τ := Cert.MemoryGradIdeal.τ) (Cert.MemoryGradIdeal.main (F := Ideal))) ⟨m, fun _ => 0, g⟩ (fun r => (∀ c : Dev Cert.MemoryGradIdeal.nD,
      r.2.mem ((c.tc : Thread Cert.MemoryGradIdeal.nD Cert.MemoryGradIdeal.τ).loc Cert.MemoryGradIdeal.main_arg0) = m ((c.tc : Thread Cert.MemoryGradIdeal.nD Cert.MemoryGradIdeal.τ).loc Cert.MemoryGradIdeal.main_arg0)
      ∧ r.2.mem ((c.tc : Thread Cert.MemoryGradIdeal.nD Cert.MemoryGradIdeal.τ).loc Cert.MemoryGradIdeal.main_arg1) = m ((c.tc : Thread Cert.MemoryGradIdeal.nD Cert.MemoryGradIdeal.τ).loc Cert.MemoryGradIdeal.main_arg1)
      ∧ r.2.mem ((c.tc : Thread Cert.MemoryGradIdeal.nD Cert.MemoryGradIdeal.τ).loc Cert.MemoryGradIdeal.main_arg2) = m ((c.tc : Thread Cert.MemoryGradIdeal.nD Cert.MemoryGradIdeal.τ).loc Cert.MemoryGradIdeal.main_arg2))
      ∧ r.2.sem = fun _ => 0)

def quiescent_MlpDownDx [hMlpDownDx : Cert.MlpDownDx.Facts] : Prop :=
  ∀ (m : (ℓ : Loc Cert.MlpDownDx.nD Cert.MlpDownDx.τ Cert.MlpDownDx.sig) → Buf (Elt Bits) ℓ) (g : Dev Cert.MlpDownDx.nD → PrngReg), Pre_MlpDownDx m →
    θ_run (Cert.MlpDownDx.defs (F := Bits)) (onTc (τ := Cert.MlpDownDx.τ) (Cert.MlpDownDx.main (F := Bits))) ⟨m, fun _ => 0, g⟩ (fun r => (∀ c : Dev Cert.MlpDownDx.nD,
      r.2.mem ((c.tc : Thread Cert.MlpDownDx.nD Cert.MlpDownDx.τ).loc Cert.MlpDownDx.main_arg0) = m ((c.tc : Thread Cert.MlpDownDx.nD Cert.MlpDownDx.τ).loc Cert.MlpDownDx.main_arg0)
      ∧ r.2.mem ((c.tc : Thread Cert.MlpDownDx.nD Cert.MlpDownDx.τ).loc Cert.MlpDownDx.main_arg1) = m ((c.tc : Thread Cert.MlpDownDx.nD Cert.MlpDownDx.τ).loc Cert.MlpDownDx.main_arg1)
      ∧ r.2.mem ((c.tc : Thread Cert.MlpDownDx.nD Cert.MlpDownDx.τ).loc Cert.MlpDownDx.main_arg2) = m ((c.tc : Thread Cert.MlpDownDx.nD Cert.MlpDownDx.τ).loc Cert.MlpDownDx.main_arg2))
      ∧ r.2.sem = fun _ => 0)

def quiescent_MlpDownDxIdeal [hMlpDownDxIdeal : Cert.MlpDownDxIdeal.Facts] : Prop :=
  ∀ (m : (ℓ : Loc Cert.MlpDownDxIdeal.nD Cert.MlpDownDxIdeal.τ Cert.MlpDownDxIdeal.sig) → Buf (Elt Ideal) ℓ) (g : Dev Cert.MlpDownDxIdeal.nD → PrngReg), Pre_MlpDownDxIdeal m →
    θ_run (Cert.MlpDownDxIdeal.defs (F := Ideal)) (onTc (τ := Cert.MlpDownDxIdeal.τ) (Cert.MlpDownDxIdeal.main (F := Ideal))) ⟨m, fun _ => 0, g⟩ (fun r => (∀ c : Dev Cert.MlpDownDxIdeal.nD,
      r.2.mem ((c.tc : Thread Cert.MlpDownDxIdeal.nD Cert.MlpDownDxIdeal.τ).loc Cert.MlpDownDxIdeal.main_arg0) = m ((c.tc : Thread Cert.MlpDownDxIdeal.nD Cert.MlpDownDxIdeal.τ).loc Cert.MlpDownDxIdeal.main_arg0)
      ∧ r.2.mem ((c.tc : Thread Cert.MlpDownDxIdeal.nD Cert.MlpDownDxIdeal.τ).loc Cert.MlpDownDxIdeal.main_arg1) = m ((c.tc : Thread Cert.MlpDownDxIdeal.nD Cert.MlpDownDxIdeal.τ).loc Cert.MlpDownDxIdeal.main_arg1)
      ∧ r.2.mem ((c.tc : Thread Cert.MlpDownDxIdeal.nD Cert.MlpDownDxIdeal.τ).loc Cert.MlpDownDxIdeal.main_arg2) = m ((c.tc : Thread Cert.MlpDownDxIdeal.nD Cert.MlpDownDxIdeal.τ).loc Cert.MlpDownDxIdeal.main_arg2))
      ∧ r.2.sem = fun _ => 0)

def quiescent_MlpDownDxRefIdeal [hMlpDownDxRefIdeal : Cert.MlpDownDxRefIdeal.Facts] : Prop :=
  ∀ (m : (ℓ : Loc Cert.MlpDownDxRefIdeal.nD Cert.MlpDownDxRefIdeal.τ Cert.MlpDownDxRefIdeal.sig) → Buf (Elt Ideal) ℓ) (g : Dev Cert.MlpDownDxRefIdeal.nD → PrngReg), Pre_MlpDownDxRefIdeal m →
    θ_run (Cert.MlpDownDxRefIdeal.defs (F := Ideal)) (onTc (τ := Cert.MlpDownDxRefIdeal.τ) (Cert.MlpDownDxRefIdeal.main (F := Ideal))) ⟨m, fun _ => 0, g⟩ (fun r => (∀ c : Dev Cert.MlpDownDxRefIdeal.nD,
      r.2.mem ((c.tc : Thread Cert.MlpDownDxRefIdeal.nD Cert.MlpDownDxRefIdeal.τ).loc Cert.MlpDownDxRefIdeal.main_arg0) = m ((c.tc : Thread Cert.MlpDownDxRefIdeal.nD Cert.MlpDownDxRefIdeal.τ).loc Cert.MlpDownDxRefIdeal.main_arg0)
      ∧ r.2.mem ((c.tc : Thread Cert.MlpDownDxRefIdeal.nD Cert.MlpDownDxRefIdeal.τ).loc Cert.MlpDownDxRefIdeal.main_arg1) = m ((c.tc : Thread Cert.MlpDownDxRefIdeal.nD Cert.MlpDownDxRefIdeal.τ).loc Cert.MlpDownDxRefIdeal.main_arg1)
      ∧ r.2.mem ((c.tc : Thread Cert.MlpDownDxRefIdeal.nD Cert.MlpDownDxRefIdeal.τ).loc Cert.MlpDownDxRefIdeal.main_arg2) = m ((c.tc : Thread Cert.MlpDownDxRefIdeal.nD Cert.MlpDownDxRefIdeal.τ).loc Cert.MlpDownDxRefIdeal.main_arg2))
      ∧ r.2.sem = fun _ => 0)

def quiescent_MlpDownDw [hMlpDownDw : Cert.MlpDownDw.Facts] : Prop :=
  ∀ (m : (ℓ : Loc Cert.MlpDownDw.nD Cert.MlpDownDw.τ Cert.MlpDownDw.sig) → Buf (Elt Bits) ℓ) (g : Dev Cert.MlpDownDw.nD → PrngReg), Pre_MlpDownDw m →
    θ_run (Cert.MlpDownDw.defs (F := Bits)) (onTc (τ := Cert.MlpDownDw.τ) (Cert.MlpDownDw.main (F := Bits))) ⟨m, fun _ => 0, g⟩ (fun r => (∀ c : Dev Cert.MlpDownDw.nD,
      r.2.mem ((c.tc : Thread Cert.MlpDownDw.nD Cert.MlpDownDw.τ).loc Cert.MlpDownDw.main_arg0) = m ((c.tc : Thread Cert.MlpDownDw.nD Cert.MlpDownDw.τ).loc Cert.MlpDownDw.main_arg0)
      ∧ r.2.mem ((c.tc : Thread Cert.MlpDownDw.nD Cert.MlpDownDw.τ).loc Cert.MlpDownDw.main_arg1) = m ((c.tc : Thread Cert.MlpDownDw.nD Cert.MlpDownDw.τ).loc Cert.MlpDownDw.main_arg1)
      ∧ r.2.mem ((c.tc : Thread Cert.MlpDownDw.nD Cert.MlpDownDw.τ).loc Cert.MlpDownDw.main_arg2) = m ((c.tc : Thread Cert.MlpDownDw.nD Cert.MlpDownDw.τ).loc Cert.MlpDownDw.main_arg2))
      ∧ r.2.sem = fun _ => 0)

def quiescent_MlpDownDwIdeal [hMlpDownDwIdeal : Cert.MlpDownDwIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg), Pre_MlpDownDwIdeal m →
    θ_run (Cert.MlpDownDwIdeal.defs (F := Ideal)) (onTc (τ := Cert.MlpDownDwIdeal.τ) (Cert.MlpDownDwIdeal.main (F := Ideal))) ⟨m, fun _ => 0, g⟩ (fun r => (∀ c : Dev Cert.MlpDownDwIdeal.nD,
      r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
      ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1)
      ∧ r.2.mem ((c.tc : Thread Cert.MlpDownDwIdeal.nD Cert.MlpDownDwIdeal.τ).loc Cert.MlpDownDwIdeal.main_arg2) = m ((c.tc : Thread Cert.MlpDownDwIdeal.nD Cert.MlpDownDwIdeal.τ).loc Cert.MlpDownDwIdeal.main_arg2))
      ∧ r.2.sem = fun _ => 0)

def quiescent_MlpDownDwRefIdeal [hMlpDownDwRefIdeal : Cert.MlpDownDwRefIdeal.Facts] : Prop :=
  ∀ (m : (ℓ : Loc Cert.MlpDownDwRefIdeal.nD Cert.MlpDownDwRefIdeal.τ Cert.MlpDownDwRefIdeal.sig) → Buf (Elt Ideal) ℓ) (g : Dev Cert.MlpDownDwRefIdeal.nD → PrngReg), Pre_MlpDownDwRefIdeal m →
    θ_run (Cert.MlpDownDwRefIdeal.defs (F := Ideal)) (onTc (τ := Cert.MlpDownDwRefIdeal.τ) (Cert.MlpDownDwRefIdeal.main (F := Ideal))) ⟨m, fun _ => 0, g⟩ (fun r => (∀ c : Dev Cert.MlpDownDwRefIdeal.nD,
      r.2.mem ((c.tc : Thread Cert.MlpDownDwRefIdeal.nD Cert.MlpDownDwRefIdeal.τ).loc Cert.MlpDownDwRefIdeal.main_arg0) = m ((c.tc : Thread Cert.MlpDownDwRefIdeal.nD Cert.MlpDownDwRefIdeal.τ).loc Cert.MlpDownDwRefIdeal.main_arg0)
      ∧ r.2.mem ((c.tc : Thread Cert.MlpDownDwRefIdeal.nD Cert.MlpDownDwRefIdeal.τ).loc Cert.MlpDownDwRefIdeal.main_arg1) = m ((c.tc : Thread Cert.MlpDownDwRefIdeal.nD Cert.MlpDownDwRefIdeal.τ).loc Cert.MlpDownDwRefIdeal.main_arg1)
      ∧ r.2.mem ((c.tc : Thread Cert.MlpDownDwRefIdeal.nD Cert.MlpDownDwRefIdeal.τ).loc Cert.MlpDownDwRefIdeal.main_arg2) = m ((c.tc : Thread Cert.MlpDownDwRefIdeal.nD Cert.MlpDownDwRefIdeal.τ).loc Cert.MlpDownDwRefIdeal.main_arg2))
      ∧ r.2.sem = fun _ => 0)

def quiescent_MlpUpDx [hMlpUpDx : Cert.MlpUpDx.Facts] : Prop :=
  ∀ (m : (ℓ : Loc Cert.MlpUpDx.nD Cert.MlpUpDx.τ Cert.MlpUpDx.sig) → Buf (Elt Bits) ℓ) (g : Dev Cert.MlpUpDx.nD → PrngReg), Pre_MlpUpDx m →
    θ_run (Cert.MlpUpDx.defs (F := Bits)) (onTc (τ := Cert.MlpUpDx.τ) (Cert.MlpUpDx.main (F := Bits))) ⟨m, fun _ => 0, g⟩ (fun r => (∀ c : Dev Cert.MlpUpDx.nD,
      r.2.mem ((c.tc : Thread Cert.MlpUpDx.nD Cert.MlpUpDx.τ).loc Cert.MlpUpDx.main_arg0) = m ((c.tc : Thread Cert.MlpUpDx.nD Cert.MlpUpDx.τ).loc Cert.MlpUpDx.main_arg0)
      ∧ r.2.mem ((c.tc : Thread Cert.MlpUpDx.nD Cert.MlpUpDx.τ).loc Cert.MlpUpDx.main_arg1) = m ((c.tc : Thread Cert.MlpUpDx.nD Cert.MlpUpDx.τ).loc Cert.MlpUpDx.main_arg1)
      ∧ r.2.mem ((c.tc : Thread Cert.MlpUpDx.nD Cert.MlpUpDx.τ).loc Cert.MlpUpDx.main_arg2) = m ((c.tc : Thread Cert.MlpUpDx.nD Cert.MlpUpDx.τ).loc Cert.MlpUpDx.main_arg2))
      ∧ r.2.sem = fun _ => 0)

def quiescent_MlpUpDxIdeal [hMlpUpDxIdeal : Cert.MlpUpDxIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg), Pre_MlpUpDxIdeal m →
    θ_run (Cert.MlpUpDxIdeal.defs (F := Ideal)) (onTc (τ := Cert.MlpUpDxIdeal.τ) (Cert.MlpUpDxIdeal.main (F := Ideal))) ⟨m, fun _ => 0, g⟩ (fun r => (∀ c : Dev Cert.MlpUpDxIdeal.nD,
      r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
      ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1)
      ∧ r.2.mem ((c.tc : Thread Cert.MlpUpDxIdeal.nD Cert.MlpUpDxIdeal.τ).loc Cert.MlpUpDxIdeal.main_arg2) = m ((c.tc : Thread Cert.MlpUpDxIdeal.nD Cert.MlpUpDxIdeal.τ).loc Cert.MlpUpDxIdeal.main_arg2))
      ∧ r.2.sem = fun _ => 0)

def quiescent_MlpUpDxRefIdeal [hMlpUpDxRefIdeal : Cert.MlpUpDxRefIdeal.Facts] : Prop :=
  ∀ (m : (ℓ : Loc Cert.MlpUpDxRefIdeal.nD Cert.MlpUpDxRefIdeal.τ Cert.MlpUpDxRefIdeal.sig) → Buf (Elt Ideal) ℓ) (g : Dev Cert.MlpUpDxRefIdeal.nD → PrngReg), Pre_MlpUpDxRefIdeal m →
    θ_run (Cert.MlpUpDxRefIdeal.defs (F := Ideal)) (onTc (τ := Cert.MlpUpDxRefIdeal.τ) (Cert.MlpUpDxRefIdeal.main (F := Ideal))) ⟨m, fun _ => 0, g⟩ (fun r => (∀ c : Dev Cert.MlpUpDxRefIdeal.nD,
      r.2.mem ((c.tc : Thread Cert.MlpUpDxRefIdeal.nD Cert.MlpUpDxRefIdeal.τ).loc Cert.MlpUpDxRefIdeal.main_arg0) = m ((c.tc : Thread Cert.MlpUpDxRefIdeal.nD Cert.MlpUpDxRefIdeal.τ).loc Cert.MlpUpDxRefIdeal.main_arg0)
      ∧ r.2.mem ((c.tc : Thread Cert.MlpUpDxRefIdeal.nD Cert.MlpUpDxRefIdeal.τ).loc Cert.MlpUpDxRefIdeal.main_arg1) = m ((c.tc : Thread Cert.MlpUpDxRefIdeal.nD Cert.MlpUpDxRefIdeal.τ).loc Cert.MlpUpDxRefIdeal.main_arg1)
      ∧ r.2.mem ((c.tc : Thread Cert.MlpUpDxRefIdeal.nD Cert.MlpUpDxRefIdeal.τ).loc Cert.MlpUpDxRefIdeal.main_arg2) = m ((c.tc : Thread Cert.MlpUpDxRefIdeal.nD Cert.MlpUpDxRefIdeal.τ).loc Cert.MlpUpDxRefIdeal.main_arg2))
      ∧ r.2.sem = fun _ => 0)

def quiescent_MlpUpDw [hMlpUpDw : Cert.MlpUpDw.Facts] : Prop :=
  ∀ (m : (ℓ : Loc Cert.MlpUpDw.nD Cert.MlpUpDw.τ Cert.MlpUpDw.sig) → Buf (Elt Bits) ℓ) (g : Dev Cert.MlpUpDw.nD → PrngReg), Pre_MlpUpDw m →
    θ_run (Cert.MlpUpDw.defs (F := Bits)) (onTc (τ := Cert.MlpUpDw.τ) (Cert.MlpUpDw.main (F := Bits))) ⟨m, fun _ => 0, g⟩ (fun r => (∀ c : Dev Cert.MlpUpDw.nD,
      r.2.mem ((c.tc : Thread Cert.MlpUpDw.nD Cert.MlpUpDw.τ).loc Cert.MlpUpDw.main_arg0) = m ((c.tc : Thread Cert.MlpUpDw.nD Cert.MlpUpDw.τ).loc Cert.MlpUpDw.main_arg0)
      ∧ r.2.mem ((c.tc : Thread Cert.MlpUpDw.nD Cert.MlpUpDw.τ).loc Cert.MlpUpDw.main_arg1) = m ((c.tc : Thread Cert.MlpUpDw.nD Cert.MlpUpDw.τ).loc Cert.MlpUpDw.main_arg1)
      ∧ r.2.mem ((c.tc : Thread Cert.MlpUpDw.nD Cert.MlpUpDw.τ).loc Cert.MlpUpDw.main_arg2) = m ((c.tc : Thread Cert.MlpUpDw.nD Cert.MlpUpDw.τ).loc Cert.MlpUpDw.main_arg2))
      ∧ r.2.sem = fun _ => 0)

def quiescent_MlpUpDwIdeal [hMlpUpDwIdeal : Cert.MlpUpDwIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg), Pre_MlpUpDwIdeal m →
    θ_run (Cert.MlpUpDwIdeal.defs (F := Ideal)) (onTc (τ := Cert.MlpUpDwIdeal.τ) (Cert.MlpUpDwIdeal.main (F := Ideal))) ⟨m, fun _ => 0, g⟩ (fun r => (∀ c : Dev Cert.MlpUpDwIdeal.nD,
      r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
      ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1)
      ∧ r.2.mem ((c.tc : Thread Cert.MlpUpDwIdeal.nD Cert.MlpUpDwIdeal.τ).loc Cert.MlpUpDwIdeal.main_arg2) = m ((c.tc : Thread Cert.MlpUpDwIdeal.nD Cert.MlpUpDwIdeal.τ).loc Cert.MlpUpDwIdeal.main_arg2))
      ∧ r.2.sem = fun _ => 0)

def quiescent_MlpUpDwRefIdeal [hMlpUpDwRefIdeal : Cert.MlpUpDwRefIdeal.Facts] : Prop :=
  ∀ (m : (ℓ : Loc Cert.MlpUpDwRefIdeal.nD Cert.MlpUpDwRefIdeal.τ Cert.MlpUpDwRefIdeal.sig) → Buf (Elt Ideal) ℓ) (g : Dev Cert.MlpUpDwRefIdeal.nD → PrngReg), Pre_MlpUpDwRefIdeal m →
    θ_run (Cert.MlpUpDwRefIdeal.defs (F := Ideal)) (onTc (τ := Cert.MlpUpDwRefIdeal.τ) (Cert.MlpUpDwRefIdeal.main (F := Ideal))) ⟨m, fun _ => 0, g⟩ (fun r => (∀ c : Dev Cert.MlpUpDwRefIdeal.nD,
      r.2.mem ((c.tc : Thread Cert.MlpUpDwRefIdeal.nD Cert.MlpUpDwRefIdeal.τ).loc Cert.MlpUpDwRefIdeal.main_arg0) = m ((c.tc : Thread Cert.MlpUpDwRefIdeal.nD Cert.MlpUpDwRefIdeal.τ).loc Cert.MlpUpDwRefIdeal.main_arg0)
      ∧ r.2.mem ((c.tc : Thread Cert.MlpUpDwRefIdeal.nD Cert.MlpUpDwRefIdeal.τ).loc Cert.MlpUpDwRefIdeal.main_arg1) = m ((c.tc : Thread Cert.MlpUpDwRefIdeal.nD Cert.MlpUpDwRefIdeal.τ).loc Cert.MlpUpDwRefIdeal.main_arg1)
      ∧ r.2.mem ((c.tc : Thread Cert.MlpUpDwRefIdeal.nD Cert.MlpUpDwRefIdeal.τ).loc Cert.MlpUpDwRefIdeal.main_arg2) = m ((c.tc : Thread Cert.MlpUpDwRefIdeal.nD Cert.MlpUpDwRefIdeal.τ).loc Cert.MlpUpDwRefIdeal.main_arg2))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1)
      ∧ r.2.mem ((c.tc : Thread Cert.InProjDw.nD Cert.InProjDw.τ).loc Cert.InProjDw.main_arg2) = m ((c.tc : Thread Cert.InProjDw.nD Cert.InProjDw.τ).loc Cert.InProjDw.main_arg2))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1)
      ∧ r.2.mem ((c.tc : Thread Cert.InProjDwIdeal.nD Cert.InProjDwIdeal.τ).loc Cert.InProjDwIdeal.main_arg2) = m ((c.tc : Thread Cert.InProjDwIdeal.nD Cert.InProjDwIdeal.τ).loc Cert.InProjDwIdeal.main_arg2))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1)
      ∧ r.2.mem ((c.tc : Thread Cert.InProjDwRefIdeal.nD Cert.InProjDwRefIdeal.τ).loc Cert.InProjDwRefIdeal.main_arg2) = m ((c.tc : Thread Cert.InProjDwRefIdeal.nD Cert.InProjDwRefIdeal.τ).loc Cert.InProjDwRefIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_MemoryFwd [hMemoryFwd : Cert.MemoryFwd.Facts] : Prop :=
  ∀ (m : (ℓ : Loc Cert.MemoryFwd.nD Cert.MemoryFwd.τ Cert.MemoryFwd.sig) → Buf (Elt Bits) ℓ) (g : Dev Cert.MemoryFwd.nD → PrngReg), Pre_MemoryFwd m →
    θ_run (Cert.MemoryFwd.defs (F := Bits)) (onTc (τ := Cert.MemoryFwd.τ) (Cert.MemoryFwd.main (F := Bits))) ⟨m, fun _ => 0, g⟩ (fun r => (∀ c : Dev Cert.MemoryFwd.nD,
      r.2.mem ((c.tc : Thread Cert.MemoryFwd.nD Cert.MemoryFwd.τ).loc Cert.MemoryFwd.main_arg0) = m ((c.tc : Thread Cert.MemoryFwd.nD Cert.MemoryFwd.τ).loc Cert.MemoryFwd.main_arg0)
      ∧ r.2.mem ((c.tc : Thread Cert.MemoryFwd.nD Cert.MemoryFwd.τ).loc Cert.MemoryFwd.main_arg1) = m ((c.tc : Thread Cert.MemoryFwd.nD Cert.MemoryFwd.τ).loc Cert.MemoryFwd.main_arg1))
      ∧ r.2.sem = fun _ => 0)

def quiescent_MemoryFwdIdeal [hMemoryFwdIdeal : Cert.MemoryFwdIdeal.Facts] : Prop :=
  ∀ (m : (ℓ : Loc Cert.MemoryFwdIdeal.nD Cert.MemoryFwdIdeal.τ Cert.MemoryFwdIdeal.sig) → Buf (Elt Ideal) ℓ) (g : Dev Cert.MemoryFwdIdeal.nD → PrngReg), Pre_MemoryFwdIdeal m →
    θ_run (Cert.MemoryFwdIdeal.defs (F := Ideal)) (onTc (τ := Cert.MemoryFwdIdeal.τ) (Cert.MemoryFwdIdeal.main (F := Ideal))) ⟨m, fun _ => 0, g⟩ (fun r => (∀ c : Dev Cert.MemoryFwdIdeal.nD,
      r.2.mem ((c.tc : Thread Cert.MemoryFwdIdeal.nD Cert.MemoryFwdIdeal.τ).loc Cert.MemoryFwdIdeal.main_arg0) = m ((c.tc : Thread Cert.MemoryFwdIdeal.nD Cert.MemoryFwdIdeal.τ).loc Cert.MemoryFwdIdeal.main_arg0)
      ∧ r.2.mem ((c.tc : Thread Cert.MemoryFwdIdeal.nD Cert.MemoryFwdIdeal.τ).loc Cert.MemoryFwdIdeal.main_arg1) = m ((c.tc : Thread Cert.MemoryFwdIdeal.nD Cert.MemoryFwdIdeal.τ).loc Cert.MemoryFwdIdeal.main_arg1))
      ∧ r.2.sem = fun _ => 0)

def quiescent_MemoryFwdIdeal_pre_mem_fwd_finite [hMemoryFwdIdeal : Cert.MemoryFwdIdeal.Facts] [hPre_mem_fwd_finite : Cert.Pre_mem_fwd_finite.Facts] : Prop :=
  ∀ (m : (ℓ : Loc Cert.MemoryFwdIdeal.nD Cert.MemoryFwdIdeal.τ Cert.MemoryFwdIdeal.sig) → Buf (Elt Ideal) ℓ) (g : Dev Cert.MemoryFwdIdeal.nD → PrngReg), Pre_MemoryFwdIdeal_mem_fwd_finite m →
    θ_run (Cert.MemoryFwdIdeal.defs (F := Ideal)) (onTc (τ := Cert.MemoryFwdIdeal.τ) (Cert.MemoryFwdIdeal.main (F := Ideal))) ⟨m, fun _ => 0, g⟩ (fun r => (∀ c : Dev Cert.MemoryFwdIdeal.nD,
      r.2.mem ((c.tc : Thread Cert.MemoryFwdIdeal.nD Cert.MemoryFwdIdeal.τ).loc Cert.MemoryFwdIdeal.main_arg0) = m ((c.tc : Thread Cert.MemoryFwdIdeal.nD Cert.MemoryFwdIdeal.τ).loc Cert.MemoryFwdIdeal.main_arg0)
      ∧ r.2.mem ((c.tc : Thread Cert.MemoryFwdIdeal.nD Cert.MemoryFwdIdeal.τ).loc Cert.MemoryFwdIdeal.main_arg1) = m ((c.tc : Thread Cert.MemoryFwdIdeal.nD Cert.MemoryFwdIdeal.τ).loc Cert.MemoryFwdIdeal.main_arg1))
      ∧ r.2.sem = fun _ => 0)

def quiescent_MemoryFwdRefIdeal [hMemoryFwdRefIdeal : Cert.MemoryFwdRefIdeal.Facts] : Prop :=
  ∀ (m : (ℓ : Loc Cert.MemoryFwdRefIdeal.nD Cert.MemoryFwdRefIdeal.τ Cert.MemoryFwdRefIdeal.sig) → Buf (Elt Ideal) ℓ) (g : Dev Cert.MemoryFwdRefIdeal.nD → PrngReg), Pre_MemoryFwdRefIdeal m →
    θ_run (Cert.MemoryFwdRefIdeal.defs (F := Ideal)) (onTc (τ := Cert.MemoryFwdRefIdeal.τ) (Cert.MemoryFwdRefIdeal.main (F := Ideal))) ⟨m, fun _ => 0, g⟩ (fun r => (∀ c : Dev Cert.MemoryFwdRefIdeal.nD,
      r.2.mem ((c.tc : Thread Cert.MemoryFwdRefIdeal.nD Cert.MemoryFwdRefIdeal.τ).loc Cert.MemoryFwdRefIdeal.main_arg0) = m ((c.tc : Thread Cert.MemoryFwdRefIdeal.nD Cert.MemoryFwdRefIdeal.τ).loc Cert.MemoryFwdRefIdeal.main_arg0)
      ∧ r.2.mem ((c.tc : Thread Cert.MemoryFwdRefIdeal.nD Cert.MemoryFwdRefIdeal.τ).loc Cert.MemoryFwdRefIdeal.main_arg1) = m ((c.tc : Thread Cert.MemoryFwdRefIdeal.nD Cert.MemoryFwdRefIdeal.τ).loc Cert.MemoryFwdRefIdeal.main_arg1))
      ∧ r.2.sem = fun _ => 0)

def quiescent_MemoryFwdRefIdeal_pre_mem_fwd_finite [hMemoryFwdRefIdeal : Cert.MemoryFwdRefIdeal.Facts] [hPre_mem_fwd_finite : Cert.Pre_mem_fwd_finite.Facts] : Prop :=
  ∀ (m : (ℓ : Loc Cert.MemoryFwdRefIdeal.nD Cert.MemoryFwdRefIdeal.τ Cert.MemoryFwdRefIdeal.sig) → Buf (Elt Ideal) ℓ) (g : Dev Cert.MemoryFwdRefIdeal.nD → PrngReg), Pre_MemoryFwdRefIdeal_mem_fwd_finite m →
    θ_run (Cert.MemoryFwdRefIdeal.defs (F := Ideal)) (onTc (τ := Cert.MemoryFwdRefIdeal.τ) (Cert.MemoryFwdRefIdeal.main (F := Ideal))) ⟨m, fun _ => 0, g⟩ (fun r => (∀ c : Dev Cert.MemoryFwdRefIdeal.nD,
      r.2.mem ((c.tc : Thread Cert.MemoryFwdRefIdeal.nD Cert.MemoryFwdRefIdeal.τ).loc Cert.MemoryFwdRefIdeal.main_arg0) = m ((c.tc : Thread Cert.MemoryFwdRefIdeal.nD Cert.MemoryFwdRefIdeal.τ).loc Cert.MemoryFwdRefIdeal.main_arg0)
      ∧ r.2.mem ((c.tc : Thread Cert.MemoryFwdRefIdeal.nD Cert.MemoryFwdRefIdeal.τ).loc Cert.MemoryFwdRefIdeal.main_arg1) = m ((c.tc : Thread Cert.MemoryFwdRefIdeal.nD Cert.MemoryFwdRefIdeal.τ).loc Cert.MemoryFwdRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_BranchProjDx [hBranchProjDx : Cert.BranchProjDx.Facts] : Prop :=
  ∀ (m : (ℓ : Loc Cert.BranchProjDx.nD Cert.BranchProjDx.τ Cert.BranchProjDx.sig) → Buf (Elt Bits) ℓ) (g : Dev Cert.BranchProjDx.nD → PrngReg), Pre_BranchProjDx m →
    θ_run (Cert.BranchProjDx.defs (F := Bits)) (onTc (τ := Cert.BranchProjDx.τ) (Cert.BranchProjDx.main (F := Bits))) ⟨m, fun _ => 0, g⟩ (fun r => (∀ c : Dev Cert.BranchProjDx.nD,
      r.2.mem ((c.tc : Thread Cert.BranchProjDx.nD Cert.BranchProjDx.τ).loc Cert.BranchProjDx.main_arg0) = m ((c.tc : Thread Cert.BranchProjDx.nD Cert.BranchProjDx.τ).loc Cert.BranchProjDx.main_arg0)
      ∧ r.2.mem ((c.tc : Thread Cert.BranchProjDx.nD Cert.BranchProjDx.τ).loc Cert.BranchProjDx.main_arg1) = m ((c.tc : Thread Cert.BranchProjDx.nD Cert.BranchProjDx.τ).loc Cert.BranchProjDx.main_arg1)
      ∧ r.2.mem ((c.tc : Thread Cert.BranchProjDx.nD Cert.BranchProjDx.τ).loc Cert.BranchProjDx.main_arg2) = m ((c.tc : Thread Cert.BranchProjDx.nD Cert.BranchProjDx.τ).loc Cert.BranchProjDx.main_arg2))
      ∧ r.2.sem = fun _ => 0)

def quiescent_BranchProjDxIdeal [hBranchProjDxIdeal : Cert.BranchProjDxIdeal.Facts] : Prop :=
  ∀ (m : (ℓ : Loc Cert.BranchProjDxIdeal.nD Cert.BranchProjDxIdeal.τ Cert.BranchProjDxIdeal.sig) → Buf (Elt Ideal) ℓ) (g : Dev Cert.BranchProjDxIdeal.nD → PrngReg), Pre_BranchProjDxIdeal m →
    θ_run (Cert.BranchProjDxIdeal.defs (F := Ideal)) (onTc (τ := Cert.BranchProjDxIdeal.τ) (Cert.BranchProjDxIdeal.main (F := Ideal))) ⟨m, fun _ => 0, g⟩ (fun r => (∀ c : Dev Cert.BranchProjDxIdeal.nD,
      r.2.mem ((c.tc : Thread Cert.BranchProjDxIdeal.nD Cert.BranchProjDxIdeal.τ).loc Cert.BranchProjDxIdeal.main_arg0) = m ((c.tc : Thread Cert.BranchProjDxIdeal.nD Cert.BranchProjDxIdeal.τ).loc Cert.BranchProjDxIdeal.main_arg0)
      ∧ r.2.mem ((c.tc : Thread Cert.BranchProjDxIdeal.nD Cert.BranchProjDxIdeal.τ).loc Cert.BranchProjDxIdeal.main_arg1) = m ((c.tc : Thread Cert.BranchProjDxIdeal.nD Cert.BranchProjDxIdeal.τ).loc Cert.BranchProjDxIdeal.main_arg1)
      ∧ r.2.mem ((c.tc : Thread Cert.BranchProjDxIdeal.nD Cert.BranchProjDxIdeal.τ).loc Cert.BranchProjDxIdeal.main_arg2) = m ((c.tc : Thread Cert.BranchProjDxIdeal.nD Cert.BranchProjDxIdeal.τ).loc Cert.BranchProjDxIdeal.main_arg2))
      ∧ r.2.sem = fun _ => 0)

def quiescent_BranchProjDxRefIdeal [hBranchProjDxRefIdeal : Cert.BranchProjDxRefIdeal.Facts] : Prop :=
  ∀ (m : (ℓ : Loc Cert.BranchProjDxRefIdeal.nD Cert.BranchProjDxRefIdeal.τ Cert.BranchProjDxRefIdeal.sig) → Buf (Elt Ideal) ℓ) (g : Dev Cert.BranchProjDxRefIdeal.nD → PrngReg), Pre_BranchProjDxRefIdeal m →
    θ_run (Cert.BranchProjDxRefIdeal.defs (F := Ideal)) (onTc (τ := Cert.BranchProjDxRefIdeal.τ) (Cert.BranchProjDxRefIdeal.main (F := Ideal))) ⟨m, fun _ => 0, g⟩ (fun r => (∀ c : Dev Cert.BranchProjDxRefIdeal.nD,
      r.2.mem ((c.tc : Thread Cert.BranchProjDxRefIdeal.nD Cert.BranchProjDxRefIdeal.τ).loc Cert.BranchProjDxRefIdeal.main_arg0) = m ((c.tc : Thread Cert.BranchProjDxRefIdeal.nD Cert.BranchProjDxRefIdeal.τ).loc Cert.BranchProjDxRefIdeal.main_arg0)
      ∧ r.2.mem ((c.tc : Thread Cert.BranchProjDxRefIdeal.nD Cert.BranchProjDxRefIdeal.τ).loc Cert.BranchProjDxRefIdeal.main_arg1) = m ((c.tc : Thread Cert.BranchProjDxRefIdeal.nD Cert.BranchProjDxRefIdeal.τ).loc Cert.BranchProjDxRefIdeal.main_arg1)
      ∧ r.2.mem ((c.tc : Thread Cert.BranchProjDxRefIdeal.nD Cert.BranchProjDxRefIdeal.τ).loc Cert.BranchProjDxRefIdeal.main_arg2) = m ((c.tc : Thread Cert.BranchProjDxRefIdeal.nD Cert.BranchProjDxRefIdeal.τ).loc Cert.BranchProjDxRefIdeal.main_arg2))
      ∧ r.2.sem = fun _ => 0)

def quiescent_BranchProjDw [hBranchProjDw : Cert.BranchProjDw.Facts] : Prop :=
  ∀ (m : (ℓ : Loc Cert.BranchProjDw.nD Cert.BranchProjDw.τ Cert.BranchProjDw.sig) → Buf (Elt Bits) ℓ) (g : Dev Cert.BranchProjDw.nD → PrngReg), Pre_BranchProjDw m →
    θ_run (Cert.BranchProjDw.defs (F := Bits)) (onTc (τ := Cert.BranchProjDw.τ) (Cert.BranchProjDw.main (F := Bits))) ⟨m, fun _ => 0, g⟩ (fun r => (∀ c : Dev Cert.BranchProjDw.nD,
      r.2.mem ((c.tc : Thread Cert.BranchProjDw.nD Cert.BranchProjDw.τ).loc Cert.BranchProjDw.main_arg0) = m ((c.tc : Thread Cert.BranchProjDw.nD Cert.BranchProjDw.τ).loc Cert.BranchProjDw.main_arg0)
      ∧ r.2.mem ((c.tc : Thread Cert.BranchProjDw.nD Cert.BranchProjDw.τ).loc Cert.BranchProjDw.main_arg1) = m ((c.tc : Thread Cert.BranchProjDw.nD Cert.BranchProjDw.τ).loc Cert.BranchProjDw.main_arg1)
      ∧ r.2.mem ((c.tc : Thread Cert.BranchProjDw.nD Cert.BranchProjDw.τ).loc Cert.BranchProjDw.main_arg2) = m ((c.tc : Thread Cert.BranchProjDw.nD Cert.BranchProjDw.τ).loc Cert.BranchProjDw.main_arg2))
      ∧ r.2.sem = fun _ => 0)

def quiescent_BranchProjDwIdeal [hBranchProjDwIdeal : Cert.BranchProjDwIdeal.Facts] : Prop :=
  ∀ (m : (ℓ : Loc Cert.BranchProjDwIdeal.nD Cert.BranchProjDwIdeal.τ Cert.BranchProjDwIdeal.sig) → Buf (Elt Ideal) ℓ) (g : Dev Cert.BranchProjDwIdeal.nD → PrngReg), Pre_BranchProjDwIdeal m →
    θ_run (Cert.BranchProjDwIdeal.defs (F := Ideal)) (onTc (τ := Cert.BranchProjDwIdeal.τ) (Cert.BranchProjDwIdeal.main (F := Ideal))) ⟨m, fun _ => 0, g⟩ (fun r => (∀ c : Dev Cert.BranchProjDwIdeal.nD,
      r.2.mem ((c.tc : Thread Cert.BranchProjDwIdeal.nD Cert.BranchProjDwIdeal.τ).loc Cert.BranchProjDwIdeal.main_arg0) = m ((c.tc : Thread Cert.BranchProjDwIdeal.nD Cert.BranchProjDwIdeal.τ).loc Cert.BranchProjDwIdeal.main_arg0)
      ∧ r.2.mem ((c.tc : Thread Cert.BranchProjDwIdeal.nD Cert.BranchProjDwIdeal.τ).loc Cert.BranchProjDwIdeal.main_arg1) = m ((c.tc : Thread Cert.BranchProjDwIdeal.nD Cert.BranchProjDwIdeal.τ).loc Cert.BranchProjDwIdeal.main_arg1)
      ∧ r.2.mem ((c.tc : Thread Cert.BranchProjDwIdeal.nD Cert.BranchProjDwIdeal.τ).loc Cert.BranchProjDwIdeal.main_arg2) = m ((c.tc : Thread Cert.BranchProjDwIdeal.nD Cert.BranchProjDwIdeal.τ).loc Cert.BranchProjDwIdeal.main_arg2))
      ∧ r.2.sem = fun _ => 0)

def quiescent_BranchProjDwRefIdeal [hBranchProjDwRefIdeal : Cert.BranchProjDwRefIdeal.Facts] : Prop :=
  ∀ (m : (ℓ : Loc Cert.BranchProjDwRefIdeal.nD Cert.BranchProjDwRefIdeal.τ Cert.BranchProjDwRefIdeal.sig) → Buf (Elt Ideal) ℓ) (g : Dev Cert.BranchProjDwRefIdeal.nD → PrngReg), Pre_BranchProjDwRefIdeal m →
    θ_run (Cert.BranchProjDwRefIdeal.defs (F := Ideal)) (onTc (τ := Cert.BranchProjDwRefIdeal.τ) (Cert.BranchProjDwRefIdeal.main (F := Ideal))) ⟨m, fun _ => 0, g⟩ (fun r => (∀ c : Dev Cert.BranchProjDwRefIdeal.nD,
      r.2.mem ((c.tc : Thread Cert.BranchProjDwRefIdeal.nD Cert.BranchProjDwRefIdeal.τ).loc Cert.BranchProjDwRefIdeal.main_arg0) = m ((c.tc : Thread Cert.BranchProjDwRefIdeal.nD Cert.BranchProjDwRefIdeal.τ).loc Cert.BranchProjDwRefIdeal.main_arg0)
      ∧ r.2.mem ((c.tc : Thread Cert.BranchProjDwRefIdeal.nD Cert.BranchProjDwRefIdeal.τ).loc Cert.BranchProjDwRefIdeal.main_arg1) = m ((c.tc : Thread Cert.BranchProjDwRefIdeal.nD Cert.BranchProjDwRefIdeal.τ).loc Cert.BranchProjDwRefIdeal.main_arg1)
      ∧ r.2.mem ((c.tc : Thread Cert.BranchProjDwRefIdeal.nD Cert.BranchProjDwRefIdeal.τ).loc Cert.BranchProjDwRefIdeal.main_arg2) = m ((c.tc : Thread Cert.BranchProjDwRefIdeal.nD Cert.BranchProjDwRefIdeal.τ).loc Cert.BranchProjDwRefIdeal.main_arg2))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1)
      ∧ r.2.mem ((c.tc : Thread Cert.OutProjDx.nD Cert.OutProjDx.τ).loc Cert.OutProjDx.main_arg2) = m ((c.tc : Thread Cert.OutProjDx.nD Cert.OutProjDx.τ).loc Cert.OutProjDx.main_arg2))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
      ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1)
      ∧ r.2.mem ((c.tc : Thread Cert.OutProjDxRefIdeal.nD Cert.OutProjDxRefIdeal.τ).loc Cert.OutProjDxRefIdeal.main_arg2) = m ((c.tc : Thread Cert.OutProjDxRefIdeal.nD Cert.OutProjDxRefIdeal.τ).loc Cert.OutProjDxRefIdeal.main_arg2))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1)
      ∧ r.2.mem ((c.tc : Thread Cert.OutProjDw.nD Cert.OutProjDw.τ).loc Cert.OutProjDw.main_arg2) = m ((c.tc : Thread Cert.OutProjDw.nD Cert.OutProjDw.τ).loc Cert.OutProjDw.main_arg2))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1)
      ∧ r.2.mem ((c.tc : Thread Cert.OutProjDwIdeal.nD Cert.OutProjDwIdeal.τ).loc Cert.OutProjDwIdeal.main_arg2) = m ((c.tc : Thread Cert.OutProjDwIdeal.nD Cert.OutProjDwIdeal.τ).loc Cert.OutProjDwIdeal.main_arg2))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1)
      ∧ r.2.mem ((c.tc : Thread Cert.OutProjDwRefIdeal.nD Cert.OutProjDwRefIdeal.τ).loc Cert.OutProjDwRefIdeal.main_arg2) = m ((c.tc : Thread Cert.OutProjDwRefIdeal.nD Cert.OutProjDwRefIdeal.τ).loc Cert.OutProjDwRefIdeal.main_arg2))
      ∧ r.2.sem = fun _ => 0)

def quiescent_MemQDx [hMemQDx : Cert.MemQDx.Facts] : Prop :=
  ∀ (m : (ℓ : Loc Cert.MemQDx.nD Cert.MemQDx.τ Cert.MemQDx.sig) → Buf (Elt Bits) ℓ) (g : Dev Cert.MemQDx.nD → PrngReg), Pre_MemQDx m →
    θ_run (Cert.MemQDx.defs (F := Bits)) (onTc (τ := Cert.MemQDx.τ) (Cert.MemQDx.main (F := Bits))) ⟨m, fun _ => 0, g⟩ (fun r => (∀ c : Dev Cert.MemQDx.nD,
      r.2.mem ((c.tc : Thread Cert.MemQDx.nD Cert.MemQDx.τ).loc Cert.MemQDx.main_arg0) = m ((c.tc : Thread Cert.MemQDx.nD Cert.MemQDx.τ).loc Cert.MemQDx.main_arg0)
      ∧ r.2.mem ((c.tc : Thread Cert.MemQDx.nD Cert.MemQDx.τ).loc Cert.MemQDx.main_arg1) = m ((c.tc : Thread Cert.MemQDx.nD Cert.MemQDx.τ).loc Cert.MemQDx.main_arg1)
      ∧ r.2.mem ((c.tc : Thread Cert.MemQDx.nD Cert.MemQDx.τ).loc Cert.MemQDx.main_arg2) = m ((c.tc : Thread Cert.MemQDx.nD Cert.MemQDx.τ).loc Cert.MemQDx.main_arg2))
      ∧ r.2.sem = fun _ => 0)

def quiescent_MemQDxIdeal [hMemQDxIdeal : Cert.MemQDxIdeal.Facts] : Prop :=
  ∀ (m : (ℓ : Loc Cert.MemQDxIdeal.nD Cert.MemQDxIdeal.τ Cert.MemQDxIdeal.sig) → Buf (Elt Ideal) ℓ) (g : Dev Cert.MemQDxIdeal.nD → PrngReg), Pre_MemQDxIdeal m →
    θ_run (Cert.MemQDxIdeal.defs (F := Ideal)) (onTc (τ := Cert.MemQDxIdeal.τ) (Cert.MemQDxIdeal.main (F := Ideal))) ⟨m, fun _ => 0, g⟩ (fun r => (∀ c : Dev Cert.MemQDxIdeal.nD,
      r.2.mem ((c.tc : Thread Cert.MemQDxIdeal.nD Cert.MemQDxIdeal.τ).loc Cert.MemQDxIdeal.main_arg0) = m ((c.tc : Thread Cert.MemQDxIdeal.nD Cert.MemQDxIdeal.τ).loc Cert.MemQDxIdeal.main_arg0)
      ∧ r.2.mem ((c.tc : Thread Cert.MemQDxIdeal.nD Cert.MemQDxIdeal.τ).loc Cert.MemQDxIdeal.main_arg1) = m ((c.tc : Thread Cert.MemQDxIdeal.nD Cert.MemQDxIdeal.τ).loc Cert.MemQDxIdeal.main_arg1)
      ∧ r.2.mem ((c.tc : Thread Cert.MemQDxIdeal.nD Cert.MemQDxIdeal.τ).loc Cert.MemQDxIdeal.main_arg2) = m ((c.tc : Thread Cert.MemQDxIdeal.nD Cert.MemQDxIdeal.τ).loc Cert.MemQDxIdeal.main_arg2))
      ∧ r.2.sem = fun _ => 0)

def quiescent_MemQDxRefIdeal [hMemQDxRefIdeal : Cert.MemQDxRefIdeal.Facts] : Prop :=
  ∀ (m : (ℓ : Loc Cert.MemQDxRefIdeal.nD Cert.MemQDxRefIdeal.τ Cert.MemQDxRefIdeal.sig) → Buf (Elt Ideal) ℓ) (g : Dev Cert.MemQDxRefIdeal.nD → PrngReg), Pre_MemQDxRefIdeal m →
    θ_run (Cert.MemQDxRefIdeal.defs (F := Ideal)) (onTc (τ := Cert.MemQDxRefIdeal.τ) (Cert.MemQDxRefIdeal.main (F := Ideal))) ⟨m, fun _ => 0, g⟩ (fun r => (∀ c : Dev Cert.MemQDxRefIdeal.nD,
      r.2.mem ((c.tc : Thread Cert.MemQDxRefIdeal.nD Cert.MemQDxRefIdeal.τ).loc Cert.MemQDxRefIdeal.main_arg0) = m ((c.tc : Thread Cert.MemQDxRefIdeal.nD Cert.MemQDxRefIdeal.τ).loc Cert.MemQDxRefIdeal.main_arg0)
      ∧ r.2.mem ((c.tc : Thread Cert.MemQDxRefIdeal.nD Cert.MemQDxRefIdeal.τ).loc Cert.MemQDxRefIdeal.main_arg1) = m ((c.tc : Thread Cert.MemQDxRefIdeal.nD Cert.MemQDxRefIdeal.τ).loc Cert.MemQDxRefIdeal.main_arg1)
      ∧ r.2.mem ((c.tc : Thread Cert.MemQDxRefIdeal.nD Cert.MemQDxRefIdeal.τ).loc Cert.MemQDxRefIdeal.main_arg2) = m ((c.tc : Thread Cert.MemQDxRefIdeal.nD Cert.MemQDxRefIdeal.τ).loc Cert.MemQDxRefIdeal.main_arg2))
      ∧ r.2.sem = fun _ => 0)

def quiescent_MemQDw [hMemQDw : Cert.MemQDw.Facts] : Prop :=
  ∀ (m : (ℓ : Loc Cert.MemQDw.nD Cert.MemQDw.τ Cert.MemQDw.sig) → Buf (Elt Bits) ℓ) (g : Dev Cert.MemQDw.nD → PrngReg), Pre_MemQDw m →
    θ_run (Cert.MemQDw.defs (F := Bits)) (onTc (τ := Cert.MemQDw.τ) (Cert.MemQDw.main (F := Bits))) ⟨m, fun _ => 0, g⟩ (fun r => (∀ c : Dev Cert.MemQDw.nD,
      r.2.mem ((c.tc : Thread Cert.MemQDw.nD Cert.MemQDw.τ).loc Cert.MemQDw.main_arg0) = m ((c.tc : Thread Cert.MemQDw.nD Cert.MemQDw.τ).loc Cert.MemQDw.main_arg0)
      ∧ r.2.mem ((c.tc : Thread Cert.MemQDw.nD Cert.MemQDw.τ).loc Cert.MemQDw.main_arg1) = m ((c.tc : Thread Cert.MemQDw.nD Cert.MemQDw.τ).loc Cert.MemQDw.main_arg1)
      ∧ r.2.mem ((c.tc : Thread Cert.MemQDw.nD Cert.MemQDw.τ).loc Cert.MemQDw.main_arg2) = m ((c.tc : Thread Cert.MemQDw.nD Cert.MemQDw.τ).loc Cert.MemQDw.main_arg2))
      ∧ r.2.sem = fun _ => 0)

def quiescent_MemQDwIdeal [hMemQDwIdeal : Cert.MemQDwIdeal.Facts] : Prop :=
  ∀ (m : (ℓ : Loc Cert.MemQDwIdeal.nD Cert.MemQDwIdeal.τ Cert.MemQDwIdeal.sig) → Buf (Elt Ideal) ℓ) (g : Dev Cert.MemQDwIdeal.nD → PrngReg), Pre_MemQDwIdeal m →
    θ_run (Cert.MemQDwIdeal.defs (F := Ideal)) (onTc (τ := Cert.MemQDwIdeal.τ) (Cert.MemQDwIdeal.main (F := Ideal))) ⟨m, fun _ => 0, g⟩ (fun r => (∀ c : Dev Cert.MemQDwIdeal.nD,
      r.2.mem ((c.tc : Thread Cert.MemQDwIdeal.nD Cert.MemQDwIdeal.τ).loc Cert.MemQDwIdeal.main_arg0) = m ((c.tc : Thread Cert.MemQDwIdeal.nD Cert.MemQDwIdeal.τ).loc Cert.MemQDwIdeal.main_arg0)
      ∧ r.2.mem ((c.tc : Thread Cert.MemQDwIdeal.nD Cert.MemQDwIdeal.τ).loc Cert.MemQDwIdeal.main_arg1) = m ((c.tc : Thread Cert.MemQDwIdeal.nD Cert.MemQDwIdeal.τ).loc Cert.MemQDwIdeal.main_arg1)
      ∧ r.2.mem ((c.tc : Thread Cert.MemQDwIdeal.nD Cert.MemQDwIdeal.τ).loc Cert.MemQDwIdeal.main_arg2) = m ((c.tc : Thread Cert.MemQDwIdeal.nD Cert.MemQDwIdeal.τ).loc Cert.MemQDwIdeal.main_arg2))
      ∧ r.2.sem = fun _ => 0)

def quiescent_MemQDwRefIdeal [hMemQDwRefIdeal : Cert.MemQDwRefIdeal.Facts] : Prop :=
  ∀ (m : (ℓ : Loc Cert.MemQDwRefIdeal.nD Cert.MemQDwRefIdeal.τ Cert.MemQDwRefIdeal.sig) → Buf (Elt Ideal) ℓ) (g : Dev Cert.MemQDwRefIdeal.nD → PrngReg), Pre_MemQDwRefIdeal m →
    θ_run (Cert.MemQDwRefIdeal.defs (F := Ideal)) (onTc (τ := Cert.MemQDwRefIdeal.τ) (Cert.MemQDwRefIdeal.main (F := Ideal))) ⟨m, fun _ => 0, g⟩ (fun r => (∀ c : Dev Cert.MemQDwRefIdeal.nD,
      r.2.mem ((c.tc : Thread Cert.MemQDwRefIdeal.nD Cert.MemQDwRefIdeal.τ).loc Cert.MemQDwRefIdeal.main_arg0) = m ((c.tc : Thread Cert.MemQDwRefIdeal.nD Cert.MemQDwRefIdeal.τ).loc Cert.MemQDwRefIdeal.main_arg0)
      ∧ r.2.mem ((c.tc : Thread Cert.MemQDwRefIdeal.nD Cert.MemQDwRefIdeal.τ).loc Cert.MemQDwRefIdeal.main_arg1) = m ((c.tc : Thread Cert.MemQDwRefIdeal.nD Cert.MemQDwRefIdeal.τ).loc Cert.MemQDwRefIdeal.main_arg1)
      ∧ r.2.mem ((c.tc : Thread Cert.MemQDwRefIdeal.nD Cert.MemQDwRefIdeal.τ).loc Cert.MemQDwRefIdeal.main_arg2) = m ((c.tc : Thread Cert.MemQDwRefIdeal.nD Cert.MemQDwRefIdeal.τ).loc Cert.MemQDwRefIdeal.main_arg2))
      ∧ r.2.sem = fun _ => 0)

def quiescent_MemODx [hMemODx : Cert.MemODx.Facts] : Prop :=
  ∀ (m : (ℓ : Loc Cert.MemODx.nD Cert.MemODx.τ Cert.MemODx.sig) → Buf (Elt Bits) ℓ) (g : Dev Cert.MemODx.nD → PrngReg), Pre_MemODx m →
    θ_run (Cert.MemODx.defs (F := Bits)) (onTc (τ := Cert.MemODx.τ) (Cert.MemODx.main (F := Bits))) ⟨m, fun _ => 0, g⟩ (fun r => (∀ c : Dev Cert.MemODx.nD,
      r.2.mem ((c.tc : Thread Cert.MemODx.nD Cert.MemODx.τ).loc Cert.MemODx.main_arg0) = m ((c.tc : Thread Cert.MemODx.nD Cert.MemODx.τ).loc Cert.MemODx.main_arg0)
      ∧ r.2.mem ((c.tc : Thread Cert.MemODx.nD Cert.MemODx.τ).loc Cert.MemODx.main_arg1) = m ((c.tc : Thread Cert.MemODx.nD Cert.MemODx.τ).loc Cert.MemODx.main_arg1)
      ∧ r.2.mem ((c.tc : Thread Cert.MemODx.nD Cert.MemODx.τ).loc Cert.MemODx.main_arg2) = m ((c.tc : Thread Cert.MemODx.nD Cert.MemODx.τ).loc Cert.MemODx.main_arg2))
      ∧ r.2.sem = fun _ => 0)

def quiescent_MemODxIdeal [hMemODxIdeal : Cert.MemODxIdeal.Facts] : Prop :=
  ∀ (m : (ℓ : Loc Cert.MemODxIdeal.nD Cert.MemODxIdeal.τ Cert.MemODxIdeal.sig) → Buf (Elt Ideal) ℓ) (g : Dev Cert.MemODxIdeal.nD → PrngReg), Pre_MemODxIdeal m →
    θ_run (Cert.MemODxIdeal.defs (F := Ideal)) (onTc (τ := Cert.MemODxIdeal.τ) (Cert.MemODxIdeal.main (F := Ideal))) ⟨m, fun _ => 0, g⟩ (fun r => (∀ c : Dev Cert.MemODxIdeal.nD,
      r.2.mem ((c.tc : Thread Cert.MemODxIdeal.nD Cert.MemODxIdeal.τ).loc Cert.MemODxIdeal.main_arg0) = m ((c.tc : Thread Cert.MemODxIdeal.nD Cert.MemODxIdeal.τ).loc Cert.MemODxIdeal.main_arg0)
      ∧ r.2.mem ((c.tc : Thread Cert.MemODxIdeal.nD Cert.MemODxIdeal.τ).loc Cert.MemODxIdeal.main_arg1) = m ((c.tc : Thread Cert.MemODxIdeal.nD Cert.MemODxIdeal.τ).loc Cert.MemODxIdeal.main_arg1)
      ∧ r.2.mem ((c.tc : Thread Cert.MemODxIdeal.nD Cert.MemODxIdeal.τ).loc Cert.MemODxIdeal.main_arg2) = m ((c.tc : Thread Cert.MemODxIdeal.nD Cert.MemODxIdeal.τ).loc Cert.MemODxIdeal.main_arg2))
      ∧ r.2.sem = fun _ => 0)

def quiescent_MemODxRefIdeal [hMemODxRefIdeal : Cert.MemODxRefIdeal.Facts] : Prop :=
  ∀ (m : (ℓ : Loc Cert.MemODxRefIdeal.nD Cert.MemODxRefIdeal.τ Cert.MemODxRefIdeal.sig) → Buf (Elt Ideal) ℓ) (g : Dev Cert.MemODxRefIdeal.nD → PrngReg), Pre_MemODxRefIdeal m →
    θ_run (Cert.MemODxRefIdeal.defs (F := Ideal)) (onTc (τ := Cert.MemODxRefIdeal.τ) (Cert.MemODxRefIdeal.main (F := Ideal))) ⟨m, fun _ => 0, g⟩ (fun r => (∀ c : Dev Cert.MemODxRefIdeal.nD,
      r.2.mem ((c.tc : Thread Cert.MemODxRefIdeal.nD Cert.MemODxRefIdeal.τ).loc Cert.MemODxRefIdeal.main_arg0) = m ((c.tc : Thread Cert.MemODxRefIdeal.nD Cert.MemODxRefIdeal.τ).loc Cert.MemODxRefIdeal.main_arg0)
      ∧ r.2.mem ((c.tc : Thread Cert.MemODxRefIdeal.nD Cert.MemODxRefIdeal.τ).loc Cert.MemODxRefIdeal.main_arg1) = m ((c.tc : Thread Cert.MemODxRefIdeal.nD Cert.MemODxRefIdeal.τ).loc Cert.MemODxRefIdeal.main_arg1)
      ∧ r.2.mem ((c.tc : Thread Cert.MemODxRefIdeal.nD Cert.MemODxRefIdeal.τ).loc Cert.MemODxRefIdeal.main_arg2) = m ((c.tc : Thread Cert.MemODxRefIdeal.nD Cert.MemODxRefIdeal.τ).loc Cert.MemODxRefIdeal.main_arg2))
      ∧ r.2.sem = fun _ => 0)

def quiescent_MemODw [hMemODw : Cert.MemODw.Facts] : Prop :=
  ∀ (m : (ℓ : Loc Cert.MemODw.nD Cert.MemODw.τ Cert.MemODw.sig) → Buf (Elt Bits) ℓ) (g : Dev Cert.MemODw.nD → PrngReg), Pre_MemODw m →
    θ_run (Cert.MemODw.defs (F := Bits)) (onTc (τ := Cert.MemODw.τ) (Cert.MemODw.main (F := Bits))) ⟨m, fun _ => 0, g⟩ (fun r => (∀ c : Dev Cert.MemODw.nD,
      r.2.mem ((c.tc : Thread Cert.MemODw.nD Cert.MemODw.τ).loc Cert.MemODw.main_arg0) = m ((c.tc : Thread Cert.MemODw.nD Cert.MemODw.τ).loc Cert.MemODw.main_arg0)
      ∧ r.2.mem ((c.tc : Thread Cert.MemODw.nD Cert.MemODw.τ).loc Cert.MemODw.main_arg1) = m ((c.tc : Thread Cert.MemODw.nD Cert.MemODw.τ).loc Cert.MemODw.main_arg1)
      ∧ r.2.mem ((c.tc : Thread Cert.MemODw.nD Cert.MemODw.τ).loc Cert.MemODw.main_arg2) = m ((c.tc : Thread Cert.MemODw.nD Cert.MemODw.τ).loc Cert.MemODw.main_arg2))
      ∧ r.2.sem = fun _ => 0)

def quiescent_MemODwIdeal [hMemODwIdeal : Cert.MemODwIdeal.Facts] : Prop :=
  ∀ (m : (ℓ : Loc Cert.MemODwIdeal.nD Cert.MemODwIdeal.τ Cert.MemODwIdeal.sig) → Buf (Elt Ideal) ℓ) (g : Dev Cert.MemODwIdeal.nD → PrngReg), Pre_MemODwIdeal m →
    θ_run (Cert.MemODwIdeal.defs (F := Ideal)) (onTc (τ := Cert.MemODwIdeal.τ) (Cert.MemODwIdeal.main (F := Ideal))) ⟨m, fun _ => 0, g⟩ (fun r => (∀ c : Dev Cert.MemODwIdeal.nD,
      r.2.mem ((c.tc : Thread Cert.MemODwIdeal.nD Cert.MemODwIdeal.τ).loc Cert.MemODwIdeal.main_arg0) = m ((c.tc : Thread Cert.MemODwIdeal.nD Cert.MemODwIdeal.τ).loc Cert.MemODwIdeal.main_arg0)
      ∧ r.2.mem ((c.tc : Thread Cert.MemODwIdeal.nD Cert.MemODwIdeal.τ).loc Cert.MemODwIdeal.main_arg1) = m ((c.tc : Thread Cert.MemODwIdeal.nD Cert.MemODwIdeal.τ).loc Cert.MemODwIdeal.main_arg1)
      ∧ r.2.mem ((c.tc : Thread Cert.MemODwIdeal.nD Cert.MemODwIdeal.τ).loc Cert.MemODwIdeal.main_arg2) = m ((c.tc : Thread Cert.MemODwIdeal.nD Cert.MemODwIdeal.τ).loc Cert.MemODwIdeal.main_arg2))
      ∧ r.2.sem = fun _ => 0)

def quiescent_MemODwRefIdeal [hMemODwRefIdeal : Cert.MemODwRefIdeal.Facts] : Prop :=
  ∀ (m : (ℓ : Loc Cert.MemODwRefIdeal.nD Cert.MemODwRefIdeal.τ Cert.MemODwRefIdeal.sig) → Buf (Elt Ideal) ℓ) (g : Dev Cert.MemODwRefIdeal.nD → PrngReg), Pre_MemODwRefIdeal m →
    θ_run (Cert.MemODwRefIdeal.defs (F := Ideal)) (onTc (τ := Cert.MemODwRefIdeal.τ) (Cert.MemODwRefIdeal.main (F := Ideal))) ⟨m, fun _ => 0, g⟩ (fun r => (∀ c : Dev Cert.MemODwRefIdeal.nD,
      r.2.mem ((c.tc : Thread Cert.MemODwRefIdeal.nD Cert.MemODwRefIdeal.τ).loc Cert.MemODwRefIdeal.main_arg0) = m ((c.tc : Thread Cert.MemODwRefIdeal.nD Cert.MemODwRefIdeal.τ).loc Cert.MemODwRefIdeal.main_arg0)
      ∧ r.2.mem ((c.tc : Thread Cert.MemODwRefIdeal.nD Cert.MemODwRefIdeal.τ).loc Cert.MemODwRefIdeal.main_arg1) = m ((c.tc : Thread Cert.MemODwRefIdeal.nD Cert.MemODwRefIdeal.τ).loc Cert.MemODwRefIdeal.main_arg1)
      ∧ r.2.mem ((c.tc : Thread Cert.MemODwRefIdeal.nD Cert.MemODwRefIdeal.τ).loc Cert.MemODwRefIdeal.main_arg2) = m ((c.tc : Thread Cert.MemODwRefIdeal.nD Cert.MemODwRefIdeal.τ).loc Cert.MemODwRefIdeal.main_arg2))
      ∧ r.2.sem = fun _ => 0)

def quiescent_MemKvDx [hMemKvDx : Cert.MemKvDx.Facts] : Prop :=
  ∀ (m : (ℓ : Loc Cert.MemKvDx.nD Cert.MemKvDx.τ Cert.MemKvDx.sig) → Buf (Elt Bits) ℓ) (g : Dev Cert.MemKvDx.nD → PrngReg), Pre_MemKvDx m →
    θ_run (Cert.MemKvDx.defs (F := Bits)) (onTc (τ := Cert.MemKvDx.τ) (Cert.MemKvDx.main (F := Bits))) ⟨m, fun _ => 0, g⟩ (fun r => (∀ c : Dev Cert.MemKvDx.nD,
      r.2.mem ((c.tc : Thread Cert.MemKvDx.nD Cert.MemKvDx.τ).loc Cert.MemKvDx.main_arg0) = m ((c.tc : Thread Cert.MemKvDx.nD Cert.MemKvDx.τ).loc Cert.MemKvDx.main_arg0)
      ∧ r.2.mem ((c.tc : Thread Cert.MemKvDx.nD Cert.MemKvDx.τ).loc Cert.MemKvDx.main_arg1) = m ((c.tc : Thread Cert.MemKvDx.nD Cert.MemKvDx.τ).loc Cert.MemKvDx.main_arg1)
      ∧ r.2.mem ((c.tc : Thread Cert.MemKvDx.nD Cert.MemKvDx.τ).loc Cert.MemKvDx.main_arg2) = m ((c.tc : Thread Cert.MemKvDx.nD Cert.MemKvDx.τ).loc Cert.MemKvDx.main_arg2))
      ∧ r.2.sem = fun _ => 0)

def quiescent_MemKvDxIdeal [hMemKvDxIdeal : Cert.MemKvDxIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg), Pre_MemKvDxIdeal m →
    θ_run (Cert.MemKvDxIdeal.defs (F := Ideal)) (onTc (τ := Cert.MemKvDxIdeal.τ) (Cert.MemKvDxIdeal.main (F := Ideal))) ⟨m, fun _ => 0, g⟩ (fun r => (∀ c : Dev Cert.MemKvDxIdeal.nD,
      r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
      ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1)
      ∧ r.2.mem ((c.tc : Thread Cert.MemKvDxIdeal.nD Cert.MemKvDxIdeal.τ).loc Cert.MemKvDxIdeal.main_arg2) = m ((c.tc : Thread Cert.MemKvDxIdeal.nD Cert.MemKvDxIdeal.τ).loc Cert.MemKvDxIdeal.main_arg2))
      ∧ r.2.sem = fun _ => 0)

def quiescent_MemKvDxRefIdeal [hMemKvDxRefIdeal : Cert.MemKvDxRefIdeal.Facts] : Prop :=
  ∀ (m : (ℓ : Loc Cert.MemKvDxRefIdeal.nD Cert.MemKvDxRefIdeal.τ Cert.MemKvDxRefIdeal.sig) → Buf (Elt Ideal) ℓ) (g : Dev Cert.MemKvDxRefIdeal.nD → PrngReg), Pre_MemKvDxRefIdeal m →
    θ_run (Cert.MemKvDxRefIdeal.defs (F := Ideal)) (onTc (τ := Cert.MemKvDxRefIdeal.τ) (Cert.MemKvDxRefIdeal.main (F := Ideal))) ⟨m, fun _ => 0, g⟩ (fun r => (∀ c : Dev Cert.MemKvDxRefIdeal.nD,
      r.2.mem ((c.tc : Thread Cert.MemKvDxRefIdeal.nD Cert.MemKvDxRefIdeal.τ).loc Cert.MemKvDxRefIdeal.main_arg0) = m ((c.tc : Thread Cert.MemKvDxRefIdeal.nD Cert.MemKvDxRefIdeal.τ).loc Cert.MemKvDxRefIdeal.main_arg0)
      ∧ r.2.mem ((c.tc : Thread Cert.MemKvDxRefIdeal.nD Cert.MemKvDxRefIdeal.τ).loc Cert.MemKvDxRefIdeal.main_arg1) = m ((c.tc : Thread Cert.MemKvDxRefIdeal.nD Cert.MemKvDxRefIdeal.τ).loc Cert.MemKvDxRefIdeal.main_arg1)
      ∧ r.2.mem ((c.tc : Thread Cert.MemKvDxRefIdeal.nD Cert.MemKvDxRefIdeal.τ).loc Cert.MemKvDxRefIdeal.main_arg2) = m ((c.tc : Thread Cert.MemKvDxRefIdeal.nD Cert.MemKvDxRefIdeal.τ).loc Cert.MemKvDxRefIdeal.main_arg2))
      ∧ r.2.sem = fun _ => 0)

def quiescent_MemKvDw [hMemKvDw : Cert.MemKvDw.Facts] : Prop :=
  ∀ (m : (ℓ : Loc Cert.MemKvDw.nD Cert.MemKvDw.τ Cert.MemKvDw.sig) → Buf (Elt Bits) ℓ) (g : Dev Cert.MemKvDw.nD → PrngReg), Pre_MemKvDw m →
    θ_run (Cert.MemKvDw.defs (F := Bits)) (onTc (τ := Cert.MemKvDw.τ) (Cert.MemKvDw.main (F := Bits))) ⟨m, fun _ => 0, g⟩ (fun r => (∀ c : Dev Cert.MemKvDw.nD,
      r.2.mem ((c.tc : Thread Cert.MemKvDw.nD Cert.MemKvDw.τ).loc Cert.MemKvDw.main_arg0) = m ((c.tc : Thread Cert.MemKvDw.nD Cert.MemKvDw.τ).loc Cert.MemKvDw.main_arg0)
      ∧ r.2.mem ((c.tc : Thread Cert.MemKvDw.nD Cert.MemKvDw.τ).loc Cert.MemKvDw.main_arg1) = m ((c.tc : Thread Cert.MemKvDw.nD Cert.MemKvDw.τ).loc Cert.MemKvDw.main_arg1)
      ∧ r.2.mem ((c.tc : Thread Cert.MemKvDw.nD Cert.MemKvDw.τ).loc Cert.MemKvDw.main_arg2) = m ((c.tc : Thread Cert.MemKvDw.nD Cert.MemKvDw.τ).loc Cert.MemKvDw.main_arg2))
      ∧ r.2.sem = fun _ => 0)

def quiescent_MemKvDwIdeal [hMemKvDwIdeal : Cert.MemKvDwIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg), Pre_MemKvDwIdeal m →
    θ_run (Cert.MemKvDwIdeal.defs (F := Ideal)) (onTc (τ := Cert.MemKvDwIdeal.τ) (Cert.MemKvDwIdeal.main (F := Ideal))) ⟨m, fun _ => 0, g⟩ (fun r => (∀ c : Dev Cert.MemKvDwIdeal.nD,
      r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
      ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1)
      ∧ r.2.mem ((c.tc : Thread Cert.MemKvDwIdeal.nD Cert.MemKvDwIdeal.τ).loc Cert.MemKvDwIdeal.main_arg2) = m ((c.tc : Thread Cert.MemKvDwIdeal.nD Cert.MemKvDwIdeal.τ).loc Cert.MemKvDwIdeal.main_arg2))
      ∧ r.2.sem = fun _ => 0)

def quiescent_MemKvDwRefIdeal [hMemKvDwRefIdeal : Cert.MemKvDwRefIdeal.Facts] : Prop :=
  ∀ (m : (ℓ : Loc Cert.MemKvDwRefIdeal.nD Cert.MemKvDwRefIdeal.τ Cert.MemKvDwRefIdeal.sig) → Buf (Elt Ideal) ℓ) (g : Dev Cert.MemKvDwRefIdeal.nD → PrngReg), Pre_MemKvDwRefIdeal m →
    θ_run (Cert.MemKvDwRefIdeal.defs (F := Ideal)) (onTc (τ := Cert.MemKvDwRefIdeal.τ) (Cert.MemKvDwRefIdeal.main (F := Ideal))) ⟨m, fun _ => 0, g⟩ (fun r => (∀ c : Dev Cert.MemKvDwRefIdeal.nD,
      r.2.mem ((c.tc : Thread Cert.MemKvDwRefIdeal.nD Cert.MemKvDwRefIdeal.τ).loc Cert.MemKvDwRefIdeal.main_arg0) = m ((c.tc : Thread Cert.MemKvDwRefIdeal.nD Cert.MemKvDwRefIdeal.τ).loc Cert.MemKvDwRefIdeal.main_arg0)
      ∧ r.2.mem ((c.tc : Thread Cert.MemKvDwRefIdeal.nD Cert.MemKvDwRefIdeal.τ).loc Cert.MemKvDwRefIdeal.main_arg1) = m ((c.tc : Thread Cert.MemKvDwRefIdeal.nD Cert.MemKvDwRefIdeal.τ).loc Cert.MemKvDwRefIdeal.main_arg1)
      ∧ r.2.mem ((c.tc : Thread Cert.MemKvDwRefIdeal.nD Cert.MemKvDwRefIdeal.τ).loc Cert.MemKvDwRefIdeal.main_arg2) = m ((c.tc : Thread Cert.MemKvDwRefIdeal.nD Cert.MemKvDwRefIdeal.τ).loc Cert.MemKvDwRefIdeal.main_arg2))
      ∧ r.2.sem = fun _ => 0)

def quiescent_BranchProj [hBranchProj : Cert.BranchProj.Facts] : Prop :=
  ∀ (m : (ℓ : Loc Cert.BranchProj.nD Cert.BranchProj.τ Cert.BranchProj.sig) → Buf (Elt Bits) ℓ) (g : Dev Cert.BranchProj.nD → PrngReg), Pre_BranchProj m →
    θ_run (Cert.BranchProj.defs (F := Bits)) (onTc (τ := Cert.BranchProj.τ) (Cert.BranchProj.main (F := Bits))) ⟨m, fun _ => 0, g⟩ (fun r => (∀ c : Dev Cert.BranchProj.nD,
      r.2.mem ((c.tc : Thread Cert.BranchProj.nD Cert.BranchProj.τ).loc Cert.BranchProj.main_arg0) = m ((c.tc : Thread Cert.BranchProj.nD Cert.BranchProj.τ).loc Cert.BranchProj.main_arg0)
      ∧ r.2.mem ((c.tc : Thread Cert.BranchProj.nD Cert.BranchProj.τ).loc Cert.BranchProj.main_arg1) = m ((c.tc : Thread Cert.BranchProj.nD Cert.BranchProj.τ).loc Cert.BranchProj.main_arg1))
      ∧ r.2.sem = fun _ => 0)

def quiescent_BranchProjIdeal [hBranchProjIdeal : Cert.BranchProjIdeal.Facts] : Prop :=
  ∀ (m : (ℓ : Loc Cert.BranchProjIdeal.nD Cert.BranchProjIdeal.τ Cert.BranchProjIdeal.sig) → Buf (Elt Ideal) ℓ) (g : Dev Cert.BranchProjIdeal.nD → PrngReg), Pre_BranchProjIdeal m →
    θ_run (Cert.BranchProjIdeal.defs (F := Ideal)) (onTc (τ := Cert.BranchProjIdeal.τ) (Cert.BranchProjIdeal.main (F := Ideal))) ⟨m, fun _ => 0, g⟩ (fun r => (∀ c : Dev Cert.BranchProjIdeal.nD,
      r.2.mem ((c.tc : Thread Cert.BranchProjIdeal.nD Cert.BranchProjIdeal.τ).loc Cert.BranchProjIdeal.main_arg0) = m ((c.tc : Thread Cert.BranchProjIdeal.nD Cert.BranchProjIdeal.τ).loc Cert.BranchProjIdeal.main_arg0)
      ∧ r.2.mem ((c.tc : Thread Cert.BranchProjIdeal.nD Cert.BranchProjIdeal.τ).loc Cert.BranchProjIdeal.main_arg1) = m ((c.tc : Thread Cert.BranchProjIdeal.nD Cert.BranchProjIdeal.τ).loc Cert.BranchProjIdeal.main_arg1))
      ∧ r.2.sem = fun _ => 0)

def quiescent_BranchProjRefIdeal [hBranchProjRefIdeal : Cert.BranchProjRefIdeal.Facts] : Prop :=
  ∀ (m : (ℓ : Loc Cert.BranchProjRefIdeal.nD Cert.BranchProjRefIdeal.τ Cert.BranchProjRefIdeal.sig) → Buf (Elt Ideal) ℓ) (g : Dev Cert.BranchProjRefIdeal.nD → PrngReg), Pre_BranchProjRefIdeal m →
    θ_run (Cert.BranchProjRefIdeal.defs (F := Ideal)) (onTc (τ := Cert.BranchProjRefIdeal.τ) (Cert.BranchProjRefIdeal.main (F := Ideal))) ⟨m, fun _ => 0, g⟩ (fun r => (∀ c : Dev Cert.BranchProjRefIdeal.nD,
      r.2.mem ((c.tc : Thread Cert.BranchProjRefIdeal.nD Cert.BranchProjRefIdeal.τ).loc Cert.BranchProjRefIdeal.main_arg0) = m ((c.tc : Thread Cert.BranchProjRefIdeal.nD Cert.BranchProjRefIdeal.τ).loc Cert.BranchProjRefIdeal.main_arg0)
      ∧ r.2.mem ((c.tc : Thread Cert.BranchProjRefIdeal.nD Cert.BranchProjRefIdeal.τ).loc Cert.BranchProjRefIdeal.main_arg1) = m ((c.tc : Thread Cert.BranchProjRefIdeal.nD Cert.BranchProjRefIdeal.τ).loc Cert.BranchProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_MemQ [hMemQ : Cert.MemQ.Facts] : Prop :=
  ∀ (m : (ℓ : Loc Cert.MemQ.nD Cert.MemQ.τ Cert.MemQ.sig) → Buf (Elt Bits) ℓ) (g : Dev Cert.MemQ.nD → PrngReg), Pre_MemQ m →
    θ_run (Cert.MemQ.defs (F := Bits)) (onTc (τ := Cert.MemQ.τ) (Cert.MemQ.main (F := Bits))) ⟨m, fun _ => 0, g⟩ (fun r => (∀ c : Dev Cert.MemQ.nD,
      r.2.mem ((c.tc : Thread Cert.MemQ.nD Cert.MemQ.τ).loc Cert.MemQ.main_arg0) = m ((c.tc : Thread Cert.MemQ.nD Cert.MemQ.τ).loc Cert.MemQ.main_arg0)
      ∧ r.2.mem ((c.tc : Thread Cert.MemQ.nD Cert.MemQ.τ).loc Cert.MemQ.main_arg1) = m ((c.tc : Thread Cert.MemQ.nD Cert.MemQ.τ).loc Cert.MemQ.main_arg1))
      ∧ r.2.sem = fun _ => 0)

def quiescent_MemQIdeal [hMemQIdeal : Cert.MemQIdeal.Facts] : Prop :=
  ∀ (m : (ℓ : Loc Cert.MemQIdeal.nD Cert.MemQIdeal.τ Cert.MemQIdeal.sig) → Buf (Elt Ideal) ℓ) (g : Dev Cert.MemQIdeal.nD → PrngReg), Pre_MemQIdeal m →
    θ_run (Cert.MemQIdeal.defs (F := Ideal)) (onTc (τ := Cert.MemQIdeal.τ) (Cert.MemQIdeal.main (F := Ideal))) ⟨m, fun _ => 0, g⟩ (fun r => (∀ c : Dev Cert.MemQIdeal.nD,
      r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
      ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1))
      ∧ r.2.sem = fun _ => 0)

def quiescent_MemQRefIdeal [hMemQRefIdeal : Cert.MemQRefIdeal.Facts] : Prop :=
  ∀ (m : (ℓ : Loc Cert.MemQRefIdeal.nD Cert.MemQRefIdeal.τ Cert.MemQRefIdeal.sig) → Buf (Elt Ideal) ℓ) (g : Dev Cert.MemQRefIdeal.nD → PrngReg), Pre_MemQRefIdeal m →
    θ_run (Cert.MemQRefIdeal.defs (F := Ideal)) (onTc (τ := Cert.MemQRefIdeal.τ) (Cert.MemQRefIdeal.main (F := Ideal))) ⟨m, fun _ => 0, g⟩ (fun r => (∀ c : Dev Cert.MemQRefIdeal.nD,
      r.2.mem ((c.tc : Thread Cert.MemQRefIdeal.nD Cert.MemQRefIdeal.τ).loc Cert.MemQRefIdeal.main_arg0) = m ((c.tc : Thread Cert.MemQRefIdeal.nD Cert.MemQRefIdeal.τ).loc Cert.MemQRefIdeal.main_arg0)
      ∧ r.2.mem ((c.tc : Thread Cert.MemQRefIdeal.nD Cert.MemQRefIdeal.τ).loc Cert.MemQRefIdeal.main_arg1) = m ((c.tc : Thread Cert.MemQRefIdeal.nD Cert.MemQRefIdeal.τ).loc Cert.MemQRefIdeal.main_arg1))
      ∧ r.2.sem = fun _ => 0)

def quiescent_MemO [hMemO : Cert.MemO.Facts] : Prop :=
  ∀ (m : (ℓ : Loc Cert.MemO.nD Cert.MemO.τ Cert.MemO.sig) → Buf (Elt Bits) ℓ) (g : Dev Cert.MemO.nD → PrngReg), Pre_MemO m →
    θ_run (Cert.MemO.defs (F := Bits)) (onTc (τ := Cert.MemO.τ) (Cert.MemO.main (F := Bits))) ⟨m, fun _ => 0, g⟩ (fun r => (∀ c : Dev Cert.MemO.nD,
      r.2.mem ((c.tc : Thread Cert.MemO.nD Cert.MemO.τ).loc Cert.MemO.main_arg0) = m ((c.tc : Thread Cert.MemO.nD Cert.MemO.τ).loc Cert.MemO.main_arg0)
      ∧ r.2.mem ((c.tc : Thread Cert.MemO.nD Cert.MemO.τ).loc Cert.MemO.main_arg1) = m ((c.tc : Thread Cert.MemO.nD Cert.MemO.τ).loc Cert.MemO.main_arg1))
      ∧ r.2.sem = fun _ => 0)

def quiescent_MemOIdeal [hMemOIdeal : Cert.MemOIdeal.Facts] : Prop :=
  ∀ (m : (ℓ : Loc Cert.MemOIdeal.nD Cert.MemOIdeal.τ Cert.MemOIdeal.sig) → Buf (Elt Ideal) ℓ) (g : Dev Cert.MemOIdeal.nD → PrngReg), Pre_MemOIdeal m →
    θ_run (Cert.MemOIdeal.defs (F := Ideal)) (onTc (τ := Cert.MemOIdeal.τ) (Cert.MemOIdeal.main (F := Ideal))) ⟨m, fun _ => 0, g⟩ (fun r => (∀ c : Dev Cert.MemOIdeal.nD,
      r.2.mem ((c.tc : Thread Cert.MemOIdeal.nD Cert.MemOIdeal.τ).loc Cert.MemOIdeal.main_arg0) = m ((c.tc : Thread Cert.MemOIdeal.nD Cert.MemOIdeal.τ).loc Cert.MemOIdeal.main_arg0)
      ∧ r.2.mem ((c.tc : Thread Cert.MemOIdeal.nD Cert.MemOIdeal.τ).loc Cert.MemOIdeal.main_arg1) = m ((c.tc : Thread Cert.MemOIdeal.nD Cert.MemOIdeal.τ).loc Cert.MemOIdeal.main_arg1))
      ∧ r.2.sem = fun _ => 0)

def quiescent_MemORefIdeal [hMemORefIdeal : Cert.MemORefIdeal.Facts] : Prop :=
  ∀ (m : (ℓ : Loc Cert.MemORefIdeal.nD Cert.MemORefIdeal.τ Cert.MemORefIdeal.sig) → Buf (Elt Ideal) ℓ) (g : Dev Cert.MemORefIdeal.nD → PrngReg), Pre_MemORefIdeal m →
    θ_run (Cert.MemORefIdeal.defs (F := Ideal)) (onTc (τ := Cert.MemORefIdeal.τ) (Cert.MemORefIdeal.main (F := Ideal))) ⟨m, fun _ => 0, g⟩ (fun r => (∀ c : Dev Cert.MemORefIdeal.nD,
      r.2.mem ((c.tc : Thread Cert.MemORefIdeal.nD Cert.MemORefIdeal.τ).loc Cert.MemORefIdeal.main_arg0) = m ((c.tc : Thread Cert.MemORefIdeal.nD Cert.MemORefIdeal.τ).loc Cert.MemORefIdeal.main_arg0)
      ∧ r.2.mem ((c.tc : Thread Cert.MemORefIdeal.nD Cert.MemORefIdeal.τ).loc Cert.MemORefIdeal.main_arg1) = m ((c.tc : Thread Cert.MemORefIdeal.nD Cert.MemORefIdeal.τ).loc Cert.MemORefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_NormInBwd [hNormInBwd : Cert.NormInBwd.Facts] : Prop :=
  ∀ (m : (ℓ : Loc Cert.NormInBwd.nD Cert.NormInBwd.τ Cert.NormInBwd.sig) → Buf (Elt Bits) ℓ) (g : Dev Cert.NormInBwd.nD → PrngReg), Pre_NormInBwd m →
    θ_run (Cert.NormInBwd.defs (F := Bits)) (onTc (τ := Cert.NormInBwd.τ) (Cert.NormInBwd.main (F := Bits))) ⟨m, fun _ => 0, g⟩ (fun r => (∀ c : Dev Cert.NormInBwd.nD,
      r.2.mem ((c.tc : Thread Cert.NormInBwd.nD Cert.NormInBwd.τ).loc Cert.NormInBwd.main_arg0) = m ((c.tc : Thread Cert.NormInBwd.nD Cert.NormInBwd.τ).loc Cert.NormInBwd.main_arg0)
      ∧ r.2.mem ((c.tc : Thread Cert.NormInBwd.nD Cert.NormInBwd.τ).loc Cert.NormInBwd.main_arg1) = m ((c.tc : Thread Cert.NormInBwd.nD Cert.NormInBwd.τ).loc Cert.NormInBwd.main_arg1)
      ∧ r.2.mem ((c.tc : Thread Cert.NormInBwd.nD Cert.NormInBwd.τ).loc Cert.NormInBwd.main_arg2) = m ((c.tc : Thread Cert.NormInBwd.nD Cert.NormInBwd.τ).loc Cert.NormInBwd.main_arg2)
      ∧ r.2.mem ((c.tc : Thread Cert.NormInBwd.nD Cert.NormInBwd.τ).loc Cert.NormInBwd.main_arg3) = m ((c.tc : Thread Cert.NormInBwd.nD Cert.NormInBwd.τ).loc Cert.NormInBwd.main_arg3))
      ∧ r.2.sem = fun _ => 0)

def quiescent_NormInBwdIdeal [hNormInBwdIdeal : Cert.NormInBwdIdeal.Facts] : Prop :=
  ∀ (m : (ℓ : Loc Cert.NormInBwdIdeal.nD Cert.NormInBwdIdeal.τ Cert.NormInBwdIdeal.sig) → Buf (Elt Ideal) ℓ) (g : Dev Cert.NormInBwdIdeal.nD → PrngReg), Pre_NormInBwdIdeal m →
    θ_run (Cert.NormInBwdIdeal.defs (F := Ideal)) (onTc (τ := Cert.NormInBwdIdeal.τ) (Cert.NormInBwdIdeal.main (F := Ideal))) ⟨m, fun _ => 0, g⟩ (fun r => (∀ c : Dev Cert.NormInBwdIdeal.nD,
      r.2.mem ((c.tc : Thread Cert.NormInBwdIdeal.nD Cert.NormInBwdIdeal.τ).loc Cert.NormInBwdIdeal.main_arg0) = m ((c.tc : Thread Cert.NormInBwdIdeal.nD Cert.NormInBwdIdeal.τ).loc Cert.NormInBwdIdeal.main_arg0)
      ∧ r.2.mem ((c.tc : Thread Cert.NormInBwdIdeal.nD Cert.NormInBwdIdeal.τ).loc Cert.NormInBwdIdeal.main_arg1) = m ((c.tc : Thread Cert.NormInBwdIdeal.nD Cert.NormInBwdIdeal.τ).loc Cert.NormInBwdIdeal.main_arg1)
      ∧ r.2.mem ((c.tc : Thread Cert.NormInBwdIdeal.nD Cert.NormInBwdIdeal.τ).loc Cert.NormInBwdIdeal.main_arg2) = m ((c.tc : Thread Cert.NormInBwdIdeal.nD Cert.NormInBwdIdeal.τ).loc Cert.NormInBwdIdeal.main_arg2)
      ∧ r.2.mem ((c.tc : Thread Cert.NormInBwdIdeal.nD Cert.NormInBwdIdeal.τ).loc Cert.NormInBwdIdeal.main_arg3) = m ((c.tc : Thread Cert.NormInBwdIdeal.nD Cert.NormInBwdIdeal.τ).loc Cert.NormInBwdIdeal.main_arg3))
      ∧ r.2.sem = fun _ => 0)

def quiescent_NormInBwdRefIdeal [hNormInBwdRefIdeal : Cert.NormInBwdRefIdeal.Facts] : Prop :=
  ∀ (m : (ℓ : Loc Cert.NormInBwdRefIdeal.nD Cert.NormInBwdRefIdeal.τ Cert.NormInBwdRefIdeal.sig) → Buf (Elt Ideal) ℓ) (g : Dev Cert.NormInBwdRefIdeal.nD → PrngReg), Pre_NormInBwdRefIdeal m →
    θ_run (Cert.NormInBwdRefIdeal.defs (F := Ideal)) (onTc (τ := Cert.NormInBwdRefIdeal.τ) (Cert.NormInBwdRefIdeal.main (F := Ideal))) ⟨m, fun _ => 0, g⟩ (fun r => (∀ c : Dev Cert.NormInBwdRefIdeal.nD,
      r.2.mem ((c.tc : Thread Cert.NormInBwdRefIdeal.nD Cert.NormInBwdRefIdeal.τ).loc Cert.NormInBwdRefIdeal.main_arg0) = m ((c.tc : Thread Cert.NormInBwdRefIdeal.nD Cert.NormInBwdRefIdeal.τ).loc Cert.NormInBwdRefIdeal.main_arg0)
      ∧ r.2.mem ((c.tc : Thread Cert.NormInBwdRefIdeal.nD Cert.NormInBwdRefIdeal.τ).loc Cert.NormInBwdRefIdeal.main_arg1) = m ((c.tc : Thread Cert.NormInBwdRefIdeal.nD Cert.NormInBwdRefIdeal.τ).loc Cert.NormInBwdRefIdeal.main_arg1)
      ∧ r.2.mem ((c.tc : Thread Cert.NormInBwdRefIdeal.nD Cert.NormInBwdRefIdeal.τ).loc Cert.NormInBwdRefIdeal.main_arg2) = m ((c.tc : Thread Cert.NormInBwdRefIdeal.nD Cert.NormInBwdRefIdeal.τ).loc Cert.NormInBwdRefIdeal.main_arg2)
      ∧ r.2.mem ((c.tc : Thread Cert.NormInBwdRefIdeal.nD Cert.NormInBwdRefIdeal.τ).loc Cert.NormInBwdRefIdeal.main_arg3) = m ((c.tc : Thread Cert.NormInBwdRefIdeal.nD Cert.NormInBwdRefIdeal.τ).loc Cert.NormInBwdRefIdeal.main_arg3))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1))
      ∧ r.2.sem = fun _ => 0)

def quiescent_MemNormBwd [hMemNormBwd : Cert.MemNormBwd.Facts] : Prop :=
  ∀ (m : (ℓ : Loc Cert.MemNormBwd.nD Cert.MemNormBwd.τ Cert.MemNormBwd.sig) → Buf (Elt Bits) ℓ) (g : Dev Cert.MemNormBwd.nD → PrngReg), Pre_MemNormBwd m →
    θ_run (Cert.MemNormBwd.defs (F := Bits)) (onTc (τ := Cert.MemNormBwd.τ) (Cert.MemNormBwd.main (F := Bits))) ⟨m, fun _ => 0, g⟩ (fun r => (∀ c : Dev Cert.MemNormBwd.nD,
      r.2.mem ((c.tc : Thread Cert.MemNormBwd.nD Cert.MemNormBwd.τ).loc Cert.MemNormBwd.main_arg0) = m ((c.tc : Thread Cert.MemNormBwd.nD Cert.MemNormBwd.τ).loc Cert.MemNormBwd.main_arg0)
      ∧ r.2.mem ((c.tc : Thread Cert.MemNormBwd.nD Cert.MemNormBwd.τ).loc Cert.MemNormBwd.main_arg1) = m ((c.tc : Thread Cert.MemNormBwd.nD Cert.MemNormBwd.τ).loc Cert.MemNormBwd.main_arg1)
      ∧ r.2.mem ((c.tc : Thread Cert.MemNormBwd.nD Cert.MemNormBwd.τ).loc Cert.MemNormBwd.main_arg2) = m ((c.tc : Thread Cert.MemNormBwd.nD Cert.MemNormBwd.τ).loc Cert.MemNormBwd.main_arg2))
      ∧ r.2.sem = fun _ => 0)

def quiescent_MemNormBwdIdeal [hMemNormBwdIdeal : Cert.MemNormBwdIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ r.2.sem = fun _ => 0)

def quiescent_MemNormBwdRefIdeal [hMemNormBwdRefIdeal : Cert.MemNormBwdRefIdeal.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_NormTopBwd [hNormTopBwd : Cert.NormTopBwd.Facts] : Prop :=
  ∀ (m : (ℓ : Loc Cert.NormTopBwd.nD Cert.NormTopBwd.τ Cert.NormTopBwd.sig) → Buf (Elt Bits) ℓ) (g : Dev Cert.NormTopBwd.nD → PrngReg), Pre_NormTopBwd m →
    θ_run (Cert.NormTopBwd.defs (F := Bits)) (onTc (τ := Cert.NormTopBwd.τ) (Cert.NormTopBwd.main (F := Bits))) ⟨m, fun _ => 0, g⟩ (fun r => (∀ c : Dev Cert.NormTopBwd.nD,
      r.2.mem ((c.tc : Thread Cert.NormTopBwd.nD Cert.NormTopBwd.τ).loc Cert.NormTopBwd.main_arg0) = m ((c.tc : Thread Cert.NormTopBwd.nD Cert.NormTopBwd.τ).loc Cert.NormTopBwd.main_arg0)
      ∧ r.2.mem ((c.tc : Thread Cert.NormTopBwd.nD Cert.NormTopBwd.τ).loc Cert.NormTopBwd.main_arg1) = m ((c.tc : Thread Cert.NormTopBwd.nD Cert.NormTopBwd.τ).loc Cert.NormTopBwd.main_arg1)
      ∧ r.2.mem ((c.tc : Thread Cert.NormTopBwd.nD Cert.NormTopBwd.τ).loc Cert.NormTopBwd.main_arg2) = m ((c.tc : Thread Cert.NormTopBwd.nD Cert.NormTopBwd.τ).loc Cert.NormTopBwd.main_arg2)
      ∧ r.2.mem ((c.tc : Thread Cert.NormTopBwd.nD Cert.NormTopBwd.τ).loc Cert.NormTopBwd.main_arg3) = m ((c.tc : Thread Cert.NormTopBwd.nD Cert.NormTopBwd.τ).loc Cert.NormTopBwd.main_arg3))
      ∧ r.2.sem = fun _ => 0)

def quiescent_NormTopBwdIdeal [hNormTopBwdIdeal : Cert.NormTopBwdIdeal.Facts] : Prop :=
  ∀ (m : (ℓ : Loc Cert.NormTopBwdIdeal.nD Cert.NormTopBwdIdeal.τ Cert.NormTopBwdIdeal.sig) → Buf (Elt Ideal) ℓ) (g : Dev Cert.NormTopBwdIdeal.nD → PrngReg), Pre_NormTopBwdIdeal m →
    θ_run (Cert.NormTopBwdIdeal.defs (F := Ideal)) (onTc (τ := Cert.NormTopBwdIdeal.τ) (Cert.NormTopBwdIdeal.main (F := Ideal))) ⟨m, fun _ => 0, g⟩ (fun r => (∀ c : Dev Cert.NormTopBwdIdeal.nD,
      r.2.mem ((c.tc : Thread Cert.NormTopBwdIdeal.nD Cert.NormTopBwdIdeal.τ).loc Cert.NormTopBwdIdeal.main_arg0) = m ((c.tc : Thread Cert.NormTopBwdIdeal.nD Cert.NormTopBwdIdeal.τ).loc Cert.NormTopBwdIdeal.main_arg0)
      ∧ r.2.mem ((c.tc : Thread Cert.NormTopBwdIdeal.nD Cert.NormTopBwdIdeal.τ).loc Cert.NormTopBwdIdeal.main_arg1) = m ((c.tc : Thread Cert.NormTopBwdIdeal.nD Cert.NormTopBwdIdeal.τ).loc Cert.NormTopBwdIdeal.main_arg1)
      ∧ r.2.mem ((c.tc : Thread Cert.NormTopBwdIdeal.nD Cert.NormTopBwdIdeal.τ).loc Cert.NormTopBwdIdeal.main_arg2) = m ((c.tc : Thread Cert.NormTopBwdIdeal.nD Cert.NormTopBwdIdeal.τ).loc Cert.NormTopBwdIdeal.main_arg2)
      ∧ r.2.mem ((c.tc : Thread Cert.NormTopBwdIdeal.nD Cert.NormTopBwdIdeal.τ).loc Cert.NormTopBwdIdeal.main_arg3) = m ((c.tc : Thread Cert.NormTopBwdIdeal.nD Cert.NormTopBwdIdeal.τ).loc Cert.NormTopBwdIdeal.main_arg3))
      ∧ r.2.sem = fun _ => 0)

def quiescent_NormTopBwdRefIdeal [hNormTopBwdRefIdeal : Cert.NormTopBwdRefIdeal.Facts] : Prop :=
  ∀ (m : (ℓ : Loc Cert.NormTopBwdRefIdeal.nD Cert.NormTopBwdRefIdeal.τ Cert.NormTopBwdRefIdeal.sig) → Buf (Elt Ideal) ℓ) (g : Dev Cert.NormTopBwdRefIdeal.nD → PrngReg), Pre_NormTopBwdRefIdeal m →
    θ_run (Cert.NormTopBwdRefIdeal.defs (F := Ideal)) (onTc (τ := Cert.NormTopBwdRefIdeal.τ) (Cert.NormTopBwdRefIdeal.main (F := Ideal))) ⟨m, fun _ => 0, g⟩ (fun r => (∀ c : Dev Cert.NormTopBwdRefIdeal.nD,
      r.2.mem ((c.tc : Thread Cert.NormTopBwdRefIdeal.nD Cert.NormTopBwdRefIdeal.τ).loc Cert.NormTopBwdRefIdeal.main_arg0) = m ((c.tc : Thread Cert.NormTopBwdRefIdeal.nD Cert.NormTopBwdRefIdeal.τ).loc Cert.NormTopBwdRefIdeal.main_arg0)
      ∧ r.2.mem ((c.tc : Thread Cert.NormTopBwdRefIdeal.nD Cert.NormTopBwdRefIdeal.τ).loc Cert.NormTopBwdRefIdeal.main_arg1) = m ((c.tc : Thread Cert.NormTopBwdRefIdeal.nD Cert.NormTopBwdRefIdeal.τ).loc Cert.NormTopBwdRefIdeal.main_arg1)
      ∧ r.2.mem ((c.tc : Thread Cert.NormTopBwdRefIdeal.nD Cert.NormTopBwdRefIdeal.τ).loc Cert.NormTopBwdRefIdeal.main_arg2) = m ((c.tc : Thread Cert.NormTopBwdRefIdeal.nD Cert.NormTopBwdRefIdeal.τ).loc Cert.NormTopBwdRefIdeal.main_arg2)
      ∧ r.2.mem ((c.tc : Thread Cert.NormTopBwdRefIdeal.nD Cert.NormTopBwdRefIdeal.τ).loc Cert.NormTopBwdRefIdeal.main_arg3) = m ((c.tc : Thread Cert.NormTopBwdRefIdeal.nD Cert.NormTopBwdRefIdeal.τ).loc Cert.NormTopBwdRefIdeal.main_arg3))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3)
      ∧ r.2.mem ((c.tc : Thread Cert.StepSmall.nD Cert.StepSmall.τ).loc Cert.StepSmall.main_arg4) = m ((c.tc : Thread Cert.StepSmall.nD Cert.StepSmall.τ).loc Cert.StepSmall.main_arg4)
      ∧ r.2.mem ((c.tc : Thread Cert.StepSmall.nD Cert.StepSmall.τ).loc Cert.StepSmall.main_arg5) = m ((c.tc : Thread Cert.StepSmall.nD Cert.StepSmall.τ).loc Cert.StepSmall.main_arg5)
      ∧ r.2.mem ((c.tc : Thread Cert.StepSmall.nD Cert.StepSmall.τ).loc Cert.StepSmall.main_arg6) = m ((c.tc : Thread Cert.StepSmall.nD Cert.StepSmall.τ).loc Cert.StepSmall.main_arg6)
      ∧ r.2.mem ((c.tc : Thread Cert.StepSmall.nD Cert.StepSmall.τ).loc Cert.StepSmall.main_arg7) = m ((c.tc : Thread Cert.StepSmall.nD Cert.StepSmall.τ).loc Cert.StepSmall.main_arg7)
      ∧ r.2.mem ((c.tc : Thread Cert.StepSmall.nD Cert.StepSmall.τ).loc Cert.StepSmall.main_arg8) = m ((c.tc : Thread Cert.StepSmall.nD Cert.StepSmall.τ).loc Cert.StepSmall.main_arg8)
      ∧ r.2.mem ((c.tc : Thread Cert.StepSmall.nD Cert.StepSmall.τ).loc Cert.StepSmall.main_arg9) = m ((c.tc : Thread Cert.StepSmall.nD Cert.StepSmall.τ).loc Cert.StepSmall.main_arg9)
      ∧ r.2.mem ((c.tc : Thread Cert.StepSmall.nD Cert.StepSmall.τ).loc Cert.StepSmall.main_arg10) = m ((c.tc : Thread Cert.StepSmall.nD Cert.StepSmall.τ).loc Cert.StepSmall.main_arg10)
      ∧ r.2.mem ((c.tc : Thread Cert.StepSmall.nD Cert.StepSmall.τ).loc Cert.StepSmall.main_arg11) = m ((c.tc : Thread Cert.StepSmall.nD Cert.StepSmall.τ).loc Cert.StepSmall.main_arg11)
      ∧ r.2.mem ((c.tc : Thread Cert.StepSmall.nD Cert.StepSmall.τ).loc Cert.StepSmall.main_arg12) = m ((c.tc : Thread Cert.StepSmall.nD Cert.StepSmall.τ).loc Cert.StepSmall.main_arg12)
      ∧ r.2.mem ((c.tc : Thread Cert.StepSmall.nD Cert.StepSmall.τ).loc Cert.StepSmall.main_arg13) = m ((c.tc : Thread Cert.StepSmall.nD Cert.StepSmall.τ).loc Cert.StepSmall.main_arg13)
      ∧ r.2.mem ((c.tc : Thread Cert.StepSmall.nD Cert.StepSmall.τ).loc Cert.StepSmall.main_arg14) = m ((c.tc : Thread Cert.StepSmall.nD Cert.StepSmall.τ).loc Cert.StepSmall.main_arg14)
      ∧ r.2.mem ((c.tc : Thread Cert.StepSmall.nD Cert.StepSmall.τ).loc Cert.StepSmall.main_arg15) = m ((c.tc : Thread Cert.StepSmall.nD Cert.StepSmall.τ).loc Cert.StepSmall.main_arg15)
      ∧ r.2.mem ((c.tc : Thread Cert.StepSmall.nD Cert.StepSmall.τ).loc Cert.StepSmall.main_arg16) = m ((c.tc : Thread Cert.StepSmall.nD Cert.StepSmall.τ).loc Cert.StepSmall.main_arg16)
      ∧ r.2.mem ((c.tc : Thread Cert.StepSmall.nD Cert.StepSmall.τ).loc Cert.StepSmall.main_arg17) = m ((c.tc : Thread Cert.StepSmall.nD Cert.StepSmall.τ).loc Cert.StepSmall.main_arg17)
      ∧ r.2.mem ((c.tc : Thread Cert.StepSmall.nD Cert.StepSmall.τ).loc Cert.StepSmall.main_arg18) = m ((c.tc : Thread Cert.StepSmall.nD Cert.StepSmall.τ).loc Cert.StepSmall.main_arg18)
      ∧ r.2.mem ((c.tc : Thread Cert.StepSmall.nD Cert.StepSmall.τ).loc Cert.StepSmall.main_arg19) = m ((c.tc : Thread Cert.StepSmall.nD Cert.StepSmall.τ).loc Cert.StepSmall.main_arg19)
      ∧ r.2.mem ((c.tc : Thread Cert.StepSmall.nD Cert.StepSmall.τ).loc Cert.StepSmall.main_arg20) = m ((c.tc : Thread Cert.StepSmall.nD Cert.StepSmall.τ).loc Cert.StepSmall.main_arg20)
      ∧ r.2.mem ((c.tc : Thread Cert.StepSmall.nD Cert.StepSmall.τ).loc Cert.StepSmall.main_arg21) = m ((c.tc : Thread Cert.StepSmall.nD Cert.StepSmall.τ).loc Cert.StepSmall.main_arg21)
      ∧ r.2.mem ((c.tc : Thread Cert.StepSmall.nD Cert.StepSmall.τ).loc Cert.StepSmall.main_arg22) = m ((c.tc : Thread Cert.StepSmall.nD Cert.StepSmall.τ).loc Cert.StepSmall.main_arg22)
      ∧ r.2.mem ((c.tc : Thread Cert.StepSmall.nD Cert.StepSmall.τ).loc Cert.StepSmall.main_arg23) = m ((c.tc : Thread Cert.StepSmall.nD Cert.StepSmall.τ).loc Cert.StepSmall.main_arg23)
      ∧ r.2.mem ((c.tc : Thread Cert.StepSmall.nD Cert.StepSmall.τ).loc Cert.StepSmall.main_arg24) = m ((c.tc : Thread Cert.StepSmall.nD Cert.StepSmall.τ).loc Cert.StepSmall.main_arg24)
      ∧ r.2.mem ((c.tc : Thread Cert.StepSmall.nD Cert.StepSmall.τ).loc Cert.StepSmall.main_arg25) = m ((c.tc : Thread Cert.StepSmall.nD Cert.StepSmall.τ).loc Cert.StepSmall.main_arg25)
      ∧ r.2.mem ((c.tc : Thread Cert.StepSmall.nD Cert.StepSmall.τ).loc Cert.StepSmall.main_arg26) = m ((c.tc : Thread Cert.StepSmall.nD Cert.StepSmall.τ).loc Cert.StepSmall.main_arg26)
      ∧ r.2.mem ((c.tc : Thread Cert.StepSmall.nD Cert.StepSmall.τ).loc Cert.StepSmall.main_arg27) = m ((c.tc : Thread Cert.StepSmall.nD Cert.StepSmall.τ).loc Cert.StepSmall.main_arg27)
      ∧ r.2.mem ((c.tc : Thread Cert.StepSmall.nD Cert.StepSmall.τ).loc Cert.StepSmall.main_arg28) = m ((c.tc : Thread Cert.StepSmall.nD Cert.StepSmall.τ).loc Cert.StepSmall.main_arg28)
      ∧ r.2.mem ((c.tc : Thread Cert.StepSmall.nD Cert.StepSmall.τ).loc Cert.StepSmall.main_arg29) = m ((c.tc : Thread Cert.StepSmall.nD Cert.StepSmall.τ).loc Cert.StepSmall.main_arg29)
      ∧ r.2.mem ((c.tc : Thread Cert.StepSmall.nD Cert.StepSmall.τ).loc Cert.StepSmall.main_arg30) = m ((c.tc : Thread Cert.StepSmall.nD Cert.StepSmall.τ).loc Cert.StepSmall.main_arg30)
      ∧ r.2.mem ((c.tc : Thread Cert.StepSmall.nD Cert.StepSmall.τ).loc Cert.StepSmall.main_arg31) = m ((c.tc : Thread Cert.StepSmall.nD Cert.StepSmall.τ).loc Cert.StepSmall.main_arg31))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
      ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
      ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
      ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
      ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
      ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
      ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
      ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
      ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11)
      ∧ r.2.mem ((c.tc : Thread Cert.StepSmallIdeal.nD Cert.StepSmallIdeal.τ).loc Cert.StepSmallIdeal.main_arg12) = m ((c.tc : Thread Cert.StepSmallIdeal.nD Cert.StepSmallIdeal.τ).loc Cert.StepSmallIdeal.main_arg12)
      ∧ r.2.mem ((c.tc : Thread Cert.StepSmallIdeal.nD Cert.StepSmallIdeal.τ).loc Cert.StepSmallIdeal.main_arg13) = m ((c.tc : Thread Cert.StepSmallIdeal.nD Cert.StepSmallIdeal.τ).loc Cert.StepSmallIdeal.main_arg13)
      ∧ r.2.mem ((c.tc : Thread Cert.StepSmallIdeal.nD Cert.StepSmallIdeal.τ).loc Cert.StepSmallIdeal.main_arg14) = m ((c.tc : Thread Cert.StepSmallIdeal.nD Cert.StepSmallIdeal.τ).loc Cert.StepSmallIdeal.main_arg14)
      ∧ r.2.mem ((c.tc : Thread Cert.StepSmallIdeal.nD Cert.StepSmallIdeal.τ).loc Cert.StepSmallIdeal.main_arg15) = m ((c.tc : Thread Cert.StepSmallIdeal.nD Cert.StepSmallIdeal.τ).loc Cert.StepSmallIdeal.main_arg15)
      ∧ r.2.mem ((c.tc : Thread Cert.StepSmallIdeal.nD Cert.StepSmallIdeal.τ).loc Cert.StepSmallIdeal.main_arg16) = m ((c.tc : Thread Cert.StepSmallIdeal.nD Cert.StepSmallIdeal.τ).loc Cert.StepSmallIdeal.main_arg16)
      ∧ r.2.mem ((c.tc : Thread Cert.StepSmallIdeal.nD Cert.StepSmallIdeal.τ).loc Cert.StepSmallIdeal.main_arg17) = m ((c.tc : Thread Cert.StepSmallIdeal.nD Cert.StepSmallIdeal.τ).loc Cert.StepSmallIdeal.main_arg17)
      ∧ r.2.mem ((c.tc : Thread Cert.StepSmallIdeal.nD Cert.StepSmallIdeal.τ).loc Cert.StepSmallIdeal.main_arg18) = m ((c.tc : Thread Cert.StepSmallIdeal.nD Cert.StepSmallIdeal.τ).loc Cert.StepSmallIdeal.main_arg18)
      ∧ r.2.mem ((c.tc : Thread Cert.StepSmallIdeal.nD Cert.StepSmallIdeal.τ).loc Cert.StepSmallIdeal.main_arg19) = m ((c.tc : Thread Cert.StepSmallIdeal.nD Cert.StepSmallIdeal.τ).loc Cert.StepSmallIdeal.main_arg19)
      ∧ r.2.mem ((c.tc : Thread Cert.StepSmallIdeal.nD Cert.StepSmallIdeal.τ).loc Cert.StepSmallIdeal.main_arg20) = m ((c.tc : Thread Cert.StepSmallIdeal.nD Cert.StepSmallIdeal.τ).loc Cert.StepSmallIdeal.main_arg20)
      ∧ r.2.mem ((c.tc : Thread Cert.StepSmallIdeal.nD Cert.StepSmallIdeal.τ).loc Cert.StepSmallIdeal.main_arg21) = m ((c.tc : Thread Cert.StepSmallIdeal.nD Cert.StepSmallIdeal.τ).loc Cert.StepSmallIdeal.main_arg21)
      ∧ r.2.mem ((c.tc : Thread Cert.StepSmallIdeal.nD Cert.StepSmallIdeal.τ).loc Cert.StepSmallIdeal.main_arg22) = m ((c.tc : Thread Cert.StepSmallIdeal.nD Cert.StepSmallIdeal.τ).loc Cert.StepSmallIdeal.main_arg22)
      ∧ r.2.mem ((c.tc : Thread Cert.StepSmallIdeal.nD Cert.StepSmallIdeal.τ).loc Cert.StepSmallIdeal.main_arg23) = m ((c.tc : Thread Cert.StepSmallIdeal.nD Cert.StepSmallIdeal.τ).loc Cert.StepSmallIdeal.main_arg23)
      ∧ r.2.mem ((c.tc : Thread Cert.StepSmallIdeal.nD Cert.StepSmallIdeal.τ).loc Cert.StepSmallIdeal.main_arg24) = m ((c.tc : Thread Cert.StepSmallIdeal.nD Cert.StepSmallIdeal.τ).loc Cert.StepSmallIdeal.main_arg24)
      ∧ r.2.mem ((c.tc : Thread Cert.StepSmallIdeal.nD Cert.StepSmallIdeal.τ).loc Cert.StepSmallIdeal.main_arg25) = m ((c.tc : Thread Cert.StepSmallIdeal.nD Cert.StepSmallIdeal.τ).loc Cert.StepSmallIdeal.main_arg25)
      ∧ r.2.mem ((c.tc : Thread Cert.StepSmallIdeal.nD Cert.StepSmallIdeal.τ).loc Cert.StepSmallIdeal.main_arg26) = m ((c.tc : Thread Cert.StepSmallIdeal.nD Cert.StepSmallIdeal.τ).loc Cert.StepSmallIdeal.main_arg26)
      ∧ r.2.mem ((c.tc : Thread Cert.StepSmallIdeal.nD Cert.StepSmallIdeal.τ).loc Cert.StepSmallIdeal.main_arg27) = m ((c.tc : Thread Cert.StepSmallIdeal.nD Cert.StepSmallIdeal.τ).loc Cert.StepSmallIdeal.main_arg27)
      ∧ r.2.mem ((c.tc : Thread Cert.StepSmallIdeal.nD Cert.StepSmallIdeal.τ).loc Cert.StepSmallIdeal.main_arg28) = m ((c.tc : Thread Cert.StepSmallIdeal.nD Cert.StepSmallIdeal.τ).loc Cert.StepSmallIdeal.main_arg28)
      ∧ r.2.mem ((c.tc : Thread Cert.StepSmallIdeal.nD Cert.StepSmallIdeal.τ).loc Cert.StepSmallIdeal.main_arg29) = m ((c.tc : Thread Cert.StepSmallIdeal.nD Cert.StepSmallIdeal.τ).loc Cert.StepSmallIdeal.main_arg29)
      ∧ r.2.mem ((c.tc : Thread Cert.StepSmallIdeal.nD Cert.StepSmallIdeal.τ).loc Cert.StepSmallIdeal.main_arg30) = m ((c.tc : Thread Cert.StepSmallIdeal.nD Cert.StepSmallIdeal.τ).loc Cert.StepSmallIdeal.main_arg30)
      ∧ r.2.mem ((c.tc : Thread Cert.StepSmallIdeal.nD Cert.StepSmallIdeal.τ).loc Cert.StepSmallIdeal.main_arg31) = m ((c.tc : Thread Cert.StepSmallIdeal.nD Cert.StepSmallIdeal.τ).loc Cert.StepSmallIdeal.main_arg31))
      ∧ r.2.sem = fun _ => 0)

def quiescent_StepSmallRefIdeal [hStepSmallRefIdeal : Cert.StepSmallRefIdeal.Facts] : Prop :=
  ∀ (m : (ℓ : Loc Cert.StepSmallRefIdeal.nD Cert.StepSmallRefIdeal.τ Cert.StepSmallRefIdeal.sig) → Buf (Elt Ideal) ℓ) (g : Dev Cert.StepSmallRefIdeal.nD → PrngReg), Pre_StepSmallRefIdeal m →
    θ_run (Cert.StepSmallRefIdeal.defs (F := Ideal)) (onTc (τ := Cert.StepSmallRefIdeal.τ) (Cert.StepSmallRefIdeal.main (F := Ideal))) ⟨m, fun _ => 0, g⟩ (fun r => (∀ c : Dev Cert.StepSmallRefIdeal.nD,
      r.2.mem ((c.tc : Thread Cert.StepSmallRefIdeal.nD Cert.StepSmallRefIdeal.τ).loc Cert.StepSmallRefIdeal.main_arg0) = m ((c.tc : Thread Cert.StepSmallRefIdeal.nD Cert.StepSmallRefIdeal.τ).loc Cert.StepSmallRefIdeal.main_arg0)
      ∧ r.2.mem ((c.tc : Thread Cert.StepSmallRefIdeal.nD Cert.StepSmallRefIdeal.τ).loc Cert.StepSmallRefIdeal.main_arg1) = m ((c.tc : Thread Cert.StepSmallRefIdeal.nD Cert.StepSmallRefIdeal.τ).loc Cert.StepSmallRefIdeal.main_arg1)
      ∧ r.2.mem ((c.tc : Thread Cert.StepSmallRefIdeal.nD Cert.StepSmallRefIdeal.τ).loc Cert.StepSmallRefIdeal.main_arg2) = m ((c.tc : Thread Cert.StepSmallRefIdeal.nD Cert.StepSmallRefIdeal.τ).loc Cert.StepSmallRefIdeal.main_arg2)
      ∧ r.2.mem ((c.tc : Thread Cert.StepSmallRefIdeal.nD Cert.StepSmallRefIdeal.τ).loc Cert.StepSmallRefIdeal.main_arg3) = m ((c.tc : Thread Cert.StepSmallRefIdeal.nD Cert.StepSmallRefIdeal.τ).loc Cert.StepSmallRefIdeal.main_arg3)
      ∧ r.2.mem ((c.tc : Thread Cert.StepSmallRefIdeal.nD Cert.StepSmallRefIdeal.τ).loc Cert.StepSmallRefIdeal.main_arg4) = m ((c.tc : Thread Cert.StepSmallRefIdeal.nD Cert.StepSmallRefIdeal.τ).loc Cert.StepSmallRefIdeal.main_arg4)
      ∧ r.2.mem ((c.tc : Thread Cert.StepSmallRefIdeal.nD Cert.StepSmallRefIdeal.τ).loc Cert.StepSmallRefIdeal.main_arg5) = m ((c.tc : Thread Cert.StepSmallRefIdeal.nD Cert.StepSmallRefIdeal.τ).loc Cert.StepSmallRefIdeal.main_arg5)
      ∧ r.2.mem ((c.tc : Thread Cert.StepSmallRefIdeal.nD Cert.StepSmallRefIdeal.τ).loc Cert.StepSmallRefIdeal.main_arg6) = m ((c.tc : Thread Cert.StepSmallRefIdeal.nD Cert.StepSmallRefIdeal.τ).loc Cert.StepSmallRefIdeal.main_arg6)
      ∧ r.2.mem ((c.tc : Thread Cert.StepSmallRefIdeal.nD Cert.StepSmallRefIdeal.τ).loc Cert.StepSmallRefIdeal.main_arg7) = m ((c.tc : Thread Cert.StepSmallRefIdeal.nD Cert.StepSmallRefIdeal.τ).loc Cert.StepSmallRefIdeal.main_arg7)
      ∧ r.2.mem ((c.tc : Thread Cert.StepSmallRefIdeal.nD Cert.StepSmallRefIdeal.τ).loc Cert.StepSmallRefIdeal.main_arg8) = m ((c.tc : Thread Cert.StepSmallRefIdeal.nD Cert.StepSmallRefIdeal.τ).loc Cert.StepSmallRefIdeal.main_arg8)
      ∧ r.2.mem ((c.tc : Thread Cert.StepSmallRefIdeal.nD Cert.StepSmallRefIdeal.τ).loc Cert.StepSmallRefIdeal.main_arg9) = m ((c.tc : Thread Cert.StepSmallRefIdeal.nD Cert.StepSmallRefIdeal.τ).loc Cert.StepSmallRefIdeal.main_arg9)
      ∧ r.2.mem ((c.tc : Thread Cert.StepSmallRefIdeal.nD Cert.StepSmallRefIdeal.τ).loc Cert.StepSmallRefIdeal.main_arg10) = m ((c.tc : Thread Cert.StepSmallRefIdeal.nD Cert.StepSmallRefIdeal.τ).loc Cert.StepSmallRefIdeal.main_arg10)
      ∧ r.2.mem ((c.tc : Thread Cert.StepSmallRefIdeal.nD Cert.StepSmallRefIdeal.τ).loc Cert.StepSmallRefIdeal.main_arg11) = m ((c.tc : Thread Cert.StepSmallRefIdeal.nD Cert.StepSmallRefIdeal.τ).loc Cert.StepSmallRefIdeal.main_arg11)
      ∧ r.2.mem ((c.tc : Thread Cert.StepSmallRefIdeal.nD Cert.StepSmallRefIdeal.τ).loc Cert.StepSmallRefIdeal.main_arg12) = m ((c.tc : Thread Cert.StepSmallRefIdeal.nD Cert.StepSmallRefIdeal.τ).loc Cert.StepSmallRefIdeal.main_arg12)
      ∧ r.2.mem ((c.tc : Thread Cert.StepSmallRefIdeal.nD Cert.StepSmallRefIdeal.τ).loc Cert.StepSmallRefIdeal.main_arg13) = m ((c.tc : Thread Cert.StepSmallRefIdeal.nD Cert.StepSmallRefIdeal.τ).loc Cert.StepSmallRefIdeal.main_arg13)
      ∧ r.2.mem ((c.tc : Thread Cert.StepSmallRefIdeal.nD Cert.StepSmallRefIdeal.τ).loc Cert.StepSmallRefIdeal.main_arg14) = m ((c.tc : Thread Cert.StepSmallRefIdeal.nD Cert.StepSmallRefIdeal.τ).loc Cert.StepSmallRefIdeal.main_arg14)
      ∧ r.2.mem ((c.tc : Thread Cert.StepSmallRefIdeal.nD Cert.StepSmallRefIdeal.τ).loc Cert.StepSmallRefIdeal.main_arg15) = m ((c.tc : Thread Cert.StepSmallRefIdeal.nD Cert.StepSmallRefIdeal.τ).loc Cert.StepSmallRefIdeal.main_arg15)
      ∧ r.2.mem ((c.tc : Thread Cert.StepSmallRefIdeal.nD Cert.StepSmallRefIdeal.τ).loc Cert.StepSmallRefIdeal.main_arg16) = m ((c.tc : Thread Cert.StepSmallRefIdeal.nD Cert.StepSmallRefIdeal.τ).loc Cert.StepSmallRefIdeal.main_arg16)
      ∧ r.2.mem ((c.tc : Thread Cert.StepSmallRefIdeal.nD Cert.StepSmallRefIdeal.τ).loc Cert.StepSmallRefIdeal.main_arg17) = m ((c.tc : Thread Cert.StepSmallRefIdeal.nD Cert.StepSmallRefIdeal.τ).loc Cert.StepSmallRefIdeal.main_arg17)
      ∧ r.2.mem ((c.tc : Thread Cert.StepSmallRefIdeal.nD Cert.StepSmallRefIdeal.τ).loc Cert.StepSmallRefIdeal.main_arg18) = m ((c.tc : Thread Cert.StepSmallRefIdeal.nD Cert.StepSmallRefIdeal.τ).loc Cert.StepSmallRefIdeal.main_arg18)
      ∧ r.2.mem ((c.tc : Thread Cert.StepSmallRefIdeal.nD Cert.StepSmallRefIdeal.τ).loc Cert.StepSmallRefIdeal.main_arg19) = m ((c.tc : Thread Cert.StepSmallRefIdeal.nD Cert.StepSmallRefIdeal.τ).loc Cert.StepSmallRefIdeal.main_arg19)
      ∧ r.2.mem ((c.tc : Thread Cert.StepSmallRefIdeal.nD Cert.StepSmallRefIdeal.τ).loc Cert.StepSmallRefIdeal.main_arg20) = m ((c.tc : Thread Cert.StepSmallRefIdeal.nD Cert.StepSmallRefIdeal.τ).loc Cert.StepSmallRefIdeal.main_arg20)
      ∧ r.2.mem ((c.tc : Thread Cert.StepSmallRefIdeal.nD Cert.StepSmallRefIdeal.τ).loc Cert.StepSmallRefIdeal.main_arg21) = m ((c.tc : Thread Cert.StepSmallRefIdeal.nD Cert.StepSmallRefIdeal.τ).loc Cert.StepSmallRefIdeal.main_arg21)
      ∧ r.2.mem ((c.tc : Thread Cert.StepSmallRefIdeal.nD Cert.StepSmallRefIdeal.τ).loc Cert.StepSmallRefIdeal.main_arg22) = m ((c.tc : Thread Cert.StepSmallRefIdeal.nD Cert.StepSmallRefIdeal.τ).loc Cert.StepSmallRefIdeal.main_arg22)
      ∧ r.2.mem ((c.tc : Thread Cert.StepSmallRefIdeal.nD Cert.StepSmallRefIdeal.τ).loc Cert.StepSmallRefIdeal.main_arg23) = m ((c.tc : Thread Cert.StepSmallRefIdeal.nD Cert.StepSmallRefIdeal.τ).loc Cert.StepSmallRefIdeal.main_arg23)
      ∧ r.2.mem ((c.tc : Thread Cert.StepSmallRefIdeal.nD Cert.StepSmallRefIdeal.τ).loc Cert.StepSmallRefIdeal.main_arg24) = m ((c.tc : Thread Cert.StepSmallRefIdeal.nD Cert.StepSmallRefIdeal.τ).loc Cert.StepSmallRefIdeal.main_arg24)
      ∧ r.2.mem ((c.tc : Thread Cert.StepSmallRefIdeal.nD Cert.StepSmallRefIdeal.τ).loc Cert.StepSmallRefIdeal.main_arg25) = m ((c.tc : Thread Cert.StepSmallRefIdeal.nD Cert.StepSmallRefIdeal.τ).loc Cert.StepSmallRefIdeal.main_arg25)
      ∧ r.2.mem ((c.tc : Thread Cert.StepSmallRefIdeal.nD Cert.StepSmallRefIdeal.τ).loc Cert.StepSmallRefIdeal.main_arg26) = m ((c.tc : Thread Cert.StepSmallRefIdeal.nD Cert.StepSmallRefIdeal.τ).loc Cert.StepSmallRefIdeal.main_arg26)
      ∧ r.2.mem ((c.tc : Thread Cert.StepSmallRefIdeal.nD Cert.StepSmallRefIdeal.τ).loc Cert.StepSmallRefIdeal.main_arg27) = m ((c.tc : Thread Cert.StepSmallRefIdeal.nD Cert.StepSmallRefIdeal.τ).loc Cert.StepSmallRefIdeal.main_arg27)
      ∧ r.2.mem ((c.tc : Thread Cert.StepSmallRefIdeal.nD Cert.StepSmallRefIdeal.τ).loc Cert.StepSmallRefIdeal.main_arg28) = m ((c.tc : Thread Cert.StepSmallRefIdeal.nD Cert.StepSmallRefIdeal.τ).loc Cert.StepSmallRefIdeal.main_arg28)
      ∧ r.2.mem ((c.tc : Thread Cert.StepSmallRefIdeal.nD Cert.StepSmallRefIdeal.τ).loc Cert.StepSmallRefIdeal.main_arg29) = m ((c.tc : Thread Cert.StepSmallRefIdeal.nD Cert.StepSmallRefIdeal.τ).loc Cert.StepSmallRefIdeal.main_arg29)
      ∧ r.2.mem ((c.tc : Thread Cert.StepSmallRefIdeal.nD Cert.StepSmallRefIdeal.τ).loc Cert.StepSmallRefIdeal.main_arg30) = m ((c.tc : Thread Cert.StepSmallRefIdeal.nD Cert.StepSmallRefIdeal.τ).loc Cert.StepSmallRefIdeal.main_arg30)
      ∧ r.2.mem ((c.tc : Thread Cert.StepSmallRefIdeal.nD Cert.StepSmallRefIdeal.τ).loc Cert.StepSmallRefIdeal.main_arg31) = m ((c.tc : Thread Cert.StepSmallRefIdeal.nD Cert.StepSmallRefIdeal.τ).loc Cert.StepSmallRefIdeal.main_arg31))
      ∧ r.2.sem = fun _ => 0)

def preserves_MemoryBwd_MemoryBwdIdeal : Prop :=
  True

def algebraic_MemoryBwdIdeal_MemoryGradIdeal_pre_mem_finite [hMemoryBwdIdeal : Cert.MemoryBwdIdeal.Facts] [hMemoryGradIdeal : Cert.MemoryGradIdeal.Facts] [hPre_mem_finite : Cert.Pre_mem_finite.Facts] : Prop :=
  ∀ (m : (ℓ : Loc Cert.MemoryBwdIdeal.nD Cert.MemoryBwdIdeal.τ Cert.MemoryBwdIdeal.sig) → Buf (Elt Ideal) ℓ) (g : Dev Cert.MemoryBwdIdeal.nD → PrngReg)
    (m' : (ℓ : Loc Cert.MemoryGradIdeal.nD Cert.MemoryGradIdeal.τ Cert.MemoryGradIdeal.sig) → Buf (Elt Ideal) ℓ) (g' : Dev Cert.MemoryGradIdeal.nD → PrngReg), Pre_MemoryBwdIdeal_mem_finite m →
    (∀ c : Dev Cert.MemoryBwdIdeal.nD,
      m' ((c.tc : Thread Cert.MemoryGradIdeal.nD Cert.MemoryGradIdeal.τ).loc Cert.MemoryGradIdeal.main_arg0) = m ((c.tc : Thread Cert.MemoryBwdIdeal.nD Cert.MemoryBwdIdeal.τ).loc Cert.MemoryBwdIdeal.main_arg0)
      ∧ m' ((c.tc : Thread Cert.MemoryGradIdeal.nD Cert.MemoryGradIdeal.τ).loc Cert.MemoryGradIdeal.main_arg1) = m ((c.tc : Thread Cert.MemoryBwdIdeal.nD Cert.MemoryBwdIdeal.τ).loc Cert.MemoryBwdIdeal.main_arg1)
      ∧ m' ((c.tc : Thread Cert.MemoryGradIdeal.nD Cert.MemoryGradIdeal.τ).loc Cert.MemoryGradIdeal.main_arg2) = m ((c.tc : Thread Cert.MemoryBwdIdeal.nD Cert.MemoryBwdIdeal.τ).loc Cert.MemoryBwdIdeal.main_arg2)) →
    ∃ (v0 : (c : Dev Cert.MemoryBwdIdeal.nD) → Buf (Elt Ideal) ((c.tc : Thread Cert.MemoryBwdIdeal.nD Cert.MemoryBwdIdeal.τ).loc Cert.MemoryBwdIdeal.main_v0_0)) (v1 : (c : Dev Cert.MemoryBwdIdeal.nD) → Buf (Elt Ideal) ((c.tc : Thread Cert.MemoryBwdIdeal.nD Cert.MemoryBwdIdeal.τ).loc Cert.MemoryBwdIdeal.main_v0_1)),
      θ_run (Cert.MemoryBwdIdeal.defs (F := Ideal)) (onTc (τ := Cert.MemoryBwdIdeal.τ) (Cert.MemoryBwdIdeal.main (F := Ideal))) ⟨m, fun _ => 0, g⟩ (fun r => ∀ c : Dev Cert.MemoryBwdIdeal.nD,
          r.2.mem ((c.tc : Thread Cert.MemoryBwdIdeal.nD Cert.MemoryBwdIdeal.τ).loc Cert.MemoryBwdIdeal.main_v0_0) = v0 c
          ∧ r.2.mem ((c.tc : Thread Cert.MemoryBwdIdeal.nD Cert.MemoryBwdIdeal.τ).loc Cert.MemoryBwdIdeal.main_v0_1) = v1 c
          ∧ r.2.mem ((c.tc : Thread Cert.MemoryBwdIdeal.nD Cert.MemoryBwdIdeal.τ).loc Cert.MemoryBwdIdeal.main_arg0) = m ((c.tc : Thread Cert.MemoryBwdIdeal.nD Cert.MemoryBwdIdeal.τ).loc Cert.MemoryBwdIdeal.main_arg0)
          ∧ r.2.mem ((c.tc : Thread Cert.MemoryBwdIdeal.nD Cert.MemoryBwdIdeal.τ).loc Cert.MemoryBwdIdeal.main_arg1) = m ((c.tc : Thread Cert.MemoryBwdIdeal.nD Cert.MemoryBwdIdeal.τ).loc Cert.MemoryBwdIdeal.main_arg1)
          ∧ r.2.mem ((c.tc : Thread Cert.MemoryBwdIdeal.nD Cert.MemoryBwdIdeal.τ).loc Cert.MemoryBwdIdeal.main_arg2) = m ((c.tc : Thread Cert.MemoryBwdIdeal.nD Cert.MemoryBwdIdeal.τ).loc Cert.MemoryBwdIdeal.main_arg2))
      ∧ θ_run (Cert.MemoryGradIdeal.defs (F := Ideal)) (onTc (τ := Cert.MemoryGradIdeal.τ) (Cert.MemoryGradIdeal.main (F := Ideal))) ⟨m', fun _ => 0, g'⟩ (fun r => ∀ c : Dev Cert.MemoryGradIdeal.nD,
          r.2.mem ((c.tc : Thread Cert.MemoryGradIdeal.nD Cert.MemoryGradIdeal.τ).loc Cert.MemoryGradIdeal.main_v69) = v0 c
          ∧ r.2.mem ((c.tc : Thread Cert.MemoryGradIdeal.nD Cert.MemoryGradIdeal.τ).loc Cert.MemoryGradIdeal.main_v67) = v1 c
          ∧ r.2.mem ((c.tc : Thread Cert.MemoryGradIdeal.nD Cert.MemoryGradIdeal.τ).loc Cert.MemoryGradIdeal.main_arg0) = m' ((c.tc : Thread Cert.MemoryGradIdeal.nD Cert.MemoryGradIdeal.τ).loc Cert.MemoryGradIdeal.main_arg0)
          ∧ r.2.mem ((c.tc : Thread Cert.MemoryGradIdeal.nD Cert.MemoryGradIdeal.τ).loc Cert.MemoryGradIdeal.main_arg1) = m' ((c.tc : Thread Cert.MemoryGradIdeal.nD Cert.MemoryGradIdeal.τ).loc Cert.MemoryGradIdeal.main_arg1)
          ∧ r.2.mem ((c.tc : Thread Cert.MemoryGradIdeal.nD Cert.MemoryGradIdeal.τ).loc Cert.MemoryGradIdeal.main_arg2) = m' ((c.tc : Thread Cert.MemoryGradIdeal.nD Cert.MemoryGradIdeal.τ).loc Cert.MemoryGradIdeal.main_arg2))

def preserves_MlpDownDx_MlpDownDxIdeal : Prop :=
  True

def algebraic_MlpDownDxIdeal_MlpDownDxRefIdeal [hMlpDownDxIdeal : Cert.MlpDownDxIdeal.Facts] [hMlpDownDxRefIdeal : Cert.MlpDownDxRefIdeal.Facts] : Prop :=
  ∀ (m : (ℓ : Loc Cert.MlpDownDxIdeal.nD Cert.MlpDownDxIdeal.τ Cert.MlpDownDxIdeal.sig) → Buf (Elt Ideal) ℓ) (g : Dev Cert.MlpDownDxIdeal.nD → PrngReg)
    (m' : (ℓ : Loc Cert.MlpDownDxRefIdeal.nD Cert.MlpDownDxRefIdeal.τ Cert.MlpDownDxRefIdeal.sig) → Buf (Elt Ideal) ℓ) (g' : Dev Cert.MlpDownDxRefIdeal.nD → PrngReg), Pre_MlpDownDxIdeal m →
    (∀ c : Dev Cert.MlpDownDxIdeal.nD,
      m' ((c.tc : Thread Cert.MlpDownDxRefIdeal.nD Cert.MlpDownDxRefIdeal.τ).loc Cert.MlpDownDxRefIdeal.main_arg0) = m ((c.tc : Thread Cert.MlpDownDxIdeal.nD Cert.MlpDownDxIdeal.τ).loc Cert.MlpDownDxIdeal.main_arg0)
      ∧ m' ((c.tc : Thread Cert.MlpDownDxRefIdeal.nD Cert.MlpDownDxRefIdeal.τ).loc Cert.MlpDownDxRefIdeal.main_arg1) = m ((c.tc : Thread Cert.MlpDownDxIdeal.nD Cert.MlpDownDxIdeal.τ).loc Cert.MlpDownDxIdeal.main_arg1)
      ∧ m' ((c.tc : Thread Cert.MlpDownDxRefIdeal.nD Cert.MlpDownDxRefIdeal.τ).loc Cert.MlpDownDxRefIdeal.main_arg2) = m ((c.tc : Thread Cert.MlpDownDxIdeal.nD Cert.MlpDownDxIdeal.τ).loc Cert.MlpDownDxIdeal.main_arg2)) →
    ∃ (v0 : (c : Dev Cert.MlpDownDxIdeal.nD) → Buf (Elt Ideal) ((c.tc : Thread Cert.MlpDownDxIdeal.nD Cert.MlpDownDxIdeal.τ).loc Cert.MlpDownDxIdeal.main_v5)),
      θ_run (Cert.MlpDownDxIdeal.defs (F := Ideal)) (onTc (τ := Cert.MlpDownDxIdeal.τ) (Cert.MlpDownDxIdeal.main (F := Ideal))) ⟨m, fun _ => 0, g⟩ (fun r => ∀ c : Dev Cert.MlpDownDxIdeal.nD,
          r.2.mem ((c.tc : Thread Cert.MlpDownDxIdeal.nD Cert.MlpDownDxIdeal.τ).loc Cert.MlpDownDxIdeal.main_v5) = v0 c
          ∧ r.2.mem ((c.tc : Thread Cert.MlpDownDxIdeal.nD Cert.MlpDownDxIdeal.τ).loc Cert.MlpDownDxIdeal.main_arg0) = m ((c.tc : Thread Cert.MlpDownDxIdeal.nD Cert.MlpDownDxIdeal.τ).loc Cert.MlpDownDxIdeal.main_arg0)
          ∧ r.2.mem ((c.tc : Thread Cert.MlpDownDxIdeal.nD Cert.MlpDownDxIdeal.τ).loc Cert.MlpDownDxIdeal.main_arg1) = m ((c.tc : Thread Cert.MlpDownDxIdeal.nD Cert.MlpDownDxIdeal.τ).loc Cert.MlpDownDxIdeal.main_arg1)
          ∧ r.2.mem ((c.tc : Thread Cert.MlpDownDxIdeal.nD Cert.MlpDownDxIdeal.τ).loc Cert.MlpDownDxIdeal.main_arg2) = m ((c.tc : Thread Cert.MlpDownDxIdeal.nD Cert.MlpDownDxIdeal.τ).loc Cert.MlpDownDxIdeal.main_arg2))
      ∧ θ_run (Cert.MlpDownDxRefIdeal.defs (F := Ideal)) (onTc (τ := Cert.MlpDownDxRefIdeal.τ) (Cert.MlpDownDxRefIdeal.main (F := Ideal))) ⟨m', fun _ => 0, g'⟩ (fun r => ∀ c : Dev Cert.MlpDownDxRefIdeal.nD,
          r.2.mem ((c.tc : Thread Cert.MlpDownDxRefIdeal.nD Cert.MlpDownDxRefIdeal.τ).loc Cert.MlpDownDxRefIdeal.main_v15) = v0 c
          ∧ r.2.mem ((c.tc : Thread Cert.MlpDownDxRefIdeal.nD Cert.MlpDownDxRefIdeal.τ).loc Cert.MlpDownDxRefIdeal.main_arg0) = m' ((c.tc : Thread Cert.MlpDownDxRefIdeal.nD Cert.MlpDownDxRefIdeal.τ).loc Cert.MlpDownDxRefIdeal.main_arg0)
          ∧ r.2.mem ((c.tc : Thread Cert.MlpDownDxRefIdeal.nD Cert.MlpDownDxRefIdeal.τ).loc Cert.MlpDownDxRefIdeal.main_arg1) = m' ((c.tc : Thread Cert.MlpDownDxRefIdeal.nD Cert.MlpDownDxRefIdeal.τ).loc Cert.MlpDownDxRefIdeal.main_arg1)
          ∧ r.2.mem ((c.tc : Thread Cert.MlpDownDxRefIdeal.nD Cert.MlpDownDxRefIdeal.τ).loc Cert.MlpDownDxRefIdeal.main_arg2) = m' ((c.tc : Thread Cert.MlpDownDxRefIdeal.nD Cert.MlpDownDxRefIdeal.τ).loc Cert.MlpDownDxRefIdeal.main_arg2))

def preserves_MlpDownDw_MlpDownDwIdeal : Prop :=
  True

def algebraic_MlpDownDwIdeal_MlpDownDwRefIdeal [hMlpDownDwIdeal : Cert.MlpDownDwIdeal.Facts] [hMlpDownDwRefIdeal : Cert.MlpDownDwRefIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg)
    (m' : (ℓ : Loc Cert.MlpDownDwRefIdeal.nD Cert.MlpDownDwRefIdeal.τ Cert.MlpDownDwRefIdeal.sig) → Buf (Elt Ideal) ℓ) (g' : Dev Cert.MlpDownDwRefIdeal.nD → PrngReg), Pre_MlpDownDwIdeal m →
    (∀ c : Dev Cert.MlpDownDwIdeal.nD,
      m' ((c.tc : Thread Cert.MlpDownDwRefIdeal.nD Cert.MlpDownDwRefIdeal.τ).loc Cert.MlpDownDwRefIdeal.main_arg0) = m ((c.tc : Thread Cert.MlpDownDwIdeal.nD Cert.MlpDownDwIdeal.τ).loc Cert.MlpDownDwIdeal.main_arg0)
      ∧ m' ((c.tc : Thread Cert.MlpDownDwRefIdeal.nD Cert.MlpDownDwRefIdeal.τ).loc Cert.MlpDownDwRefIdeal.main_arg1) = m ((c.tc : Thread Cert.MlpDownDwIdeal.nD Cert.MlpDownDwIdeal.τ).loc Cert.MlpDownDwIdeal.main_arg1)
      ∧ m' ((c.tc : Thread Cert.MlpDownDwRefIdeal.nD Cert.MlpDownDwRefIdeal.τ).loc Cert.MlpDownDwRefIdeal.main_arg2) = m ((c.tc : Thread Cert.MlpDownDwIdeal.nD Cert.MlpDownDwIdeal.τ).loc Cert.MlpDownDwIdeal.main_arg2)) →
    ∃ (v0 : (c : Dev Cert.MlpDownDwIdeal.nD) → Buf (Elt Ideal) ((c.tc : Thread Cert.MlpDownDwIdeal.nD Cert.MlpDownDwIdeal.τ).loc Cert.MlpDownDwIdeal.main_v3)),
      θ_run (Cert.MlpDownDwIdeal.defs (F := Ideal)) (onTc (τ := Cert.MlpDownDwIdeal.τ) (Cert.MlpDownDwIdeal.main (F := Ideal))) ⟨m, fun _ => 0, g⟩ (fun r => ∀ c : Dev Cert.MlpDownDwIdeal.nD,
          r.2.mem ((c.tc : Thread Cert.MlpDownDwIdeal.nD Cert.MlpDownDwIdeal.τ).loc Cert.MlpDownDwIdeal.main_v3) = v0 c
          ∧ r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
          ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1)
          ∧ r.2.mem ((c.tc : Thread Cert.MlpDownDwIdeal.nD Cert.MlpDownDwIdeal.τ).loc Cert.MlpDownDwIdeal.main_arg2) = m ((c.tc : Thread Cert.MlpDownDwIdeal.nD Cert.MlpDownDwIdeal.τ).loc Cert.MlpDownDwIdeal.main_arg2))
      ∧ θ_run (Cert.MlpDownDwRefIdeal.defs (F := Ideal)) (onTc (τ := Cert.MlpDownDwRefIdeal.τ) (Cert.MlpDownDwRefIdeal.main (F := Ideal))) ⟨m', fun _ => 0, g'⟩ (fun r => ∀ c : Dev Cert.MlpDownDwRefIdeal.nD,
          r.2.mem ((c.tc : Thread Cert.MlpDownDwRefIdeal.nD Cert.MlpDownDwRefIdeal.τ).loc Cert.MlpDownDwRefIdeal.main_v15) = v0 c
          ∧ r.2.mem ((c.tc : Thread Cert.MlpDownDwRefIdeal.nD Cert.MlpDownDwRefIdeal.τ).loc Cert.MlpDownDwRefIdeal.main_arg0) = m' ((c.tc : Thread Cert.MlpDownDwRefIdeal.nD Cert.MlpDownDwRefIdeal.τ).loc Cert.MlpDownDwRefIdeal.main_arg0)
          ∧ r.2.mem ((c.tc : Thread Cert.MlpDownDwRefIdeal.nD Cert.MlpDownDwRefIdeal.τ).loc Cert.MlpDownDwRefIdeal.main_arg1) = m' ((c.tc : Thread Cert.MlpDownDwRefIdeal.nD Cert.MlpDownDwRefIdeal.τ).loc Cert.MlpDownDwRefIdeal.main_arg1)
          ∧ r.2.mem ((c.tc : Thread Cert.MlpDownDwRefIdeal.nD Cert.MlpDownDwRefIdeal.τ).loc Cert.MlpDownDwRefIdeal.main_arg2) = m' ((c.tc : Thread Cert.MlpDownDwRefIdeal.nD Cert.MlpDownDwRefIdeal.τ).loc Cert.MlpDownDwRefIdeal.main_arg2))

def preserves_MlpUpDx_MlpUpDxIdeal : Prop :=
  True

def algebraic_MlpUpDxIdeal_MlpUpDxRefIdeal [hMlpUpDxIdeal : Cert.MlpUpDxIdeal.Facts] [hMlpUpDxRefIdeal : Cert.MlpUpDxRefIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg)
    (m' : (ℓ : Loc Cert.MlpUpDxRefIdeal.nD Cert.MlpUpDxRefIdeal.τ Cert.MlpUpDxRefIdeal.sig) → Buf (Elt Ideal) ℓ) (g' : Dev Cert.MlpUpDxRefIdeal.nD → PrngReg), Pre_MlpUpDxIdeal m →
    (∀ c : Dev Cert.MlpUpDxIdeal.nD,
      m' ((c.tc : Thread Cert.MlpUpDxRefIdeal.nD Cert.MlpUpDxRefIdeal.τ).loc Cert.MlpUpDxRefIdeal.main_arg0) = m ((c.tc : Thread Cert.MlpUpDxIdeal.nD Cert.MlpUpDxIdeal.τ).loc Cert.MlpUpDxIdeal.main_arg0)
      ∧ m' ((c.tc : Thread Cert.MlpUpDxRefIdeal.nD Cert.MlpUpDxRefIdeal.τ).loc Cert.MlpUpDxRefIdeal.main_arg1) = m ((c.tc : Thread Cert.MlpUpDxIdeal.nD Cert.MlpUpDxIdeal.τ).loc Cert.MlpUpDxIdeal.main_arg1)
      ∧ m' ((c.tc : Thread Cert.MlpUpDxRefIdeal.nD Cert.MlpUpDxRefIdeal.τ).loc Cert.MlpUpDxRefIdeal.main_arg2) = m ((c.tc : Thread Cert.MlpUpDxIdeal.nD Cert.MlpUpDxIdeal.τ).loc Cert.MlpUpDxIdeal.main_arg2)) →
    ∃ (v0 : (c : Dev Cert.MlpUpDxIdeal.nD) → Buf (Elt Ideal) ((c.tc : Thread Cert.MlpUpDxIdeal.nD Cert.MlpUpDxIdeal.τ).loc Cert.MlpUpDxIdeal.main_v3)),
      θ_run (Cert.MlpUpDxIdeal.defs (F := Ideal)) (onTc (τ := Cert.MlpUpDxIdeal.τ) (Cert.MlpUpDxIdeal.main (F := Ideal))) ⟨m, fun _ => 0, g⟩ (fun r => ∀ c : Dev Cert.MlpUpDxIdeal.nD,
          r.2.mem ((c.tc : Thread Cert.MlpUpDxIdeal.nD Cert.MlpUpDxIdeal.τ).loc Cert.MlpUpDxIdeal.main_v3) = v0 c
          ∧ r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
          ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1)
          ∧ r.2.mem ((c.tc : Thread Cert.MlpUpDxIdeal.nD Cert.MlpUpDxIdeal.τ).loc Cert.MlpUpDxIdeal.main_arg2) = m ((c.tc : Thread Cert.MlpUpDxIdeal.nD Cert.MlpUpDxIdeal.τ).loc Cert.MlpUpDxIdeal.main_arg2))
      ∧ θ_run (Cert.MlpUpDxRefIdeal.defs (F := Ideal)) (onTc (τ := Cert.MlpUpDxRefIdeal.τ) (Cert.MlpUpDxRefIdeal.main (F := Ideal))) ⟨m', fun _ => 0, g'⟩ (fun r => ∀ c : Dev Cert.MlpUpDxRefIdeal.nD,
          r.2.mem ((c.tc : Thread Cert.MlpUpDxRefIdeal.nD Cert.MlpUpDxRefIdeal.τ).loc Cert.MlpUpDxRefIdeal.main_v6) = v0 c
          ∧ r.2.mem ((c.tc : Thread Cert.MlpUpDxRefIdeal.nD Cert.MlpUpDxRefIdeal.τ).loc Cert.MlpUpDxRefIdeal.main_arg0) = m' ((c.tc : Thread Cert.MlpUpDxRefIdeal.nD Cert.MlpUpDxRefIdeal.τ).loc Cert.MlpUpDxRefIdeal.main_arg0)
          ∧ r.2.mem ((c.tc : Thread Cert.MlpUpDxRefIdeal.nD Cert.MlpUpDxRefIdeal.τ).loc Cert.MlpUpDxRefIdeal.main_arg1) = m' ((c.tc : Thread Cert.MlpUpDxRefIdeal.nD Cert.MlpUpDxRefIdeal.τ).loc Cert.MlpUpDxRefIdeal.main_arg1)
          ∧ r.2.mem ((c.tc : Thread Cert.MlpUpDxRefIdeal.nD Cert.MlpUpDxRefIdeal.τ).loc Cert.MlpUpDxRefIdeal.main_arg2) = m' ((c.tc : Thread Cert.MlpUpDxRefIdeal.nD Cert.MlpUpDxRefIdeal.τ).loc Cert.MlpUpDxRefIdeal.main_arg2))

def preserves_MlpUpDw_MlpUpDwIdeal : Prop :=
  True

def algebraic_MlpUpDwIdeal_MlpUpDwRefIdeal [hMlpUpDwIdeal : Cert.MlpUpDwIdeal.Facts] [hMlpUpDwRefIdeal : Cert.MlpUpDwRefIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg)
    (m' : (ℓ : Loc Cert.MlpUpDwRefIdeal.nD Cert.MlpUpDwRefIdeal.τ Cert.MlpUpDwRefIdeal.sig) → Buf (Elt Ideal) ℓ) (g' : Dev Cert.MlpUpDwRefIdeal.nD → PrngReg), Pre_MlpUpDwIdeal m →
    (∀ c : Dev Cert.MlpUpDwIdeal.nD,
      m' ((c.tc : Thread Cert.MlpUpDwRefIdeal.nD Cert.MlpUpDwRefIdeal.τ).loc Cert.MlpUpDwRefIdeal.main_arg0) = m ((c.tc : Thread Cert.MlpUpDwIdeal.nD Cert.MlpUpDwIdeal.τ).loc Cert.MlpUpDwIdeal.main_arg0)
      ∧ m' ((c.tc : Thread Cert.MlpUpDwRefIdeal.nD Cert.MlpUpDwRefIdeal.τ).loc Cert.MlpUpDwRefIdeal.main_arg1) = m ((c.tc : Thread Cert.MlpUpDwIdeal.nD Cert.MlpUpDwIdeal.τ).loc Cert.MlpUpDwIdeal.main_arg1)
      ∧ m' ((c.tc : Thread Cert.MlpUpDwRefIdeal.nD Cert.MlpUpDwRefIdeal.τ).loc Cert.MlpUpDwRefIdeal.main_arg2) = m ((c.tc : Thread Cert.MlpUpDwIdeal.nD Cert.MlpUpDwIdeal.τ).loc Cert.MlpUpDwIdeal.main_arg2)) →
    ∃ (v0 : (c : Dev Cert.MlpUpDwIdeal.nD) → Buf (Elt Ideal) ((c.tc : Thread Cert.MlpUpDwIdeal.nD Cert.MlpUpDwIdeal.τ).loc Cert.MlpUpDwIdeal.main_v0)),
      θ_run (Cert.MlpUpDwIdeal.defs (F := Ideal)) (onTc (τ := Cert.MlpUpDwIdeal.τ) (Cert.MlpUpDwIdeal.main (F := Ideal))) ⟨m, fun _ => 0, g⟩ (fun r => ∀ c : Dev Cert.MlpUpDwIdeal.nD,
          r.2.mem ((c.tc : Thread Cert.MlpUpDwIdeal.nD Cert.MlpUpDwIdeal.τ).loc Cert.MlpUpDwIdeal.main_v0) = v0 c
          ∧ r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
          ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1)
          ∧ r.2.mem ((c.tc : Thread Cert.MlpUpDwIdeal.nD Cert.MlpUpDwIdeal.τ).loc Cert.MlpUpDwIdeal.main_arg2) = m ((c.tc : Thread Cert.MlpUpDwIdeal.nD Cert.MlpUpDwIdeal.τ).loc Cert.MlpUpDwIdeal.main_arg2))
      ∧ θ_run (Cert.MlpUpDwRefIdeal.defs (F := Ideal)) (onTc (τ := Cert.MlpUpDwRefIdeal.τ) (Cert.MlpUpDwRefIdeal.main (F := Ideal))) ⟨m', fun _ => 0, g'⟩ (fun r => ∀ c : Dev Cert.MlpUpDwRefIdeal.nD,
          r.2.mem ((c.tc : Thread Cert.MlpUpDwRefIdeal.nD Cert.MlpUpDwRefIdeal.τ).loc Cert.MlpUpDwRefIdeal.main_v7) = v0 c
          ∧ r.2.mem ((c.tc : Thread Cert.MlpUpDwRefIdeal.nD Cert.MlpUpDwRefIdeal.τ).loc Cert.MlpUpDwRefIdeal.main_arg0) = m' ((c.tc : Thread Cert.MlpUpDwRefIdeal.nD Cert.MlpUpDwRefIdeal.τ).loc Cert.MlpUpDwRefIdeal.main_arg0)
          ∧ r.2.mem ((c.tc : Thread Cert.MlpUpDwRefIdeal.nD Cert.MlpUpDwRefIdeal.τ).loc Cert.MlpUpDwRefIdeal.main_arg1) = m' ((c.tc : Thread Cert.MlpUpDwRefIdeal.nD Cert.MlpUpDwRefIdeal.τ).loc Cert.MlpUpDwRefIdeal.main_arg1)
          ∧ r.2.mem ((c.tc : Thread Cert.MlpUpDwRefIdeal.nD Cert.MlpUpDwRefIdeal.τ).loc Cert.MlpUpDwRefIdeal.main_arg2) = m' ((c.tc : Thread Cert.MlpUpDwRefIdeal.nD Cert.MlpUpDwRefIdeal.τ).loc Cert.MlpUpDwRefIdeal.main_arg2))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)
      ∧ m' ((c.tc : Thread Cert.InProjDxRefIdeal.nD Cert.InProjDxRefIdeal.τ).loc Cert.InProjDxRefIdeal.main_arg2) = m ((c.tc : Thread Cert.InProjDxIdeal.nD Cert.InProjDxIdeal.τ).loc Cert.InProjDxIdeal.main_arg2)) →
    ∃ (v0 : (c : Dev Cert.InProjDxIdeal.nD) → Buf (Elt Ideal) ((c.tc : Thread Cert.InProjDxIdeal.nD Cert.InProjDxIdeal.τ).loc Cert.InProjDxIdeal.main_v3)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v3) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v6) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1)
          ∧ r.2.mem ((c.tc : Thread Cert.InProjDxRefIdeal.nD Cert.InProjDxRefIdeal.τ).loc Cert.InProjDxRefIdeal.main_arg2) = m' ((c.tc : Thread Cert.InProjDxRefIdeal.nD Cert.InProjDxRefIdeal.τ).loc Cert.InProjDxRefIdeal.main_arg2))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)
      ∧ m' ((c.tc : Thread Cert.InProjDwRefIdeal.nD Cert.InProjDwRefIdeal.τ).loc Cert.InProjDwRefIdeal.main_arg2) = m ((c.tc : Thread Cert.InProjDwIdeal.nD Cert.InProjDwIdeal.τ).loc Cert.InProjDwIdeal.main_arg2)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1)
          ∧ r.2.mem ((c.tc : Thread Cert.InProjDwIdeal.nD Cert.InProjDwIdeal.τ).loc Cert.InProjDwIdeal.main_arg2) = m ((c.tc : Thread Cert.InProjDwIdeal.nD Cert.InProjDwIdeal.τ).loc Cert.InProjDwIdeal.main_arg2))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v7) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1)
          ∧ r.2.mem ((c.tc : Thread Cert.InProjDwRefIdeal.nD Cert.InProjDwRefIdeal.τ).loc Cert.InProjDwRefIdeal.main_arg2) = m' ((c.tc : Thread Cert.InProjDwRefIdeal.nD Cert.InProjDwRefIdeal.τ).loc Cert.InProjDwRefIdeal.main_arg2))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v3)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v3) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v4) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)) →
    ∃ (v0 : (c : Dev Cert.MlpDownIdeal.nD) → Buf (Elt Ideal) ((c.tc : Thread Cert.MlpDownIdeal.nD Cert.MlpDownIdeal.τ).loc Cert.MlpDownIdeal.main_v5)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v5) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v3) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v2_0)) (v1 : (c : Dev Cert.NormBwdIdeal.nD) → Buf (Elt Ideal) ((c.tc : Thread Cert.NormBwdIdeal.nD Cert.NormBwdIdeal.τ).loc Cert.NormBwdIdeal.main_v2_1)) (v2 : (c : Dev Cert.NormBwdIdeal.nD) → Buf (Elt Ideal) ((c.tc : Thread Cert.NormBwdIdeal.nD Cert.NormBwdIdeal.τ).loc Cert.NormBwdIdeal.main_v2_2)) (v3 : (c : Dev Cert.NormBwdIdeal.nD) → Buf (Elt Ideal) ((c.tc : Thread Cert.NormBwdIdeal.nD Cert.NormBwdIdeal.τ).loc Cert.NormBwdIdeal.main_v2_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v2_0) = v0 c
          ∧ r.2.mem ((c.tc : Thread Cert.NormBwdIdeal.nD Cert.NormBwdIdeal.τ).loc Cert.NormBwdIdeal.main_v2_1) = v1 c
          ∧ r.2.mem ((c.tc : Thread Cert.NormBwdIdeal.nD Cert.NormBwdIdeal.τ).loc Cert.NormBwdIdeal.main_v2_2) = v2 c
          ∧ r.2.mem ((c.tc : Thread Cert.NormBwdIdeal.nD Cert.NormBwdIdeal.τ).loc Cert.NormBwdIdeal.main_v2_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v55) = v0 c
          ∧ r.2.mem ((c.tc : Thread Cert.NormBwdRefIdeal.nD Cert.NormBwdRefIdeal.τ).loc Cert.NormBwdRefIdeal.main_v77) = v1 c
          ∧ r.2.mem ((c.tc : Thread Cert.NormBwdRefIdeal.nD Cert.NormBwdRefIdeal.τ).loc Cert.NormBwdRefIdeal.main_v78) = v2 c
          ∧ r.2.mem ((c.tc : Thread Cert.NormBwdRefIdeal.nD Cert.NormBwdRefIdeal.τ).loc Cert.NormBwdRefIdeal.main_v79) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v1)) (v1 : (c : Dev Cert.GateBwdIdeal.nD) → Buf (Elt Ideal) ((c.tc : Thread Cert.GateBwdIdeal.nD Cert.GateBwdIdeal.τ).loc Cert.GateBwdIdeal.main_v0_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v1) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v22) = v0 c
          ∧ r.2.mem ((c.tc : Thread Cert.GateBwdRefIdeal.nD Cert.GateBwdRefIdeal.τ).loc Cert.GateBwdRefIdeal.main_v24) = v1 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v29) = v0 c
          ∧ r.2.mem ((c.tc : Thread Cert.LossHeadRefIdeal.nD Cert.LossHeadRefIdeal.τ).loc Cert.LossHeadRefIdeal.main_v30) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_MemoryFwd_MemoryFwdIdeal : Prop :=
  True

def algebraic_MemoryFwdIdeal_MemoryFwdRefIdeal_pre_mem_fwd_finite [hMemoryFwdIdeal : Cert.MemoryFwdIdeal.Facts] [hMemoryFwdRefIdeal : Cert.MemoryFwdRefIdeal.Facts] [hPre_mem_fwd_finite : Cert.Pre_mem_fwd_finite.Facts] : Prop :=
  ∀ (m : (ℓ : Loc Cert.MemoryFwdIdeal.nD Cert.MemoryFwdIdeal.τ Cert.MemoryFwdIdeal.sig) → Buf (Elt Ideal) ℓ) (g : Dev Cert.MemoryFwdIdeal.nD → PrngReg)
    (m' : (ℓ : Loc Cert.MemoryFwdRefIdeal.nD Cert.MemoryFwdRefIdeal.τ Cert.MemoryFwdRefIdeal.sig) → Buf (Elt Ideal) ℓ) (g' : Dev Cert.MemoryFwdRefIdeal.nD → PrngReg), Pre_MemoryFwdIdeal_mem_fwd_finite m →
    (∀ c : Dev Cert.MemoryFwdIdeal.nD,
      m' ((c.tc : Thread Cert.MemoryFwdRefIdeal.nD Cert.MemoryFwdRefIdeal.τ).loc Cert.MemoryFwdRefIdeal.main_arg0) = m ((c.tc : Thread Cert.MemoryFwdIdeal.nD Cert.MemoryFwdIdeal.τ).loc Cert.MemoryFwdIdeal.main_arg0)
      ∧ m' ((c.tc : Thread Cert.MemoryFwdRefIdeal.nD Cert.MemoryFwdRefIdeal.τ).loc Cert.MemoryFwdRefIdeal.main_arg1) = m ((c.tc : Thread Cert.MemoryFwdIdeal.nD Cert.MemoryFwdIdeal.τ).loc Cert.MemoryFwdIdeal.main_arg1)) →
    ∃ (v0 : (c : Dev Cert.MemoryFwdIdeal.nD) → Buf (Elt Ideal) ((c.tc : Thread Cert.MemoryFwdIdeal.nD Cert.MemoryFwdIdeal.τ).loc Cert.MemoryFwdIdeal.main_v0)),
      θ_run (Cert.MemoryFwdIdeal.defs (F := Ideal)) (onTc (τ := Cert.MemoryFwdIdeal.τ) (Cert.MemoryFwdIdeal.main (F := Ideal))) ⟨m, fun _ => 0, g⟩ (fun r => ∀ c : Dev Cert.MemoryFwdIdeal.nD,
          r.2.mem ((c.tc : Thread Cert.MemoryFwdIdeal.nD Cert.MemoryFwdIdeal.τ).loc Cert.MemoryFwdIdeal.main_v0) = v0 c
          ∧ r.2.mem ((c.tc : Thread Cert.MemoryFwdIdeal.nD Cert.MemoryFwdIdeal.τ).loc Cert.MemoryFwdIdeal.main_arg0) = m ((c.tc : Thread Cert.MemoryFwdIdeal.nD Cert.MemoryFwdIdeal.τ).loc Cert.MemoryFwdIdeal.main_arg0)
          ∧ r.2.mem ((c.tc : Thread Cert.MemoryFwdIdeal.nD Cert.MemoryFwdIdeal.τ).loc Cert.MemoryFwdIdeal.main_arg1) = m ((c.tc : Thread Cert.MemoryFwdIdeal.nD Cert.MemoryFwdIdeal.τ).loc Cert.MemoryFwdIdeal.main_arg1))
      ∧ θ_run (Cert.MemoryFwdRefIdeal.defs (F := Ideal)) (onTc (τ := Cert.MemoryFwdRefIdeal.τ) (Cert.MemoryFwdRefIdeal.main (F := Ideal))) ⟨m', fun _ => 0, g'⟩ (fun r => ∀ c : Dev Cert.MemoryFwdRefIdeal.nD,
          r.2.mem ((c.tc : Thread Cert.MemoryFwdRefIdeal.nD Cert.MemoryFwdRefIdeal.τ).loc Cert.MemoryFwdRefIdeal.main_v22) = v0 c
          ∧ r.2.mem ((c.tc : Thread Cert.MemoryFwdRefIdeal.nD Cert.MemoryFwdRefIdeal.τ).loc Cert.MemoryFwdRefIdeal.main_arg0) = m' ((c.tc : Thread Cert.MemoryFwdRefIdeal.nD Cert.MemoryFwdRefIdeal.τ).loc Cert.MemoryFwdRefIdeal.main_arg0)
          ∧ r.2.mem ((c.tc : Thread Cert.MemoryFwdRefIdeal.nD Cert.MemoryFwdRefIdeal.τ).loc Cert.MemoryFwdRefIdeal.main_arg1) = m' ((c.tc : Thread Cert.MemoryFwdRefIdeal.nD Cert.MemoryFwdRefIdeal.τ).loc Cert.MemoryFwdRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v13) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v2_0)) (v1 : (c : Dev Cert.NormFwdIdeal.nD) → Buf (Elt Ideal) ((c.tc : Thread Cert.NormFwdIdeal.nD Cert.NormFwdIdeal.τ).loc Cert.NormFwdIdeal.main_v2_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v2_0) = v0 c
          ∧ r.2.mem ((c.tc : Thread Cert.NormFwdIdeal.nD Cert.NormFwdIdeal.τ).loc Cert.NormFwdIdeal.main_v2_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_v28) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_BranchProjDx_BranchProjDxIdeal : Prop :=
  True

def algebraic_BranchProjDxIdeal_BranchProjDxRefIdeal [hBranchProjDxIdeal : Cert.BranchProjDxIdeal.Facts] [hBranchProjDxRefIdeal : Cert.BranchProjDxRefIdeal.Facts] : Prop :=
  ∀ (m : (ℓ : Loc Cert.BranchProjDxIdeal.nD Cert.BranchProjDxIdeal.τ Cert.BranchProjDxIdeal.sig) → Buf (Elt Ideal) ℓ) (g : Dev Cert.BranchProjDxIdeal.nD → PrngReg)
    (m' : (ℓ : Loc Cert.BranchProjDxRefIdeal.nD Cert.BranchProjDxRefIdeal.τ Cert.BranchProjDxRefIdeal.sig) → Buf (Elt Ideal) ℓ) (g' : Dev Cert.BranchProjDxRefIdeal.nD → PrngReg), Pre_BranchProjDxIdeal m →
    (∀ c : Dev Cert.BranchProjDxIdeal.nD,
      m' ((c.tc : Thread Cert.BranchProjDxRefIdeal.nD Cert.BranchProjDxRefIdeal.τ).loc Cert.BranchProjDxRefIdeal.main_arg0) = m ((c.tc : Thread Cert.BranchProjDxIdeal.nD Cert.BranchProjDxIdeal.τ).loc Cert.BranchProjDxIdeal.main_arg0)
      ∧ m' ((c.tc : Thread Cert.BranchProjDxRefIdeal.nD Cert.BranchProjDxRefIdeal.τ).loc Cert.BranchProjDxRefIdeal.main_arg1) = m ((c.tc : Thread Cert.BranchProjDxIdeal.nD Cert.BranchProjDxIdeal.τ).loc Cert.BranchProjDxIdeal.main_arg1)
      ∧ m' ((c.tc : Thread Cert.BranchProjDxRefIdeal.nD Cert.BranchProjDxRefIdeal.τ).loc Cert.BranchProjDxRefIdeal.main_arg2) = m ((c.tc : Thread Cert.BranchProjDxIdeal.nD Cert.BranchProjDxIdeal.τ).loc Cert.BranchProjDxIdeal.main_arg2)) →
    ∃ (v0 : (c : Dev Cert.BranchProjDxIdeal.nD) → Buf (Elt Ideal) ((c.tc : Thread Cert.BranchProjDxIdeal.nD Cert.BranchProjDxIdeal.τ).loc Cert.BranchProjDxIdeal.main_v2)),
      θ_run (Cert.BranchProjDxIdeal.defs (F := Ideal)) (onTc (τ := Cert.BranchProjDxIdeal.τ) (Cert.BranchProjDxIdeal.main (F := Ideal))) ⟨m, fun _ => 0, g⟩ (fun r => ∀ c : Dev Cert.BranchProjDxIdeal.nD,
          r.2.mem ((c.tc : Thread Cert.BranchProjDxIdeal.nD Cert.BranchProjDxIdeal.τ).loc Cert.BranchProjDxIdeal.main_v2) = v0 c
          ∧ r.2.mem ((c.tc : Thread Cert.BranchProjDxIdeal.nD Cert.BranchProjDxIdeal.τ).loc Cert.BranchProjDxIdeal.main_arg0) = m ((c.tc : Thread Cert.BranchProjDxIdeal.nD Cert.BranchProjDxIdeal.τ).loc Cert.BranchProjDxIdeal.main_arg0)
          ∧ r.2.mem ((c.tc : Thread Cert.BranchProjDxIdeal.nD Cert.BranchProjDxIdeal.τ).loc Cert.BranchProjDxIdeal.main_arg1) = m ((c.tc : Thread Cert.BranchProjDxIdeal.nD Cert.BranchProjDxIdeal.τ).loc Cert.BranchProjDxIdeal.main_arg1)
          ∧ r.2.mem ((c.tc : Thread Cert.BranchProjDxIdeal.nD Cert.BranchProjDxIdeal.τ).loc Cert.BranchProjDxIdeal.main_arg2) = m ((c.tc : Thread Cert.BranchProjDxIdeal.nD Cert.BranchProjDxIdeal.τ).loc Cert.BranchProjDxIdeal.main_arg2))
      ∧ θ_run (Cert.BranchProjDxRefIdeal.defs (F := Ideal)) (onTc (τ := Cert.BranchProjDxRefIdeal.τ) (Cert.BranchProjDxRefIdeal.main (F := Ideal))) ⟨m', fun _ => 0, g'⟩ (fun r => ∀ c : Dev Cert.BranchProjDxRefIdeal.nD,
          r.2.mem ((c.tc : Thread Cert.BranchProjDxRefIdeal.nD Cert.BranchProjDxRefIdeal.τ).loc Cert.BranchProjDxRefIdeal.main_v12) = v0 c
          ∧ r.2.mem ((c.tc : Thread Cert.BranchProjDxRefIdeal.nD Cert.BranchProjDxRefIdeal.τ).loc Cert.BranchProjDxRefIdeal.main_arg0) = m' ((c.tc : Thread Cert.BranchProjDxRefIdeal.nD Cert.BranchProjDxRefIdeal.τ).loc Cert.BranchProjDxRefIdeal.main_arg0)
          ∧ r.2.mem ((c.tc : Thread Cert.BranchProjDxRefIdeal.nD Cert.BranchProjDxRefIdeal.τ).loc Cert.BranchProjDxRefIdeal.main_arg1) = m' ((c.tc : Thread Cert.BranchProjDxRefIdeal.nD Cert.BranchProjDxRefIdeal.τ).loc Cert.BranchProjDxRefIdeal.main_arg1)
          ∧ r.2.mem ((c.tc : Thread Cert.BranchProjDxRefIdeal.nD Cert.BranchProjDxRefIdeal.τ).loc Cert.BranchProjDxRefIdeal.main_arg2) = m' ((c.tc : Thread Cert.BranchProjDxRefIdeal.nD Cert.BranchProjDxRefIdeal.τ).loc Cert.BranchProjDxRefIdeal.main_arg2))

def preserves_BranchProjDw_BranchProjDwIdeal : Prop :=
  True

def algebraic_BranchProjDwIdeal_BranchProjDwRefIdeal [hBranchProjDwIdeal : Cert.BranchProjDwIdeal.Facts] [hBranchProjDwRefIdeal : Cert.BranchProjDwRefIdeal.Facts] : Prop :=
  ∀ (m : (ℓ : Loc Cert.BranchProjDwIdeal.nD Cert.BranchProjDwIdeal.τ Cert.BranchProjDwIdeal.sig) → Buf (Elt Ideal) ℓ) (g : Dev Cert.BranchProjDwIdeal.nD → PrngReg)
    (m' : (ℓ : Loc Cert.BranchProjDwRefIdeal.nD Cert.BranchProjDwRefIdeal.τ Cert.BranchProjDwRefIdeal.sig) → Buf (Elt Ideal) ℓ) (g' : Dev Cert.BranchProjDwRefIdeal.nD → PrngReg), Pre_BranchProjDwIdeal m →
    (∀ c : Dev Cert.BranchProjDwIdeal.nD,
      m' ((c.tc : Thread Cert.BranchProjDwRefIdeal.nD Cert.BranchProjDwRefIdeal.τ).loc Cert.BranchProjDwRefIdeal.main_arg0) = m ((c.tc : Thread Cert.BranchProjDwIdeal.nD Cert.BranchProjDwIdeal.τ).loc Cert.BranchProjDwIdeal.main_arg0)
      ∧ m' ((c.tc : Thread Cert.BranchProjDwRefIdeal.nD Cert.BranchProjDwRefIdeal.τ).loc Cert.BranchProjDwRefIdeal.main_arg1) = m ((c.tc : Thread Cert.BranchProjDwIdeal.nD Cert.BranchProjDwIdeal.τ).loc Cert.BranchProjDwIdeal.main_arg1)
      ∧ m' ((c.tc : Thread Cert.BranchProjDwRefIdeal.nD Cert.BranchProjDwRefIdeal.τ).loc Cert.BranchProjDwRefIdeal.main_arg2) = m ((c.tc : Thread Cert.BranchProjDwIdeal.nD Cert.BranchProjDwIdeal.τ).loc Cert.BranchProjDwIdeal.main_arg2)) →
    ∃ (v0 : (c : Dev Cert.BranchProjDwIdeal.nD) → Buf (Elt Ideal) ((c.tc : Thread Cert.BranchProjDwIdeal.nD Cert.BranchProjDwIdeal.τ).loc Cert.BranchProjDwIdeal.main_v0)),
      θ_run (Cert.BranchProjDwIdeal.defs (F := Ideal)) (onTc (τ := Cert.BranchProjDwIdeal.τ) (Cert.BranchProjDwIdeal.main (F := Ideal))) ⟨m, fun _ => 0, g⟩ (fun r => ∀ c : Dev Cert.BranchProjDwIdeal.nD,
          r.2.mem ((c.tc : Thread Cert.BranchProjDwIdeal.nD Cert.BranchProjDwIdeal.τ).loc Cert.BranchProjDwIdeal.main_v0) = v0 c
          ∧ r.2.mem ((c.tc : Thread Cert.BranchProjDwIdeal.nD Cert.BranchProjDwIdeal.τ).loc Cert.BranchProjDwIdeal.main_arg0) = m ((c.tc : Thread Cert.BranchProjDwIdeal.nD Cert.BranchProjDwIdeal.τ).loc Cert.BranchProjDwIdeal.main_arg0)
          ∧ r.2.mem ((c.tc : Thread Cert.BranchProjDwIdeal.nD Cert.BranchProjDwIdeal.τ).loc Cert.BranchProjDwIdeal.main_arg1) = m ((c.tc : Thread Cert.BranchProjDwIdeal.nD Cert.BranchProjDwIdeal.τ).loc Cert.BranchProjDwIdeal.main_arg1)
          ∧ r.2.mem ((c.tc : Thread Cert.BranchProjDwIdeal.nD Cert.BranchProjDwIdeal.τ).loc Cert.BranchProjDwIdeal.main_arg2) = m ((c.tc : Thread Cert.BranchProjDwIdeal.nD Cert.BranchProjDwIdeal.τ).loc Cert.BranchProjDwIdeal.main_arg2))
      ∧ θ_run (Cert.BranchProjDwRefIdeal.defs (F := Ideal)) (onTc (τ := Cert.BranchProjDwRefIdeal.τ) (Cert.BranchProjDwRefIdeal.main (F := Ideal))) ⟨m', fun _ => 0, g'⟩ (fun r => ∀ c : Dev Cert.BranchProjDwRefIdeal.nD,
          r.2.mem ((c.tc : Thread Cert.BranchProjDwRefIdeal.nD Cert.BranchProjDwRefIdeal.τ).loc Cert.BranchProjDwRefIdeal.main_v12) = v0 c
          ∧ r.2.mem ((c.tc : Thread Cert.BranchProjDwRefIdeal.nD Cert.BranchProjDwRefIdeal.τ).loc Cert.BranchProjDwRefIdeal.main_arg0) = m' ((c.tc : Thread Cert.BranchProjDwRefIdeal.nD Cert.BranchProjDwRefIdeal.τ).loc Cert.BranchProjDwRefIdeal.main_arg0)
          ∧ r.2.mem ((c.tc : Thread Cert.BranchProjDwRefIdeal.nD Cert.BranchProjDwRefIdeal.τ).loc Cert.BranchProjDwRefIdeal.main_arg1) = m' ((c.tc : Thread Cert.BranchProjDwRefIdeal.nD Cert.BranchProjDwRefIdeal.τ).loc Cert.BranchProjDwRefIdeal.main_arg1)
          ∧ r.2.mem ((c.tc : Thread Cert.BranchProjDwRefIdeal.nD Cert.BranchProjDwRefIdeal.τ).loc Cert.BranchProjDwRefIdeal.main_arg2) = m' ((c.tc : Thread Cert.BranchProjDwRefIdeal.nD Cert.BranchProjDwRefIdeal.τ).loc Cert.BranchProjDwRefIdeal.main_arg2))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)
      ∧ m' ((c.tc : Thread Cert.OutProjDxRefIdeal.nD Cert.OutProjDxRefIdeal.τ).loc Cert.OutProjDxRefIdeal.main_arg2) = m ((c.tc : Thread Cert.OutProjDxIdeal.nD Cert.OutProjDxIdeal.τ).loc Cert.OutProjDxIdeal.main_arg2)) →
    ∃ (v0 : (c : Dev Cert.OutProjDxIdeal.nD) → Buf (Elt Ideal) ((c.tc : Thread Cert.OutProjDxIdeal.nD Cert.OutProjDxIdeal.τ).loc Cert.OutProjDxIdeal.main_v2)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v2) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
          ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v6) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1)
          ∧ r.2.mem ((c.tc : Thread Cert.OutProjDxRefIdeal.nD Cert.OutProjDxRefIdeal.τ).loc Cert.OutProjDxRefIdeal.main_arg2) = m' ((c.tc : Thread Cert.OutProjDxRefIdeal.nD Cert.OutProjDxRefIdeal.τ).loc Cert.OutProjDxRefIdeal.main_arg2))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)
      ∧ m' ((c.tc : Thread Cert.OutProjDwRefIdeal.nD Cert.OutProjDwRefIdeal.τ).loc Cert.OutProjDwRefIdeal.main_arg2) = m ((c.tc : Thread Cert.OutProjDwIdeal.nD Cert.OutProjDwIdeal.τ).loc Cert.OutProjDwIdeal.main_arg2)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1)
          ∧ r.2.mem ((c.tc : Thread Cert.OutProjDwIdeal.nD Cert.OutProjDwIdeal.τ).loc Cert.OutProjDwIdeal.main_arg2) = m ((c.tc : Thread Cert.OutProjDwIdeal.nD Cert.OutProjDwIdeal.τ).loc Cert.OutProjDwIdeal.main_arg2))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v6) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1)
          ∧ r.2.mem ((c.tc : Thread Cert.OutProjDwRefIdeal.nD Cert.OutProjDwRefIdeal.τ).loc Cert.OutProjDwRefIdeal.main_arg2) = m' ((c.tc : Thread Cert.OutProjDwRefIdeal.nD Cert.OutProjDwRefIdeal.τ).loc Cert.OutProjDwRefIdeal.main_arg2))

def preserves_MemQDx_MemQDxIdeal : Prop :=
  True

def algebraic_MemQDxIdeal_MemQDxRefIdeal [hMemQDxIdeal : Cert.MemQDxIdeal.Facts] [hMemQDxRefIdeal : Cert.MemQDxRefIdeal.Facts] : Prop :=
  ∀ (m : (ℓ : Loc Cert.MemQDxIdeal.nD Cert.MemQDxIdeal.τ Cert.MemQDxIdeal.sig) → Buf (Elt Ideal) ℓ) (g : Dev Cert.MemQDxIdeal.nD → PrngReg)
    (m' : (ℓ : Loc Cert.MemQDxRefIdeal.nD Cert.MemQDxRefIdeal.τ Cert.MemQDxRefIdeal.sig) → Buf (Elt Ideal) ℓ) (g' : Dev Cert.MemQDxRefIdeal.nD → PrngReg), Pre_MemQDxIdeal m →
    (∀ c : Dev Cert.MemQDxIdeal.nD,
      m' ((c.tc : Thread Cert.MemQDxRefIdeal.nD Cert.MemQDxRefIdeal.τ).loc Cert.MemQDxRefIdeal.main_arg0) = m ((c.tc : Thread Cert.MemQDxIdeal.nD Cert.MemQDxIdeal.τ).loc Cert.MemQDxIdeal.main_arg0)
      ∧ m' ((c.tc : Thread Cert.MemQDxRefIdeal.nD Cert.MemQDxRefIdeal.τ).loc Cert.MemQDxRefIdeal.main_arg1) = m ((c.tc : Thread Cert.MemQDxIdeal.nD Cert.MemQDxIdeal.τ).loc Cert.MemQDxIdeal.main_arg1)
      ∧ m' ((c.tc : Thread Cert.MemQDxRefIdeal.nD Cert.MemQDxRefIdeal.τ).loc Cert.MemQDxRefIdeal.main_arg2) = m ((c.tc : Thread Cert.MemQDxIdeal.nD Cert.MemQDxIdeal.τ).loc Cert.MemQDxIdeal.main_arg2)) →
    ∃ (v0 : (c : Dev Cert.MemQDxIdeal.nD) → Buf (Elt Ideal) ((c.tc : Thread Cert.MemQDxIdeal.nD Cert.MemQDxIdeal.τ).loc Cert.MemQDxIdeal.main_v2)),
      θ_run (Cert.MemQDxIdeal.defs (F := Ideal)) (onTc (τ := Cert.MemQDxIdeal.τ) (Cert.MemQDxIdeal.main (F := Ideal))) ⟨m, fun _ => 0, g⟩ (fun r => ∀ c : Dev Cert.MemQDxIdeal.nD,
          r.2.mem ((c.tc : Thread Cert.MemQDxIdeal.nD Cert.MemQDxIdeal.τ).loc Cert.MemQDxIdeal.main_v2) = v0 c
          ∧ r.2.mem ((c.tc : Thread Cert.MemQDxIdeal.nD Cert.MemQDxIdeal.τ).loc Cert.MemQDxIdeal.main_arg0) = m ((c.tc : Thread Cert.MemQDxIdeal.nD Cert.MemQDxIdeal.τ).loc Cert.MemQDxIdeal.main_arg0)
          ∧ r.2.mem ((c.tc : Thread Cert.MemQDxIdeal.nD Cert.MemQDxIdeal.τ).loc Cert.MemQDxIdeal.main_arg1) = m ((c.tc : Thread Cert.MemQDxIdeal.nD Cert.MemQDxIdeal.τ).loc Cert.MemQDxIdeal.main_arg1)
          ∧ r.2.mem ((c.tc : Thread Cert.MemQDxIdeal.nD Cert.MemQDxIdeal.τ).loc Cert.MemQDxIdeal.main_arg2) = m ((c.tc : Thread Cert.MemQDxIdeal.nD Cert.MemQDxIdeal.τ).loc Cert.MemQDxIdeal.main_arg2))
      ∧ θ_run (Cert.MemQDxRefIdeal.defs (F := Ideal)) (onTc (τ := Cert.MemQDxRefIdeal.τ) (Cert.MemQDxRefIdeal.main (F := Ideal))) ⟨m', fun _ => 0, g'⟩ (fun r => ∀ c : Dev Cert.MemQDxRefIdeal.nD,
          r.2.mem ((c.tc : Thread Cert.MemQDxRefIdeal.nD Cert.MemQDxRefIdeal.τ).loc Cert.MemQDxRefIdeal.main_v6) = v0 c
          ∧ r.2.mem ((c.tc : Thread Cert.MemQDxRefIdeal.nD Cert.MemQDxRefIdeal.τ).loc Cert.MemQDxRefIdeal.main_arg0) = m' ((c.tc : Thread Cert.MemQDxRefIdeal.nD Cert.MemQDxRefIdeal.τ).loc Cert.MemQDxRefIdeal.main_arg0)
          ∧ r.2.mem ((c.tc : Thread Cert.MemQDxRefIdeal.nD Cert.MemQDxRefIdeal.τ).loc Cert.MemQDxRefIdeal.main_arg1) = m' ((c.tc : Thread Cert.MemQDxRefIdeal.nD Cert.MemQDxRefIdeal.τ).loc Cert.MemQDxRefIdeal.main_arg1)
          ∧ r.2.mem ((c.tc : Thread Cert.MemQDxRefIdeal.nD Cert.MemQDxRefIdeal.τ).loc Cert.MemQDxRefIdeal.main_arg2) = m' ((c.tc : Thread Cert.MemQDxRefIdeal.nD Cert.MemQDxRefIdeal.τ).loc Cert.MemQDxRefIdeal.main_arg2))

def preserves_MemQDw_MemQDwIdeal : Prop :=
  True

def algebraic_MemQDwIdeal_MemQDwRefIdeal [hMemQDwIdeal : Cert.MemQDwIdeal.Facts] [hMemQDwRefIdeal : Cert.MemQDwRefIdeal.Facts] : Prop :=
  ∀ (m : (ℓ : Loc Cert.MemQDwIdeal.nD Cert.MemQDwIdeal.τ Cert.MemQDwIdeal.sig) → Buf (Elt Ideal) ℓ) (g : Dev Cert.MemQDwIdeal.nD → PrngReg)
    (m' : (ℓ : Loc Cert.MemQDwRefIdeal.nD Cert.MemQDwRefIdeal.τ Cert.MemQDwRefIdeal.sig) → Buf (Elt Ideal) ℓ) (g' : Dev Cert.MemQDwRefIdeal.nD → PrngReg), Pre_MemQDwIdeal m →
    (∀ c : Dev Cert.MemQDwIdeal.nD,
      m' ((c.tc : Thread Cert.MemQDwRefIdeal.nD Cert.MemQDwRefIdeal.τ).loc Cert.MemQDwRefIdeal.main_arg0) = m ((c.tc : Thread Cert.MemQDwIdeal.nD Cert.MemQDwIdeal.τ).loc Cert.MemQDwIdeal.main_arg0)
      ∧ m' ((c.tc : Thread Cert.MemQDwRefIdeal.nD Cert.MemQDwRefIdeal.τ).loc Cert.MemQDwRefIdeal.main_arg1) = m ((c.tc : Thread Cert.MemQDwIdeal.nD Cert.MemQDwIdeal.τ).loc Cert.MemQDwIdeal.main_arg1)
      ∧ m' ((c.tc : Thread Cert.MemQDwRefIdeal.nD Cert.MemQDwRefIdeal.τ).loc Cert.MemQDwRefIdeal.main_arg2) = m ((c.tc : Thread Cert.MemQDwIdeal.nD Cert.MemQDwIdeal.τ).loc Cert.MemQDwIdeal.main_arg2)) →
    ∃ (v0 : (c : Dev Cert.MemQDwIdeal.nD) → Buf (Elt Ideal) ((c.tc : Thread Cert.MemQDwIdeal.nD Cert.MemQDwIdeal.τ).loc Cert.MemQDwIdeal.main_v0)),
      θ_run (Cert.MemQDwIdeal.defs (F := Ideal)) (onTc (τ := Cert.MemQDwIdeal.τ) (Cert.MemQDwIdeal.main (F := Ideal))) ⟨m, fun _ => 0, g⟩ (fun r => ∀ c : Dev Cert.MemQDwIdeal.nD,
          r.2.mem ((c.tc : Thread Cert.MemQDwIdeal.nD Cert.MemQDwIdeal.τ).loc Cert.MemQDwIdeal.main_v0) = v0 c
          ∧ r.2.mem ((c.tc : Thread Cert.MemQDwIdeal.nD Cert.MemQDwIdeal.τ).loc Cert.MemQDwIdeal.main_arg0) = m ((c.tc : Thread Cert.MemQDwIdeal.nD Cert.MemQDwIdeal.τ).loc Cert.MemQDwIdeal.main_arg0)
          ∧ r.2.mem ((c.tc : Thread Cert.MemQDwIdeal.nD Cert.MemQDwIdeal.τ).loc Cert.MemQDwIdeal.main_arg1) = m ((c.tc : Thread Cert.MemQDwIdeal.nD Cert.MemQDwIdeal.τ).loc Cert.MemQDwIdeal.main_arg1)
          ∧ r.2.mem ((c.tc : Thread Cert.MemQDwIdeal.nD Cert.MemQDwIdeal.τ).loc Cert.MemQDwIdeal.main_arg2) = m ((c.tc : Thread Cert.MemQDwIdeal.nD Cert.MemQDwIdeal.τ).loc Cert.MemQDwIdeal.main_arg2))
      ∧ θ_run (Cert.MemQDwRefIdeal.defs (F := Ideal)) (onTc (τ := Cert.MemQDwRefIdeal.τ) (Cert.MemQDwRefIdeal.main (F := Ideal))) ⟨m', fun _ => 0, g'⟩ (fun r => ∀ c : Dev Cert.MemQDwRefIdeal.nD,
          r.2.mem ((c.tc : Thread Cert.MemQDwRefIdeal.nD Cert.MemQDwRefIdeal.τ).loc Cert.MemQDwRefIdeal.main_v6) = v0 c
          ∧ r.2.mem ((c.tc : Thread Cert.MemQDwRefIdeal.nD Cert.MemQDwRefIdeal.τ).loc Cert.MemQDwRefIdeal.main_arg0) = m' ((c.tc : Thread Cert.MemQDwRefIdeal.nD Cert.MemQDwRefIdeal.τ).loc Cert.MemQDwRefIdeal.main_arg0)
          ∧ r.2.mem ((c.tc : Thread Cert.MemQDwRefIdeal.nD Cert.MemQDwRefIdeal.τ).loc Cert.MemQDwRefIdeal.main_arg1) = m' ((c.tc : Thread Cert.MemQDwRefIdeal.nD Cert.MemQDwRefIdeal.τ).loc Cert.MemQDwRefIdeal.main_arg1)
          ∧ r.2.mem ((c.tc : Thread Cert.MemQDwRefIdeal.nD Cert.MemQDwRefIdeal.τ).loc Cert.MemQDwRefIdeal.main_arg2) = m' ((c.tc : Thread Cert.MemQDwRefIdeal.nD Cert.MemQDwRefIdeal.τ).loc Cert.MemQDwRefIdeal.main_arg2))

def preserves_MemODx_MemODxIdeal : Prop :=
  True

def algebraic_MemODxIdeal_MemODxRefIdeal [hMemODxIdeal : Cert.MemODxIdeal.Facts] [hMemODxRefIdeal : Cert.MemODxRefIdeal.Facts] : Prop :=
  ∀ (m : (ℓ : Loc Cert.MemODxIdeal.nD Cert.MemODxIdeal.τ Cert.MemODxIdeal.sig) → Buf (Elt Ideal) ℓ) (g : Dev Cert.MemODxIdeal.nD → PrngReg)
    (m' : (ℓ : Loc Cert.MemODxRefIdeal.nD Cert.MemODxRefIdeal.τ Cert.MemODxRefIdeal.sig) → Buf (Elt Ideal) ℓ) (g' : Dev Cert.MemODxRefIdeal.nD → PrngReg), Pre_MemODxIdeal m →
    (∀ c : Dev Cert.MemODxIdeal.nD,
      m' ((c.tc : Thread Cert.MemODxRefIdeal.nD Cert.MemODxRefIdeal.τ).loc Cert.MemODxRefIdeal.main_arg0) = m ((c.tc : Thread Cert.MemODxIdeal.nD Cert.MemODxIdeal.τ).loc Cert.MemODxIdeal.main_arg0)
      ∧ m' ((c.tc : Thread Cert.MemODxRefIdeal.nD Cert.MemODxRefIdeal.τ).loc Cert.MemODxRefIdeal.main_arg1) = m ((c.tc : Thread Cert.MemODxIdeal.nD Cert.MemODxIdeal.τ).loc Cert.MemODxIdeal.main_arg1)
      ∧ m' ((c.tc : Thread Cert.MemODxRefIdeal.nD Cert.MemODxRefIdeal.τ).loc Cert.MemODxRefIdeal.main_arg2) = m ((c.tc : Thread Cert.MemODxIdeal.nD Cert.MemODxIdeal.τ).loc Cert.MemODxIdeal.main_arg2)) →
    ∃ (v0 : (c : Dev Cert.MemODxIdeal.nD) → Buf (Elt Ideal) ((c.tc : Thread Cert.MemODxIdeal.nD Cert.MemODxIdeal.τ).loc Cert.MemODxIdeal.main_v3)),
      θ_run (Cert.MemODxIdeal.defs (F := Ideal)) (onTc (τ := Cert.MemODxIdeal.τ) (Cert.MemODxIdeal.main (F := Ideal))) ⟨m, fun _ => 0, g⟩ (fun r => ∀ c : Dev Cert.MemODxIdeal.nD,
          r.2.mem ((c.tc : Thread Cert.MemODxIdeal.nD Cert.MemODxIdeal.τ).loc Cert.MemODxIdeal.main_v3) = v0 c
          ∧ r.2.mem ((c.tc : Thread Cert.MemODxIdeal.nD Cert.MemODxIdeal.τ).loc Cert.MemODxIdeal.main_arg0) = m ((c.tc : Thread Cert.MemODxIdeal.nD Cert.MemODxIdeal.τ).loc Cert.MemODxIdeal.main_arg0)
          ∧ r.2.mem ((c.tc : Thread Cert.MemODxIdeal.nD Cert.MemODxIdeal.τ).loc Cert.MemODxIdeal.main_arg1) = m ((c.tc : Thread Cert.MemODxIdeal.nD Cert.MemODxIdeal.τ).loc Cert.MemODxIdeal.main_arg1)
          ∧ r.2.mem ((c.tc : Thread Cert.MemODxIdeal.nD Cert.MemODxIdeal.τ).loc Cert.MemODxIdeal.main_arg2) = m ((c.tc : Thread Cert.MemODxIdeal.nD Cert.MemODxIdeal.τ).loc Cert.MemODxIdeal.main_arg2))
      ∧ θ_run (Cert.MemODxRefIdeal.defs (F := Ideal)) (onTc (τ := Cert.MemODxRefIdeal.τ) (Cert.MemODxRefIdeal.main (F := Ideal))) ⟨m', fun _ => 0, g'⟩ (fun r => ∀ c : Dev Cert.MemODxRefIdeal.nD,
          r.2.mem ((c.tc : Thread Cert.MemODxRefIdeal.nD Cert.MemODxRefIdeal.τ).loc Cert.MemODxRefIdeal.main_v6) = v0 c
          ∧ r.2.mem ((c.tc : Thread Cert.MemODxRefIdeal.nD Cert.MemODxRefIdeal.τ).loc Cert.MemODxRefIdeal.main_arg0) = m' ((c.tc : Thread Cert.MemODxRefIdeal.nD Cert.MemODxRefIdeal.τ).loc Cert.MemODxRefIdeal.main_arg0)
          ∧ r.2.mem ((c.tc : Thread Cert.MemODxRefIdeal.nD Cert.MemODxRefIdeal.τ).loc Cert.MemODxRefIdeal.main_arg1) = m' ((c.tc : Thread Cert.MemODxRefIdeal.nD Cert.MemODxRefIdeal.τ).loc Cert.MemODxRefIdeal.main_arg1)
          ∧ r.2.mem ((c.tc : Thread Cert.MemODxRefIdeal.nD Cert.MemODxRefIdeal.τ).loc Cert.MemODxRefIdeal.main_arg2) = m' ((c.tc : Thread Cert.MemODxRefIdeal.nD Cert.MemODxRefIdeal.τ).loc Cert.MemODxRefIdeal.main_arg2))

def preserves_MemODw_MemODwIdeal : Prop :=
  True

def algebraic_MemODwIdeal_MemODwRefIdeal [hMemODwIdeal : Cert.MemODwIdeal.Facts] [hMemODwRefIdeal : Cert.MemODwRefIdeal.Facts] : Prop :=
  ∀ (m : (ℓ : Loc Cert.MemODwIdeal.nD Cert.MemODwIdeal.τ Cert.MemODwIdeal.sig) → Buf (Elt Ideal) ℓ) (g : Dev Cert.MemODwIdeal.nD → PrngReg)
    (m' : (ℓ : Loc Cert.MemODwRefIdeal.nD Cert.MemODwRefIdeal.τ Cert.MemODwRefIdeal.sig) → Buf (Elt Ideal) ℓ) (g' : Dev Cert.MemODwRefIdeal.nD → PrngReg), Pre_MemODwIdeal m →
    (∀ c : Dev Cert.MemODwIdeal.nD,
      m' ((c.tc : Thread Cert.MemODwRefIdeal.nD Cert.MemODwRefIdeal.τ).loc Cert.MemODwRefIdeal.main_arg0) = m ((c.tc : Thread Cert.MemODwIdeal.nD Cert.MemODwIdeal.τ).loc Cert.MemODwIdeal.main_arg0)
      ∧ m' ((c.tc : Thread Cert.MemODwRefIdeal.nD Cert.MemODwRefIdeal.τ).loc Cert.MemODwRefIdeal.main_arg1) = m ((c.tc : Thread Cert.MemODwIdeal.nD Cert.MemODwIdeal.τ).loc Cert.MemODwIdeal.main_arg1)
      ∧ m' ((c.tc : Thread Cert.MemODwRefIdeal.nD Cert.MemODwRefIdeal.τ).loc Cert.MemODwRefIdeal.main_arg2) = m ((c.tc : Thread Cert.MemODwIdeal.nD Cert.MemODwIdeal.τ).loc Cert.MemODwIdeal.main_arg2)) →
    ∃ (v0 : (c : Dev Cert.MemODwIdeal.nD) → Buf (Elt Ideal) ((c.tc : Thread Cert.MemODwIdeal.nD Cert.MemODwIdeal.τ).loc Cert.MemODwIdeal.main_v0)),
      θ_run (Cert.MemODwIdeal.defs (F := Ideal)) (onTc (τ := Cert.MemODwIdeal.τ) (Cert.MemODwIdeal.main (F := Ideal))) ⟨m, fun _ => 0, g⟩ (fun r => ∀ c : Dev Cert.MemODwIdeal.nD,
          r.2.mem ((c.tc : Thread Cert.MemODwIdeal.nD Cert.MemODwIdeal.τ).loc Cert.MemODwIdeal.main_v0) = v0 c
          ∧ r.2.mem ((c.tc : Thread Cert.MemODwIdeal.nD Cert.MemODwIdeal.τ).loc Cert.MemODwIdeal.main_arg0) = m ((c.tc : Thread Cert.MemODwIdeal.nD Cert.MemODwIdeal.τ).loc Cert.MemODwIdeal.main_arg0)
          ∧ r.2.mem ((c.tc : Thread Cert.MemODwIdeal.nD Cert.MemODwIdeal.τ).loc Cert.MemODwIdeal.main_arg1) = m ((c.tc : Thread Cert.MemODwIdeal.nD Cert.MemODwIdeal.τ).loc Cert.MemODwIdeal.main_arg1)
          ∧ r.2.mem ((c.tc : Thread Cert.MemODwIdeal.nD Cert.MemODwIdeal.τ).loc Cert.MemODwIdeal.main_arg2) = m ((c.tc : Thread Cert.MemODwIdeal.nD Cert.MemODwIdeal.τ).loc Cert.MemODwIdeal.main_arg2))
      ∧ θ_run (Cert.MemODwRefIdeal.defs (F := Ideal)) (onTc (τ := Cert.MemODwRefIdeal.τ) (Cert.MemODwRefIdeal.main (F := Ideal))) ⟨m', fun _ => 0, g'⟩ (fun r => ∀ c : Dev Cert.MemODwRefIdeal.nD,
          r.2.mem ((c.tc : Thread Cert.MemODwRefIdeal.nD Cert.MemODwRefIdeal.τ).loc Cert.MemODwRefIdeal.main_v7) = v0 c
          ∧ r.2.mem ((c.tc : Thread Cert.MemODwRefIdeal.nD Cert.MemODwRefIdeal.τ).loc Cert.MemODwRefIdeal.main_arg0) = m' ((c.tc : Thread Cert.MemODwRefIdeal.nD Cert.MemODwRefIdeal.τ).loc Cert.MemODwRefIdeal.main_arg0)
          ∧ r.2.mem ((c.tc : Thread Cert.MemODwRefIdeal.nD Cert.MemODwRefIdeal.τ).loc Cert.MemODwRefIdeal.main_arg1) = m' ((c.tc : Thread Cert.MemODwRefIdeal.nD Cert.MemODwRefIdeal.τ).loc Cert.MemODwRefIdeal.main_arg1)
          ∧ r.2.mem ((c.tc : Thread Cert.MemODwRefIdeal.nD Cert.MemODwRefIdeal.τ).loc Cert.MemODwRefIdeal.main_arg2) = m' ((c.tc : Thread Cert.MemODwRefIdeal.nD Cert.MemODwRefIdeal.τ).loc Cert.MemODwRefIdeal.main_arg2))

def preserves_MemKvDx_MemKvDxIdeal : Prop :=
  True

def algebraic_MemKvDxIdeal_MemKvDxRefIdeal [hMemKvDxIdeal : Cert.MemKvDxIdeal.Facts] [hMemKvDxRefIdeal : Cert.MemKvDxRefIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg)
    (m' : (ℓ : Loc Cert.MemKvDxRefIdeal.nD Cert.MemKvDxRefIdeal.τ Cert.MemKvDxRefIdeal.sig) → Buf (Elt Ideal) ℓ) (g' : Dev Cert.MemKvDxRefIdeal.nD → PrngReg), Pre_MemKvDxIdeal m →
    (∀ c : Dev Cert.MemKvDxIdeal.nD,
      m' ((c.tc : Thread Cert.MemKvDxRefIdeal.nD Cert.MemKvDxRefIdeal.τ).loc Cert.MemKvDxRefIdeal.main_arg0) = m ((c.tc : Thread Cert.MemKvDxIdeal.nD Cert.MemKvDxIdeal.τ).loc Cert.MemKvDxIdeal.main_arg0)
      ∧ m' ((c.tc : Thread Cert.MemKvDxRefIdeal.nD Cert.MemKvDxRefIdeal.τ).loc Cert.MemKvDxRefIdeal.main_arg1) = m ((c.tc : Thread Cert.MemKvDxIdeal.nD Cert.MemKvDxIdeal.τ).loc Cert.MemKvDxIdeal.main_arg1)
      ∧ m' ((c.tc : Thread Cert.MemKvDxRefIdeal.nD Cert.MemKvDxRefIdeal.τ).loc Cert.MemKvDxRefIdeal.main_arg2) = m ((c.tc : Thread Cert.MemKvDxIdeal.nD Cert.MemKvDxIdeal.τ).loc Cert.MemKvDxIdeal.main_arg2)) →
    ∃ (v0 : (c : Dev Cert.MemKvDxIdeal.nD) → Buf (Elt Ideal) ((c.tc : Thread Cert.MemKvDxIdeal.nD Cert.MemKvDxIdeal.τ).loc Cert.MemKvDxIdeal.main_v2)),
      θ_run (Cert.MemKvDxIdeal.defs (F := Ideal)) (onTc (τ := Cert.MemKvDxIdeal.τ) (Cert.MemKvDxIdeal.main (F := Ideal))) ⟨m, fun _ => 0, g⟩ (fun r => ∀ c : Dev Cert.MemKvDxIdeal.nD,
          r.2.mem ((c.tc : Thread Cert.MemKvDxIdeal.nD Cert.MemKvDxIdeal.τ).loc Cert.MemKvDxIdeal.main_v2) = v0 c
          ∧ r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
          ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1)
          ∧ r.2.mem ((c.tc : Thread Cert.MemKvDxIdeal.nD Cert.MemKvDxIdeal.τ).loc Cert.MemKvDxIdeal.main_arg2) = m ((c.tc : Thread Cert.MemKvDxIdeal.nD Cert.MemKvDxIdeal.τ).loc Cert.MemKvDxIdeal.main_arg2))
      ∧ θ_run (Cert.MemKvDxRefIdeal.defs (F := Ideal)) (onTc (τ := Cert.MemKvDxRefIdeal.τ) (Cert.MemKvDxRefIdeal.main (F := Ideal))) ⟨m', fun _ => 0, g'⟩ (fun r => ∀ c : Dev Cert.MemKvDxRefIdeal.nD,
          r.2.mem ((c.tc : Thread Cert.MemKvDxRefIdeal.nD Cert.MemKvDxRefIdeal.τ).loc Cert.MemKvDxRefIdeal.main_v4) = v0 c
          ∧ r.2.mem ((c.tc : Thread Cert.MemKvDxRefIdeal.nD Cert.MemKvDxRefIdeal.τ).loc Cert.MemKvDxRefIdeal.main_arg0) = m' ((c.tc : Thread Cert.MemKvDxRefIdeal.nD Cert.MemKvDxRefIdeal.τ).loc Cert.MemKvDxRefIdeal.main_arg0)
          ∧ r.2.mem ((c.tc : Thread Cert.MemKvDxRefIdeal.nD Cert.MemKvDxRefIdeal.τ).loc Cert.MemKvDxRefIdeal.main_arg1) = m' ((c.tc : Thread Cert.MemKvDxRefIdeal.nD Cert.MemKvDxRefIdeal.τ).loc Cert.MemKvDxRefIdeal.main_arg1)
          ∧ r.2.mem ((c.tc : Thread Cert.MemKvDxRefIdeal.nD Cert.MemKvDxRefIdeal.τ).loc Cert.MemKvDxRefIdeal.main_arg2) = m' ((c.tc : Thread Cert.MemKvDxRefIdeal.nD Cert.MemKvDxRefIdeal.τ).loc Cert.MemKvDxRefIdeal.main_arg2))

def preserves_MemKvDw_MemKvDwIdeal : Prop :=
  True

def algebraic_MemKvDwIdeal_MemKvDwRefIdeal [hMemKvDwIdeal : Cert.MemKvDwIdeal.Facts] [hMemKvDwRefIdeal : Cert.MemKvDwRefIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg)
    (m' : (ℓ : Loc Cert.MemKvDwRefIdeal.nD Cert.MemKvDwRefIdeal.τ Cert.MemKvDwRefIdeal.sig) → Buf (Elt Ideal) ℓ) (g' : Dev Cert.MemKvDwRefIdeal.nD → PrngReg), Pre_MemKvDwIdeal m →
    (∀ c : Dev Cert.MemKvDwIdeal.nD,
      m' ((c.tc : Thread Cert.MemKvDwRefIdeal.nD Cert.MemKvDwRefIdeal.τ).loc Cert.MemKvDwRefIdeal.main_arg0) = m ((c.tc : Thread Cert.MemKvDwIdeal.nD Cert.MemKvDwIdeal.τ).loc Cert.MemKvDwIdeal.main_arg0)
      ∧ m' ((c.tc : Thread Cert.MemKvDwRefIdeal.nD Cert.MemKvDwRefIdeal.τ).loc Cert.MemKvDwRefIdeal.main_arg1) = m ((c.tc : Thread Cert.MemKvDwIdeal.nD Cert.MemKvDwIdeal.τ).loc Cert.MemKvDwIdeal.main_arg1)
      ∧ m' ((c.tc : Thread Cert.MemKvDwRefIdeal.nD Cert.MemKvDwRefIdeal.τ).loc Cert.MemKvDwRefIdeal.main_arg2) = m ((c.tc : Thread Cert.MemKvDwIdeal.nD Cert.MemKvDwIdeal.τ).loc Cert.MemKvDwIdeal.main_arg2)) →
    ∃ (v0 : (c : Dev Cert.MemKvDwIdeal.nD) → Buf (Elt Ideal) ((c.tc : Thread Cert.MemKvDwIdeal.nD Cert.MemKvDwIdeal.τ).loc Cert.MemKvDwIdeal.main_v0)),
      θ_run (Cert.MemKvDwIdeal.defs (F := Ideal)) (onTc (τ := Cert.MemKvDwIdeal.τ) (Cert.MemKvDwIdeal.main (F := Ideal))) ⟨m, fun _ => 0, g⟩ (fun r => ∀ c : Dev Cert.MemKvDwIdeal.nD,
          r.2.mem ((c.tc : Thread Cert.MemKvDwIdeal.nD Cert.MemKvDwIdeal.τ).loc Cert.MemKvDwIdeal.main_v0) = v0 c
          ∧ r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
          ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1)
          ∧ r.2.mem ((c.tc : Thread Cert.MemKvDwIdeal.nD Cert.MemKvDwIdeal.τ).loc Cert.MemKvDwIdeal.main_arg2) = m ((c.tc : Thread Cert.MemKvDwIdeal.nD Cert.MemKvDwIdeal.τ).loc Cert.MemKvDwIdeal.main_arg2))
      ∧ θ_run (Cert.MemKvDwRefIdeal.defs (F := Ideal)) (onTc (τ := Cert.MemKvDwRefIdeal.τ) (Cert.MemKvDwRefIdeal.main (F := Ideal))) ⟨m', fun _ => 0, g'⟩ (fun r => ∀ c : Dev Cert.MemKvDwRefIdeal.nD,
          r.2.mem ((c.tc : Thread Cert.MemKvDwRefIdeal.nD Cert.MemKvDwRefIdeal.τ).loc Cert.MemKvDwRefIdeal.main_v5) = v0 c
          ∧ r.2.mem ((c.tc : Thread Cert.MemKvDwRefIdeal.nD Cert.MemKvDwRefIdeal.τ).loc Cert.MemKvDwRefIdeal.main_arg0) = m' ((c.tc : Thread Cert.MemKvDwRefIdeal.nD Cert.MemKvDwRefIdeal.τ).loc Cert.MemKvDwRefIdeal.main_arg0)
          ∧ r.2.mem ((c.tc : Thread Cert.MemKvDwRefIdeal.nD Cert.MemKvDwRefIdeal.τ).loc Cert.MemKvDwRefIdeal.main_arg1) = m' ((c.tc : Thread Cert.MemKvDwRefIdeal.nD Cert.MemKvDwRefIdeal.τ).loc Cert.MemKvDwRefIdeal.main_arg1)
          ∧ r.2.mem ((c.tc : Thread Cert.MemKvDwRefIdeal.nD Cert.MemKvDwRefIdeal.τ).loc Cert.MemKvDwRefIdeal.main_arg2) = m' ((c.tc : Thread Cert.MemKvDwRefIdeal.nD Cert.MemKvDwRefIdeal.τ).loc Cert.MemKvDwRefIdeal.main_arg2))

def preserves_BranchProj_BranchProjIdeal : Prop :=
  True

def algebraic_BranchProjIdeal_BranchProjRefIdeal [hBranchProjIdeal : Cert.BranchProjIdeal.Facts] [hBranchProjRefIdeal : Cert.BranchProjRefIdeal.Facts] : Prop :=
  ∀ (m : (ℓ : Loc Cert.BranchProjIdeal.nD Cert.BranchProjIdeal.τ Cert.BranchProjIdeal.sig) → Buf (Elt Ideal) ℓ) (g : Dev Cert.BranchProjIdeal.nD → PrngReg)
    (m' : (ℓ : Loc Cert.BranchProjRefIdeal.nD Cert.BranchProjRefIdeal.τ Cert.BranchProjRefIdeal.sig) → Buf (Elt Ideal) ℓ) (g' : Dev Cert.BranchProjRefIdeal.nD → PrngReg), Pre_BranchProjIdeal m →
    (∀ c : Dev Cert.BranchProjIdeal.nD,
      m' ((c.tc : Thread Cert.BranchProjRefIdeal.nD Cert.BranchProjRefIdeal.τ).loc Cert.BranchProjRefIdeal.main_arg0) = m ((c.tc : Thread Cert.BranchProjIdeal.nD Cert.BranchProjIdeal.τ).loc Cert.BranchProjIdeal.main_arg0)
      ∧ m' ((c.tc : Thread Cert.BranchProjRefIdeal.nD Cert.BranchProjRefIdeal.τ).loc Cert.BranchProjRefIdeal.main_arg1) = m ((c.tc : Thread Cert.BranchProjIdeal.nD Cert.BranchProjIdeal.τ).loc Cert.BranchProjIdeal.main_arg1)) →
    ∃ (v0 : (c : Dev Cert.BranchProjIdeal.nD) → Buf (Elt Ideal) ((c.tc : Thread Cert.BranchProjIdeal.nD Cert.BranchProjIdeal.τ).loc Cert.BranchProjIdeal.main_v2)),
      θ_run (Cert.BranchProjIdeal.defs (F := Ideal)) (onTc (τ := Cert.BranchProjIdeal.τ) (Cert.BranchProjIdeal.main (F := Ideal))) ⟨m, fun _ => 0, g⟩ (fun r => ∀ c : Dev Cert.BranchProjIdeal.nD,
          r.2.mem ((c.tc : Thread Cert.BranchProjIdeal.nD Cert.BranchProjIdeal.τ).loc Cert.BranchProjIdeal.main_v2) = v0 c
          ∧ r.2.mem ((c.tc : Thread Cert.BranchProjIdeal.nD Cert.BranchProjIdeal.τ).loc Cert.BranchProjIdeal.main_arg0) = m ((c.tc : Thread Cert.BranchProjIdeal.nD Cert.BranchProjIdeal.τ).loc Cert.BranchProjIdeal.main_arg0)
          ∧ r.2.mem ((c.tc : Thread Cert.BranchProjIdeal.nD Cert.BranchProjIdeal.τ).loc Cert.BranchProjIdeal.main_arg1) = m ((c.tc : Thread Cert.BranchProjIdeal.nD Cert.BranchProjIdeal.τ).loc Cert.BranchProjIdeal.main_arg1))
      ∧ θ_run (Cert.BranchProjRefIdeal.defs (F := Ideal)) (onTc (τ := Cert.BranchProjRefIdeal.τ) (Cert.BranchProjRefIdeal.main (F := Ideal))) ⟨m', fun _ => 0, g'⟩ (fun r => ∀ c : Dev Cert.BranchProjRefIdeal.nD,
          r.2.mem ((c.tc : Thread Cert.BranchProjRefIdeal.nD Cert.BranchProjRefIdeal.τ).loc Cert.BranchProjRefIdeal.main_v5) = v0 c
          ∧ r.2.mem ((c.tc : Thread Cert.BranchProjRefIdeal.nD Cert.BranchProjRefIdeal.τ).loc Cert.BranchProjRefIdeal.main_arg0) = m' ((c.tc : Thread Cert.BranchProjRefIdeal.nD Cert.BranchProjRefIdeal.τ).loc Cert.BranchProjRefIdeal.main_arg0)
          ∧ r.2.mem ((c.tc : Thread Cert.BranchProjRefIdeal.nD Cert.BranchProjRefIdeal.τ).loc Cert.BranchProjRefIdeal.main_arg1) = m' ((c.tc : Thread Cert.BranchProjRefIdeal.nD Cert.BranchProjRefIdeal.τ).loc Cert.BranchProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_MemQ_MemQIdeal : Prop :=
  True

def algebraic_MemQIdeal_MemQRefIdeal [hMemQIdeal : Cert.MemQIdeal.Facts] [hMemQRefIdeal : Cert.MemQRefIdeal.Facts] : Prop :=
  ∀ (m : (ℓ : Loc Cert.MemQIdeal.nD Cert.MemQIdeal.τ Cert.MemQIdeal.sig) → Buf (Elt Ideal) ℓ) (g : Dev Cert.MemQIdeal.nD → PrngReg)
    (m' : (ℓ : Loc Cert.MemQRefIdeal.nD Cert.MemQRefIdeal.τ Cert.MemQRefIdeal.sig) → Buf (Elt Ideal) ℓ) (g' : Dev Cert.MemQRefIdeal.nD → PrngReg), Pre_MemQIdeal m →
    (∀ c : Dev Cert.MemQIdeal.nD,
      m' ((c.tc : Thread Cert.MemQRefIdeal.nD Cert.MemQRefIdeal.τ).loc Cert.MemQRefIdeal.main_arg0) = m ((c.tc : Thread Cert.MemQIdeal.nD Cert.MemQIdeal.τ).loc Cert.MemQIdeal.main_arg0)
      ∧ m' ((c.tc : Thread Cert.MemQRefIdeal.nD Cert.MemQRefIdeal.τ).loc Cert.MemQRefIdeal.main_arg1) = m ((c.tc : Thread Cert.MemQIdeal.nD Cert.MemQIdeal.τ).loc Cert.MemQIdeal.main_arg1)) →
    ∃ (v0 : (c : Dev Cert.MemQIdeal.nD) → Buf (Elt Ideal) ((c.tc : Thread Cert.MemQIdeal.nD Cert.MemQIdeal.τ).loc Cert.MemQIdeal.main_v2)),
      θ_run (Cert.MemQIdeal.defs (F := Ideal)) (onTc (τ := Cert.MemQIdeal.τ) (Cert.MemQIdeal.main (F := Ideal))) ⟨m, fun _ => 0, g⟩ (fun r => ∀ c : Dev Cert.MemQIdeal.nD,
          r.2.mem ((c.tc : Thread Cert.MemQIdeal.nD Cert.MemQIdeal.τ).loc Cert.MemQIdeal.main_v2) = v0 c
          ∧ r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
          ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1))
      ∧ θ_run (Cert.MemQRefIdeal.defs (F := Ideal)) (onTc (τ := Cert.MemQRefIdeal.τ) (Cert.MemQRefIdeal.main (F := Ideal))) ⟨m', fun _ => 0, g'⟩ (fun r => ∀ c : Dev Cert.MemQRefIdeal.nD,
          r.2.mem ((c.tc : Thread Cert.MemQRefIdeal.nD Cert.MemQRefIdeal.τ).loc Cert.MemQRefIdeal.main_v1) = v0 c
          ∧ r.2.mem ((c.tc : Thread Cert.MemQRefIdeal.nD Cert.MemQRefIdeal.τ).loc Cert.MemQRefIdeal.main_arg0) = m' ((c.tc : Thread Cert.MemQRefIdeal.nD Cert.MemQRefIdeal.τ).loc Cert.MemQRefIdeal.main_arg0)
          ∧ r.2.mem ((c.tc : Thread Cert.MemQRefIdeal.nD Cert.MemQRefIdeal.τ).loc Cert.MemQRefIdeal.main_arg1) = m' ((c.tc : Thread Cert.MemQRefIdeal.nD Cert.MemQRefIdeal.τ).loc Cert.MemQRefIdeal.main_arg1))

def preserves_MemO_MemOIdeal : Prop :=
  True

def algebraic_MemOIdeal_MemORefIdeal [hMemOIdeal : Cert.MemOIdeal.Facts] [hMemORefIdeal : Cert.MemORefIdeal.Facts] : Prop :=
  ∀ (m : (ℓ : Loc Cert.MemOIdeal.nD Cert.MemOIdeal.τ Cert.MemOIdeal.sig) → Buf (Elt Ideal) ℓ) (g : Dev Cert.MemOIdeal.nD → PrngReg)
    (m' : (ℓ : Loc Cert.MemORefIdeal.nD Cert.MemORefIdeal.τ Cert.MemORefIdeal.sig) → Buf (Elt Ideal) ℓ) (g' : Dev Cert.MemORefIdeal.nD → PrngReg), Pre_MemOIdeal m →
    (∀ c : Dev Cert.MemOIdeal.nD,
      m' ((c.tc : Thread Cert.MemORefIdeal.nD Cert.MemORefIdeal.τ).loc Cert.MemORefIdeal.main_arg0) = m ((c.tc : Thread Cert.MemOIdeal.nD Cert.MemOIdeal.τ).loc Cert.MemOIdeal.main_arg0)
      ∧ m' ((c.tc : Thread Cert.MemORefIdeal.nD Cert.MemORefIdeal.τ).loc Cert.MemORefIdeal.main_arg1) = m ((c.tc : Thread Cert.MemOIdeal.nD Cert.MemOIdeal.τ).loc Cert.MemOIdeal.main_arg1)) →
    ∃ (v0 : (c : Dev Cert.MemOIdeal.nD) → Buf (Elt Ideal) ((c.tc : Thread Cert.MemOIdeal.nD Cert.MemOIdeal.τ).loc Cert.MemOIdeal.main_v3)),
      θ_run (Cert.MemOIdeal.defs (F := Ideal)) (onTc (τ := Cert.MemOIdeal.τ) (Cert.MemOIdeal.main (F := Ideal))) ⟨m, fun _ => 0, g⟩ (fun r => ∀ c : Dev Cert.MemOIdeal.nD,
          r.2.mem ((c.tc : Thread Cert.MemOIdeal.nD Cert.MemOIdeal.τ).loc Cert.MemOIdeal.main_v3) = v0 c
          ∧ r.2.mem ((c.tc : Thread Cert.MemOIdeal.nD Cert.MemOIdeal.τ).loc Cert.MemOIdeal.main_arg0) = m ((c.tc : Thread Cert.MemOIdeal.nD Cert.MemOIdeal.τ).loc Cert.MemOIdeal.main_arg0)
          ∧ r.2.mem ((c.tc : Thread Cert.MemOIdeal.nD Cert.MemOIdeal.τ).loc Cert.MemOIdeal.main_arg1) = m ((c.tc : Thread Cert.MemOIdeal.nD Cert.MemOIdeal.τ).loc Cert.MemOIdeal.main_arg1))
      ∧ θ_run (Cert.MemORefIdeal.defs (F := Ideal)) (onTc (τ := Cert.MemORefIdeal.τ) (Cert.MemORefIdeal.main (F := Ideal))) ⟨m', fun _ => 0, g'⟩ (fun r => ∀ c : Dev Cert.MemORefIdeal.nD,
          r.2.mem ((c.tc : Thread Cert.MemORefIdeal.nD Cert.MemORefIdeal.τ).loc Cert.MemORefIdeal.main_v2) = v0 c
          ∧ r.2.mem ((c.tc : Thread Cert.MemORefIdeal.nD Cert.MemORefIdeal.τ).loc Cert.MemORefIdeal.main_arg0) = m' ((c.tc : Thread Cert.MemORefIdeal.nD Cert.MemORefIdeal.τ).loc Cert.MemORefIdeal.main_arg0)
          ∧ r.2.mem ((c.tc : Thread Cert.MemORefIdeal.nD Cert.MemORefIdeal.τ).loc Cert.MemORefIdeal.main_arg1) = m' ((c.tc : Thread Cert.MemORefIdeal.nD Cert.MemORefIdeal.τ).loc Cert.MemORefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_NormInBwd_NormInBwdIdeal : Prop :=
  True

def algebraic_NormInBwdIdeal_NormInBwdRefIdeal [hNormInBwdIdeal : Cert.NormInBwdIdeal.Facts] [hNormInBwdRefIdeal : Cert.NormInBwdRefIdeal.Facts] : Prop :=
  ∀ (m : (ℓ : Loc Cert.NormInBwdIdeal.nD Cert.NormInBwdIdeal.τ Cert.NormInBwdIdeal.sig) → Buf (Elt Ideal) ℓ) (g : Dev Cert.NormInBwdIdeal.nD → PrngReg)
    (m' : (ℓ : Loc Cert.NormInBwdRefIdeal.nD Cert.NormInBwdRefIdeal.τ Cert.NormInBwdRefIdeal.sig) → Buf (Elt Ideal) ℓ) (g' : Dev Cert.NormInBwdRefIdeal.nD → PrngReg), Pre_NormInBwdIdeal m →
    (∀ c : Dev Cert.NormInBwdIdeal.nD,
      m' ((c.tc : Thread Cert.NormInBwdRefIdeal.nD Cert.NormInBwdRefIdeal.τ).loc Cert.NormInBwdRefIdeal.main_arg0) = m ((c.tc : Thread Cert.NormInBwdIdeal.nD Cert.NormInBwdIdeal.τ).loc Cert.NormInBwdIdeal.main_arg0)
      ∧ m' ((c.tc : Thread Cert.NormInBwdRefIdeal.nD Cert.NormInBwdRefIdeal.τ).loc Cert.NormInBwdRefIdeal.main_arg1) = m ((c.tc : Thread Cert.NormInBwdIdeal.nD Cert.NormInBwdIdeal.τ).loc Cert.NormInBwdIdeal.main_arg1)
      ∧ m' ((c.tc : Thread Cert.NormInBwdRefIdeal.nD Cert.NormInBwdRefIdeal.τ).loc Cert.NormInBwdRefIdeal.main_arg2) = m ((c.tc : Thread Cert.NormInBwdIdeal.nD Cert.NormInBwdIdeal.τ).loc Cert.NormInBwdIdeal.main_arg2)
      ∧ m' ((c.tc : Thread Cert.NormInBwdRefIdeal.nD Cert.NormInBwdRefIdeal.τ).loc Cert.NormInBwdRefIdeal.main_arg3) = m ((c.tc : Thread Cert.NormInBwdIdeal.nD Cert.NormInBwdIdeal.τ).loc Cert.NormInBwdIdeal.main_arg3)) →
    ∃ (v0 : (c : Dev Cert.NormInBwdIdeal.nD) → Buf (Elt Ideal) ((c.tc : Thread Cert.NormInBwdIdeal.nD Cert.NormInBwdIdeal.τ).loc Cert.NormInBwdIdeal.main_v1_0)) (v1 : (c : Dev Cert.NormInBwdIdeal.nD) → Buf (Elt Ideal) ((c.tc : Thread Cert.NormInBwdIdeal.nD Cert.NormInBwdIdeal.τ).loc Cert.NormInBwdIdeal.main_v1_1)),
      θ_run (Cert.NormInBwdIdeal.defs (F := Ideal)) (onTc (τ := Cert.NormInBwdIdeal.τ) (Cert.NormInBwdIdeal.main (F := Ideal))) ⟨m, fun _ => 0, g⟩ (fun r => ∀ c : Dev Cert.NormInBwdIdeal.nD,
          r.2.mem ((c.tc : Thread Cert.NormInBwdIdeal.nD Cert.NormInBwdIdeal.τ).loc Cert.NormInBwdIdeal.main_v1_0) = v0 c
          ∧ r.2.mem ((c.tc : Thread Cert.NormInBwdIdeal.nD Cert.NormInBwdIdeal.τ).loc Cert.NormInBwdIdeal.main_v1_1) = v1 c
          ∧ r.2.mem ((c.tc : Thread Cert.NormInBwdIdeal.nD Cert.NormInBwdIdeal.τ).loc Cert.NormInBwdIdeal.main_arg0) = m ((c.tc : Thread Cert.NormInBwdIdeal.nD Cert.NormInBwdIdeal.τ).loc Cert.NormInBwdIdeal.main_arg0)
          ∧ r.2.mem ((c.tc : Thread Cert.NormInBwdIdeal.nD Cert.NormInBwdIdeal.τ).loc Cert.NormInBwdIdeal.main_arg1) = m ((c.tc : Thread Cert.NormInBwdIdeal.nD Cert.NormInBwdIdeal.τ).loc Cert.NormInBwdIdeal.main_arg1)
          ∧ r.2.mem ((c.tc : Thread Cert.NormInBwdIdeal.nD Cert.NormInBwdIdeal.τ).loc Cert.NormInBwdIdeal.main_arg2) = m ((c.tc : Thread Cert.NormInBwdIdeal.nD Cert.NormInBwdIdeal.τ).loc Cert.NormInBwdIdeal.main_arg2)
          ∧ r.2.mem ((c.tc : Thread Cert.NormInBwdIdeal.nD Cert.NormInBwdIdeal.τ).loc Cert.NormInBwdIdeal.main_arg3) = m ((c.tc : Thread Cert.NormInBwdIdeal.nD Cert.NormInBwdIdeal.τ).loc Cert.NormInBwdIdeal.main_arg3))
      ∧ θ_run (Cert.NormInBwdRefIdeal.defs (F := Ideal)) (onTc (τ := Cert.NormInBwdRefIdeal.τ) (Cert.NormInBwdRefIdeal.main (F := Ideal))) ⟨m', fun _ => 0, g'⟩ (fun r => ∀ c : Dev Cert.NormInBwdRefIdeal.nD,
          r.2.mem ((c.tc : Thread Cert.NormInBwdRefIdeal.nD Cert.NormInBwdRefIdeal.τ).loc Cert.NormInBwdRefIdeal.main_v37) = v0 c
          ∧ r.2.mem ((c.tc : Thread Cert.NormInBwdRefIdeal.nD Cert.NormInBwdRefIdeal.τ).loc Cert.NormInBwdRefIdeal.main_v38) = v1 c
          ∧ r.2.mem ((c.tc : Thread Cert.NormInBwdRefIdeal.nD Cert.NormInBwdRefIdeal.τ).loc Cert.NormInBwdRefIdeal.main_arg0) = m' ((c.tc : Thread Cert.NormInBwdRefIdeal.nD Cert.NormInBwdRefIdeal.τ).loc Cert.NormInBwdRefIdeal.main_arg0)
          ∧ r.2.mem ((c.tc : Thread Cert.NormInBwdRefIdeal.nD Cert.NormInBwdRefIdeal.τ).loc Cert.NormInBwdRefIdeal.main_arg1) = m' ((c.tc : Thread Cert.NormInBwdRefIdeal.nD Cert.NormInBwdRefIdeal.τ).loc Cert.NormInBwdRefIdeal.main_arg1)
          ∧ r.2.mem ((c.tc : Thread Cert.NormInBwdRefIdeal.nD Cert.NormInBwdRefIdeal.τ).loc Cert.NormInBwdRefIdeal.main_arg2) = m' ((c.tc : Thread Cert.NormInBwdRefIdeal.nD Cert.NormInBwdRefIdeal.τ).loc Cert.NormInBwdRefIdeal.main_arg2)
          ∧ r.2.mem ((c.tc : Thread Cert.NormInBwdRefIdeal.nD Cert.NormInBwdRefIdeal.τ).loc Cert.NormInBwdRefIdeal.main_arg3) = m' ((c.tc : Thread Cert.NormInBwdRefIdeal.nD Cert.NormInBwdRefIdeal.τ).loc Cert.NormInBwdRefIdeal.main_arg3))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v1) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v13) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1))

def preserves_MemNormBwd_MemNormBwdIdeal : Prop :=
  True

def algebraic_MemNormBwdIdeal_MemNormBwdRefIdeal [hMemNormBwdIdeal : Cert.MemNormBwdIdeal.Facts] [hMemNormBwdRefIdeal : Cert.MemNormBwdRefIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg)
    (m' : (ℓ : Loc Cert.MemNormBwdRefIdeal.nD Cert.MemNormBwdRefIdeal.τ Cert.MemNormBwdRefIdeal.sig) → Buf (Elt Ideal) ℓ) (g' : Dev Cert.MemNormBwdRefIdeal.nD → PrngReg), Pre_MemNormBwdIdeal m →
    (∀ c : Dev Cert.MemNormBwdIdeal.nD,
      m' ((c.tc : Thread Cert.MemNormBwdRefIdeal.nD Cert.MemNormBwdRefIdeal.τ).loc Cert.MemNormBwdRefIdeal.main_arg0) = m ((c.tc : Thread Cert.MemNormBwdIdeal.nD Cert.MemNormBwdIdeal.τ).loc Cert.MemNormBwdIdeal.main_arg0)
      ∧ m' ((c.tc : Thread Cert.MemNormBwdRefIdeal.nD Cert.MemNormBwdRefIdeal.τ).loc Cert.MemNormBwdRefIdeal.main_arg1) = m ((c.tc : Thread Cert.MemNormBwdIdeal.nD Cert.MemNormBwdIdeal.τ).loc Cert.MemNormBwdIdeal.main_arg1)
      ∧ m' ((c.tc : Thread Cert.MemNormBwdRefIdeal.nD Cert.MemNormBwdRefIdeal.τ).loc Cert.MemNormBwdRefIdeal.main_arg2) = m ((c.tc : Thread Cert.MemNormBwdIdeal.nD Cert.MemNormBwdIdeal.τ).loc Cert.MemNormBwdIdeal.main_arg2)) →
    ∃ (v0 : (c : Dev Cert.MemNormBwdIdeal.nD) → Buf (Elt Ideal) ((c.tc : Thread Cert.MemNormBwdIdeal.nD Cert.MemNormBwdIdeal.τ).loc Cert.MemNormBwdIdeal.main_v1_0)) (v1 : (c : Dev Cert.MemNormBwdIdeal.nD) → Buf (Elt Ideal) ((c.tc : Thread Cert.MemNormBwdIdeal.nD Cert.MemNormBwdIdeal.τ).loc Cert.MemNormBwdIdeal.main_v1_1)),
      θ_run (Cert.MemNormBwdIdeal.defs (F := Ideal)) (onTc (τ := Cert.MemNormBwdIdeal.τ) (Cert.MemNormBwdIdeal.main (F := Ideal))) ⟨m, fun _ => 0, g⟩ (fun r => ∀ c : Dev Cert.MemNormBwdIdeal.nD,
          r.2.mem ((c.tc : Thread Cert.MemNormBwdIdeal.nD Cert.MemNormBwdIdeal.τ).loc Cert.MemNormBwdIdeal.main_v1_0) = v0 c
          ∧ r.2.mem ((c.tc : Thread Cert.MemNormBwdIdeal.nD Cert.MemNormBwdIdeal.τ).loc Cert.MemNormBwdIdeal.main_v1_1) = v1 c
          ∧ r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
          ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
          ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ θ_run (Cert.MemNormBwdRefIdeal.defs (F := Ideal)) (onTc (τ := Cert.MemNormBwdRefIdeal.τ) (Cert.MemNormBwdRefIdeal.main (F := Ideal))) ⟨m', fun _ => 0, g'⟩ (fun r => ∀ c : Dev Cert.MemNormBwdRefIdeal.nD,
          r.2.mem ((c.tc : Thread Cert.MemNormBwdRefIdeal.nD Cert.MemNormBwdRefIdeal.τ).loc Cert.MemNormBwdRefIdeal.main_v35) = v0 c
          ∧ r.2.mem ((c.tc : Thread Cert.MemNormBwdRefIdeal.nD Cert.MemNormBwdRefIdeal.τ).loc Cert.MemNormBwdRefIdeal.main_v36) = v1 c
          ∧ r.2.mem ((c.tc : Thread Cert.MemNormBwdRefIdeal.nD Cert.MemNormBwdRefIdeal.τ).loc Cert.MemNormBwdRefIdeal.main_arg0) = m' ((c.tc : Thread Cert.MemNormBwdRefIdeal.nD Cert.MemNormBwdRefIdeal.τ).loc Cert.MemNormBwdRefIdeal.main_arg0)
          ∧ r.2.mem ((c.tc : Thread Cert.MemNormBwdRefIdeal.nD Cert.MemNormBwdRefIdeal.τ).loc Cert.MemNormBwdRefIdeal.main_arg1) = m' ((c.tc : Thread Cert.MemNormBwdRefIdeal.nD Cert.MemNormBwdRefIdeal.τ).loc Cert.MemNormBwdRefIdeal.main_arg1)
          ∧ r.2.mem ((c.tc : Thread Cert.MemNormBwdRefIdeal.nD Cert.MemNormBwdRefIdeal.τ).loc Cert.MemNormBwdRefIdeal.main_arg2) = m' ((c.tc : Thread Cert.MemNormBwdRefIdeal.nD Cert.MemNormBwdRefIdeal.τ).loc Cert.MemNormBwdRefIdeal.main_arg2))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v1)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v1) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v13) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_NormTopBwd_NormTopBwdIdeal : Prop :=
  True

def algebraic_NormTopBwdIdeal_NormTopBwdRefIdeal [hNormTopBwdIdeal : Cert.NormTopBwdIdeal.Facts] [hNormTopBwdRefIdeal : Cert.NormTopBwdRefIdeal.Facts] : Prop :=
  ∀ (m : (ℓ : Loc Cert.NormTopBwdIdeal.nD Cert.NormTopBwdIdeal.τ Cert.NormTopBwdIdeal.sig) → Buf (Elt Ideal) ℓ) (g : Dev Cert.NormTopBwdIdeal.nD → PrngReg)
    (m' : (ℓ : Loc Cert.NormTopBwdRefIdeal.nD Cert.NormTopBwdRefIdeal.τ Cert.NormTopBwdRefIdeal.sig) → Buf (Elt Ideal) ℓ) (g' : Dev Cert.NormTopBwdRefIdeal.nD → PrngReg), Pre_NormTopBwdIdeal m →
    (∀ c : Dev Cert.NormTopBwdIdeal.nD,
      m' ((c.tc : Thread Cert.NormTopBwdRefIdeal.nD Cert.NormTopBwdRefIdeal.τ).loc Cert.NormTopBwdRefIdeal.main_arg0) = m ((c.tc : Thread Cert.NormTopBwdIdeal.nD Cert.NormTopBwdIdeal.τ).loc Cert.NormTopBwdIdeal.main_arg0)
      ∧ m' ((c.tc : Thread Cert.NormTopBwdRefIdeal.nD Cert.NormTopBwdRefIdeal.τ).loc Cert.NormTopBwdRefIdeal.main_arg1) = m ((c.tc : Thread Cert.NormTopBwdIdeal.nD Cert.NormTopBwdIdeal.τ).loc Cert.NormTopBwdIdeal.main_arg1)
      ∧ m' ((c.tc : Thread Cert.NormTopBwdRefIdeal.nD Cert.NormTopBwdRefIdeal.τ).loc Cert.NormTopBwdRefIdeal.main_arg2) = m ((c.tc : Thread Cert.NormTopBwdIdeal.nD Cert.NormTopBwdIdeal.τ).loc Cert.NormTopBwdIdeal.main_arg2)
      ∧ m' ((c.tc : Thread Cert.NormTopBwdRefIdeal.nD Cert.NormTopBwdRefIdeal.τ).loc Cert.NormTopBwdRefIdeal.main_arg3) = m ((c.tc : Thread Cert.NormTopBwdIdeal.nD Cert.NormTopBwdIdeal.τ).loc Cert.NormTopBwdIdeal.main_arg3)) →
    ∃ (v0 : (c : Dev Cert.NormTopBwdIdeal.nD) → Buf (Elt Ideal) ((c.tc : Thread Cert.NormTopBwdIdeal.nD Cert.NormTopBwdIdeal.τ).loc Cert.NormTopBwdIdeal.main_v1_0)) (v1 : (c : Dev Cert.NormTopBwdIdeal.nD) → Buf (Elt Ideal) ((c.tc : Thread Cert.NormTopBwdIdeal.nD Cert.NormTopBwdIdeal.τ).loc Cert.NormTopBwdIdeal.main_v1_1)) (v2 : (c : Dev Cert.NormTopBwdIdeal.nD) → Buf (Elt Ideal) ((c.tc : Thread Cert.NormTopBwdIdeal.nD Cert.NormTopBwdIdeal.τ).loc Cert.NormTopBwdIdeal.main_v1_2)),
      θ_run (Cert.NormTopBwdIdeal.defs (F := Ideal)) (onTc (τ := Cert.NormTopBwdIdeal.τ) (Cert.NormTopBwdIdeal.main (F := Ideal))) ⟨m, fun _ => 0, g⟩ (fun r => ∀ c : Dev Cert.NormTopBwdIdeal.nD,
          r.2.mem ((c.tc : Thread Cert.NormTopBwdIdeal.nD Cert.NormTopBwdIdeal.τ).loc Cert.NormTopBwdIdeal.main_v1_0) = v0 c
          ∧ r.2.mem ((c.tc : Thread Cert.NormTopBwdIdeal.nD Cert.NormTopBwdIdeal.τ).loc Cert.NormTopBwdIdeal.main_v1_1) = v1 c
          ∧ r.2.mem ((c.tc : Thread Cert.NormTopBwdIdeal.nD Cert.NormTopBwdIdeal.τ).loc Cert.NormTopBwdIdeal.main_v1_2) = v2 c
          ∧ r.2.mem ((c.tc : Thread Cert.NormTopBwdIdeal.nD Cert.NormTopBwdIdeal.τ).loc Cert.NormTopBwdIdeal.main_arg0) = m ((c.tc : Thread Cert.NormTopBwdIdeal.nD Cert.NormTopBwdIdeal.τ).loc Cert.NormTopBwdIdeal.main_arg0)
          ∧ r.2.mem ((c.tc : Thread Cert.NormTopBwdIdeal.nD Cert.NormTopBwdIdeal.τ).loc Cert.NormTopBwdIdeal.main_arg1) = m ((c.tc : Thread Cert.NormTopBwdIdeal.nD Cert.NormTopBwdIdeal.τ).loc Cert.NormTopBwdIdeal.main_arg1)
          ∧ r.2.mem ((c.tc : Thread Cert.NormTopBwdIdeal.nD Cert.NormTopBwdIdeal.τ).loc Cert.NormTopBwdIdeal.main_arg2) = m ((c.tc : Thread Cert.NormTopBwdIdeal.nD Cert.NormTopBwdIdeal.τ).loc Cert.NormTopBwdIdeal.main_arg2)
          ∧ r.2.mem ((c.tc : Thread Cert.NormTopBwdIdeal.nD Cert.NormTopBwdIdeal.τ).loc Cert.NormTopBwdIdeal.main_arg3) = m ((c.tc : Thread Cert.NormTopBwdIdeal.nD Cert.NormTopBwdIdeal.τ).loc Cert.NormTopBwdIdeal.main_arg3))
      ∧ θ_run (Cert.NormTopBwdRefIdeal.defs (F := Ideal)) (onTc (τ := Cert.NormTopBwdRefIdeal.τ) (Cert.NormTopBwdRefIdeal.main (F := Ideal))) ⟨m', fun _ => 0, g'⟩ (fun r => ∀ c : Dev Cert.NormTopBwdRefIdeal.nD,
          r.2.mem ((c.tc : Thread Cert.NormTopBwdRefIdeal.nD Cert.NormTopBwdRefIdeal.τ).loc Cert.NormTopBwdRefIdeal.main_arg3) = v0 c
          ∧ r.2.mem ((c.tc : Thread Cert.NormTopBwdRefIdeal.nD Cert.NormTopBwdRefIdeal.τ).loc Cert.NormTopBwdRefIdeal.main_v39) = v1 c
          ∧ r.2.mem ((c.tc : Thread Cert.NormTopBwdRefIdeal.nD Cert.NormTopBwdRefIdeal.τ).loc Cert.NormTopBwdRefIdeal.main_v40) = v2 c
          ∧ r.2.mem ((c.tc : Thread Cert.NormTopBwdRefIdeal.nD Cert.NormTopBwdRefIdeal.τ).loc Cert.NormTopBwdRefIdeal.main_arg0) = m' ((c.tc : Thread Cert.NormTopBwdRefIdeal.nD Cert.NormTopBwdRefIdeal.τ).loc Cert.NormTopBwdRefIdeal.main_arg0)
          ∧ r.2.mem ((c.tc : Thread Cert.NormTopBwdRefIdeal.nD Cert.NormTopBwdRefIdeal.τ).loc Cert.NormTopBwdRefIdeal.main_arg1) = m' ((c.tc : Thread Cert.NormTopBwdRefIdeal.nD Cert.NormTopBwdRefIdeal.τ).loc Cert.NormTopBwdRefIdeal.main_arg1)
          ∧ r.2.mem ((c.tc : Thread Cert.NormTopBwdRefIdeal.nD Cert.NormTopBwdRefIdeal.τ).loc Cert.NormTopBwdRefIdeal.main_arg2) = m' ((c.tc : Thread Cert.NormTopBwdRefIdeal.nD Cert.NormTopBwdRefIdeal.τ).loc Cert.NormTopBwdRefIdeal.main_arg2)
          ∧ r.2.mem ((c.tc : Thread Cert.NormTopBwdRefIdeal.nD Cert.NormTopBwdRefIdeal.τ).loc Cert.NormTopBwdRefIdeal.main_arg3) = m' ((c.tc : Thread Cert.NormTopBwdRefIdeal.nD Cert.NormTopBwdRefIdeal.τ).loc Cert.NormTopBwdRefIdeal.main_arg3))

def preserves_StepSmall_StepSmallIdeal : Prop :=
  True

def algebraic_StepSmallIdeal_StepSmallRefIdeal [hStepSmallIdeal : Cert.StepSmallIdeal.Facts] [hStepSmallRefIdeal : Cert.StepSmallRefIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallRefIdeal.nD Cert.StepSmallRefIdeal.τ Cert.StepSmallRefIdeal.sig) → Buf (Elt Ideal) ℓ) (g' : Dev Cert.StepSmallRefIdeal.nD → PrngReg), Pre_StepSmallIdeal m →
    (∀ c : Dev Cert.StepSmallIdeal.nD,
      m' ((c.tc : Thread Cert.StepSmallRefIdeal.nD Cert.StepSmallRefIdeal.τ).loc Cert.StepSmallRefIdeal.main_arg0) = m ((c.tc : Thread Cert.StepSmallIdeal.nD Cert.StepSmallIdeal.τ).loc Cert.StepSmallIdeal.main_arg0)
      ∧ m' ((c.tc : Thread Cert.StepSmallRefIdeal.nD Cert.StepSmallRefIdeal.τ).loc Cert.StepSmallRefIdeal.main_arg1) = m ((c.tc : Thread Cert.StepSmallIdeal.nD Cert.StepSmallIdeal.τ).loc Cert.StepSmallIdeal.main_arg1)
      ∧ m' ((c.tc : Thread Cert.StepSmallRefIdeal.nD Cert.StepSmallRefIdeal.τ).loc Cert.StepSmallRefIdeal.main_arg2) = m ((c.tc : Thread Cert.StepSmallIdeal.nD Cert.StepSmallIdeal.τ).loc Cert.StepSmallIdeal.main_arg2)
      ∧ m' ((c.tc : Thread Cert.StepSmallRefIdeal.nD Cert.StepSmallRefIdeal.τ).loc Cert.StepSmallRefIdeal.main_arg3) = m ((c.tc : Thread Cert.StepSmallIdeal.nD Cert.StepSmallIdeal.τ).loc Cert.StepSmallIdeal.main_arg3)
      ∧ m' ((c.tc : Thread Cert.StepSmallRefIdeal.nD Cert.StepSmallRefIdeal.τ).loc Cert.StepSmallRefIdeal.main_arg4) = m ((c.tc : Thread Cert.StepSmallIdeal.nD Cert.StepSmallIdeal.τ).loc Cert.StepSmallIdeal.main_arg4)
      ∧ m' ((c.tc : Thread Cert.StepSmallRefIdeal.nD Cert.StepSmallRefIdeal.τ).loc Cert.StepSmallRefIdeal.main_arg5) = m ((c.tc : Thread Cert.StepSmallIdeal.nD Cert.StepSmallIdeal.τ).loc Cert.StepSmallIdeal.main_arg5)
      ∧ m' ((c.tc : Thread Cert.StepSmallRefIdeal.nD Cert.StepSmallRefIdeal.τ).loc Cert.StepSmallRefIdeal.main_arg6) = m ((c.tc : Thread Cert.StepSmallIdeal.nD Cert.StepSmallIdeal.τ).loc Cert.StepSmallIdeal.main_arg6)
      ∧ m' ((c.tc : Thread Cert.StepSmallRefIdeal.nD Cert.StepSmallRefIdeal.τ).loc Cert.StepSmallRefIdeal.main_arg7) = m ((c.tc : Thread Cert.StepSmallIdeal.nD Cert.StepSmallIdeal.τ).loc Cert.StepSmallIdeal.main_arg7)
      ∧ m' ((c.tc : Thread Cert.StepSmallRefIdeal.nD Cert.StepSmallRefIdeal.τ).loc Cert.StepSmallRefIdeal.main_arg8) = m ((c.tc : Thread Cert.StepSmallIdeal.nD Cert.StepSmallIdeal.τ).loc Cert.StepSmallIdeal.main_arg8)
      ∧ m' ((c.tc : Thread Cert.StepSmallRefIdeal.nD Cert.StepSmallRefIdeal.τ).loc Cert.StepSmallRefIdeal.main_arg9) = m ((c.tc : Thread Cert.StepSmallIdeal.nD Cert.StepSmallIdeal.τ).loc Cert.StepSmallIdeal.main_arg9)
      ∧ m' ((c.tc : Thread Cert.StepSmallRefIdeal.nD Cert.StepSmallRefIdeal.τ).loc Cert.StepSmallRefIdeal.main_arg10) = m ((c.tc : Thread Cert.StepSmallIdeal.nD Cert.StepSmallIdeal.τ).loc Cert.StepSmallIdeal.main_arg10)
      ∧ m' ((c.tc : Thread Cert.StepSmallRefIdeal.nD Cert.StepSmallRefIdeal.τ).loc Cert.StepSmallRefIdeal.main_arg11) = m ((c.tc : Thread Cert.StepSmallIdeal.nD Cert.StepSmallIdeal.τ).loc Cert.StepSmallIdeal.main_arg11)
      ∧ m' ((c.tc : Thread Cert.StepSmallRefIdeal.nD Cert.StepSmallRefIdeal.τ).loc Cert.StepSmallRefIdeal.main_arg12) = m ((c.tc : Thread Cert.StepSmallIdeal.nD Cert.StepSmallIdeal.τ).loc Cert.StepSmallIdeal.main_arg12)
      ∧ m' ((c.tc : Thread Cert.StepSmallRefIdeal.nD Cert.StepSmallRefIdeal.τ).loc Cert.StepSmallRefIdeal.main_arg13) = m ((c.tc : Thread Cert.StepSmallIdeal.nD Cert.StepSmallIdeal.τ).loc Cert.StepSmallIdeal.main_arg13)
      ∧ m' ((c.tc : Thread Cert.StepSmallRefIdeal.nD Cert.StepSmallRefIdeal.τ).loc Cert.StepSmallRefIdeal.main_arg14) = m ((c.tc : Thread Cert.StepSmallIdeal.nD Cert.StepSmallIdeal.τ).loc Cert.StepSmallIdeal.main_arg14)
      ∧ m' ((c.tc : Thread Cert.StepSmallRefIdeal.nD Cert.StepSmallRefIdeal.τ).loc Cert.StepSmallRefIdeal.main_arg15) = m ((c.tc : Thread Cert.StepSmallIdeal.nD Cert.StepSmallIdeal.τ).loc Cert.StepSmallIdeal.main_arg15)
      ∧ m' ((c.tc : Thread Cert.StepSmallRefIdeal.nD Cert.StepSmallRefIdeal.τ).loc Cert.StepSmallRefIdeal.main_arg16) = m ((c.tc : Thread Cert.StepSmallIdeal.nD Cert.StepSmallIdeal.τ).loc Cert.StepSmallIdeal.main_arg16)
      ∧ m' ((c.tc : Thread Cert.StepSmallRefIdeal.nD Cert.StepSmallRefIdeal.τ).loc Cert.StepSmallRefIdeal.main_arg17) = m ((c.tc : Thread Cert.StepSmallIdeal.nD Cert.StepSmallIdeal.τ).loc Cert.StepSmallIdeal.main_arg17)
      ∧ m' ((c.tc : Thread Cert.StepSmallRefIdeal.nD Cert.StepSmallRefIdeal.τ).loc Cert.StepSmallRefIdeal.main_arg18) = m ((c.tc : Thread Cert.StepSmallIdeal.nD Cert.StepSmallIdeal.τ).loc Cert.StepSmallIdeal.main_arg18)
      ∧ m' ((c.tc : Thread Cert.StepSmallRefIdeal.nD Cert.StepSmallRefIdeal.τ).loc Cert.StepSmallRefIdeal.main_arg19) = m ((c.tc : Thread Cert.StepSmallIdeal.nD Cert.StepSmallIdeal.τ).loc Cert.StepSmallIdeal.main_arg19)
      ∧ m' ((c.tc : Thread Cert.StepSmallRefIdeal.nD Cert.StepSmallRefIdeal.τ).loc Cert.StepSmallRefIdeal.main_arg20) = m ((c.tc : Thread Cert.StepSmallIdeal.nD Cert.StepSmallIdeal.τ).loc Cert.StepSmallIdeal.main_arg20)
      ∧ m' ((c.tc : Thread Cert.StepSmallRefIdeal.nD Cert.StepSmallRefIdeal.τ).loc Cert.StepSmallRefIdeal.main_arg21) = m ((c.tc : Thread Cert.StepSmallIdeal.nD Cert.StepSmallIdeal.τ).loc Cert.StepSmallIdeal.main_arg21)
      ∧ m' ((c.tc : Thread Cert.StepSmallRefIdeal.nD Cert.StepSmallRefIdeal.τ).loc Cert.StepSmallRefIdeal.main_arg22) = m ((c.tc : Thread Cert.StepSmallIdeal.nD Cert.StepSmallIdeal.τ).loc Cert.StepSmallIdeal.main_arg22)
      ∧ m' ((c.tc : Thread Cert.StepSmallRefIdeal.nD Cert.StepSmallRefIdeal.τ).loc Cert.StepSmallRefIdeal.main_arg23) = m ((c.tc : Thread Cert.StepSmallIdeal.nD Cert.StepSmallIdeal.τ).loc Cert.StepSmallIdeal.main_arg23)
      ∧ m' ((c.tc : Thread Cert.StepSmallRefIdeal.nD Cert.StepSmallRefIdeal.τ).loc Cert.StepSmallRefIdeal.main_arg24) = m ((c.tc : Thread Cert.StepSmallIdeal.nD Cert.StepSmallIdeal.τ).loc Cert.StepSmallIdeal.main_arg24)
      ∧ m' ((c.tc : Thread Cert.StepSmallRefIdeal.nD Cert.StepSmallRefIdeal.τ).loc Cert.StepSmallRefIdeal.main_arg25) = m ((c.tc : Thread Cert.StepSmallIdeal.nD Cert.StepSmallIdeal.τ).loc Cert.StepSmallIdeal.main_arg25)
      ∧ m' ((c.tc : Thread Cert.StepSmallRefIdeal.nD Cert.StepSmallRefIdeal.τ).loc Cert.StepSmallRefIdeal.main_arg26) = m ((c.tc : Thread Cert.StepSmallIdeal.nD Cert.StepSmallIdeal.τ).loc Cert.StepSmallIdeal.main_arg26)
      ∧ m' ((c.tc : Thread Cert.StepSmallRefIdeal.nD Cert.StepSmallRefIdeal.τ).loc Cert.StepSmallRefIdeal.main_arg27) = m ((c.tc : Thread Cert.StepSmallIdeal.nD Cert.StepSmallIdeal.τ).loc Cert.StepSmallIdeal.main_arg27)
      ∧ m' ((c.tc : Thread Cert.StepSmallRefIdeal.nD Cert.StepSmallRefIdeal.τ).loc Cert.StepSmallRefIdeal.main_arg28) = m ((c.tc : Thread Cert.StepSmallIdeal.nD Cert.StepSmallIdeal.τ).loc Cert.StepSmallIdeal.main_arg28)
      ∧ m' ((c.tc : Thread Cert.StepSmallRefIdeal.nD Cert.StepSmallRefIdeal.τ).loc Cert.StepSmallRefIdeal.main_arg29) = m ((c.tc : Thread Cert.StepSmallIdeal.nD Cert.StepSmallIdeal.τ).loc Cert.StepSmallIdeal.main_arg29)
      ∧ m' ((c.tc : Thread Cert.StepSmallRefIdeal.nD Cert.StepSmallRefIdeal.τ).loc Cert.StepSmallRefIdeal.main_arg30) = m ((c.tc : Thread Cert.StepSmallIdeal.nD Cert.StepSmallIdeal.τ).loc Cert.StepSmallIdeal.main_arg30)
      ∧ m' ((c.tc : Thread Cert.StepSmallRefIdeal.nD Cert.StepSmallRefIdeal.τ).loc Cert.StepSmallRefIdeal.main_arg31) = m ((c.tc : Thread Cert.StepSmallIdeal.nD Cert.StepSmallIdeal.τ).loc Cert.StepSmallIdeal.main_arg31)) →
    ∃ (v0 : (c : Dev Cert.StepSmallIdeal.nD) → Buf (Elt Ideal) ((c.tc : Thread Cert.StepSmallIdeal.nD Cert.StepSmallIdeal.τ).loc Cert.StepSmallIdeal.main_v54)) (v1 : (c : Dev Cert.StepSmallIdeal.nD) → Buf (Elt Ideal) ((c.tc : Thread Cert.StepSmallIdeal.nD Cert.StepSmallIdeal.τ).loc Cert.StepSmallIdeal.main_v56)) (v2 : (c : Dev Cert.StepSmallIdeal.nD) → Buf (Elt Ideal) ((c.tc : Thread Cert.StepSmallIdeal.nD Cert.StepSmallIdeal.τ).loc Cert.StepSmallIdeal.main_v60)) (v3 : (c : Dev Cert.StepSmallIdeal.nD) → Buf (Elt Ideal) ((c.tc : Thread Cert.StepSmallIdeal.nD Cert.StepSmallIdeal.τ).loc Cert.StepSmallIdeal.main_v62)) (v4 : (c : Dev Cert.StepSmallIdeal.nD) → Buf (Elt Ideal) ((c.tc : Thread Cert.StepSmallIdeal.nD Cert.StepSmallIdeal.τ).loc Cert.StepSmallIdeal.main_v64)) (v5 : (c : Dev Cert.StepSmallIdeal.nD) → Buf (Elt Ideal) ((c.tc : Thread Cert.StepSmallIdeal.nD Cert.StepSmallIdeal.τ).loc Cert.StepSmallIdeal.main_v66)) (v6 : (c : Dev Cert.StepSmallIdeal.nD) → Buf (Elt Ideal) ((c.tc : Thread Cert.StepSmallIdeal.nD Cert.StepSmallIdeal.τ).loc Cert.StepSmallIdeal.main_v68)) (v7 : (c : Dev Cert.StepSmallIdeal.nD) → Buf (Elt Ideal) ((c.tc : Thread Cert.StepSmallIdeal.nD Cert.StepSmallIdeal.τ).loc Cert.StepSmallIdeal.main_v70)) (v8 : (c : Dev Cert.StepSmallIdeal.nD) → Buf (Elt Ideal) ((c.tc : Thread Cert.StepSmallIdeal.nD Cert.StepSmallIdeal.τ).loc Cert.StepSmallIdeal.main_v72)) (v9 : (c : Dev Cert.StepSmallIdeal.nD) → Buf (Elt Ideal) ((c.tc : Thread Cert.StepSmallIdeal.nD Cert.StepSmallIdeal.τ).loc Cert.StepSmallIdeal.main_v74)) (v10 : (c : Dev Cert.StepSmallIdeal.nD) → Buf (Elt Ideal) ((c.tc : Thread Cert.StepSmallIdeal.nD Cert.StepSmallIdeal.τ).loc Cert.StepSmallIdeal.main_v78)) (v11 : (c : Dev Cert.StepSmallIdeal.nD) → Buf (Elt Ideal) ((c.tc : Thread Cert.StepSmallIdeal.nD Cert.StepSmallIdeal.τ).loc Cert.StepSmallIdeal.main_v80)) (v12 : (c : Dev Cert.StepSmallIdeal.nD) → Buf (Elt Ideal) ((c.tc : Thread Cert.StepSmallIdeal.nD Cert.StepSmallIdeal.τ).loc Cert.StepSmallIdeal.main_v82)) (v13 : (c : Dev Cert.StepSmallIdeal.nD) → Buf (Elt Ideal) ((c.tc : Thread Cert.StepSmallIdeal.nD Cert.StepSmallIdeal.τ).loc Cert.StepSmallIdeal.main_v84)) (v14 : (c : Dev Cert.StepSmallIdeal.nD) → Buf (Elt Ideal) ((c.tc : Thread Cert.StepSmallIdeal.nD Cert.StepSmallIdeal.τ).loc Cert.StepSmallIdeal.main_v86)) (v15 : (c : Dev Cert.StepSmallIdeal.nD) → Buf (Elt Ideal) ((c.tc : Thread Cert.StepSmallIdeal.nD Cert.StepSmallIdeal.τ).loc Cert.StepSmallIdeal.main_v88)) (v16 : (c : Dev Cert.StepSmallIdeal.nD) → Buf (Elt Ideal) ((c.tc : Thread Cert.StepSmallIdeal.nD Cert.StepSmallIdeal.τ).loc Cert.StepSmallIdeal.main_v90)) (v17 : (c : Dev Cert.StepSmallIdeal.nD) → Buf (Elt Ideal) ((c.tc : Thread Cert.StepSmallIdeal.nD Cert.StepSmallIdeal.τ).loc Cert.StepSmallIdeal.main_v92)) (v18 : (c : Dev Cert.StepSmallIdeal.nD) → Buf (Elt Ideal) ((c.tc : Thread Cert.StepSmallIdeal.nD Cert.StepSmallIdeal.τ).loc Cert.StepSmallIdeal.main_v96)) (v19 : (c : Dev Cert.StepSmallIdeal.nD) → Buf (Elt Ideal) ((c.tc : Thread Cert.StepSmallIdeal.nD Cert.StepSmallIdeal.τ).loc Cert.StepSmallIdeal.main_v98)) (v20 : (c : Dev Cert.StepSmallIdeal.nD) → Buf (Elt Ideal) ((c.tc : Thread Cert.StepSmallIdeal.nD Cert.StepSmallIdeal.τ).loc Cert.StepSmallIdeal.main_v100)) (v21 : (c : Dev Cert.StepSmallIdeal.nD) → Buf (Elt Ideal) ((c.tc : Thread Cert.StepSmallIdeal.nD Cert.StepSmallIdeal.τ).loc Cert.StepSmallIdeal.main_v102)) (v22 : (c : Dev Cert.StepSmallIdeal.nD) → Buf (Elt Ideal) ((c.tc : Thread Cert.StepSmallIdeal.nD Cert.StepSmallIdeal.τ).loc Cert.StepSmallIdeal.main_v104)) (v23 : (c : Dev Cert.StepSmallIdeal.nD) → Buf (Elt Ideal) ((c.tc : Thread Cert.StepSmallIdeal.nD Cert.StepSmallIdeal.τ).loc Cert.StepSmallIdeal.main_v106)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v54) = v0 c
          ∧ r.2.mem ((c.tc : Thread Cert.StepSmallIdeal.nD Cert.StepSmallIdeal.τ).loc Cert.StepSmallIdeal.main_v56) = v1 c
          ∧ r.2.mem ((c.tc : Thread Cert.StepSmallIdeal.nD Cert.StepSmallIdeal.τ).loc Cert.StepSmallIdeal.main_v60) = v2 c
          ∧ r.2.mem ((c.tc : Thread Cert.StepSmallIdeal.nD Cert.StepSmallIdeal.τ).loc Cert.StepSmallIdeal.main_v62) = v3 c
          ∧ r.2.mem ((c.tc : Thread Cert.StepSmallIdeal.nD Cert.StepSmallIdeal.τ).loc Cert.StepSmallIdeal.main_v64) = v4 c
          ∧ r.2.mem ((c.tc : Thread Cert.StepSmallIdeal.nD Cert.StepSmallIdeal.τ).loc Cert.StepSmallIdeal.main_v66) = v5 c
          ∧ r.2.mem ((c.tc : Thread Cert.StepSmallIdeal.nD Cert.StepSmallIdeal.τ).loc Cert.StepSmallIdeal.main_v68) = v6 c
          ∧ r.2.mem ((c.tc : Thread Cert.StepSmallIdeal.nD Cert.StepSmallIdeal.τ).loc Cert.StepSmallIdeal.main_v70) = v7 c
          ∧ r.2.mem ((c.tc : Thread Cert.StepSmallIdeal.nD Cert.StepSmallIdeal.τ).loc Cert.StepSmallIdeal.main_v72) = v8 c
          ∧ r.2.mem ((c.tc : Thread Cert.StepSmallIdeal.nD Cert.StepSmallIdeal.τ).loc Cert.StepSmallIdeal.main_v74) = v9 c
          ∧ r.2.mem ((c.tc : Thread Cert.StepSmallIdeal.nD Cert.StepSmallIdeal.τ).loc Cert.StepSmallIdeal.main_v78) = v10 c
          ∧ r.2.mem ((c.tc : Thread Cert.StepSmallIdeal.nD Cert.StepSmallIdeal.τ).loc Cert.StepSmallIdeal.main_v80) = v11 c
          ∧ r.2.mem ((c.tc : Thread Cert.StepSmallIdeal.nD Cert.StepSmallIdeal.τ).loc Cert.StepSmallIdeal.main_v82) = v12 c
          ∧ r.2.mem ((c.tc : Thread Cert.StepSmallIdeal.nD Cert.StepSmallIdeal.τ).loc Cert.StepSmallIdeal.main_v84) = v13 c
          ∧ r.2.mem ((c.tc : Thread Cert.StepSmallIdeal.nD Cert.StepSmallIdeal.τ).loc Cert.StepSmallIdeal.main_v86) = v14 c
          ∧ r.2.mem ((c.tc : Thread Cert.StepSmallIdeal.nD Cert.StepSmallIdeal.τ).loc Cert.StepSmallIdeal.main_v88) = v15 c
          ∧ r.2.mem ((c.tc : Thread Cert.StepSmallIdeal.nD Cert.StepSmallIdeal.τ).loc Cert.StepSmallIdeal.main_v90) = v16 c
          ∧ r.2.mem ((c.tc : Thread Cert.StepSmallIdeal.nD Cert.StepSmallIdeal.τ).loc Cert.StepSmallIdeal.main_v92) = v17 c
          ∧ r.2.mem ((c.tc : Thread Cert.StepSmallIdeal.nD Cert.StepSmallIdeal.τ).loc Cert.StepSmallIdeal.main_v96) = v18 c
          ∧ r.2.mem ((c.tc : Thread Cert.StepSmallIdeal.nD Cert.StepSmallIdeal.τ).loc Cert.StepSmallIdeal.main_v98) = v19 c
          ∧ r.2.mem ((c.tc : Thread Cert.StepSmallIdeal.nD Cert.StepSmallIdeal.τ).loc Cert.StepSmallIdeal.main_v100) = v20 c
          ∧ r.2.mem ((c.tc : Thread Cert.StepSmallIdeal.nD Cert.StepSmallIdeal.τ).loc Cert.StepSmallIdeal.main_v102) = v21 c
          ∧ r.2.mem ((c.tc : Thread Cert.StepSmallIdeal.nD Cert.StepSmallIdeal.τ).loc Cert.StepSmallIdeal.main_v104) = v22 c
          ∧ r.2.mem ((c.tc : Thread Cert.StepSmallIdeal.nD Cert.StepSmallIdeal.τ).loc Cert.StepSmallIdeal.main_v106) = v23 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
          ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
          ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
          ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
          ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
          ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
          ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
          ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
          ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11)
          ∧ r.2.mem ((c.tc : Thread Cert.StepSmallIdeal.nD Cert.StepSmallIdeal.τ).loc Cert.StepSmallIdeal.main_arg12) = m ((c.tc : Thread Cert.StepSmallIdeal.nD Cert.StepSmallIdeal.τ).loc Cert.StepSmallIdeal.main_arg12)
          ∧ r.2.mem ((c.tc : Thread Cert.StepSmallIdeal.nD Cert.StepSmallIdeal.τ).loc Cert.StepSmallIdeal.main_arg13) = m ((c.tc : Thread Cert.StepSmallIdeal.nD Cert.StepSmallIdeal.τ).loc Cert.StepSmallIdeal.main_arg13)
          ∧ r.2.mem ((c.tc : Thread Cert.StepSmallIdeal.nD Cert.StepSmallIdeal.τ).loc Cert.StepSmallIdeal.main_arg14) = m ((c.tc : Thread Cert.StepSmallIdeal.nD Cert.StepSmallIdeal.τ).loc Cert.StepSmallIdeal.main_arg14)
          ∧ r.2.mem ((c.tc : Thread Cert.StepSmallIdeal.nD Cert.StepSmallIdeal.τ).loc Cert.StepSmallIdeal.main_arg15) = m ((c.tc : Thread Cert.StepSmallIdeal.nD Cert.StepSmallIdeal.τ).loc Cert.StepSmallIdeal.main_arg15)
          ∧ r.2.mem ((c.tc : Thread Cert.StepSmallIdeal.nD Cert.StepSmallIdeal.τ).loc Cert.StepSmallIdeal.main_arg16) = m ((c.tc : Thread Cert.StepSmallIdeal.nD Cert.StepSmallIdeal.τ).loc Cert.StepSmallIdeal.main_arg16)
          ∧ r.2.mem ((c.tc : Thread Cert.StepSmallIdeal.nD Cert.StepSmallIdeal.τ).loc Cert.StepSmallIdeal.main_arg17) = m ((c.tc : Thread Cert.StepSmallIdeal.nD Cert.StepSmallIdeal.τ).loc Cert.StepSmallIdeal.main_arg17)
          ∧ r.2.mem ((c.tc : Thread Cert.StepSmallIdeal.nD Cert.StepSmallIdeal.τ).loc Cert.StepSmallIdeal.main_arg18) = m ((c.tc : Thread Cert.StepSmallIdeal.nD Cert.StepSmallIdeal.τ).loc Cert.StepSmallIdeal.main_arg18)
          ∧ r.2.mem ((c.tc : Thread Cert.StepSmallIdeal.nD Cert.StepSmallIdeal.τ).loc Cert.StepSmallIdeal.main_arg19) = m ((c.tc : Thread Cert.StepSmallIdeal.nD Cert.StepSmallIdeal.τ).loc Cert.StepSmallIdeal.main_arg19)
          ∧ r.2.mem ((c.tc : Thread Cert.StepSmallIdeal.nD Cert.StepSmallIdeal.τ).loc Cert.StepSmallIdeal.main_arg20) = m ((c.tc : Thread Cert.StepSmallIdeal.nD Cert.StepSmallIdeal.τ).loc Cert.StepSmallIdeal.main_arg20)
          ∧ r.2.mem ((c.tc : Thread Cert.StepSmallIdeal.nD Cert.StepSmallIdeal.τ).loc Cert.StepSmallIdeal.main_arg21) = m ((c.tc : Thread Cert.StepSmallIdeal.nD Cert.StepSmallIdeal.τ).loc Cert.StepSmallIdeal.main_arg21)
          ∧ r.2.mem ((c.tc : Thread Cert.StepSmallIdeal.nD Cert.StepSmallIdeal.τ).loc Cert.StepSmallIdeal.main_arg22) = m ((c.tc : Thread Cert.StepSmallIdeal.nD Cert.StepSmallIdeal.τ).loc Cert.StepSmallIdeal.main_arg22)
          ∧ r.2.mem ((c.tc : Thread Cert.StepSmallIdeal.nD Cert.StepSmallIdeal.τ).loc Cert.StepSmallIdeal.main_arg23) = m ((c.tc : Thread Cert.StepSmallIdeal.nD Cert.StepSmallIdeal.τ).loc Cert.StepSmallIdeal.main_arg23)
          ∧ r.2.mem ((c.tc : Thread Cert.StepSmallIdeal.nD Cert.StepSmallIdeal.τ).loc Cert.StepSmallIdeal.main_arg24) = m ((c.tc : Thread Cert.StepSmallIdeal.nD Cert.StepSmallIdeal.τ).loc Cert.StepSmallIdeal.main_arg24)
          ∧ r.2.mem ((c.tc : Thread Cert.StepSmallIdeal.nD Cert.StepSmallIdeal.τ).loc Cert.StepSmallIdeal.main_arg25) = m ((c.tc : Thread Cert.StepSmallIdeal.nD Cert.StepSmallIdeal.τ).loc Cert.StepSmallIdeal.main_arg25)
          ∧ r.2.mem ((c.tc : Thread Cert.StepSmallIdeal.nD Cert.StepSmallIdeal.τ).loc Cert.StepSmallIdeal.main_arg26) = m ((c.tc : Thread Cert.StepSmallIdeal.nD Cert.StepSmallIdeal.τ).loc Cert.StepSmallIdeal.main_arg26)
          ∧ r.2.mem ((c.tc : Thread Cert.StepSmallIdeal.nD Cert.StepSmallIdeal.τ).loc Cert.StepSmallIdeal.main_arg27) = m ((c.tc : Thread Cert.StepSmallIdeal.nD Cert.StepSmallIdeal.τ).loc Cert.StepSmallIdeal.main_arg27)
          ∧ r.2.mem ((c.tc : Thread Cert.StepSmallIdeal.nD Cert.StepSmallIdeal.τ).loc Cert.StepSmallIdeal.main_arg28) = m ((c.tc : Thread Cert.StepSmallIdeal.nD Cert.StepSmallIdeal.τ).loc Cert.StepSmallIdeal.main_arg28)
          ∧ r.2.mem ((c.tc : Thread Cert.StepSmallIdeal.nD Cert.StepSmallIdeal.τ).loc Cert.StepSmallIdeal.main_arg29) = m ((c.tc : Thread Cert.StepSmallIdeal.nD Cert.StepSmallIdeal.τ).loc Cert.StepSmallIdeal.main_arg29)
          ∧ r.2.mem ((c.tc : Thread Cert.StepSmallIdeal.nD Cert.StepSmallIdeal.τ).loc Cert.StepSmallIdeal.main_arg30) = m ((c.tc : Thread Cert.StepSmallIdeal.nD Cert.StepSmallIdeal.τ).loc Cert.StepSmallIdeal.main_arg30)
          ∧ r.2.mem ((c.tc : Thread Cert.StepSmallIdeal.nD Cert.StepSmallIdeal.τ).loc Cert.StepSmallIdeal.main_arg31) = m ((c.tc : Thread Cert.StepSmallIdeal.nD Cert.StepSmallIdeal.τ).loc Cert.StepSmallIdeal.main_arg31))
      ∧ θ_run (Cert.StepSmallRefIdeal.defs (F := Ideal)) (onTc (τ := Cert.StepSmallRefIdeal.τ) (Cert.StepSmallRefIdeal.main (F := Ideal))) ⟨m', fun _ => 0, g'⟩ (fun r => ∀ c : Dev Cert.StepSmallRefIdeal.nD,
          r.2.mem ((c.tc : Thread Cert.StepSmallRefIdeal.nD Cert.StepSmallRefIdeal.τ).loc Cert.StepSmallRefIdeal.main_v23) = v0 c
          ∧ r.2.mem ((c.tc : Thread Cert.StepSmallRefIdeal.nD Cert.StepSmallRefIdeal.τ).loc Cert.StepSmallRefIdeal.main_v47) = v1 c
          ∧ r.2.mem ((c.tc : Thread Cert.StepSmallRefIdeal.nD Cert.StepSmallRefIdeal.τ).loc Cert.StepSmallRefIdeal.main_v71) = v2 c
          ∧ r.2.mem ((c.tc : Thread Cert.StepSmallRefIdeal.nD Cert.StepSmallRefIdeal.τ).loc Cert.StepSmallRefIdeal.main_v95) = v3 c
          ∧ r.2.mem ((c.tc : Thread Cert.StepSmallRefIdeal.nD Cert.StepSmallRefIdeal.τ).loc Cert.StepSmallRefIdeal.main_v119) = v4 c
          ∧ r.2.mem ((c.tc : Thread Cert.StepSmallRefIdeal.nD Cert.StepSmallRefIdeal.τ).loc Cert.StepSmallRefIdeal.main_v143) = v5 c
          ∧ r.2.mem ((c.tc : Thread Cert.StepSmallRefIdeal.nD Cert.StepSmallRefIdeal.τ).loc Cert.StepSmallRefIdeal.main_v167) = v6 c
          ∧ r.2.mem ((c.tc : Thread Cert.StepSmallRefIdeal.nD Cert.StepSmallRefIdeal.τ).loc Cert.StepSmallRefIdeal.main_v191) = v7 c
          ∧ r.2.mem ((c.tc : Thread Cert.StepSmallRefIdeal.nD Cert.StepSmallRefIdeal.τ).loc Cert.StepSmallRefIdeal.main_v4) = v8 c
          ∧ r.2.mem ((c.tc : Thread Cert.StepSmallRefIdeal.nD Cert.StepSmallRefIdeal.τ).loc Cert.StepSmallRefIdeal.main_v28) = v9 c
          ∧ r.2.mem ((c.tc : Thread Cert.StepSmallRefIdeal.nD Cert.StepSmallRefIdeal.τ).loc Cert.StepSmallRefIdeal.main_v52) = v10 c
          ∧ r.2.mem ((c.tc : Thread Cert.StepSmallRefIdeal.nD Cert.StepSmallRefIdeal.τ).loc Cert.StepSmallRefIdeal.main_v76) = v11 c
          ∧ r.2.mem ((c.tc : Thread Cert.StepSmallRefIdeal.nD Cert.StepSmallRefIdeal.τ).loc Cert.StepSmallRefIdeal.main_v100) = v12 c
          ∧ r.2.mem ((c.tc : Thread Cert.StepSmallRefIdeal.nD Cert.StepSmallRefIdeal.τ).loc Cert.StepSmallRefIdeal.main_v124) = v13 c
          ∧ r.2.mem ((c.tc : Thread Cert.StepSmallRefIdeal.nD Cert.StepSmallRefIdeal.τ).loc Cert.StepSmallRefIdeal.main_v148) = v14 c
          ∧ r.2.mem ((c.tc : Thread Cert.StepSmallRefIdeal.nD Cert.StepSmallRefIdeal.τ).loc Cert.StepSmallRefIdeal.main_v172) = v15 c
          ∧ r.2.mem ((c.tc : Thread Cert.StepSmallRefIdeal.nD Cert.StepSmallRefIdeal.τ).loc Cert.StepSmallRefIdeal.main_v10) = v16 c
          ∧ r.2.mem ((c.tc : Thread Cert.StepSmallRefIdeal.nD Cert.StepSmallRefIdeal.τ).loc Cert.StepSmallRefIdeal.main_v34) = v17 c
          ∧ r.2.mem ((c.tc : Thread Cert.StepSmallRefIdeal.nD Cert.StepSmallRefIdeal.τ).loc Cert.StepSmallRefIdeal.main_v58) = v18 c
          ∧ r.2.mem ((c.tc : Thread Cert.StepSmallRefIdeal.nD Cert.StepSmallRefIdeal.τ).loc Cert.StepSmallRefIdeal.main_v82) = v19 c
          ∧ r.2.mem ((c.tc : Thread Cert.StepSmallRefIdeal.nD Cert.StepSmallRefIdeal.τ).loc Cert.StepSmallRefIdeal.main_v106) = v20 c
          ∧ r.2.mem ((c.tc : Thread Cert.StepSmallRefIdeal.nD Cert.StepSmallRefIdeal.τ).loc Cert.StepSmallRefIdeal.main_v130) = v21 c
          ∧ r.2.mem ((c.tc : Thread Cert.StepSmallRefIdeal.nD Cert.StepSmallRefIdeal.τ).loc Cert.StepSmallRefIdeal.main_v154) = v22 c
          ∧ r.2.mem ((c.tc : Thread Cert.StepSmallRefIdeal.nD Cert.StepSmallRefIdeal.τ).loc Cert.StepSmallRefIdeal.main_v178) = v23 c
          ∧ r.2.mem ((c.tc : Thread Cert.StepSmallRefIdeal.nD Cert.StepSmallRefIdeal.τ).loc Cert.StepSmallRefIdeal.main_arg0) = m' ((c.tc : Thread Cert.StepSmallRefIdeal.nD Cert.StepSmallRefIdeal.τ).loc Cert.StepSmallRefIdeal.main_arg0)
          ∧ r.2.mem ((c.tc : Thread Cert.StepSmallRefIdeal.nD Cert.StepSmallRefIdeal.τ).loc Cert.StepSmallRefIdeal.main_arg1) = m' ((c.tc : Thread Cert.StepSmallRefIdeal.nD Cert.StepSmallRefIdeal.τ).loc Cert.StepSmallRefIdeal.main_arg1)
          ∧ r.2.mem ((c.tc : Thread Cert.StepSmallRefIdeal.nD Cert.StepSmallRefIdeal.τ).loc Cert.StepSmallRefIdeal.main_arg2) = m' ((c.tc : Thread Cert.StepSmallRefIdeal.nD Cert.StepSmallRefIdeal.τ).loc Cert.StepSmallRefIdeal.main_arg2)
          ∧ r.2.mem ((c.tc : Thread Cert.StepSmallRefIdeal.nD Cert.StepSmallRefIdeal.τ).loc Cert.StepSmallRefIdeal.main_arg3) = m' ((c.tc : Thread Cert.StepSmallRefIdeal.nD Cert.StepSmallRefIdeal.τ).loc Cert.StepSmallRefIdeal.main_arg3)
          ∧ r.2.mem ((c.tc : Thread Cert.StepSmallRefIdeal.nD Cert.StepSmallRefIdeal.τ).loc Cert.StepSmallRefIdeal.main_arg4) = m' ((c.tc : Thread Cert.StepSmallRefIdeal.nD Cert.StepSmallRefIdeal.τ).loc Cert.StepSmallRefIdeal.main_arg4)
          ∧ r.2.mem ((c.tc : Thread Cert.StepSmallRefIdeal.nD Cert.StepSmallRefIdeal.τ).loc Cert.StepSmallRefIdeal.main_arg5) = m' ((c.tc : Thread Cert.StepSmallRefIdeal.nD Cert.StepSmallRefIdeal.τ).loc Cert.StepSmallRefIdeal.main_arg5)
          ∧ r.2.mem ((c.tc : Thread Cert.StepSmallRefIdeal.nD Cert.StepSmallRefIdeal.τ).loc Cert.StepSmallRefIdeal.main_arg6) = m' ((c.tc : Thread Cert.StepSmallRefIdeal.nD Cert.StepSmallRefIdeal.τ).loc Cert.StepSmallRefIdeal.main_arg6)
          ∧ r.2.mem ((c.tc : Thread Cert.StepSmallRefIdeal.nD Cert.StepSmallRefIdeal.τ).loc Cert.StepSmallRefIdeal.main_arg7) = m' ((c.tc : Thread Cert.StepSmallRefIdeal.nD Cert.StepSmallRefIdeal.τ).loc Cert.StepSmallRefIdeal.main_arg7)
          ∧ r.2.mem ((c.tc : Thread Cert.StepSmallRefIdeal.nD Cert.StepSmallRefIdeal.τ).loc Cert.StepSmallRefIdeal.main_arg8) = m' ((c.tc : Thread Cert.StepSmallRefIdeal.nD Cert.StepSmallRefIdeal.τ).loc Cert.StepSmallRefIdeal.main_arg8)
          ∧ r.2.mem ((c.tc : Thread Cert.StepSmallRefIdeal.nD Cert.StepSmallRefIdeal.τ).loc Cert.StepSmallRefIdeal.main_arg9) = m' ((c.tc : Thread Cert.StepSmallRefIdeal.nD Cert.StepSmallRefIdeal.τ).loc Cert.StepSmallRefIdeal.main_arg9)
          ∧ r.2.mem ((c.tc : Thread Cert.StepSmallRefIdeal.nD Cert.StepSmallRefIdeal.τ).loc Cert.StepSmallRefIdeal.main_arg10) = m' ((c.tc : Thread Cert.StepSmallRefIdeal.nD Cert.StepSmallRefIdeal.τ).loc Cert.StepSmallRefIdeal.main_arg10)
          ∧ r.2.mem ((c.tc : Thread Cert.StepSmallRefIdeal.nD Cert.StepSmallRefIdeal.τ).loc Cert.StepSmallRefIdeal.main_arg11) = m' ((c.tc : Thread Cert.StepSmallRefIdeal.nD Cert.StepSmallRefIdeal.τ).loc Cert.StepSmallRefIdeal.main_arg11)
          ∧ r.2.mem ((c.tc : Thread Cert.StepSmallRefIdeal.nD Cert.StepSmallRefIdeal.τ).loc Cert.StepSmallRefIdeal.main_arg12) = m' ((c.tc : Thread Cert.StepSmallRefIdeal.nD Cert.StepSmallRefIdeal.τ).loc Cert.StepSmallRefIdeal.main_arg12)
          ∧ r.2.mem ((c.tc : Thread Cert.StepSmallRefIdeal.nD Cert.StepSmallRefIdeal.τ).loc Cert.StepSmallRefIdeal.main_arg13) = m' ((c.tc : Thread Cert.StepSmallRefIdeal.nD Cert.StepSmallRefIdeal.τ).loc Cert.StepSmallRefIdeal.main_arg13)
          ∧ r.2.mem ((c.tc : Thread Cert.StepSmallRefIdeal.nD Cert.StepSmallRefIdeal.τ).loc Cert.StepSmallRefIdeal.main_arg14) = m' ((c.tc : Thread Cert.StepSmallRefIdeal.nD Cert.StepSmallRefIdeal.τ).loc Cert.StepSmallRefIdeal.main_arg14)
          ∧ r.2.mem ((c.tc : Thread Cert.StepSmallRefIdeal.nD Cert.StepSmallRefIdeal.τ).loc Cert.StepSmallRefIdeal.main_arg15) = m' ((c.tc : Thread Cert.StepSmallRefIdeal.nD Cert.StepSmallRefIdeal.τ).loc Cert.StepSmallRefIdeal.main_arg15)
          ∧ r.2.mem ((c.tc : Thread Cert.StepSmallRefIdeal.nD Cert.StepSmallRefIdeal.τ).loc Cert.StepSmallRefIdeal.main_arg16) = m' ((c.tc : Thread Cert.StepSmallRefIdeal.nD Cert.StepSmallRefIdeal.τ).loc Cert.StepSmallRefIdeal.main_arg16)
          ∧ r.2.mem ((c.tc : Thread Cert.StepSmallRefIdeal.nD Cert.StepSmallRefIdeal.τ).loc Cert.StepSmallRefIdeal.main_arg17) = m' ((c.tc : Thread Cert.StepSmallRefIdeal.nD Cert.StepSmallRefIdeal.τ).loc Cert.StepSmallRefIdeal.main_arg17)
          ∧ r.2.mem ((c.tc : Thread Cert.StepSmallRefIdeal.nD Cert.StepSmallRefIdeal.τ).loc Cert.StepSmallRefIdeal.main_arg18) = m' ((c.tc : Thread Cert.StepSmallRefIdeal.nD Cert.StepSmallRefIdeal.τ).loc Cert.StepSmallRefIdeal.main_arg18)
          ∧ r.2.mem ((c.tc : Thread Cert.StepSmallRefIdeal.nD Cert.StepSmallRefIdeal.τ).loc Cert.StepSmallRefIdeal.main_arg19) = m' ((c.tc : Thread Cert.StepSmallRefIdeal.nD Cert.StepSmallRefIdeal.τ).loc Cert.StepSmallRefIdeal.main_arg19)
          ∧ r.2.mem ((c.tc : Thread Cert.StepSmallRefIdeal.nD Cert.StepSmallRefIdeal.τ).loc Cert.StepSmallRefIdeal.main_arg20) = m' ((c.tc : Thread Cert.StepSmallRefIdeal.nD Cert.StepSmallRefIdeal.τ).loc Cert.StepSmallRefIdeal.main_arg20)
          ∧ r.2.mem ((c.tc : Thread Cert.StepSmallRefIdeal.nD Cert.StepSmallRefIdeal.τ).loc Cert.StepSmallRefIdeal.main_arg21) = m' ((c.tc : Thread Cert.StepSmallRefIdeal.nD Cert.StepSmallRefIdeal.τ).loc Cert.StepSmallRefIdeal.main_arg21)
          ∧ r.2.mem ((c.tc : Thread Cert.StepSmallRefIdeal.nD Cert.StepSmallRefIdeal.τ).loc Cert.StepSmallRefIdeal.main_arg22) = m' ((c.tc : Thread Cert.StepSmallRefIdeal.nD Cert.StepSmallRefIdeal.τ).loc Cert.StepSmallRefIdeal.main_arg22)
          ∧ r.2.mem ((c.tc : Thread Cert.StepSmallRefIdeal.nD Cert.StepSmallRefIdeal.τ).loc Cert.StepSmallRefIdeal.main_arg23) = m' ((c.tc : Thread Cert.StepSmallRefIdeal.nD Cert.StepSmallRefIdeal.τ).loc Cert.StepSmallRefIdeal.main_arg23)
          ∧ r.2.mem ((c.tc : Thread Cert.StepSmallRefIdeal.nD Cert.StepSmallRefIdeal.τ).loc Cert.StepSmallRefIdeal.main_arg24) = m' ((c.tc : Thread Cert.StepSmallRefIdeal.nD Cert.StepSmallRefIdeal.τ).loc Cert.StepSmallRefIdeal.main_arg24)
          ∧ r.2.mem ((c.tc : Thread Cert.StepSmallRefIdeal.nD Cert.StepSmallRefIdeal.τ).loc Cert.StepSmallRefIdeal.main_arg25) = m' ((c.tc : Thread Cert.StepSmallRefIdeal.nD Cert.StepSmallRefIdeal.τ).loc Cert.StepSmallRefIdeal.main_arg25)
          ∧ r.2.mem ((c.tc : Thread Cert.StepSmallRefIdeal.nD Cert.StepSmallRefIdeal.τ).loc Cert.StepSmallRefIdeal.main_arg26) = m' ((c.tc : Thread Cert.StepSmallRefIdeal.nD Cert.StepSmallRefIdeal.τ).loc Cert.StepSmallRefIdeal.main_arg26)
          ∧ r.2.mem ((c.tc : Thread Cert.StepSmallRefIdeal.nD Cert.StepSmallRefIdeal.τ).loc Cert.StepSmallRefIdeal.main_arg27) = m' ((c.tc : Thread Cert.StepSmallRefIdeal.nD Cert.StepSmallRefIdeal.τ).loc Cert.StepSmallRefIdeal.main_arg27)
          ∧ r.2.mem ((c.tc : Thread Cert.StepSmallRefIdeal.nD Cert.StepSmallRefIdeal.τ).loc Cert.StepSmallRefIdeal.main_arg28) = m' ((c.tc : Thread Cert.StepSmallRefIdeal.nD Cert.StepSmallRefIdeal.τ).loc Cert.StepSmallRefIdeal.main_arg28)
          ∧ r.2.mem ((c.tc : Thread Cert.StepSmallRefIdeal.nD Cert.StepSmallRefIdeal.τ).loc Cert.StepSmallRefIdeal.main_arg29) = m' ((c.tc : Thread Cert.StepSmallRefIdeal.nD Cert.StepSmallRefIdeal.τ).loc Cert.StepSmallRefIdeal.main_arg29)
          ∧ r.2.mem ((c.tc : Thread Cert.StepSmallRefIdeal.nD Cert.StepSmallRefIdeal.τ).loc Cert.StepSmallRefIdeal.main_arg30) = m' ((c.tc : Thread Cert.StepSmallRefIdeal.nD Cert.StepSmallRefIdeal.τ).loc Cert.StepSmallRefIdeal.main_arg30)
          ∧ r.2.mem ((c.tc : Thread Cert.StepSmallRefIdeal.nD Cert.StepSmallRefIdeal.τ).loc Cert.StepSmallRefIdeal.main_arg31) = m' ((c.tc : Thread Cert.StepSmallRefIdeal.nD Cert.StepSmallRefIdeal.τ).loc Cert.StepSmallRefIdeal.main_arg31))

def Claim : Prop :=
  ∃ (hMemoryBwd : Cert.MemoryBwd.Facts) (hMemoryBwdIdeal : Cert.MemoryBwdIdeal.Facts) (hMemoryGradIdeal : Cert.MemoryGradIdeal.Facts) (hMlpDownDx : Cert.MlpDownDx.Facts) (hMlpDownDxIdeal : Cert.MlpDownDxIdeal.Facts) (hMlpDownDxRefIdeal : Cert.MlpDownDxRefIdeal.Facts) (hMlpDownDw : Cert.MlpDownDw.Facts) (hMlpDownDwIdeal : Cert.MlpDownDwIdeal.Facts) (hMlpDownDwRefIdeal : Cert.MlpDownDwRefIdeal.Facts) (hMlpUpDx : Cert.MlpUpDx.Facts) (hMlpUpDxIdeal : Cert.MlpUpDxIdeal.Facts) (hMlpUpDxRefIdeal : Cert.MlpUpDxRefIdeal.Facts) (hMlpUpDw : Cert.MlpUpDw.Facts) (hMlpUpDwIdeal : Cert.MlpUpDwIdeal.Facts) (hMlpUpDwRefIdeal : Cert.MlpUpDwRefIdeal.Facts) (hInProjDx : Cert.InProjDx.Facts) (hInProjDxIdeal : Cert.InProjDxIdeal.Facts) (hInProjDxRefIdeal : Cert.InProjDxRefIdeal.Facts) (hInProjDw : Cert.InProjDw.Facts) (hInProjDwIdeal : Cert.InProjDwIdeal.Facts) (hInProjDwRefIdeal : Cert.InProjDwRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hInProj : Cert.InProj.Facts) (hInProjIdeal : Cert.InProjIdeal.Facts) (hInProjRefIdeal : Cert.InProjRefIdeal.Facts) (hNormBwd : Cert.NormBwd.Facts) (hNormBwdIdeal : Cert.NormBwdIdeal.Facts) (hNormBwdRefIdeal : Cert.NormBwdRefIdeal.Facts) (hGateBwd : Cert.GateBwd.Facts) (hGateBwdIdeal : Cert.GateBwdIdeal.Facts) (hGateBwdRefIdeal : Cert.GateBwdRefIdeal.Facts) (hLossHead : Cert.LossHead.Facts) (hLossHeadIdeal : Cert.LossHeadIdeal.Facts) (hLossHeadRefIdeal : Cert.LossHeadRefIdeal.Facts) (hMemoryFwd : Cert.MemoryFwd.Facts) (hMemoryFwdIdeal : Cert.MemoryFwdIdeal.Facts) (hMemoryFwdRefIdeal : Cert.MemoryFwdRefIdeal.Facts) (hGateFwd : Cert.GateFwd.Facts) (hGateFwdIdeal : Cert.GateFwdIdeal.Facts) (hGateFwdRefIdeal : Cert.GateFwdRefIdeal.Facts) (hNormFwd : Cert.NormFwd.Facts) (hNormFwdIdeal : Cert.NormFwdIdeal.Facts) (hNormFwdRefIdeal : Cert.NormFwdRefIdeal.Facts) (hBranchProjDx : Cert.BranchProjDx.Facts) (hBranchProjDxIdeal : Cert.BranchProjDxIdeal.Facts) (hBranchProjDxRefIdeal : Cert.BranchProjDxRefIdeal.Facts) (hBranchProjDw : Cert.BranchProjDw.Facts) (hBranchProjDwIdeal : Cert.BranchProjDwIdeal.Facts) (hBranchProjDwRefIdeal : Cert.BranchProjDwRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hMemQDx : Cert.MemQDx.Facts) (hMemQDxIdeal : Cert.MemQDxIdeal.Facts) (hMemQDxRefIdeal : Cert.MemQDxRefIdeal.Facts) (hMemQDw : Cert.MemQDw.Facts) (hMemQDwIdeal : Cert.MemQDwIdeal.Facts) (hMemQDwRefIdeal : Cert.MemQDwRefIdeal.Facts) (hMemODx : Cert.MemODx.Facts) (hMemODxIdeal : Cert.MemODxIdeal.Facts) (hMemODxRefIdeal : Cert.MemODxRefIdeal.Facts) (hMemODw : Cert.MemODw.Facts) (hMemODwIdeal : Cert.MemODwIdeal.Facts) (hMemODwRefIdeal : Cert.MemODwRefIdeal.Facts) (hMemKvDx : Cert.MemKvDx.Facts) (hMemKvDxIdeal : Cert.MemKvDxIdeal.Facts) (hMemKvDxRefIdeal : Cert.MemKvDxRefIdeal.Facts) (hMemKvDw : Cert.MemKvDw.Facts) (hMemKvDwIdeal : Cert.MemKvDwIdeal.Facts) (hMemKvDwRefIdeal : Cert.MemKvDwRefIdeal.Facts) (hBranchProj : Cert.BranchProj.Facts) (hBranchProjIdeal : Cert.BranchProjIdeal.Facts) (hBranchProjRefIdeal : Cert.BranchProjRefIdeal.Facts) (hOutProj : Cert.OutProj.Facts) (hOutProjIdeal : Cert.OutProjIdeal.Facts) (hOutProjRefIdeal : Cert.OutProjRefIdeal.Facts) (hMemQ : Cert.MemQ.Facts) (hMemQIdeal : Cert.MemQIdeal.Facts) (hMemQRefIdeal : Cert.MemQRefIdeal.Facts) (hMemO : Cert.MemO.Facts) (hMemOIdeal : Cert.MemOIdeal.Facts) (hMemORefIdeal : Cert.MemORefIdeal.Facts) (hMemKv : Cert.MemKv.Facts) (hMemKvIdeal : Cert.MemKvIdeal.Facts) (hMemKvRefIdeal : Cert.MemKvRefIdeal.Facts) (hNormInBwd : Cert.NormInBwd.Facts) (hNormInBwdIdeal : Cert.NormInBwdIdeal.Facts) (hNormInBwdRefIdeal : Cert.NormInBwdRefIdeal.Facts) (hNormIn : Cert.NormIn.Facts) (hNormInIdeal : Cert.NormInIdeal.Facts) (hNormInRefIdeal : Cert.NormInRefIdeal.Facts) (hMemNormBwd : Cert.MemNormBwd.Facts) (hMemNormBwdIdeal : Cert.MemNormBwdIdeal.Facts) (hMemNormBwdRefIdeal : Cert.MemNormBwdRefIdeal.Facts) (hMemNorm : Cert.MemNorm.Facts) (hMemNormIdeal : Cert.MemNormIdeal.Facts) (hMemNormRefIdeal : Cert.MemNormRefIdeal.Facts) (hNormTopBwd : Cert.NormTopBwd.Facts) (hNormTopBwdIdeal : Cert.NormTopBwdIdeal.Facts) (hNormTopBwdRefIdeal : Cert.NormTopBwdRefIdeal.Facts) (hStepSmall : Cert.StepSmall.Facts) (hStepSmallIdeal : Cert.StepSmallIdeal.Facts) (hStepSmallRefIdeal : Cert.StepSmallRefIdeal.Facts) (hPre_mem_finite : Cert.Pre_mem_finite.Facts) (hPre_mem_fwd_finite : Cert.Pre_mem_fwd_finite.Facts),
    quiescent_MemoryBwd (hMemoryBwd := hMemoryBwd)
    ∧ quiescent_MemoryBwdIdeal (hMemoryBwdIdeal := hMemoryBwdIdeal)
    ∧ quiescent_MemoryBwdIdeal_pre_mem_finite (hMemoryBwdIdeal := hMemoryBwdIdeal) (hPre_mem_finite := hPre_mem_finite)
    ∧ quiescent_MemoryGradIdeal (hMemoryGradIdeal := hMemoryGradIdeal)
    ∧ quiescent_MemoryGradIdeal_pre_mem_finite (hMemoryGradIdeal := hMemoryGradIdeal) (hPre_mem_finite := hPre_mem_finite)
    ∧ quiescent_MlpDownDx (hMlpDownDx := hMlpDownDx)
    ∧ quiescent_MlpDownDxIdeal (hMlpDownDxIdeal := hMlpDownDxIdeal)
    ∧ quiescent_MlpDownDxRefIdeal (hMlpDownDxRefIdeal := hMlpDownDxRefIdeal)
    ∧ quiescent_MlpDownDw (hMlpDownDw := hMlpDownDw)
    ∧ quiescent_MlpDownDwIdeal (hMlpDownDwIdeal := hMlpDownDwIdeal)
    ∧ quiescent_MlpDownDwRefIdeal (hMlpDownDwRefIdeal := hMlpDownDwRefIdeal)
    ∧ quiescent_MlpUpDx (hMlpUpDx := hMlpUpDx)
    ∧ quiescent_MlpUpDxIdeal (hMlpUpDxIdeal := hMlpUpDxIdeal)
    ∧ quiescent_MlpUpDxRefIdeal (hMlpUpDxRefIdeal := hMlpUpDxRefIdeal)
    ∧ quiescent_MlpUpDw (hMlpUpDw := hMlpUpDw)
    ∧ quiescent_MlpUpDwIdeal (hMlpUpDwIdeal := hMlpUpDwIdeal)
    ∧ quiescent_MlpUpDwRefIdeal (hMlpUpDwRefIdeal := hMlpUpDwRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_MemoryFwd (hMemoryFwd := hMemoryFwd)
    ∧ quiescent_MemoryFwdIdeal (hMemoryFwdIdeal := hMemoryFwdIdeal)
    ∧ quiescent_MemoryFwdIdeal_pre_mem_fwd_finite (hMemoryFwdIdeal := hMemoryFwdIdeal) (hPre_mem_fwd_finite := hPre_mem_fwd_finite)
    ∧ quiescent_MemoryFwdRefIdeal (hMemoryFwdRefIdeal := hMemoryFwdRefIdeal)
    ∧ quiescent_MemoryFwdRefIdeal_pre_mem_fwd_finite (hMemoryFwdRefIdeal := hMemoryFwdRefIdeal) (hPre_mem_fwd_finite := hPre_mem_fwd_finite)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_BranchProjDx (hBranchProjDx := hBranchProjDx)
    ∧ quiescent_BranchProjDxIdeal (hBranchProjDxIdeal := hBranchProjDxIdeal)
    ∧ quiescent_BranchProjDxRefIdeal (hBranchProjDxRefIdeal := hBranchProjDxRefIdeal)
    ∧ quiescent_BranchProjDw (hBranchProjDw := hBranchProjDw)
    ∧ quiescent_BranchProjDwIdeal (hBranchProjDwIdeal := hBranchProjDwIdeal)
    ∧ quiescent_BranchProjDwRefIdeal (hBranchProjDwRefIdeal := hBranchProjDwRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_MemQDx (hMemQDx := hMemQDx)
    ∧ quiescent_MemQDxIdeal (hMemQDxIdeal := hMemQDxIdeal)
    ∧ quiescent_MemQDxRefIdeal (hMemQDxRefIdeal := hMemQDxRefIdeal)
    ∧ quiescent_MemQDw (hMemQDw := hMemQDw)
    ∧ quiescent_MemQDwIdeal (hMemQDwIdeal := hMemQDwIdeal)
    ∧ quiescent_MemQDwRefIdeal (hMemQDwRefIdeal := hMemQDwRefIdeal)
    ∧ quiescent_MemODx (hMemODx := hMemODx)
    ∧ quiescent_MemODxIdeal (hMemODxIdeal := hMemODxIdeal)
    ∧ quiescent_MemODxRefIdeal (hMemODxRefIdeal := hMemODxRefIdeal)
    ∧ quiescent_MemODw (hMemODw := hMemODw)
    ∧ quiescent_MemODwIdeal (hMemODwIdeal := hMemODwIdeal)
    ∧ quiescent_MemODwRefIdeal (hMemODwRefIdeal := hMemODwRefIdeal)
    ∧ quiescent_MemKvDx (hMemKvDx := hMemKvDx)
    ∧ quiescent_MemKvDxIdeal (hMemKvDxIdeal := hMemKvDxIdeal)
    ∧ quiescent_MemKvDxRefIdeal (hMemKvDxRefIdeal := hMemKvDxRefIdeal)
    ∧ quiescent_MemKvDw (hMemKvDw := hMemKvDw)
    ∧ quiescent_MemKvDwIdeal (hMemKvDwIdeal := hMemKvDwIdeal)
    ∧ quiescent_MemKvDwRefIdeal (hMemKvDwRefIdeal := hMemKvDwRefIdeal)
    ∧ quiescent_BranchProj (hBranchProj := hBranchProj)
    ∧ quiescent_BranchProjIdeal (hBranchProjIdeal := hBranchProjIdeal)
    ∧ quiescent_BranchProjRefIdeal (hBranchProjRefIdeal := hBranchProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MemQ (hMemQ := hMemQ)
    ∧ quiescent_MemQIdeal (hMemQIdeal := hMemQIdeal)
    ∧ quiescent_MemQRefIdeal (hMemQRefIdeal := hMemQRefIdeal)
    ∧ quiescent_MemO (hMemO := hMemO)
    ∧ quiescent_MemOIdeal (hMemOIdeal := hMemOIdeal)
    ∧ quiescent_MemORefIdeal (hMemORefIdeal := hMemORefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_NormInBwd (hNormInBwd := hNormInBwd)
    ∧ quiescent_NormInBwdIdeal (hNormInBwdIdeal := hNormInBwdIdeal)
    ∧ quiescent_NormInBwdRefIdeal (hNormInBwdRefIdeal := hNormInBwdRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_MemNormBwd (hMemNormBwd := hMemNormBwd)
    ∧ quiescent_MemNormBwdIdeal (hMemNormBwdIdeal := hMemNormBwdIdeal)
    ∧ quiescent_MemNormBwdRefIdeal (hMemNormBwdRefIdeal := hMemNormBwdRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_NormTopBwd (hNormTopBwd := hNormTopBwd)
    ∧ quiescent_NormTopBwdIdeal (hNormTopBwdIdeal := hNormTopBwdIdeal)
    ∧ quiescent_NormTopBwdRefIdeal (hNormTopBwdRefIdeal := hNormTopBwdRefIdeal)
    ∧ quiescent_StepSmall (hStepSmall := hStepSmall)
    ∧ quiescent_StepSmallIdeal (hStepSmallIdeal := hStepSmallIdeal)
    ∧ quiescent_StepSmallRefIdeal (hStepSmallRefIdeal := hStepSmallRefIdeal)
    ∧ preserves_MemoryBwd_MemoryBwdIdeal
    ∧ algebraic_MemoryBwdIdeal_MemoryGradIdeal_pre_mem_finite (hMemoryBwdIdeal := hMemoryBwdIdeal) (hMemoryGradIdeal := hMemoryGradIdeal) (hPre_mem_finite := hPre_mem_finite)
    ∧ preserves_MlpDownDx_MlpDownDxIdeal
    ∧ algebraic_MlpDownDxIdeal_MlpDownDxRefIdeal (hMlpDownDxIdeal := hMlpDownDxIdeal) (hMlpDownDxRefIdeal := hMlpDownDxRefIdeal)
    ∧ preserves_MlpDownDw_MlpDownDwIdeal
    ∧ algebraic_MlpDownDwIdeal_MlpDownDwRefIdeal (hMlpDownDwIdeal := hMlpDownDwIdeal) (hMlpDownDwRefIdeal := hMlpDownDwRefIdeal)
    ∧ preserves_MlpUpDx_MlpUpDxIdeal
    ∧ algebraic_MlpUpDxIdeal_MlpUpDxRefIdeal (hMlpUpDxIdeal := hMlpUpDxIdeal) (hMlpUpDxRefIdeal := hMlpUpDxRefIdeal)
    ∧ preserves_MlpUpDw_MlpUpDwIdeal
    ∧ algebraic_MlpUpDwIdeal_MlpUpDwRefIdeal (hMlpUpDwIdeal := hMlpUpDwIdeal) (hMlpUpDwRefIdeal := hMlpUpDwRefIdeal)
    ∧ preserves_InProjDx_InProjDxIdeal
    ∧ algebraic_InProjDxIdeal_InProjDxRefIdeal (hInProjDxIdeal := hInProjDxIdeal) (hInProjDxRefIdeal := hInProjDxRefIdeal)
    ∧ preserves_InProjDw_InProjDwIdeal
    ∧ algebraic_InProjDwIdeal_InProjDwRefIdeal (hInProjDwIdeal := hInProjDwIdeal) (hInProjDwRefIdeal := hInProjDwRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_InProj_InProjIdeal
    ∧ algebraic_InProjIdeal_InProjRefIdeal (hInProjIdeal := hInProjIdeal) (hInProjRefIdeal := hInProjRefIdeal)
    ∧ preserves_NormBwd_NormBwdIdeal
    ∧ algebraic_NormBwdIdeal_NormBwdRefIdeal (hNormBwdIdeal := hNormBwdIdeal) (hNormBwdRefIdeal := hNormBwdRefIdeal)
    ∧ preserves_GateBwd_GateBwdIdeal
    ∧ algebraic_GateBwdIdeal_GateBwdRefIdeal (hGateBwdIdeal := hGateBwdIdeal) (hGateBwdRefIdeal := hGateBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_MemoryFwd_MemoryFwdIdeal
    ∧ algebraic_MemoryFwdIdeal_MemoryFwdRefIdeal_pre_mem_fwd_finite (hMemoryFwdIdeal := hMemoryFwdIdeal) (hMemoryFwdRefIdeal := hMemoryFwdRefIdeal) (hPre_mem_fwd_finite := hPre_mem_fwd_finite)
    ∧ preserves_GateFwd_GateFwdIdeal
    ∧ algebraic_GateFwdIdeal_GateFwdRefIdeal (hGateFwdIdeal := hGateFwdIdeal) (hGateFwdRefIdeal := hGateFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_BranchProjDx_BranchProjDxIdeal
    ∧ algebraic_BranchProjDxIdeal_BranchProjDxRefIdeal (hBranchProjDxIdeal := hBranchProjDxIdeal) (hBranchProjDxRefIdeal := hBranchProjDxRefIdeal)
    ∧ preserves_BranchProjDw_BranchProjDwIdeal
    ∧ algebraic_BranchProjDwIdeal_BranchProjDwRefIdeal (hBranchProjDwIdeal := hBranchProjDwIdeal) (hBranchProjDwRefIdeal := hBranchProjDwRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_MemQDx_MemQDxIdeal
    ∧ algebraic_MemQDxIdeal_MemQDxRefIdeal (hMemQDxIdeal := hMemQDxIdeal) (hMemQDxRefIdeal := hMemQDxRefIdeal)
    ∧ preserves_MemQDw_MemQDwIdeal
    ∧ algebraic_MemQDwIdeal_MemQDwRefIdeal (hMemQDwIdeal := hMemQDwIdeal) (hMemQDwRefIdeal := hMemQDwRefIdeal)
    ∧ preserves_MemODx_MemODxIdeal
    ∧ algebraic_MemODxIdeal_MemODxRefIdeal (hMemODxIdeal := hMemODxIdeal) (hMemODxRefIdeal := hMemODxRefIdeal)
    ∧ preserves_MemODw_MemODwIdeal
    ∧ algebraic_MemODwIdeal_MemODwRefIdeal (hMemODwIdeal := hMemODwIdeal) (hMemODwRefIdeal := hMemODwRefIdeal)
    ∧ preserves_MemKvDx_MemKvDxIdeal
    ∧ algebraic_MemKvDxIdeal_MemKvDxRefIdeal (hMemKvDxIdeal := hMemKvDxIdeal) (hMemKvDxRefIdeal := hMemKvDxRefIdeal)
    ∧ preserves_MemKvDw_MemKvDwIdeal
    ∧ algebraic_MemKvDwIdeal_MemKvDwRefIdeal (hMemKvDwIdeal := hMemKvDwIdeal) (hMemKvDwRefIdeal := hMemKvDwRefIdeal)
    ∧ preserves_BranchProj_BranchProjIdeal
    ∧ algebraic_BranchProjIdeal_BranchProjRefIdeal (hBranchProjIdeal := hBranchProjIdeal) (hBranchProjRefIdeal := hBranchProjRefIdeal)
    ∧ preserves_OutProj_OutProjIdeal
    ∧ algebraic_OutProjIdeal_OutProjRefIdeal (hOutProjIdeal := hOutProjIdeal) (hOutProjRefIdeal := hOutProjRefIdeal)
    ∧ preserves_MemQ_MemQIdeal
    ∧ algebraic_MemQIdeal_MemQRefIdeal (hMemQIdeal := hMemQIdeal) (hMemQRefIdeal := hMemQRefIdeal)
    ∧ preserves_MemO_MemOIdeal
    ∧ algebraic_MemOIdeal_MemORefIdeal (hMemOIdeal := hMemOIdeal) (hMemORefIdeal := hMemORefIdeal)
    ∧ preserves_MemKv_MemKvIdeal
    ∧ algebraic_MemKvIdeal_MemKvRefIdeal (hMemKvIdeal := hMemKvIdeal) (hMemKvRefIdeal := hMemKvRefIdeal)
    ∧ preserves_NormInBwd_NormInBwdIdeal
    ∧ algebraic_NormInBwdIdeal_NormInBwdRefIdeal (hNormInBwdIdeal := hNormInBwdIdeal) (hNormInBwdRefIdeal := hNormInBwdRefIdeal)
    ∧ preserves_NormIn_NormInIdeal
    ∧ algebraic_NormInIdeal_NormInRefIdeal (hNormInIdeal := hNormInIdeal) (hNormInRefIdeal := hNormInRefIdeal)
    ∧ preserves_MemNormBwd_MemNormBwdIdeal
    ∧ algebraic_MemNormBwdIdeal_MemNormBwdRefIdeal (hMemNormBwdIdeal := hMemNormBwdIdeal) (hMemNormBwdRefIdeal := hMemNormBwdRefIdeal)
    ∧ preserves_MemNorm_MemNormIdeal
    ∧ algebraic_MemNormIdeal_MemNormRefIdeal (hMemNormIdeal := hMemNormIdeal) (hMemNormRefIdeal := hMemNormRefIdeal)
    ∧ preserves_NormTopBwd_NormTopBwdIdeal
    ∧ algebraic_NormTopBwdIdeal_NormTopBwdRefIdeal (hNormTopBwdIdeal := hNormTopBwdIdeal) (hNormTopBwdRefIdeal := hNormTopBwdRefIdeal)
    ∧ preserves_StepSmall_StepSmallIdeal
    ∧ algebraic_StepSmallIdeal_StepSmallRefIdeal (hStepSmallIdeal := hStepSmallIdeal) (hStepSmallRefIdeal := hStepSmallRefIdeal)
-- ==== Pre_mem_finite.lean ====
abbrev S4096x512 : Shape := ⟨2, ![4096, 512]⟩
abbrev S256x1024 : Shape := ⟨2, ![256, 1024]⟩
abbrev S_ : Shape := ⟨0, ![]⟩
abbrev S256x512 : Shape := ⟨2, ![256, 512]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  slices_S256x1024_S256x512_0_0 : S256x1024.Slices ![0, 0] S256x512
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S4096x512 .f32) (main_arg1 : FVec F S256x1024 .f32) (main_arg2 : FVec F S4096x512 .bf16) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S256x512 .f32 := (extractStridedSlice S256x512 ![0, 0] · slices_S256x1024_S256x512_0_0) main_arg1
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_c_1 : IVec S_ 1 := constantI S_ 1 1#1
  let main_v8 : IVec S_ 1 := (fun x v => Host.reduce IntOp.andi x v reducesTo_S256x512_S_d0_1 h_S_) main_v7 main_c_1
  let main_v9 : IVec S_ 1 := andi main_v3 main_v8
  main_v9
-- ==== Pre_mem_fwd_finite.lean ====
abbrev S4096x512 : Shape := ⟨2, ![4096, 512]⟩
abbrev S256x1024 : Shape := ⟨2, ![256, 1024]⟩
abbrev S_ : Shape := ⟨0, ![]⟩
abbrev S256x512 : Shape := ⟨2, ![256, 512]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  slices_S256x1024_S256x512_0_0 : S256x1024.Slices ![0, 0] S256x512
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S4096x512 .f32) (main_arg1 : FVec F S256x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S256x512 .f32 := (extractStridedSlice S256x512 ![0, 0] · slices_S256x1024_S256x512_0_0) main_arg1
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_c_1 : IVec S_ 1 := constantI S_ 1 1#1
  let main_v8 : IVec S_ 1 := (fun x v => Host.reduce IntOp.andi x v reducesTo_S256x512_S_d0_1 h_S_) main_v7 main_c_1
  let main_v9 : IVec S_ 1 := andi main_v3 main_v8
  main_v9
-- ==== MemoryBwd.lean ====
abbrev S4096x512 : Shape := ⟨2, ![4096, 512]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S256x512 : Shape := ⟨2, ![256, 512]⟩
abbrev S512 : Shape := ⟨1, ![512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S256x1024, .f32⟩
  | .hbm, ⟨2, _⟩ => ⟨S4096x512, .bf16⟩
  | .hbm, ⟨3, _⟩ => ⟨S4096x512, .bf16⟩
  | .hbm, ⟨4, _⟩ => ⟨S256x1024, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemoryGradIdeal.lean ====
abbrev S4096x512 : Shape := ⟨2, ![4096, 512]⟩
abbrev S256x1024 : Shape := ⟨2, ![256, 1024]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 89
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S256x1024, .f32⟩
  | .hbm, ⟨2, _⟩ => ⟨S4096x512, .bf16⟩
  | .hbm, ⟨3, _⟩ => ⟨S4096x4x128, .f32⟩
  | .hbm, ⟨4, _⟩ => ⟨S256x512, .f32⟩
  | .hbm, ⟨5, _⟩ => ⟨S256x4x128, .f32⟩
  | .hbm, ⟨6, _⟩ => ⟨S256x512, .f32⟩
  | .hbm, ⟨7, _⟩ => ⟨S256x4x128, .f32⟩
  | .hbm, ⟨8, _⟩ => ⟨S4x4096x256, .f32⟩
  | .hbm, ⟨9, _⟩ => ⟨S_, .f32⟩
  | .hbm, ⟨10, _⟩ => ⟨S4x4096x256, .f32⟩
  | .hbm, ⟨11, _⟩ => ⟨S4x4096x256, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x256, .f32⟩
  | .hbm, ⟨16, _⟩ => ⟨S4x4096x256, .i1⟩
  | .hbm, ⟨17, _⟩ => ⟨S4x4096x256, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .i1⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x4096, .f32⟩
  | .hbm, ⟨37, _⟩ => ⟨S4x4096x1, .f32⟩
  | .hbm, ⟨38, _⟩ => ⟨S4x4096x256, .f32⟩
  | .hbm, ⟨39, _⟩ => ⟨S4x4096x256, .f32⟩
  | .hbm, ⟨40, _⟩ => ⟨S4x4096x256, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S4x4096x256, .f32⟩
  | .hbm, ⟨45, _⟩ => ⟨S4x4096x256, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x128x4096, .f32⟩
  | .hbm, ⟨51, _⟩ => ⟨S4096x4x128, .f32⟩
  | .hbm, ⟨52, _⟩ => ⟨S4096x512, .f32⟩
  | .hbm, ⟨53, _⟩ => ⟨S4096x512, .f32⟩
  | .hbm, ⟨54, _⟩ => ⟨S4096x4x128, .f32⟩
  | .hbm, ⟨55, _⟩ => ⟨S4x128x4096, .f32⟩
  | .hbm, ⟨56, _⟩ => ⟨S4x4096x256, .f32⟩
  | .hbm, ⟨57, _⟩ => ⟨S4x128x256, .f32⟩
  | .hbm, ⟨58, _⟩ => ⟨S256x4x128, .f32⟩
  | .hbm, ⟨59, _⟩ => ⟨S4x4096x256, .f32⟩
  | .hbm, ⟨60, _⟩ => ⟨S4x4096x256, .f32⟩
  | .hbm, ⟨61, _⟩ => ⟨S4x4096x256, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S4x4096x1, .f32⟩
  | .hbm, ⟨66, _⟩ => ⟨S4x4096x256, .f32⟩
  | .hbm, ⟨67, _⟩ => ⟨S4x4096x256, .f32⟩
  | .hbm, ⟨68, _⟩ => ⟨S_, .f32⟩
  | .hbm, ⟨69, _⟩ => ⟨S4x4096, .f32⟩
  | .hbm, ⟨70, _⟩ => ⟨S4x4096x256, .f32⟩
  | .hbm, ⟨71, _⟩ => ⟨S4x4096x256, .f32⟩
  | .hbm, ⟨72, _⟩ => ⟨S4x4096x256, .f32⟩
  | .hbm, ⟨73, _⟩ => ⟨S_, .f32⟩
  | .hbm, ⟨74, _⟩ => ⟨S4x4096x256, .f32⟩
  | .hbm, ⟨75, _⟩ => ⟨S4x4096x256, .f32⟩
  | .hbm, ⟨76, _⟩ => ⟨S4x256x128, .f32⟩
  | .hbm, ⟨77, _⟩ => ⟨S256x4x128, .f32⟩
  | .hbm, ⟨78, _⟩ => ⟨S4x4096x128, .f32⟩
  | .hbm, ⟨79, _⟩ => ⟨S4096x4x128, .f32⟩
  | .hbm, ⟨80, _⟩ => ⟨S256x512, .f32⟩
  | .hbm, ⟨81, _⟩ => ⟨S_, .f32⟩
  | .hbm, ⟨82, _⟩ => ⟨S256x1024, .f32⟩
  | .hbm, ⟨83, _⟩ => ⟨S256x512, .f32⟩
  | .hbm, ⟨84, _⟩ => ⟨S_, .f32⟩
  | .hbm, ⟨85, _⟩ => ⟨S256x1024, .f32⟩
  | .hbm, ⟨86, _⟩ => ⟨S256x1024, .f32⟩
  | .hbm, ⟨87, _⟩ => ⟨S4096x512, .f32⟩
  | .hbm, ⟨88, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== MlpDownDx.lean ====
abbrev S4096x4096 : Shape := ⟨2, ![4096, 4096]⟩
abbrev S4096x1024 : Shape := ⟨2, ![4096, 1024]⟩
abbrev S_ : Shape := ⟨0, ![]⟩
abbrev S1x4096x1024 : Shape := ⟨3, ![1, 4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S1x4096x1024, .bf16⟩
  | .hbm, ⟨10, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownDxRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S1024x4096, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== MlpDownDw.lean ====
abbrev S4096x4096 : Shape := ⟨2, ![4096, 4096]⟩
abbrev S4096x1024 : Shape := ⟨2, ![4096, 1024]⟩
abbrev S_ : Shape := ⟨0, ![]⟩
abbrev S4096x512 : Shape := ⟨2, ![4096, 512]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownDwRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S1024x4096, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== MlpUpDx.lean ====
abbrev S4096x1024 : Shape := ⟨2, ![4096, 1024]⟩
abbrev S1024x4096 : Shape := ⟨2, ![1024, 4096]⟩
abbrev S4096x4096 : Shape := ⟨2, ![4096, 4096]⟩
abbrev S1x4096x1024 : Shape := ⟨3, ![1, 4096, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S4096x1024, .f32⟩
  | .hbm, ⟨4, _⟩ => ⟨S4096x1024, .bf16⟩
  | .hbm, ⟨5, _⟩ => ⟨S1x4096x1024, .bf16⟩
  | .hbm, ⟨6, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpDxRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpUpDw.lean ====
abbrev S4096x1024 : Shape := ⟨2, ![4096, 1024]⟩
abbrev S1024x4096 : Shape := ⟨2, ![1024, 4096]⟩
abbrev S4096x4096 : Shape := ⟨2, ![4096, 4096]⟩
abbrev S4096x512 : Shape := ⟨2, ![4096, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpDwRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InProjDx.lean ====
abbrev S4096x1024 : Shape := ⟨2, ![4096, 1024]⟩
abbrev S1024x5376 : Shape := ⟨2, ![1024, 5376]⟩
abbrev S4096x5376 : Shape := ⟨2, ![4096, 5376]⟩
abbrev S5376x1024 : Shape := ⟨2, ![5376, 1024]⟩
abbrev S1x5376x1024 : Shape := ⟨3, ![1, 5376, 1024]⟩
abbrev S1024x1792 : Shape := ⟨2, ![1024, 1792]⟩
abbrev S1x1792x1024 : Shape := ⟨3, ![1, 1792, 1024]⟩
abbrev S1024x1024 : Shape := ⟨2, ![1024, 1024]⟩
abbrev S1792x1024 : Shape := ⟨2, ![1792, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5376, .f32⟩
  | .hbm, ⟨2, _⟩ => ⟨S4096x5376, .bf16⟩
  | .hbm, ⟨3, _⟩ => ⟨S5376x1024, .f32⟩
  | .hbm, ⟨4, _⟩ => ⟨S5376x1024, .bf16⟩
  | .hbm, ⟨5, _⟩ => ⟨S1x5376x1024, .bf16⟩
  | .hbm, ⟨6, _⟩ => ⟨S4096x1024, .bf16⟩
  | .local _ .vmem, ⟨0, _⟩ => ⟨S1024x1792, .bf16⟩
  | .local _ .vmem, ⟨1, _⟩ => ⟨S1024x1792, .bf16⟩
  | .local _ .vmem, ⟨2, _⟩ => ⟨S1x1792x1024, .bf16⟩
  | .local _ .vmem, ⟨3, _⟩ => ⟨S1x1792x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxRefIdeal.lean ====
abbrev S4096x1024 : Shape := ⟨2, ![4096, 1024]⟩
abbrev S1024x5376 : Shape := ⟨2, ![1024, 5376]⟩
abbrev S4096x5376 : Shape := ⟨2, ![4096, 5376]⟩
abbrev S5376x1024 : Shape := ⟨2, ![5376, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5376, .f32⟩
  | .hbm, ⟨2, _⟩ => ⟨S4096x5376, .bf16⟩
  | .hbm, ⟨3, _⟩ => ⟨S4096x1024, .f32⟩
  | .hbm, ⟨4, _⟩ => ⟨S4096x5376, .f32⟩
  | .hbm, ⟨5, _⟩ => ⟨S4096x5376, .f32⟩
  | .hbm, ⟨6, _⟩ => ⟨S5376x1024, .f32⟩
  | .hbm, ⟨7, _⟩ => ⟨S1024x5376, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProjDw.lean ====
abbrev S4096x1024 : Shape := ⟨2, ![4096, 1024]⟩
abbrev S1024x5376 : Shape := ⟨2, ![1024, 5376]⟩
abbrev S4096x5376 : Shape := ⟨2, ![4096, 5376]⟩
abbrev S5376x1024 : Shape := ⟨2, ![5376, 1024]⟩
abbrev S4096x384 : Shape := ⟨2, ![4096, 384]⟩
abbrev S384x1024 : Shape := ⟨2, ![384, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5376, .f32⟩
  | .hbm, ⟨2, _⟩ => ⟨S4096x5376, .bf16⟩
  | .hbm, ⟨3, _⟩ => ⟨S5376x1024, .bf16⟩
  | .local _ .vmem, ⟨0, _⟩ => ⟨S4096x384, .bf16⟩
  | .local _ .vmem, ⟨1, _⟩ => ⟨S4096x384, .bf16⟩
  | .local _ .vmem, ⟨2, _⟩ => ⟨S4096x1024, .bf16⟩
  | .local _ .vmem, ⟨3, _⟩ => ⟨S384x1024, .bf16⟩
  | .local _ .vmem, ⟨4, _⟩ => ⟨S384x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![14, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwRefIdeal.lean ====
abbrev S4096x1024 : Shape := ⟨2, ![4096, 1024]⟩
abbrev S1024x5376 : Shape := ⟨2, ![1024, 5376]⟩
abbrev S4096x5376 : Shape := ⟨2, ![4096, 5376]⟩
abbrev S5376x1024 : Shape := ⟨2, ![5376, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5376, .f32⟩
  | .hbm, ⟨2, _⟩ => ⟨S4096x5376, .bf16⟩
  | .hbm, ⟨3, _⟩ => ⟨S4096x1024, .f32⟩
  | .hbm, ⟨4, _⟩ => ⟨S4096x5376, .f32⟩
  | .hbm, ⟨5, _⟩ => ⟨S4096x5376, .f32⟩
  | .hbm, ⟨6, _⟩ => ⟨S5376x1024, .f32⟩
  | .hbm, ⟨7, _⟩ => ⟨S1024x5376, .f32⟩
  | .hbm, ⟨8, _⟩ => ⟨S4096x1024, .f32⟩
  | .hbm, ⟨9, _⟩ => ⟨S5376x1024, .f32⟩
  | .hbm, ⟨10, _⟩ => ⟨S5376x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MlpUp.lean ====
abbrev S4096x1024 : Shape := ⟨2, ![4096, 1024]⟩
abbrev S1024x4096 : Shape := ⟨2, ![1024, 4096]⟩
abbrev S1x4096x1024 : Shape := ⟨3, ![1, 4096, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x1024, .f32⟩
  | .hbm, ⟨3, _⟩ => ⟨S4096x1024, .bf16⟩
  | .hbm, ⟨4, _⟩ => ⟨S1x4096x1024, .bf16⟩
  | .hbm, ⟨5, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MlpDown.lean ====
abbrev S4096x4096 : Shape := ⟨2, ![4096, 4096]⟩
abbrev S4096x1024 : Shape := ⟨2, ![4096, 1024]⟩
abbrev S_ : Shape := ⟨0, ![]⟩
abbrev S1x4096x1024 : Shape := ⟨3, ![1, 4096, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S1x4096x1024, .bf16⟩
  | .hbm, ⟨9, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== InProj.lean ====
abbrev S4096x1024 : Shape := ⟨2, ![4096, 1024]⟩
abbrev S1024x5376 : Shape := ⟨2, ![1024, 5376]⟩
abbrev S5376x1024 : Shape := ⟨2, ![5376, 1024]⟩
abbrev S1x5376x1024 : Shape := ⟨3, ![1, 5376, 1024]⟩
abbrev S4096x5376 : Shape := ⟨2, ![4096, 5376]⟩
abbrev S2048x1024 : Shape := ⟨2, ![2048, 1024]⟩
abbrev S1x1792x1024 : Shape := ⟨3, ![1, 1792, 1024]⟩
abbrev S2048x1792 : Shape := ⟨2, ![2048, 1792]⟩
abbrev S1792x1024 : Shape := ⟨2, ![1792, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5376, .f32⟩
  | .hbm, ⟨2, _⟩ => ⟨S5376x1024, .f32⟩
  | .hbm, ⟨3, _⟩ => ⟨S5376x1024, .bf16⟩
  | .hbm, ⟨4, _⟩ => ⟨S1x5376x1024, .bf16⟩
  | .hbm, ⟨5, _⟩ => ⟨S4096x5376, .bf16⟩
  | .local _ .vmem, ⟨0, _⟩ => ⟨S2048x1024, .bf16⟩
  | .local _ .vmem, ⟨1, _⟩ => ⟨S2048x1024, .bf16⟩
  | .local _ .vmem, ⟨2, _⟩ => ⟨S1x1792x1024, .bf16⟩
  | .local _ .vmem, ⟨3, _⟩ => ⟨S1x1792x1024, .bf16⟩
  | .local _ .vmem, ⟨4, _⟩ => ⟨S2048x1792, .bf16⟩
  | .local _ .vmem, ⟨5, _⟩ => ⟨S2048x1792, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x1024 : Shape := ⟨2, ![4096, 1024]⟩
abbrev S1024x5376 : Shape := ⟨2, ![1024, 5376]⟩
abbrev S4096x5376 : Shape := ⟨2, ![4096, 5376]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5376, .f32⟩
  | .hbm, ⟨2, _⟩ => ⟨S4096x1024, .f32⟩
  | .hbm, ⟨3, _⟩ => ⟨S4096x5376, .f32⟩
  | .hbm, ⟨4, _⟩ => ⟨S4096x5376, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NormBwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .bf16⟩
  | .hbm, ⟨102, _⟩ => ⟨S1x1024, .f32⟩
  | .hbm, ⟨103, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== GateBwd.lean ====
abbrev S4096x5376 : Shape := ⟨2, ![4096, 5376]⟩
abbrev S3x4096x1024 : Shape := ⟨3, ![3, 4096, 1024]⟩
abbrev S4096x1024 : Shape := ⟨2, ![4096, 1024]⟩
abbrev S4096x256 : Shape := ⟨2, ![4096, 256]⟩
abbrev S1x4096x256 : Shape := ⟨3, ![1, 4096, 256]⟩
abbrev S4096x3072 : Shape := ⟨2, ![4096, 3072]⟩

abbrev nBuf : Space → Nat
  | .hbm => 6
  | .vmem => 10
  | .smem => 0
  | _ => 0

abbrev bufTy : (tb : Table) → Fin (tcTables nBuf tb) → BufTy
  | .hbm, ⟨0, _⟩ => ⟨S4096x5376, .bf16⟩
  | .hbm, ⟨1, _⟩ => ⟨S3x4096x1024, .bf16⟩
  | .hbm, ⟨2, _⟩ => ⟨S4096x1024, .bf16⟩
  | .hbm, ⟨3, _⟩ => ⟨S4096x5376, .bf16⟩
  | .hbm, ⟨4, _⟩ => ⟨S3x4096x1024, .bf16⟩
  | .hbm, ⟨5, _⟩ => ⟨S4096x3072, .bf16⟩
  | .local _ .vmem, ⟨0, _⟩ => ⟨S4096x256, .bf16⟩
  | .local _ .vmem, ⟨1, _⟩ => ⟨S4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S1x4096x256, .bf16⟩
  | .local _ .vmem, ⟨9, _⟩ => ⟨S1x4096x256, .bf16⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 3, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c9_i32 : BitVec 32 := 9#32
  let v1 : BitVec 32 := Scalar.addi c9_i32 v0
  let v2 : BitVec 32 := Scalar.addi v1 arg2
  let c0_i32 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c9_i32 : BitVec 32 := 9#32
  let v1 : BitVec 32 := Scalar.addi c9_i32 v0
  let v2 : BitVec 32 := Scalar.addi v1 arg2
  let c0_i32 : BitVec 32 := 0#32
  ![arg0.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== GateBwdRefIdeal.lean ====
abbrev S4096x5376 : Shape := ⟨2, ![4096, 5376]⟩
abbrev S3x4096x1024 : Shape := ⟨3, ![3, 4096, 1024]⟩
abbrev S4096x1024 : Shape := ⟨2, ![4096, 1024]⟩
abbrev S4096x3072 : Shape := ⟨2, ![4096, 3072]⟩
abbrev S4096x3x1024 : Shape := ⟨3, ![4096, 3, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S3x4096x1024, .bf16⟩
  | .hbm, ⟨2, _⟩ => ⟨S4096x1024, .bf16⟩
  | .hbm, ⟨3, _⟩ => ⟨S4096x3072, .bf16⟩
  | .hbm, ⟨4, _⟩ => ⟨S4096x3072, .f32⟩
  | .hbm, ⟨5, _⟩ => ⟨S3x4096x1024, .f32⟩
  | .hbm, ⟨6, _⟩ => ⟨S4096x3x1024, .f32⟩
  | .hbm, ⟨7, _⟩ => ⟨S4096x3x1024, .f32⟩
  | .hbm, ⟨8, _⟩ => ⟨S4096x3x1024, .f32⟩
  | .hbm, ⟨9, _⟩ => ⟨S4096x3x1024, .f32⟩
  | .hbm, ⟨10, _⟩ => ⟨S_, .f32⟩
  | .hbm, ⟨11, _⟩ => ⟨S4096x3x1024, .f32⟩
  | .hbm, ⟨12, _⟩ => ⟨S4096x3x1024, .f32⟩
  | .hbm, ⟨13, _⟩ => ⟨S_, .f32⟩
  | .hbm, ⟨14, _⟩ => ⟨S4096x3x1024, .f32⟩
  | .hbm, ⟨15, _⟩ => ⟨S4096x3x1024, .f32⟩
  | .hbm, ⟨16, _⟩ => ⟨S_, .f32⟩
  | .hbm, ⟨17, _⟩ => ⟨S4096x3x1024, .f32⟩
  | .hbm, ⟨18, _⟩ => ⟨S4096x3x1024, .f32⟩
  | .hbm, ⟨19, _⟩ => ⟨S4096x3x1024, .f32⟩
  | .hbm, ⟨20, _⟩ => ⟨S4096x3x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x3x1024, .f32⟩
  | .hbm, ⟨25, _⟩ => ⟨S4096x3x1024, .f32⟩
  | .hbm, ⟨26, _⟩ => ⟨S4096x3x1024, .f32⟩
  | .hbm, ⟨27, _⟩ => ⟨S4096x3x1024, .f32⟩
  | .hbm, ⟨28, _⟩ => ⟨S4096x3072, .f32⟩
  | .hbm, ⟨29, _⟩ => ⟨S4096x3072, .bf16⟩
  | .hbm, ⟨30, _⟩ => ⟨S3x4096x1024, .f32⟩
  | .hbm, ⟨31, _⟩ => ⟨S3x4096x1024, .bf16⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== MemoryFwd.lean ====
abbrev S4096x512 : Shape := ⟨2, ![4096, 512]⟩
abbrev S256x1024 : Shape := ⟨2, ![256, 1024]⟩
abbrev S512x512 : Shape := ⟨2, ![512, 512]⟩
abbrev S256x128 : Shape := ⟨2, ![256, 128]⟩
abbrev S512x128 : Shape := ⟨2, ![512, 128]⟩
abbrev S256x512 : Shape := ⟨2, ![256, 512]⟩
abbrev S512 : Shape := ⟨1, ![512]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S256x1024, .f32⟩
  | .hbm, ⟨2, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S512x512, .bf16⟩
  | .local _ .vmem, ⟨4, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemoryFwdRefIdeal.lean ====
abbrev S4096x512 : Shape := ⟨2, ![4096, 512]⟩
abbrev S256x1024 : Shape := ⟨2, ![256, 1024]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S256x1024, .f32⟩
  | .hbm, ⟨2, _⟩ => ⟨S4096x4x128, .f32⟩
  | .hbm, ⟨3, _⟩ => ⟨S256x512, .f32⟩
  | .hbm, ⟨4, _⟩ => ⟨S256x4x128, .f32⟩
  | .hbm, ⟨5, _⟩ => ⟨S256x512, .f32⟩
  | .hbm, ⟨6, _⟩ => ⟨S256x4x128, .f32⟩
  | .hbm, ⟨7, _⟩ => ⟨S4x4096x256, .f32⟩
  | .hbm, ⟨8, _⟩ => ⟨S_, .f32⟩
  | .hbm, ⟨9, _⟩ => ⟨S4x4096x256, .f32⟩
  | .hbm, ⟨10, _⟩ => ⟨S4x4096x256, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .f32⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x256, .f32⟩
  | .hbm, ⟨24, _⟩ => ⟨S4x4096x256, .f32⟩
  | .hbm, ⟨25, _⟩ => ⟨S4x128x4096, .f32⟩
  | .hbm, ⟨26, _⟩ => ⟨S4096x4x128, .f32⟩
  | .hbm, ⟨27, _⟩ => ⟨S4096x512, .f32⟩
  | .hbm, ⟨28, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== GateFwd.lean ====
abbrev S4096x5376 : Shape := ⟨2, ![4096, 5376]⟩
abbrev S3x4096x1024 : Shape := ⟨3, ![3, 4096, 1024]⟩
abbrev S4096x1024 : Shape := ⟨2, ![4096, 1024]⟩
abbrev S4096x256 : Shape := ⟨2, ![4096, 256]⟩
abbrev S1x4096x256 : Shape := ⟨3, ![1, 4096, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x5376, .bf16⟩
  | .hbm, ⟨1, _⟩ => ⟨S3x4096x1024, .bf16⟩
  | .hbm, ⟨2, _⟩ => ⟨S4096x1024, .bf16⟩
  | .local _ .vmem, ⟨0, _⟩ => ⟨S4096x256, .bf16⟩
  | .local _ .vmem, ⟨1, _⟩ => ⟨S4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond2 (i : grid0.Coords) : BitVec 1 :=
  let arg2 : BitVec 32 := BitVec.ofNat 32 (i 2).val
  let c2_i32 : BitVec 32 := 2#32
  let v15 : BitVec 1 := Scalar.cmpi .eq arg2 c2_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c9_i32 : BitVec 32 := 9#32
  let v1 : BitVec 32 := Scalar.addi c9_i32 v0
  let v2 : BitVec 32 := Scalar.addi v1 arg1
  let c0_i32 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateFwdRefIdeal.lean ====
abbrev S4096x5376 : Shape := ⟨2, ![4096, 5376]⟩
abbrev S3x4096x1024 : Shape := ⟨3, ![3, 4096, 1024]⟩
abbrev S4096x3072 : Shape := ⟨2, ![4096, 3072]⟩
abbrev S4096x3x1024 : Shape := ⟨3, ![4096, 3, 1024]⟩
abbrev S_ : Shape := ⟨0, ![]⟩
abbrev S4096x1024 : Shape := ⟨2, ![4096, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S3x4096x1024, .bf16⟩
  | .hbm, ⟨2, _⟩ => ⟨S4096x3072, .bf16⟩
  | .hbm, ⟨3, _⟩ => ⟨S4096x3072, .f32⟩
  | .hbm, ⟨4, _⟩ => ⟨S3x4096x1024, .f32⟩
  | .hbm, ⟨5, _⟩ => ⟨S4096x3x1024, .f32⟩
  | .hbm, ⟨6, _⟩ => ⟨S4096x3x1024, .f32⟩
  | .hbm, ⟨7, _⟩ => ⟨S4096x3x1024, .f32⟩
  | .hbm, ⟨8, _⟩ => ⟨S4096x3x1024, .f32⟩
  | .hbm, ⟨9, _⟩ => ⟨S_, .f32⟩
  | .hbm, ⟨10, _⟩ => ⟨S4096x3x1024, .f32⟩
  | .hbm, ⟨11, _⟩ => ⟨S4096x3x1024, .f32⟩
  | .hbm, ⟨12, _⟩ => ⟨S_, .f32⟩
  | .hbm, ⟨13, _⟩ => ⟨S4096x3x1024, .f32⟩
  | .hbm, ⟨14, _⟩ => ⟨S4096x3x1024, .f32⟩
  | .hbm, ⟨15, _⟩ => ⟨S4096x3x1024, .f32⟩
  | .hbm, ⟨16, _⟩ => ⟨S_, .f32⟩
  | .hbm, ⟨17, _⟩ => ⟨S4096x1024, .f32⟩
  | .hbm, ⟨18, _⟩ => ⟨S4096x1024, .bf16⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== BranchProjDx.lean ====
abbrev S3x4096x512 : Shape := ⟨3, ![3, 4096, 512]⟩
abbrev S3x512x1024 : Shape := ⟨3, ![3, 512, 1024]⟩
abbrev S3x4096x1024 : Shape := ⟨3, ![3, 4096, 1024]⟩
abbrev S3x1024x512 : Shape := ⟨3, ![3, 1024, 512]⟩
abbrev S1x2048x1024 : Shape := ⟨3, ![1, 2048, 1024]⟩
abbrev S1x1024x512 : Shape := ⟨3, ![1, 1024, 512]⟩
abbrev S1x2048x512 : Shape := ⟨3, ![1, 2048, 512]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S3x4096x512, .bf16⟩
  | .hbm, ⟨1, _⟩ => ⟨S3x512x1024, .f32⟩
  | .hbm, ⟨2, _⟩ => ⟨S3x4096x1024, .bf16⟩
  | .hbm, ⟨3, _⟩ => ⟨S3x1024x512, .f32⟩
  | .hbm, ⟨4, _⟩ => ⟨S3x1024x512, .bf16⟩
  | .hbm, ⟨5, _⟩ => ⟨S3x4096x512, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x2048x512, .bf16⟩
  | .local _ .vmem, ⟨5, _⟩ => ⟨S1x2048x512, .bf16⟩
  | _, _ => ⟨S3x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![3, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BranchProjDxRefIdeal.lean ====
abbrev S3x4096x512 : Shape := ⟨3, ![3, 4096, 512]⟩
abbrev S3x512x1024 : Shape := ⟨3, ![3, 512, 1024]⟩
abbrev S3x4096x1024 : Shape := ⟨3, ![3, 4096, 1024]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S3x1024x512 : Shape := ⟨3, ![3, 1024, 512]⟩

abbrev nBuf : Space → Nat
  | .hbm => 16
  | .vmem => 0
  | .smem => 0
  | _ => 0

abbrev bufTy : (tb : Table) → Fin (tcTables nBuf tb) → BufTy
  | .hbm, ⟨0, _⟩ => ⟨S3x4096x512, .bf16⟩
  | .hbm, ⟨1, _⟩ => ⟨S3x512x1024, .f32⟩
  | .hbm, ⟨2, _⟩ => ⟨S3x4096x1024, .bf16⟩
  | .hbm, ⟨3, _⟩ => ⟨S3x4096x512, .f32⟩
  | .hbm, ⟨4, _⟩ => ⟨S4096x3x512, .f32⟩
  | .hbm, ⟨5, _⟩ => ⟨S3x1024x4096, .f32⟩
  | .hbm, ⟨6, _⟩ => ⟨S4096x3x1024, .f32⟩
  | .hbm, ⟨7, _⟩ => ⟨S3x4096x1024, .f32⟩
  | .hbm, ⟨8, _⟩ => ⟨S4096x3x1024, .f32⟩
  | .hbm, ⟨9, _⟩ => ⟨S3x1024x4096, .f32⟩
  | .hbm, ⟨10, _⟩ => ⟨S3x4096x512, .f32⟩
  | .hbm, ⟨11, _⟩ => ⟨S4096x3x512, .f32⟩
  | .hbm, ⟨12, _⟩ => ⟨S3x1024x512, .f32⟩
  | .hbm, ⟨13, _⟩ => ⟨S3x512x1024, .f32⟩
  | .hbm, ⟨14, _⟩ => ⟨S3x4096x512, .f32⟩
  | .hbm, ⟨15, _⟩ => ⟨S3x4096x512, .bf16⟩
  | _, _ => ⟨S3x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== BranchProjDw.lean ====
abbrev S3x4096x512 : Shape := ⟨3, ![3, 4096, 512]⟩
abbrev S3x512x1024 : Shape := ⟨3, ![3, 512, 1024]⟩
abbrev S3x4096x1024 : Shape := ⟨3, ![3, 4096, 1024]⟩
abbrev S3x1024x512 : Shape := ⟨3, ![3, 1024, 512]⟩
abbrev S1x4096x512 : Shape := ⟨3, ![1, 4096, 512]⟩
abbrev S1x512x512 : Shape := ⟨3, ![1, 512, 512]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S3x4096x512, .bf16⟩
  | .hbm, ⟨1, _⟩ => ⟨S3x512x1024, .f32⟩
  | .hbm, ⟨2, _⟩ => ⟨S3x4096x1024, .bf16⟩
  | .hbm, ⟨3, _⟩ => ⟨S3x1024x512, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x512x512, .bf16⟩
  | .local _ .vmem, ⟨5, _⟩ => ⟨S1x512x512, .bf16⟩
  | _, _ => ⟨S3x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![3, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BranchProjDwRefIdeal.lean ====
abbrev S3x4096x512 : Shape := ⟨3, ![3, 4096, 512]⟩
abbrev S3x512x1024 : Shape := ⟨3, ![3, 512, 1024]⟩
abbrev S3x4096x1024 : Shape := ⟨3, ![3, 4096, 1024]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S3x1024x512 : Shape := ⟨3, ![3, 1024, 512]⟩

abbrev nBuf : Space → Nat
  | .hbm => 16
  | .vmem => 0
  | .smem => 0
  | _ => 0

abbrev bufTy : (tb : Table) → Fin (tcTables nBuf tb) → BufTy
  | .hbm, ⟨0, _⟩ => ⟨S3x4096x512, .bf16⟩
  | .hbm, ⟨1, _⟩ => ⟨S3x512x1024, .f32⟩
  | .hbm, ⟨2, _⟩ => ⟨S3x4096x1024, .bf16⟩
  | .hbm, ⟨3, _⟩ => ⟨S3x4096x512, .f32⟩
  | .hbm, ⟨4, _⟩ => ⟨S4096x3x512, .f32⟩
  | .hbm, ⟨5, _⟩ => ⟨S3x1024x4096, .f32⟩
  | .hbm, ⟨6, _⟩ => ⟨S4096x3x1024, .f32⟩
  | .hbm, ⟨7, _⟩ => ⟨S3x4096x1024, .f32⟩
  | .hbm, ⟨8, _⟩ => ⟨S4096x3x1024, .f32⟩
  | .hbm, ⟨9, _⟩ => ⟨S3x1024x4096, .f32⟩
  | .hbm, ⟨10, _⟩ => ⟨S3x4096x512, .f32⟩
  | .hbm, ⟨11, _⟩ => ⟨S4096x3x512, .f32⟩
  | .hbm, ⟨12, _⟩ => ⟨S3x1024x512, .f32⟩
  | .hbm, ⟨13, _⟩ => ⟨S3x512x1024, .f32⟩
  | .hbm, ⟨14, _⟩ => ⟨S3x1024x512, .f32⟩
  | .hbm, ⟨15, _⟩ => ⟨S3x1024x512, .bf16⟩
  | _, _ => ⟨S3x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== OutProjDx.lean ====
abbrev S4096x1024 : Shape := ⟨2, ![4096, 1024]⟩
abbrev S1024x1024 : Shape := ⟨2, ![1024, 1024]⟩
abbrev S1x1024x1024 : Shape := ⟨3, ![1, 1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S1x1024x1024, .bf16⟩
  | .hbm, ⟨5, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProjDw.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemQDx.lean ====
abbrev S4096x1024 : Shape := ⟨2, ![4096, 1024]⟩
abbrev S1024x512 : Shape := ⟨2, ![1024, 512]⟩
abbrev S4096x512 : Shape := ⟨2, ![4096, 512]⟩
abbrev S1x1024x512 : Shape := ⟨3, ![1, 1024, 512]⟩
abbrev S2048x512 : Shape := ⟨2, ![2048, 512]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .f32⟩
  | .hbm, ⟨2, _⟩ => ⟨S4096x512, .bf16⟩
  | .hbm, ⟨3, _⟩ => ⟨S1024x512, .bf16⟩
  | .hbm, ⟨4, _⟩ => ⟨S1x1024x512, .bf16⟩
  | .hbm, ⟨5, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemQDxRefIdeal.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .f32⟩
  | .hbm, ⟨2, _⟩ => ⟨S4096x512, .bf16⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S512x1024, .f32⟩
  | .hbm, ⟨7, _⟩ => ⟨S1024x512, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemQDw.lean ====
abbrev S4096x1024 : Shape := ⟨2, ![4096, 1024]⟩
abbrev S1024x512 : Shape := ⟨2, ![1024, 512]⟩
abbrev S4096x512 : Shape := ⟨2, ![4096, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .f32⟩
  | .hbm, ⟨2, _⟩ => ⟨S4096x512, .bf16⟩
  | .hbm, ⟨3, _⟩ => ⟨S1024x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemQDwRefIdeal.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .f32⟩
  | .hbm, ⟨2, _⟩ => ⟨S4096x512, .bf16⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S512x1024, .f32⟩
  | .hbm, ⟨7, _⟩ => ⟨S1024x512, .f32⟩
  | .hbm, ⟨8, _⟩ => ⟨S4096x1024, .f32⟩
  | .hbm, ⟨9, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemODx.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1x1024x512 : Shape := ⟨3, ![1, 1024, 512]⟩
abbrev S2048x1024 : Shape := ⟨2, ![2048, 1024]⟩
abbrev S2048x512 : Shape := ⟨2, ![2048, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S1024x512, .f32⟩
  | .hbm, ⟨4, _⟩ => ⟨S1024x512, .bf16⟩
  | .hbm, ⟨5, _⟩ => ⟨S1x1024x512, .bf16⟩
  | .hbm, ⟨6, _⟩ => ⟨S4096x512, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S2048x512, .bf16⟩
  | .local _ .vmem, ⟨4, _⟩ => ⟨S2048x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemODxRefIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S4096x512, .f32⟩
  | .hbm, ⟨9, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemODw.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S1024x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemODwRefIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S4096x512, .f32⟩
  | .hbm, ⟨9, _⟩ => ⟨S1024x512, .f32⟩
  | .hbm, ⟨10, _⟩ => ⟨S1024x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MemKvDx.lean ====
abbrev S256x1024 : Shape := ⟨2, ![256, 1024]⟩
abbrev S1024x1024 : Shape := ⟨2, ![1024, 1024]⟩
abbrev S1x1024x1024 : Shape := ⟨3, ![1, 1024, 1024]⟩

abbrev nBuf : Space → Nat
  | .hbm => 6
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S256x1024, .f32⟩
  | .hbm, ⟨3, _⟩ => ⟨S1024x1024, .bf16⟩
  | .hbm, ⟨4, _⟩ => ⟨S1x1024x1024, .bf16⟩
  | .hbm, ⟨5, _⟩ => ⟨S256x1024, .f32⟩
  | .local _ .vmem, ⟨0, _⟩ => ⟨S256x1024, .f32⟩
  | .local _ .vmem, ⟨1, _⟩ => ⟨S1x1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvDxRefIdeal.lean ====
abbrev S256x1024 : Shape := ⟨2, ![256, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S1024x1024, .f32⟩
  | .hbm, ⟨7, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemKvDw.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S256x1024, .f32⟩
  | .hbm, ⟨3, _⟩ => ⟨S1024x1024, .bf16⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvDwRefIdeal.lean ====
abbrev S256x1024 : Shape := ⟨2, ![256, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S1024x1024, .f32⟩
  | .hbm, ⟨7, _⟩ => ⟨S256x1024, .f32⟩
  | .hbm, ⟨8, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchProj.lean ====
abbrev S3x4096x512 : Shape := ⟨3, ![3, 4096, 512]⟩
abbrev S3x512x1024 : Shape := ⟨3, ![3, 512, 1024]⟩
abbrev S3x1024x512 : Shape := ⟨3, ![3, 1024, 512]⟩
abbrev S3x4096x1024 : Shape := ⟨3, ![3, 4096, 1024]⟩
abbrev S1x2048x512 : Shape := ⟨3, ![1, 2048, 512]⟩
abbrev S1x1024x512 : Shape := ⟨3, ![1, 1024, 512]⟩
abbrev S1x2048x1024 : Shape := ⟨3, ![1, 2048, 1024]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S3x4096x512, .bf16⟩
  | .hbm, ⟨1, _⟩ => ⟨S3x512x1024, .f32⟩
  | .hbm, ⟨2, _⟩ => ⟨S3x1024x512, .f32⟩
  | .hbm, ⟨3, _⟩ => ⟨S3x1024x512, .bf16⟩
  | .hbm, ⟨4, _⟩ => ⟨S3x4096x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x2048x1024, .bf16⟩
  | .local _ .vmem, ⟨5, _⟩ => ⟨S1x2048x1024, .bf16⟩
  | _, _ => ⟨S3x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![3, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BranchProjRefIdeal.lean ====
abbrev S3x4096x512 : Shape := ⟨3, ![3, 4096, 512]⟩
abbrev S3x512x1024 : Shape := ⟨3, ![3, 512, 1024]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S3x4096x1024 : Shape := ⟨3, ![3, 4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S3x4096x512, .bf16⟩
  | .hbm, ⟨1, _⟩ => ⟨S3x512x1024, .f32⟩
  | .hbm, ⟨2, _⟩ => ⟨S3x4096x512, .f32⟩
  | .hbm, ⟨3, _⟩ => ⟨S4096x3x512, .f32⟩
  | .hbm, ⟨4, _⟩ => ⟨S3x1024x4096, .f32⟩
  | .hbm, ⟨5, _⟩ => ⟨S4096x3x1024, .f32⟩
  | .hbm, ⟨6, _⟩ => ⟨S3x4096x1024, .f32⟩
  | .hbm, ⟨7, _⟩ => ⟨S3x4096x1024, .bf16⟩
  | _, _ => ⟨S3x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1x1024x1024 : Shape := ⟨3, ![1, 1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemQ.lean ====
abbrev S4096x1024 : Shape := ⟨2, ![4096, 1024]⟩
abbrev S1024x512 : Shape := ⟨2, ![1024, 512]⟩
abbrev S1x1024x512 : Shape := ⟨3, ![1, 1024, 512]⟩
abbrev S4096x512 : Shape := ⟨2, ![4096, 512]⟩
abbrev S2048x1024 : Shape := ⟨2, ![2048, 1024]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .f32⟩
  | .hbm, ⟨2, _⟩ => ⟨S1024x512, .bf16⟩
  | .hbm, ⟨3, _⟩ => ⟨S1x1024x512, .bf16⟩
  | .hbm, ⟨4, _⟩ => ⟨S4096x512, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S2048x512, .f32⟩
  | .local _ .vmem, ⟨4, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemQRefIdeal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .f32⟩
  | .hbm, ⟨2, _⟩ => ⟨S4096x1024, .f32⟩
  | .hbm, ⟨3, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemO.lean ====
abbrev S4096x512 : Shape := ⟨2, ![4096, 512]⟩
abbrev S512x1024 : Shape := ⟨2, ![512, 1024]⟩
abbrev S1024x512 : Shape := ⟨2, ![1024, 512]⟩
abbrev S1x1024x512 : Shape := ⟨3, ![1, 1024, 512]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S1024x512, .f32⟩
  | .hbm, ⟨3, _⟩ => ⟨S1024x512, .bf16⟩
  | .hbm, ⟨4, _⟩ => ⟨S1x1024x512, .bf16⟩
  | .hbm, ⟨5, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S2048x1024, .bf16⟩
  | .local _ .vmem, ⟨4, _⟩ => ⟨S2048x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemORefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x512, .f32⟩
  | .hbm, ⟨3, _⟩ => ⟨S4096x1024, .f32⟩
  | .hbm, ⟨4, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemKv.lean ====
abbrev S256x1024 : Shape := ⟨2, ![256, 1024]⟩
abbrev S1024x1024 : Shape := ⟨2, ![1024, 1024]⟩
abbrev S1x1024x1024 : Shape := ⟨3, ![1, 1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S256x1024, .f32⟩
  | .local _ .vmem, ⟨0, _⟩ => ⟨S256x1024, .bf16⟩
  | .local _ .vmem, ⟨1, _⟩ => ⟨S1x1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRefIdeal.lean ====
abbrev S256x1024 : Shape := ⟨2, ![256, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S256x1024, .f32⟩
  | .hbm, ⟨3, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== NormInBwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .bf16⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormInBwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormIn.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemNormBwd.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemNormBwdRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== MemNorm.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormTopBwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormTopBwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== StepSmall.lean ====
abbrev S4x6x256 : Shape := ⟨3, ![4, 6, 256]⟩
abbrev S4x1024 : Shape := ⟨2, ![4, 1024]⟩
abbrev S4x8 : Shape := ⟨2, ![4, 8]⟩
abbrev S4x4x128x128 : Shape := ⟨4, ![4, 4, 128, 128]⟩
abbrev S4x4x128 : Shape := ⟨3, ![4, 4, 128]⟩
abbrev S4x512 : Shape := ⟨2, ![4, 512]⟩
abbrev S48x128 : Shape := ⟨2, ![48, 128]⟩
abbrev S32x128 : Shape := ⟨2, ![32, 128]⟩
abbrev S32 : Shape := ⟨1, ![32]⟩
abbrev S_ : Shape := ⟨0, ![]⟩
abbrev S128 : Shape := ⟨1, ![128]⟩
abbrev S1x128 : Shape := ⟨2, ![1, 128]⟩
abbrev S8x128 : Shape := ⟨2, ![8, 128]⟩
abbrev S2048x128 : Shape := ⟨2, ![2048, 128]⟩
abbrev S16x128 : Shape := ⟨2, ![16, 128]⟩
abbrev S376x128 : Shape := ⟨2, ![376, 128]⟩
abbrev S4608x128 : Shape := ⟨2, ![4608, 128]⟩
abbrev S512x128 : Shape := ⟨2, ![512, 128]⟩

abbrev nBuf : Space → Nat
  | .hbm => 161
  | .vmem => 14
  | .smem => 0
  | _ => 0

abbrev hbmTy0_0 (i : Nat) : BufTy := match i % 128 with
  | 0 => ⟨S4x6x256, .f32⟩
  | 1 => ⟨S4x1024, .f32⟩
  | 2 => ⟨S4x8, .f32⟩
  | 3 => ⟨S4x4x128x128, .f32⟩
  | 4 => ⟨S4x4x128, .f32⟩
  | 5 => ⟨S4x512, .f32⟩
  | 6 => ⟨S4x4x128x128, .f32⟩
  | 7 => ⟨S4x512, .f32⟩
  | 8 => ⟨S4x6x256, .f32⟩
  | 9 => ⟨S4x1024, .f32⟩
  | 10 => ⟨S4x8, .f32⟩
  | 11 => ⟨S4x4x128x128, .f32⟩
  | 12 => ⟨S4x4x128, .f32⟩
  | 13 => ⟨S4x512, .f32⟩
  | 14 => ⟨S4x4x128x128, .f32⟩
  | 15 => ⟨S4x512, .f32⟩
  | 16 => ⟨S4x6x256, .f32⟩
  | 17 => ⟨S4x1024, .f32⟩
  | 18 => ⟨S4x8, .f32⟩
  | 19 => ⟨S4x4x128x128, .f32⟩
  | 20 => ⟨S4x4x128, .f32⟩
  | 21 => ⟨S4x512, .f32⟩
  | 22 => ⟨S4x4x128x128, .f32⟩
  | 23 => ⟨S4x512, .f32⟩
  | 24 => ⟨S4x6x256, .f32⟩
  | 25 => ⟨S4x1024, .f32⟩
  | 26 => ⟨S4x8, .f32⟩
  | 27 => ⟨S4x4x128x128, .f32⟩
  | 28 => ⟨S4x4x128, .f32⟩
  | 29 => ⟨S4x512, .f32⟩
  | 30 => ⟨S4x4x128x128, .f32⟩
  | 31 => ⟨S4x512, .f32⟩
  | 32 => ⟨S48x128, .f32⟩
  | 33 => ⟨S32x128, .f32⟩
  | 34 => ⟨S32, .f32⟩
  | 35 => ⟨S_, .i32⟩
  | 36 => ⟨S_, .f32⟩
  | 37 => ⟨S128, .f32⟩
  | 38 => ⟨S1x128, .f32⟩
  | 39 => ⟨S_, .i32⟩
  | 40 => ⟨S_, .f32⟩
  | 41 => ⟨S8x128, .f32⟩
  | 42 => ⟨S2048x128, .f32⟩
  | 43 => ⟨S16x128, .f32⟩
  | 44 => ⟨S16x128, .f32⟩
  | 45 => ⟨S2048x128, .f32⟩
  | 46 => ⟨S16x128, .f32⟩
  | 47 => ⟨S_, .f32⟩
  | 48 => ⟨S376x128, .f32⟩
  | 49 => ⟨S4608x128, .f32⟩
  | 50 => ⟨S48x128, .f32⟩
  | 51 => ⟨S32x128, .f32⟩
  | 52 => ⟨S32, .f32⟩
  | 53 => ⟨S_, .i32⟩
  | 54 => ⟨S_, .f32⟩
  | 55 => ⟨S128, .f32⟩
  | 56 => ⟨S1x128, .f32⟩
  | 57 => ⟨S_, .i32⟩
  | 58 => ⟨S_, .f32⟩
  | 59 => ⟨S8x128, .f32⟩
  | 60 => ⟨S2048x128, .f32⟩
  | 61 => ⟨S16x128, .f32⟩
  | 62 => ⟨S16x128, .f32⟩
  | 63 => ⟨S2048x128, .f32⟩
  | 64 => ⟨S16x128, .f32⟩
  | 65 => ⟨S_, .f32⟩
  | 66 => ⟨S376x128, .f32⟩
  | 67 => ⟨S4608x128, .f32⟩
  | 68 => ⟨S48x128, .f32⟩
  | 69 => ⟨S32x128, .f32⟩
  | 70 => ⟨S32, .f32⟩
  | 71 => ⟨S_, .i32⟩
  | 72 => ⟨S_, .f32⟩
  | 73 => ⟨S128, .f32⟩
  | 74 => ⟨S1x128, .f32⟩
  | 75 => ⟨S_, .i32⟩
  | 76 => ⟨S_, .f32⟩
  | 77 => ⟨S8x128, .f32⟩
  | 78 => ⟨S2048x128, .f32⟩
  | 79 => ⟨S16x128, .f32⟩
  | 80 => ⟨S16x128, .f32⟩
  | 81 => ⟨S2048x128, .f32⟩
  | 82 => ⟨S16x128, .f32⟩
  | 83 => ⟨S_, .f32⟩
  | 84 => ⟨S376x128, .f32⟩
  | 85 => ⟨S4608x128, .f32⟩
  | 86 => ⟨S48x128, .f32⟩
  | 87 => ⟨S32x128, .f32⟩
  | 88 => ⟨S32, .f32⟩
  | 89 => ⟨S_, .i32⟩
  | 90 => ⟨S_, .f32⟩
  | 91 => ⟨S128, .f32⟩
  | 92 => ⟨S1x128, .f32⟩
  | 93 => ⟨S_, .i32⟩
  | 94 => ⟨S_, .f32⟩
  | 95 => ⟨S8x128, .f32⟩
  | 96 => ⟨S2048x128, .f32⟩
  | 97 => ⟨S16x128, .f32⟩
  | 98 => ⟨S16x128, .f32⟩
  | 99 => ⟨S2048x128, .f32⟩
  | 100 => ⟨S16x128, .f32⟩
  | 101 => ⟨S_, .f32⟩
  | 102 => ⟨S376x128, .f32⟩
  | 103 => ⟨S4608x128, .f32⟩
  | 104 => ⟨S4608x128, .f32⟩
  | 105 => ⟨S4608x128, .f32⟩
  | 106 => ⟨S4608x128, .f32⟩
  | 107 => ⟨S48x128, .f32⟩
  | 108 => ⟨S4x6x256, .f32⟩
  | 109 => ⟨S32x128, .f32⟩
  | 110 => ⟨S4x1024, .f32⟩
  | 111 => ⟨S1x128, .f32⟩
  | 112 => ⟨S128, .f32⟩
  | 113 => ⟨S32, .f32⟩
  | 114 => ⟨S4x8, .f32⟩
  | 115 => ⟨S2048x128, .f32⟩
  | 116 => ⟨S4x4x128x128, .f32⟩
  | 117 => ⟨S16x128, .f32⟩
  | 118 => ⟨S4x4x128, .f32⟩
  | 119 => ⟨S16x128, .f32⟩
  | 120 => ⟨S4x512, .f32⟩
  | 121 => ⟨S2048x128, .f32⟩
  | 122 => ⟨S4x4x128x128, .f32⟩
  | 123 => ⟨S16x128, .f32⟩
  | 124 => ⟨S4x512, .f32⟩
  | 125 => ⟨S48x128, .f32⟩
  | 126 => ⟨S4x6x256, .f32⟩
  | 127 => ⟨S32x128, .f32⟩
  | _ => ⟨S4x6x256, .f32⟩

abbrev hbmTy0_1 (i : Nat) : BufTy := match i % 128 with
  | 0 => ⟨S4x1024, .f32⟩
  | 1 => ⟨S1x128, .f32⟩
  | 2 => ⟨S128, .f32⟩
  | 3 => ⟨S32, .f32⟩
  | 4 => ⟨S4x8, .f32⟩
  | 5 => ⟨S2048x128, .f32⟩
  | 6 => ⟨S4x4x128x128, .f32⟩
  | 7 => ⟨S16x128, .f32⟩
  | 8 => ⟨S4x4x128, .f32⟩
  | 9 => ⟨S16x128, .f32⟩
  | 10 => ⟨S4x512, .f32⟩
  | 11 => ⟨S2048x128, .f32⟩
  | 12 => ⟨S4x4x128x128, .f32⟩
  | 13 => ⟨S16x128, .f32⟩
  | 14 => ⟨S4x512, .f32⟩
  | 15 => ⟨S48x128, .f32⟩
  | 16 => ⟨S4x6x256, .f32⟩
  | 17 => ⟨S32x128, .f32⟩
  | 18 => ⟨S4x1024, .f32⟩
  | 19 => ⟨S1x128, .f32⟩
  | 20 => ⟨S128, .f32⟩
  | 21 => ⟨S32, .f32⟩
  | 22 => ⟨S4x8, .f32⟩
  | 23 => ⟨S2048x128, .f32⟩
  | 24 => ⟨S4x4x128x128, .f32⟩
  | 25 => ⟨S16x128, .f32⟩
  | 26 => ⟨S4x4x128, .f32⟩
  | 27 => ⟨S16x128, .f32⟩
  | 28 => ⟨S4x512, .f32⟩
  | 29 => ⟨S2048x128, .f32⟩
  | 30 => ⟨S4x4x128x128, .f32⟩
  | 31 => ⟨S16x128, .f32⟩
  | 32 => ⟨S4x512, .f32⟩
  | _ => ⟨S4x6x256, .f32⟩

abbrev hbmTy (i : Nat) : BufTy := match i / 128 with
  | 0 => hbmTy0_0 i
  | 1 => hbmTy0_1 i
  | _ => ⟨S4x6x256, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4x6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_c : Ref sig .tc := ⟨.hbm, 35, rfl⟩
abbrev main_call0_v0 : Ref sig .tc := ⟨.hbm, 36, rfl⟩
abbrev main_v3 : Ref sig .tc := ⟨.hbm, 37, rfl⟩
abbrev main_v4 : Ref sig .tc := ⟨.hbm, 38, rfl⟩
abbrev main_c_0 : Ref sig .tc := ⟨.hbm, 39, rfl⟩
abbrev main_call1_v0 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_c_1 : Ref sig .tc := ⟨.hbm, 53, rfl⟩
abbrev main_call2_v0 : Ref sig .tc := ⟨.hbm, 54, rfl⟩
abbrev main_v16 : Ref sig .tc := ⟨.hbm, 55, rfl⟩
abbrev main_v17 : Ref sig .tc := ⟨.hbm, 56, rfl⟩
abbrev main_c_2 : Ref sig .tc := ⟨.hbm, 57, rfl⟩
abbrev main_call3_v0 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_3 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_c_4 : Ref sig .tc := ⟨.hbm, 71, rfl⟩
abbrev main_call4_v0 : Ref sig .tc := ⟨.hbm, 72, rfl⟩
abbrev main_v29 : Ref sig .tc := ⟨.hbm, 73, rfl⟩
abbrev main_v30 : Ref sig .tc := ⟨.hbm, 74, rfl⟩
abbrev main_c_5 : Ref sig .tc := ⟨.hbm, 75, rfl⟩
abbrev main_call5_v0 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_6 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_c_7 : Ref sig .tc := ⟨.hbm, 89, rfl⟩
abbrev main_call6_v0 : Ref sig .tc := ⟨.hbm, 90, rfl⟩
abbrev main_v42 : Ref sig .tc := ⟨.hbm, 91, rfl⟩
abbrev main_v43 : Ref sig .tc := ⟨.hbm, 92, rfl⟩
abbrev main_c_8 : Ref sig .tc := ⟨.hbm, 93, rfl⟩
abbrev main_call7_v0 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_9 : Ref sig .tc := ⟨.hbm, 101, rfl⟩
abbrev main_v50 : Ref sig .tc := ⟨.hbm, 102, rfl⟩
abbrev main_v51 : Ref sig .tc := ⟨.hbm, 103, rfl⟩
abbrev main_v52_0 : Ref sig .tc := ⟨.hbm, 104, rfl⟩
abbrev main_v52_1 : Ref sig .tc := ⟨.hbm, 105, rfl⟩
abbrev main_v52_2 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepSmallRefIdeal.lean ====
abbrev S4x6x256 : Shape := ⟨3, ![4, 6, 256]⟩
abbrev S4x1024 : Shape := ⟨2, ![4, 1024]⟩
abbrev S4x8 : Shape := ⟨2, ![4, 8]⟩
abbrev S4x4x128x128 : Shape := ⟨4, ![4, 4, 128, 128]⟩
abbrev S4x4x128 : Shape := ⟨3, ![4, 4, 128]⟩
abbrev S4x512 : Shape := ⟨2, ![4, 512]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S4x6x256, .f32⟩
  | 1 => ⟨S4x1024, .f32⟩
  | 2 => ⟨S4x8, .f32⟩
  | 3 => ⟨S4x4x128x128, .f32⟩
  | 4 => ⟨S4x4x128, .f32⟩
  | 5 => ⟨S4x512, .f32⟩
  | 6 => ⟨S4x4x128x128, .f32⟩
  | 7 => ⟨S4x512, .f32⟩
  | 8 => ⟨S4x6x256, .f32⟩
  | 9 => ⟨S4x1024, .f32⟩
  | 10 => ⟨S4x8, .f32⟩
  | 11 => ⟨S4x4x128x128, .f32⟩
  | 12 => ⟨S4x4x128, .f32⟩
  | 13 => ⟨S4x512, .f32⟩
  | 14 => ⟨S4x4x128x128, .f32⟩
  | 15 => ⟨S4x512, .f32⟩
  | 16 => ⟨S4x6x256, .f32⟩
  | 17 => ⟨S4x1024, .f32⟩
  | 18 => ⟨S4x8, .f32⟩
  | 19 => ⟨S4x4x128x128, .f32⟩
  | 20 => ⟨S4x4x128, .f32⟩
  | 21 => ⟨S4x512, .f32⟩
  | 22 => ⟨S4x4x128x128, .f32⟩
  | 23 => ⟨S4x512, .f32⟩
  | 24 => ⟨S4x6x256, .f32⟩
  | 25 => ⟨S4x1024, .f32⟩
  | 26 => ⟨S4x8, .f32⟩
  | 27 => ⟨S4x4x128x128, .f32⟩
  | 28 => ⟨S4x4x128, .f32⟩
  | 29 => ⟨S4x512, .f32⟩
  | 30 => ⟨S4x4x128x128, .f32⟩
  | 31 => ⟨S4x512, .f32⟩
  | 32 => ⟨S_, .f32⟩
  | 33 => ⟨S4x6x256, .f32⟩
  | 34 => ⟨S4x6x256, .f32⟩
  | 35 => ⟨S_, .f32⟩
  | 36 => ⟨S4x6x256, .f32⟩
  | 37 => ⟨S4x6x256, .f32⟩
  | 38 => ⟨S4x6x256, .f32⟩
  | 39 => ⟨S_, .f32⟩
  | 40 => ⟨S4x6x256, .f32⟩
  | 41 => ⟨S4x6x256, .f32⟩
  | 42 => ⟨S4x6x256, .f32⟩
  | 43 => ⟨S_, .f32⟩
  | 44 => ⟨S4x6x256, .f32⟩
  | 45 => ⟨S4x6x256, .f32⟩
  | 46 => ⟨S4x6x256, .f32⟩
  | 47 => ⟨S_, .f32⟩
  | 48 => ⟨S4x6x256, .f32⟩
  | 49 => ⟨S4x6x256, .f32⟩
  | 50 => ⟨S_, .f32⟩
  | 51 => ⟨S4x6x256, .f32⟩
  | 52 => ⟨S4x6x256, .f32⟩
  | 53 => ⟨S4x6x256, .f32⟩
  | 54 => ⟨S_, .f32⟩
  | 55 => ⟨S4x6x256, .f32⟩
  | 56 => ⟨S4x6x256, .f32⟩
  | 57 => ⟨S4x6x256, .f32⟩
  | 58 => ⟨S_, .f32⟩
  | 59 => ⟨S4x6x256, .f32⟩
  | 60 => ⟨S4x6x256, .f32⟩
  | 61 => ⟨S4x6x256, .f32⟩
  | 62 => ⟨S_, .f32⟩
  | 63 => ⟨S4x6x256, .f32⟩
  | 64 => ⟨S4x6x256, .f32⟩
  | 65 => ⟨S_, .f32⟩
  | 66 => ⟨S4x1024, .f32⟩
  | 67 => ⟨S4x1024, .f32⟩
  | 68 => ⟨S_, .f32⟩
  | 69 => ⟨S4x1024, .f32⟩
  | 70 => ⟨S4x1024, .f32⟩
  | 71 => ⟨S4x1024, .f32⟩
  | 72 => ⟨S_, .f32⟩
  | 73 => ⟨S4x1024, .f32⟩
  | 74 => ⟨S4x1024, .f32⟩
  | 75 => ⟨S4x1024, .f32⟩
  | 76 => ⟨S_, .f32⟩
  | 77 => ⟨S4x1024, .f32⟩
  | 78 => ⟨S4x1024, .f32⟩
  | 79 => ⟨S4x1024, .f32⟩
  | 80 => ⟨S_, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S_, .f32⟩
  | 99 => ⟨S4x8, .f32⟩
  | 100 => ⟨S4x8, .f32⟩
  | 101 => ⟨S_, .f32⟩
  | 102 => ⟨S4x8, .f32⟩
  | 103 => ⟨S4x8, .f32⟩
  | 104 => ⟨S4x8, .f32⟩
  | 105 => ⟨S_, .f32⟩
  | 106 => ⟨S4x8, .f32⟩
  | 107 => ⟨S4x8, .f32⟩
  | 108 => ⟨S4x8, .f32⟩
  | 109 => ⟨S_, .f32⟩
  | 110 => ⟨S4x8, .f32⟩
  | 111 => ⟨S4x8, .f32⟩
  | 112 => ⟨S4x8, .f32⟩
  | 113 => ⟨S_, .f32⟩
  | 114 => ⟨S4x8, .f32⟩
  | 115 => ⟨S4x8, .f32⟩
  | 116 => ⟨S_, .f32⟩
  | 117 => ⟨S4x8, .f32⟩
  | 118 => ⟨S4x8, .f32⟩
  | 119 => ⟨S4x8, .f32⟩
  | 120 => ⟨S_, .f32⟩
  | 121 => ⟨S4x8, .f32⟩
  | 122 => ⟨S4x8, .f32⟩
  | 123 => ⟨S4x8, .f32⟩
  | 124 => ⟨S_, .f32⟩
  | 125 => ⟨S4x8, .f32⟩
  | 126 => ⟨S4x8, .f32⟩
  | 127 => ⟨S4x8, .f32⟩
  | _ => ⟨S4x6x256, .f32⟩

abbrev hbmTy0_1 (i : Nat) : BufTy := match i % 128 with
  | 0 => ⟨S_, .f32⟩
  | 1 => ⟨S4x8, .f32⟩
  | 2 => ⟨S4x8, .f32⟩
  | 3 => ⟨S_, .f32⟩
  | 4 => ⟨S4x4x128x128, .f32⟩
  | 5 => ⟨S4x4x128x128, .f32⟩
  | 6 => ⟨S_, .f32⟩
  | 7 => ⟨S4x4x128x128, .f32⟩
  | 8 => ⟨S4x4x128x128, .f32⟩
  | 9 => ⟨S4x4x128x128, .f32⟩
  | 10 => ⟨S_, .f32⟩
  | 11 => ⟨S4x4x128x128, .f32⟩
  | 12 => ⟨S4x4x128x128, .f32⟩
  | 13 => ⟨S4x4x128x128, .f32⟩
  | 14 => ⟨S_, .f32⟩
  | 15 => ⟨S4x4x128x128, .f32⟩
  | 16 => ⟨S4x4x128x128, .f32⟩
  | 17 => ⟨S4x4x128x128, .f32⟩
  | 18 => ⟨S_, .f32⟩
  | 19 => ⟨S4x4x128x128, .f32⟩
  | 20 => ⟨S4x4x128x128, .f32⟩
  | 21 => ⟨S_, .f32⟩
  | 22 => ⟨S4x4x128x128, .f32⟩
  | 23 => ⟨S4x4x128x128, .f32⟩
  | 24 => ⟨S4x4x128x128, .f32⟩
  | 25 => ⟨S_, .f32⟩
  | 26 => ⟨S4x4x128x128, .f32⟩
  | 27 => ⟨S4x4x128x128, .f32⟩
  | 28 => ⟨S4x4x128x128, .f32⟩
  | 29 => ⟨S_, .f32⟩
  | 30 => ⟨S4x4x128x128, .f32⟩
  | 31 => ⟨S4x4x128x128, .f32⟩
  | 32 => ⟨S4x4x128x128, .f32⟩
  | 33 => ⟨S_, .f32⟩
  | 34 => ⟨S4x4x128x128, .f32⟩
  | 35 => ⟨S4x4x128x128, .f32⟩
  | 36 => ⟨S_, .f32⟩
  | 37 => ⟨S4x4x128, .f32⟩
  | 38 => ⟨S4x4x128, .f32⟩
  | 39 => ⟨S_, .f32⟩
  | 40 => ⟨S4x4x128, .f32⟩
  | 41 => ⟨S4x4x128, .f32⟩
  | 42 => ⟨S4x4x128, .f32⟩
  | 43 => ⟨S_, .f32⟩
  | 44 => ⟨S4x4x128, .f32⟩
  | 45 => ⟨S4x4x128, .f32⟩
  | 46 => ⟨S4x4x128, .f32⟩
  | 47 => ⟨S_, .f32⟩
  | 48 => ⟨S4x4x128, .f32⟩
  | 49 => ⟨S4x4x128, .f32⟩
  | 50 => ⟨S4x4x128, .f32⟩
  | 51 => ⟨S_, .f32⟩
  | 52 => ⟨S4x4x128, .f32⟩
  | 53 => ⟨S4x4x128, .f32⟩
  | 54 => ⟨S_, .f32⟩
  | 55 => ⟨S4x4x128, .f32⟩
  | 56 => ⟨S4x4x128, .f32⟩
  | 57 => ⟨S4x4x128, .f32⟩
  | 58 => ⟨S_, .f32⟩
  | 59 => ⟨S4x4x128, .f32⟩
  | 60 => ⟨S4x4x128, .f32⟩
  | 61 => ⟨S4x4x128, .f32⟩
  | 62 => ⟨S_, .f32⟩
  | 63 => ⟨S4x4x128, .f32⟩
  | 64 => ⟨S4x4x128, .f32⟩
  | 65 => ⟨S4x4x128, .f32⟩
  | 66 => ⟨S_, .f32⟩
  | 67 => ⟨S4x4x128, .f32⟩
  | 68 => ⟨S4x4x128, .f32⟩
  | 69 => ⟨S_, .f32⟩
  | 70 => ⟨S4x512, .f32⟩
  | 71 => ⟨S4x512, .f32⟩
  | 72 => ⟨S_, .f32⟩
  | 73 => ⟨S4x512, .f32⟩
  | 74 => ⟨S4x512, .f32⟩
  | 75 => ⟨S4x512, .f32⟩
  | 76 => ⟨S_, .f32⟩
  | 77 => ⟨S4x512, .f32⟩
  | 78 => ⟨S4x512, .f32⟩
  | 79 => ⟨S4x512, .f32⟩
  | 80 => ⟨S_, .f32⟩
  | 81 => ⟨S4x512, .f32⟩
  | 82 => ⟨S4x512, .f32⟩
  | 83 => ⟨S4x512, .f32⟩
  | 84 => ⟨S_, .f32⟩
  | 85 => ⟨S4x512, .f32⟩
  | 86 => ⟨S4x512, .f32⟩
  | 87 => ⟨S_, .f32⟩
  | 88 => ⟨S4x512, .f32⟩
  | 89 => ⟨S4x512, .f32⟩
  | 90 => ⟨S4x512, .f32⟩
  | 91 => ⟨S_, .f32⟩
  | 92 => ⟨S4x512, .f32⟩
  | 93 => ⟨S4x512, .f32⟩
  | 94 => ⟨S4x512, .f32⟩
  | 95 => ⟨S_, .f32⟩
  | 96 => ⟨S4x512, .f32⟩
  | 97 => ⟨S4x512, .f32⟩
  | 98 => ⟨S4x512, .f32⟩
  | 99 => ⟨S_, .f32⟩
  | 100 => ⟨S4x512, .f32⟩
  | 101 => ⟨S4x512, .f32⟩
  | 102 => ⟨S_, .f32⟩
  | 103 => ⟨S4x4x128x128, .f32⟩
  | 104 => ⟨S4x4x128x128, .f32⟩
  | 105 => ⟨S_, .f32⟩
  | 106 => ⟨S4x4x128x128, .f32⟩
  | 107 => ⟨S4x4x128x128, .f32⟩
  | 108 => ⟨S4x4x128x128, .f32⟩
  | 109 => ⟨S_, .f32⟩
  | 110 => ⟨S4x4x128x128, .f32⟩
  | 111 => ⟨S4x4x128x128, .f32⟩
  | 112 => ⟨S4x4x128x128, .f32⟩
  | 113 => ⟨S_, .f32⟩
  | 114 => ⟨S4x4x128x128, .f32⟩
  | 115 => ⟨S4x4x128x128, .f32⟩
  | 116 => ⟨S4x4x128x128, .f32⟩
  | 117 => ⟨S_, .f32⟩
  | 118 => ⟨S4x4x128x128, .f32⟩
  | 119 => ⟨S4x4x128x128, .f32⟩
  | 120 => ⟨S_, .f32⟩
  | 121 => ⟨S4x4x128x128, .f32⟩
  | 122 => ⟨S4x4x128x128, .f32⟩
  | 123 => ⟨S4x4x128x128, .f32⟩
  | 124 => ⟨S_, .f32⟩
  | 125 => ⟨S4x4x128x128, .f32⟩
  | 126 => ⟨S4x4x128x128, .f32⟩
  | 127 => ⟨S4x4x128x128, .f32⟩
  | _ => ⟨S4x6x256, .f32⟩

abbrev hbmTy0_2 (i : Nat) : BufTy := match i % 128 with
  | 0 => ⟨S_, .f32⟩
  | 1 => ⟨S4x4x128x128, .f32⟩
  | 2 => ⟨S4x4x128x128, .f32⟩
  | 3 => ⟨S4x4x128x128, .f32⟩
  | 4 => ⟨S_, .f32⟩
  | 5 => ⟨S4x4x128x128, .f32⟩
  | 6 => ⟨S4x4x128x128, .f32⟩
  | 7 => ⟨S_, .f32⟩
  | 8 => ⟨S4x512, .f32⟩
  | 9 => ⟨S4x512, .f32⟩
  | 10 => ⟨S_, .f32⟩
  | 11 => ⟨S4x512, .f32⟩
  | 12 => ⟨S4x512, .f32⟩
  | 13 => ⟨S4x512, .f32⟩
  | 14 => ⟨S_, .f32⟩
  | 15 => ⟨S4x512, .f32⟩
  | 16 => ⟨S4x512, .f32⟩
  | 17 => ⟨S4x512, .f32⟩
  | 18 => ⟨S_, .f32⟩
  | 19 => ⟨S4x512, .f32⟩
  | 20 => ⟨S4x512, .f32⟩
  | 21 => ⟨S4x512, .f32⟩
  | 22 => ⟨S_, .f32⟩
  | 23 => ⟨S4x512, .f32⟩
  | 24 => ⟨S4x512, .f32⟩
  | 25 => ⟨S_, .f32⟩
  | 26 => ⟨S4x512, .f32⟩
  | 27 => ⟨S4x512, .f32⟩
  | 28 => ⟨S4x512, .f32⟩
  | 29 => ⟨S_, .f32⟩
  | 30 => ⟨S4x512, .f32⟩
  | 31 => ⟨S4x512, .f32⟩
  | 32 => ⟨S4x512, .f32⟩
  | 33 => ⟨S_, .f32⟩
  | 34 => ⟨S4x512, .f32⟩
  | 35 => ⟨S4x512, .f32⟩
  | 36 => ⟨S4x512, .f32⟩
  | 37 => ⟨S_, .f32⟩
  | 38 => ⟨S4x512, .f32⟩
  | 39 => ⟨S4x512, .f32⟩
  | _ => ⟨S4x6x256, .f32⟩

abbrev hbmTy (i : Nat) : BufTy := match i / 128 with
  | 0 => hbmTy0_0 i
  | 1 => hbmTy0_1 i
  | 2 => hbmTy0_2 i
  | _ => ⟨S4x6x256, .f32⟩

abbrev bufTy : (tb : Table) → Fin (tcTables nBuf tb) → BufTy
  | .hbm, ⟨i, _⟩ => hbmTy i
  | _, _ => ⟨S4x6x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== Proof.ReferenceFrame.lean ====
/-
  The frame of a reference: a program that declares no semaphore ends with every counter at zero, so a run that keeps the
  arguments is a frame.
-/
module

public import Idealize.ShloMosaic.Lib.Quiescent
public import Idealize.ShloMosaic.Lib.StableHlo.Run

@[expose] public section

noncomputable section

namespace Cert.ReferenceFrame

open Idealize.ShloMosaic Idealize.SL.Sem

variable {nD : ℕ} {τ : Topo} {sig : RefSig} {Val : EltTy → Type} {Λ : Labels} {defs : Defs nD τ sig Val Λ}
  {p : (c : Thread nD τ) → Prog (TpuEff nD τ sig Val Λ c.2) PUnit} {s : MemSt nD τ sig Val}
  {known kept : Dev nD → PUnit × MemSt nD τ sig Val → Prop}

/-- What is known of each device at the end of the run includes what it keeps (`keep`). -/
theorem frame (run : θ_run defs p s fun r => ∀ c, known c r) (keep : ∀ c r, known c r → kept c r)
    (none : sig.nSem + sig.nDmaSem = 0 := by decide) : θ_run defs p s fun r => (∀ c, kept c r) ∧ r.2.sem = fun _ => 0 :=
  (θ_run defs p s).mono (fun r h => ⟨fun c => keep c r (h c), sem_eq_zero_of_no_sems none r.2⟩) run

end Cert.ReferenceFrame

end
-- ==== Proof.MemoryRow.lean ====
/-
  One query row of the attention over the memory, and its gradient, over the extended reals.
  The kernel and the plain gradient spell the same row in two ways: the kernel multiplies each weight by the
  reciprocal of their sum and forms `p * (dp - ∑ p * dp)`; the gradient of the softmax's quotient divides by the sum and
  by its square. `dscore_eq` says that the two spellings agree whenever the query and the keys are finite.
-/
module

public import Idealize.ShloMosaic.PureOps.Ideal
public import Idealize.ShloMosaic.PureOps.Ideal.Laws

@[expose] public section

noncomputable section

namespace Cert.MemoryRow

open Idealize.ShloMosaic

/-- The extended real is a real number. -/
def IsReal (x : EReal) : Prop := ∃ r : ℝ, x = (r : EReal)

/-- A product of real numbers is one. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is one. -/
theorem IsReal.sum {ι : Type*} (s : Finset ι) (f : ι → EReal) (h : ∀ i, IsReal (f i)) : IsReal (∑ i ∈ s, f i) := by
  classical
  choose g hg using h
  refine ⟨∑ i ∈ s, g i, ?_⟩
  rw [Finset.sum_congr rfl fun i _ => hg i]
  induction s using Finset.induction_on with
  | empty => simp
  | insert a s ha ih => rw [Finset.sum_insert ha, Finset.sum_insert ha, EReal.coe_add, ih]

/-- The pattern of the score's scale denotes a positive real number. -/
theorem scale_real : ∃ c : ℝ, 0 < c ∧ Ideal.ofBits .f32 0x3DB504F3#32 = (c : EReal) := by
  refine ⟨_, ?_, by simp [Ideal.ofBits, Ideal.ieee]; rfl⟩
  positivity

/-- The pattern a maximum starts from denotes −∞. -/
theorem negInf_eq : Ideal.ofBits .f32 0xFF800000#32 = ⊥ := by simp [Ideal.ofBits, Ideal.ieee]

/-- A maximum over a nonempty range, started from −∞, is one of the entries. -/
theorem fold_max_mem {n : ℕ} (i₀ : Fin n) (f : Fin n → EReal) : ∃ i, Finset.fold max ⊥ f Finset.univ = f i := by
  have hle : ∀ i, f i ≤ Finset.fold max ⊥ f Finset.univ := fun i =>
    Finset.le_fold_max _ |>.mpr (Or.inr ⟨i, Finset.mem_univ i, le_rfl⟩)
  rcases (Finset.le_fold_max (Finset.fold max ⊥ f Finset.univ)).mp le_rfl with h | ⟨i, -, h⟩
  · exact ⟨i₀, le_antisymm (le_trans h bot_le) (hle i₀)⟩
  · exact ⟨i, le_antisymm h (hle i)⟩

/-- Multiplying by a nonnegative real number distributes over every finite sum of extended reals. -/
theorem coe_mul_sum {ι : Type*} (s : Finset ι) (c : ℝ) (hc : 0 ≤ c) (f : ι → EReal) :
    ∑ i ∈ s, (c : EReal) * f i = (c : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr hc) (EReal.coe_ne_top c)]

/-- Division by a nonzero real number is multiplication by its inverse. -/
theorem div_coe (x : EReal) {l : ℝ} (hl : l ≠ 0) : Ideal.div x (l : EReal) = x * ((l⁻¹ : ℝ) : EReal) := by
  unfold Ideal.div
  rw [if_neg (by exact_mod_cast hl), EReal.coe_inv]

/-- The score of a query against key `j`. -/
def score (q : Fin 128 → EReal) (k : Fin 256 → Fin 128 → EReal) (j : Fin 256) : EReal :=
  (∑ x, k j x * q x) * Ideal.ofBits .f32 0x3DB504F3#32

/-- The greatest score of the row. -/
def top (q : Fin 128 → EReal) (k : Fin 256 → Fin 128 → EReal) : EReal :=
  Finset.fold max (Ideal.ofBits .f32 0xFF800000#32) (score q k) Finset.univ

/-- The weight of key `j` before it is divided by the row's sum. -/
def weight (q : Fin 128 → EReal) (k : Fin 256 → Fin 128 → EReal) (j : Fin 256) : EReal :=
  Ideal.exp (score q k j - top q k)

/-- The sum of the row's weights. -/
def total (q : Fin 128 → EReal) (k : Fin 256 → Fin 128 → EReal) : EReal := ∑ j, weight q k j

/-- The attention probability of key `j`, as the kernel forms it. -/
def prob (q : Fin 128 → EReal) (k : Fin 256 → Fin 128 → EReal) (j : Fin 256) : EReal :=
  weight q k j * Ideal.div 1 (total q k)

/-- The gradient that reaches the probability of key `j` from the output row's gradient `o`. -/
def dprob (v : Fin 256 → Fin 128 → EReal) (o : Fin 128 → EReal) (j : Fin 256) : EReal := ∑ x, v j x * o x

/-- The gradient of the raw product of the query with key `j`, as the kernel forms it. -/
def dscore (q : Fin 128 → EReal) (k v : Fin 256 → Fin 128 → EReal) (o : Fin 128 → EReal) (j : Fin 256) : EReal :=
  prob q k j * (dprob v o j - ∑ i, prob q k i * dprob v o i) * Ideal.ofBits .f32 0x3DB504F3#32

variable {q : Fin 128 → EReal} {k : Fin 256 → Fin 128 → EReal}

/-- A finite query against finite keys: every weight is a positive real number. -/
theorem weight_real (hq : ∀ x, IsReal (q x)) (hk : ∀ j x, IsReal (k j x)) :
    ∃ e : Fin 256 → ℝ, (∀ j, 0 < e j) ∧ ∀ j, weight q k j = (e j : EReal) := by
  obtain ⟨c, -, hc⟩ := scale_real
  have hs : ∀ j, IsReal (score q k j) := fun j =>
    (IsReal.sum _ _ fun x => (hk j x).mul (hq x)).mul ⟨c, hc⟩
  choose s hs using hs
  obtain ⟨i, hi⟩ := fold_max_mem 0 (score q k)
  have ht : top q k = (s i : EReal) := by unfold top; rw [negInf_eq, hi, hs]
  refine ⟨fun j => Real.exp (s j - s i), fun j => Real.exp_pos _, fun j => ?_⟩
  unfold weight
  rw [hs, ht, ← EReal.coe_sub]
  rfl

/-- Their sum is a positive real number. -/
theorem total_real (hq : ∀ x, IsReal (q x)) (hk : ∀ j x, IsReal (k j x)) : ∃ l : ℝ, 0 < l ∧ total q k = (l : EReal) := by
  obtain ⟨e, he, h⟩ := weight_real hq hk
  refine ⟨∑ j, e j, Finset.sum_pos (fun j _ => he j) Finset.univ_nonempty, ?_⟩
  unfold total
  rw [Finset.sum_congr rfl fun j _ => h j]
  exact (map_sum (⟨⟨Real.toEReal, EReal.coe_zero⟩, EReal.coe_add⟩ : ℝ →+ EReal) e Finset.univ).symm

/-- The probability as a quotient, the way a softmax writes it. -/
theorem prob_eq (hq : ∀ x, IsReal (q x)) (hk : ∀ j x, IsReal (k j x)) (j : Fin 256) :
    Ideal.div (weight q k j) (total q k) = prob q k j := by
  obtain ⟨l, hl, h⟩ := total_real hq hk
  unfold prob
  rw [h, div_coe _ hl.ne', div_coe _ hl.ne', one_mul]

/-- The gradient through the quotient, by the quotient rule: it is the kernel's spelling of the same gradient. The
    values and the output's gradient may be infinite. -/
theorem dscore_eq (hq : ∀ x, IsReal (q x)) (hk : ∀ j x, IsReal (k j x)) (v : Fin 256 → Fin 128 → EReal)
    (o : Fin 128 → EReal) (j : Fin 256) :
    (Ideal.div (dprob v o j) (total q k)
        + -∑ i, dprob v o i * Ideal.div 1 (total q k * total q k) * weight q k i) * weight q k j
      * Ideal.ofBits .f32 0x3DB504F3#32 = dscore q k v o j := by
  obtain ⟨e, he, hw⟩ := weight_real hq hk
  obtain ⟨l, hl, ht⟩ := total_real hq hk
  unfold dscore
  congr 1
  have hp : ∀ i, prob q k i = ((e i * l⁻¹ : ℝ) : EReal) := fun i => by
    unfold prob
    rw [ht, hw, div_coe _ hl.ne', one_mul, ← EReal.coe_mul]
  have hi : ∀ i, dprob v o i * Ideal.div 1 (total q k * total q k) * weight q k i
      = ((l⁻¹ : ℝ) : EReal) * (prob q k i * dprob v o i) := fun i => by
    rw [ht, hw, hp, ← EReal.coe_mul, div_coe _ (mul_ne_zero hl.ne' hl.ne'), one_mul, mul_assoc, ← EReal.coe_mul,
      ← mul_assoc, ← EReal.coe_mul, mul_comm]
    congr 2
    rw [mul_inv]; ring
  rw [Finset.sum_congr rfl fun i _ => hi i, coe_mul_sum _ _ (inv_pos.mpr hl).le, hp, hw, ht, div_coe _ hl.ne',
    mul_comm (dprob v o j), ← mul_neg,
    ← EReal.left_distrib_of_nonneg_of_ne_top (EReal.coe_nonneg.mpr (inv_pos.mpr hl).le) (EReal.coe_ne_top _),
    mul_comm, ← mul_assoc, ← EReal.coe_mul, sub_eq_add_neg]

end Cert.MemoryRow

end
-- ==== Proof.MemoryBlock.lean ====
/-
  What one grid point of the memory attention's backward kernel leaves: a block of 512 rows of the query's gradient, and
  the running gradient of the keys and values with the block's rows added to it.
-/
module

public import proofs.«01_k».proof.Proof.MemoryRow
public import proofs.«01_k».proof.Proof.Gen.MemoryBwdIdeal.Value
public import Idealize.ShloMosaic.Lib.Pointwise
public import Idealize.ShloMosaic.Lib.Tactic
public import Idealize.ShloMosaic.Lib.Pipeline.ReadBack

@[expose] public section

noncomputable section

namespace Cert.MemoryBlock

open Cert.MemoryBwdIdeal Cert.MemoryBwdIdeal.Gen Idealize.ShloMosaic Idealize.ShloMosaic.TcCoe Idealize.SL.Sem
open Cert.MemoryRow

/-- Column `d` of head `h`. -/
def hcol (h : Fin 4) (d : Fin 128) : Fin 512 := ⟨h.val * 128 + d.val, by omega⟩

/-- Row `r` of head `h` in an array with 512 columns. -/
def head {R : ℕ} (X : (⟨2, ![R, 512]⟩ : Shape).Idx → EReal) (h : Fin 4) (r : Fin R) (d : Fin 128) : EReal :=
  X (ix2 r (hcol h d))

/-- Head `h`'s keys: the first 512 columns of the keys and values. -/
def keys (X : S256x1024.Idx → EReal) (h : Fin 4) (j : Fin 256) (d : Fin 128) : EReal :=
  X (ix2 j ⟨h.val * 128 + d.val, by omega⟩)

/-- Head `h`'s values: the last 512 columns of the keys and values. -/
def vals (X : S256x1024.Idx → EReal) (h : Fin 4) (j : Fin 256) (d : Fin 128) : EReal :=
  X (ix2 j ⟨512 + (h.val * 128 + d.val), by omega⟩)

section Arrays

variable {R : ℕ} (x0 : (⟨2, ![R, 512]⟩ : Shape).Idx → EReal) (x1 : S256x1024.Idx → EReal) (x2 : (⟨2, ![R, 512]⟩ : Shape).Idx → EReal)

/-- Row `r` of head `h`: the gradient of its raw product with key `j`. -/
def ds (h : Fin 4) (r : Fin R) (j : Fin 256) : EReal :=
  dscore (head x0 h r) (keys x1 h) (vals x1 h) (head x2 h r) j

/-- The query's gradient at row `r`, head `h`, coordinate `d`. -/
def dqAt (r : Fin R) (h : Fin 4) (d : Fin 128) : EReal := ∑ j, ds x0 x1 x2 h r j * keys x1 h j d

/-- What row `r` adds to the gradient of key `j`, head `h`, coordinate `d`. -/
def dkAt (r : Fin R) (h : Fin 4) (j : Fin 256) (d : Fin 128) : EReal := ds x0 x1 x2 h r j * head x0 h r d

/-- What row `r` adds to the gradient of value `j`, head `h`, coordinate `d`. -/
def dvAt (r : Fin R) (h : Fin 4) (j : Fin 256) (d : Fin 128) : EReal :=
  prob (head x0 h r) (keys x1 h) j * head x2 h r d

/-- The query's gradient as an array. -/
def dqArr (i : (⟨2, ![R, 512]⟩ : Shape).Idx) : EReal :=
  dqAt x0 x1 x2 (i 0) ⟨(i 1).val / 128, by have h : (i 1).val < 512 := (i 1).isLt; omega⟩ ⟨(i 1).val % 128, by omega⟩

/-- What row `r` adds to the gradient of the keys and values, as an array. -/
def dkvRow (r : Fin R) (i : S256x1024.Idx) : EReal :=
  if h : (i 1).val < 512 then dkAt x0 x1 x2 r ⟨(i 1).val / 128, by omega⟩ (i 0) ⟨(i 1).val % 128, by omega⟩
  else dvAt x0 x1 x2 r ⟨((i 1).val - 512) / 128, by have h : (i 1).val < 1024 := (i 1).isLt; omega⟩ (i 0)
    ⟨((i 1).val - 512) % 128, by omega⟩

theorem dqArr_head (r : Fin R) (h : Fin 4) (d : Fin 128) (c : Fin 512) (hc : c.val = h.val * 128 + d.val) :
    dqArr x0 x1 x2 (ix2 r c) = dqAt x0 x1 x2 r h d := by
  show dqAt x0 x1 x2 r ⟨c.val / 128, _⟩ ⟨c.val % 128, _⟩ = _
  congr 1 <;> apply Fin.ext <;> show _ = _ <;> dsimp only <;> omega

theorem dkvRow_keys (r : Fin R) (h : Fin 4) (j : Fin 256) (d : Fin 128) (c : Fin 1024) (hc : c.val = h.val * 128 + d.val) :
    dkvRow x0 x1 x2 r (ix2 j c) = dkAt x0 x1 x2 r h j d := by
  have hlt : ((ix2 j c : S256x1024.Idx) 1).val < 512 := by show c.val < 512; omega
  unfold dkvRow
  rw [dif_pos hlt]
  show dkAt x0 x1 x2 r ⟨c.val / 128, _⟩ j ⟨c.val % 128, _⟩ = _
  congr 1 <;> apply Fin.ext <;> show _ = _ <;> dsimp only <;> omega

theorem dkvRow_vals (r : Fin R) (h : Fin 4) (j : Fin 256) (d : Fin 128) (c : Fin 1024) (hc : c.val = 512 + (h.val * 128 + d.val)) :
    dkvRow x0 x1 x2 r (ix2 j c) = dvAt x0 x1 x2 r h j d := by
  have hlt : ¬((ix2 j c : S256x1024.Idx) 1).val < 512 := by show ¬c.val < 512; omega
  unfold dkvRow
  rw [dif_neg hlt]
  show dvAt x0 x1 x2 r ⟨(c.val - 512) / 128, _⟩ j ⟨(c.val - 512) % 128, _⟩ = _
  congr 1 <;> apply Fin.ext <;> show _ = _ <;> dsimp only <;> omega

end Arrays

/-! ## The payloads of the body's stores, at an index -/

theorem prob_apply (q : Vec Ideal S512x128 .f32) (k : Vec Ideal S256x128 .f32) (j : Fin 256) (r : Fin 512) :
    k0_pay5 (F := Ideal) q k (ix2 j r) = prob (fun d => q (ix2 r d)) (fun i d => k (ix2 i d)) j := by
  unfold_payloads
  pointwise [dot_S256x128_S512x128_S256x512_1_1_0_0_n_n]
  rfl

theorem dscore_apply (q : Vec Ideal S512x128 .f32) (k v : Vec Ideal S256x128 .f32) (o : Vec Ideal S512x128 .bf16)
    (j : Fin 256) (r : Fin 512) :
    k0_pay6 (F := Ideal) q k v o (ix2 j r)
      = dscore (fun d => q (ix2 r d)) (fun i d => k (ix2 i d)) (fun i d => v (ix2 i d)) (fun d => o (ix2 r d)) j := by
  unfold k0_pay6
  pointwise [dot_S256x128_S512x128_S256x512_1_1_0_0_n_n, prob_apply]
  rfl

theorem dq_apply (q : Vec Ideal S512x128 .f32) (k v : Vec Ideal S256x128 .f32) (o : Vec Ideal S512x128 .bf16)
    (r : Fin 512) (d : Fin 128) :
    k0_pay7 (F := Ideal) q k v o (ix2 r d)
      = ∑ j, dscore (fun d => q (ix2 r d)) (fun i d => k (ix2 i d)) (fun i d => v (ix2 i d)) (fun d => o (ix2 r d)) j * k (ix2 j d) := by
  unfold k0_pay7 k0_pay4
  pointwise [dot_S256x512_S256x128_S512x128_0_0_1_1_n_n, dscore_apply]

theorem dk_apply (q : Vec Ideal S512x128 .f32) (k v : Vec Ideal S256x128 .f32) (o : Vec Ideal S512x128 .bf16)
    (x : Vec Ideal S256x128 .f32) (j : Fin 256) (d : Fin 128) :
    k0_pay8 (F := Ideal) (k0_pay3 q) (k0_pay6 q k v o) x (ix2 j d)
      = x (ix2 j d) + ∑ r : Fin 512, dscore (fun d => q (ix2 r d)) (fun i d => k (ix2 i d)) (fun i d => v (ix2 i d)) (fun d => o (ix2 r d)) j * q (ix2 r d) := by
  unfold k0_pay8 k0_pay3
  pointwise [dot_S256x512_S512x128_S256x128_1_0_0_1_n_n, dscore_apply]

theorem dv_apply (q : Vec Ideal S512x128 .f32) (k : Vec Ideal S256x128 .f32) (o : Vec Ideal S512x128 .bf16)
    (x : Vec Ideal S256x128 .f32) (j : Fin 256) (d : Fin 128) :
    k0_pay9 (F := Ideal) o (k0_pay5 q k) x (ix2 j d)
      = x (ix2 j d) + ∑ r : Fin 512, prob (fun d => q (ix2 r d)) (fun i d => k (ix2 i d)) j * o (ix2 r d) := by
  unfold k0_pay9
  pointwise [dot_S256x512_S512x128_S256x128_1_0_0_1_n_n, prob_apply]

/-! ## Loads of one head's columns -/

/-- A load of 128 columns from column `o` on reads the array there. -/
theorem ld_cols {A B : ℕ} {e : EltTy} (X : (⟨2, ![A, B]⟩ : Shape).Idx → Elt Ideal e) (o : ℕ)
    (inb : ∀ a, (![0, o] : Fin 2 → ℕ) a + (![A, 128] : Fin 2 → ℕ) a ≤ (⟨2, ![A, B]⟩ : Shape).size a)
    (r : Fin A) (d : Fin 128) (c : Fin B) (hc : c.val = o + d.val) :
    View.ld (Val := Elt Ideal) X (Rect.unit (s := ⟨2, ![A, B]⟩) (![0, o] : Fin 2 → ℕ) ![A, 128] inb) (ix2 r d : (⟨2, ![A, 128]⟩ : Shape).Idx) = X (ix2 r c) := by
  refine congrArg X (funext fun a => Fin.ext ?_)
  match a with
  | ⟨0, _⟩ => show 0 + 1 * r.val = r.val; omega
  | ⟨1, _⟩ => show o + 1 * d.val = c.val; omega

section Pieces

variable (x0 : Vec Ideal S512x512 .f32) (x1 : Vec Ideal S256x1024 .f32) (x2 : Vec Ideal S512x512 .bf16)
  (X : Vec Ideal S256x1024 .f32) (h : Fin 4) (o o' : ℕ) (ho : o = h.val * 128) (ho' : o' = 512 + h.val * 128)
  (b0 : ∀ a, (![0, o] : Fin 2 → ℕ) a + (![512, 128] : Fin 2 → ℕ) a ≤ S512x512.size a)
  (b1 : ∀ a, (![0, o] : Fin 2 → ℕ) a + (![256, 128] : Fin 2 → ℕ) a ≤ S256x1024.size a)
  (b2 : ∀ a, (![0, o'] : Fin 2 → ℕ) a + (![256, 128] : Fin 2 → ℕ) a ≤ S256x1024.size a)

/-- Head `h`'s columns of a block of queries. -/
def cols {e : EltTy} (x : Vec Ideal S512x512 e) : Vec Ideal S512x128 e :=
  View.ld (Val := Elt Ideal) x (Rect.unit (s := S512x512) (![0, o] : Fin 2 → ℕ) ![512, 128] b0)

/-- 128 columns of the keys and values. -/
def mcols {o : ℕ} (b1 : ∀ a, (![0, o] : Fin 2 → ℕ) a + (![256, 128] : Fin 2 → ℕ) a ≤ S256x1024.size a) (x : Vec Ideal S256x1024 .f32) :
    Vec Ideal S256x128 .f32 :=
  View.ld (Val := Elt Ideal) x (Rect.unit (s := S256x1024) (![0, o] : Fin 2 → ℕ) ![256, 128] b1)

include ho in
theorem cols_apply {e : EltTy} (x : Vec Ideal S512x512 e) (r : Fin 512) (d : Fin 128) :
    cols o b0 x (ix2 r d) = x (ix2 r (hcol h d)) :=
  ld_cols x o b0 r d _ (by simp [hcol, ho])

include ho in
theorem keys_apply (j : Fin 256) (d : Fin 128) : mcols b1 x1 (ix2 j d) = keys x1 h j d :=
  ld_cols x1 o b1 j d _ (by simp [ho])

include ho' in
theorem vals_apply (j : Fin 256) (d : Fin 128) : mcols b2 x1 (ix2 j d) = vals x1 h j d :=
  ld_cols x1 o' b2 j d _ (by simp [ho']; omega)

include ho ho' in
/-- Head `h`'s store to the query's gradient. -/
theorem dq_piece (x : (Rect.unit (s := S512x512) (![0, o] : Fin 2 → ℕ) ![512, 128] b0).shape.Idx) :
    k0_pay7 (F := Ideal) (cols o b0 x0) (mcols b1 x1) (mcols b2 x1) (cols o b0 x2) x
      = dqArr x0 x1 x2 ((Rect.unit (s := S512x512) (![0, o] : Fin 2 → ℕ) ![512, 128] b0).emb x) := by
  obtain ⟨r, d, rfl⟩ : ∃ (r : Fin 512) (d : Fin 128), x = ix2 r d := ⟨x 0, x 1, eq_ix2 x⟩
  refine Eq.trans ?_ (congrArg (dqArr x0 x1 x2) (show ix2 r (⟨h.val * 128 + d.val, by omega⟩ : Fin 512) = _ from
    funext fun a => Fin.ext ?_))
  · rw [dqArr_head x0 x1 x2 r h d _ rfl]
    refine (dq_apply _ _ _ _ r d).trans ?_
    simp only [cols_apply h o ho b0, keys_apply x1 h o ho b1, vals_apply x1 h o' ho' b2]
    rfl
  · match a with
    | ⟨0, _⟩ => show r.val = 0 + 1 * r.val; omega
    | ⟨1, _⟩ => show h.val * 128 + d.val = o + 1 * d.val; omega

include ho ho' in
/-- Head `h`'s store to the keys' gradient. -/
theorem dk_piece (x : (Rect.unit (s := S256x1024) (![0, o] : Fin 2 → ℕ) ![256, 128] b1).shape.Idx) :
    k0_pay8 (F := Ideal) (k0_pay3 (cols o b0 x0)) (k0_pay6 (cols o b0 x0) (mcols b1 x1) (mcols b2 x1) (cols o b0 x2)) (mcols b1 X) x
      = (fun y => X y + ∑ r, dkvRow x0 x1 x2 r y) ((Rect.unit (s := S256x1024) (![0, o] : Fin 2 → ℕ) ![256, 128] b1).emb x) := by
  obtain ⟨r, d, rfl⟩ : ∃ (r : Fin 256) (d : Fin 128), x = ix2 r d := ⟨x 0, x 1, eq_ix2 x⟩
  refine Eq.trans ?_ (congrArg (fun y => X y + ∑ r, dkvRow x0 x1 x2 r y) (show ix2 r (⟨h.val * 128 + d.val, by omega⟩ : Fin 1024) = _ from
    funext fun a => Fin.ext ?_))
  · simp only [dkvRow_keys x0 x1 x2 _ h r d ⟨h.val * 128 + d.val, by omega⟩ rfl]
    refine (dk_apply _ _ _ _ _ r d).trans ?_
    simp only [cols_apply h o ho b0, keys_apply x1 h o ho b1, keys_apply X h o ho b1, vals_apply x1 h o' ho' b2]
    rfl
  · match a with
    | ⟨0, _⟩ => show r.val = 0 + 1 * r.val; omega
    | ⟨1, _⟩ => show h.val * 128 + d.val = o + 1 * d.val; omega

include ho ho' in
/-- Head `h`'s store to the values' gradient. -/
theorem dv_piece (x : (Rect.unit (s := S256x1024) (![0, o'] : Fin 2 → ℕ) ![256, 128] b2).shape.Idx) :
    k0_pay9 (F := Ideal) (cols o b0 x2) (k0_pay5 (cols o b0 x0) (mcols b1 x1)) (mcols b2 X) x
      = (fun y => X y + ∑ r, dkvRow x0 x1 x2 r y) ((Rect.unit (s := S256x1024) (![0, o'] : Fin 2 → ℕ) ![256, 128] b2).emb x) := by
  obtain ⟨r, d, rfl⟩ : ∃ (r : Fin 256) (d : Fin 128), x = ix2 r d := ⟨x 0, x 1, eq_ix2 x⟩
  refine Eq.trans ?_ (congrArg (fun y => X y + ∑ r, dkvRow x0 x1 x2 r y) (show ix2 r (⟨512 + (h.val * 128 + d.val), by omega⟩ : Fin 1024) = _ from
    funext fun a => Fin.ext ?_))
  · simp only [dkvRow_vals x0 x1 x2 _ h r d ⟨512 + (h.val * 128 + d.val), by omega⟩ rfl]
    refine (dv_apply _ _ _ _ r d).trans ?_
    simp only [cols_apply h o ho b0, keys_apply x1 h o ho b1, vals_apply X h o' ho' b2]
    rfl
  · match a with
    | ⟨0, _⟩ => show r.val = 0 + 1 * r.val; omega
    | ⟨1, _⟩ => show 512 + (h.val * 128 + d.val) = o' + 1 * d.val; omega

end Pieces

/-! ## The block's outputs -/

/-- A load of 128 columns reads past a store of 128 other columns. -/
theorem load_skip {sig : RefSig} {κ : Kind} {sp : Space} (v : View sig κ sp S256x1024 .f32) (o o' : ℕ)
    (b : ∀ a, (![0, o] : Fin 2 → ℕ) a + (![256, 128] : Fin 2 → ℕ) a ≤ S256x1024.size a)
    (b' : ∀ a, (![0, o'] : Fin 2 → ℕ) a + (![256, 128] : Fin 2 → ℕ) a ≤ S256x1024.size a)
    (w : S256x128.Idx → Elt Ideal .f32) (L : List (View.Piece (Elt Ideal) S256x1024 .f32)) (h : o + 128 ≤ o' ∨ o' + 128 ≤ o) :
    v.readCov (⟨Rect.unit (s := S256x1024) (![0, o] : Fin 2 → ℕ) ![256, 128] b, w⟩ :: L) (Rect.unit (s := S256x1024) (![0, o'] : Fin 2 → ℕ) ![256, 128] b').toLoadRect
      = v.readCov L (Rect.unit (s := S256x1024) (![0, o'] : Fin 2 → ℕ) ![256, 128] b').toLoadRect :=
  View.readCov_cons_of_disjoint v (⟨Rect.unit (s := S256x1024) (![0, o] : Fin 2 → ℕ) ![256, 128] b, w⟩ : View.Piece (Elt Ideal) S256x1024 .f32) L _
    (Rect.unit_disjoint (inb := b) (inb' := b') 1 h)

/-- A load of 128 columns after a store of the whole array reads what was stored. -/
theorem load_fill {sig : RefSig} {κ : Kind} {sp : Space} (v : View sig κ sp S256x1024 .f32) (o' : ℕ)
    (b : ∀ a, (![0, 0] : Fin 2 → ℕ) a + (![256, 1024] : Fin 2 → ℕ) a ≤ S256x1024.size a)
    (b' : ∀ a, (![0, o'] : Fin 2 → ℕ) a + (![256, 128] : Fin 2 → ℕ) a ≤ S256x1024.size a)
    (Z : S256x1024.Idx → Elt Ideal .f32) (L : List (View.Piece (Elt Ideal) S256x1024 .f32)) :
    v.readCov (⟨Rect.unit (s := S256x1024) (![0, 0] : Fin 2 → ℕ) ![256, 1024] b, Z⟩ :: L) (Rect.unit (s := S256x1024) (![0, o'] : Fin 2 → ℕ) ![256, 128] b').toLoadRect
      = View.ld (Val := Elt Ideal) Z (Rect.unit (s := S256x1024) (![0, o'] : Fin 2 → ℕ) ![256, 128] b') :=
  View.readCov_fill v b Z L _ (by intro a; match a with | ⟨0, _⟩ => rfl | ⟨1, _⟩ => rfl)

section Outputs

variable (c : Dev nD) (i : grid0.Coords) (arg1 : Memref sig .tc .vmem S512x512 .f32) (harg1 : arg1.IsWhole) (arg2 : Memref sig .tc .vmem S256x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S256x1024 .f32) (harg5 : arg5.IsWhole)
  (x0 : Vec Ideal S512x512 .f32) (x1 : Vec Ideal S256x1024 .f32) (x2 : Vec Ideal S512x512 .bf16) (xo4 : Vec Ideal S256x1024 .f32)

/-- At a point after the first, the block of the query's gradient. -/
theorem out_B_3 (hc0 : ¬cond0_0 i) :
    out0_B_3 c i arg1 harg1 arg2 harg2 arg3 harg3 arg4 harg4 arg5 harg5 hc0 x0 x1 x2 xo4 = dqArr x0 x1 x2 := by
  unfold out0_B_3
  rw [View.read_writes_eq_canon _ _ _ (cover0_B_3 c i arg1 harg1 arg2 harg2 arg3 harg3 arg4 harg4 arg5 harg5 hc0 x0 x1 x2 xo4)]
  funext y
  refine View.canon_apply_of_pieces (dqArr x0 x1 x2) _ ?_ y (cover0_B_3 c i arg1 harg1 arg2 harg2 arg3 harg3 arg4 harg4 arg5 harg5 hc0 x0 x1 x2 xo4 y)
  unfold kernelRun0_B
  dsimp only
  sl_unfold_words
  simp only [View.readAt_eq_ld, harg1.read_unread, harg2.read_unread, harg3.read_unread]
  intro p hp x
  simp only [List.mem_cons, List.not_mem_nil, or_false] at hp
  rcases hp with rfl | rfl | rfl | rfl
  · exact dq_piece x0 x1 x2 3 384 896 rfl rfl inb_S512x512_S512x128_0_384 inb_S256x1024_S256x128_0_384 inb_S256x1024_S256x128_0_896 x
  · exact dq_piece x0 x1 x2 2 256 768 rfl rfl inb_S512x512_S512x128_0_256 inb_S256x1024_S256x128_0_256 inb_S256x1024_S256x128_0_768 x
  · exact dq_piece x0 x1 x2 1 128 640 rfl rfl inb_S512x512_S512x128_0_128 inb_S256x1024_S256x128_0_128 inb_S256x1024_S256x128_0_640 x
  · exact dq_piece x0 x1 x2 0 0 512 rfl rfl inb_S512x512_S512x128_0_0 inb_S256x1024_S256x128_0_0 inb_S256x1024_S256x128_0_512 x

/-- At a point after the first, the running gradient of the keys and values with the block's rows added to it. -/
theorem out_B_4 (hc0 : ¬cond0_0 i) :
    out0_B_4 c i arg1 harg1 arg2 harg2 arg3 harg3 arg4 harg4 arg5 harg5 hc0 x0 x1 x2 xo4 = fun y => xo4 y + ∑ r, dkvRow x0 x1 x2 r y := by
  unfold out0_B_4
  rw [View.read_writes_eq_canon _ _ _ (cover0_B_4 c i arg1 harg1 arg2 harg2 arg3 harg3 arg4 harg4 arg5 harg5 hc0 x0 x1 x2 xo4)]
  funext y
  refine View.canon_apply_of_pieces (fun y => xo4 y + ∑ r, dkvRow x0 x1 x2 r y) _ ?_ y (cover0_B_4 c i arg1 harg1 arg2 harg2 arg3 harg3 arg4 harg4 arg5 harg5 hc0 x0 x1 x2 xo4 y)
  unfold kernelRun0_B
  dsimp only
  sl_unfold_words
  simp only [View.readAt_eq_ld, harg1.read_unread, harg2.read_unread, harg3.read_unread, harg5.read_unread]
  intro p hp x
  simp only [List.mem_cons, List.not_mem_nil, or_false] at hp
  rcases hp with rfl | rfl | rfl | rfl | rfl | rfl | rfl | rfl
  · exact dv_piece x0 x1 x2 xo4 3 384 896 rfl rfl inb_S512x512_S512x128_0_384 inb_S256x1024_S256x128_0_384 inb_S256x1024_S256x128_0_896 x
  · exact dk_piece x0 x1 x2 xo4 3 384 896 rfl rfl inb_S512x512_S512x128_0_384 inb_S256x1024_S256x128_0_384 inb_S256x1024_S256x128_0_896 x
  · exact dv_piece x0 x1 x2 xo4 2 256 768 rfl rfl inb_S512x512_S512x128_0_256 inb_S256x1024_S256x128_0_256 inb_S256x1024_S256x128_0_768 x
  · exact dk_piece x0 x1 x2 xo4 2 256 768 rfl rfl inb_S512x512_S512x128_0_256 inb_S256x1024_S256x128_0_256 inb_S256x1024_S256x128_0_768 x
  · exact dv_piece x0 x1 x2 xo4 1 128 640 rfl rfl inb_S512x512_S512x128_0_128 inb_S256x1024_S256x128_0_128 inb_S256x1024_S256x128_0_640 x
  · exact dk_piece x0 x1 x2 xo4 1 128 640 rfl rfl inb_S512x512_S512x128_0_128 inb_S256x1024_S256x128_0_128 inb_S256x1024_S256x128_0_640 x
  · exact dv_piece x0 x1 x2 xo4 0 0 512 rfl rfl inb_S512x512_S512x128_0_0 inb_S256x1024_S256x128_0_0 inb_S256x1024_S256x128_0_512 x
  · exact dk_piece x0 x1 x2 xo4 0 0 512 rfl rfl inb_S512x512_S512x128_0_0 inb_S256x1024_S256x128_0_0 inb_S256x1024_S256x128_0_512 x

/-- At the first point, the block of the query's gradient. -/
theorem out_A_3 (hc0 : cond0_0 i) :
    out0_A_3 c i arg1 harg1 arg2 harg2 arg3 harg3 arg4 harg4 arg5 harg5 hc0 x0 x1 x2 = dqArr x0 x1 x2 := by
  unfold out0_A_3
  rw [View.read_writes_eq_canon _ _ _ (cover0_A_3 c i arg1 harg1 arg2 harg2 arg3 harg3 arg4 harg4 arg5 harg5 hc0 x0 x1 x2)]
  funext y
  refine View.canon_apply_of_pieces (dqArr x0 x1 x2) _ ?_ y (cover0_A_3 c i arg1 harg1 arg2 harg2 arg3 harg3 arg4 harg4 arg5 harg5 hc0 x0 x1 x2 y)
  unfold kernelRun0_A
  dsimp only
  sl_unfold_words
  simp only [View.readAt_eq_ld, harg1.read_unread, harg2.read_unread, harg3.read_unread]
  intro p hp x
  simp only [List.mem_cons, List.not_mem_nil, or_false] at hp
  rcases hp with rfl | rfl | rfl | rfl
  · exact dq_piece x0 x1 x2 3 384 896 rfl rfl inb_S512x512_S512x128_0_384 inb_S256x1024_S256x128_0_384 inb_S256x1024_S256x128_0_896 x
  · exact dq_piece x0 x1 x2 2 256 768 rfl rfl inb_S512x512_S512x128_0_256 inb_S256x1024_S256x128_0_256 inb_S256x1024_S256x128_0_768 x
  · exact dq_piece x0 x1 x2 1 128 640 rfl rfl inb_S512x512_S512x128_0_128 inb_S256x1024_S256x128_0_128 inb_S256x1024_S256x128_0_640 x
  · exact dq_piece x0 x1 x2 0 0 512 rfl rfl inb_S512x512_S512x128_0_0 inb_S256x1024_S256x128_0_0 inb_S256x1024_S256x128_0_512 x

/-- At the first point, the block's rows alone: the running gradient starts at zero. -/
theorem out_A_4 (hc0 : cond0_0 i) :
    out0_A_4 c i arg1 harg1 arg2 harg2 arg3 harg3 arg4 harg4 arg5 harg5 hc0 x0 x1 x2 = fun y => 0 + ∑ r, dkvRow x0 x1 x2 r y := by
  unfold out0_A_4
  rw [View.read_writes_eq_canon _ _ _ (cover0_A_4 c i arg1 harg1 arg2 harg2 arg3 harg3 arg4 harg4 arg5 harg5 hc0 x0 x1 x2)]
  funext y
  unfold kernelRun0_A
  dsimp only
  sl_unfold_words
  simp (disch := decide) only [↓load_skip]
  simp only [load_fill, View.readAt_eq_ld, harg1.read_unread, harg2.read_unread, harg3.read_unread]
  have hz : ∀ y, k0_pay2 (F := Ideal) y = 0 := fun y => by unfold k0_pay2; pointwise
  refine (View.canon_append_of_piecesOf (fun y => k0_pay2 (F := Ideal) y + ∑ r, dkvRow x0 x1 x2 r y) [_] [_, _, _, _, _, _, _, _]
    ⟨dv_piece x0 x1 x2 _ 3 384 896 rfl rfl inb_S512x512_S512x128_0_384 inb_S256x1024_S256x128_0_384 inb_S256x1024_S256x128_0_896,
     dk_piece x0 x1 x2 _ 3 384 896 rfl rfl inb_S512x512_S512x128_0_384 inb_S256x1024_S256x128_0_384 inb_S256x1024_S256x128_0_896,
     dv_piece x0 x1 x2 _ 2 256 768 rfl rfl inb_S512x512_S512x128_0_256 inb_S256x1024_S256x128_0_256 inb_S256x1024_S256x128_0_768,
     dk_piece x0 x1 x2 _ 2 256 768 rfl rfl inb_S512x512_S512x128_0_256 inb_S256x1024_S256x128_0_256 inb_S256x1024_S256x128_0_768,
     dv_piece x0 x1 x2 _ 1 128 640 rfl rfl inb_S512x512_S512x128_0_128 inb_S256x1024_S256x128_0_128 inb_S256x1024_S256x128_0_640,
     dk_piece x0 x1 x2 _ 1 128 640 rfl rfl inb_S512x512_S512x128_0_128 inb_S256x1024_S256x128_0_128 inb_S256x1024_S256x128_0_640,
     dv_piece x0 x1 x2 _ 0 0 512 rfl rfl inb_S512x512_S512x128_0_0 inb_S256x1024_S256x128_0_0 inb_S256x1024_S256x128_0_512,
     dk_piece x0 x1 x2 _ 0 0 512 rfl rfl inb_S512x512_S512x128_0_0 inb_S256x1024_S256x128_0_0 inb_S256x1024_S256x128_0_512, trivial⟩ y
    (View.cover_of_tiledL (s := S256x1024) _ ![256, 128] (by sl_kernel_rfl) y)).trans ?_
  rw [hz]

end Outputs

end Cert.MemoryBlock

end
-- ==== Proof.MemoryArray.lean ====
/-
  What the two result arrays of the memory attention's backward kernel hold after its eight grid points, row by row of
  the arguments.
-/
module

public import proofs.«01_k».proof.Proof.MemoryBlock

@[expose] public section

noncomputable section

namespace Cert.MemoryArray

open Cert.MemoryBwdIdeal Cert.MemoryBwdIdeal.Gen Cert.MemoryBwdIdeal.Value Idealize.ShloMosaic Idealize.ShloMosaic.TcCoe Idealize.SL.Sem
open Cert.MemoryRow Cert.MemoryBlock

variable (m : (ℓ : Loc nD τ sig) → Buf (Elt Ideal) ℓ) (c : Dev nD)

/-- The queries, the keys and values, and the gradient of the output. -/
abbrev qs : S4096x512.Idx → EReal := m ((c : Thread nD τ).loc main_arg0)
abbrev kvs : S256x1024.Idx → EReal := m ((c : Thread nD τ).loc main_arg1)
abbrev cts : S4096x512.Idx → EReal := m ((c : Thread nD τ).loc main_arg2)

theorem lt8 (t : Fin cfg0.N) : t.val < 8 := Nat.lt_of_lt_of_eq t.isLt N_0

/-- Row `r` of block `t`. -/
def row (t : Fin cfg0.N) (r : Fin 512) : Fin 4096 := ⟨512 * t.val + r.val, by have := lt8 t; omega⟩

theorem index0 (t : Fin cfg0.N) : win0_0.index t 0 = t.val ∧ win0_0.index t 1 = 0 :=
  (by decide +kernel : ∀ t : Fin grid0.N, win0_0.index t 0 = t.val ∧ win0_0.index t 1 = 0) t

theorem index1 (t : Fin cfg0.N) : win0_1.index t 0 = 0 ∧ win0_1.index t 1 = 0 :=
  (by decide +kernel : ∀ t : Fin grid0.N, win0_1.index t 0 = 0 ∧ win0_1.index t 1 = 0) t

theorem index2 (t : Fin cfg0.N) : win0_2.index t 0 = t.val ∧ win0_2.index t 1 = 0 :=
  (by decide +kernel : ∀ t : Fin grid0.N, win0_2.index t 0 = t.val ∧ win0_2.index t 1 = 0) t

theorem index3 (t : Fin cfg0.N) : win0_3.index t 0 = t.val ∧ win0_3.index t 1 = 0 :=
  (by decide +kernel : ∀ t : Fin grid0.N, win0_3.index t 0 = t.val ∧ win0_3.index t 1 = 0) t

theorem index4 (t : Fin cfg0.N) : win0_4.index t 0 = 0 ∧ win0_4.index t 1 = 0 :=
  (by decide +kernel : ∀ t : Fin grid0.N, win0_4.index t 0 = 0 ∧ win0_4.index t 1 = 0) t

/-- Block `t` of the queries is rows `512 t` to `512 t + 511`. -/
theorem iblk0 (t : Fin cfg0.N) (r : Fin 512) (d : Fin 512) : (iblk m c 0 t : S512x512.Idx → EReal) (ix2 r d) = qs m c (ix2 (row t r) d) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 512 + 1 * d.val = d.val; rw [(index0 t).2]; omega

/-- Every block of the keys and values is the whole array. -/
theorem iblk1 (t : Fin cfg0.N) : (iblk m c 1 t : S256x1024.Idx → EReal) = kvs m c := by
  funext i
  unfold iblk
  rw [View.read_apply]
  show V m c main_arg1 _ = m (c.tc.loc main_arg1) _
  unfold V
  congr 1
  funext a
  apply Fin.ext
  match a with
  | ⟨0, _⟩ => show win0_1.index t 0 * 256 + 1 * (i 0).val = (i 0).val; rw [(index1 t).1]; omega
  | ⟨1, _⟩ => show win0_1.index t 1 * 1024 + 1 * (i 1).val = (i 1).val; rw [(index1 t).2]; omega

/-- Block `t` of the output's gradient is rows `512 t` to `512 t + 511`. -/
theorem iblk2 (t : Fin cfg0.N) (r : Fin 512) (d : Fin 512) : (iblk m c 2 t : S512x512.Idx → EReal) (ix2 r d) = cts m c (ix2 (row t r) d) := by
  unfold iblk
  rw [View.read_apply]
  show V m c main_arg2 _ = m (c.tc.loc main_arg2) _
  unfold V
  congr 1
  funext a
  apply Fin.ext
  match a with
  | ⟨0, _⟩ => show win0_2.index t 0 * 512 + 1 * r.val = 512 * t.val + r.val; rw [(index2 t).1]; omega
  | ⟨1, _⟩ => show win0_2.index t 1 * 512 + 1 * d.val = d.val; rw [(index2 t).2]; omega

theorem head0 (t : Fin cfg0.N) (h : Fin 4) (r : Fin 512) : head (iblk m c 0 t : S512x512.Idx → EReal) h r = head (qs m c) h (row t r) :=
  funext fun d => iblk0 m c t r _

theorem head2 (t : Fin cfg0.N) (h : Fin 4) (r : Fin 512) : head (iblk m c 2 t : S512x512.Idx → EReal) h r = head (cts m c) h (row t r) :=
  funext fun d => iblk2 m c t r _

/-- A row of a block contributes what the row of the arrays does. -/
theorem dkvRow_block (t : Fin cfg0.N) (r : Fin 512) (y : S256x1024.Idx) :
    dkvRow (iblk m c 0 t : S512x512.Idx → EReal) (iblk m c 1 t) (iblk m c 2 t : S512x512.Idx → EReal) r y
      = dkvRow (qs m c) (kvs m c) (cts m c) (row t r) y := by
  rw [iblk1]
  unfold dkvRow dkAt dvAt ds
  simp only [head0, head2]

theorem dqArr_block (t : Fin cfg0.N) (r : Fin 512) (d : Fin 512) :
    dqArr (iblk m c 0 t : S512x512.Idx → EReal) (iblk m c 1 t) (iblk m c 2 t : S512x512.Idx → EReal) (ix2 r d)
      = dqArr (qs m c) (kvs m c) (cts m c) (ix2 (row t r) d) := by
  rw [iblk1]
  have hd : d.val = (⟨d.val / 128, by omega⟩ : Fin 4).val * 128 + (⟨d.val % 128, by omega⟩ : Fin 128).val := by dsimp only; omega
  rw [dqArr_head _ _ _ r _ _ d hd, dqArr_head _ _ _ (row t r) _ _ d hd]
  unfold dqAt ds
  simp only [head0, head2]

/-- The running gradient of the keys and values after the points `0` to `n`. -/
def running (n : ℕ) (y : S256x1024.Idx) : EReal :=
  ∑ t ∈ Finset.range (n + 1), if h : t < cfg0.N then ∑ r, dkvRow (qs m c) (kvs m c) (cts m c) (row ⟨t, h⟩ r) y else 0

theorem out3 (t : Fin cfg0.N) : (outsAt0 m c t.val t.isLt).1
    = dqArr (iblk m c 0 t : S512x512.Idx → EReal) (iblk m c 1 t) (iblk m c 2 t : S512x512.Idx → EReal) := by
  by_cases h0 : t.val % 8 = 0
  · rw [outsAt0_A m c t h0]; dsimp only; rw [out_A_3]
  · rw [outsAt0_B m c t h0]; dsimp only; rw [out_B_3]

theorem out4 : ∀ (n : ℕ) (hn : n < cfg0.N), (outsAt0 m c n hn).2 = running m c n
  | 0, hn => by
    refine (congrArg Prod.snd (outsAt0_A m c ⟨0, hn⟩ rfl)).trans ?_
    dsimp only
    rw [out_A_4]
    refine funext fun y => ?_
    simp only [dkvRow_block]
    unfold running
    rw [Finset.sum_range_one, dif_pos hn, zero_add]
  | n + 1, hn => by
    have hN : cfg0.N = 8 := N_0
    have hB : ¬(⟨n + 1, hn⟩ : Fin cfg0.N).val % 8 = 0 := by dsimp only; omega
    refine (congrArg Prod.snd (outsAt0_B m c ⟨n + 1, hn⟩ hB)).trans ?_
    dsimp only
    rw [out_B_4]
    refine funext fun y => ?_
    simp only [dkvRow_block]
    unfold running
    rw [Finset.sum_range_succ, dif_pos hn]
    refine congrArg (· + _) ?_
    exact congrFun (out4 n (Nat.lt_of_succ_lt hn)) y

/-- After the last point the running gradient is the sum over all rows. -/
theorem running_last (y : S256x1024.Idx) : running m c 7 y = ∑ s : Fin 4096, dkvRow (qs m c) (kvs m c) (cts m c) s y := by
  have hN : cfg0.N = 8 := N_0
  unfold running
  rw [Finset.sum_range]
  rw [← (finProdFinEquiv (m := 8) (n := 512)).sum_comp, Fintype.sum_prod_type]
  refine Finset.sum_congr rfl fun t _ => ?_
  rw [dif_pos (by rw [hN]; exact t.isLt)]
  refine Finset.sum_congr rfl fun r _ => ?_
  congr 1
  apply Fin.ext
  show 512 * t.val + r.val = r.val + 512 * t.val
  omega

/-- What the query's gradient holds. -/
def dqResult : S4096x512.Idx → EReal := dqArr (qs m c) (kvs m c) (cts m c)

/-- What the keys' and values' gradient holds. -/
def dkvResult : S256x1024.Idx → EReal := fun y => ∑ s : Fin 4096, dkvRow (qs m c) (kvs m c) (cts m c) s y

theorem flushed_dq (t : Fin cfg0.N) (hf : (cfg0.win 3).flush t = true) :
    (dats m 0 c).flushed 3 t = ((cfg0.win 3).blk t).view.read (Elt Ideal) (dqResult m c) := by
  rw [flushed3, out3]
  unfold dqResult
  funext y
  obtain ⟨r, d, rfl⟩ : ∃ (r : Fin 512) (d : Fin 512), y = ix2 r d := ⟨y 0, y 1, eq_ix2 y⟩
  refine (dqArr_block m c t r d).trans ?_
  rw [View.read_apply]
  refine congrArg (dqArr (qs m c) (kvs m c) (cts m c)) (funext fun a => Fin.ext ?_)
  match a with
  | ⟨0, _⟩ => show 512 * t.val + r.val = win0_3.index t 0 * 512 + 1 * r.val; rw [(index3 t).1]; omega
  | ⟨1, _⟩ => show d.val = win0_3.index t 1 * 512 + 1 * d.val; rw [(index3 t).2]; omega

theorem final_dq : (dats m 0 c).arrAt 3 cfg0.N = dqResult m c :=
  (dats m 0 c).arrAt_eq_of_cover 3 (dqResult m c) (flushed_dq m c) fun i => by
    have hN : cfg0.N = 8 := N_0
    have h0 : (i 0 : Nat) < 4096 := (i 0).isLt
    have h1 : (i 1 : Nat) < 512 := (i 1).isLt
    let t : Fin cfg0.N := ⟨(i 0).val / 512, by omega⟩
    refine ⟨t, flush0_3 t, ?_⟩
    show i ∈ ((View.whole main_v0_0).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [(index3 t).1]; show (i 0).val / 512 * 512 ≤ _ ∧ _ < (i 0).val / 512 * 512 + 512; omega
    | ⟨1, _⟩ =>
      show win0_3.index t 1 * 512 ≤ (i 1 : Nat) ∧ (i 1 : Nat) < win0_3.index t 1 * 512 + 512
      rw [(index3 t).2]; omega

theorem flushed_dkv (t : Fin cfg0.N) (hf : (cfg0.win 4).flush t = true) :
    (dats m 0 c).flushed 4 t = ((cfg0.win 4).blk t).view.read (Elt Ideal) (dkvResult m c) := by
  have h7 : t.val = 7 := by have := (flush0_4 t).mp hf; have := lt8 t; omega
  rw [flushed4, out4]
  funext y
  rw [View.read_apply]
  refine ((congrFun (congrArg (running m c) h7) y).trans (running_last m c y)).trans ?_
  show dkvResult m c y = dkvResult m c _
  refine congrArg (dkvResult m c) (funext fun a => Fin.ext ?_)
  match a with
  | ⟨0, _⟩ => show (y 0).val = win0_4.index t 0 * 256 + 1 * (y 0).val; rw [(index4 t).1]; omega
  | ⟨1, _⟩ => show (y 1).val = win0_4.index t 1 * 1024 + 1 * (y 1).val; rw [(index4 t).2]; omega

theorem final_dkv : (dats m 0 c).arrAt 4 cfg0.N = dkvResult m c :=
  (dats m 0 c).arrAt_eq_of_cover 4 (dkvResult m c) (flushed_dkv m c) fun i => by
    have hN : cfg0.N = 8 := N_0
    have h0 : (i 0 : Nat) < 256 := (i 0).isLt
    have h1 : (i 1 : Nat) < 1024 := (i 1).isLt
    let t : Fin cfg0.N := ⟨7, by omega⟩
    refine ⟨t, (flush0_4 t).mpr rfl, ?_⟩
    show i ∈ ((View.whole main_v0_1).slice (win0_4.rect t)).set
    rw [View.set_slice_whole, Rect.mem_set_unit]
    intro a
    match a with
    | ⟨0, _⟩ =>
      show win0_4.index t 0 * 256 ≤ (i 0 : Nat) ∧ (i 0 : Nat) < win0_4.index t 0 * 256 + 256
      rw [(index4 t).1]; omega
    | ⟨1, _⟩ =>
      show win0_4.index t 1 * 1024 ≤ (i 1 : Nat) ∧ (i 1 : Nat) < win0_4.index t 1 * 1024 + 1024
      rw [(index4 t).2]; omega

/-- The run of the kernel: both gradients, row by row, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = dqResult m c
      ∧ r.2.mem ((c : Thread nD τ).loc main_v0_1) = dkvResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_dq m c), (h c).2.1.trans (final_dkv m c), (h c).2.2⟩)
    (run_blocks m ρ)

end Cert.MemoryArray

end
-- ==== Proof.MemoryReference.lean ====
/-
  What the reference computes, read at an index: the gradient of a softmax attention by its chain of host operations is
  the row form of the kernel's, when the queries and the keys are finite.
-/
module

public import proofs.«01_k».proof.Proof.MemoryBlock
public import proofs.«01_k».proof.Proof.Gen.MemoryGradIdeal.Read
public import Idealize.ShloMosaic.Lib.Pointwise

@[expose] public section

noncomputable section

namespace Cert.MemoryReference

open Cert.MemoryGradIdeal Cert.MemoryGradIdeal.Gen Cert.MemoryGradIdeal.Read Idealize.ShloMosaic Idealize.ShloMosaic.TcCoe Idealize.SL.Sem
open Cert.MemoryRow Cert.MemoryBlock

variable (x0 : S4096x512.Idx → EReal) (x1 : S256x1024.Idx → EReal) (x2 : S4096x512.Idx → EReal)

/-- The scores. -/
theorem score_at (h : Fin 4) (r : Fin 4096) (j : Fin 256) :
    val_main_v7 (F := Ideal) x0 x1 (ix3 h r j) = score (head x0 h r) (keys x1 h) j := by
  unfold val_main_v7 val_main_v6 val_main_cst val_main_v5 val_main_v2 val_main_v1 val_main_v0
  pointwise [dot_S4096x4x128_S256x4x128_S4x4096x256_2_2_0_0_1_1]
  unfold score
  refine congrArg (· * _) (Finset.sum_congr rfl fun x _ => mul_comm _ _)

/-- The gradient that reaches the probabilities. -/
theorem dprob_at (h : Fin 4) (r : Fin 4096) (j : Fin 256) :
    val_main_v42 (F := Ideal) x1 x2 (ix3 h r j) = dprob (vals x1 h) (head x2 h r) j := by
  unfold val_main_v42 val_main_v41 val_main_v40 val_main_v39 val_main_v4 val_main_v3
  pointwise [dot_S4x128x4096_S256x4x128_S4x4096x256_1_2_2_0_0_1]
  unfold dprob
  exact Finset.sum_congr rfl fun x _ => mul_comm _ _

/-- The row's greatest score. -/
theorem max_at (h : Fin 4) (r : Fin 4096) :
    val_main_v8 (F := Ideal) x0 x1 (ix2 h r) = top (head x0 h r) (keys x1 h) := by
  have hs := score_at x0 x1 h r
  unfold val_main_v8 val_main_cst_0
  generalize val_main_v7 (F := Ideal) x0 x1 = y at hs ⊢
  pointwise
  unfold top
  exact congrArg (fun f => Finset.fold max _ f Finset.univ) (funext hs)

theorem top_at (h : Fin 4) (r : Fin 4096) :
    val_main_v15 (F := Ideal) x0 x1 (ix2 h r) = top (head x0 h r) (keys x1 h) := by
  rw [val_main_v15_apply, max_at, val_main_v14_apply]
  show max (Ideal.ofBits .f32 0xFF800000#32) _ = _
  rw [negInf_eq, max_eq_right bot_le]

/-- The weights. -/
theorem weight_at (h : Fin 4) (r : Fin 4096) (j : Fin 256) :
    val_main_v28 (F := Ideal) x0 x1 (ix3 h r j) = weight (head x0 h r) (keys x1 h) j := by
  have hs := score_at x0 x1 h r j
  have ht := top_at x0 x1 h r
  unfold val_main_v28 val_main_v27 val_main_v26 val_main_v25
  generalize val_main_v7 (F := Ideal) x0 x1 = y at hs ⊢
  generalize val_main_v15 (F := Ideal) x0 x1 = z at ht ⊢
  pointwise
  rw [hs, ht]
  rfl

/-- The row's sum of weights. -/
theorem total_at (h : Fin 4) (r : Fin 4096) :
    val_main_v29 (F := Ideal) x0 x1 (ix2 h r) = total (head x0 h r) (keys x1 h) := by
  have hw := weight_at x0 x1 h r
  unfold val_main_v29 val_main_cst_8
  generalize val_main_v28 (F := Ideal) x0 x1 = y at hw ⊢
  pointwise
  unfold total
  exact Finset.sum_congr rfl fun j _ => hw j

/-- The probabilities. -/
theorem prob_at (h : Fin 4) (r : Fin 4096) (hq : ∀ x, IsReal (head x0 h r x)) (hk : ∀ j x, IsReal (keys x1 h j x)) (j : Fin 256) :
    val_main_v32 (F := Ideal) x0 x1 (ix3 h r j) = prob (head x0 h r) (keys x1 h) j := by
  have hw := weight_at x0 x1 h r j
  have ht := total_at x0 x1 h r
  unfold val_main_v32 val_main_v31 val_main_v30
  generalize val_main_v28 (F := Ideal) x0 x1 = y at hw ⊢
  generalize val_main_v29 (F := Ideal) x0 x1 = z at ht ⊢
  pointwise
  rw [hw, ht, prob_eq hq hk]

/-- The gradient of the raw products of queries and keys. -/
theorem ds_at (h : Fin 4) (r : Fin 4096) (hq : ∀ x, IsReal (head x0 h r x)) (hk : ∀ j x, IsReal (keys x1 h j x)) (j : Fin 256) :
    val_main_v58 (F := Ideal) x0 x1 x2 (ix3 h r j) = ds x0 x1 x2 h r j := by
  have hw := weight_at x0 x1 h r
  have ht := total_at x0 x1 h r
  have hp := dprob_at x1 x2 h r
  unfold val_main_v58 val_main_v57 val_main_v56 val_main_v55 val_main_v54 val_main_v53 val_main_v52 val_main_v51 val_main_v50 val_main_v49 val_main_v48 val_main_v47 val_main_v46 val_main_v45 val_main_v35 val_main_v34 val_main_v33 val_main_v30 val_main_cst_12 val_main_cst_11 val_main_cst_10 val_main_cst_9
  generalize val_main_v28 (F := Ideal) x0 x1 = y at hw ⊢
  generalize val_main_v29 (F := Ideal) x0 x1 = z at ht ⊢
  generalize val_main_v42 (F := Ideal) x1 x2 = u at hp ⊢
  pointwise
  simp only [hw, ht, hp]
  unfold ds
  rw [← dscore_eq hq hk, Finset.sum_const, Finset.card_univ, Fintype.card_fin, one_smul]

/-- The query's gradient. -/
theorem dq_at (hq : ∀ h r x, IsReal (head x0 h r x)) (hk : ∀ h j x, IsReal (keys x1 h j x)) :
    val_main_v69 (F := Ideal) x0 x1 x2 = dqArr x0 x1 x2 := by
  funext i
  obtain ⟨r, d, rfl⟩ : ∃ (r : Fin 4096) (d : Fin 512), i = ix2 r d := ⟨i 0, i 1, eq_ix2 i⟩
  have hs := fun h j => ds_at x0 x1 x2 h r (hq h r) (hk h) j
  have hd : d.val = (⟨d.val / 128, by omega⟩ : Fin 4).val * 128 + (⟨d.val % 128, by omega⟩ : Fin 128).val := by dsimp only; omega
  rw [dqArr_head _ _ _ r _ _ d hd]
  unfold dqAt keys
  unfold val_main_v69 val_main_v68 val_main_v62 val_main_v61 val_main_v2 val_main_v1
  generalize val_main_v58 (F := Ideal) x0 x1 x2 = y at hs ⊢
  pointwise [dot_S4x4096x256_S256x4x128_S4x4096x128_2_0_1_2_0_1]
  refine Finset.sum_congr rfl fun x _ => ?_
  rw [hs]
  congr 3
  apply Fin.ext
  dsimp only
  omega

/-- The gradient of the keys and values. -/
theorem dkv_at (hq : ∀ h r x, IsReal (head x0 h r x)) (hk : ∀ h j x, IsReal (keys x1 h j x)) :
    val_main_v67 (F := Ideal) x0 x1 x2 = fun i => ∑ r, dkvRow x0 x1 x2 r i := by
  funext i
  obtain ⟨j, d, rfl⟩ : ∃ (j : Fin 256) (d : Fin 1024), i = ix2 j d := ⟨i 0, i 1, eq_ix2 i⟩
  have hs := fun h r j => ds_at x0 x1 x2 h r (hq h r) (hk h) j
  have hp := fun h r j => prob_at x0 x1 h r (hq h r) (hk h) j
  unfold val_main_v67 val_main_v66 val_main_v65 val_main_v64 val_main_v63 val_main_v60 val_main_v59 val_main_v44 val_main_v43 val_main_v41 val_main_v40 val_main_v39 val_main_v0 val_main_cst_13 val_main_cst_14
  generalize val_main_v58 (F := Ideal) x0 x1 x2 = y at hs ⊢
  generalize val_main_v32 (F := Ideal) x0 x1 = z at hp ⊢
  pointwise [dot_S4x4096x256_S4096x4x128_S4x256x128_1_0_2_2_0_1, dot_S4x128x4096_S4x4096x256_S4x128x256_2_1_1_2_0_0]
  simp only [hs, hp]
  by_cases hd : d.val < 512
  · rw [dif_neg (by omega), dif_pos hd, zero_add]
    refine Finset.sum_congr rfl fun r _ => ?_
    rw [dkvRow_keys x0 x1 x2 r ⟨d.val / 128, by omega⟩ j ⟨d.val % 128, by omega⟩ d (by dsimp only; omega)]
    rfl
  · rw [dif_pos (by omega), dif_neg hd, add_zero]
    refine Finset.sum_congr rfl fun r _ => ?_
    rw [dkvRow_vals x0 x1 x2 r ⟨(d.val - 512) / 128, by omega⟩ j ⟨(d.val - 512) % 128, by omega⟩ d (by dsimp only; omega)]
    exact mul_comm _ _

end Cert.MemoryReference

end
-- ==== Proof.MemoryEquation.lean ====
/-
  The value claim of the attention over the memory: read on finite queries and keys, the kernel's two results are the
  reference's.
-/
module

public import proofs.«01_k».proof.Defs
public import proofs.«01_k».proof.Proof.MemoryArray
public import proofs.«01_k».proof.Proof.MemoryReference
public import proofs.«01_k».proof.Proof.Gen.Pre_mem_finite
public import Idealize.ShloMosaic.Lib.ReduceAll

@[expose] public section

noncomputable section

namespace Cert.MemoryEquation

open Idealize.ShloMosaic Idealize.ShloMosaic.TcCoe Idealize.SL.Sem
open Cert.MemoryRow Cert.MemoryBlock Cert.MemoryArray

/-- The pattern of the positive infinity. -/
theorem posInf_eq : Ideal.ofBits .f32 0x7F800000#32 = ⊤ := by simp [Ideal.ofBits, Ideal.ieee]

/-- An extended real below the infinity in absolute value is a real number. -/
theorem isReal_of_abs {x : EReal} (h : Ideal.cmp .olt (max x (-x)) (Ideal.ofBits .f32 0x7F800000#32) = 1#1) : IsReal x := by
  rw [posInf_eq] at h
  have hx : max x (-x) < ⊤ := by
    by_contra hn
    simp [Ideal.cmp, hn] at h
  induction x using EReal.rec with
  | bot => simp at hx
  | top => simp at hx
  | coe r => exact ⟨r, rfl⟩

/-- Where the precondition holds the queries and the keys are real numbers. -/
theorem finite_of_pre (x0 : Pre_mem_finite.S4096x512.Idx → EReal) (x1 : Pre_mem_finite.S256x1024.Idx → EReal) (x2 : Pre_mem_finite.S4096x512.Idx → EReal)
    (h : Cert.Pre_mem_finite.fn (F := Ideal) x0 x1 x2 = fun _ => 1#1) :
    (∀ i, IsReal (x0 i)) ∧ ∀ (j : Fin 256) (d : Fin 512), IsReal (x1 (ix2 j ⟨d.val, by omega⟩)) := by
  have h0 := congrFun h ix0
  unfold Cert.Pre_mem_finite.fn at h0
  obtain ⟨ha, hb⟩ := IntOp.andi_eq_one.1 h0
  refine ⟨fun i => isReal_of_abs (Host.reduce_andi_all _ _ _ _ _ ha i), fun j d => ?_⟩
  have hd := Host.reduce_andi_all _ _ _ _ _ hb (ix2 j d)
  have he := isReal_of_abs hd
  have hi : (extractStridedSlice Pre_mem_finite.S256x512 ![0, 0] x1 Pre_mem_finite.Facts.slices_S256x1024_S256x512_0_0) (ix2 j d) = x1 (ix2 j ⟨d.val, by omega⟩) := by
    pointwise
  exact hi ▸ he

/-- The kernel's results and the reference's from memories that agree on the arguments. -/
theorem algebraic : Cert.algebraic_MemoryBwdIdeal_MemoryGradIdeal_pre_mem_finite (hMemoryBwdIdeal := Cert.MemoryBwdIdeal.Gen.facts)
    (hMemoryGradIdeal := Cert.MemoryGradIdeal.Gen.facts) (hPre_mem_finite := Cert.Pre_mem_finite.Gen.facts) := by
  intro m ρ m' ρ' hpre hargs
  refine ⟨fun c => dqResult m c, fun c => dkvResult m c, MemoryArray.run m ρ, ?_⟩
  refine (θ_run (Cert.MemoryGradIdeal.defs (F := Ideal)) _ _).mono (fun r h c => ?_) (Cert.MemoryGradIdeal.Value.run (F := Ideal) m' ρ')
  obtain ⟨hq, hkv, h0, h1, h2⟩ := h c
  obtain ⟨a0, a1, a2⟩ := hargs c
  have hf := finite_of_pre _ _ _ (hpre c)
  have fq : ∀ (h : Fin 4) (r : Fin 4096) x, IsReal (head (qs m c) h r x) := fun h r x => hf.1 _
  have fk : ∀ (h : Fin 4) j x, IsReal (keys (kvs m c) h j x) := fun h j x => hf.2 j ⟨h.val * 128 + x.val, by omega⟩
  refine ⟨hq.trans ?_, hkv.trans ?_, h0, h1, h2⟩
  · rw [Cert.MemoryGradIdeal.Read.val_main_v69_eq, a0, a1, a2]
    exact MemoryReference.dq_at _ _ _ fq fk
  · rw [Cert.MemoryGradIdeal.Read.val_main_v67_eq, a0, a1, a2]
    exact MemoryReference.dkv_at _ _ _ fq fk

end Cert.MemoryEquation

end
-- ==== Proof.Products.lean ====
/-
  Products of matrices over the extended reals, plain and with one operand transposed, of one matrix and of a stack: what
  the kernels' blocks and the references' contractions both are.
-/
module

public import Idealize.ShloMosaic.Lib.Pointwise
public import Idealize.ShloMosaic.Lib.Tactic
public import Idealize.ShloMosaic.Lib.Pipeline.ReadBack
public import Idealize.ShloMosaic.Lib.Pipeline.ValueKit
public import Idealize.ShloMosaic.Lib.StableHlo.Run

@[expose] public section

noncomputable section

namespace Cert.Products

open Idealize.ShloMosaic

variable {B M K N : ℕ}

/-- A matrix, and a stack of matrices. -/
abbrev Mat (M N : ℕ) := (⟨2, ![M, N]⟩ : Shape).Idx → EReal
abbrev Stack (B M N : ℕ) := (⟨3, ![B, M, N]⟩ : Shape).Idx → EReal

/-- Rows by columns. -/
def nn (a : Mat M K) (b : Mat K N) : Mat M N := fun i => ∑ k : Fin K, a (ix2 (i 0) k) * b (ix2 k (i 1))

/-- Rows by rows. -/
def nt (a : Mat M K) (b : Mat N K) : Mat M N := fun i => ∑ k : Fin K, a (ix2 (i 0) k) * b (ix2 (i 1) k)

/-- Columns by columns. -/
def tn (a : Mat K M) (b : Mat K N) : Mat M N := fun i => ∑ k : Fin K, a (ix2 k (i 0)) * b (ix2 k (i 1))

/-- Layer `n` of a stack. -/
def layer (a : Stack B M N) (n : Fin B) : Mat M N := fun i => a (ix3 n (i 0) (i 1))

/-- A stack from its layers. -/
def stack (a : Fin B → Mat M N) : Stack B M N := fun i => a (i 0) (ix2 (i 1) (i 2))

/-- The products of the layers of two stacks, at an index. -/
theorem stack_nn (a : Stack B M K) (b : Stack B K N) (i : (⟨3, ![B, M, N]⟩ : Shape).Idx) :
    stack (fun n => nn (layer a n) (layer b n)) i = ∑ k : Fin K, a (ix3 (i 0) (i 1) k) * b (ix3 (i 0) k (i 2)) := rfl

theorem stack_nt (a : Stack B M K) (b : Stack B N K) (i : (⟨3, ![B, M, N]⟩ : Shape).Idx) :
    stack (fun n => nt (layer a n) (layer b n)) i = ∑ k : Fin K, a (ix3 (i 0) (i 1) k) * b (ix3 (i 0) (i 2) k) := rfl

theorem stack_tn (a : Stack B K M) (b : Stack B K N) (i : (⟨3, ![B, M, N]⟩ : Shape).Idx) :
    stack (fun n => tn (layer a n) (layer b n)) i = ∑ k : Fin K, a (ix3 (i 0) k (i 1)) * b (ix3 (i 0) k (i 2)) := rfl

/-- Two sums of products agree when their factors do: what each block of a product comes to once its reads are named. -/
theorem sum_mul_congr {f f' g g' : Fin K → EReal} (hf : ∀ k, f k = f' k) (hg : ∀ k, g k = g' k) :
    ∑ k, f k * g k = ∑ k, f' k * g' k :=
  Finset.sum_congr rfl fun k _ => congrArg₂ (· * ·) (hf k) (hg k)

/-- … and with the factors of one side exchanged. -/
theorem sum_mul_comm (f g : Fin K → EReal) : ∑ k, f k * g k = ∑ k, g k * f k :=
  Finset.sum_congr rfl fun k _ => mul_comm _ _

/-- Two matrices, and two stacks, agree when they do at every row and column. -/
theorem mat_ext {a b : Mat M N} (h : ∀ r c, a (ix2 r c) = b (ix2 r c)) : a = b :=
  funext fun i => by rw [eq_ix2 i]; exact h _ _

theorem stack_ext {a b : Stack B M N} (h : ∀ n r c, a (ix3 n r c) = b (ix3 n r c)) : a = b :=
  funext fun i => by rw [eq_ix3 i]; exact h _ _ _

end Cert.Products

end
-- ==== Proof.Scalars.lean ====
/-
  Facts about single extended reals that the products' claims use: the constants' patterns, and the square of a positive
  part, its root and its derivative.
-/
module

public import Idealize.ShloMosaic.Lib.Pointwise
public import Idealize.ShloMosaic.Lib.Tactic

@[expose] public section

noncomputable section

namespace Cert.Scalars

open Idealize.ShloMosaic

/-- The pattern of zero. -/
theorem zero_bits : Ideal.ofBits .f32 0x00000000#32 = 0 := by simp [Ideal.ofBits, Ideal.ieee]

/-- The pattern of two. -/
theorem two_bits : Ideal.ofBits .f32 0x40000000#32 = 2 := by
  simp [Ideal.ofBits, Ideal.ieee]
  rw [← EReal.coe_mul]
  norm_num
  rfl

/-- The positive part. -/
def pos (x : EReal) : EReal := max x 0

/-- The root of the square of a positive part is the positive part. -/
theorem sqrt_sq_pos (x : EReal) : Ideal.sqrt (pos x * pos x) = pos x := by
  have h : 0 ≤ pos x := le_max_right x 0
  generalize pos x = y at h
  induction y using EReal.rec with
  | bot => simp at h
  | top => rfl
  | coe r =>
    have hr : 0 ≤ r := EReal.coe_nonneg.mp h
    rw [← EReal.coe_mul]
    show (if r * r < 0 then ⊥ else ((Real.sqrt (r * r) : ℝ) : EReal)) = _
    rw [if_neg (not_lt.mpr (mul_nonneg hr hr)), Real.sqrt_mul_self hr]

/-- The derivative of the squared positive part vanishes off the positive numbers, so choosing zero there changes nothing. -/
theorem select_pos (x s : EReal) : Scalar.select (Ideal.cmp .ogt x 0) (s * (2 * pos x)) 0 = s * (2 * pos x) := by
  by_cases h : 0 < x
  · simp [Ideal.cmp, h, Scalar.select]
  · have hp : pos x = 0 := max_eq_right (not_lt.mp h)
    simp [Ideal.cmp, h, Scalar.select, hp]

end Cert.Scalars

end
-- ==== Proof.Activation.lean ====
/-
  The squared positive part of a matrix: the MLP's activation, as the host computes it before the down projection's calls
  and as the references have it.
-/
module

public import proofs.«01_k».proof.Proof.Products
public import proofs.«01_k».proof.Proof.Scalars

@[expose] public section

noncomputable section

namespace Cert.Activation

open Idealize.ShloMosaic Cert.Products Cert.Scalars

variable {M N : ℕ}

/-- The squared positive part, entry by entry. -/
def act (u : Mat M N) : Mat M N := fun i => pos (u i) * pos (u i)

/-- The larger of a number and the pattern of zero, squared, as both programs write it. -/
theorem sq_max (x : EReal) :
    max x (Ideal.ofBits .f32 0x00000000#32) * max x (Ideal.ofBits .f32 0x00000000#32) = pos x * pos x := by
  rw [zero_bits]
  rfl

end Cert.Activation

end
-- ==== Proof.MlpDownDxEquation.lean ====
/-
  The gradient of the MLP's pre-activation: the gradient's rows by the down projection's rows, times the derivative of the
  activation. The kernel has the derivative from the activation's root, the reference by a choice on the sign.
-/
module

public import proofs.«01_k».proof.Defs
public import proofs.«01_k».proof.Proof.Activation
public import proofs.«01_k».proof.Proof.Gen.MlpDownDxIdeal.Value
public import proofs.«01_k».proof.Proof.Gen.MlpDownDxRefIdeal.Run
public import proofs.«01_k».proof.Proof.Gen.MlpDownDxRefIdeal.Read

@[expose] public section

noncomputable section

namespace Cert.MlpDownDxEquation

open Idealize.ShloMosaic Idealize.ShloMosaic.TcCoe Idealize.SL.Sem Cert.Products Cert.Activation Cert.Scalars

/-- The gradient of the pre-activation `u`. -/
def gradient (u : Mat 4096 4096) (w : Mat 4096 1024) (g : Mat 4096 1024) : Mat 4096 4096 := fun i => nt g w i * (2 * pos (u i))

section Kernel

open Cert.MlpDownDxIdeal Cert.MlpDownDxIdeal.Gen Cert.MlpDownDxIdeal.Value

variable (m : (ℓ : Loc nD τ sig) → Buf (Elt Ideal) ℓ) (e : Dev nD)

abbrev pre : Mat 4096 4096 := m ((e : Thread nD τ).loc main_arg0)
abbrev weight : Mat 4096 1024 := m ((e : Thread nD τ).loc main_arg1)
abbrev ct : Mat 4096 1024 := m ((e : Thread nD τ).loc main_arg2)

theorem payload (x : Mat 2048 1024) (w : Stack 1 1024 1024) (a : Mat 2048 1024) :
    k0_pay1 (F := Ideal) x w a = fun y => nt x (layer w 0) y * (2 * Ideal.sqrt (a y)) :=
  mat_ext fun r n => by
    unfold k0_pay1
    pointwise [dot_S2048x1024_S1024x1024_S2048x1024_1_1_0_0_n_n]
    rw [two_bits]
    rfl

/-- The host's activation. -/
theorem activation : (V m e main_v2 : Mat 4096 4096) = act (pre m e) := by
  dsimp only [V, hostOps0, hostOps0_1, List.flatten, List.append_eq, List.cons_append, List.nil_append, List.append_nil]
  after_results
  exact funext fun i => sq_max _

/-- The host hands the weight on as a stack of one layer. -/
theorem host : (V m e main_v4 : Stack 1 4096 1024) = fun i => weight m e (ix2 (i 1) (i 2)) :=
  stack_ext fun z n k => by
    dsimp only [V, hostOps0, hostOps0_1, List.flatten, List.append_eq, List.cons_append, List.nil_append, List.append_nil]
    after_results
    generalize hx : m (e, Proc.tc.devRef main_arg1) = x
    refine Eq.trans ?_ (congrFun hx (ix2 n k)).symm
    pointwise

theorem index : ∀ t : Fin cfg0.N, (win0_0.index t 0 = t.val / 4 ∧ win0_0.index t 1 = 0)
    ∧ (win0_1.index t 1 = t.val % 4 ∧ win0_1.index t 2 = 0) ∧ (win0_2.index t 0 = t.val / 4 ∧ win0_2.index t 1 = t.val % 4)
    ∧ win0_3.index t 0 = t.val / 4 ∧ win0_3.index t 1 = t.val % 4 := by
  decide +kernel

theorem final : (dats m 0 e).arrAt 3 cfg0.N = gradient (pre m e) (weight m e) (ct m e) := by
  refine (dats m 0 e).arrAt_eq_of_covers 3 _ (by decide +kernel) fun t hf y => ?_
  blk_simp
  rw [after0_3]
  frame_out
  refine (congrFun (payload _ _ _) y).trans (congrArg₂ (· * ·) (sum_mul_congr (fun k => ?_) fun k => ?_)
    (congrArg (2 * ·) ((congrArg Ideal.sqrt ?_).trans (sqrt_sq_pos _))))
  · exact (congrFun (V_main_arg2 m e) _).trans (congrArg (ct m e) (by blk_ext [index t]))
  · exact (congrFun (host m e) _).trans (congrArg (weight m e) (by blk_ext [index t]))
  · exact (congrFun (activation m e) _).trans (congrArg (act (pre m e)) (by blk_ext [index t]))

end Kernel

open Cert.MlpDownDxRefIdeal Cert.MlpDownDxRefIdeal.Read in
theorem reference (u : Mat 4096 4096) (w : Mat 4096 1024) (g : Mat 4096 1024) :
    val_main_v15 (F := Ideal) u w g = gradient u w g := by
  have product : val_main_v11 (F := Ideal) w g = nt g w := mat_ext fun r n => by
    unfold val_main_v11 val_main_v8
    pointwise [dot_S4096x1024_S4096x1024_S4096x4096_1_1_0_0_n_n]
    rfl
  funext i
  show Scalar.select (Ideal.cmp .ogt (u i) (Ideal.ofBits .f32 0x00000000#32))
    (val_main_v11 (F := Ideal) w g i * (Ideal.ofBits .f32 0x40000000#32 * max (u i) (Ideal.ofBits .f32 0x00000000#32)))
    (Ideal.ofBits .f32 0x00000000#32) = _
  rw [zero_bits, two_bits, product]
  exact select_pos _ _

theorem algebraic : Cert.algebraic_MlpDownDxIdeal_MlpDownDxRefIdeal (hMlpDownDxIdeal := Cert.MlpDownDxIdeal.Gen.facts)
    (hMlpDownDxRefIdeal := Cert.MlpDownDxRefIdeal.Gen.facts) := fun m ρ m' ρ' _ hargs =>
  ⟨_, (θ_run _ _ _).mono (fun _ h c => ⟨(h c).1.trans (final m c), (h c).2⟩) (Cert.MlpDownDxIdeal.Value.run_blocks m ρ),
    (θ_run _ _ _).mono (fun _ h c => ⟨(h c).1.trans (by
      rw [Cert.MlpDownDxRefIdeal.Read.val_main_v15_eq, (hargs c).1, (hargs c).2.1, (hargs c).2.2]
      exact reference _ _ _), (h c).2⟩) (Cert.MlpDownDxRefIdeal.Value.run (F := Ideal) m' ρ')⟩

end Cert.MlpDownDxEquation

end
-- ==== Proof.MlpDownDwEquation.lean ====
/-
  The gradient of the down projection's weight is the activation's columns by the gradient's columns, in the kernel and in
  the reference.
-/
module

public import proofs.«01_k».proof.Defs
public import proofs.«01_k».proof.Proof.Activation
public import proofs.«01_k».proof.Proof.Gen.MlpDownDwIdeal.Value
public import proofs.«01_k».proof.Proof.Gen.MlpDownDwRefIdeal.Run
public import proofs.«01_k».proof.Proof.Gen.MlpDownDwRefIdeal.Read

@[expose] public section

noncomputable section

namespace Cert.MlpDownDwEquation

open Idealize.ShloMosaic Idealize.ShloMosaic.TcCoe Idealize.SL.Sem Cert.Products Cert.Activation

section Kernel

open Cert.MlpDownDwIdeal Cert.MlpDownDwIdeal.Gen Cert.MlpDownDwIdeal.Value

variable (m : (ℓ : Loc nD τ sig) → Buf (Elt Ideal) ℓ) (e : Dev nD)

abbrev pre : Mat 4096 4096 := m ((e : Thread nD τ).loc main_arg0)
abbrev ct : Mat 4096 1024 := m ((e : Thread nD τ).loc main_arg2)

theorem payload (x : Mat 4096 512) (w : Mat 4096 1024) : k0_pay1 (F := Ideal) x w = tn x w :=
  mat_ext fun r n => by unfold k0_pay1; pointwise [dot_S4096x512_S4096x1024_S512x1024_0_0_1_1_n_n]; rfl

/-- The host's activation. -/
theorem activation : (V m e main_v2 : Mat 4096 4096) = act (pre m e) := by
  dsimp only [V, hostOps0, hostOps0_1, List.flatten, List.append_eq, List.cons_append, List.nil_append, List.append_nil]
  after_results
  exact funext fun i => sq_max _

theorem index : ∀ t : Fin cfg0.N, (win0_0.index t 0 = 0 ∧ win0_0.index t 1 = t.val) ∧ (win0_1.index t 0 = 0 ∧ win0_1.index t 1 = 0)
    ∧ win0_2.index t 0 = t.val ∧ win0_2.index t 1 = 0 := by
  decide +kernel

theorem final : (dats m 0 e).arrAt 2 cfg0.N = tn (act (pre m e)) (ct m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (activation m e) _).trans (congrArg (act (pre m e)) (by blk_ext [index t]))
  · exact (congrFun (V_main_arg2 m e) _).trans (congrArg (ct m e) (by blk_ext [index t]))

end Kernel

open Cert.MlpDownDwRefIdeal Cert.MlpDownDwRefIdeal.Read in
theorem reference (u : Mat 4096 4096) (g : Mat 4096 1024) : val_main_v15 (F := Ideal) u g = tn (act u) g :=
  mat_ext fun r n => by
    rw [← show val_main_v4 (F := Ideal) u = act u from funext fun i => sq_max _]
    unfold val_main_v15 val_main_v10 val_main_v9 val_main_v8
    generalize val_main_v4 (F := Ideal) u = a
    pointwise [dot_S4096x1024_S4096x4096_S1024x4096_0_0_1_1_n_n]
    exact sum_mul_comm _ _

theorem algebraic : Cert.algebraic_MlpDownDwIdeal_MlpDownDwRefIdeal (hMlpDownDwIdeal := Cert.MlpDownDwIdeal.Gen.facts)
    (hMlpDownDwRefIdeal := Cert.MlpDownDwRefIdeal.Gen.facts) := fun m ρ m' ρ' _ hargs =>
  ⟨_, (θ_run _ _ _).mono (fun _ h c => ⟨(h c).1.trans (final m c), (h c).2⟩) (Cert.MlpDownDwIdeal.Value.run_blocks m ρ),
    (θ_run _ _ _).mono (fun _ h c => ⟨(h c).1.trans (by
      rw [Cert.MlpDownDwRefIdeal.Read.val_main_v15_eq, (hargs c).1, (hargs c).2.2]
      exact reference _ _), (h c).2⟩) (Cert.MlpDownDwRefIdeal.Value.run (F := Ideal) m' ρ')⟩

end Cert.MlpDownDwEquation

end
-- ==== Proof.Accumulate.lean ====
/-
  A product whose summed axis is cut into blocks: each grid point adds one block's product to a scratch, which is cleared at
  the first block and written out at the last. What is written is the product over the whole axis.
-/
module

public import proofs.«01_k».proof.Proof.Products
public import Idealize.ShloMosaic.Lib.Pipeline.ValueKit.Acc

@[expose] public section

noncomputable section

namespace Cert.Accumulate

open Idealize.ShloMosaic Cert.Products

variable {T M P n L : ℕ}

/-- What a point leaves, written block and scratch, when the points come in runs of `J` along the summed axis: `start`, `step`
    and `write` are the kernel's three cases, `left` and `right` say where the operands' blocks stand in the summed axis. -/
theorem product (outs : (t : ℕ) → t < T → Mat M P × Mat M P) (J : ℕ) [NeZero J] (x : Fin T → Mat M n) (w : Fin T → Mat n P)
    (start : ∀ t : Fin T, t.val % J = 0 → ∀ y, (outs t.val t.isLt).2 y = 0 + nn (x t) (w t) y)
    (step : ∀ t : Fin T, ¬t.val % J = 0 → ∀ y,
      (outs t.val t.isLt).2 y = (outs (t.val - 1) (Nat.lt_of_le_of_lt (Nat.sub_le _ _) t.isLt)).2 y + nn (x t) (w t) y)
    (write : ∀ t : Fin T, t.val % J = J - 1 → ∀ y, (outs t.val t.isLt).1 y = (outs t.val t.isLt).2 y)
    (hL : L = J * n) (t : Fin T) (hr : t.val % J = J - 1) (y : (⟨2, ![M, P]⟩ : Shape).Idx) (f g : Fin L → EReal)
    (left : ∀ (s : Fin J) (k : Fin n) (hl : s.val * n + k.val < L),
      x ⟨J * (t.val / J) + s.val, Pipeline.run_point_lt_of_flush t hr s⟩ (ix2 (y 0) k) = f ⟨s.val * n + k.val, hl⟩)
    (right : ∀ (s : Fin J) (k : Fin n) (hl : s.val * n + k.val < L),
      w ⟨J * (t.val / J) + s.val, Pipeline.run_point_lt_of_flush t hr s⟩ (ix2 k (y 1)) = g ⟨s.val * n + k.val, hl⟩) :
    (outs t.val t.isLt).1 y = ∑ l : Fin L, f l * g l := by
  rw [write t hr, Pipeline.eq_sum_fin_of_reset_step_apply_of_flush (fun n h => (outs n h).2) J (fun _ => (0 : EReal))
    (fun t => nn (x t) (w t)) start step t hr y, zero_add]
  exact Fin.sum_mul_add_congr (fun s k hl => congrArg₂ (· * ·) (left s k hl) (right s k hl)) hL

end Cert.Accumulate

end
-- ==== Proof.MlpUpDxEquation.lean ====
/-
  The gradient of the up projection's input is the gradient's rows by the weight's rows, in the kernel, where the summed axis
  is in two blocks, and in the reference.
-/
module

public import proofs.«01_k».proof.Defs
public import proofs.«01_k».proof.Proof.Accumulate
public import proofs.«01_k».proof.Proof.Gen.MlpUpDxIdeal.Value
public import proofs.«01_k».proof.Proof.Gen.MlpUpDxRefIdeal.Run
public import proofs.«01_k».proof.Proof.Gen.MlpUpDxRefIdeal.Read

@[expose] public section

noncomputable section

namespace Cert.MlpUpDxEquation

open Idealize.ShloMosaic Idealize.ShloMosaic.TcCoe Idealize.SL.Sem Cert.Products

section Kernel

open Cert.MlpUpDxIdeal Cert.MlpUpDxIdeal.Gen Cert.MlpUpDxIdeal.Value

variable (m : (ℓ : Loc nD τ sig) → Buf (Elt Ideal) ℓ) (e : Dev nD)

abbrev ct : Mat 4096 4096 := m ((e : Thread nD τ).loc main_arg2)
abbrev weight : Mat 1024 4096 := m ((e : Thread nD τ).loc main_arg1)

/-- The three steps on the scratch: clear it, add a block's product, copy it out. -/
theorem clear : k0_pay1 (F := Ideal) = fun _ => (0 : EReal) :=
  mat_ext fun r n => by unfold k0_pay1; pointwise

theorem add (a : Mat 1024 1024) (x : Mat 1024 2048) (w : Stack 1 2048 1024) :
    k0_pay2 (F := Ideal) a x w = fun y => a y + nn x (layer w 0) y :=
  mat_ext fun r n => by unfold k0_pay2; pointwise [dot_S1024x2048_S2048x1024_S1024x1024_1_0_0_1_n_n]; rfl

theorem copy (a : Mat 1024 1024) : k0_pay3 (F := Ideal) a = a :=
  mat_ext fun r n => by unfold k0_pay3; pointwise

/-- The host transposes the weight and hands it on as a stack of one layer. -/
theorem host : (V m e main_v2 : Stack 1 4096 1024) = fun i => weight m e (ix2 (i 2) (i 1)) :=
  stack_ext fun z n k => by
    dsimp only [V, hostOps0]
    after_results
    generalize hx : m (e, Proc.tc.devRef main_arg1) = x
    refine Eq.trans ?_ (congrFun hx (ix2 k n)).symm
    pointwise

theorem index : ∀ t : Fin cfg0.N, (win0_0.index t 0 = t.val / 2 ∧ win0_0.index t 1 = t.val % 2)
    ∧ (win0_1.index t 0 = 0 ∧ win0_1.index t 1 = t.val % 2 ∧ win0_1.index t 2 = 0)
    ∧ win0_2.index t 0 = t.val / 2 ∧ win0_2.index t 1 = 0 := by
  decide +kernel

theorem start (t : Fin cfg0.N) (h : t.val % 2 = 0) (y) :
    (outsAt0 m e t.val t.isLt).2 y = 0 + nn (iblk m e 0 t : Mat 1024 2048) (layer (iblk m e 1 t : Stack 1 2048 1024) 0) y := by
  rw [outsAt0_A m e t h (by omega)]
  frame_out
  rw [add, clear]

theorem step (t : Fin cfg0.N) (h : ¬t.val % 2 = 0) (y) :
    (outsAt0 m e t.val t.isLt).2 y = (outsAt0 m e (t.val - 1) (Nat.lt_of_le_of_lt (Nat.sub_le _ _) t.isLt)).2 y
      + nn (iblk m e 0 t : Mat 1024 2048) (layer (iblk m e 1 t : Stack 1 2048 1024) 0) y := by
  rw [outsAt0_B m e t h (by omega)]
  frame_out
  rw [add, (Memref.isWhole_whole cc0_scratch0).read_unread]

theorem write (t : Fin cfg0.N) (h : t.val % 2 = 1) (y) :
    (outsAt0 m e t.val t.isLt).1 y = (outsAt0 m e t.val t.isLt).2 y := by
  rw [outsAt0_B m e t (by omega) h]
  frame_out
  rw [copy]

theorem final : (dats m 0 e).arrAt 2 cfg0.N = nt (ct m e) (weight m e) := by
  refine (dats m 0 e).arrAt_eq_of_covers 2 _ (by decide +kernel) fun t hf y => ?_
  blk_simp
  rw [after0_2]
  refine Accumulate.product (outsAt0 m e) 2 (fun t => iblk m e 0 t) (fun t => layer (iblk m e 1 t) 0) (start m e) (step m e) (write m e)
    rfl t ((flush0_2 t).mp hf) y _ _ (fun s k hl => ?_) fun s k hl => ?_
  · exact (congrFun (V_main_arg2 m e) _).trans (congrArg (ct m e)
      (by blk_ext [index t, index ⟨_, Pipeline.run_point_lt_of_flush t ((flush0_2 t).mp hf) s⟩]))
  · exact (congrFun (host m e) _).trans (congrArg (weight m e)
      (by blk_ext [index t, index ⟨_, Pipeline.run_point_lt_of_flush t ((flush0_2 t).mp hf) s⟩]))

end Kernel

open Cert.MlpUpDxRefIdeal Cert.MlpUpDxRefIdeal.Read in
theorem reference (w : Mat 1024 4096) (g : Mat 4096 4096) : val_main_v6 (F := Ideal) w g = nt g w :=
  mat_ext fun r n => by
    unfold val_main_v6 val_main_v5 val_main_v2
    pointwise [dot_S4096x4096_S1024x4096_S4096x1024_1_1_0_0_n_n]
    rfl

theorem algebraic : Cert.algebraic_MlpUpDxIdeal_MlpUpDxRefIdeal (hMlpUpDxIdeal := Cert.MlpUpDxIdeal.Gen.facts)
    (hMlpUpDxRefIdeal := Cert.MlpUpDxRefIdeal.Gen.facts) := fun m ρ m' ρ' _ hargs =>
  ⟨_, (θ_run _ _ _).mono (fun _ h c => ⟨(h c).1.trans (final m c), (h c).2⟩) (Cert.MlpUpDxIdeal.Value.run_blocks m ρ),
    (θ_run _ _ _).mono (fun _ h c => ⟨(h c).1.trans (by
      rw [Cert.MlpUpDxRefIdeal.Read.val_main_v6_eq, (hargs c).2.1, (hargs c).2.2]
      exact reference _ _), (h c).2⟩) (Cert.MlpUpDxRefIdeal.Value.run (F := Ideal) m' ρ')⟩

end Cert.MlpUpDxEquation

end
-- ==== Proof.MlpUpDwEquation.lean ====
/-
  The gradient of the up projection's weight is the gradient's columns by the activations' columns (the weight's gradient
  transposed, as the call returns it), in the kernel and in the reference.
-/
module

public import proofs.«01_k».proof.Defs
public import proofs.«01_k».proof.Proof.Products
public import proofs.«01_k».proof.Proof.Gen.MlpUpDwIdeal.Value
public import proofs.«01_k».proof.Proof.Gen.MlpUpDwRefIdeal.Run
public import proofs.«01_k».proof.Proof.Gen.MlpUpDwRefIdeal.Read

@[expose] public section

noncomputable section

namespace Cert.MlpUpDwEquation

open Idealize.ShloMosaic Idealize.ShloMosaic.TcCoe Idealize.SL.Sem Cert.Products

section Kernel

open Cert.MlpUpDwIdeal Cert.MlpUpDwIdeal.Gen Cert.MlpUpDwIdeal.Value

variable (m : (ℓ : Loc nD τ sig) → Buf (Elt Ideal) ℓ) (e : Dev nD)

abbrev acts : Mat 4096 1024 := m ((e : Thread nD τ).loc main_arg0)
abbrev ct : Mat 4096 4096 := m ((e : Thread nD τ).loc main_arg2)

theorem payload (x : Mat 4096 512) (w : Mat 4096 1024) : k0_pay1 (F := Ideal) x w = tn x w :=
  mat_ext fun r n => by unfold k0_pay1; pointwise [dot_S4096x512_S4096x1024_S512x1024_0_0_1_1_n_n]; rfl

theorem index : ∀ t : Fin cfg0.N, (win0_0.index t 0 = 0 ∧ win0_0.index t 1 = t.val) ∧ (win0_1.index t 0 = 0 ∧ win0_1.index t 1 = 0)
    ∧ win0_2.index t 0 = t.val ∧ win0_2.index t 1 = 0 := by
  decide +kernel

theorem final : (dats m 0 e).arrAt 2 cfg0.N = tn (ct m e) (acts m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg2 m e) _).trans (congrArg (ct m e) (by blk_ext [index t]))
  · exact (congrFun (V_main_arg0 m e) _).trans (congrArg (acts m e) (by blk_ext [index t]))

end Kernel

open Cert.MlpUpDwRefIdeal Cert.MlpUpDwRefIdeal.Read in
theorem reference (h : Mat 4096 1024) (g : Mat 4096 4096) : val_main_v7 (F := Ideal) h g = tn g h :=
  mat_ext fun r n => by
    unfold val_main_v7 val_main_v6 val_main_v4 val_main_v3 val_main_v2 val_main_v0
    pointwise [dot_S4096x4096_S4096x1024_S4096x1024_0_0_1_1_n_n]
    rfl

theorem algebraic : Cert.algebraic_MlpUpDwIdeal_MlpUpDwRefIdeal (hMlpUpDwIdeal := Cert.MlpUpDwIdeal.Gen.facts)
    (hMlpUpDwRefIdeal := Cert.MlpUpDwRefIdeal.Gen.facts) := fun m ρ m' ρ' _ hargs =>
  ⟨_, (θ_run _ _ _).mono (fun _ h c => ⟨(h c).1.trans (final m c), (h c).2⟩) (Cert.MlpUpDwIdeal.Value.run_blocks m ρ),
    (θ_run _ _ _).mono (fun _ h c => ⟨(h c).1.trans (by
      rw [Cert.MlpUpDwRefIdeal.Read.val_main_v7_eq, (hargs c).1, (hargs c).2.2]
      exact reference _ _), (h c).2⟩) (Cert.MlpUpDwRefIdeal.Value.run (F := Ideal) m' ρ')⟩

end Cert.MlpUpDwEquation

end
-- ==== Proof.InProjDxEquation.lean ====
/-
  The gradient of the input projection's input is the gradient's rows by the weight's rows, in the kernel, where the summed
  axis is in three blocks, and in the reference.
-/
module

public import proofs.«01_k».proof.Defs
public import proofs.«01_k».proof.Proof.Accumulate
public import proofs.«01_k».proof.Proof.Gen.InProjDxIdeal.Value
public import proofs.«01_k».proof.Proof.Gen.InProjDxRefIdeal.Run
public import proofs.«01_k».proof.Proof.Gen.InProjDxRefIdeal.Read

@[expose] public section

noncomputable section

namespace Cert.InProjDxEquation

open Idealize.ShloMosaic Idealize.ShloMosaic.TcCoe Idealize.SL.Sem Cert.Products

section Kernel

open Cert.InProjDxIdeal Cert.InProjDxIdeal.Gen Cert.InProjDxIdeal.Value

variable (m : (ℓ : Loc nD τ sig) → Buf (Elt Ideal) ℓ) (e : Dev nD)

abbrev ct : Mat 4096 5376 := m ((e : Thread nD τ).loc main_arg2)
abbrev weight : Mat 1024 5376 := m ((e : Thread nD τ).loc main_arg1)

/-- The three steps on the scratch: clear it, add a block's product, copy it out. -/
theorem clear : k0_pay1 (F := Ideal) = fun _ => (0 : EReal) :=
  mat_ext fun r n => by unfold k0_pay1; pointwise

theorem add (a : Mat 1024 1024) (x : Mat 1024 1792) (w : Stack 1 1792 1024) :
    k0_pay2 (F := Ideal) a x w = fun y => a y + nn x (layer w 0) y :=
  mat_ext fun r n => by unfold k0_pay2; pointwise [dot_S1024x1792_S1792x1024_S1024x1024_1_0_0_1_n_n]; rfl

theorem copy (a : Mat 1024 1024) : k0_pay3 (F := Ideal) a = a :=
  mat_ext fun r n => by unfold k0_pay3; pointwise

/-- The host transposes the weight and hands it on as a stack of one layer. -/
theorem host : (V m e main_v2 : Stack 1 5376 1024) = fun i => weight m e (ix2 (i 2) (i 1)) :=
  stack_ext fun z n k => by
    dsimp only [V, hostOps0]
    after_results
    generalize hx : m (e, Proc.tc.devRef main_arg1) = x
    refine Eq.trans ?_ (congrFun hx (ix2 k n)).symm
    pointwise

theorem index : ∀ t : Fin cfg0.N, (win0_0.index t 0 = t.val / 3 ∧ win0_0.index t 1 = t.val % 3)
    ∧ (win0_1.index t 0 = 0 ∧ win0_1.index t 1 = t.val % 3 ∧ win0_1.index t 2 = 0)
    ∧ win0_2.index t 0 = t.val / 3 ∧ win0_2.index t 1 = 0 := by
  decide +kernel

theorem start (t : Fin cfg0.N) (h : t.val % 3 = 0) (y) :
    (outsAt0 m e t.val t.isLt).2 y = 0 + nn (iblk m e 0 t : Mat 1024 1792) (layer (iblk m e 1 t : Stack 1 1792 1024) 0) y := by
  rw [outsAt0_A m e t h (by omega)]
  frame_out
  rw [add, clear]

theorem step (t : Fin cfg0.N) (h : ¬t.val % 3 = 0) (y) :
    (outsAt0 m e t.val t.isLt).2 y = (outsAt0 m e (t.val - 1) (Nat.lt_of_le_of_lt (Nat.sub_le _ _) t.isLt)).2 y
      + nn (iblk m e 0 t : Mat 1024 1792) (layer (iblk m e 1 t : Stack 1 1792 1024) 0) y := by
  by_cases h2 : t.val % 3 = 2
  · rw [outsAt0_C m e t h h2]
    frame_out
    rw [add, (Memref.isWhole_whole cc0_scratch0).read_unread]
  · rw [outsAt0_B m e t h h2]
    frame_out
    rw [add, (Memref.isWhole_whole cc0_scratch0).read_unread]

theorem write (t : Fin cfg0.N) (h : t.val % 3 = 2) (y) :
    (outsAt0 m e t.val t.isLt).1 y = (outsAt0 m e t.val t.isLt).2 y := by
  rw [outsAt0_C m e t (by omega) h]
  frame_out
  rw [copy]

theorem final : (dats m 0 e).arrAt 2 cfg0.N = nt (ct m e) (weight m e) := by
  refine (dats m 0 e).arrAt_eq_of_covers 2 _ (by decide +kernel) fun t hf y => ?_
  blk_simp
  rw [after0_2]
  refine Accumulate.product (outsAt0 m e) 3 (fun t => iblk m e 0 t) (fun t => layer (iblk m e 1 t) 0) (start m e) (step m e) (write m e)
    rfl t ((flush0_2 t).mp hf) y _ _ (fun s k hl => ?_) fun s k hl => ?_
  · exact (congrFun (V_main_arg2 m e) _).trans (congrArg (ct m e)
      (by blk_ext [index t, index ⟨_, Pipeline.run_point_lt_of_flush t ((flush0_2 t).mp hf) s⟩]))
  · exact (congrFun (host m e) _).trans (congrArg (weight m e)
      (by blk_ext [index t, index ⟨_, Pipeline.run_point_lt_of_flush t ((flush0_2 t).mp hf) s⟩]))

end Kernel

open Cert.InProjDxRefIdeal Cert.InProjDxRefIdeal.Read in
theorem reference (w : Mat 1024 5376) (g : Mat 4096 5376) : val_main_v6 (F := Ideal) w g = nt g w :=
  mat_ext fun r n => by
    unfold val_main_v6 val_main_v5 val_main_v2
    pointwise [dot_S4096x5376_S1024x5376_S4096x1024_1_1_0_0_n_n]
    rfl

theorem algebraic : Cert.algebraic_InProjDxIdeal_InProjDxRefIdeal (hInProjDxIdeal := Cert.InProjDxIdeal.Gen.facts)
    (hInProjDxRefIdeal := Cert.InProjDxRefIdeal.Gen.facts) := fun m ρ m' ρ' _ hargs =>
  ⟨_, (θ_run _ _ _).mono (fun _ h c => ⟨(h c).1.trans (final m c), (h c).2⟩) (Cert.InProjDxIdeal.Value.run_blocks m ρ),
    (θ_run _ _ _).mono (fun _ h c => ⟨(h c).1.trans (by
      rw [Cert.InProjDxRefIdeal.Read.val_main_v6_eq, (hargs c).2.1, (hargs c).2.2]
      exact reference _ _), (h c).2⟩) (Cert.InProjDxRefIdeal.Value.run (F := Ideal) m' ρ')⟩

end Cert.InProjDxEquation

end
-- ==== Proof.InProjDwEquation.lean ====
/-
  The gradient of the input projection's weight is the gradient's columns by the activations' columns (the weight's gradient
  transposed, as the call returns it), in the kernel and in the reference.
-/
module

public import proofs.«01_k».proof.Defs
public import proofs.«01_k».proof.Proof.Products
public import proofs.«01_k».proof.Proof.Gen.InProjDwIdeal.Value
public import proofs.«01_k».proof.Proof.Gen.InProjDwRefIdeal.Run
public import proofs.«01_k».proof.Proof.Gen.InProjDwRefIdeal.Read

@[expose] public section

noncomputable section

namespace Cert.InProjDwEquation

open Idealize.ShloMosaic Idealize.ShloMosaic.TcCoe Idealize.SL.Sem Cert.Products

section Kernel

open Cert.InProjDwIdeal Cert.InProjDwIdeal.Gen Cert.InProjDwIdeal.Value

variable (m : (ℓ : Loc nD τ sig) → Buf (Elt Ideal) ℓ) (e : Dev nD)

abbrev acts : Mat 4096 1024 := m ((e : Thread nD τ).loc main_arg0)
abbrev ct : Mat 4096 5376 := m ((e : Thread nD τ).loc main_arg2)

theorem payload (x : Mat 4096 384) (w : Mat 4096 1024) : k0_pay1 (F := Ideal) x w = tn x w :=
  mat_ext fun r n => by unfold k0_pay1; pointwise [dot_S4096x384_S4096x1024_S384x1024_0_0_1_1_n_n]; rfl

theorem index : ∀ t : Fin cfg0.N, (win0_0.index t 0 = 0 ∧ win0_0.index t 1 = t.val) ∧ (win0_1.index t 0 = 0 ∧ win0_1.index t 1 = 0)
    ∧ win0_2.index t 0 = t.val ∧ win0_2.index t 1 = 0 := by
  decide +kernel

theorem final : (dats m 0 e).arrAt 2 cfg0.N = tn (ct m e) (acts m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg2 m e) _).trans (congrArg (ct m e) (by blk_ext [index t]))
  · exact (congrFun (V_main_arg0 m e) _).trans (congrArg (acts m e) (by blk_ext [index t]))

end Kernel

open Cert.InProjDwRefIdeal Cert.InProjDwRefIdeal.Read in
theorem reference (h : Mat 4096 1024) (g : Mat 4096 5376) : val_main_v7 (F := Ideal) h g = tn g h :=
  mat_ext fun r n => by
    unfold val_main_v7 val_main_v6 val_main_v4 val_main_v3 val_main_v2 val_main_v0
    pointwise [dot_S4096x5376_S4096x1024_S5376x1024_0_0_1_1_n_n]
    rfl

theorem algebraic : Cert.algebraic_InProjDwIdeal_InProjDwRefIdeal (hInProjDwIdeal := Cert.InProjDwIdeal.Gen.facts)
    (hInProjDwRefIdeal := Cert.InProjDwRefIdeal.Gen.facts) := fun m ρ m' ρ' _ hargs =>
  ⟨_, (θ_run _ _ _).mono (fun _ h c => ⟨(h c).1.trans (final m c), (h c).2⟩) (Cert.InProjDwIdeal.Value.run_blocks m ρ),
    (θ_run _ _ _).mono (fun _ h c => ⟨(h c).1.trans (by
      rw [Cert.InProjDwRefIdeal.Read.val_main_v7_eq, (hargs c).1, (hargs c).2.2]
      exact reference _ _), (h c).2⟩) (Cert.InProjDwRefIdeal.Value.run (F := Ideal) m' ρ')⟩

end Cert.InProjDwEquation

end
-- ==== Proof.MlpUpEquation.lean ====
/-
  The up projection with the activation: the activation of the input's rows by the weight's columns, in the kernel and in the
  reference.
-/
module

public import proofs.«01_k».proof.Defs
public import proofs.«01_k».proof.Proof.Activation
public import proofs.«01_k».proof.Proof.Gen.MlpUpIdeal.Value
public import proofs.«01_k».proof.Proof.Gen.MlpUpRefIdeal.Run
public import proofs.«01_k».proof.Proof.Gen.MlpUpRefIdeal.Read

@[expose] public section

noncomputable section

namespace Cert.MlpUpEquation

open Idealize.ShloMosaic Idealize.ShloMosaic.TcCoe Idealize.SL.Sem Cert.Products Cert.Activation Cert.Scalars

section Kernel

open Cert.MlpUpIdeal Cert.MlpUpIdeal.Gen Cert.MlpUpIdeal.Value

variable (m : (ℓ : Loc nD τ sig) → Buf (Elt Ideal) ℓ) (e : Dev nD)

abbrev acts : Mat 4096 1024 := m ((e : Thread nD τ).loc main_arg0)
abbrev weight : Mat 1024 4096 := m ((e : Thread nD τ).loc main_arg1)

theorem payload (x : Mat 2048 1024) (w : Stack 1 1024 1024) : k0_pay1 (F := Ideal) x w = act (nt x (layer w 0)) :=
  mat_ext fun r n => by unfold k0_pay1; pointwise [dot_S2048x1024_S1024x1024_S2048x1024_1_1_0_0_n_n]; rfl

/-- The host transposes the weight and hands it on as a stack of one layer. -/
theorem host : (V m e main_v2 : Stack 1 4096 1024) = fun i => weight m e (ix2 (i 2) (i 1)) :=
  stack_ext fun z n k => by
    dsimp only [V, hostOps0]
    after_results
    generalize hx : m (e, Proc.tc.devRef main_arg1) = x
    refine Eq.trans ?_ (congrFun hx (ix2 k n)).symm
    pointwise

theorem index : ∀ t : Fin cfg0.N, (win0_0.index t 0 = t.val / 4 ∧ win0_0.index t 1 = 0)
    ∧ (win0_1.index t 1 = t.val % 4 ∧ win0_1.index t 2 = 0) ∧ win0_2.index t 0 = t.val / 4 ∧ win0_2.index t 1 = t.val % 4 := by
  decide +kernel

theorem final : (dats m 0 e).arrAt 2 cfg0.N = act (nn (acts m e) (weight m e)) := by
  refine (dats m 0 e).arrAt_eq_of_covers 2 _ (by decide +kernel) fun t hf y => ?_
  blk_simp
  rw [after0_2]
  frame_out
  refine (congrFun (payload _ _) y).trans (congrArg (fun s : EReal => pos s * pos s) (sum_mul_congr (fun k => ?_) fun k => ?_))
  · exact (congrFun (V_main_arg0 m e) _).trans (congrArg (acts m e) (by blk_ext [index t]))
  · exact (congrFun (host m e) _).trans (congrArg (weight m e) (by blk_ext [index t]))

end Kernel

open Cert.MlpUpRefIdeal Cert.MlpUpRefIdeal.Read in
theorem reference (h : Mat 4096 1024) (w : Mat 1024 4096) : val_main_v4 (F := Ideal) h w = act (nn h w) := by
  rw [← show val_main_v1 (F := Ideal) h w = nn h w from mat_ext fun r n => by
    unfold val_main_v1 val_main_v0
    pointwise [dot_S4096x1024_S1024x4096_S4096x4096_1_0_0_1_n_n]
    rfl]
  exact funext fun i => sq_max _

theorem algebraic : Cert.algebraic_MlpUpIdeal_MlpUpRefIdeal (hMlpUpIdeal := Cert.MlpUpIdeal.Gen.facts)
    (hMlpUpRefIdeal := Cert.MlpUpRefIdeal.Gen.facts) := fun m ρ m' ρ' _ hargs =>
  ⟨_, (θ_run _ _ _).mono (fun _ h c => ⟨(h c).1.trans (final m c), (h c).2⟩) (Cert.MlpUpIdeal.Value.run_blocks m ρ),
    (θ_run _ _ _).mono (fun _ h c => ⟨(h c).1.trans (by
      rw [Cert.MlpUpRefIdeal.Read.val_main_v4_eq, (hargs c).1, (hargs c).2]
      exact reference _ _), (h c).2⟩) (Cert.MlpUpRefIdeal.Value.run (F := Ideal) m' ρ')⟩

end Cert.MlpUpEquation

end
-- ==== Proof.MlpDownEquation.lean ====
/-
  The down projection is the activation's rows by the weight's columns, in the kernel, where the summed axis is in two
  blocks, and in the reference.
-/
module

public import proofs.«01_k».proof.Defs
public import proofs.«01_k».proof.Proof.Accumulate
public import proofs.«01_k».proof.Proof.Activation
public import proofs.«01_k».proof.Proof.Gen.MlpDownIdeal.Value
public import proofs.«01_k».proof.Proof.Gen.MlpDownRefIdeal.Run
public import proofs.«01_k».proof.Proof.Gen.MlpDownRefIdeal.Read

@[expose] public section

noncomputable section

namespace Cert.MlpDownEquation

open Idealize.ShloMosaic Idealize.ShloMosaic.TcCoe Idealize.SL.Sem Cert.Products Cert.Activation

section Kernel

open Cert.MlpDownIdeal Cert.MlpDownIdeal.Gen Cert.MlpDownIdeal.Value

variable (m : (ℓ : Loc nD τ sig) → Buf (Elt Ideal) ℓ) (e : Dev nD)

abbrev pre : Mat 4096 4096 := m ((e : Thread nD τ).loc main_arg0)
abbrev weight : Mat 4096 1024 := m ((e : Thread nD τ).loc main_arg1)

/-- The three steps on the scratch: clear it, add a block's product, copy it out. -/
theorem clear : k0_pay1 (F := Ideal) = fun _ => (0 : EReal) :=
  mat_ext fun r n => by unfold k0_pay1; pointwise

theorem add (a : Mat 1024 1024) (x : Mat 1024 2048) (w : Stack 1 2048 1024) :
    k0_pay2 (F := Ideal) a x w = fun y => a y + nn x (layer w 0) y :=
  mat_ext fun r n => by unfold k0_pay2; pointwise [dot_S1024x2048_S2048x1024_S1024x1024_1_0_0_1_n_n]; rfl

theorem copy (a : Mat 1024 1024) : k0_pay3 (F := Ideal) a = a :=
  mat_ext fun r n => by unfold k0_pay3; pointwise

/-- The host's activation. -/
theorem activation : (V m e main_v2 : Mat 4096 4096) = act (pre m e) := by
  dsimp only [V, hostOps0, hostOps0_1, List.flatten, List.append_eq, List.cons_append, List.nil_append, List.append_nil]
  after_results
  exact funext fun i => sq_max _

/-- The host hands the weight on as a stack of one layer. -/
theorem host : (V m e main_v4 : Stack 1 4096 1024) = fun i => weight m e (ix2 (i 1) (i 2)) :=
  stack_ext fun z n k => by
    dsimp only [V, hostOps0, hostOps0_1, List.flatten, List.append_eq, List.cons_append, List.nil_append, List.append_nil]
    after_results
    generalize hx : m (e, Proc.tc.devRef main_arg1) = x
    refine Eq.trans ?_ (congrFun hx (ix2 n k)).symm
    pointwise

theorem index : ∀ t : Fin cfg0.N, (win0_0.index t 0 = t.val / 2 ∧ win0_0.index t 1 = t.val % 2)
    ∧ (win0_1.index t 0 = 0 ∧ win0_1.index t 1 = t.val % 2 ∧ win0_1.index t 2 = 0)
    ∧ win0_2.index t 0 = t.val / 2 ∧ win0_2.index t 1 = 0 := by
  decide +kernel

theorem start (t : Fin cfg0.N) (h : t.val % 2 = 0) (y) :
    (outsAt0 m e t.val t.isLt).2 y = 0 + nn (iblk m e 0 t : Mat 1024 2048) (layer (iblk m e 1 t : Stack 1 2048 1024) 0) y := by
  rw [outsAt0_A m e t h (by omega)]
  frame_out
  rw [add, clear]

theorem step (t : Fin cfg0.N) (h : ¬t.val % 2 = 0) (y) :
    (outsAt0 m e t.val t.isLt).2 y = (outsAt0 m e (t.val - 1) (Nat.lt_of_le_of_lt (Nat.sub_le _ _) t.isLt)).2 y
      + nn (iblk m e 0 t : Mat 1024 2048) (layer (iblk m e 1 t : Stack 1 2048 1024) 0) y := by
  rw [outsAt0_B m e t h (by omega)]
  frame_out
  rw [add, (Memref.isWhole_whole cc0_scratch0).read_unread]

theorem write (t : Fin cfg0.N) (h : t.val % 2 = 1) (y) :
    (outsAt0 m e t.val t.isLt).1 y = (outsAt0 m e t.val t.isLt).2 y := by
  rw [outsAt0_B m e t (by omega) h]
  frame_out
  rw [copy]

theorem final : (dats m 0 e).arrAt 2 cfg0.N = nn (act (pre m e)) (weight m e) := by
  refine (dats m 0 e).arrAt_eq_of_covers 2 _ (by decide +kernel) fun t hf y => ?_
  blk_simp
  rw [after0_2]
  refine Accumulate.product (outsAt0 m e) 2 (fun t => iblk m e 0 t) (fun t => layer (iblk m e 1 t) 0) (start m e) (step m e) (write m e)
    rfl t ((flush0_2 t).mp hf) y _ _ (fun s k hl => ?_) fun s k hl => ?_
  · exact (congrFun (activation m e) _).trans (congrArg (act (pre m e))
      (by blk_ext [index t, index ⟨_, Pipeline.run_point_lt_of_flush t ((flush0_2 t).mp hf) s⟩]))
  · exact (congrFun (host m e) _).trans (congrArg (weight m e)
      (by blk_ext [index t, index ⟨_, Pipeline.run_point_lt_of_flush t ((flush0_2 t).mp hf) s⟩]))

end Kernel

open Cert.MlpDownRefIdeal Cert.MlpDownRefIdeal.Read in
theorem reference (u : Mat 4096 4096) (w : Mat 4096 1024) : val_main_v3 (F := Ideal) u w = nn (act u) w :=
  mat_ext fun r n => by
    rw [← show val_main_v1 (F := Ideal) u = act u from funext fun i => sq_max _]
    unfold val_main_v3 val_main_v2
    generalize val_main_v1 (F := Ideal) u = a
    pointwise [dot_S4096x4096_S4096x1024_S4096x1024_1_0_0_1_n_n]
    rfl

theorem algebraic : Cert.algebraic_MlpDownIdeal_MlpDownRefIdeal (hMlpDownIdeal := Cert.MlpDownIdeal.Gen.facts)
    (hMlpDownRefIdeal := Cert.MlpDownRefIdeal.Gen.facts) := fun m ρ m' ρ' _ hargs =>
  ⟨_, (θ_run _ _ _).mono (fun _ h c => ⟨(h c).1.trans (final m c), (h c).2⟩) (Cert.MlpDownIdeal.Value.run_blocks m ρ),
    (θ_run _ _ _).mono (fun _ h c => ⟨(h c).1.trans (by
      rw [Cert.MlpDownRefIdeal.Read.val_main_v3_eq, (hargs c).1, (hargs c).2]
      exact reference _ _), (h c).2⟩) (Cert.MlpDownRefIdeal.Value.run (F := Ideal) m' ρ')⟩

end Cert.MlpDownEquation

end
-- ==== Proof.InProjEquation.lean ====
/-
  The input projection is the activations' rows by the weight's columns, in the kernel and in the reference.
-/
module

public import proofs.«01_k».proof.Defs
public import proofs.«01_k».proof.Proof.Products
public import proofs.«01_k».proof.Proof.Gen.InProjIdeal.Value
public import proofs.«01_k».proof.Proof.Gen.InProjRefIdeal.Run
public import proofs.«01_k».proof.Proof.Gen.InProjRefIdeal.Read

@[expose] public section

noncomputable section

namespace Cert.InProjEquation

open Idealize.ShloMosaic Idealize.ShloMosaic.TcCoe Idealize.SL.Sem Cert.Products

section Kernel

open Cert.InProjIdeal Cert.InProjIdeal.Gen Cert.InProjIdeal.Value

variable (m : (ℓ : Loc nD τ sig) → Buf (Elt Ideal) ℓ) (e : Dev nD)

abbrev acts : Mat 4096 1024 := m ((e : Thread nD τ).loc main_arg0)
abbrev weight : Mat 1024 5376 := m ((e : Thread nD τ).loc main_arg1)

theorem payload (x : Mat 2048 1024) (w : Stack 1 1792 1024) : k0_pay1 (F := Ideal) x w = nt x (layer w 0) :=
  mat_ext fun r n => by unfold k0_pay1; pointwise [dot_S2048x1024_S1792x1024_S2048x1792_1_1_0_0_n_n]; rfl

/-- The host transposes the weight and hands it on as a stack of one layer. -/
theorem host : (V m e main_v2 : Stack 1 5376 1024) = fun i => weight m e (ix2 (i 2) (i 1)) :=
  stack_ext fun z n k => by
    dsimp only [V, hostOps0]
    after_results
    generalize hx : m (e, Proc.tc.devRef main_arg1) = x
    refine Eq.trans ?_ (congrFun hx (ix2 k n)).symm
    pointwise

theorem index : ∀ t : Fin cfg0.N, (win0_0.index t 0 = t.val / 3 ∧ win0_0.index t 1 = 0)
    ∧ (win0_1.index t 1 = t.val % 3 ∧ win0_1.index t 2 = 0) ∧ win0_2.index t 0 = t.val / 3 ∧ win0_2.index t 1 = t.val % 3 := by
  decide +kernel

theorem final : (dats m 0 e).arrAt 2 cfg0.N = nn (acts m e) (weight m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg0 m e) _).trans (congrArg (acts m e) (by blk_ext [index t]))
  · exact (congrFun (host m e) _).trans (congrArg (weight m e) (by blk_ext [index t]))

end Kernel

open Cert.InProjRefIdeal Cert.InProjRefIdeal.Read in
theorem reference (h : Mat 4096 1024) (w : Mat 1024 5376) : val_main_v2 (F := Ideal) h w = nn h w :=
  mat_ext fun r n => by
    unfold val_main_v2 val_main_v1 val_main_v0
    pointwise [dot_S4096x1024_S1024x5376_S4096x5376_1_0_0_1_n_n]
    rfl

theorem algebraic : Cert.algebraic_InProjIdeal_InProjRefIdeal (hInProjIdeal := Cert.InProjIdeal.Gen.facts)
    (hInProjRefIdeal := Cert.InProjRefIdeal.Gen.facts) := fun m ρ m' ρ' _ hargs =>
  ⟨_, (θ_run _ _ _).mono (fun _ h c => ⟨(h c).1.trans (final m c), (h c).2⟩) (Cert.InProjIdeal.Value.run_blocks m ρ),
    (θ_run _ _ _).mono (fun _ h c => ⟨(h c).1.trans (by
      rw [Cert.InProjRefIdeal.Read.val_main_v2_eq, (hargs c).1, (hargs c).2]
      exact reference _ _), (h c).2⟩) (Cert.InProjRefIdeal.Value.run (F := Ideal) m' ρ')⟩

end Cert.InProjEquation

end
-- ==== Proof.NormRow.lean ====
/-
  One row of the root-mean-square normalisation and its gradient, on the extended reals: what a row becomes, and what a
  gradient of the normalised row becomes.  The kernels' blocks and the references both end at these.
-/
module

public import Idealize.ShloMosaic.Lib.Pointwise
public import Idealize.ShloMosaic.Lib.Tactic

@[expose] public section

noncomputable section

namespace Cert.NormRow

open Idealize.ShloMosaic

/-- The mean of a row's squares, with the small constant that keeps it from zero. -/
def power (x : Fin 1024 → EReal) : EReal :=
  Ideal.div (∑ c, x c * x c) (Ideal.ofBits .f32 0x44800000#32) + Ideal.ofBits .f32 0x358637BD#32

/-- What a row is multiplied by. -/
def scale (x : Fin 1024 → EReal) : EReal := Ideal.rsqrt (power x)

/-- The normalised row. -/
def unit (x : Fin 1024 → EReal) (c : Fin 1024) : EReal := x c * scale x

/-- The slope of the row's scale in its power. -/
def slope (x : Fin 1024 → EReal) : EReal :=
  Ideal.ofBits .f32 0xBF000000#32 * Ideal.div (scale x) (power x)

/-- What a gradient `g` of the normalised row sends back through the power, per entry. -/
def pull (x g : Fin 1024 → EReal) : EReal :=
  Ideal.div ((∑ c, x c * g c) * slope x) (Ideal.ofBits .f32 0x44800000#32)

/-- The gradient of a row from the gradient `g` of its normalised row. -/
def back (x g : Fin 1024 → EReal) (c : Fin 1024) : EReal :=
  g c * scale x + x c * pull x g + pull x g * x c

/-- The residual row after the normalised row `y`, times the gain `p`, is added. -/
def next (x y p : Fin 1024 → EReal) (c : Fin 1024) : EReal := x c + unit y c * p c

/-- The gradient of the residual row: its own, `d`, and that of its normalised row times the gain `q`. -/
def nextGrad (x y p q d g : Fin 1024 → EReal) (c : Fin 1024) : EReal :=
  d c + g c * q c * scale (next x y p) + next x y p c * pull (next x y p) (fun c => g c * q c)
    + pull (next x y p) (fun c => g c * q c) * next x y p c

/-- The gradient of the row `y` that was added. -/
def addedGrad (x y p q d g : Fin 1024 → EReal) : Fin 1024 → EReal :=
  back y fun c => nextGrad x y p q d g c * p c

/-! ## The same on arrays of rows -/

/-- Row `r` of an array. -/
def row {R : ℕ} (X : (⟨2, ![R, 1024]⟩ : Shape).Idx → EReal) (r : Fin R) (c : Fin 1024) : EReal := X (ix2 r c)

/-- A gain, an array of one axis. -/
def gain (P : (⟨1, ![1024]⟩ : Shape).Idx → EReal) (c : Fin 1024) : EReal := P (ix1 c)

/-- An index of one row is its column's. -/
theorem eq_row (i : (⟨2, ![1, 1024]⟩ : Shape).Idx) : i = ix2 0 (i 1) := by
  obtain ⟨r, c, rfl⟩ : ∃ (r : Fin 1) (c : Fin 1024), i = ix2 r c := ⟨i 0, i 1, eq_ix2 i⟩
  rw [Subsingleton.elim r 0]
  rfl

end Cert.NormRow

end
-- ==== Proof.NormBwdBlock.lean ====
/-
  What one grid point of the normalisation's backward kernel computes: its payloads, row by row.
-/
module

public import proofs.«01_k».proof.Proof.NormRow
public import proofs.«01_k».proof.Proof.Gen.NormBwdIdeal.Value
public import Idealize.ShloMosaic.Lib.Pointwise
public import Idealize.ShloMosaic.Lib.Tactic
public import Idealize.ShloMosaic.Lib.Pipeline.ReadBack
public import Idealize.ShloMosaic.Lib.Pipeline.ValueKit.Acc

@[expose] public section

noncomputable section

namespace Cert.NormBwdBlock

open Cert.NormBwdIdeal Cert.NormBwdIdeal.Gen Idealize.ShloMosaic Idealize.ShloMosaic.TcCoe Idealize.SL.Sem
open Cert.NormRow

variable (x : Vec Ideal S512x1024 .f32) (y : Vec Ideal S512x1024 .bf16) (p q : Vec Ideal S1x1024 .f32)
  (d : Vec Ideal S512x1024 .f32) (g : Vec Ideal S512x1024 .bf16) (r : Fin 512) (c : Fin 1024)

/-- The row of the block after the added row. -/
abbrev after : Fin 1024 → EReal := next (row x r) (row y r) (row p 0)

theorem power_y : k0_pay9 (F := Ideal) y (ix2 r 0) = power (row y r) := by
  unfold k0_pay9 k0_pay5
  pointwise
  rfl

theorem scale_y : k0_pay10 (F := Ideal) y (ix2 r 0) = scale (row y r) := by
  unfold k0_pay10
  pointwise [power_y]
  rfl

theorem slope_y : k0_pay11 (F := Ideal) y (ix2 r 0) = slope (row y r) := by
  unfold k0_pay11
  pointwise [power_y, scale_y]
  rfl

theorem unit_y : k0_pay12 (F := Ideal) y (ix2 r c) = unit (row y r) c := by
  unfold k0_pay12 k0_pay5
  pointwise [scale_y]
  rfl

theorem next_at : k0_pay13 (F := Ideal) x y p (ix2 r c) = after x y p r c := by
  unfold k0_pay13 k0_pay6
  pointwise [unit_y]
  rfl

theorem power_n : k0_pay14 (F := Ideal) x y p (ix2 r 0) = power (after x y p r) := by
  unfold k0_pay14
  pointwise [next_at]
  rfl

theorem scale_n : k0_pay15 (F := Ideal) x y p (ix2 r 0) = scale (after x y p r) := by
  unfold k0_pay15
  pointwise [power_n]
  rfl

theorem slope_n : k0_pay16 (F := Ideal) x y p (ix2 r 0) = slope (after x y p r) := by
  unfold k0_pay16
  pointwise [power_n, scale_n]
  rfl

theorem unit_n : k0_pay17 (F := Ideal) x y p (ix2 r c) = unit (after x y p r) c := by
  unfold k0_pay17
  pointwise [next_at, scale_n]
  rfl

/-- The block's second gain's gradient: its rows' sum. -/
theorem gain_q : k0_pay18 (F := Ideal) (k0_pay8 g) (k0_pay17 x y p) (ix2 0 c)
    = ∑ r : Fin 512, unit (after x y p r) c * row g r c := by
  unfold k0_pay18 k0_pay8
  pointwise [unit_n]
  rfl

theorem grad_x : k0_pay19 (F := Ideal) (k0_pay7 q) d (k0_pay8 g) (k0_pay13 x y p) (k0_pay15 x y p) (k0_pay16 x y p) (ix2 r c)
    = nextGrad (row x r) (row y r) (row p 0) (row q 0) (row d r) (row g r) c := by
  unfold k0_pay19 k0_pay7 k0_pay8
  pointwise [next_at, scale_n]
  simp only [Fin.sum_univ_one, slope_n]
  rfl

theorem grad_x_again : k0_pay20 (F := Ideal) (k0_pay7 q) d (k0_pay8 g) (k0_pay13 x y p) (k0_pay15 x y p) (k0_pay16 x y p) (ix2 r c)
    = nextGrad (row x r) (row y r) (row p 0) (row q 0) (row d r) (row g r) c := by
  unfold k0_pay20
  pointwise [grad_x]

/-- The block's first gain's gradient: its rows' sum. -/
theorem gain_p : k0_pay21 (F := Ideal) (k0_pay7 q) d (k0_pay8 g) (k0_pay12 y) (k0_pay13 x y p) (k0_pay15 x y p) (k0_pay16 x y p) (ix2 0 c)
    = ∑ r : Fin 512, unit (row y r) c * nextGrad (row x r) (row y r) (row p 0) (row q 0) (row d r) (row g r) c := by
  unfold k0_pay21
  pointwise [unit_y, grad_x_again]

theorem grad_y : k0_pay22 (F := Ideal) (k0_pay5 y) (k0_pay6 p) (k0_pay7 q) d (k0_pay8 g) (k0_pay10 y) (k0_pay11 y) (k0_pay13 x y p) (k0_pay15 x y p) (k0_pay16 x y p) (ix2 r c)
    = addedGrad (row x r) (row y r) (row p 0) (row q 0) (row d r) (row g r) c := by
  unfold k0_pay22 k0_pay5 k0_pay6
  pointwise [scale_y, grad_x_again]
  simp only [Fin.sum_univ_one, slope_y]
  rfl

/-- The running gradients of the gains start at zero, and a point adds its block's. -/
theorem zero_p : k0_pay1 (F := Ideal) (ix2 0 c) = 0 := by
  unfold k0_pay1
  pointwise

theorem zero_q : k0_pay2 (F := Ideal) (ix2 0 c) = 0 := by
  unfold k0_pay2
  pointwise

theorem step_p (s X : Vec Ideal S1x1024 .f32) : k0_pay3 (F := Ideal) s X (ix2 0 c) = X (ix2 0 c) + s (ix2 0 c) := by
  unfold k0_pay3
  pointwise

theorem step_q (s X : Vec Ideal S1x1024 .f32) : k0_pay4 (F := Ideal) s X (ix2 0 c) = X (ix2 0 c) + s (ix2 0 c) := by
  unfold k0_pay4
  pointwise

end Cert.NormBwdBlock

end
-- ==== Proof.NormBwdArray.lean ====
/-
  What the four result arrays of the normalisation's backward kernel hold after its eight grid points, row by row of the
  arguments.
-/
module

public import proofs.«01_k».proof.Proof.NormBwdBlock
public import Idealize.ShloMosaic.Lib.Pipeline.ValueKit
public import Idealize.ShloMosaic.Lib.StableHlo.Run

@[expose] public section

noncomputable section

namespace Cert.NormBwdArray

open Cert.NormBwdIdeal Cert.NormBwdIdeal.Gen Cert.NormBwdIdeal.Value Idealize.ShloMosaic Idealize.ShloMosaic.TcCoe Idealize.SL.Sem
open Cert.NormRow Cert.NormBwdBlock

variable (m : (ℓ : Loc nD τ sig) → Buf (Elt Ideal) ℓ) (e : Dev nD)

/-- The arguments: the residual rows, the added rows, the two gains and the two gradients. -/
abbrev xs : S4096x1024.Idx → EReal := m ((e : Thread nD τ).loc main_arg0)
abbrev ys : S4096x1024.Idx → EReal := m ((e : Thread nD τ).loc main_arg1)
abbrev ps : S1024.Idx → EReal := m ((e : Thread nD τ).loc main_arg2)
abbrev qs : S1024.Idx → EReal := m ((e : Thread nD τ).loc main_arg3)
abbrev ds : S4096x1024.Idx → EReal := m ((e : Thread nD τ).loc main_arg4)
abbrev gs : S4096x1024.Idx → EReal := m ((e : Thread nD τ).loc main_arg5)

theorem lt8 (t : Fin cfg0.N) : t.val < 8 := Nat.lt_of_lt_of_eq t.isLt N_0

/-- Row `r` of block `t`. -/
def at_ (t : Fin cfg0.N) (r : Fin 512) : Fin 4096 := ⟨t.val * 512 + r.val, by have := lt8 t; omega⟩

/-- The host's copies of the gains, as one row each. -/
theorem host_p (c : Fin 1024) : (V m e main_v0 : S1x1024.Idx → EReal) (ix2 0 c) = ps m e (ix1 c) := by
  show StableHlo.after (List.flatten [hostOps0]) (fun b => m (e, b)) main_v0 (ix2 0 c) = _
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_results
  generalize hx : m (e, Proc.tc.devRef main_arg2) = x
  refine Eq.trans ?_ (congrFun hx (ix1 c)).symm
  pointwise

theorem host_q (c : Fin 1024) : (V m e main_v1 : S1x1024.Idx → EReal) (ix2 0 c) = qs m e (ix1 c) := by
  show StableHlo.after (List.flatten [hostOps0]) (fun b => m (e, b)) main_v1 (ix2 0 c) = _
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_results
  generalize hx : m (e, Proc.tc.devRef main_arg3) = x
  refine Eq.trans ?_ (congrFun hx (ix1 c)).symm
  pointwise

theorem index : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = 0 ∧ win0_8.index t 1 = 0) ∧ (win0_9.index t 0 = 0 ∧ win0_9.index t 1 = 0) := by
  decide +kernel

/-! ## Each window's block of rows is those rows of its array -/

theorem row0 (t : Fin cfg0.N) (r : Fin 512) : row (iblk m e 0 t : S512x1024.Idx → EReal) r = row (xs m e) (at_ t r) := by
  funext c
  refine Eq.trans ?_ (congrFun (V_main_arg0 m e) _)
  unfold row iblk
  rw [View.read_apply]
  show V m e main_arg0 _ = V m e main_arg0 _
  congr 1
  blk_ext [index t]
  rfl

theorem row1 (t : Fin cfg0.N) (r : Fin 512) : row (iblk m e 1 t : S512x1024.Idx → EReal) r = row (ys m e) (at_ t r) := by
  funext c
  refine Eq.trans ?_ (congrFun (V_main_arg1 m e) _)
  unfold row iblk
  rw [View.read_apply]
  show V m e main_arg1 _ = V m e main_arg1 _
  congr 1
  blk_ext [index t]
  rfl

theorem row2 (t : Fin cfg0.N) : row (iblk m e 2 t : S1x1024.Idx → EReal) 0 = gain (ps m e) := by
  funext c
  refine Eq.trans ?_ (host_p m e c)
  unfold row iblk
  rw [View.read_apply]
  show V m e main_v0 _ = V m e main_v0 _
  congr 1
  blk_ext [index t]

theorem row3 (t : Fin cfg0.N) : row (iblk m e 3 t : S1x1024.Idx → EReal) 0 = gain (qs m e) := by
  funext c
  refine Eq.trans ?_ (host_q m e c)
  unfold row iblk
  rw [View.read_apply]
  show V m e main_v1 _ = V m e main_v1 _
  congr 1
  blk_ext [index t]

theorem row4 (t : Fin cfg0.N) (r : Fin 512) : row (iblk m e 4 t : S512x1024.Idx → EReal) r = row (ds m e) (at_ t r) := by
  funext c
  refine Eq.trans ?_ (congrFun (V_main_arg4 m e) _)
  unfold row iblk
  rw [View.read_apply]
  show V m e main_arg4 _ = V m e main_arg4 _
  congr 1
  blk_ext [index t]
  rfl

theorem row5 (t : Fin cfg0.N) (r : Fin 512) : row (iblk m e 5 t : S512x1024.Idx → EReal) r = row (gs m e) (at_ t r) := by
  funext c
  refine Eq.trans ?_ (congrFun (V_main_arg5 m e) _)
  unfold row iblk
  rw [View.read_apply]
  show V m e main_arg5 _ = V m e main_arg5 _
  congr 1
  blk_ext [index t]
  rfl

/-! ## The results -/

/-- Row `s` of the residual rows' gradient. -/
def dx (s : Fin 4096) : Fin 1024 → EReal :=
  nextGrad (row (xs m e) s) (row (ys m e) s) (gain (ps m e)) (gain (qs m e)) (row (ds m e) s) (row (gs m e) s)

/-- Row `s` of the added rows' gradient. -/
def dy (s : Fin 4096) : Fin 1024 → EReal :=
  addedGrad (row (xs m e) s) (row (ys m e) s) (gain (ps m e)) (gain (qs m e)) (row (ds m e) s) (row (gs m e) s)

/-- What row `s` gives to the gains' gradients. -/
def dp (s : Fin 4096) (c : Fin 1024) : EReal := unit (row (ys m e) s) c * dx m e s c
def dq (s : Fin 4096) (c : Fin 1024) : EReal := unit (next (row (xs m e) s) (row (ys m e) s) (gain (ps m e))) c * row (gs m e) s c

def dxResult : S4096x1024.Idx → EReal := fun i => dx m e (i 0) (i 1)
def dyResult : S4096x1024.Idx → EReal := fun i => dy m e (i 0) (i 1)
def dpResult : S1x1024.Idx → EReal := fun i => ∑ s, dp m e s (i 1)
def dqResult : S1x1024.Idx → EReal := fun i => ∑ s, dq m e s (i 1)

/-! ## What the points leave -/

theorem out6 (t : Fin cfg0.N) (r : Fin 512) (c : Fin 1024) : (outsAt0 m e t.val t.isLt).1 (ix2 r c) = dx m e (at_ t r) c := by
  unfold dx
  rw [← row0, ← row1, ← row2 m e t, ← row3 m e t, ← row4, ← row5]
  by_cases h : t.val % 8 = 0
  · rw [outsAt0_A m e t h]
    frame_out
    exact grad_x _ _ _ _ _ _ r c
  · rw [outsAt0_B m e t h]
    frame_out
    exact grad_x _ _ _ _ _ _ r c

theorem out7 (t : Fin cfg0.N) (r : Fin 512) (c : Fin 1024) : (outsAt0 m e t.val t.isLt).2.1 (ix2 r c) = dy m e (at_ t r) c := by
  unfold dy
  rw [← row0, ← row1, ← row2 m e t, ← row3 m e t, ← row4, ← row5]
  by_cases h : t.val % 8 = 0
  · rw [outsAt0_A m e t h]
    frame_out
    exact grad_y _ _ _ _ _ _ r c
  · rw [outsAt0_B m e t h]
    frame_out
    exact grad_y _ _ _ _ _ _ r c

/-- A point's addend to the running gradients of the gains. -/
def partP (t : Fin cfg0.N) : S1x1024.Idx → EReal :=
  k0_pay21 (F := Ideal) (k0_pay7 (iblk m e 3 t)) (iblk m e 4 t) (k0_pay8 (iblk m e 5 t)) (k0_pay12 (iblk m e 1 t)) (k0_pay13 (iblk m e 0 t) (iblk m e 1 t) (iblk m e 2 t)) (k0_pay15 (iblk m e 0 t) (iblk m e 1 t) (iblk m e 2 t)) (k0_pay16 (iblk m e 0 t) (iblk m e 1 t) (iblk m e 2 t))

def partQ (t : Fin cfg0.N) : S1x1024.Idx → EReal :=
  k0_pay18 (F := Ideal) (k0_pay8 (iblk m e 5 t)) (k0_pay17 (iblk m e 0 t) (iblk m e 1 t) (iblk m e 2 t))

theorem partP_at (t : Fin cfg0.N) (c : Fin 1024) : partP m e t (ix2 0 c) = ∑ r : Fin 512, dp m e (at_ t r) c := by
  unfold dp dx
  simp only [← row0, ← row1, ← row2 m e t, ← row3 m e t, ← row4, ← row5]
  exact gain_p _ _ _ _ _ _ c

theorem partQ_at (t : Fin cfg0.N) (c : Fin 1024) : partQ m e t (ix2 0 c) = ∑ r : Fin 512, dq m e (at_ t r) c := by
  unfold dq
  simp only [← row0, ← row1, ← row2 m e t, ← row5]
  exact gain_q _ _ _ _ c

/-- The eight blocks' rows are all the rows. -/
theorem blocks_sum (f : Fin 4096 → EReal) : ∑ t : Fin cfg0.N, ∑ r : Fin 512, f (at_ t r) = ∑ s, f s :=
  Fin.sum_mul_add_congr (f := f) (fun t r hl => rfl) (by rw [show cfg0.N = 8 from N_0])

theorem out8 (t : Fin cfg0.N) (ht : t.val = 7) (c : Fin 1024) : (outsAt0 m e t.val t.isLt).2.2.1 (ix2 0 c) = ∑ s, dp m e s c := by
  rw [Pipeline.eq_sum_fin_of_reset_step_apply_last (fun n h => (outsAt0 m e n h).2.2.1) 8 (fun _ => (0 : EReal)) (partP m e)
      (fun t h i => by
        rw [eq_row i, outsAt0_A m e t h]
        frame_out
        exact (step_p _ _ _).trans (congrArg (fun z : EReal => z + partP m e t _) (zero_p _)))
      (fun t h i => by
        rw [eq_row i, outsAt0_B m e t h]
        frame_out
        exact step_p _ _ _)
      (le_of_eq N_0) t (by rw [ht]; rfl) (ix2 0 c), zero_add]
  simp only [partP_at]
  exact blocks_sum fun s => dp m e s c

theorem out9 (t : Fin cfg0.N) (ht : t.val = 7) (c : Fin 1024) : (outsAt0 m e t.val t.isLt).2.2.2 (ix2 0 c) = ∑ s, dq m e s c := by
  rw [Pipeline.eq_sum_fin_of_reset_step_apply_last (fun n h => (outsAt0 m e n h).2.2.2) 8 (fun _ => (0 : EReal)) (partQ m e)
      (fun t h i => by
        rw [eq_row i, outsAt0_A m e t h]
        frame_out
        exact (step_q _ _ _).trans (congrArg (fun z : EReal => z + partQ m e t _) (zero_q _)))
      (fun t h i => by
        rw [eq_row i, outsAt0_B m e t h]
        frame_out
        exact step_q _ _ _)
      (le_of_eq N_0) t (by rw [ht]; rfl) (ix2 0 c), zero_add]
  simp only [partQ_at]
  exact blocks_sum fun s => dq m e s c

/-! ## The arrays after the run -/

theorem final_dx : (dats m 0 e).arrAt 6 cfg0.N = dxResult m e := by
  refine (dats m 0 e).arrAt_eq_of_covers 6 _ (by decide +kernel) fun t hf y => ?_
  blk_simp
  rw [after0_6]
  obtain ⟨r, c, rfl⟩ : ∃ (r : Fin 512) (c : Fin 1024), y = ix2 r c := ⟨y 0, y 1, eq_ix2 y⟩
  rw [out6 m e t r c]
  rw [show (win0_6.blk t).view.emb (ix2 r c) = ix2 (at_ t r) c from by
    blk_ext [index t, at_]]
  rfl

theorem final_dy : (dats m 0 e).arrAt 7 cfg0.N = dyResult m e := by
  refine (dats m 0 e).arrAt_eq_of_covers 7 _ (by decide +kernel) fun t hf y => ?_
  blk_simp
  rw [after0_7]
  obtain ⟨r, c, rfl⟩ : ∃ (r : Fin 512) (c : Fin 1024), y = ix2 r c := ⟨y 0, y 1, eq_ix2 y⟩
  rw [out7 m e t r c]
  rw [show (win0_7.blk t).view.emb (ix2 r c) = ix2 (at_ t r) c from by
    blk_ext [index t, at_]]
  rfl

theorem final_dp : (dats m 0 e).arrAt 8 cfg0.N = dpResult m e := by
  refine (dats m 0 e).arrAt_eq_of_covers 8 _ (by decide +kernel) fun t hf y => ?_
  blk_simp
  rw [after0_8]
  obtain ⟨c, rfl⟩ : ∃ c : Fin 1024, y = ix2 0 c := ⟨y 1, eq_row y⟩
  rw [out8 m e t (by have := (flush0_8 t).mp hf; have := lt8 t; omega) c]
  rw [show (win0_8.blk t).view.emb (ix2 0 c) = ix2 0 c from by
    blk_ext [index t]]
  rfl

theorem final_dq : (dats m 0 e).arrAt 9 cfg0.N = dqResult m e := by
  refine (dats m 0 e).arrAt_eq_of_covers 9 _ (by decide +kernel) fun t hf y => ?_
  blk_simp
  rw [after0_9]
  obtain ⟨c, rfl⟩ : ∃ c : Fin 1024, y = ix2 0 c := ⟨y 1, eq_row y⟩
  rw [out9 m e t (by have := (flush0_9 t).mp hf; have := lt8 t; omega) c]
  rw [show (win0_9.blk t).view.emb (ix2 0 c) = ix2 0 c from by
    blk_ext [index t]]
  rfl

/-- The run of the kernel: the four gradients, row by row, and the arguments unchanged. -/
theorem run (ρ : Dev nD → PrngReg) : θ_run defs (onTc (τ := τ) (main (F := Ideal))) ⟨m, fun _ => 0, ρ⟩ fun r => ∀ e : Dev nD,
      r.2.mem ((e : Thread nD τ).loc main_v2_0) = dxResult m e
      ∧ r.2.mem ((e : Thread nD τ).loc main_v2_1) = dyResult m e
      ∧ r.2.mem ((e : Thread nD τ).loc main_v2_2) = dpResult m e
      ∧ r.2.mem ((e : Thread nD τ).loc main_v2_3) = dqResult m e
      ∧ r.2.mem ((e : Thread nD τ).loc main_arg0) = m ((e : Thread nD τ).loc main_arg0)
      ∧ r.2.mem ((e : Thread nD τ).loc main_arg1) = m ((e : Thread nD τ).loc main_arg1)
      ∧ r.2.mem ((e : Thread nD τ).loc main_arg2) = m ((e : Thread nD τ).loc main_arg2)
      ∧ r.2.mem ((e : Thread nD τ).loc main_arg3) = m ((e : Thread nD τ).loc main_arg3)
      ∧ r.2.mem ((e : Thread nD τ).loc main_arg4) = m ((e : Thread nD τ).loc main_arg4)
      ∧ r.2.mem ((e : Thread nD τ).loc main_arg5) = m ((e : Thread nD τ).loc main_arg5) :=
  (θ_run defs _ _).mono (fun _ h e => ⟨(h e).1.trans (final_dx m e), (h e).2.1.trans (final_dy m e), (h e).2.2.1.trans (final_dp m e),
      (h e).2.2.2.1.trans (final_dq m e), (h e).2.2.2.2⟩)
    (run_blocks m ρ)

end Cert.NormBwdArray

end
-- ==== Proof.NormBwdReference.lean ====
/-
  The reference's gradient of the two normalisations, read row by row.
-/
module

public import proofs.«01_k».proof.Proof.NormRow
public import proofs.«01_k».proof.Proof.Gen.NormBwdRefIdeal.Read
public import Idealize.ShloMosaic.Lib.Pointwise
public import Idealize.ShloMosaic.Lib.Tactic

@[expose] public section

noncomputable section

namespace Cert.NormBwdReference

open Cert.NormBwdRefIdeal Cert.NormBwdRefIdeal.Gen Cert.NormBwdRefIdeal.Read Idealize.ShloMosaic Idealize.ShloMosaic.TcCoe Idealize.SL.Sem
open Cert.NormRow

variable (x : S4096x1024.Idx → Elt Ideal .f32) (y : S4096x1024.Idx → Elt Ideal .bf16) (p q : S1024.Idx → Elt Ideal .f32)
  (d : S4096x1024.Idx → Elt Ideal .f32) (g : S4096x1024.Idx → Elt Ideal .bf16) (r : Fin 4096) (c : Fin 1024)

/-- The row after the added row. -/
abbrev after : Fin 1024 → EReal := next (row x r) (row y r) (gain p)

/-- The added row's power, and what follows from it. -/
theorem power_y : val_main_v7 (F := Ideal) y (ix2 r 0) = power (row y r) := by
  unfold val_main_v7 val_main_v6 val_main_v5 val_main_v4 val_main_v3 val_main_v2 val_main_v1 val_main_v0 val_main_cst val_main_cst_0 val_main_cst_1
  pointwise
  rfl

theorem scale_y : val_main_v8 (F := Ideal) y (ix2 r 0) = scale (row y r) := by
  unfold val_main_v8
  pointwise [power_y]
  rfl

theorem slope_y : val_main_v11 (F := Ideal) y (ix2 r 0) = slope (row y r) := by
  unfold val_main_v11 val_main_v10 val_main_v9 val_main_cst_2
  pointwise [power_y, scale_y]
  rfl

theorem unit_y : val_main_v13 (F := Ideal) y (ix2 r c) = unit (row y r) c := by
  unfold val_main_v13 val_main_v12 val_main_v0
  pointwise [scale_y]
  rfl

theorem next_at : val_main_v17 (F := Ideal) x y p (ix2 r c) = after x y p r c := by
  unfold val_main_v17 val_main_v16 val_main_v15 val_main_v14
  pointwise [unit_y]
  rfl

/-- The same of the row after it. -/
theorem power_n : val_main_v24 (F := Ideal) x y p (ix2 r 0) = power (after x y p r) := by
  unfold val_main_v24 val_main_v23 val_main_v22 val_main_v21 val_main_v20 val_main_v19 val_main_v18 val_main_cst_3 val_main_cst_4 val_main_cst_5
  pointwise [next_at]
  rfl

theorem scale_n : val_main_v25 (F := Ideal) x y p (ix2 r 0) = scale (after x y p r) := by
  unfold val_main_v25
  pointwise [power_n]
  rfl

theorem slope_n : val_main_v28 (F := Ideal) x y p (ix2 r 0) = slope (after x y p r) := by
  unfold val_main_v28 val_main_v27 val_main_v26 val_main_cst_6
  pointwise [power_n, scale_n]
  rfl

theorem unit_n : val_main_v30 (F := Ideal) x y p (ix2 r c) = unit (after x y p r) c := by
  unfold val_main_v30 val_main_v29
  pointwise [next_at, scale_n]
  rfl

/-- The second gain's gradient: the sum over the rows. -/
theorem gain_q : val_main_v79 (F := Ideal) x y p g (ix2 0 c) = ∑ r : Fin 4096, unit (after x y p r) c * row g r c := by
  unfold val_main_v79 val_main_v40 val_main_v37 val_main_v36 val_main_v35 val_main_v34 val_main_cst_7 val_main_cst_8
  pointwise [unit_n]
  simp only [Fin.sum_univ_one]
  rfl

/-- What the second normalised row's gradient sends back through the power. -/
theorem pull_n : val_main_v50 (F := Ideal) x y p q g (ix1 r) = pull (after x y p r) (fun c => row g r c * gain q c) := by
  unfold val_main_v50 val_main_v49 val_main_v48 val_main_v47 val_main_v43 val_main_v42 val_main_v41 val_main_v39 val_main_v38 val_main_v31 val_main_v34 val_main_cst_9 val_main_cst_10 val_main_cst_11
  pointwise [next_at]
  simp only [Fin.sum_univ_one, slope_n]
  rfl

theorem grad_x : val_main_v55 (F := Ideal) x y p q d g (ix2 r c) = nextGrad (row x r) (row y r) (gain p) (gain q) (row d r) (row g r) c := by
  unfold val_main_v55 val_main_v54 val_main_v53 val_main_v52 val_main_v51 val_main_v46 val_main_v45 val_main_v44 val_main_v39 val_main_v38 val_main_v34 val_main_v31
  pointwise [next_at, scale_n, pull_n]
  rfl

theorem grad_x_again : val_main_v56 (F := Ideal) x y p q d g (ix2 r c) = nextGrad (row x r) (row y r) (gain p) (gain q) (row d r) (row g r) c := by
  unfold val_main_v56
  pointwise [grad_x]

/-- The first gain's gradient. -/
theorem gain_p : val_main_v78 (F := Ideal) x y p q d g (ix2 0 c) = ∑ r : Fin 4096, unit (row y r) c * nextGrad (row x r) (row y r) (gain p) (gain q) (row d r) (row g r) c := by
  unfold val_main_v78 val_main_v62 val_main_v59 val_main_v58 val_main_v57 val_main_cst_12 val_main_cst_13
  pointwise [unit_y, grad_x_again]
  simp only [Fin.sum_univ_one]

/-- What the first normalised row's gradient sends back through the power. -/
theorem pull_y : val_main_v71 (F := Ideal) x y p q d g (ix1 r) = pull (row y r) (fun c => nextGrad (row x r) (row y r) (gain p) (gain q) (row d r) (row g r) c * gain p c) := by
  unfold val_main_v71 val_main_v70 val_main_v69 val_main_v68 val_main_v65 val_main_v64 val_main_v63 val_main_v61 val_main_v60 val_main_v14 val_main_v0 val_main_cst_14 val_main_cst_15 val_main_cst_16
  pointwise [grad_x_again]
  simp only [Fin.sum_univ_one, slope_y]
  rfl

theorem grad_y : val_main_v77 (F := Ideal) x y p q d g (ix2 r c) = addedGrad (row x r) (row y r) (gain p) (gain q) (row d r) (row g r) c := by
  unfold val_main_v77 val_main_v76 val_main_v75 val_main_v74 val_main_v73 val_main_v72 val_main_v67 val_main_v66 val_main_v61 val_main_v60 val_main_v14 val_main_v0
  pointwise [grad_x_again, scale_y, pull_y]
  rfl

end Cert.NormBwdReference

end
-- ==== Proof.NormBwdEquation.lean ====
/-
  The value claim of the normalisation's backward call: the kernel's four results are the reference's.
-/
module

public import proofs.«01_k».proof.Defs
public import proofs.«01_k».proof.Proof.NormBwdArray
public import proofs.«01_k».proof.Proof.NormBwdReference
public import proofs.«01_k».proof.Proof.Gen.NormBwdRefIdeal.Run

@[expose] public section

noncomputable section

namespace Cert.NormBwdEquation

open Idealize.ShloMosaic Idealize.ShloMosaic.TcCoe Idealize.SL.Sem
open Cert.NormRow Cert.NormBwdArray

/-- The kernel's results and the reference's from memories that agree on the arguments. -/
theorem algebraic : Cert.algebraic_NormBwdIdeal_NormBwdRefIdeal (hNormBwdIdeal := Cert.NormBwdIdeal.Gen.facts)
    (hNormBwdRefIdeal := Cert.NormBwdRefIdeal.Gen.facts) := by
  intro m ρ m' ρ' _ hargs
  refine ⟨fun c => dxResult m c, fun c => dyResult m c, fun c => dpResult m c, fun c => dqResult m c, NormBwdArray.run m ρ, ?_⟩
  refine (θ_run (Cert.NormBwdRefIdeal.defs (F := Ideal)) _ _).mono (fun r h c => ?_) (Cert.NormBwdRefIdeal.Value.run (F := Ideal) m' ρ')
  obtain ⟨hx, hy, hp, hq, hkept⟩ := h c
  obtain ⟨a0, a1, a2, a3, a4, a5⟩ := hargs c
  refine ⟨hx.trans ?_, hy.trans ?_, hp.trans ?_, hq.trans ?_, hkept⟩
  · rw [Cert.NormBwdRefIdeal.Read.val_main_v55_eq, a0, a1, a2, a3, a4, a5]
    funext i
    exact (congrArg _ (eq_ix2 i)).trans (NormBwdReference.grad_x _ _ _ _ _ _ (i 0) (i 1))
  · rw [Cert.NormBwdRefIdeal.Read.val_main_v77_eq, a0, a1, a2, a3, a4, a5]
    funext i
    exact (congrArg _ (eq_ix2 i)).trans (NormBwdReference.grad_y _ _ _ _ _ _ (i 0) (i 1))
  · rw [Cert.NormBwdRefIdeal.Read.val_main_v78_eq, a0, a1, a2, a3, a4, a5]
    funext i
    exact (congrArg _ (eq_row i)).trans (NormBwdReference.gain_p _ _ _ _ _ _ (i 1))
  · rw [Cert.NormBwdRefIdeal.Read.val_main_v79_eq, a0, a1, a2, a5]
    funext i
    exact (congrArg _ (eq_row i)).trans (NormBwdReference.gain_q _ _ _ _ (i 1))

end Cert.NormBwdEquation

end
-- ==== Proof.GateColumn.lean ====
/-
  The gate of a branch at one token and channel, shared by the gate's forward and backward calls.
-/
module

public import Idealize.ShloMosaic.Lib.Pointwise
public import Idealize.ShloMosaic.PureOps.Ideal

@[expose] public section

noncomputable section

namespace Cert.GateColumn

open Idealize.ShloMosaic

/-- The projection's column that holds the gate of branch `k` and channel `c`. -/
def gateCol (k : Fin 3) (c : Fin 1024) : Fin 5376 := ⟨2304 + (k.val * 1024 + c.val), by omega⟩

/-- The gate: the logistic function of its column. -/
def gate (x : (⟨2, ![4096, 5376]⟩ : Shape).Idx → EReal) (k : Fin 3) (r : Fin 4096) (c : Fin 1024) : EReal := Ideal.logistic (x (ix2 r (gateCol k c)))

/-- The pattern of one. -/
theorem one_bits : Ideal.ofBits .f32 0x3F800000#32 = 1 := by
  simp [Ideal.ofBits, Ideal.ieee]
  rw [← EReal.coe_mul]
  norm_num

end Cert.GateColumn

end
-- ==== Proof.GateBwdArray.lean ====
/-
  What the gate's backward kernel leaves in its two results: the gradient of the gates, which the host slices out of the
  projection's gradient, and the gradient of the branches.
-/
module

public import proofs.«01_k».proof.Proof.GateColumn
public import proofs.«01_k».proof.Proof.Gen.GateBwdIdeal.Frame
public import Idealize.ShloMosaic.Lib.Tactic
public import Idealize.ShloMosaic.Lib.Pipeline.ReadBack
public import Idealize.ShloMosaic.Lib.Pipeline.ValueKit
public import Idealize.ShloMosaic.Lib.Pipeline.ValueKit.Acc
public import Idealize.ShloMosaic.Lib.Pipeline.ValueKit.Partial
public import Idealize.ShloMosaic.Lib.StableHlo.Run

@[expose] public section

noncomputable section

namespace Cert.GateBwdArray

open Cert.GateBwdIdeal Cert.GateBwdIdeal.Gen Idealize.ShloMosaic Idealize.ShloMosaic.TcCoe Idealize.SL.Sem
open Cert.GateColumn

/-! ## The payloads of the body's stores, at an index -/

section Payloads

variable (x d : Vec Ideal S4096x256 .bf16) (b : Vec Ideal S1x4096x256 .bf16) (r : Fin 4096) (c : Fin 256)

theorem gate_at : k0_pay1 (F := Ideal) x (ix2 r c) = Ideal.logistic (x (ix2 r c)) := by
  unfold k0_pay1
  pointwise

theorem branch_at : k0_pay2 (F := Ideal) x d (ix3 0 r c) = d (ix2 r c) * Ideal.logistic (x (ix2 r c)) := by
  unfold k0_pay2
  pointwise [gate_at]

theorem grad_at : k0_pay3 (F := Ideal) x d b (ix2 r c) = d (ix2 r c) * b (ix3 0 r c) * Ideal.logistic (x (ix2 r c)) * (1 - Ideal.logistic (x (ix2 r c))) := by
  unfold k0_pay3
  pointwise [gate_at]

end Payloads

variable (m : (ℓ : Loc nD τ sig) → Buf (Elt Ideal) ℓ) (e : Dev nD)

/-- The projection, the branches, and the gradient of the merged rows. -/
abbrev xs : S4096x5376.Idx → EReal := m ((e : Thread nD τ).loc main_arg0)
abbrev bs : S3x4096x1024.Idx → EReal := m ((e : Thread nD τ).loc main_arg1)
abbrev ds : S4096x1024.Idx → EReal := m ((e : Thread nD τ).loc main_arg2)

theorem lt12 (t : Fin cfg0.N) : t.val < 12 := Nat.lt_of_lt_of_eq t.isLt N_0

/-- The branch of point `t`, and channel `c` of its block. -/
def branch (t : Fin cfg0.N) : Fin 3 := ⟨t.val / 4, by have := lt12 t; omega⟩
def chan (t : Fin cfg0.N) (c : Fin 256) : Fin 1024 := ⟨t.val % 4 * 256 + c.val, by omega⟩

theorem index : ∀ t : Fin cfg0.N, (win0_0.index t 0 = 0 ∧ win0_0.index t 1 = 9 + t.val) ∧ (win0_1.index t 0 = t.val / 4 ∧ win0_1.index t 1 = 0 ∧ win0_1.index t 2 = t.val % 4) ∧ (win0_2.index t 0 = 0 ∧ win0_2.index t 1 = t.val % 4) ∧ (win0_3.index t 0 = 0 ∧ win0_3.index t 1 = 9 + t.val) ∧ (win0_4.index t 0 = t.val / 4 ∧ win0_4.index t 1 = 0 ∧ win0_4.index t 2 = t.val % 4) := by
  decide +kernel

/-! ## The blocks of the three arguments -/

theorem read0 (t : Fin cfg0.N) (r : Fin 4096) (c : Fin 256) : (iblk m e 0 t : S4096x256.Idx → EReal) (ix2 r c) = xs m e (ix2 r (gateCol (branch t) (chan t c))) := by
  refine Eq.trans ?_ (congrFun (V_main_arg0 m e) _)
  unfold iblk
  rw [View.read_apply]
  show V m e main_arg0 _ = V m e main_arg0 _
  congr 1
  blk_ext [index t]
  show _ = 2304 + (t.val / 4 * 1024 + (t.val % 4 * 256 + c.val))
  omega

theorem read1 (t : Fin cfg0.N) (r : Fin 4096) (c : Fin 256) : (iblk m e 1 t : S1x4096x256.Idx → EReal) (ix3 0 r c) = bs m e (ix3 (branch t) r (chan t c)) := by
  refine Eq.trans ?_ (congrFun (V_main_arg1 m e) _)
  unfold iblk
  rw [View.read_apply]
  show V m e main_arg1 _ = V m e main_arg1 _
  congr 1
  blk_ext [index t]
  all_goals rfl

theorem read2 (t : Fin cfg0.N) (r : Fin 4096) (c : Fin 256) : (iblk m e 2 t : S4096x256.Idx → EReal) (ix2 r c) = ds m e (ix2 r (chan t c)) := by
  refine Eq.trans ?_ (congrFun (V_main_arg2 m e) _)
  unfold iblk
  rw [View.read_apply]
  show V m e main_arg2 _ = V m e main_arg2 _
  congr 1
  blk_ext [index t]
  all_goals rfl

/-! ## The results -/

/-- The gradient of the gate's column of branch `k` and channel `c`. -/
def gateGrad (k : Fin 3) (r : Fin 4096) (c : Fin 1024) : EReal :=
  ds m e (ix2 r c) * bs m e (ix3 k r c) * gate (xs m e) k r c * (1 - gate (xs m e) k r c)

/-- The gradient of the gates' columns: three branches of 1024 channels. -/
def gateResult : S4096x3072.Idx → EReal := fun i =>
  gateGrad m e ⟨(i 1).val / 1024, by have h : (i 1).val < 3072 := (i 1).isLt; omega⟩ (i 0) ⟨(i 1).val % 1024, by omega⟩

/-- The gradient of the branches. -/
def branchResult : S3x4096x1024.Idx → EReal := fun i => ds m e (ix2 (i 1) (i 2)) * gate (xs m e) (i 0) (i 1) (i 2)

/-- The array of which the gates' columns are the last 3072. -/
def wide : S4096x5376.Idx → EReal := fun i =>
  gateResult m e (ix2 (i 0) ⟨(i 1).val - 2304, by have h : (i 1).val < 5376 := (i 1).isLt; omega⟩)

theorem wide_at (k : Fin 3) (r : Fin 4096) (c : Fin 1024) : wide m e (ix2 r (gateCol k c)) = gateGrad m e k r c := by
  exact congrArg₂ (fun a b => gateGrad m e a r b) (Fin.ext (show (2304 + (k.val * 1024 + c.val) - 2304) / 1024 = k.val by omega))
    (Fin.ext (show (2304 + (k.val * 1024 + c.val) - 2304) % 1024 = c.val by omega))

set_option maxRecDepth 65536 in
/-- The array of the projection's gradient: the blocks from the ninth on are written. -/
theorem final_gate : (dats m 0 e).arrAt 3 cfg0.N = fun i => if 9 ≤ (i 1 : ℕ) / 256 then wide m e i else V m e main_v0_0 i := by
  refine (dats m 0 e).arrAt_eq_of_coversWhere 3 _ (fun β => 9 ≤ β (1 : Fin _)) (by decide +kernel) (fun t hf y => ?_) (fun j => Iff.rfl)
  blk_simp
  rw [after0_3]
  frame_out
  obtain ⟨r, c, rfl⟩ : ∃ (r : Fin 4096) (c : Fin 256), y = ix2 r c := ⟨y 0, y 1, eq_ix2 y⟩
  rw [show (win0_3.blk t).view.emb (ix2 r c) = ix2 r (gateCol (branch t) (chan t c)) from by
    blk_ext [index t]
    show _ = 2304 + (t.val / 4 * 1024 + (t.val % 4 * 256 + c.val))
    omega]
  rw [wide_at]
  unfold gateGrad gate
  rw [← read0, ← read1, ← read2]
  exact grad_at _ _ _ r c

theorem final_branch : (dats m 0 e).arrAt 4 cfg0.N = branchResult m e := by
  refine (dats m 0 e).arrAt_eq_of_covers 4 _ (by decide +kernel) fun t hf y => ?_
  blk_simp
  rw [after0_4]
  frame_out
  obtain ⟨z, r, c, rfl⟩ : ∃ (z : Fin 1) (r : Fin 4096) (c : Fin 256), y = ix3 z r c := ⟨y 0, y 1, y 2, eq_ix3 y⟩
  obtain rfl : z = 0 := Subsingleton.elim _ _
  rw [show (win0_4.blk t).view.emb (ix3 0 r c) = ix3 (branch t) r (chan t c) from by
    blk_ext [index t, branch, chan]]
  show _ = ds m e (ix2 r (chan t c)) * gate (xs m e) (branch t) r (chan t c)
  unfold gate
  rw [← read0, ← read2]
  exact branch_at _ _ r c

/-- The host's slice of the projection's gradient is the gates' columns. -/
theorem tail_gate : Pipeline.afterTail₀ cfgs (dats m) 0 (V0 m) [hostOps1] e main_v1 = gateResult m e := by
  unfold Pipeline.afterTail₀
  simp only [hostOps1, List.flatten_cons, List.flatten_nil, List.cons_append, List.nil_append, List.append_nil, StableHlo.TRef.binary, StableHlo.TRef.nullary, StableHlo.TRef.unary, StableHlo.TRef.toBuf, StableHlo.TRef.ofBuf, cast_eq]
  after_results
  have hw := (Pipeline.withArrays_arr spec0 launch0.win.arr_inj e (V0 m e) (fun w => (dats m 0 e).arrAt w cfg0.N) 3).trans (final_gate m e)
  funext i
  obtain ⟨r, c, rfl⟩ : ∃ (r : Fin 4096) (c : Fin 3072), i = ix2 r c := ⟨i 0, i 1, eq_ix2 i⟩
  have hs : ∀ A : S4096x5376.Idx → EReal, extractStridedSlice S4096x3072 ![0, 2304] A slices_S4096x5376_S4096x3072_0_2304 (ix2 r c)
      = A (ix2 r (⟨2304 + c.val, by omega⟩ : Fin 5376)) := fun A => by pointwise
  refine (hs _).trans ((congrFun hw _).trans ?_)
  show (if 9 ≤ (2304 + c.val) / 256 then _ else _) = _
  rw [if_pos (by omega)]
  show gateResult m e (ix2 r ⟨2304 + c.val - 2304, _⟩) = _
  exact congrArg (fun d : Fin 3072 => gateResult m e (ix2 r d)) (Fin.ext (show 2304 + c.val - 2304 = c.val by omega))

/-- The run of the kernel and its host: both gradients, and the arguments unchanged. -/
theorem run (ρ : Dev nD → PrngReg) : θ_run defs (onTc (τ := τ) (main (F := Ideal))) ⟨m, fun _ => 0, ρ⟩ fun r => ∀ e : Dev nD,
      r.2.mem ((e : Thread nD τ).loc main_v1) = gateResult m e
      ∧ r.2.mem ((e : Thread nD τ).loc main_v0_1) = branchResult m e
      ∧ r.2.mem ((e : Thread nD τ).loc main_arg0) = m ((e : Thread nD τ).loc main_arg0)
      ∧ r.2.mem ((e : Thread nD τ).loc main_arg1) = m ((e : Thread nD τ).loc main_arg1)
      ∧ r.2.mem ((e : Thread nD τ).loc main_arg2) = m ((e : Thread nD τ).loc main_arg2) :=
  (θ_run defs _ _).mono (fun r h e => ⟨((h e).2 main_v1 (by decide)).trans (tail_gate m e), ((h e).1 4).trans (final_branch m e),
      ((h e).1 0).trans (((dats m 0 e).arrAt_in 0 rfl _).trans ((A_eq m e 0).trans (V_main_arg0 m e))),
      ((h e).1 1).trans (((dats m 0 e).arrAt_in 1 rfl _).trans ((A_eq m e 1).trans (V_main_arg1 m e))),
      ((h e).1 2).trans (((dats m 0 e).arrAt_in 2 rfl _).trans ((A_eq m e 2).trans (V_main_arg2 m e)))⟩)
    (run_main m ρ)

end Cert.GateBwdArray

end
-- ==== Proof.GateBwdEquation.lean ====
/-
  The value claim of the gate's backward call: the reference read at an index, and the kernel's two results are its.
-/
module

public import proofs.«01_k».proof.Defs
public import proofs.«01_k».proof.Proof.GateBwdArray
public import proofs.«01_k».proof.Proof.Gen.GateBwdRefIdeal.Read
public import proofs.«01_k».proof.Proof.Gen.GateBwdRefIdeal.Run

@[expose] public section

noncomputable section

namespace Cert.GateBwdEquation

open Cert.GateBwdRefIdeal.Read Idealize.ShloMosaic Idealize.ShloMosaic.TcCoe Idealize.SL.Sem
open Cert.GateColumn Cert.GateBwdArray

section Reference

open Cert.GateBwdRefIdeal Cert.GateBwdRefIdeal.Gen

variable (x : S4096x5376.Idx → Elt Ideal .bf16) (b : S3x4096x1024.Idx → Elt Ideal .bf16) (d : S4096x1024.Idx → Elt Ideal .bf16)
variable (k : Fin 3) (r : Fin 4096) (c : Fin 1024)

theorem ref_gate : val_main_v10 (F := Ideal) x (ix3 r k c) = gate x k r c := by
  unfold val_main_v10 val_main_v9 val_main_v8 val_main_v7 val_main_v6 val_main_v5 val_main_v4 val_main_v1 val_main_v0 val_main_cst val_main_cst_0
  pointwise
  unfold gate Ideal.logistic
  rfl

theorem ref_branch : val_main_v24 (F := Ideal) x d (ix3 k r c) = d (ix2 r c) * gate x k r c := by
  unfold val_main_v24 val_main_v23 val_main_v18 val_main_v17 val_main_v16
  pointwise [ref_gate]
  exact mul_comm _ _

/-- The gradient before its columns are laid side by side. -/
theorem ref_grad : val_main_v20 (F := Ideal) x b d (ix3 r k c) = d (ix2 r c) * b (ix3 k r c) * gate x k r c * (1 - gate x k r c) := by
  unfold val_main_v20 val_main_v19 val_main_v17 val_main_v16 val_main_v13 val_main_v12 val_main_v11 val_main_cst_1 val_main_v3 val_main_v2
  pointwise [ref_gate]
  exact (mul_assoc _ _ _).symm

theorem ref_columns (j : Fin 3072) : val_main_v22 (F := Ideal) x b d (ix2 r j)
    = val_main_v20 (F := Ideal) x b d (ix3 r (⟨j.val / 1024, by omega⟩ : Fin 3) (⟨j.val % 1024, by omega⟩ : Fin 1024)) := by
  unfold val_main_v22 val_main_v21
  generalize val_main_v20 (F := Ideal) x b d = y
  pointwise

end Reference

/-- The kernel's results and the reference's from memories that agree on the arguments. -/
theorem algebraic : Cert.algebraic_GateBwdIdeal_GateBwdRefIdeal (hGateBwdIdeal := Cert.GateBwdIdeal.Gen.facts)
    (hGateBwdRefIdeal := Cert.GateBwdRefIdeal.Gen.facts) := by
  intro m ρ m' ρ' _ hargs
  refine ⟨fun c => gateResult m c, fun c => branchResult m c, GateBwdArray.run m ρ, ?_⟩
  refine (θ_run (Cert.GateBwdRefIdeal.defs (F := Ideal)) _ _).mono (fun r h c => ?_) (Cert.GateBwdRefIdeal.Value.run (F := Ideal) m' ρ')
  obtain ⟨hx, hb, hkept⟩ := h c
  obtain ⟨a0, a1, a2⟩ := hargs c
  refine ⟨hx.trans ?_, hb.trans ?_, hkept⟩
  · rw [val_main_v22_eq, a0, a1, a2]
    funext i
    exact (congrArg _ (eq_ix2 i)).trans ((ref_columns _ _ _ (i 0) (i 1)).trans (ref_grad _ _ _ _ (i 0) _))
  · rw [val_main_v24_eq, a0, a2]
    funext i
    exact (congrArg _ (eq_ix3 i)).trans (ref_branch _ _ (i 0) (i 1) (i 2))

end Cert.GateBwdEquation

end
-- ==== Proof.LossHeadArray.lean ====
/-
  What the two result arrays of the loss head's kernel hold after its eight grid points, row by row of the arguments.
-/
module

public import proofs.«01_k».proof.Proof.NormRow
public import proofs.«01_k».proof.Proof.Gen.LossHeadIdeal.Value
public import Idealize.ShloMosaic.Lib.Pointwise
public import Idealize.ShloMosaic.Lib.Tactic
public import Idealize.ShloMosaic.Lib.Pipeline.ReadBack
public import Idealize.ShloMosaic.Lib.Pipeline.ValueKit
public import Idealize.ShloMosaic.Lib.StableHlo.Run

@[expose] public section

noncomputable section

namespace Cert.LossHeadArray

open Cert.LossHeadIdeal Cert.LossHeadIdeal.Gen Cert.LossHeadIdeal.Value Idealize.ShloMosaic Idealize.ShloMosaic.TcCoe Idealize.SL.Sem
open Cert.NormRow

/-- The difference of a row of the output and its target. -/
def diff (x y p g : Fin 1024 → EReal) (c : Fin 1024) : EReal := next x y p c - g c

/-- The mean of the squares of a row's differences. -/
def meanSq (x y p g : Fin 1024 → EReal) : EReal :=
  Ideal.div (∑ c, diff x y p g c * diff x y p g c) (Ideal.ofBits .f32 0x44800000#32)

/-! ## The payloads of the body's stores, row by row -/

section Payloads

variable (x : Vec Ideal S512x1024 .f32) (y : Vec Ideal S512x1024 .bf16) (p : Vec Ideal S1x1024 .f32) (g : Vec Ideal S512x1024 .f32)
  (X : Vec Ideal S1x128 .f32) (r : Fin 512) (c : Fin 1024) (j : Fin 128)

theorem diff_at : k0_pay2 (F := Ideal) x y p g (ix2 r c) = diff (row x r) (row y r) (row p 0) (row g r) c := by
  unfold k0_pay2
  pointwise
  rfl

theorem dy_at : k0_pay3 (F := Ideal) x y p g (ix2 r c) = Ideal.div (diff (row x r) (row y r) (row p 0) (row g r) c) (Ideal.ofBits .f32 0x44800000#32) := by
  unfold k0_pay3
  pointwise [diff_at]

theorem loss_at : k0_pay6 (F := Ideal) x y p g (ix2 0 0) = ∑ r : Fin 512, meanSq (row x r) (row y r) (row p 0) (row g r) := by
  unfold k0_pay6
  pointwise [diff_at]
  rfl

theorem zero_at : k0_pay4 (F := Ideal) (ix2 0 j) = 0 := by
  unfold k0_pay4
  pointwise

/-- A point adds half its rows' sum to the running loss. -/
theorem step_at : k0_pay1 (F := Ideal) (k0_pay5 X) (k0_pay6 x y p g) (Scalar.ofBits .f32 0x3F000000#32) (ix2 0 j)
    = X (ix2 0 j) + Ideal.ofBits .f32 0x3F000000#32 * ∑ r : Fin 512, meanSq (row x r) (row y r) (row p 0) (row g r) := by
  unfold k0_pay1 k0_pay5
  pointwise [loss_at]

end Payloads

variable (m : (ℓ : Loc nD τ sig) → Buf (Elt Ideal) ℓ) (e : Dev nD)

/-- The arguments: the residual rows, the added rows, the gain and the targets. -/
abbrev xs : S4096x1024.Idx → EReal := m ((e : Thread nD τ).loc main_arg0)
abbrev ys : S4096x1024.Idx → EReal := m ((e : Thread nD τ).loc main_arg1)
abbrev ps : S1024.Idx → EReal := m ((e : Thread nD τ).loc main_arg2)
abbrev gs : S4096x1024.Idx → EReal := m ((e : Thread nD τ).loc main_arg3)

theorem lt8 (t : Fin cfg0.N) : t.val < 8 := Nat.lt_of_lt_of_eq t.isLt N_0

/-- Row `r` of block `t`. -/
def at_ (t : Fin cfg0.N) (r : Fin 512) : Fin 4096 := ⟨t.val * 512 + r.val, by have := lt8 t; omega⟩

/-- The host's copy of the gain, as one row. -/
theorem host_p (c : Fin 1024) : (V m e main_v0 : S1x1024.Idx → EReal) (ix2 0 c) = ps m e (ix1 c) := by
  show StableHlo.after (List.flatten [hostOps0]) (fun b => m (e, b)) main_v0 (ix2 0 c) = _
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_results
  generalize hx : m (e, Proc.tc.devRef main_arg2) = x
  refine Eq.trans ?_ (congrFun hx (ix1 c)).symm
  pointwise

theorem index : ∀ t : Fin cfg0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) ∧ (win0_5.index t 0 = 0 ∧ win0_5.index t 1 = 0) := by
  decide +kernel

/-! ## Each window's block of rows is those rows of its array -/

theorem row0 (t : Fin cfg0.N) (r : Fin 512) : row (iblk m e 0 t : S512x1024.Idx → EReal) r = row (xs m e) (at_ t r) := by
  funext c
  refine Eq.trans ?_ (congrFun (V_main_arg0 m e) _)
  unfold row iblk
  rw [View.read_apply]
  show V m e main_arg0 _ = V m e main_arg0 _
  congr 1
  blk_ext [index t]
  rfl

theorem row1 (t : Fin cfg0.N) (r : Fin 512) : row (iblk m e 1 t : S512x1024.Idx → EReal) r = row (ys m e) (at_ t r) := by
  funext c
  refine Eq.trans ?_ (congrFun (V_main_arg1 m e) _)
  unfold row iblk
  rw [View.read_apply]
  show V m e main_arg1 _ = V m e main_arg1 _
  congr 1
  blk_ext [index t]
  rfl

theorem row2 (t : Fin cfg0.N) : row (iblk m e 2 t : S1x1024.Idx → EReal) 0 = gain (ps m e) := by
  funext c
  refine Eq.trans ?_ (host_p m e c)
  unfold row iblk
  rw [View.read_apply]
  show V m e main_v0 _ = V m e main_v0 _
  congr 1
  blk_ext [index t]

theorem row3 (t : Fin cfg0.N) (r : Fin 512) : row (iblk m e 3 t : S512x1024.Idx → EReal) r = row (gs m e) (at_ t r) := by
  funext c
  refine Eq.trans ?_ (congrFun (V_main_arg3 m e) _)
  unfold row iblk
  rw [View.read_apply]
  show V m e main_arg3 _ = V m e main_arg3 _
  congr 1
  blk_ext [index t]
  rfl

/-! ## The results -/

/-- Row `s` of the differences, and its mean square. -/
def differ (s : Fin 4096) : Fin 1024 → EReal := diff (row (xs m e) s) (row (ys m e) s) (gain (ps m e)) (row (gs m e) s)
def square (s : Fin 4096) : EReal := meanSq (row (xs m e) s) (row (ys m e) s) (gain (ps m e)) (row (gs m e) s)

def gradResult : S4096x1024.Idx → EReal := fun i => Ideal.div (differ m e (i 0) (i 1)) (Ideal.ofBits .f32 0x44800000#32)

/-- The loss, in each of the 128 lanes: the sum over the blocks of half the block's sum. -/
def lossResult : S1x128.Idx → EReal := fun _ => ∑ t : Fin cfg0.N, Ideal.ofBits .f32 0x3F000000#32 * ∑ r : Fin 512, square m e (at_ t r)

theorem out4 (t : Fin cfg0.N) (r : Fin 512) (c : Fin 1024) :
    (outsAt0 m e t.val t.isLt).1 (ix2 r c) = Ideal.div (differ m e (at_ t r) c) (Ideal.ofBits .f32 0x44800000#32) := by
  unfold differ
  rw [← row0, ← row1, ← row2 m e t, ← row3]
  by_cases h : t.val % 8 = 0
  · rw [outsAt0_A m e t h]
    frame_out
    exact dy_at _ _ _ _ r c
  · rw [outsAt0_B m e t h]
    frame_out
    exact dy_at _ _ _ _ r c

/-- What a point adds to the running loss. -/
def part (t : Fin cfg0.N) (i : S1x128.Idx) : EReal :=
  Ideal.ofBits .f32 0x3F000000#32 * ∑ r : Fin 512, meanSq (row (iblk m e 0 t : S512x1024.Idx → EReal) r) (row (iblk m e 1 t : S512x1024.Idx → EReal) r) (row (iblk m e 2 t : S1x1024.Idx → EReal) 0) (row (iblk m e 3 t : S512x1024.Idx → EReal) r)

theorem part_at (t : Fin cfg0.N) (i : S1x128.Idx) : part m e t i = Ideal.ofBits .f32 0x3F000000#32 * ∑ r : Fin 512, square m e (at_ t r) := by
  unfold part square
  simp only [row0, row1, row2, row3]

/-- An index of the running loss is its lane's. -/
theorem eq_lane (i : S1x128.Idx) : i = ix2 0 (i 1) := by
  obtain ⟨r, c, rfl⟩ : ∃ (r : Fin 1) (c : Fin 128), i = ix2 r c := ⟨i 0, i 1, eq_ix2 i⟩
  rw [Subsingleton.elim r 0]
  rfl

theorem out5 (t : Fin cfg0.N) (ht : t.val = 7) (i : S1x128.Idx) : (outsAt0 m e t.val t.isLt).2 i = lossResult m e i := by
  rw [Pipeline.eq_sum_fin_of_reset_step_apply_last (fun n h => (outsAt0 m e n h).2) 8 (fun _ => (0 : EReal)) (part m e)
      (fun t h i => by
        rw [eq_lane i, outsAt0_A m e t h]
        frame_out
        exact (step_at _ _ _ _ _ _).trans (congrArg (fun z : EReal => z + part m e t _) (zero_at _)))
      (fun t h i => by
        rw [eq_lane i, outsAt0_B m e t h]
        frame_out
        exact step_at _ _ _ _ _ _)
      (le_of_eq N_0) t (by rw [ht]; rfl) i, zero_add]
  simp only [part_at]
  rfl

theorem final_grad : (dats m 0 e).arrAt 4 cfg0.N = gradResult m e := by
  refine (dats m 0 e).arrAt_eq_of_covers 4 _ (by decide +kernel) fun t hf y => ?_
  blk_simp
  rw [after0_4]
  obtain ⟨r, c, rfl⟩ : ∃ (r : Fin 512) (c : Fin 1024), y = ix2 r c := ⟨y 0, y 1, eq_ix2 y⟩
  rw [out4 m e t r c]
  rw [show (win0_4.blk t).view.emb (ix2 r c) = ix2 (at_ t r) c from by
    blk_ext [index t, at_]]
  rfl

theorem final_loss : (dats m 0 e).arrAt 5 cfg0.N = lossResult m e := by
  refine (dats m 0 e).arrAt_eq_of_covers 5 _ (by decide +kernel) fun t hf y => ?_
  blk_simp
  rw [after0_5]
  exact out5 m e t (by have := (flush0_5 t).mp hf; have := lt8 t; omega) y

/-- The run of the kernel: the gradient, row by row, the loss, and the arguments unchanged. -/
theorem run (ρ : Dev nD → PrngReg) : θ_run defs (onTc (τ := τ) (main (F := Ideal))) ⟨m, fun _ => 0, ρ⟩ fun r => ∀ e : Dev nD,
      r.2.mem ((e : Thread nD τ).loc main_v1_0) = gradResult m e
      ∧ r.2.mem ((e : Thread nD τ).loc main_v1_1) = lossResult m e
      ∧ r.2.mem ((e : Thread nD τ).loc main_arg0) = m ((e : Thread nD τ).loc main_arg0)
      ∧ r.2.mem ((e : Thread nD τ).loc main_arg1) = m ((e : Thread nD τ).loc main_arg1)
      ∧ r.2.mem ((e : Thread nD τ).loc main_arg2) = m ((e : Thread nD τ).loc main_arg2)
      ∧ r.2.mem ((e : Thread nD τ).loc main_arg3) = m ((e : Thread nD τ).loc main_arg3) :=
  (θ_run defs _ _).mono (fun _ h e => ⟨(h e).1.trans (final_grad m e), (h e).2.1.trans (final_loss m e), (h e).2.2⟩)
    (run_blocks m ρ)

end Cert.LossHeadArray

end
-- ==== Proof.LossHeadEquation.lean ====
/-
  The value claim of the loss head: the reference read row by row, and the kernel's gradient and loss are its.
-/
module

public import proofs.«01_k».proof.Defs
public import proofs.«01_k».proof.Proof.Scalars
public import proofs.«01_k».proof.Proof.MemoryRow
public import proofs.«01_k».proof.Proof.LossHeadArray
public import proofs.«01_k».proof.Proof.Gen.LossHeadRefIdeal.Read
public import proofs.«01_k».proof.Proof.Gen.LossHeadRefIdeal.Run
public import Idealize.ShloMosaic.Lib.Pointwise
public import Idealize.ShloMosaic.Lib.Tactic

@[expose] public section

noncomputable section

namespace Cert.LossHeadEquation

open Cert.LossHeadRefIdeal.Read Idealize.ShloMosaic Idealize.ShloMosaic.TcCoe Idealize.SL.Sem
open Cert.NormRow Cert.LossHeadArray Cert.Scalars
open Cert.MemoryRow (coe_mul_sum div_coe)

/-- The constants: a half, one, and the rows' length. -/
theorem half_bits : Ideal.ofBits .f32 0x3F000000#32 = ((1 / 2 : ℝ) : EReal) := by
  simp [Ideal.ofBits, Ideal.ieee]
  rw [← EReal.coe_mul]
  norm_num

theorem one_bits : Ideal.ofBits .f32 0x3F800000#32 = ((1 : ℝ) : EReal) := by
  simp [Ideal.ofBits, Ideal.ieee]
  try (rw [← EReal.coe_mul]; norm_num)

theorem length_bits : Ideal.ofBits .f32 0x44800000#32 = ((1024 : ℝ) : EReal) := by
  simp [Ideal.ofBits, Ideal.ieee]
  rw [← EReal.coe_mul]
  norm_num

section Reference

open Cert.LossHeadRefIdeal Cert.LossHeadRefIdeal.Gen

variable (x : S4096x1024.Idx → Elt Ideal .f32) (y : S4096x1024.Idx → Elt Ideal .bf16) (p : S1024.Idx → Elt Ideal .f32) (g : S4096x1024.Idx → Elt Ideal .f32)
  (r : Fin 4096) (c : Fin 1024) (j : Fin 128)

theorem ref_diff : val_main_v15 (F := Ideal) x y p g (ix2 r c) = diff (row x r) (row y r) (gain p) (row g r) c := by
  unfold val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

theorem ref_mean : val_main_v21 (F := Ideal) x y p g (ix1 r) = meanSq (row x r) (row y r) (gain p) (row g r) := by
  unfold val_main_v21 val_main_v20 val_main_v19 val_main_v16 val_main_cst_3 val_main_cst_4
  pointwise [ref_diff]
  rfl

theorem ref_loss : val_main_v30 (F := Ideal) x y p g (ix2 0 j) = Ideal.ofBits .f32 0x3F000000#32 * ∑ s : Fin 4096, meanSq (row x s) (row y s) (gain p) (row g s) := by
  unfold val_main_v30 val_main_v23 val_main_v22 val_main_cst_5 val_main_cst_6
  pointwise [ref_mean]

theorem ref_grad : val_main_v29 (F := Ideal) x y p g (ix2 r c) = Ideal.div (Ideal.ofBits .f32 0x3F000000#32 * Ideal.ofBits .f32 0x3F800000#32) (Ideal.ofBits .f32 0x44800000#32) * (Ideal.ofBits .f32 0x40000000#32 * diff (row x r) (row y r) (gain p) (row g r) c) := by
  unfold val_main_v29 val_main_v28 val_main_v27 val_main_v26 val_main_v25 val_main_v24 val_main_v18 val_main_v17 val_main_cst_2 val_main_cst_7 val_main_cst_8 val_main_cst_9
  pointwise [ref_diff]

end Reference

/-- Half of twice a difference over the length is the difference over the length. -/
theorem grad_eq (d : EReal) : Ideal.div (Ideal.ofBits .f32 0x3F000000#32 * Ideal.ofBits .f32 0x3F800000#32) (Ideal.ofBits .f32 0x44800000#32) * (Ideal.ofBits .f32 0x40000000#32 * d)
    = Ideal.div d (Ideal.ofBits .f32 0x44800000#32) := by
  rw [half_bits, one_bits, length_bits, two_bits, div_coe _ (by norm_num), div_coe _ (by norm_num), ← mul_assoc, mul_comm d]
  congr 1
  rw [show (2 : EReal) = ((2 : ℝ) : EReal) from rfl, ← EReal.coe_mul, ← EReal.coe_mul, ← EReal.coe_mul]
  norm_num

/-- The halves of the blocks' sums add up to half the sum. -/
theorem loss_eq (f : Fin 4096 → EReal) :
    ∑ t : Fin Cert.LossHeadIdeal.cfg0.N, Ideal.ofBits .f32 0x3F000000#32 * ∑ r : Fin 512, f (at_ t r) = Ideal.ofBits .f32 0x3F000000#32 * ∑ s, f s := by
  rw [half_bits, coe_mul_sum _ _ (by norm_num)]
  refine congrArg _ ?_
  exact Fin.sum_mul_add_congr (f := f) (fun t r hl => rfl) (by rw [show Cert.LossHeadIdeal.cfg0.N = 8 from Cert.LossHeadIdeal.Gen.N_0])

/-- The kernel's results and the reference's from memories that agree on the arguments. -/
theorem algebraic : Cert.algebraic_LossHeadIdeal_LossHeadRefIdeal (hLossHeadIdeal := Cert.LossHeadIdeal.Gen.facts)
    (hLossHeadRefIdeal := Cert.LossHeadRefIdeal.Gen.facts) := by
  intro m ρ m' ρ' _ hargs
  refine ⟨fun c => gradResult m c, fun c => lossResult m c, LossHeadArray.run m ρ, ?_⟩
  refine (θ_run (Cert.LossHeadRefIdeal.defs (F := Ideal)) _ _).mono (fun r h c => ?_) (Cert.LossHeadRefIdeal.Value.run (F := Ideal) m' ρ')
  obtain ⟨hg, hl, hkept⟩ := h c
  obtain ⟨a0, a1, a2, a3⟩ := hargs c
  refine ⟨hg.trans ?_, hl.trans ?_, hkept⟩
  · rw [val_main_v29_eq, a0, a1, a2, a3]
    funext i
    exact ((congrArg _ (eq_ix2 i)).trans (ref_grad _ _ _ _ (i 0) (i 1))).trans (grad_eq _)
  · rw [val_main_v30_eq, a0, a1, a2, a3]
    funext i
    exact ((congrArg _ (eq_lane i)).trans (ref_loss _ _ _ _ (i 1))).trans (loss_eq (square m c)).symm

end Cert.LossHeadEquation

end
-- ==== Proof.MemoryOutput.lean ====
/-
  What the result array of the memory attention's forward kernel holds after its eight grid points, row by row of the
  arguments.
-/
module

public import proofs.«01_k».proof.Proof.MemoryBlock
public import proofs.«01_k».proof.Proof.Gen.MemoryFwdIdeal.Value
public import Idealize.ShloMosaic.Lib.Pipeline.ValueKit

@[expose] public section

noncomputable section

namespace Cert.MemoryOutput

open Cert.MemoryFwdIdeal Cert.MemoryFwdIdeal.Gen Cert.MemoryFwdIdeal.Value Idealize.ShloMosaic Idealize.ShloMosaic.TcCoe Idealize.SL.Sem
open Cert.MemoryRow Cert.MemoryBlock

section Arrays

variable {R : ℕ} (x0 : (⟨2, ![R, 512]⟩ : Shape).Idx → EReal) (x1 : S256x1024.Idx → EReal)

/-- The attention's output at row `r`, head `h`, coordinate `d`. -/
def outAt (r : Fin R) (h : Fin 4) (d : Fin 128) : EReal := ∑ j, prob (head x0 h r) (keys x1 h) j * vals x1 h j d

/-- The attention's output as an array. -/
def outArr (i : (⟨2, ![R, 512]⟩ : Shape).Idx) : EReal :=
  outAt x0 x1 (i 0) ⟨(i 1).val / 128, by have h : (i 1).val < 512 := (i 1).isLt; omega⟩ ⟨(i 1).val % 128, by omega⟩

theorem outArr_head (r : Fin R) (h : Fin 4) (d : Fin 128) (c : Fin 512) (hc : c.val = h.val * 128 + d.val) :
    outArr x0 x1 (ix2 r c) = outAt x0 x1 r h d := by
  show outAt x0 x1 r ⟨c.val / 128, _⟩ ⟨c.val % 128, _⟩ = _
  congr 1 <;> apply Fin.ext <;> show _ = _ <;> dsimp only <;> omega

end Arrays

/-- One head's store: its probabilities times its values. -/
theorem out_apply (k v : Vec Ideal S256x128 .f32) (q : Vec Ideal S512x128 .f32) (r : Fin 512) (d : Fin 128) :
    k0_pay2 (F := Ideal) k v q (ix2 r d) = ∑ j, prob (fun d => q (ix2 r d)) (fun i d => k (ix2 i d)) j * v (ix2 j d) := by
  unfold k0_pay2
  pointwise [dot_S256x128_S512x128_S256x512_1_1_0_0_n_n, dot_S256x512_S256x128_S512x128_0_0_1_1_n_n]
  rfl

section Pieces

variable (x0 : Vec Ideal S512x512 .f32) (x1 : Vec Ideal S256x1024 .f32) (h : Fin 4) (o o' : ℕ) (ho : o = h.val * 128) (ho' : o' = 512 + h.val * 128)
  (b0 : ∀ a, (![0, o] : Fin 2 → ℕ) a + (![512, 128] : Fin 2 → ℕ) a ≤ S512x512.size a)
  (b1 : ∀ a, (![0, o] : Fin 2 → ℕ) a + (![256, 128] : Fin 2 → ℕ) a ≤ S256x1024.size a)
  (b2 : ∀ a, (![0, o'] : Fin 2 → ℕ) a + (![256, 128] : Fin 2 → ℕ) a ≤ S256x1024.size a)

include ho ho' in
/-- Head `h`'s store to the output. -/
theorem out_piece (x : (Rect.unit (s := S512x512) (![0, o] : Fin 2 → ℕ) ![512, 128] b0).shape.Idx) :
    k0_pay2 (F := Ideal) (mcols b1 x1) (mcols b2 x1) (cols o b0 x0) x
      = outArr x0 x1 ((Rect.unit (s := S512x512) (![0, o] : Fin 2 → ℕ) ![512, 128] b0).emb x) := by
  obtain ⟨r, d, rfl⟩ : ∃ (r : Fin 512) (d : Fin 128), x = ix2 r d := ⟨x 0, x 1, eq_ix2 x⟩
  refine Eq.trans ?_ (congrArg (outArr x0 x1) (show ix2 r (⟨h.val * 128 + d.val, by omega⟩ : Fin 512) = _ from
    funext fun a => Fin.ext ?_))
  · rw [outArr_head x0 x1 r h d _ rfl]
    refine (out_apply _ _ _ r d).trans ?_
    simp only [cols_apply h o ho b0, keys_apply x1 h o ho b1, vals_apply x1 h o' ho' b2]
    rfl
  · match a with
    | ⟨0, _⟩ => show r.val = 0 + 1 * r.val; omega
    | ⟨1, _⟩ => show h.val * 128 + d.val = o + 1 * d.val; omega

end Pieces

/-- The block a point leaves: its four heads' stores. -/
theorem out_block (x0 : Vec Ideal S512x512 .f32) (x1 : Vec Ideal S256x1024 .f32) : out0_2 (F := Ideal) x0 x1 = outArr x0 x1 := by
  unfold out0_2
  funext y
  refine View.canon_apply_of_pieces (Val := Elt Ideal) (S := S512x512) (e := .bf16) (outArr x0 x1) _ ?_ y (cover0_2 _ _ _ _ y)
  intro p hp x
  simp only [List.mem_cons, List.not_mem_nil, or_false] at hp
  rcases hp with rfl | rfl | rfl | rfl
  · exact out_piece x0 x1 3 384 896 rfl rfl inb_S512x512_S512x128_0_384 inb_S256x1024_S256x128_0_384 inb_S256x1024_S256x128_0_896 x
  · exact out_piece x0 x1 2 256 768 rfl rfl inb_S512x512_S512x128_0_256 inb_S256x1024_S256x128_0_256 inb_S256x1024_S256x128_0_768 x
  · exact out_piece x0 x1 1 128 640 rfl rfl inb_S512x512_S512x128_0_128 inb_S256x1024_S256x128_0_128 inb_S256x1024_S256x128_0_640 x
  · exact out_piece x0 x1 0 0 512 rfl rfl inb_S512x512_S512x128_0_0 inb_S256x1024_S256x128_0_0 inb_S256x1024_S256x128_0_512 x

variable (m : (ℓ : Loc nD τ sig) → Buf (Elt Ideal) ℓ) (e : Dev nD)

/-- The queries, and the keys and values. -/
abbrev qs : S4096x512.Idx → EReal := m ((e : Thread nD τ).loc main_arg0)
abbrev kvs : S256x1024.Idx → EReal := m ((e : Thread nD τ).loc main_arg1)

theorem lt8 (t : Fin cfg0.N) : t.val < 8 := Nat.lt_of_lt_of_eq t.isLt N_0

/-- Row `r` of block `t`. -/
def at_ (t : Fin cfg0.N) (r : Fin 512) : Fin 4096 := ⟨t.val * 512 + r.val, by have := lt8 t; omega⟩

theorem index : ∀ t : Fin cfg0.N, (win0_0.index t 0 = t.val ∧ win0_0.index t 1 = 0) ∧ (win0_1.index t 0 = 0 ∧ win0_1.index t 1 = 0) ∧ (win0_2.index t 0 = t.val ∧ win0_2.index t 1 = 0) := by
  decide +kernel

theorem head0 (t : Fin cfg0.N) (h : Fin 4) (r : Fin 512) : head (iblk m e 0 t : S512x512.Idx → EReal) h r = head (qs m e) h (at_ t r) := by
  funext d
  refine Eq.trans ?_ (congrFun (V_main_arg0 m e) _)
  unfold head iblk
  rw [View.read_apply]
  show V m e main_arg0 _ = V m e main_arg0 _
  congr 1
  blk_ext [index t]
  rfl

theorem kvs1 (t : Fin cfg0.N) : (iblk m e 1 t : S256x1024.Idx → EReal) = kvs m e := by
  funext i
  refine Eq.trans ?_ (congrFun (V_main_arg1 m e) _)
  unfold iblk
  rw [View.read_apply]
  show V m e main_arg1 _ = V m e main_arg1 _
  congr 1
  blk_ext [index t]

/-- The array after the run is the attention's output. -/
theorem final : (dats m 0 e).arrAt 2 cfg0.N = outArr (qs m e) (kvs m e) := by
  refine (dats m 0 e).arrAt_eq_of_covers 2 _ (by decide +kernel) fun t hf y => ?_
  blk_simp
  rw [after0_2]
  obtain ⟨r, c, rfl⟩ : ∃ (r : Fin 512) (c : Fin 512), y = ix2 r c := ⟨y 0, y 1, eq_ix2 y⟩
  rw [show (win0_2.blk t).view.emb (ix2 r c) = ix2 (at_ t r) c from by
    blk_ext [index t, at_]]
  have hc : c.val = (⟨c.val / 128, by omega⟩ : Fin 4).val * 128 + (⟨c.val % 128, by omega⟩ : Fin 128).val := by dsimp only; omega
  rw [outArr_head _ _ (at_ t r) _ _ c hc]
  refine (congrFun (out_block _ _) (ix2 r c)).trans ?_
  rw [outArr_head _ _ r _ _ c hc, kvs1]
  unfold outAt
  rw [head0]

/-- The run of the kernel: the attention's output, and the arguments unchanged. -/
theorem run (ρ : Dev nD → PrngReg) : θ_run defs (onTc (τ := τ) (main (F := Ideal))) ⟨m, fun _ => 0, ρ⟩ fun r => ∀ e : Dev nD,
      r.2.mem ((e : Thread nD τ).loc main_v0) = outArr (qs m e) (kvs m e)
      ∧ r.2.mem ((e : Thread nD τ).loc main_arg0) = m ((e : Thread nD τ).loc main_arg0)
      ∧ r.2.mem ((e : Thread nD τ).loc main_arg1) = m ((e : Thread nD τ).loc main_arg1) :=
  (θ_run defs _ _).mono (fun _ h e => ⟨(h e).1.trans (final m e), (h e).2⟩)
    (run_blocks m ρ)

end Cert.MemoryOutput

end
-- ==== Proof.MemoryFwdEquation.lean ====
/-
  The value claim of the memory attention's forward call: read on finite queries and keys, the kernel's result is the
  reference's.
-/
module

public import proofs.«01_k».proof.Defs
public import proofs.«01_k».proof.Proof.MemoryOutput
public import proofs.«01_k».proof.Proof.MemoryEquation
public import proofs.«01_k».proof.Proof.Gen.MemoryFwdRefIdeal.Read
public import proofs.«01_k».proof.Proof.Gen.MemoryFwdRefIdeal.Run
public import proofs.«01_k».proof.Proof.Gen.Pre_mem_fwd_finite

@[expose] public section

noncomputable section

namespace Cert.MemoryFwdEquation

open Cert.MemoryFwdRefIdeal.Read Idealize.ShloMosaic Idealize.ShloMosaic.TcCoe Idealize.SL.Sem
open Cert.MemoryRow Cert.MemoryBlock Cert.MemoryOutput

section Reference

open Cert.MemoryFwdRefIdeal Cert.MemoryFwdRefIdeal.Gen

variable (x0 : S4096x512.Idx → EReal) (x1 : S256x1024.Idx → EReal)

/-- The probabilities are those the backward reference computes from the same queries and keys. -/
theorem prob_chain : val_main_v18 (F := Ideal) x0 x1 = Cert.MemoryGradIdeal.Read.val_main_v32 (F := Ideal) x0 x1 := rfl

theorem out_at (hq : ∀ h r x, IsReal (head x0 h r x)) (hk : ∀ h j x, IsReal (keys x1 h j x)) :
    val_main_v22 (F := Ideal) x0 x1 = outArr x0 x1 := by
  funext i
  obtain ⟨r, d, rfl⟩ : ∃ (r : Fin 4096) (d : Fin 512), i = ix2 r d := ⟨i 0, i 1, eq_ix2 i⟩
  have hp := fun h j => (congrFun (prob_chain x0 x1) (ix3 h r j)).trans (MemoryReference.prob_at x0 x1 h r (hq h r) (hk h) j)
  have hd : d.val = (⟨d.val / 128, by omega⟩ : Fin 4).val * 128 + (⟨d.val % 128, by omega⟩ : Fin 128).val := by dsimp only; omega
  rw [outArr_head _ _ r _ _ d hd]
  unfold outAt vals
  unfold val_main_v22 val_main_v21 val_main_v20 val_main_v19 val_main_v4 val_main_v3
  generalize val_main_v18 (F := Ideal) x0 x1 = y at hp ⊢
  pointwise [dot_S256x4x128_S4x4096x256_S4x128x4096_0_2_2_1_1_0]
  refine Finset.sum_congr rfl fun x _ => ?_
  rw [hp, mul_comm]
  congr 3
  apply Fin.ext
  dsimp only
  omega

end Reference

/-- Where the precondition holds the queries and the keys are real numbers. -/
theorem finite_of_pre (x0 : Pre_mem_fwd_finite.S4096x512.Idx → EReal) (x1 : Pre_mem_fwd_finite.S256x1024.Idx → EReal)
    (h : Cert.Pre_mem_fwd_finite.fn (F := Ideal) x0 x1 = fun _ => 1#1) :
    (∀ i, IsReal (x0 i)) ∧ ∀ (j : Fin 256) (d : Fin 512), IsReal (x1 (ix2 j ⟨d.val, by omega⟩)) :=
  MemoryEquation.finite_of_pre x0 x1 x0 h

/-- The kernel's result and the reference's from memories that agree on the arguments. -/
theorem algebraic : Cert.algebraic_MemoryFwdIdeal_MemoryFwdRefIdeal_pre_mem_fwd_finite (hMemoryFwdIdeal := Cert.MemoryFwdIdeal.Gen.facts)
    (hMemoryFwdRefIdeal := Cert.MemoryFwdRefIdeal.Gen.facts) (hPre_mem_fwd_finite := Cert.Pre_mem_fwd_finite.Gen.facts) := by
  intro m ρ m' ρ' hpre hargs
  refine ⟨fun c => outArr (qs m c) (kvs m c), MemoryOutput.run m ρ, ?_⟩
  refine (θ_run (Cert.MemoryFwdRefIdeal.defs (F := Ideal)) _ _).mono (fun r h c => ?_) (Cert.MemoryFwdRefIdeal.Value.run (F := Ideal) m' ρ')
  obtain ⟨hx, hkept⟩ := h c
  obtain ⟨a0, a1⟩ := hargs c
  have hf := finite_of_pre _ _ (hpre c)
  refine ⟨hx.trans ?_, hkept⟩
  rw [val_main_v22_eq, a0, a1]
  exact out_at _ _ (fun h r x => hf.1 _) (fun h j x => hf.2 j ⟨h.val * 128 + x.val, by omega⟩)

end Cert.MemoryFwdEquation

end
-- ==== Proof.GateFwdArray.lean ====
/-
  What the result array of the gated sum's kernel holds after its twelve grid points, index by index of the arguments.
-/
module

public import proofs.«01_k».proof.Proof.GateColumn
public import proofs.«01_k».proof.Proof.Gen.GateFwdIdeal.Value
public import Idealize.ShloMosaic.Lib.Tactic
public import Idealize.ShloMosaic.Lib.Pipeline.ReadBack
public import Idealize.ShloMosaic.Lib.Pipeline.ValueKit
public import Idealize.ShloMosaic.Lib.Pipeline.ValueKit.Acc

@[expose] public section

noncomputable section

namespace Cert.GateFwdArray

open Cert.GateFwdIdeal Cert.GateFwdIdeal.Gen Cert.GateFwdIdeal.Value Idealize.ShloMosaic Idealize.ShloMosaic.TcCoe Idealize.SL.Sem
open Cert.GateColumn

/-! ## The payloads of the body's stores, at an index -/

theorem reset_at (r : Fin 4096) (c : Fin 256) : k0_pay1 (F := Ideal) (ix2 r c) = 0 := by
  unfold k0_pay1
  pointwise

theorem step_at (a : Vec Ideal S4096x256 .f32) (x : Vec Ideal S4096x256 .bf16) (b : Vec Ideal S1x4096x256 .bf16) (r : Fin 4096) (c : Fin 256) :
    k0_pay2 (F := Ideal) a x b (ix2 r c) = a (ix2 r c) + Ideal.logistic (x (ix2 r c)) * b (ix3 0 r c) := by
  unfold k0_pay2
  pointwise

theorem copy_at (a : Vec Ideal S4096x256 .f32) (r : Fin 4096) (c : Fin 256) : k0_pay3 (F := Ideal) a (ix2 r c) = a (ix2 r c) := by
  unfold k0_pay3
  pointwise

variable (m : (ℓ : Loc nD τ sig) → Buf (Elt Ideal) ℓ) (e : Dev nD)

/-- The projection and the branches. -/
abbrev xs : S4096x5376.Idx → EReal := m ((e : Thread nD τ).loc main_arg0)
abbrev bs : S3x4096x1024.Idx → EReal := m ((e : Thread nD τ).loc main_arg1)

theorem lt12 (t : Fin cfg0.N) : t.val < 12 := Nat.lt_of_lt_of_eq t.isLt N_0

/-- The branch of point `t`, and channel `c` of its block. -/
def branch (t : Fin cfg0.N) : Fin 3 := ⟨t.val % 3, by omega⟩
def chan (t : Fin cfg0.N) (c : Fin 256) : Fin 1024 := ⟨t.val / 3 * 256 + c.val, by have := lt12 t; omega⟩

theorem index : ∀ t : Fin cfg0.N, (win0_0.index t 0 = 0 ∧ win0_0.index t 1 = 9 + (t.val % 3 * 4 + t.val / 3)) ∧ (win0_1.index t 0 = t.val % 3 ∧ win0_1.index t 1 = 0 ∧ win0_1.index t 2 = t.val / 3) ∧ (win0_2.index t 0 = 0 ∧ win0_2.index t 1 = t.val / 3) := by
  decide +kernel

/-! ## The blocks of the two arguments -/

theorem read0 (t : Fin cfg0.N) (r : Fin 4096) (c : Fin 256) : (iblk m e 0 t : S4096x256.Idx → EReal) (ix2 r c) = xs m e (ix2 r (gateCol (branch t) (chan t c))) := by
  refine Eq.trans ?_ (congrFun (V_main_arg0 m e) _)
  unfold iblk
  rw [View.read_apply]
  show V m e main_arg0 _ = V m e main_arg0 _
  congr 1
  blk_ext [index t]
  show _ = 2304 + (t.val % 3 * 1024 + (t.val / 3 * 256 + c.val))
  omega

theorem read1 (t : Fin cfg0.N) (r : Fin 4096) (c : Fin 256) : (iblk m e 1 t : S1x4096x256.Idx → EReal) (ix3 0 r c) = bs m e (ix3 (branch t) r (chan t c)) := by
  refine Eq.trans ?_ (congrFun (V_main_arg1 m e) _)
  unfold iblk
  rw [View.read_apply]
  show V m e main_arg1 _ = V m e main_arg1 _
  congr 1
  blk_ext [index t]
  all_goals rfl

/-- The gated sum of the branches. -/
def result : S4096x1024.Idx → EReal := fun i => ∑ k, gate (xs m e) k (i 0) (i 1) * bs m e (ix3 k (i 0) (i 1))

/-- What point `t` adds to the running sum. -/
def part (t : Fin cfg0.N) (y : S4096x256.Idx) : EReal :=
  Ideal.logistic ((iblk m e 0 t : S4096x256.Idx → EReal) (ix2 (y 0) (y 1))) * (iblk m e 1 t : S1x4096x256.Idx → EReal) (ix3 0 (y 0) (y 1))

theorem part_at (t : Fin cfg0.N) (r : Fin 4096) (c : Fin 256) :
    part m e t (ix2 r c) = gate (xs m e) (branch t) r (chan t c) * bs m e (ix3 (branch t) r (chan t c)) := by
  show Ideal.logistic ((iblk m e 0 t : S4096x256.Idx → EReal) (ix2 r c)) * (iblk m e 1 t : S1x4096x256.Idx → EReal) (ix3 0 r c) = _
  rw [read0, read1]
  rfl

/-- One point's step, from a running sum read back out of the scratch. -/
theorem step_part (t : Fin cfg0.N) (a : Vec Ideal S4096x256 .f32) (r : Fin 4096) (c : Fin 256) :
    k0_pay2 (F := Ideal) a (iblk m e 0 t) (iblk m e 1 t) (ix2 r c) = a (ix2 r c) + part m e t (ix2 r c) :=
  step_at _ _ _ r c

/-- A point that continues a block adds its part, at the last branch or before it. -/
theorem later (t : Fin cfg0.N) (h : ¬t.val % 3 = 0) (r : Fin 4096) (c : Fin 256) :
    (outsAt0 m e t.val t.isLt).2 (ix2 r c) = (outsAt0 m e (t.val - 1) (Nat.lt_of_le_of_lt (Nat.sub_le _ _) t.isLt)).2 (ix2 r c) + part m e t (ix2 r c) := by
  by_cases h2 : t.val % 3 = 2
  · rw [outsAt0_C m e t h h2]
    frame_out
    exact (step_part m e t _ r c).trans (congrArg (· + part m e t (ix2 r c)) (congrFun ((Memref.isWhole_whole cc0_scratch0).read_unread _) _))
  · rw [outsAt0_B m e t h h2]
    frame_out
    exact (step_part m e t _ r c).trans (congrArg (· + part m e t (ix2 r c)) (congrFun ((Memref.isWhole_whole cc0_scratch0).read_unread _) _))

/-- The running sum at a block's last point: what its three points add. -/
theorem running (t : Fin cfg0.N) (hr : t.val % 3 = 2) (r : Fin 4096) (c : Fin 256) :
    (outsAt0 m e t.val t.isLt).2 (ix2 r c) = ∑ s : Fin 3, part m e ⟨3 * (t.val / 3) + s.val, by have := lt12 t; have hN : cfg0.N = 12 := N_0; omega⟩ (ix2 r c) := by
  rw [Pipeline.eq_sum_fin_of_reset_step_apply_of_flush (fun n h => (outsAt0 m e n h).2) 3 (fun _ => (0 : EReal)) (part m e)
      (fun t h y => by
        obtain ⟨r, c, rfl⟩ : ∃ (r : Fin 4096) (c : Fin 256), y = ix2 r c := ⟨y 0, y 1, eq_ix2 y⟩
        rw [outsAt0_A m e t h (by omega)]
        frame_out
        exact (step_part m e t _ r c).trans (congrArg (fun z : EReal => z + part m e t (ix2 r c)) (reset_at r c)))
      (fun t h y => by
        obtain ⟨r, c, rfl⟩ : ∃ (r : Fin 4096) (c : Fin 256), y = ix2 r c := ⟨y 0, y 1, eq_ix2 y⟩
        exact later m e t h r c) t hr (ix2 r c), zero_add]

/-- A block's last point writes back the running sum. -/
theorem written (t : Fin cfg0.N) (hr : t.val % 3 = 2) (r : Fin 4096) (c : Fin 256) :
    (outsAt0 m e t.val t.isLt).1 (ix2 r c) = (outsAt0 m e t.val t.isLt).2 (ix2 r c) := by
  rw [later m e t (by omega) r c, outsAt0_C m e t (by omega) hr]
  frame_out
  exact (copy_at _ r c).trans ((step_part m e t _ r c).trans (congrArg (· + part m e t (ix2 r c)) (congrFun ((Memref.isWhole_whole cc0_scratch0).read_unread _) _)))

/-- The array after the run is the gated sum. -/
theorem final : (dats m 0 e).arrAt 2 cfg0.N = result m e := by
  refine (dats m 0 e).arrAt_eq_of_covers 2 _ (by decide +kernel) fun t hf y => ?_
  blk_simp
  rw [after0_2]
  have hr : t.val % 3 = 2 := (flush0_2 t).mp hf
  obtain ⟨r, c, rfl⟩ : ∃ (r : Fin 4096) (c : Fin 256), y = ix2 r c := ⟨y 0, y 1, eq_ix2 y⟩
  rw [show (win0_2.blk t).view.emb (ix2 r c) = ix2 r (chan t c) from by
    blk_ext [index t, chan]]
  rw [written m e t hr, running m e t hr]
  show _ = ∑ k, gate (xs m e) k r (chan t c) * bs m e (ix3 k r (chan t c))
  refine Finset.sum_congr rfl fun s _ => ?_
  rw [part_at]
  have hb : branch ⟨3 * (t.val / 3) + s.val, by have := lt12 t; have hN : cfg0.N = 12 := N_0; omega⟩ = s :=
    Fin.ext (show (3 * (t.val / 3) + s.val) % 3 = s.val by omega)
  have hc : chan ⟨3 * (t.val / 3) + s.val, by have := lt12 t; have hN : cfg0.N = 12 := N_0; omega⟩ c = chan t c :=
    Fin.ext (show (3 * (t.val / 3) + s.val) / 3 * 256 + c.val = t.val / 3 * 256 + c.val by omega)
  rw [hb, hc]

/-- The run of the kernel: the gated sum, and the arguments unchanged. -/
theorem run (ρ : Dev nD → PrngReg) : θ_run defs (onTc (τ := τ) (main (F := Ideal))) ⟨m, fun _ => 0, ρ⟩ fun r => ∀ e : Dev nD,
      r.2.mem ((e : Thread nD τ).loc main_v0) = result m e
      ∧ r.2.mem ((e : Thread nD τ).loc main_arg0) = m ((e : Thread nD τ).loc main_arg0)
      ∧ r.2.mem ((e : Thread nD τ).loc main_arg1) = m ((e : Thread nD τ).loc main_arg1) :=
  (θ_run defs _ _).mono (fun _ h e => ⟨(h e).1.trans (final m e), (h e).2⟩)
    (run_blocks m ρ)

end Cert.GateFwdArray

end
-- ==== Proof.GateFwdEquation.lean ====
/-
  The value claim of the gated sum: the reference read at an index, and the kernel's result is its.
-/
module

public import proofs.«01_k».proof.Defs
public import proofs.«01_k».proof.Proof.GateFwdArray
public import proofs.«01_k».proof.Proof.Gen.GateFwdRefIdeal.Read
public import proofs.«01_k».proof.Proof.Gen.GateFwdRefIdeal.Run

@[expose] public section

noncomputable section

namespace Cert.GateFwdEquation

open Cert.GateFwdRefIdeal.Read Idealize.ShloMosaic Idealize.ShloMosaic.TcCoe Idealize.SL.Sem
open Cert.GateColumn Cert.GateFwdArray

section Reference

open Cert.GateFwdRefIdeal Cert.GateFwdRefIdeal.Gen

variable (x : S4096x5376.Idx → Elt Ideal .bf16) (b : S3x4096x1024.Idx → Elt Ideal .bf16) (k : Fin 3) (r : Fin 4096) (c : Fin 1024)

theorem ref_gate : val_main_v10 (F := Ideal) x (ix3 r k c) = gate x k r c := by
  unfold val_main_v10 val_main_v9 val_main_v8 val_main_v7 val_main_v6 val_main_v5 val_main_v4 val_main_v1 val_main_v0 val_main_cst val_main_cst_0
  pointwise
  unfold gate Ideal.logistic
  rfl

theorem ref_sum : val_main_v13 (F := Ideal) x b (ix2 r c) = ∑ k, gate x k r c * b (ix3 k r c) := by
  unfold val_main_v13 val_main_v12 val_main_v11 val_main_v3 val_main_v2 val_main_cst_1
  pointwise [ref_gate]

end Reference

/-- The kernel's result and the reference's from memories that agree on the arguments. -/
theorem algebraic : Cert.algebraic_GateFwdIdeal_GateFwdRefIdeal (hGateFwdIdeal := Cert.GateFwdIdeal.Gen.facts)
    (hGateFwdRefIdeal := Cert.GateFwdRefIdeal.Gen.facts) := by
  intro m ρ m' ρ' _ hargs
  refine ⟨fun c => result m c, GateFwdArray.run m ρ, ?_⟩
  refine (θ_run (Cert.GateFwdRefIdeal.defs (F := Ideal)) _ _).mono (fun r h c => ?_) (Cert.GateFwdRefIdeal.Value.run (F := Ideal) m' ρ')
  obtain ⟨hx, hkept⟩ := h c
  obtain ⟨a0, a1⟩ := hargs c
  refine ⟨hx.trans ?_, hkept⟩
  rw [val_main_v13_eq, a0, a1]
  funext i
  exact (congrArg _ (eq_ix2 i)).trans (ref_sum _ _ (i 0) (i 1))

end Cert.GateFwdEquation

end
-- ==== Proof.NormFwdArray.lean ====
/-
  What the two result arrays of the normalisation's forward kernel hold after its eight grid points, row by row of the
  arguments.
-/
module

public import proofs.«01_k».proof.Proof.NormRow
public import proofs.«01_k».proof.Proof.Gen.NormFwdIdeal.Value
public import Idealize.ShloMosaic.Lib.Pointwise
public import Idealize.ShloMosaic.Lib.Tactic
public import Idealize.ShloMosaic.Lib.Pipeline.ReadBack
public import Idealize.ShloMosaic.Lib.Pipeline.ValueKit
public import Idealize.ShloMosaic.Lib.StableHlo.Run

@[expose] public section

noncomputable section

namespace Cert.NormFwdArray

open Cert.NormFwdIdeal Cert.NormFwdIdeal.Gen Cert.NormFwdIdeal.Value Idealize.ShloMosaic Idealize.ShloMosaic.TcCoe Idealize.SL.Sem
open Cert.NormRow

/-! ## The payloads of the body's stores, row by row -/

section Payloads

variable (x : Vec Ideal S512x1024 .f32) (y : Vec Ideal S512x1024 .bf16) (p q : Vec Ideal S1x1024 .f32) (r : Fin 512) (c : Fin 1024)

theorem next_at : k0_pay1 (F := Ideal) x y p (ix2 r c) = next (row x r) (row y r) (row p 0) c := by
  unfold k0_pay1
  pointwise
  rfl

theorem normed_at : k0_pay2 (F := Ideal) x y p q (ix2 r c) = unit (next (row x r) (row y r) (row p 0)) c * row q 0 c := by
  unfold k0_pay2
  pointwise [next_at]
  rfl

end Payloads

variable (m : (ℓ : Loc nD τ sig) → Buf (Elt Ideal) ℓ) (e : Dev nD)

/-- The arguments: the residual rows, the added rows and the two gains. -/
abbrev xs : S4096x1024.Idx → EReal := m ((e : Thread nD τ).loc main_arg0)
abbrev ys : S4096x1024.Idx → EReal := m ((e : Thread nD τ).loc main_arg1)
abbrev ps : S1024.Idx → EReal := m ((e : Thread nD τ).loc main_arg2)
abbrev qs : S1024.Idx → EReal := m ((e : Thread nD τ).loc main_arg3)

theorem lt8 (t : Fin cfg0.N) : t.val < 8 := Nat.lt_of_lt_of_eq t.isLt N_0

/-- Row `r` of block `t`. -/
def at_ (t : Fin cfg0.N) (r : Fin 512) : Fin 4096 := ⟨t.val * 512 + r.val, by have := lt8 t; omega⟩

/-- The host's copies of the gains, as one row each. -/
theorem host_p (c : Fin 1024) : (V m e main_v0 : S1x1024.Idx → EReal) (ix2 0 c) = ps m e (ix1 c) := by
  show StableHlo.after (List.flatten [hostOps0]) (fun b => m (e, b)) main_v0 (ix2 0 c) = _
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_results
  generalize hx : m (e, Proc.tc.devRef main_arg2) = x
  refine Eq.trans ?_ (congrFun hx (ix1 c)).symm
  pointwise

theorem host_q (c : Fin 1024) : (V m e main_v1 : S1x1024.Idx → EReal) (ix2 0 c) = qs m e (ix1 c) := by
  show StableHlo.after (List.flatten [hostOps0]) (fun b => m (e, b)) main_v1 (ix2 0 c) = _
  simp only [hostOps0, List.flatten_cons, List.flatten_nil, List.cons_append, List.nil_append, List.append_nil, StableHlo.TRef.binary, StableHlo.TRef.nullary, StableHlo.TRef.unary, StableHlo.TRef.toBuf, StableHlo.TRef.ofBuf, cast_eq]
  after_results
  generalize hx : m (e, Proc.tc.devRef main_arg3) = x
  refine Eq.trans ?_ (congrFun hx (ix1 c)).symm
  pointwise

theorem index : ∀ t : Fin cfg0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = 0 ∧ win0_3.index t 1 = 0) ∧ (win0_4.index t 0 = t.val ∧ win0_4.index t 1 = 0) ∧ (win0_5.index t 0 = t.val ∧ win0_5.index t 1 = 0) := by
  decide +kernel

/-! ## Each window's block of rows is those rows of its array -/

theorem row0 (t : Fin cfg0.N) (r : Fin 512) : row (iblk m e 0 t : S512x1024.Idx → EReal) r = row (xs m e) (at_ t r) := by
  funext c
  refine Eq.trans ?_ (congrFun (V_main_arg0 m e) _)
  unfold row iblk
  rw [View.read_apply]
  show V m e main_arg0 _ = V m e main_arg0 _
  congr 1
  blk_ext [index t]
  rfl

theorem row1 (t : Fin cfg0.N) (r : Fin 512) : row (iblk m e 1 t : S512x1024.Idx → EReal) r = row (ys m e) (at_ t r) := by
  funext c
  refine Eq.trans ?_ (congrFun (V_main_arg1 m e) _)
  unfold row iblk
  rw [View.read_apply]
  show V m e main_arg1 _ = V m e main_arg1 _
  congr 1
  blk_ext [index t]
  rfl

theorem row2 (t : Fin cfg0.N) : row (iblk m e 2 t : S1x1024.Idx → EReal) 0 = gain (ps m e) := by
  funext c
  refine Eq.trans ?_ (host_p m e c)
  unfold row iblk
  rw [View.read_apply]
  show V m e main_v0 _ = V m e main_v0 _
  congr 1
  blk_ext [index t]

theorem row3 (t : Fin cfg0.N) : row (iblk m e 3 t : S1x1024.Idx → EReal) 0 = gain (qs m e) := by
  funext c
  refine Eq.trans ?_ (host_q m e c)
  unfold row iblk
  rw [View.read_apply]
  show V m e main_v1 _ = V m e main_v1 _
  congr 1
  blk_ext [index t]

/-! ## The results -/

/-- Row `s` of the residual after the added row. -/
def after (s : Fin 4096) : Fin 1024 → EReal := next (row (xs m e) s) (row (ys m e) s) (gain (ps m e))

def nextResult : S4096x1024.Idx → EReal := fun i => after m e (i 0) (i 1)
def normedResult : S4096x1024.Idx → EReal := fun i => unit (after m e (i 0)) (i 1) * gain (qs m e) (i 1)

theorem final_next : (dats m 0 e).arrAt 4 cfg0.N = nextResult m e := by
  refine (dats m 0 e).arrAt_eq_of_covers 4 _ (by decide +kernel) fun t hf y => ?_
  blk_simp
  rw [after0_4]
  frame_out
  obtain ⟨r, c, rfl⟩ : ∃ (r : Fin 512) (c : Fin 1024), y = ix2 r c := ⟨y 0, y 1, eq_ix2 y⟩
  rw [show (win0_4.blk t).view.emb (ix2 r c) = ix2 (at_ t r) c from by
    blk_ext [index t, at_]]
  show _ = after m e (at_ t r) c
  unfold after
  rw [← row0, ← row1, ← row2 m e t]
  exact next_at _ _ _ r c

theorem final_normed : (dats m 0 e).arrAt 5 cfg0.N = normedResult m e := by
  refine (dats m 0 e).arrAt_eq_of_covers 5 _ (by decide +kernel) fun t hf y => ?_
  blk_simp
  rw [after0_5]
  frame_out
  obtain ⟨r, c, rfl⟩ : ∃ (r : Fin 512) (c : Fin 1024), y = ix2 r c := ⟨y 0, y 1, eq_ix2 y⟩
  rw [show (win0_5.blk t).view.emb (ix2 r c) = ix2 (at_ t r) c from by
    blk_ext [index t, at_]]
  show _ = unit (after m e (at_ t r)) c * gain (qs m e) c
  unfold after
  rw [← row0, ← row1, ← row2 m e t, ← row3 m e t]
  exact normed_at _ _ _ _ r c

/-- The run of the kernel: both results, row by row, and the arguments unchanged. -/
theorem run (ρ : Dev nD → PrngReg) : θ_run defs (onTc (τ := τ) (main (F := Ideal))) ⟨m, fun _ => 0, ρ⟩ fun r => ∀ e : Dev nD,
      r.2.mem ((e : Thread nD τ).loc main_v2_0) = nextResult m e
      ∧ r.2.mem ((e : Thread nD τ).loc main_v2_1) = normedResult m e
      ∧ r.2.mem ((e : Thread nD τ).loc main_arg0) = m ((e : Thread nD τ).loc main_arg0)
      ∧ r.2.mem ((e : Thread nD τ).loc main_arg1) = m ((e : Thread nD τ).loc main_arg1)
      ∧ r.2.mem ((e : Thread nD τ).loc main_arg2) = m ((e : Thread nD τ).loc main_arg2)
      ∧ r.2.mem ((e : Thread nD τ).loc main_arg3) = m ((e : Thread nD τ).loc main_arg3) :=
  (θ_run defs _ _).mono (fun _ h e => ⟨(h e).1.trans (final_next m e), (h e).2.1.trans (final_normed m e), (h e).2.2⟩)
    (run_blocks m ρ)

end Cert.NormFwdArray

end
-- ==== Proof.NormFwdEquation.lean ====
/-
  The value claim of the normalisation's forward call: the reference read row by row, and the kernel's two results are its.
-/
module

public import proofs.«01_k».proof.Defs
public import proofs.«01_k».proof.Proof.NormFwdArray
public import proofs.«01_k».proof.Proof.Gen.NormFwdRefIdeal.Read
public import proofs.«01_k».proof.Proof.Gen.NormFwdRefIdeal.Run
public import Idealize.ShloMosaic.Lib.Pointwise
public import Idealize.ShloMosaic.Lib.Tactic

@[expose] public section

noncomputable section

namespace Cert.NormFwdEquation

open Cert.NormFwdRefIdeal.Read Idealize.ShloMosaic Idealize.ShloMosaic.TcCoe Idealize.SL.Sem
open Cert.NormRow Cert.NormFwdArray

section Reference

open Cert.NormFwdRefIdeal Cert.NormFwdRefIdeal.Gen

variable (x : S4096x1024.Idx → Elt Ideal .f32) (y : S4096x1024.Idx → Elt Ideal .bf16) (p q : S1024.Idx → Elt Ideal .f32) (r : Fin 4096) (c : Fin 1024)

theorem ref_next : val_main_v14 (F := Ideal) x y p (ix2 r c) = next (row x r) (row y r) (gain p) c := by
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

theorem ref_normed : val_main_v28 (F := Ideal) x y p q (ix2 r c) = unit (next (row x r) (row y r) (gain p)) c * gain q c := by
  unfold val_main_v28 val_main_v27 val_main_v26 val_main_v25 val_main_v24 val_main_v23 val_main_v22 val_main_v21 val_main_v20 val_main_v19 val_main_v18 val_main_v17 val_main_v16 val_main_v15 val_main_cst_2 val_main_cst_3 val_main_cst_4
  pointwise [ref_next]
  rfl

end Reference

/-- The kernel's results and the reference's from memories that agree on the arguments. -/
theorem algebraic : Cert.algebraic_NormFwdIdeal_NormFwdRefIdeal (hNormFwdIdeal := Cert.NormFwdIdeal.Gen.facts)
    (hNormFwdRefIdeal := Cert.NormFwdRefIdeal.Gen.facts) := by
  intro m ρ m' ρ' _ hargs
  refine ⟨fun c => nextResult m c, fun c => normedResult m c, NormFwdArray.run m ρ, ?_⟩
  refine (θ_run (Cert.NormFwdRefIdeal.defs (F := Ideal)) _ _).mono (fun r h c => ?_) (Cert.NormFwdRefIdeal.Value.run (F := Ideal) m' ρ')
  obtain ⟨hx, hh, hkept⟩ := h c
  obtain ⟨a0, a1, a2, a3⟩ := hargs c
  refine ⟨hx.trans ?_, hh.trans ?_, hkept⟩
  · rw [val_main_v14_eq, a0, a1, a2]
    funext i
    exact (congrArg _ (eq_ix2 i)).trans (ref_next _ _ _ (i 0) (i 1))
  · rw [val_main_v28_eq, a0, a1, a2, a3]
    funext i
    exact (congrArg _ (eq_ix2 i)).trans (ref_normed _ _ _ _ (i 0) (i 1))

end Cert.NormFwdEquation

end
-- ==== Proof.BranchProjDxEquation.lean ====
/-
  The gradient of the branches is, branch by branch, the gradient's rows by the weight's rows. The kernel takes the weights transposed,
  so its blocks are rows by columns.
-/
module

public import proofs.«01_k».proof.Defs
public import proofs.«01_k».proof.Proof.Products
public import proofs.«01_k».proof.Proof.Gen.BranchProjDxIdeal.Value
public import proofs.«01_k».proof.Proof.Gen.BranchProjDxRefIdeal.Run
public import proofs.«01_k».proof.Proof.Gen.BranchProjDxRefIdeal.Read

@[expose] public section

noncomputable section

namespace Cert.BranchProjDxEquation

open Idealize.ShloMosaic Idealize.ShloMosaic.TcCoe Idealize.SL.Sem Cert.Products

section Kernel

open Cert.BranchProjDxIdeal Cert.BranchProjDxIdeal.Gen Cert.BranchProjDxIdeal.Value

variable (m : (ℓ : Loc nD τ sig) → Buf (Elt Ideal) ℓ) (e : Dev nD)

abbrev ct : Stack 3 4096 1024 := m ((e : Thread nD τ).loc main_arg2)
abbrev weights : Stack 3 512 1024 := m ((e : Thread nD τ).loc main_arg1)

theorem payload (x : Stack 1 2048 1024) (w : Stack 1 1024 512) :
    k0_pay1 (F := Ideal) x w = stack fun b => nn (layer x b) (layer w b) :=
  stack_ext fun z r n => by obtain rfl : z = 0 := Subsingleton.elim _ _; unfold k0_pay1; pointwise [dot_S2048x1024_S1024x512_S2048x512_1_0_0_1_n_n]; rfl

/-- The host transposes each branch's weight. -/
theorem host : (V m e main_v1 : Stack 3 1024 512) = fun i => weights m e (ix3 (i 0) (i 2) (i 1)) :=
  stack_ext fun b k n => by
    dsimp only [V, hostOps0]
    after_results
    generalize hx : m (e, Proc.tc.devRef main_arg1) = x
    refine Eq.trans ?_ (congrFun hx (ix3 b n k)).symm
    pointwise

theorem index : ∀ t : Fin cfg0.N,
    (win0_0.index t 0 = t.val / 2 ∧ win0_0.index t 1 = t.val % 2 ∧ win0_0.index t 2 = 0)
    ∧ (win0_1.index t 0 = t.val / 2 ∧ win0_1.index t 1 = 0 ∧ win0_1.index t 2 = 0)
    ∧ win0_2.index t 0 = t.val / 2 ∧ win0_2.index t 1 = t.val % 2 ∧ win0_2.index t 2 = 0 := by
  decide +kernel

theorem final : (dats m 0 e).arrAt 2 cfg0.N = stack fun b => nt (layer (ct m e) b) (layer (weights m e) b) := by
  refine (dats m 0 e).arrAt_eq_of_covers 2 _ (by decide +kernel) fun t hf y => ?_
  blk_simp
  rw [after0_2]
  frame_out
  refine ((congrFun (payload _ _) y).trans (stack_nn _ _ _)).trans ((sum_mul_congr (fun k => ?_) fun k => ?_).trans (stack_nt _ _ _).symm)
  · exact (congrFun (V_main_arg2 m e) _).trans (congrArg (ct m e) (by blk_ext [index t]))
  · exact (congrFun (host m e) _).trans (congrArg (weights m e) (by blk_ext [index t]))

end Kernel

open Cert.BranchProjDxRefIdeal Cert.BranchProjDxRefIdeal.Read in
theorem reference (x : Stack 3 4096 1024) (w : Stack 3 512 1024) :
    val_main_v12 (F := Ideal) w x = stack fun b => nt (layer x b) (layer w b) :=
  stack_ext fun b r n => by
    unfold val_main_v12 val_main_v11 val_main_v8 val_main_v7 val_main_v6 val_main_v5 val_main_v4
    pointwise [dot_S3x1024x4096_S3x512x1024_S3x4096x512_1_2_2_1_0_0]
    rfl

theorem algebraic : Cert.algebraic_BranchProjDxIdeal_BranchProjDxRefIdeal (hBranchProjDxIdeal := Cert.BranchProjDxIdeal.Gen.facts)
    (hBranchProjDxRefIdeal := Cert.BranchProjDxRefIdeal.Gen.facts) := fun m ρ m' ρ' _ hargs =>
  ⟨_, (θ_run _ _ _).mono (fun _ h c => ⟨(h c).1.trans (final m c), (h c).2⟩) (Cert.BranchProjDxIdeal.Value.run_blocks m ρ),
    (θ_run _ _ _).mono (fun _ h c => ⟨(h c).1.trans (by
      rw [Cert.BranchProjDxRefIdeal.Read.val_main_v12_eq, (hargs c).2.1, (hargs c).2.2]
      exact reference _ _), (h c).2⟩) (Cert.BranchProjDxRefIdeal.Value.run (F := Ideal) m' ρ')⟩

end Cert.BranchProjDxEquation

end
-- ==== Proof.BranchProjDwEquation.lean ====
/-
  The gradient of the branches' weights, as the kernel returns it (each transposed), is, branch by branch, the gradient's columns by the
  branch's columns.
-/
module

public import proofs.«01_k».proof.Defs
public import proofs.«01_k».proof.Proof.Products
public import proofs.«01_k».proof.Proof.Gen.BranchProjDwIdeal.Value
public import proofs.«01_k».proof.Proof.Gen.BranchProjDwRefIdeal.Run
public import proofs.«01_k».proof.Proof.Gen.BranchProjDwRefIdeal.Read

@[expose] public section

noncomputable section

namespace Cert.BranchProjDwEquation

open Idealize.ShloMosaic Idealize.ShloMosaic.TcCoe Idealize.SL.Sem Cert.Products

section Kernel

open Cert.BranchProjDwIdeal Cert.BranchProjDwIdeal.Gen Cert.BranchProjDwIdeal.Value

variable (m : (ℓ : Loc nD τ sig) → Buf (Elt Ideal) ℓ) (e : Dev nD)

abbrev branches : Stack 3 4096 512 := m ((e : Thread nD τ).loc main_arg0)
abbrev ct : Stack 3 4096 1024 := m ((e : Thread nD τ).loc main_arg2)

theorem payload (x w : Stack 1 4096 512) : k0_pay1 (F := Ideal) x w = stack fun b => tn (layer x b) (layer w b) :=
  stack_ext fun z r n => by obtain rfl : z = 0 := Subsingleton.elim _ _; unfold k0_pay1; pointwise [dot_S4096x512_S4096x512_S512x512_0_0_1_1_n_n]; rfl

theorem index : ∀ t : Fin cfg0.N,
    (win0_0.index t 0 = t.val / 2 ∧ win0_0.index t 1 = 0 ∧ win0_0.index t 2 = t.val % 2)
    ∧ (win0_1.index t 0 = t.val / 2 ∧ win0_1.index t 1 = 0 ∧ win0_1.index t 2 = 0)
    ∧ win0_2.index t 0 = t.val / 2 ∧ win0_2.index t 1 = t.val % 2 ∧ win0_2.index t 2 = 0 := by
  decide +kernel

theorem final : (dats m 0 e).arrAt 2 cfg0.N = stack fun b => tn (layer (ct m e) b) (layer (branches m e) b) := by
  refine (dats m 0 e).arrAt_eq_of_covers 2 _ (by decide +kernel) fun t hf y => ?_
  blk_simp
  rw [after0_2]
  frame_out
  refine ((congrFun (payload _ _) y).trans (stack_tn _ _ _)).trans ((sum_mul_congr (fun k => ?_) fun k => ?_).trans (stack_tn _ _ _).symm)
  · exact (congrFun (V_main_arg2 m e) _).trans (congrArg (ct m e) (by blk_ext [index t]))
  · exact (congrFun (V_main_arg0 m e) _).trans (congrArg (branches m e) (by blk_ext [index t]))

end Kernel

open Cert.BranchProjDwRefIdeal Cert.BranchProjDwRefIdeal.Read in
theorem reference (x : Stack 3 4096 512) (g : Stack 3 4096 1024) :
    val_main_v12 (F := Ideal) x g = stack fun b => tn (layer g b) (layer x b) :=
  stack_ext fun b r n => by
    unfold val_main_v12 val_main_v11 val_main_v10 val_main_v9 val_main_v6 val_main_v5 val_main_v4 val_main_v1 val_main_v0
    pointwise [dot_S3x1024x4096_S4096x3x512_S3x1024x512_2_0_1_2_0_1]
    rfl

theorem algebraic : Cert.algebraic_BranchProjDwIdeal_BranchProjDwRefIdeal (hBranchProjDwIdeal := Cert.BranchProjDwIdeal.Gen.facts)
    (hBranchProjDwRefIdeal := Cert.BranchProjDwRefIdeal.Gen.facts) := fun m ρ m' ρ' _ hargs =>
  ⟨_, (θ_run _ _ _).mono (fun _ h c => ⟨(h c).1.trans (final m c), (h c).2⟩) (Cert.BranchProjDwIdeal.Value.run_blocks m ρ),
    (θ_run _ _ _).mono (fun _ h c => ⟨(h c).1.trans (by
      rw [Cert.BranchProjDwRefIdeal.Read.val_main_v12_eq, (hargs c).1, (hargs c).2.2]
      exact reference _ _), (h c).2⟩) (Cert.BranchProjDwRefIdeal.Value.run (F := Ideal) m' ρ')⟩

end Cert.BranchProjDwEquation

end
-- ==== Proof.OutProjDxEquation.lean ====
/-
  The gradient of the output projection's input is the gradient's rows by the weight's rows, in the kernel and in the reference.
-/
module

public import proofs.«01_k».proof.Defs
public import proofs.«01_k».proof.Proof.Products
public import proofs.«01_k».proof.Proof.Gen.OutProjDxIdeal.Value
public import proofs.«01_k».proof.Proof.Gen.OutProjDxRefIdeal.Run
public import proofs.«01_k».proof.Proof.Gen.OutProjDxRefIdeal.Read

@[expose] public section

noncomputable section

namespace Cert.OutProjDxEquation

open Idealize.ShloMosaic Idealize.ShloMosaic.TcCoe Idealize.SL.Sem Cert.Products

section Kernel

open Cert.OutProjDxIdeal Cert.OutProjDxIdeal.Gen Cert.OutProjDxIdeal.Value

variable (m : (ℓ : Loc nD τ sig) → Buf (Elt Ideal) ℓ) (e : Dev nD)

abbrev ct : Mat 4096 1024 := m ((e : Thread nD τ).loc main_arg2)
abbrev weight : Mat 1024 1024 := m ((e : Thread nD τ).loc main_arg1)

theorem payload (x : Mat 2048 1024) (w : Stack 1 1024 1024) : k0_pay1 (F := Ideal) x w = nt x (layer w 0) :=
  mat_ext fun r n => by unfold k0_pay1; pointwise [dot_S2048x1024_S1024x1024_S2048x1024_1_1_0_0_n_n]; rfl

/-- The host hands the weight on as a stack of one layer. -/
theorem host : (V m e main_v1 : Stack 1 1024 1024) = fun i => weight m e (ix2 (i 1) (i 2)) :=
  stack_ext fun z n k => by
    dsimp only [V, hostOps0]
    after_results
    generalize hx : m (e, Proc.tc.devRef main_arg1) = x
    refine Eq.trans ?_ (congrFun hx (ix2 n k)).symm
    pointwise

theorem index : ∀ t : Fin cfg0.N, (win0_0.index t 0 = t.val ∧ win0_0.index t 1 = 0) ∧ (win0_1.index t 1 = 0 ∧ win0_1.index t 2 = 0)
    ∧ win0_2.index t 0 = t.val ∧ win0_2.index t 1 = 0 := by
  decide +kernel

theorem final : (dats m 0 e).arrAt 2 cfg0.N = nt (ct m e) (weight m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg2 m e) _).trans (congrArg (ct m e) (by blk_ext [index t]))
  · exact (congrFun (host m e) _).trans (congrArg (weight m e) (by blk_ext [index t]))

end Kernel

open Cert.OutProjDxRefIdeal Cert.OutProjDxRefIdeal.Read in
theorem reference (x : Mat 4096 1024) (w : Mat 1024 1024) : val_main_v6 (F := Ideal) w x = nt x w :=
  mat_ext fun r n => by
    unfold val_main_v6 val_main_v5 val_main_v2
    pointwise [dot_S4096x1024_S1024x1024_S4096x1024_1_1_0_0_n_n]
    rfl

theorem algebraic : Cert.algebraic_OutProjDxIdeal_OutProjDxRefIdeal (hOutProjDxIdeal := Cert.OutProjDxIdeal.Gen.facts)
    (hOutProjDxRefIdeal := Cert.OutProjDxRefIdeal.Gen.facts) := fun m ρ m' ρ' _ hargs =>
  ⟨_, (θ_run _ _ _).mono (fun _ h c => ⟨(h c).1.trans (final m c), (h c).2⟩) (Cert.OutProjDxIdeal.Value.run_blocks m ρ),
    (θ_run _ _ _).mono (fun _ h c => ⟨(h c).1.trans (by
      rw [Cert.OutProjDxRefIdeal.Read.val_main_v6_eq, (hargs c).2.1, (hargs c).2.2]
      exact reference _ _), (h c).2⟩) (Cert.OutProjDxRefIdeal.Value.run (F := Ideal) m' ρ')⟩

end Cert.OutProjDxEquation

end
-- ==== Proof.OutProjDwEquation.lean ====
/-
  The gradient of the output projection's weight is the merged activations' columns by the gradient's columns, in the kernel and in
  the reference.
-/
module

public import proofs.«01_k».proof.Defs
public import proofs.«01_k».proof.Proof.Products
public import proofs.«01_k».proof.Proof.Gen.OutProjDwIdeal.Value
public import proofs.«01_k».proof.Proof.Gen.OutProjDwRefIdeal.Run
public import proofs.«01_k».proof.Proof.Gen.OutProjDwRefIdeal.Read

@[expose] public section

noncomputable section

namespace Cert.OutProjDwEquation

open Idealize.ShloMosaic Idealize.ShloMosaic.TcCoe Idealize.SL.Sem Cert.Products

section Kernel

open Cert.OutProjDwIdeal Cert.OutProjDwIdeal.Gen Cert.OutProjDwIdeal.Value

variable (m : (ℓ : Loc nD τ sig) → Buf (Elt Ideal) ℓ) (e : Dev nD)

abbrev merged : Mat 4096 1024 := m ((e : Thread nD τ).loc main_arg0)
abbrev ct : Mat 4096 1024 := m ((e : Thread nD τ).loc main_arg2)

theorem payload (x : Mat 4096 512) (w : Mat 4096 1024) : k0_pay1 (F := Ideal) x w = tn x w :=
  mat_ext fun r n => by unfold k0_pay1; pointwise [dot_S4096x512_S4096x1024_S512x1024_0_0_1_1_n_n]; rfl

theorem index : ∀ t : Fin cfg0.N, (win0_0.index t 0 = 0 ∧ win0_0.index t 1 = t.val) ∧ (win0_1.index t 0 = 0 ∧ win0_1.index t 1 = 0)
    ∧ win0_2.index t 0 = t.val ∧ win0_2.index t 1 = 0 := by
  decide +kernel

theorem final : (dats m 0 e).arrAt 2 cfg0.N = tn (merged m e) (ct m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg0 m e) _).trans (congrArg (merged m e) (by blk_ext [index t]))
  · exact (congrFun (V_main_arg2 m e) _).trans (congrArg (ct m e) (by blk_ext [index t]))

end Kernel

open Cert.OutProjDwRefIdeal Cert.OutProjDwRefIdeal.Read in
theorem reference (x : Mat 4096 1024) (g : Mat 4096 1024) : val_main_v6 (F := Ideal) x g = tn x g :=
  mat_ext fun r n => by
    unfold val_main_v6 val_main_v4 val_main_v3 val_main_v2 val_main_v0
    pointwise [dot_S4096x1024_S4096x1024_S1024x1024_0_0_1_1_n_n]
    exact sum_mul_comm _ _

theorem algebraic : Cert.algebraic_OutProjDwIdeal_OutProjDwRefIdeal (hOutProjDwIdeal := Cert.OutProjDwIdeal.Gen.facts)
    (hOutProjDwRefIdeal := Cert.OutProjDwRefIdeal.Gen.facts) := fun m ρ m' ρ' _ hargs =>
  ⟨_, (θ_run _ _ _).mono (fun _ h c => ⟨(h c).1.trans (final m c), (h c).2⟩) (Cert.OutProjDwIdeal.Value.run_blocks m ρ),
    (θ_run _ _ _).mono (fun _ h c => ⟨(h c).1.trans (by
      rw [Cert.OutProjDwRefIdeal.Read.val_main_v6_eq, (hargs c).1, (hargs c).2.2]
      exact reference _ _), (h c).2⟩) (Cert.OutProjDwRefIdeal.Value.run (F := Ideal) m' ρ')⟩

end Cert.OutProjDwEquation

end
-- ==== Proof.MemQDxEquation.lean ====
/-
  The gradient of the query projection's input is the gradient's rows by the weight's rows, in the kernel and in the reference.
-/
module

public import proofs.«01_k».proof.Defs
public import proofs.«01_k».proof.Proof.Products
public import proofs.«01_k».proof.Proof.Gen.MemQDxIdeal.Value
public import proofs.«01_k».proof.Proof.Gen.MemQDxRefIdeal.Run
public import proofs.«01_k».proof.Proof.Gen.MemQDxRefIdeal.Read

@[expose] public section

noncomputable section

namespace Cert.MemQDxEquation

open Idealize.ShloMosaic Idealize.ShloMosaic.TcCoe Idealize.SL.Sem Cert.Products

section Kernel

open Cert.MemQDxIdeal Cert.MemQDxIdeal.Gen Cert.MemQDxIdeal.Value

variable (m : (ℓ : Loc nD τ sig) → Buf (Elt Ideal) ℓ) (e : Dev nD)

abbrev ct : Mat 4096 512 := m ((e : Thread nD τ).loc main_arg2)
abbrev weight : Mat 1024 512 := m ((e : Thread nD τ).loc main_arg1)

theorem payload (x : Mat 2048 512) (w : Stack 1 1024 512) : k0_pay1 (F := Ideal) x w = nt x (layer w 0) :=
  mat_ext fun r n => by unfold k0_pay1; pointwise [dot_S2048x512_S1024x512_S2048x1024_1_1_0_0_n_n]; rfl

/-- The host hands the weight on as a stack of one layer. -/
theorem host : (V m e main_v1 : Stack 1 1024 512) = fun i => weight m e (ix2 (i 1) (i 2)) :=
  stack_ext fun z n k => by
    dsimp only [V, hostOps0]
    after_results
    generalize hx : m (e, Proc.tc.devRef main_arg1) = x
    refine Eq.trans ?_ (congrFun hx (ix2 n k)).symm
    pointwise

theorem index : ∀ t : Fin cfg0.N, (win0_0.index t 0 = t.val ∧ win0_0.index t 1 = 0) ∧ (win0_1.index t 1 = 0 ∧ win0_1.index t 2 = 0)
    ∧ win0_2.index t 0 = t.val ∧ win0_2.index t 1 = 0 := by
  decide +kernel

theorem final : (dats m 0 e).arrAt 2 cfg0.N = nt (ct m e) (weight m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg2 m e) _).trans (congrArg (ct m e) (by blk_ext [index t]))
  · exact (congrFun (host m e) _).trans (congrArg (weight m e) (by blk_ext [index t]))

end Kernel

open Cert.MemQDxRefIdeal Cert.MemQDxRefIdeal.Read in
theorem reference (x : Mat 4096 512) (w : Mat 1024 512) : val_main_v6 (F := Ideal) w x = nt x w :=
  mat_ext fun r n => by
    unfold val_main_v6 val_main_v5 val_main_v2
    pointwise [dot_S4096x512_S1024x512_S4096x1024_1_1_0_0_n_n]
    rfl

theorem algebraic : Cert.algebraic_MemQDxIdeal_MemQDxRefIdeal (hMemQDxIdeal := Cert.MemQDxIdeal.Gen.facts)
    (hMemQDxRefIdeal := Cert.MemQDxRefIdeal.Gen.facts) := fun m ρ m' ρ' _ hargs =>
  ⟨_, (θ_run _ _ _).mono (fun _ h c => ⟨(h c).1.trans (final m c), (h c).2⟩) (Cert.MemQDxIdeal.Value.run_blocks m ρ),
    (θ_run _ _ _).mono (fun _ h c => ⟨(h c).1.trans (by
      rw [Cert.MemQDxRefIdeal.Read.val_main_v6_eq, (hargs c).2.1, (hargs c).2.2]
      exact reference _ _), (h c).2⟩) (Cert.MemQDxRefIdeal.Value.run (F := Ideal) m' ρ')⟩

end Cert.MemQDxEquation

end
-- ==== Proof.MemQDwEquation.lean ====
/-
  The gradient of the query projection's weight is the input's columns by the gradient's columns, in the kernel and in the reference.
-/
module

public import proofs.«01_k».proof.Defs
public import proofs.«01_k».proof.Proof.Products
public import proofs.«01_k».proof.Proof.Gen.MemQDwIdeal.Value
public import proofs.«01_k».proof.Proof.Gen.MemQDwRefIdeal.Run
public import proofs.«01_k».proof.Proof.Gen.MemQDwRefIdeal.Read

@[expose] public section

noncomputable section

namespace Cert.MemQDwEquation

open Idealize.ShloMosaic Idealize.ShloMosaic.TcCoe Idealize.SL.Sem Cert.Products

section Kernel

open Cert.MemQDwIdeal Cert.MemQDwIdeal.Gen Cert.MemQDwIdeal.Value

variable (m : (ℓ : Loc nD τ sig) → Buf (Elt Ideal) ℓ) (e : Dev nD)

abbrev acts : Mat 4096 1024 := m ((e : Thread nD τ).loc main_arg0)
abbrev ct : Mat 4096 512 := m ((e : Thread nD τ).loc main_arg2)

theorem payload (x : Mat 4096 512) (w : Mat 4096 512) : k0_pay1 (F := Ideal) x w = tn x w :=
  mat_ext fun r n => by unfold k0_pay1; pointwise [dot_S4096x512_S4096x512_S512x512_0_0_1_1_n_n]; rfl

theorem index : ∀ t : Fin cfg0.N, (win0_0.index t 0 = 0 ∧ win0_0.index t 1 = t.val) ∧ (win0_1.index t 0 = 0 ∧ win0_1.index t 1 = 0)
    ∧ win0_2.index t 0 = t.val ∧ win0_2.index t 1 = 0 := by
  decide +kernel

theorem final : (dats m 0 e).arrAt 2 cfg0.N = tn (acts m e) (ct m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg0 m e) _).trans (congrArg (acts m e) (by blk_ext [index t]))
  · exact (congrFun (V_main_arg2 m e) _).trans (congrArg (ct m e) (by blk_ext [index t]))

end Kernel

open Cert.MemQDwRefIdeal Cert.MemQDwRefIdeal.Read in
theorem reference (x : Mat 4096 1024) (g : Mat 4096 512) : val_main_v6 (F := Ideal) x g = tn x g :=
  mat_ext fun r n => by
    unfold val_main_v6 val_main_v4 val_main_v3 val_main_v2 val_main_v0
    pointwise [dot_S4096x512_S4096x1024_S512x1024_0_0_1_1_n_n]
    exact sum_mul_comm _ _

theorem algebraic : Cert.algebraic_MemQDwIdeal_MemQDwRefIdeal (hMemQDwIdeal := Cert.MemQDwIdeal.Gen.facts)
    (hMemQDwRefIdeal := Cert.MemQDwRefIdeal.Gen.facts) := fun m ρ m' ρ' _ hargs =>
  ⟨_, (θ_run _ _ _).mono (fun _ h c => ⟨(h c).1.trans (final m c), (h c).2⟩) (Cert.MemQDwIdeal.Value.run_blocks m ρ),
    (θ_run _ _ _).mono (fun _ h c => ⟨(h c).1.trans (by
      rw [Cert.MemQDwRefIdeal.Read.val_main_v6_eq, (hargs c).1, (hargs c).2.2]
      exact reference _ _), (h c).2⟩) (Cert.MemQDwRefIdeal.Value.run (F := Ideal) m' ρ')⟩

end Cert.MemQDwEquation

end
-- ==== Proof.MemODxEquation.lean ====
/-
  The gradient of the input of the memory's output projection is the gradient's rows by the weight's rows. The kernel takes the weight
  transposed, so its blocks are rows by columns.
-/
module

public import proofs.«01_k».proof.Defs
public import proofs.«01_k».proof.Proof.Products
public import proofs.«01_k».proof.Proof.Gen.MemODxIdeal.Value
public import proofs.«01_k».proof.Proof.Gen.MemODxRefIdeal.Run
public import proofs.«01_k».proof.Proof.Gen.MemODxRefIdeal.Read

@[expose] public section

noncomputable section

namespace Cert.MemODxEquation

open Idealize.ShloMosaic Idealize.ShloMosaic.TcCoe Idealize.SL.Sem Cert.Products

section Kernel

open Cert.MemODxIdeal Cert.MemODxIdeal.Gen Cert.MemODxIdeal.Value

variable (m : (ℓ : Loc nD τ sig) → Buf (Elt Ideal) ℓ) (e : Dev nD)

abbrev ct : Mat 4096 1024 := m ((e : Thread nD τ).loc main_arg2)
abbrev weight : Mat 512 1024 := m ((e : Thread nD τ).loc main_arg1)

theorem payload (x : Mat 2048 1024) (w : Stack 1 1024 512) : k0_pay1 (F := Ideal) x w = nn x (layer w 0) :=
  mat_ext fun r n => by unfold k0_pay1; pointwise [dot_S2048x1024_S1024x512_S2048x512_1_0_0_1_n_n]; rfl

/-- The host transposes the weight and hands it on as a stack of one layer. -/
theorem host : (V m e main_v2 : Stack 1 1024 512) = fun i => weight m e (ix2 (i 2) (i 1)) :=
  stack_ext fun z k n => by
    dsimp only [V, hostOps0]
    after_results
    generalize hx : m (e, Proc.tc.devRef main_arg1) = x
    refine Eq.trans ?_ (congrFun hx (ix2 n k)).symm
    pointwise

theorem index : ∀ t : Fin cfg0.N, (win0_0.index t 0 = t.val ∧ win0_0.index t 1 = 0) ∧ (win0_1.index t 1 = 0 ∧ win0_1.index t 2 = 0)
    ∧ win0_2.index t 0 = t.val ∧ win0_2.index t 1 = 0 := by
  decide +kernel

theorem final : (dats m 0 e).arrAt 2 cfg0.N = nt (ct m e) (weight m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg2 m e) _).trans (congrArg (ct m e) (by blk_ext [index t]))
  · exact (congrFun (host m e) _).trans (congrArg (weight m e) (by blk_ext [index t]))

end Kernel

open Cert.MemODxRefIdeal Cert.MemODxRefIdeal.Read in
theorem reference (x : Mat 4096 1024) (w : Mat 512 1024) : val_main_v6 (F := Ideal) w x = nt x w :=
  mat_ext fun r n => by
    unfold val_main_v6 val_main_v5 val_main_v2
    pointwise [dot_S4096x1024_S512x1024_S4096x512_1_1_0_0_n_n]
    rfl

theorem algebraic : Cert.algebraic_MemODxIdeal_MemODxRefIdeal (hMemODxIdeal := Cert.MemODxIdeal.Gen.facts)
    (hMemODxRefIdeal := Cert.MemODxRefIdeal.Gen.facts) := fun m ρ m' ρ' _ hargs =>
  ⟨_, (θ_run _ _ _).mono (fun _ h c => ⟨(h c).1.trans (final m c), (h c).2⟩) (Cert.MemODxIdeal.Value.run_blocks m ρ),
    (θ_run _ _ _).mono (fun _ h c => ⟨(h c).1.trans (by
      rw [Cert.MemODxRefIdeal.Read.val_main_v6_eq, (hargs c).2.1, (hargs c).2.2]
      exact reference _ _), (h c).2⟩) (Cert.MemODxRefIdeal.Value.run (F := Ideal) m' ρ')⟩

end Cert.MemODxEquation

end
-- ==== Proof.MemODwEquation.lean ====
/-
  The gradient of the weight of the memory's output projection, as the kernel returns it (transposed), is the gradient's columns by
  the input's columns, in the kernel and in the reference.
-/
module

public import proofs.«01_k».proof.Defs
public import proofs.«01_k».proof.Proof.Products
public import proofs.«01_k».proof.Proof.Gen.MemODwIdeal.Value
public import proofs.«01_k».proof.Proof.Gen.MemODwRefIdeal.Run
public import proofs.«01_k».proof.Proof.Gen.MemODwRefIdeal.Read

@[expose] public section

noncomputable section

namespace Cert.MemODwEquation

open Idealize.ShloMosaic Idealize.ShloMosaic.TcCoe Idealize.SL.Sem Cert.Products

section Kernel

open Cert.MemODwIdeal Cert.MemODwIdeal.Gen Cert.MemODwIdeal.Value

variable (m : (ℓ : Loc nD τ sig) → Buf (Elt Ideal) ℓ) (e : Dev nD)

abbrev acts : Mat 4096 512 := m ((e : Thread nD τ).loc main_arg0)
abbrev ct : Mat 4096 1024 := m ((e : Thread nD τ).loc main_arg2)

theorem payload (x : Mat 4096 512) (w : Mat 4096 512) : k0_pay1 (F := Ideal) x w = tn x w :=
  mat_ext fun r n => by unfold k0_pay1; pointwise [dot_S4096x512_S4096x512_S512x512_0_0_1_1_n_n]; rfl

theorem index : ∀ t : Fin cfg0.N, (win0_0.index t 0 = 0 ∧ win0_0.index t 1 = t.val) ∧ (win0_1.index t 0 = 0 ∧ win0_1.index t 1 = 0)
    ∧ win0_2.index t 0 = t.val ∧ win0_2.index t 1 = 0 := by
  decide +kernel

theorem final : (dats m 0 e).arrAt 2 cfg0.N = tn (ct m e) (acts m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg2 m e) _).trans (congrArg (ct m e) (by blk_ext [index t]))
  · exact (congrFun (V_main_arg0 m e) _).trans (congrArg (acts m e) (by blk_ext [index t]))

end Kernel

open Cert.MemODwRefIdeal Cert.MemODwRefIdeal.Read in
theorem reference (x : Mat 4096 512) (g : Mat 4096 1024) : val_main_v7 (F := Ideal) x g = tn g x :=
  mat_ext fun r n => by
    unfold val_main_v7 val_main_v6 val_main_v4 val_main_v3 val_main_v2 val_main_v0
    pointwise [dot_S4096x1024_S4096x512_S1024x512_0_0_1_1_n_n]
    rfl

theorem algebraic : Cert.algebraic_MemODwIdeal_MemODwRefIdeal (hMemODwIdeal := Cert.MemODwIdeal.Gen.facts)
    (hMemODwRefIdeal := Cert.MemODwRefIdeal.Gen.facts) := fun m ρ m' ρ' _ hargs =>
  ⟨_, (θ_run _ _ _).mono (fun _ h c => ⟨(h c).1.trans (final m c), (h c).2⟩) (Cert.MemODwIdeal.Value.run_blocks m ρ),
    (θ_run _ _ _).mono (fun _ h c => ⟨(h c).1.trans (by
      rw [Cert.MemODwRefIdeal.Read.val_main_v7_eq, (hargs c).1, (hargs c).2.2]
      exact reference _ _), (h c).2⟩) (Cert.MemODwRefIdeal.Value.run (F := Ideal) m' ρ')⟩

end Cert.MemODwEquation

end
-- ==== Proof.MemKvDxEquation.lean ====
/-
  The gradient of the input of the memory's key and value projection is the gradient's rows by the weight's rows; the kernel makes
  it at one grid point.
-/
module

public import proofs.«01_k».proof.Defs
public import proofs.«01_k».proof.Proof.Products
public import proofs.«01_k».proof.Proof.Gen.MemKvDxIdeal.Value
public import proofs.«01_k».proof.Proof.Gen.MemKvDxRefIdeal.Run
public import proofs.«01_k».proof.Proof.Gen.MemKvDxRefIdeal.Read

@[expose] public section

noncomputable section

namespace Cert.MemKvDxEquation

open Idealize.ShloMosaic Idealize.ShloMosaic.TcCoe Idealize.SL.Sem Cert.Products

section Kernel

open Cert.MemKvDxIdeal Cert.MemKvDxIdeal.Gen Cert.MemKvDxIdeal.Value

variable (m : (ℓ : Loc nD τ sig) → Buf (Elt Ideal) ℓ) (e : Dev nD)

abbrev ct : Mat 256 1024 := m ((e : Thread nD τ).loc main_arg2)
abbrev weight : Mat 1024 1024 := m ((e : Thread nD τ).loc main_arg1)

theorem payload (x : Mat 256 1024) (w : Stack 1 1024 1024) : k0_pay1 (F := Ideal) x w = nt x (layer w 0) :=
  mat_ext fun r n => by unfold k0_pay1; pointwise [dot_S256x1024_S1024x1024_S256x1024_1_1_0_0_n_n]; rfl

/-- The host hands the weight on as a stack of one layer. -/
theorem host : (V m e main_v1 : Stack 1 1024 1024) = fun i => weight m e (ix2 (i 1) (i 2)) :=
  stack_ext fun z n k => by
    dsimp only [V, hostOps0]
    after_results
    generalize hx : m (e, Proc.tc.devRef main_arg1) = x
    refine Eq.trans ?_ (congrFun hx (ix2 n k)).symm
    pointwise

theorem index : ∀ t : Fin cfg0.N, (win0_0.index t 0 = 0 ∧ win0_0.index t 1 = 0) ∧ (win0_1.index t 1 = 0 ∧ win0_1.index t 2 = 0)
    ∧ win0_2.index t 0 = 0 ∧ win0_2.index t 1 = 0 := by
  decide +kernel

theorem final : (dats m 0 e).arrAt 2 cfg0.N = nt (ct m e) (weight m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg2 m e) _).trans (congrArg (ct m e) (by blk_ext [index t]))
  · exact (congrFun (host m e) _).trans (congrArg (weight m e) (by blk_ext [index t]))

end Kernel

open Cert.MemKvDxRefIdeal Cert.MemKvDxRefIdeal.Read in
theorem reference (x : Mat 256 1024) (w : Mat 1024 1024) : val_main_v4 (F := Ideal) w x = nt x w :=
  mat_ext fun r n => by
    unfold val_main_v4
    pointwise [dot_S256x1024_S1024x1024_S256x1024_1_1_0_0_n_n]
    rfl

theorem algebraic : Cert.algebraic_MemKvDxIdeal_MemKvDxRefIdeal (hMemKvDxIdeal := Cert.MemKvDxIdeal.Gen.facts)
    (hMemKvDxRefIdeal := Cert.MemKvDxRefIdeal.Gen.facts) := fun m ρ m' ρ' _ hargs =>
  ⟨_, (θ_run _ _ _).mono (fun _ h c => ⟨(h c).1.trans (final m c), (h c).2⟩) (Cert.MemKvDxIdeal.Value.run_blocks m ρ),
    (θ_run _ _ _).mono (fun _ h c => ⟨(h c).1.trans (by
      rw [Cert.MemKvDxRefIdeal.Read.val_main_v4_eq, (hargs c).2.1, (hargs c).2.2]
      exact reference _ _), (h c).2⟩) (Cert.MemKvDxRefIdeal.Value.run (F := Ideal) m' ρ')⟩

end Cert.MemKvDxEquation

end
-- ==== Proof.MemKvDwEquation.lean ====
/-
  The gradient of the weight of the memory's key and value projection is the tokens' columns by the gradient's columns; the kernel
  makes it at one grid point.
-/
module

public import proofs.«01_k».proof.Defs
public import proofs.«01_k».proof.Proof.Products
public import proofs.«01_k».proof.Proof.Gen.MemKvDwIdeal.Value
public import proofs.«01_k».proof.Proof.Gen.MemKvDwRefIdeal.Run
public import proofs.«01_k».proof.Proof.Gen.MemKvDwRefIdeal.Read

@[expose] public section

noncomputable section

namespace Cert.MemKvDwEquation

open Idealize.ShloMosaic Idealize.ShloMosaic.TcCoe Idealize.SL.Sem Cert.Products

section Kernel

open Cert.MemKvDwIdeal Cert.MemKvDwIdeal.Gen Cert.MemKvDwIdeal.Value

variable (m : (ℓ : Loc nD τ sig) → Buf (Elt Ideal) ℓ) (e : Dev nD)

abbrev tokens : Mat 256 1024 := m ((e : Thread nD τ).loc main_arg0)
abbrev ct : Mat 256 1024 := m ((e : Thread nD τ).loc main_arg2)

theorem payload (x w : Mat 256 1024) : k0_pay1 (F := Ideal) x w = tn x w :=
  mat_ext fun r n => by unfold k0_pay1; pointwise [dot_S256x1024_S256x1024_S1024x1024_0_0_1_1_n_n]; rfl

theorem index : ∀ t : Fin cfg0.N, (win0_0.index t 0 = 0 ∧ win0_0.index t 1 = 0) ∧ (win0_1.index t 0 = 0 ∧ win0_1.index t 1 = 0)
    ∧ win0_2.index t 0 = 0 ∧ win0_2.index t 1 = 0 := by
  decide +kernel

theorem final : (dats m 0 e).arrAt 2 cfg0.N = tn (tokens m e) (ct m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg0 m e) _).trans (congrArg (tokens m e) (by blk_ext [index t]))
  · exact (congrFun (V_main_arg2 m e) _).trans (congrArg (ct m e) (by blk_ext [index t]))

end Kernel

open Cert.MemKvDwRefIdeal Cert.MemKvDwRefIdeal.Read in
theorem reference (x g : Mat 256 1024) : val_main_v5 (F := Ideal) x g = tn x g :=
  mat_ext fun r n => by
    unfold val_main_v5 val_main_v3 val_main_v2 val_main_v0
    pointwise [dot_S256x1024_S256x1024_S1024x1024_0_0_1_1_n_n]
    exact sum_mul_comm _ _

theorem algebraic : Cert.algebraic_MemKvDwIdeal_MemKvDwRefIdeal (hMemKvDwIdeal := Cert.MemKvDwIdeal.Gen.facts)
    (hMemKvDwRefIdeal := Cert.MemKvDwRefIdeal.Gen.facts) := fun m ρ m' ρ' _ hargs =>
  ⟨_, (θ_run _ _ _).mono (fun _ h c => ⟨(h c).1.trans (final m c), (h c).2⟩) (Cert.MemKvDwIdeal.Value.run_blocks m ρ),
    (θ_run _ _ _).mono (fun _ h c => ⟨(h c).1.trans (by
      rw [Cert.MemKvDwRefIdeal.Read.val_main_v5_eq, (hargs c).1, (hargs c).2.2]
      exact reference _ _), (h c).2⟩) (Cert.MemKvDwRefIdeal.Value.run (F := Ideal) m' ρ')⟩

end Cert.MemKvDwEquation

end
-- ==== Proof.BranchProjEquation.lean ====
/-
  The branches' products are, branch by branch, rows by the weight's columns. The kernel takes the weights transposed, so its blocks are
  rows by rows.
-/
module

public import proofs.«01_k».proof.Defs
public import proofs.«01_k».proof.Proof.Products
public import proofs.«01_k».proof.Proof.Gen.BranchProjIdeal.Value
public import proofs.«01_k».proof.Proof.Gen.BranchProjRefIdeal.Run
public import proofs.«01_k».proof.Proof.Gen.BranchProjRefIdeal.Read

@[expose] public section

noncomputable section

namespace Cert.BranchProjEquation

open Idealize.ShloMosaic Idealize.ShloMosaic.TcCoe Idealize.SL.Sem Cert.Products

section Kernel

open Cert.BranchProjIdeal Cert.BranchProjIdeal.Gen Cert.BranchProjIdeal.Value

variable (m : (ℓ : Loc nD τ sig) → Buf (Elt Ideal) ℓ) (e : Dev nD)

abbrev branches : Stack 3 4096 512 := m ((e : Thread nD τ).loc main_arg0)
abbrev weights : Stack 3 512 1024 := m ((e : Thread nD τ).loc main_arg1)

theorem payload (x : Stack 1 2048 512) (w : Stack 1 1024 512) :
    k0_pay1 (F := Ideal) x w = stack fun b => nt (layer x b) (layer w b) :=
  stack_ext fun z r n => by obtain rfl : z = 0 := Subsingleton.elim _ _; unfold k0_pay1; pointwise [dot_S2048x512_S1024x512_S2048x1024_1_1_0_0_n_n]; rfl

/-- The host transposes each branch's weight. -/
theorem host : (V m e main_v1 : Stack 3 1024 512) = fun i => weights m e (ix3 (i 0) (i 2) (i 1)) :=
  stack_ext fun b n k => by
    dsimp only [V, hostOps0]
    after_results
    generalize hx : m (e, Proc.tc.devRef main_arg1) = x
    refine Eq.trans ?_ (congrFun hx (ix3 b k n)).symm
    pointwise

theorem index : ∀ t : Fin cfg0.N,
    (win0_0.index t 0 = t.val / 2 ∧ win0_0.index t 1 = t.val % 2 ∧ win0_0.index t 2 = 0)
    ∧ (win0_1.index t 0 = t.val / 2 ∧ win0_1.index t 1 = 0 ∧ win0_1.index t 2 = 0)
    ∧ win0_2.index t 0 = t.val / 2 ∧ win0_2.index t 1 = t.val % 2 ∧ win0_2.index t 2 = 0 := by
  decide +kernel

theorem final : (dats m 0 e).arrAt 2 cfg0.N = stack fun b => nn (layer (branches m e) b) (layer (weights m e) b) := by
  refine (dats m 0 e).arrAt_eq_of_covers 2 _ (by decide +kernel) fun t hf y => ?_
  blk_simp
  rw [after0_2]
  frame_out
  refine ((congrFun (payload _ _) y).trans (stack_nt _ _ _)).trans ((sum_mul_congr (fun k => ?_) fun k => ?_).trans (stack_nn _ _ _).symm)
  · exact (congrFun (V_main_arg0 m e) _).trans (congrArg (branches m e) (by blk_ext [index t]))
  · exact (congrFun (host m e) _).trans (congrArg (weights m e) (by blk_ext [index t]))

end Kernel

open Cert.BranchProjRefIdeal Cert.BranchProjRefIdeal.Read in
theorem reference (x : Stack 3 4096 512) (w : Stack 3 512 1024) :
    val_main_v5 (F := Ideal) x w = stack fun b => nn (layer x b) (layer w b) :=
  stack_ext fun b r n => by
    unfold val_main_v5 val_main_v4 val_main_v3 val_main_v2 val_main_v1 val_main_v0
    pointwise [dot_S3x512x1024_S4096x3x512_S3x1024x4096_1_2_2_0_0_1]
    exact sum_mul_comm _ _

theorem algebraic : Cert.algebraic_BranchProjIdeal_BranchProjRefIdeal (hBranchProjIdeal := Cert.BranchProjIdeal.Gen.facts)
    (hBranchProjRefIdeal := Cert.BranchProjRefIdeal.Gen.facts) := fun m ρ m' ρ' _ hargs =>
  ⟨_, (θ_run _ _ _).mono (fun _ h c => ⟨(h c).1.trans (final m c), (h c).2⟩) (Cert.BranchProjIdeal.Value.run_blocks m ρ),
    (θ_run _ _ _).mono (fun _ h c => ⟨(h c).1.trans (by
      rw [Cert.BranchProjRefIdeal.Read.val_main_v5_eq, (hargs c).1, (hargs c).2]
      exact reference _ _), (h c).2⟩) (Cert.BranchProjRefIdeal.Value.run (F := Ideal) m' ρ')⟩

end Cert.BranchProjEquation

end
-- ==== Proof.OutProjEquation.lean ====
/-
  The output projection is rows by the weight's columns, in the kernel and in the reference.
-/
module

public import proofs.«01_k».proof.Defs
public import proofs.«01_k».proof.Proof.Products
public import proofs.«01_k».proof.Proof.Gen.OutProjIdeal.Value
public import proofs.«01_k».proof.Proof.Gen.OutProjRefIdeal.Run
public import proofs.«01_k».proof.Proof.Gen.OutProjRefIdeal.Read

@[expose] public section

noncomputable section

namespace Cert.OutProjEquation

open Idealize.ShloMosaic Idealize.ShloMosaic.TcCoe Idealize.SL.Sem Cert.Products

section Kernel

open Cert.OutProjIdeal Cert.OutProjIdeal.Gen Cert.OutProjIdeal.Value

variable (m : (ℓ : Loc nD τ sig) → Buf (Elt Ideal) ℓ) (e : Dev nD)

abbrev merged : Mat 4096 1024 := m ((e : Thread nD τ).loc main_arg0)
abbrev weight : Mat 1024 1024 := m ((e : Thread nD τ).loc main_arg1)

theorem payload (x : Mat 2048 1024) (w : Stack 1 1024 1024) : k0_pay1 (F := Ideal) x w = nn x (layer w 0) :=
  mat_ext fun r n => by unfold k0_pay1; pointwise [dot_S2048x1024_S1024x1024_S2048x1024_1_0_0_1_n_n]; rfl

/-- The host hands the weight on as a stack of one layer. -/
theorem host : (V m e main_v1 : Stack 1 1024 1024) = fun i => weight m e (ix2 (i 1) (i 2)) :=
  stack_ext fun z k n => by
    dsimp only [V, hostOps0]
    after_results
    generalize hx : m (e, Proc.tc.devRef main_arg1) = x
    refine Eq.trans ?_ (congrFun hx (ix2 k n)).symm
    pointwise

theorem index : ∀ t : Fin cfg0.N, (win0_0.index t 0 = t.val ∧ win0_0.index t 1 = 0) ∧ (win0_1.index t 1 = 0 ∧ win0_1.index t 2 = 0)
    ∧ win0_2.index t 0 = t.val ∧ win0_2.index t 1 = 0 := by
  decide +kernel

theorem final : (dats m 0 e).arrAt 2 cfg0.N = nn (merged m e) (weight m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg0 m e) _).trans (congrArg (merged m e) (by blk_ext [index t]))
  · exact (congrFun (host m e) _).trans (congrArg (weight m e) (by blk_ext [index t]))

end Kernel

open Cert.OutProjRefIdeal Cert.OutProjRefIdeal.Read in
theorem reference (x : Mat 4096 1024) (w : Mat 1024 1024) : val_main_v2 (F := Ideal) x w = nn x w :=
  mat_ext fun r n => by
    unfold val_main_v2 val_main_v1 val_main_v0
    pointwise [dot_S4096x1024_S1024x1024_S4096x1024_1_0_0_1_n_n]
    rfl

theorem algebraic : Cert.algebraic_OutProjIdeal_OutProjRefIdeal (hOutProjIdeal := Cert.OutProjIdeal.Gen.facts)
    (hOutProjRefIdeal := Cert.OutProjRefIdeal.Gen.facts) := fun m ρ m' ρ' _ hargs =>
  ⟨_, (θ_run _ _ _).mono (fun _ h c => ⟨(h c).1.trans (final m c), (h c).2⟩) (Cert.OutProjIdeal.Value.run_blocks m ρ),
    (θ_run _ _ _).mono (fun _ h c => ⟨(h c).1.trans (by
      rw [Cert.OutProjRefIdeal.Read.val_main_v2_eq, (hargs c).1, (hargs c).2]
      exact reference _ _), (h c).2⟩) (Cert.OutProjRefIdeal.Value.run (F := Ideal) m' ρ')⟩

end Cert.OutProjEquation

end
-- ==== Proof.MemQEquation.lean ====
/-
  The query projection is rows by the weight's columns, in the kernel and in the reference.
-/
module

public import proofs.«01_k».proof.Defs
public import proofs.«01_k».proof.Proof.Products
public import proofs.«01_k».proof.Proof.Gen.MemQIdeal.Value
public import proofs.«01_k».proof.Proof.Gen.MemQRefIdeal.Run
public import proofs.«01_k».proof.Proof.Gen.MemQRefIdeal.Read

@[expose] public section

noncomputable section

namespace Cert.MemQEquation

open Idealize.ShloMosaic Idealize.ShloMosaic.TcCoe Idealize.SL.Sem Cert.Products

section Kernel

open Cert.MemQIdeal Cert.MemQIdeal.Gen Cert.MemQIdeal.Value

variable (m : (ℓ : Loc nD τ sig) → Buf (Elt Ideal) ℓ) (e : Dev nD)

abbrev acts : Mat 4096 1024 := m ((e : Thread nD τ).loc main_arg0)
abbrev weight : Mat 1024 512 := m ((e : Thread nD τ).loc main_arg1)

theorem payload (x : Mat 2048 1024) (w : Stack 1 1024 512) : k0_pay1 (F := Ideal) x w = nn x (layer w 0) :=
  mat_ext fun r n => by unfold k0_pay1; pointwise [dot_S2048x1024_S1024x512_S2048x512_1_0_0_1_n_n]; rfl

/-- The host hands the weight on as a stack of one layer. -/
theorem host : (V m e main_v1 : Stack 1 1024 512) = fun i => weight m e (ix2 (i 1) (i 2)) :=
  stack_ext fun z k n => by
    dsimp only [V, hostOps0]
    after_results
    generalize hx : m (e, Proc.tc.devRef main_arg1) = x
    refine Eq.trans ?_ (congrFun hx (ix2 k n)).symm
    pointwise

theorem index : ∀ t : Fin cfg0.N, (win0_0.index t 0 = t.val ∧ win0_0.index t 1 = 0) ∧ (win0_1.index t 1 = 0 ∧ win0_1.index t 2 = 0)
    ∧ win0_2.index t 0 = t.val ∧ win0_2.index t 1 = 0 := by
  decide +kernel

theorem final : (dats m 0 e).arrAt 2 cfg0.N = nn (acts m e) (weight m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg0 m e) _).trans (congrArg (acts m e) (by blk_ext [index t]))
  · exact (congrFun (host m e) _).trans (congrArg (weight m e) (by blk_ext [index t]))

end Kernel

open Cert.MemQRefIdeal Cert.MemQRefIdeal.Read in
theorem reference (x : Mat 4096 1024) (w : Mat 1024 512) : val_main_v1 (F := Ideal) x w = nn x w :=
  mat_ext fun r n => by
    unfold val_main_v1 val_main_v0
    pointwise [dot_S4096x1024_S1024x512_S4096x512_1_0_0_1_n_n]
    rfl

theorem algebraic : Cert.algebraic_MemQIdeal_MemQRefIdeal (hMemQIdeal := Cert.MemQIdeal.Gen.facts)
    (hMemQRefIdeal := Cert.MemQRefIdeal.Gen.facts) := fun m ρ m' ρ' _ hargs =>
  ⟨_, (θ_run _ _ _).mono (fun _ h c => ⟨(h c).1.trans (final m c), (h c).2⟩) (Cert.MemQIdeal.Value.run_blocks m ρ),
    (θ_run _ _ _).mono (fun _ h c => ⟨(h c).1.trans (by
      rw [Cert.MemQRefIdeal.Read.val_main_v1_eq, (hargs c).1, (hargs c).2]
      exact reference _ _), (h c).2⟩) (Cert.MemQRefIdeal.Value.run (F := Ideal) m' ρ')⟩

end Cert.MemQEquation

end
-- ==== Proof.MemOEquation.lean ====
/-
  The memory's output projection is rows by the weight's columns. The kernel takes the weight transposed, so its blocks are rows by
  rows.
-/
module

public import proofs.«01_k».proof.Defs
public import proofs.«01_k».proof.Proof.Products
public import proofs.«01_k».proof.Proof.Gen.MemOIdeal.Value
public import proofs.«01_k».proof.Proof.Gen.MemORefIdeal.Run
public import proofs.«01_k».proof.Proof.Gen.MemORefIdeal.Read

@[expose] public section

noncomputable section

namespace Cert.MemOEquation

open Idealize.ShloMosaic Idealize.ShloMosaic.TcCoe Idealize.SL.Sem Cert.Products

section Kernel

open Cert.MemOIdeal Cert.MemOIdeal.Gen Cert.MemOIdeal.Value

variable (m : (ℓ : Loc nD τ sig) → Buf (Elt Ideal) ℓ) (e : Dev nD)

abbrev acts : Mat 4096 512 := m ((e : Thread nD τ).loc main_arg0)
abbrev weight : Mat 512 1024 := m ((e : Thread nD τ).loc main_arg1)

theorem payload (x : Mat 2048 512) (w : Stack 1 1024 512) : k0_pay1 (F := Ideal) x w = nt x (layer w 0) :=
  mat_ext fun r n => by unfold k0_pay1; pointwise [dot_S2048x512_S1024x512_S2048x1024_1_1_0_0_n_n]; rfl

/-- The host transposes the weight and hands it on as a stack of one layer. -/
theorem host : (V m e main_v2 : Stack 1 1024 512) = fun i => weight m e (ix2 (i 2) (i 1)) :=
  stack_ext fun z n k => by
    dsimp only [V, hostOps0]
    after_results
    generalize hx : m (e, Proc.tc.devRef main_arg1) = x
    refine Eq.trans ?_ (congrFun hx (ix2 k n)).symm
    pointwise

theorem index : ∀ t : Fin cfg0.N, (win0_0.index t 0 = t.val ∧ win0_0.index t 1 = 0) ∧ (win0_1.index t 1 = 0 ∧ win0_1.index t 2 = 0)
    ∧ win0_2.index t 0 = t.val ∧ win0_2.index t 1 = 0 := by
  decide +kernel

theorem final : (dats m 0 e).arrAt 2 cfg0.N = nn (acts m e) (weight m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg0 m e) _).trans (congrArg (acts m e) (by blk_ext [index t]))
  · exact (congrFun (host m e) _).trans (congrArg (weight m e) (by blk_ext [index t]))

end Kernel

open Cert.MemORefIdeal Cert.MemORefIdeal.Read in
theorem reference (x : Mat 4096 512) (w : Mat 512 1024) : val_main_v2 (F := Ideal) x w = nn x w :=
  mat_ext fun r n => by
    unfold val_main_v2 val_main_v1 val_main_v0
    pointwise [dot_S4096x512_S512x1024_S4096x1024_1_0_0_1_n_n]
    rfl

theorem algebraic : Cert.algebraic_MemOIdeal_MemORefIdeal (hMemOIdeal := Cert.MemOIdeal.Gen.facts)
    (hMemORefIdeal := Cert.MemORefIdeal.Gen.facts) := fun m ρ m' ρ' _ hargs =>
  ⟨_, (θ_run _ _ _).mono (fun _ h c => ⟨(h c).1.trans (final m c), (h c).2⟩) (Cert.MemOIdeal.Value.run_blocks m ρ),
    (θ_run _ _ _).mono (fun _ h c => ⟨(h c).1.trans (by
      rw [Cert.MemORefIdeal.Read.val_main_v2_eq, (hargs c).1, (hargs c).2]
      exact reference _ _), (h c).2⟩) (Cert.MemORefIdeal.Value.run (F := Ideal) m' ρ')⟩

end Cert.MemOEquation

end
-- ==== Proof.MemKvEquation.lean ====
/-
  The memory's key and value projection is rows by the weight's columns; the kernel makes it at one grid point.
-/
module

public import proofs.«01_k».proof.Defs
public import proofs.«01_k».proof.Proof.Products
public import proofs.«01_k».proof.Proof.Gen.MemKvIdeal.Value
public import proofs.«01_k».proof.Proof.Gen.MemKvRefIdeal.Run
public import proofs.«01_k».proof.Proof.Gen.MemKvRefIdeal.Read

@[expose] public section

noncomputable section

namespace Cert.MemKvEquation

open Idealize.ShloMosaic Idealize.ShloMosaic.TcCoe Idealize.SL.Sem Cert.Products

section Kernel

open Cert.MemKvIdeal Cert.MemKvIdeal.Gen Cert.MemKvIdeal.Value

variable (m : (ℓ : Loc nD τ sig) → Buf (Elt Ideal) ℓ) (e : Dev nD)

abbrev tokens : Mat 256 1024 := m ((e : Thread nD τ).loc main_arg0)
abbrev weight : Mat 1024 1024 := m ((e : Thread nD τ).loc main_arg1)

theorem payload (x : Mat 256 1024) (w : Stack 1 1024 1024) : k0_pay1 (F := Ideal) x w = nn x (layer w 0) :=
  mat_ext fun r n => by unfold k0_pay1; pointwise [dot_S256x1024_S1024x1024_S256x1024_1_0_0_1_n_n]; rfl

/-- The host hands the weight on as a stack of one layer. -/
theorem host : (V m e main_v1 : Stack 1 1024 1024) = fun i => weight m e (ix2 (i 1) (i 2)) :=
  stack_ext fun z k n => by
    dsimp only [V, hostOps0]
    after_results
    generalize hx : m (e, Proc.tc.devRef main_arg1) = x
    refine Eq.trans ?_ (congrFun hx (ix2 k n)).symm
    pointwise

theorem index : ∀ t : Fin cfg0.N, (win0_0.index t 0 = 0 ∧ win0_0.index t 1 = 0) ∧ (win0_1.index t 1 = 0 ∧ win0_1.index t 2 = 0)
    ∧ win0_2.index t 0 = 0 ∧ win0_2.index t 1 = 0 := by
  decide +kernel

theorem final : (dats m 0 e).arrAt 2 cfg0.N = nn (tokens m e) (weight m e) := by
  refine (dats m 0 e).arrAt_eq_of_covers 2 _ (by decide +kernel) fun t hf y => ?_
  blk_simp
  rw [after0_2]
  frame_out
  refine (congrFun (payload _ _) y).trans (sum_mul_congr (fun k => ?_) fun k => ?_)
  · exact (congrFun (V_main_arg0 m e) _).trans (congrArg (tokens m e) (by blk_ext [index t]))
  · exact (congrFun (host m e) _).trans (congrArg (weight m e) (by blk_ext [index t]))

end Kernel

open Cert.MemKvRefIdeal Cert.MemKvRefIdeal.Read in
theorem reference (x : Mat 256 1024) (w : Mat 1024 1024) : val_main_v1 (F := Ideal) x w = nn x w :=
  mat_ext fun r n => by
    unfold val_main_v1 val_main_v0
    pointwise [dot_S256x1024_S1024x1024_S256x1024_1_0_0_1_n_n]
    rfl

theorem algebraic : Cert.algebraic_MemKvIdeal_MemKvRefIdeal (hMemKvIdeal := Cert.MemKvIdeal.Gen.facts)
    (hMemKvRefIdeal := Cert.MemKvRefIdeal.Gen.facts) := fun m ρ m' ρ' _ hargs =>
  ⟨_, (θ_run _ _ _).mono (fun _ h c => ⟨(h c).1.trans (final m c), (h c).2⟩) (Cert.MemKvIdeal.Value.run_blocks m ρ),
    (θ_run _ _ _).mono (fun _ h c => ⟨(h c).1.trans (by
      rw [Cert.MemKvRefIdeal.Read.val_main_v1_eq, (hargs c).1, (hargs c).2]
      exact reference _ _), (h c).2⟩) (Cert.MemKvRefIdeal.Value.run (F := Ideal) m' ρ')⟩

end Cert.MemKvEquation

end
-- ==== Proof.NormAlone.lean ====
/-
  A norm that stands alone: the gradient of a row that is kept and normalised, and the sum over all rows out of the sums over
  blocks of rows.
-/
module

public import proofs.«01_k».proof.Proof.NormRow
public import Idealize.ShloMosaic.Lib.Pipeline.ValueKit

@[expose] public section

noncomputable section

namespace Cert.NormRow

open Idealize.ShloMosaic

/-- The gradient of a row `x` that is both kept, with gradient `d`, and normalised with the gain `q`, with gradient `g`. -/
def keptGrad (x q d g : Fin 1024 → EReal) (c : Fin 1024) : EReal :=
  d c + g c * q c * scale x + x c * pull x (fun c => g c * q c) + pull x (fun c => g c * q c) * x c

/-- Row `r` of the block `t` of 512 rows. -/
def rowAt {N : ℕ} (h : N = 8) (t : Fin N) (r : Fin 512) : Fin 4096 := ⟨t.val * 512 + r.val, by have := t.isLt; omega⟩

/-- The eight blocks' rows are all the rows. -/
theorem sum_rowAt {N : ℕ} (h : N = 8) (f : Fin 4096 → EReal) : ∑ t : Fin N, ∑ r : Fin 512, f (rowAt h t r) = ∑ s, f s :=
  Fin.sum_mul_add_congr (f := f) (fun t r hl => rfl) (by rw [h])

end Cert.NormRow

end
-- ==== Proof.NormInBwdEquation.lean ====
/-
  The backward call of the norm of the trunk's input: the gradient of the input itself, and the gain's.
-/
module

public import proofs.«01_k».proof.Defs
public import proofs.«01_k».proof.Proof.NormAlone
public import proofs.«01_k».proof.Proof.Gen.NormInBwdIdeal.Value
public import proofs.«01_k».proof.Proof.Gen.NormInBwdRefIdeal.Read
public import proofs.«01_k».proof.Proof.Gen.NormInBwdRefIdeal.Run
public import Idealize.ShloMosaic.Lib.Pointwise
public import Idealize.ShloMosaic.Lib.Tactic
public import Idealize.ShloMosaic.Lib.Pipeline.ReadBack
public import Idealize.ShloMosaic.Lib.Pipeline.ValueKit.Acc
public import Idealize.ShloMosaic.Lib.StableHlo.Run

@[expose] public section

noncomputable section

namespace Cert.NormInBwdEquation

open Idealize.ShloMosaic Idealize.ShloMosaic.TcCoe Idealize.SL.Sem
open Cert.NormRow

section Kernel

open Cert.NormInBwdIdeal Cert.NormInBwdIdeal.Gen Cert.NormInBwdIdeal.Value

/-! ## What one grid point computes -/

section Block

variable (x : Vec Ideal S512x1024 .f32) (q : Vec Ideal S1x1024 .f32) (d : Vec Ideal S512x1024 .f32) (g : Vec Ideal S512x1024 .bf16)
  (r : Fin 512) (c : Fin 1024)

theorem power_at : k0_pay4 (F := Ideal) x (ix2 r 0) = power (row x r) := by
  unfold k0_pay4
  pointwise
  rfl

theorem scale_at : k0_pay5 (F := Ideal) x (ix2 r 0) = scale (row x r) := by
  unfold k0_pay5
  pointwise [power_at]
  rfl

/-- The block's part of the gain's gradient: its rows' sum. -/
theorem gain_at : k0_pay6 (F := Ideal) x g (ix2 0 c) = ∑ r : Fin 512, unit (row x r) c * row g r c := by
  unfold k0_pay6 k0_pay3
  pointwise [scale_at]
  rfl

theorem grad_at : k0_pay7 (F := Ideal) x q d g (ix2 r c) = keptGrad (row x r) (row q 0) (row d r) (row g r) c := by
  unfold k0_pay7 k0_pay3
  pointwise [scale_at]
  simp only [Fin.sum_univ_one, scale_at, power_at]
  rfl

theorem zero_at : k0_pay1 (F := Ideal) (ix2 0 c) = 0 := by
  unfold k0_pay1
  pointwise

theorem step_at (s X : Vec Ideal S1x1024 .f32) : k0_pay2 (F := Ideal) s X (ix2 0 c) = X (ix2 0 c) + s (ix2 0 c) := by
  unfold k0_pay2
  pointwise

end Block

/-! ## The blocks' rows in the arguments -/

variable (m : (ℓ : Loc nD τ sig) → Buf (Elt Ideal) ℓ) (e : Dev nD)

/-- The arguments: the input's rows, the gain, the gradient of the kept rows and of the normalised ones. -/
abbrev xs : S4096x1024.Idx → EReal := m ((e : Thread nD τ).loc main_arg0)
abbrev qs : S1024.Idx → EReal := m ((e : Thread nD τ).loc main_arg1)
abbrev ds : S4096x1024.Idx → EReal := m ((e : Thread nD τ).loc main_arg2)
abbrev gs : S4096x1024.Idx → EReal := m ((e : Thread nD τ).loc main_arg3)

theorem host (c : Fin 1024) : (V m e main_v0 : S1x1024.Idx → EReal) (ix2 0 c) = qs m e (ix1 c) := by
  dsimp only [V, hostOps0]
  after_results
  generalize hx : m (e, Proc.tc.devRef main_arg1) = x
  refine Eq.trans ?_ (congrFun hx (ix1 c)).symm
  pointwise

theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0) := by
  decide +kernel

theorem row0 (t : Fin cfg0.N) (r : Fin 512) : row (iblk m e 0 t : S512x1024.Idx → EReal) r = row (xs m e) (rowAt N_0 t r) :=
  funext fun c => (congrFun (V_main_arg0 m e) _).trans (congrArg (xs m e) (by blk_ext [index t, rowAt]))

theorem row1 (t : Fin cfg0.N) : row (iblk m e 1 t : S1x1024.Idx → EReal) 0 = gain (qs m e) :=
  funext fun c => (congrArg (V m e main_v0 : S1x1024.Idx → EReal) (by blk_ext [index t])).trans (host m e c)

theorem row2 (t : Fin cfg0.N) (r : Fin 512) : row (iblk m e 2 t : S512x1024.Idx → EReal) r = row (ds m e) (rowAt N_0 t r) :=
  funext fun c => (congrFun (V_main_arg2 m e) _).trans (congrArg (ds m e) (by blk_ext [index t, rowAt]))

theorem row3 (t : Fin cfg0.N) (r : Fin 512) : row (iblk m e 3 t : S512x1024.Idx → EReal) r = row (gs m e) (rowAt N_0 t r) :=
  funext fun c => (congrFun (V_main_arg3 m e) _).trans (congrArg (gs m e) (by blk_ext [index t, rowAt]))

/-! ## The results -/

/-- Row `s` of the input's gradient, and what the row gives to the gain's. -/
def dx (s : Fin 4096) : Fin 1024 → EReal := keptGrad (row (xs m e) s) (gain (qs m e)) (row (ds m e) s) (row (gs m e) s)
def dq (s : Fin 4096) (c : Fin 1024) : EReal := unit (row (xs m e) s) c * row (gs m e) s c

def dxResult : S4096x1024.Idx → EReal := fun i => dx m e (i 0) (i 1)
def dqResult : S1x1024.Idx → EReal := fun i => ∑ s, dq m e s (i 1)

/-- A point leaves its rows of the input's gradient. -/
theorem out4 (t : Fin cfg0.N) (r : Fin 512) (c : Fin 1024) : (outsAt0 m e t.val t.isLt).1 (ix2 r c) = dx m e (rowAt N_0 t r) c := by
  unfold dx
  rw [← row0, ← row1 m e t, ← row2, ← row3]
  by_cases h : t.val % 8 = 0
  · rw [outsAt0_A m e t h]
    frame_out
    exact grad_at _ _ _ _ r c
  · rw [outsAt0_B m e t h]
    frame_out
    exact grad_at _ _ _ _ r c

/-- A point's addend to the gain's gradient. -/
def part (t : Fin cfg0.N) : S1x1024.Idx → EReal := k0_pay6 (F := Ideal) (iblk m e 0 t) (iblk m e 3 t)

theorem part_at (t : Fin cfg0.N) (c : Fin 1024) : part m e t (ix2 0 c) = ∑ r : Fin 512, dq m e (rowAt N_0 t r) c := by
  unfold dq
  simp only [← row0, ← row3]
  exact gain_at _ _ c

/-- The last point leaves the sum over all rows. -/
theorem out5 (t : Fin cfg0.N) (ht : t.val = 7) (c : Fin 1024) : (outsAt0 m e t.val t.isLt).2 (ix2 0 c) = ∑ s, dq m e s c := by
  rw [Pipeline.eq_sum_fin_of_reset_step_apply_last (fun n h => (outsAt0 m e n h).2) 8 (fun _ => (0 : EReal)) (part m e)
      (fun t h i => by
        rw [eq_row i, outsAt0_A m e t h]
        frame_out
        exact (step_at _ _ _).trans (congrArg (fun z : EReal => z + part m e t _) (zero_at _)))
      (fun t h i => by
        rw [eq_row i, outsAt0_B m e t h]
        frame_out
        exact step_at _ _ _)
      (le_of_eq N_0) t (by rw [ht]; rfl) (ix2 0 c), zero_add]
  simp only [part_at]
  exact sum_rowAt N_0 fun s => dq m e s c

theorem final_dx : (dats m 0 e).arrAt 4 cfg0.N = dxResult m e := by
  refine (dats m 0 e).arrAt_eq_of_covers 4 _ (by decide +kernel) fun t hf y => ?_
  blk_simp
  rw [after0_4]
  obtain ⟨r, c, rfl⟩ : ∃ (r : Fin 512) (c : Fin 1024), y = ix2 r c := ⟨y 0, y 1, eq_ix2 y⟩
  rw [out4 m e t r c, show (win0_4.blk t).view.emb (ix2 r c) = ix2 (rowAt N_0 t r) c from by blk_ext [index t, rowAt]]
  rfl

theorem final_dq : (dats m 0 e).arrAt 5 cfg0.N = dqResult m e := by
  refine (dats m 0 e).arrAt_eq_of_covers 5 _ (by decide +kernel) fun t hf y => ?_
  blk_simp
  rw [after0_5]
  obtain ⟨c, rfl⟩ : ∃ c : Fin 1024, y = ix2 0 c := ⟨y 1, eq_row y⟩
  rw [out5 m e t (by have := (flush0_5 t).mp hf; have := Nat.lt_of_lt_of_eq t.isLt N_0; omega) c,
    show (win0_5.blk t).view.emb (ix2 0 c) = ix2 0 c from by blk_ext [index t]]
  rfl

end Kernel

/-! ## The reference, read row by row -/

section Reference

open Cert.NormInBwdRefIdeal Cert.NormInBwdRefIdeal.Gen Cert.NormInBwdRefIdeal.Read

variable (x : S4096x1024.Idx → Elt Ideal .f32) (q : S1024.Idx → Elt Ideal .f32) (d : S4096x1024.Idx → Elt Ideal .f32)
  (g : S4096x1024.Idx → Elt Ideal .bf16) (r : Fin 4096) (c : Fin 1024)

theorem ref_power : val_main_v6 (F := Ideal) x (ix2 r 0) = power (row x r) := by
  unfold val_main_v6 val_main_v5 val_main_v4 val_main_v3 val_main_v2 val_main_v1 val_main_v0 val_main_cst val_main_cst_0 val_main_cst_1
  pointwise
  rfl

theorem ref_scale : val_main_v7 (F := Ideal) x (ix2 r 0) = scale (row x r) := by
  unfold val_main_v7
  pointwise [ref_power]
  rfl

theorem ref_slope : val_main_v10 (F := Ideal) x (ix2 r 0) = slope (row x r) := by
  unfold val_main_v10 val_main_v9 val_main_v8 val_main_cst_2
  pointwise [ref_power, ref_scale]
  rfl

theorem ref_gain : val_main_v38 (F := Ideal) x g (ix2 0 c) = ∑ r : Fin 4096, unit (row x r) c * row g r c := by
  unfold val_main_v38 val_main_v22 val_main_v19 val_main_v18 val_main_v17 val_main_v16 val_main_v12 val_main_v11 val_main_cst_3 val_main_cst_4
  pointwise [ref_scale]
  simp only [Fin.sum_univ_one]
  rfl

theorem ref_pull : val_main_v32 (F := Ideal) x q g (ix1 r) = pull (row x r) (fun c => row g r c * gain q c) := by
  unfold val_main_v32 val_main_v31 val_main_v30 val_main_v29 val_main_v25 val_main_v24 val_main_v23 val_main_v21 val_main_v20 val_main_v16 val_main_v13 val_main_cst_5 val_main_cst_6 val_main_cst_7
  pointwise
  simp only [Fin.sum_univ_one, ref_slope]
  rfl

theorem ref_grad : val_main_v37 (F := Ideal) x q d g (ix2 r c) = keptGrad (row x r) (gain q) (row d r) (row g r) c := by
  unfold val_main_v37 val_main_v36 val_main_v35 val_main_v34 val_main_v33 val_main_v28 val_main_v27 val_main_v26 val_main_v21 val_main_v20 val_main_v16 val_main_v13
  pointwise [ref_scale, ref_pull]
  rfl

end Reference

/-- The kernel's results and the reference's from memories that agree on the arguments. -/
theorem algebraic : Cert.algebraic_NormInBwdIdeal_NormInBwdRefIdeal (hNormInBwdIdeal := Cert.NormInBwdIdeal.Gen.facts)
    (hNormInBwdRefIdeal := Cert.NormInBwdRefIdeal.Gen.facts) := by
  intro m ρ m' ρ' _ hargs
  refine ⟨fun c => dxResult m c, fun c => dqResult m c,
    (θ_run Cert.NormInBwdIdeal.defs _ _).mono (fun _ h e => ⟨(h e).1.trans (final_dx m e), (h e).2.1.trans (final_dq m e), (h e).2.2⟩)
      (Cert.NormInBwdIdeal.Value.run_blocks m ρ),
    (θ_run (Cert.NormInBwdRefIdeal.defs (F := Ideal)) _ _).mono (fun r h c => ?_) (Cert.NormInBwdRefIdeal.Value.run (F := Ideal) m' ρ')⟩
  obtain ⟨hx, hq, hkept⟩ := h c
  obtain ⟨a0, a1, a2, a3⟩ := hargs c
  refine ⟨hx.trans ?_, hq.trans ?_, hkept⟩
  · rw [Cert.NormInBwdRefIdeal.Read.val_main_v37_eq, a0, a1, a2, a3]
    funext i
    exact (congrArg _ (eq_ix2 i)).trans (ref_grad _ _ _ _ (i 0) (i 1))
  · rw [Cert.NormInBwdRefIdeal.Read.val_main_v38_eq, a0, a3]
    funext i
    exact (congrArg _ (eq_row i)).trans (ref_gain _ _ (i 1))

end Cert.NormInBwdEquation

end
-- ==== Proof.NormInEquation.lean ====
/-
  The norm of the trunk's input: the call's rows are the normalised rows times the gain, as the reference's.
-/
module

public import proofs.«01_k».proof.Defs
public import proofs.«01_k».proof.Proof.NormAlone
public import proofs.«01_k».proof.Proof.Gen.NormInIdeal.Value
public import proofs.«01_k».proof.Proof.Gen.NormInRefIdeal.Read
public import proofs.«01_k».proof.Proof.Gen.NormInRefIdeal.Run
public import Idealize.ShloMosaic.Lib.Pointwise
public import Idealize.ShloMosaic.Lib.Tactic
public import Idealize.ShloMosaic.Lib.Pipeline.ReadBack
public import Idealize.ShloMosaic.Lib.StableHlo.Run

@[expose] public section

noncomputable section

namespace Cert.NormInEquation

open Idealize.ShloMosaic Idealize.ShloMosaic.TcCoe Idealize.SL.Sem
open Cert.NormRow

section Kernel

open Cert.NormInIdeal Cert.NormInIdeal.Gen Cert.NormInIdeal.Value

theorem payload (x : Vec Ideal S512x1024 .f32) (q : Vec Ideal S1x1024 .f32) (r : Fin 512) (c : Fin 1024) :
    k0_pay1 (F := Ideal) x q (ix2 r c) = unit (row x r) c * row q 0 c := by
  unfold k0_pay1
  pointwise
  rfl

variable (m : (ℓ : Loc nD τ sig) → Buf (Elt Ideal) ℓ) (e : Dev nD)

/-- The arguments: the input's rows and the gain. -/
abbrev xs : S4096x1024.Idx → EReal := m ((e : Thread nD τ).loc main_arg0)
abbrev qs : S1024.Idx → EReal := m ((e : Thread nD τ).loc main_arg1)

theorem host (c : Fin 1024) : (V m e main_v0 : S1x1024.Idx → EReal) (ix2 0 c) = qs m e (ix1 c) := by
  dsimp only [V, hostOps0]
  after_results
  generalize hx : m (e, Proc.tc.devRef main_arg1) = x
  refine Eq.trans ?_ (congrFun hx (ix1 c)).symm
  pointwise

theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) := by
  decide +kernel

theorem row0 (t : Fin cfg0.N) (r : Fin 512) : row (iblk m e 0 t : S512x1024.Idx → EReal) r = row (xs m e) (rowAt N_0 t r) :=
  funext fun c => (congrFun (V_main_arg0 m e) _).trans (congrArg (xs m e) (by blk_ext [index t, rowAt]))

theorem row1 (t : Fin cfg0.N) : row (iblk m e 1 t : S1x1024.Idx → EReal) 0 = gain (qs m e) :=
  funext fun c => (congrArg (V m e main_v0 : S1x1024.Idx → EReal) (by blk_ext [index t])).trans (host m e c)

def result : S4096x1024.Idx → EReal := fun i => unit (row (xs m e) (i 0)) (i 1) * gain (qs m e) (i 1)

theorem final : (dats m 0 e).arrAt 2 cfg0.N = result m e := by
  refine (dats m 0 e).arrAt_eq_of_covers 2 _ (by decide +kernel) fun t hf y => ?_
  blk_simp
  rw [after0_2]
  frame_out
  obtain ⟨r, c, rfl⟩ : ∃ (r : Fin 512) (c : Fin 1024), y = ix2 r c := ⟨y 0, y 1, eq_ix2 y⟩
  rw [show (win0_2.blk t).view.emb (ix2 r c) = ix2 (rowAt N_0 t r) c from by blk_ext [index t, rowAt]]
  show _ = unit (row (xs m e) (rowAt N_0 t r)) c * gain (qs m e) c
  rw [← row0, ← row1 m e t]
  exact payload _ _ r c

end Kernel

open Cert.NormInRefIdeal Cert.NormInRefIdeal.Gen Cert.NormInRefIdeal.Read in
theorem reference (x : S4096x1024.Idx → Elt Ideal .f32) (q : S1024.Idx → Elt Ideal .f32) (r : Fin 4096) (c : Fin 1024) :
    val_main_v13 (F := Ideal) x q (ix2 r c) = unit (row x r) c * gain q c := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The kernel's result and the reference's from memories that agree on the arguments. -/
theorem algebraic : Cert.algebraic_NormInIdeal_NormInRefIdeal (hNormInIdeal := Cert.NormInIdeal.Gen.facts)
    (hNormInRefIdeal := Cert.NormInRefIdeal.Gen.facts) := by
  intro m ρ m' ρ' _ hargs
  refine ⟨fun c => result m c,
    (θ_run Cert.NormInIdeal.defs _ _).mono (fun _ h e => ⟨(h e).1.trans (final m e), (h e).2⟩) (Cert.NormInIdeal.Value.run_blocks m ρ),
    (θ_run (Cert.NormInRefIdeal.defs (F := Ideal)) _ _).mono (fun r h c => ⟨(h c).1.trans ?_, (h c).2⟩)
      (Cert.NormInRefIdeal.Value.run (F := Ideal) m' ρ')⟩
  rw [Cert.NormInRefIdeal.Read.val_main_v13_eq, (hargs c).1, (hargs c).2]
  funext i
  exact (congrArg _ (eq_ix2 i)).trans (reference _ _ (i 0) (i 1))

end Cert.NormInEquation

end
-- ==== Proof.MemNormBwdEquation.lean ====
/-
  The backward call of the memory's norm, in one block: the gradient of the tokens, and the gain's.
-/
module

public import proofs.«01_k».proof.Defs
public import proofs.«01_k».proof.Proof.NormAlone
public import proofs.«01_k».proof.Proof.Gen.MemNormBwdIdeal.Value
public import proofs.«01_k».proof.Proof.Gen.MemNormBwdRefIdeal.Read
public import proofs.«01_k».proof.Proof.Gen.MemNormBwdRefIdeal.Run
public import Idealize.ShloMosaic.Lib.Pointwise
public import Idealize.ShloMosaic.Lib.Tactic
public import Idealize.ShloMosaic.Lib.Pipeline.ReadBack
public import Idealize.ShloMosaic.Lib.StableHlo.Run

@[expose] public section

noncomputable section

namespace Cert.MemNormBwdEquation

open Idealize.ShloMosaic Idealize.ShloMosaic.TcCoe Idealize.SL.Sem
open Cert.NormRow

section Kernel

open Cert.MemNormBwdIdeal Cert.MemNormBwdIdeal.Gen Cert.MemNormBwdIdeal.Value

section Block

variable (x : Vec Ideal S256x1024 .f32) (q : Vec Ideal S1x1024 .f32) (g : Vec Ideal S256x1024 .f32) (r : Fin 256) (c : Fin 1024)

theorem power_at : k0_pay3 (F := Ideal) x (ix2 r 0) = power (row x r) := by
  unfold k0_pay3
  pointwise
  rfl

theorem scale_at : k0_pay4 (F := Ideal) x (ix2 r 0) = scale (row x r) := by
  unfold k0_pay4
  pointwise [power_at]
  rfl

theorem gain_at : k0_pay5 (F := Ideal) x g (ix2 0 c) = ∑ r : Fin 256, unit (row x r) c * row g r c := by
  unfold k0_pay5
  pointwise [scale_at]
  rfl

/-- The kernel adds the gradient to a zero, for the rows that are kept nowhere. -/
theorem grad_at : k0_pay6 (F := Ideal) x q g (ix2 r c) = back (row x r) (fun c => row g r c * row q 0 c) c := by
  unfold k0_pay6
  pointwise [scale_at]
  simp only [Fin.sum_univ_one, scale_at, power_at, zero_add]
  rfl

/-- The gain's gradient starts at zero, and the one block adds its sum. -/
theorem step_at (s : Vec Ideal S1x1024 .f32) : k0_pay2 (F := Ideal) s (k0_pay1 (F := Ideal)) (ix2 0 c) = s (ix2 0 c) := by
  unfold k0_pay2 k0_pay1
  pointwise

end Block

variable (m : (ℓ : Loc nD τ sig) → Buf (Elt Ideal) ℓ) (e : Dev nD)

/-- The arguments: the tokens' rows, the gain, and the gradient of the normalised rows. -/
abbrev xs : S256x1024.Idx → EReal := m ((e : Thread nD τ).loc main_arg0)
abbrev qs : S1024.Idx → EReal := m ((e : Thread nD τ).loc main_arg1)
abbrev gs : S256x1024.Idx → EReal := m ((e : Thread nD τ).loc main_arg2)

theorem host (c : Fin 1024) : (V m e main_v0 : S1x1024.Idx → EReal) (ix2 0 c) = qs m e (ix1 c) := by
  dsimp only [V, hostOps0]
  after_results
  generalize hx : m (e, Proc.tc.devRef main_arg1) = x
  refine Eq.trans ?_ (congrFun hx (ix1 c)).symm
  pointwise

theorem index : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) := by
  decide +kernel

theorem row0 (t : Fin cfg0.N) (r : Fin 256) : row (iblk m e 0 t : S256x1024.Idx → EReal) r = row (xs m e) r :=
  funext fun c => (congrFun (V_main_arg0 m e) _).trans (congrArg (xs m e) (by blk_ext [index t]))

theorem row1 (t : Fin cfg0.N) : row (iblk m e 1 t : S1x1024.Idx → EReal) 0 = gain (qs m e) :=
  funext fun c => (congrArg (V m e main_v0 : S1x1024.Idx → EReal) (by blk_ext [index t])).trans (host m e c)

theorem row2 (t : Fin cfg0.N) (r : Fin 256) : row (iblk m e 2 t : S256x1024.Idx → EReal) r = row (gs m e) r :=
  funext fun c => (congrFun (V_main_arg2 m e) _).trans (congrArg (gs m e) (by blk_ext [index t]))

def dxResult : S256x1024.Idx → EReal :=
  fun i => back (row (xs m e) (i 0)) (fun c => row (gs m e) (i 0) c * gain (qs m e) c) (i 1)
def dqResult : S1x1024.Idx → EReal := fun i => ∑ s, unit (row (xs m e) s) (i 1) * row (gs m e) s (i 1)

theorem final_dx : (dats m 0 e).arrAt 3 cfg0.N = dxResult m e := by
  refine (dats m 0 e).arrAt_eq_of_covers 3 _ (by decide +kernel) fun t hf y => ?_
  blk_simp
  rw [after0_3]
  obtain ⟨r, c, rfl⟩ : ∃ (r : Fin 256) (c : Fin 1024), y = ix2 r c := ⟨y 0, y 1, eq_ix2 y⟩
  rw [show (win0_3.blk t).view.emb (ix2 r c) = ix2 r c from by blk_ext [index t]]
  show _ = back (row (xs m e) r) (fun c => row (gs m e) r c * gain (qs m e) c) c
  rw [← row0 m e t, ← row1 m e t, ← row2 m e t]
  unfold outsAt0
  frame_out
  exact grad_at _ _ _ r c

theorem final_dq : (dats m 0 e).arrAt 4 cfg0.N = dqResult m e := by
  refine (dats m 0 e).arrAt_eq_of_covers 4 _ (by decide +kernel) fun t hf y => ?_
  blk_simp
  rw [after0_4]
  obtain ⟨c, rfl⟩ : ∃ c : Fin 1024, y = ix2 0 c := ⟨y 1, eq_row y⟩
  rw [show (win0_4.blk t).view.emb (ix2 0 c) = ix2 0 c from by blk_ext [index t]]
  show _ = ∑ s, unit (row (xs m e) s) c * row (gs m e) s c
  simp only [← row0 m e t, ← row2 m e t]
  unfold outsAt0
  frame_out
  exact (step_at c _).trans (gain_at _ _ c)

end Kernel

section Reference

open Cert.MemNormBwdRefIdeal Cert.MemNormBwdRefIdeal.Gen Cert.MemNormBwdRefIdeal.Read

variable (x : S256x1024.Idx → Elt Ideal .f32) (q : S1024.Idx → Elt Ideal .f32) (g : S256x1024.Idx → Elt Ideal .f32)
  (r : Fin 256) (c : Fin 1024)

theorem ref_power : val_main_v6 (F := Ideal) x (ix2 r 0) = power (row x r) := by
  unfold val_main_v6 val_main_v5 val_main_v4 val_main_v3 val_main_v2 val_main_v1 val_main_v0 val_main_cst val_main_cst_0 val_main_cst_1
  pointwise
  rfl

theorem ref_scale : val_main_v7 (F := Ideal) x (ix2 r 0) = scale (row x r) := by
  unfold val_main_v7
  pointwise [ref_power]
  rfl

theorem ref_slope : val_main_v10 (F := Ideal) x (ix2 r 0) = slope (row x r) := by
  unfold val_main_v10 val_main_v9 val_main_v8 val_main_cst_2
  pointwise [ref_power, ref_scale]
  rfl

theorem ref_gain : val_main_v36 (F := Ideal) x g (ix2 0 c) = ∑ r : Fin 256, unit (row x r) c * row g r c := by
  unfold val_main_v36 val_main_v21 val_main_v18 val_main_v17 val_main_v16 val_main_v12 val_main_v11 val_main_cst_3 val_main_cst_4
  pointwise [ref_scale]
  simp only [Fin.sum_univ_one]
  rfl

theorem ref_pull : val_main_v30 (F := Ideal) x q g (ix1 r) = pull (row x r) (fun c => row g r c * gain q c) := by
  unfold val_main_v30 val_main_v29 val_main_v28 val_main_v27 val_main_v24 val_main_v23 val_main_v22 val_main_v20 val_main_v19 val_main_v13 val_main_cst_5 val_main_cst_6 val_main_cst_7
  pointwise
  simp only [Fin.sum_univ_one, ref_slope]
  rfl

theorem ref_grad : val_main_v35 (F := Ideal) x q g (ix2 r c) = back (row x r) (fun c => row g r c * gain q c) c := by
  unfold val_main_v35 val_main_v34 val_main_v33 val_main_v32 val_main_v31 val_main_v26 val_main_v25 val_main_v20 val_main_v19 val_main_v13
  pointwise [ref_scale, ref_pull]
  rfl

end Reference

/-- The kernel's results and the reference's from memories that agree on the arguments. -/
theorem algebraic : Cert.algebraic_MemNormBwdIdeal_MemNormBwdRefIdeal (hMemNormBwdIdeal := Cert.MemNormBwdIdeal.Gen.facts)
    (hMemNormBwdRefIdeal := Cert.MemNormBwdRefIdeal.Gen.facts) := by
  intro m ρ m' ρ' _ hargs
  refine ⟨fun c => dxResult m c, fun c => dqResult m c,
    (θ_run Cert.MemNormBwdIdeal.defs _ _).mono (fun _ h e => ⟨(h e).1.trans (final_dx m e), (h e).2.1.trans (final_dq m e), (h e).2.2⟩)
      (Cert.MemNormBwdIdeal.Value.run_blocks m ρ),
    (θ_run (Cert.MemNormBwdRefIdeal.defs (F := Ideal)) _ _).mono (fun r h c => ?_) (Cert.MemNormBwdRefIdeal.Value.run (F := Ideal) m' ρ')⟩
  obtain ⟨hx, hq, hkept⟩ := h c
  obtain ⟨a0, a1, a2⟩ := hargs c
  refine ⟨hx.trans ?_, hq.trans ?_, hkept⟩
  · rw [Cert.MemNormBwdRefIdeal.Read.val_main_v35_eq, a0, a1, a2]
    funext i
    exact (congrArg _ (eq_ix2 i)).trans (ref_grad _ _ _ (i 0) (i 1))
  · rw [Cert.MemNormBwdRefIdeal.Read.val_main_v36_eq, a0, a2]
    funext i
    exact (congrArg _ (eq_row i)).trans (ref_gain _ _ (i 1))

end Cert.MemNormBwdEquation

end
-- ==== Proof.MemNormEquation.lean ====
/-
  The norm of the memory's tokens: one block holds them all, and its rows are the reference's.
-/
module

public import proofs.«01_k».proof.Defs
public import proofs.«01_k».proof.Proof.NormAlone
public import proofs.«01_k».proof.Proof.Gen.MemNormIdeal.Value
public import proofs.«01_k».proof.Proof.Gen.MemNormRefIdeal.Read
public import proofs.«01_k».proof.Proof.Gen.MemNormRefIdeal.Run
public import Idealize.ShloMosaic.Lib.Pointwise
public import Idealize.ShloMosaic.Lib.Tactic
public import Idealize.ShloMosaic.Lib.Pipeline.ReadBack
public import Idealize.ShloMosaic.Lib.StableHlo.Run

@[expose] public section

noncomputable section

namespace Cert.MemNormEquation

open Idealize.ShloMosaic Idealize.ShloMosaic.TcCoe Idealize.SL.Sem
open Cert.NormRow

section Kernel

open Cert.MemNormIdeal Cert.MemNormIdeal.Gen Cert.MemNormIdeal.Value

theorem payload (x : Vec Ideal S256x1024 .f32) (q : Vec Ideal S1x1024 .f32) (r : Fin 256) (c : Fin 1024) :
    k0_pay1 (F := Ideal) x q (ix2 r c) = unit (row x r) c * row q 0 c := by
  unfold k0_pay1
  pointwise
  rfl

variable (m : (ℓ : Loc nD τ sig) → Buf (Elt Ideal) ℓ) (e : Dev nD)

/-- The arguments: the tokens' rows and the gain. -/
abbrev xs : S256x1024.Idx → EReal := m ((e : Thread nD τ).loc main_arg0)
abbrev qs : S1024.Idx → EReal := m ((e : Thread nD τ).loc main_arg1)

theorem host (c : Fin 1024) : (V m e main_v0 : S1x1024.Idx → EReal) (ix2 0 c) = qs m e (ix1 c) := by
  dsimp only [V, hostOps0]
  after_results
  generalize hx : m (e, Proc.tc.devRef main_arg1) = x
  refine Eq.trans ?_ (congrFun hx (ix1 c)).symm
  pointwise

theorem index : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) := by
  decide +kernel

theorem row0 (t : Fin cfg0.N) (r : Fin 256) : row (iblk m e 0 t : S256x1024.Idx → EReal) r = row (xs m e) r :=
  funext fun c => (congrFun (V_main_arg0 m e) _).trans (congrArg (xs m e) (by blk_ext [index t]))

theorem row1 (t : Fin cfg0.N) : row (iblk m e 1 t : S1x1024.Idx → EReal) 0 = gain (qs m e) :=
  funext fun c => (congrArg (V m e main_v0 : S1x1024.Idx → EReal) (by blk_ext [index t])).trans (host m e c)

def result : S256x1024.Idx → EReal := fun i => unit (row (xs m e) (i 0)) (i 1) * gain (qs m e) (i 1)

theorem final : (dats m 0 e).arrAt 2 cfg0.N = result m e := by
  refine (dats m 0 e).arrAt_eq_of_covers 2 _ (by decide +kernel) fun t hf y => ?_
  blk_simp
  rw [after0_2]
  frame_out
  obtain ⟨r, c, rfl⟩ : ∃ (r : Fin 256) (c : Fin 1024), y = ix2 r c := ⟨y 0, y 1, eq_ix2 y⟩
  rw [show (win0_2.blk t).view.emb (ix2 r c) = ix2 r c from by blk_ext [index t]]
  show _ = unit (row (xs m e) r) c * gain (qs m e) c
  rw [← row0 m e t, ← row1 m e t]
  exact payload _ _ r c

end Kernel

open Cert.MemNormRefIdeal Cert.MemNormRefIdeal.Gen Cert.MemNormRefIdeal.Read in
theorem reference (x : S256x1024.Idx → Elt Ideal .f32) (q : S1024.Idx → Elt Ideal .f32) (r : Fin 256) (c : Fin 1024) :
    val_main_v13 (F := Ideal) x q (ix2 r c) = unit (row x r) c * gain q c := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The kernel's result and the reference's from memories that agree on the arguments. -/
theorem algebraic : Cert.algebraic_MemNormIdeal_MemNormRefIdeal (hMemNormIdeal := Cert.MemNormIdeal.Gen.facts)
    (hMemNormRefIdeal := Cert.MemNormRefIdeal.Gen.facts) := by
  intro m ρ m' ρ' _ hargs
  refine ⟨fun c => result m c,
    (θ_run Cert.MemNormIdeal.defs _ _).mono (fun _ h e => ⟨(h e).1.trans (final m e), (h e).2⟩) (Cert.MemNormIdeal.Value.run_blocks m ρ),
    (θ_run (Cert.MemNormRefIdeal.defs (F := Ideal)) _ _).mono (fun r h c => ⟨(h c).1.trans ?_, (h c).2⟩)
      (Cert.MemNormRefIdeal.Value.run (F := Ideal) m' ρ')⟩
  rw [Cert.MemNormRefIdeal.Read.val_main_v13_eq, (hargs c).1, (hargs c).2]
  funext i
  exact (congrArg _ (eq_ix2 i)).trans (reference _ _ (i 0) (i 1))

end Cert.MemNormEquation

end
-- ==== Proof.NormTopBwdEquation.lean ====
/-
  The backward call of the last post norm: the gradient of the stream, which is passed on, of the normalised output, and of the gain.
-/
module

public import proofs.«01_k».proof.Defs
public import proofs.«01_k».proof.Proof.NormAlone
public import proofs.«01_k».proof.Proof.Gen.NormTopBwdIdeal.Value
public import proofs.«01_k».proof.Proof.Gen.NormTopBwdRefIdeal.Read
public import proofs.«01_k».proof.Proof.Gen.NormTopBwdRefIdeal.Run
public import Idealize.ShloMosaic.Lib.Pointwise
public import Idealize.ShloMosaic.Lib.Tactic
public import Idealize.ShloMosaic.Lib.Pipeline.ReadBack
public import Idealize.ShloMosaic.Lib.Pipeline.ValueKit.Acc
public import Idealize.ShloMosaic.Lib.StableHlo.Run

@[expose] public section

noncomputable section

namespace Cert.NormTopBwdEquation

open Idealize.ShloMosaic Idealize.ShloMosaic.TcCoe Idealize.SL.Sem
open Cert.NormRow

section Kernel

open Cert.NormTopBwdIdeal Cert.NormTopBwdIdeal.Gen Cert.NormTopBwdIdeal.Value

/-! ## What one grid point computes -/

section Block

variable (y : Vec Ideal S512x1024 .bf16) (p : Vec Ideal S1x1024 .f32) (d : Vec Ideal S512x1024 .f32) (r : Fin 512) (c : Fin 1024)

theorem power_at : k0_pay4 (F := Ideal) y (ix2 r 0) = power (row y r) := by
  unfold k0_pay4 k0_pay3
  pointwise
  rfl

theorem scale_at : k0_pay5 (F := Ideal) y (ix2 r 0) = scale (row y r) := by
  unfold k0_pay5
  pointwise [power_at]
  rfl

/-- The block's part of the gain's gradient: its rows' sum. -/
theorem gain_at : k0_pay7 (F := Ideal) y d (ix2 0 c) = ∑ r : Fin 512, unit (row y r) c * row d r c := by
  unfold k0_pay7 k0_pay6 k0_pay3
  pointwise [scale_at]
  rfl

theorem grad_at : k0_pay8 (F := Ideal) y p d (ix2 r c) = back (row y r) (fun c => row d r c * row p 0 c) c := by
  unfold k0_pay8 k0_pay6 k0_pay3
  pointwise [scale_at]
  simp only [Fin.sum_univ_one, scale_at, power_at]
  rfl

theorem zero_at : k0_pay1 (F := Ideal) (ix2 0 c) = 0 := by
  unfold k0_pay1
  pointwise

theorem step_at (s X : Vec Ideal S1x1024 .f32) : k0_pay2 (F := Ideal) s X (ix2 0 c) = X (ix2 0 c) + s (ix2 0 c) := by
  unfold k0_pay2
  pointwise

end Block

/-! ## The blocks' rows in the arguments -/

variable (m : (ℓ : Loc nD τ sig) → Buf (Elt Ideal) ℓ) (e : Dev nD)

/-- The arguments that count: the output's rows, the gain, and the gradient of the stream. -/
abbrev ys : S4096x1024.Idx → EReal := m ((e : Thread nD τ).loc main_arg1)
abbrev ps : S1024.Idx → EReal := m ((e : Thread nD τ).loc main_arg2)
abbrev ds : S4096x1024.Idx → EReal := m ((e : Thread nD τ).loc main_arg3)

theorem host (c : Fin 1024) : (V m e main_v0 : S1x1024.Idx → EReal) (ix2 0 c) = ps m e (ix1 c) := by
  dsimp only [V, hostOps0]
  after_results
  generalize hx : m (e, Proc.tc.devRef main_arg2) = x
  refine Eq.trans ?_ (congrFun hx (ix1 c)).symm
  pointwise

theorem index : ∀ t : Fin cfg0.N, (win0_1.index t 0 = t.val ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0) := by
  decide +kernel

theorem row1 (t : Fin cfg0.N) (r : Fin 512) : row (iblk m e 1 t : S512x1024.Idx → EReal) r = row (ys m e) (rowAt N_0 t r) :=
  funext fun c => (congrFun (V_main_arg1 m e) _).trans (congrArg (ys m e) (by blk_ext [index t, rowAt]))

theorem row2 (t : Fin cfg0.N) : row (iblk m e 2 t : S1x1024.Idx → EReal) 0 = gain (ps m e) :=
  funext fun c => (congrArg (V m e main_v0 : S1x1024.Idx → EReal) (by blk_ext [index t])).trans (host m e c)

theorem row3 (t : Fin cfg0.N) (r : Fin 512) : row (iblk m e 3 t : S512x1024.Idx → EReal) r = row (ds m e) (rowAt N_0 t r) :=
  funext fun c => (congrFun (V_main_arg3 m e) _).trans (congrArg (ds m e) (by blk_ext [index t, rowAt]))

/-! ## The results -/

/-- Row `s` of the output's gradient, and what the row gives to the gain's. -/
def dy (s : Fin 4096) : Fin 1024 → EReal := back (row (ys m e) s) fun c => row (ds m e) s c * gain (ps m e) c
def dp (s : Fin 4096) (c : Fin 1024) : EReal := unit (row (ys m e) s) c * row (ds m e) s c

def dyResult : S4096x1024.Idx → EReal := fun i => dy m e (i 0) (i 1)
def dpResult : S1x1024.Idx → EReal := fun i => ∑ s, dp m e s (i 1)

/-- A point passes on its rows of the stream's gradient. -/
theorem out4 (t : Fin cfg0.N) (r : Fin 512) (c : Fin 1024) : (outsAt0 m e t.val t.isLt).1 (ix2 r c) = ds m e (ix2 (rowAt N_0 t r) c) := by
  refine Eq.trans ?_ (congrFun (row3 m e t r) c)
  by_cases h : t.val % 8 = 0
  · rw [outsAt0_A m e t h]
    frame_out
    rfl
  · rw [outsAt0_B m e t h]
    frame_out
    rfl

/-- It leaves its rows of the output's gradient. -/
theorem out5 (t : Fin cfg0.N) (r : Fin 512) (c : Fin 1024) : (outsAt0 m e t.val t.isLt).2.1 (ix2 r c) = dy m e (rowAt N_0 t r) c := by
  unfold dy
  rw [← row1, ← row2 m e t, ← row3]
  by_cases h : t.val % 8 = 0
  · rw [outsAt0_A m e t h]
    frame_out
    exact grad_at _ _ _ r c
  · rw [outsAt0_B m e t h]
    frame_out
    exact grad_at _ _ _ r c

/-- A point's addend to the gain's gradient. -/
def part (t : Fin cfg0.N) : S1x1024.Idx → EReal := k0_pay7 (F := Ideal) (iblk m e 1 t) (iblk m e 3 t)

theorem part_at (t : Fin cfg0.N) (c : Fin 1024) : part m e t (ix2 0 c) = ∑ r : Fin 512, dp m e (rowAt N_0 t r) c := by
  unfold dp
  simp only [← row1, ← row3]
  exact gain_at _ _ c

/-- The last point leaves the sum over all rows. -/
theorem out6 (t : Fin cfg0.N) (ht : t.val = 7) (c : Fin 1024) : (outsAt0 m e t.val t.isLt).2.2 (ix2 0 c) = ∑ s, dp m e s c := by
  rw [Pipeline.eq_sum_fin_of_reset_step_apply_last (fun n h => (outsAt0 m e n h).2.2) 8 (fun _ => (0 : EReal)) (part m e)
      (fun t h i => by
        rw [eq_row i, outsAt0_A m e t h]
        frame_out
        exact (step_at _ _ _).trans (congrArg (fun z : EReal => z + part m e t _) (zero_at _)))
      (fun t h i => by
        rw [eq_row i, outsAt0_B m e t h]
        frame_out
        exact step_at _ _ _)
      (le_of_eq N_0) t (by rw [ht]; rfl) (ix2 0 c), zero_add]
  simp only [part_at]
  exact sum_rowAt N_0 fun s => dp m e s c

theorem final_dx : (dats m 0 e).arrAt 4 cfg0.N = ds m e := by
  refine (dats m 0 e).arrAt_eq_of_covers 4 _ (by decide +kernel) fun t hf y => ?_
  blk_simp
  rw [after0_4]
  obtain ⟨r, c, rfl⟩ : ∃ (r : Fin 512) (c : Fin 1024), y = ix2 r c := ⟨y 0, y 1, eq_ix2 y⟩
  rw [out4 m e t r c, show (win0_4.blk t).view.emb (ix2 r c) = ix2 (rowAt N_0 t r) c from by blk_ext [index t, rowAt]]

theorem final_dy : (dats m 0 e).arrAt 5 cfg0.N = dyResult m e := by
  refine (dats m 0 e).arrAt_eq_of_covers 5 _ (by decide +kernel) fun t hf y => ?_
  blk_simp
  rw [after0_5]
  obtain ⟨r, c, rfl⟩ : ∃ (r : Fin 512) (c : Fin 1024), y = ix2 r c := ⟨y 0, y 1, eq_ix2 y⟩
  rw [out5 m e t r c, show (win0_5.blk t).view.emb (ix2 r c) = ix2 (rowAt N_0 t r) c from by blk_ext [index t, rowAt]]
  rfl

theorem final_dp : (dats m 0 e).arrAt 6 cfg0.N = dpResult m e := by
  refine (dats m 0 e).arrAt_eq_of_covers 6 _ (by decide +kernel) fun t hf y => ?_
  blk_simp
  rw [after0_6]
  obtain ⟨c, rfl⟩ : ∃ c : Fin 1024, y = ix2 0 c := ⟨y 1, eq_row y⟩
  rw [out6 m e t (by have := (flush0_6 t).mp hf; have := Nat.lt_of_lt_of_eq t.isLt N_0; omega) c,
    show (win0_6.blk t).view.emb (ix2 0 c) = ix2 0 c from by blk_ext [index t]]
  rfl

end Kernel

/-! ## The reference, read row by row -/

section Reference

open Cert.NormTopBwdRefIdeal Cert.NormTopBwdRefIdeal.Gen Cert.NormTopBwdRefIdeal.Read

variable (y : S4096x1024.Idx → Elt Ideal .bf16) (p : S1024.Idx → Elt Ideal .f32) (d : S4096x1024.Idx → Elt Ideal .f32)
  (r : Fin 4096) (c : Fin 1024)

theorem ref_power : val_main_v7 (F := Ideal) y (ix2 r 0) = power (row y r) := by
  unfold val_main_v7 val_main_v6 val_main_v5 val_main_v4 val_main_v3 val_main_v2 val_main_v1 val_main_v0 val_main_cst val_main_cst_0 val_main_cst_1
  pointwise
  rfl

theorem ref_scale : val_main_v8 (F := Ideal) y (ix2 r 0) = scale (row y r) := by
  unfold val_main_v8
  pointwise [ref_power]
  rfl

theorem ref_slope : val_main_v11 (F := Ideal) y (ix2 r 0) = slope (row y r) := by
  unfold val_main_v11 val_main_v10 val_main_v9 val_main_cst_2
  pointwise [ref_power, ref_scale]
  rfl

theorem ref_gain : val_main_v40 (F := Ideal) y d (ix2 0 c) = ∑ r : Fin 4096, unit (row y r) c * row d r c := by
  unfold val_main_v40 val_main_v24 val_main_v21 val_main_v20 val_main_v19 val_main_v18 val_main_v13 val_main_v12 val_main_v0 val_main_cst_3 val_main_cst_4
  pointwise [ref_scale]
  simp only [Fin.sum_univ_one]
  rfl

theorem ref_pull : val_main_v33 (F := Ideal) y p d (ix1 r) = pull (row y r) (fun c => row d r c * gain p c) := by
  unfold val_main_v33 val_main_v32 val_main_v31 val_main_v30 val_main_v27 val_main_v26 val_main_v25 val_main_v23 val_main_v22 val_main_v18 val_main_v14 val_main_v0 val_main_cst_5 val_main_cst_6 val_main_cst_7
  pointwise
  simp only [Fin.sum_univ_one, ref_slope]
  rfl

theorem ref_grad : val_main_v39 (F := Ideal) y p d (ix2 r c) = back (row y r) (fun c => row d r c * gain p c) c := by
  unfold val_main_v39 val_main_v38 val_main_v37 val_main_v36 val_main_v35 val_main_v34 val_main_v29 val_main_v28 val_main_v23 val_main_v22 val_main_v18 val_main_v14 val_main_v0
  pointwise [ref_scale, ref_pull]
  rfl

end Reference

/-- The kernel's results and the reference's from memories that agree on the arguments. -/
theorem algebraic : Cert.algebraic_NormTopBwdIdeal_NormTopBwdRefIdeal (hNormTopBwdIdeal := Cert.NormTopBwdIdeal.Gen.facts)
    (hNormTopBwdRefIdeal := Cert.NormTopBwdRefIdeal.Gen.facts) := by
  intro m ρ m' ρ' _ hargs
  refine ⟨fun c => ds m c, fun c => dyResult m c, fun c => dpResult m c,
    (θ_run Cert.NormTopBwdIdeal.defs _ _).mono (fun _ h e => ⟨(h e).1.trans (final_dx m e), (h e).2.1.trans (final_dy m e),
      (h e).2.2.1.trans (final_dp m e), (h e).2.2.2⟩) (Cert.NormTopBwdIdeal.Value.run_blocks m ρ),
    (θ_run (Cert.NormTopBwdRefIdeal.defs (F := Ideal)) _ _).mono (fun r h c => ?_) (Cert.NormTopBwdRefIdeal.Value.run (F := Ideal) m' ρ')⟩
  obtain ⟨hx, hy, hp, hkept⟩ := h c
  obtain ⟨a0, a1, a2, a3⟩ := hargs c
  refine ⟨hx.trans a3, hy.trans ?_, hp.trans ?_, hkept⟩
  · rw [Cert.NormTopBwdRefIdeal.Read.val_main_v39_eq, a1, a2, a3]
    funext i
    exact (congrArg _ (eq_ix2 i)).trans (ref_grad _ _ _ (i 0) (i 1))
  · refine (Cert.NormTopBwdRefIdeal.Read.val_main_v40_eq _ _).trans ?_
    rw [a1, a3]
    funext i
    exact (congrArg _ (eq_row i)).trans (ref_gain _ _ (i 1))

end Cert.NormTopBwdEquation

end
-- ==== Proof.AdamStep.lean ====
/-
  The optimiser's step of one number: the new first and second moment, and the weight's change.
-/
module

public import Idealize.ShloMosaic.Lib.Pointwise
public import Idealize.ShloMosaic.Lib.Tactic
public import Idealize.ShloMosaic.Lib.StableHlo.Run

@[expose] public section

noncomputable section

namespace Cert.AdamStep

open Idealize.ShloMosaic

/-- A literal of the two programs. -/
abbrev lit (b : BitVec 32) : EReal := FloatOps.ofBits (F := Ideal) .f32 b

/-- The new first moment, of the gradient and the first moment. -/
def first (g m : EReal) : EReal := lit 0x3F666666#32 * m + lit 0x3DCCCCCD#32 * g

/-- The new second moment, of the gradient and the second moment. -/
def second (g v : EReal) : EReal := lit 0x3F7FBE77#32 * v + lit 0x3A83126F#32 * (g * g)

/-- The weight's change. -/
def change (w g m v : EReal) : EReal :=
  lit 0xBA83126F#32 * (Ideal.div (Ideal.div (first g m) (lit 0x3F26BD02#32)) (Ideal.sqrt (Ideal.div (second g v) (lit 0x3C231ACC#32)) + lit 0x322BCC77#32)
    + lit 0x3C23D70A#32 * w)

/-- The same of arrays of any shape. -/
def firsts {s : Shape} (g m : s.Idx → EReal) : s.Idx → EReal := fun i => first (g i) (m i)
def seconds {s : Shape} (g v : s.Idx → EReal) : s.Idx → EReal := fun i => second (g i) (v i)
def changes {s : Shape} (w g m v : s.Idx → EReal) : s.Idx → EReal := fun i => change (w i) (g i) (m i) (v i)

/-- Equal arrays make equal steps. -/
theorem firsts_congr {s : Shape} {g g' m m' : s.Idx → EReal} (hg : g = g') (hm : m = m') : firsts g m = firsts g' m' := by rw [hg, hm]
theorem seconds_congr {s : Shape} {g g' v v' : s.Idx → EReal} (hg : g = g') (hv : v = v') : seconds g v = seconds g' v' := by rw [hg, hv]
theorem changes_congr {s : Shape} {w w' g g' m m' v v' : s.Idx → EReal} (hw : w = w') (hg : g = g') (hm : m = m') (hv : v = v') :
    changes w g m v = changes w' g' m' v' := by rw [hw, hg, hm, hv]

/-! ## The reference's lines, at any shape -/

variable {s : Shape} (hb : (⟨0, ![]⟩ : Shape).BroadcastsInDim s ![]) (w g m v : FVec Ideal s .f32)

theorem host_first : addf (mulf (broadcastInDim s ![] hb (constant ⟨0, ![]⟩ .f32 0x3F666666#32)) m)
    (mulf (broadcastInDim s ![] hb (constant ⟨0, ![]⟩ .f32 0x3DCCCCCD#32)) g) = firsts g m := rfl

theorem host_second : addf (mulf (broadcastInDim s ![] hb (constant ⟨0, ![]⟩ .f32 0x3F7FBE77#32)) v)
    (mulf (broadcastInDim s ![] hb (constant ⟨0, ![]⟩ .f32 0x3A83126F#32)) (mulf g g)) = seconds g v := rfl

theorem host_change : mulf (broadcastInDim s ![] hb (constant ⟨0, ![]⟩ .f32 0xBA83126F#32))
    (addf (Host.divf (Host.divf (addf (mulf (broadcastInDim s ![] hb (constant ⟨0, ![]⟩ .f32 0x3F666666#32)) m)
        (mulf (broadcastInDim s ![] hb (constant ⟨0, ![]⟩ .f32 0x3DCCCCCD#32)) g)) (broadcastInDim s ![] hb (constant ⟨0, ![]⟩ .f32 0x3F26BD02#32)))
      (addf (Host.sqrt (Host.divf (addf (mulf (broadcastInDim s ![] hb (constant ⟨0, ![]⟩ .f32 0x3F7FBE77#32)) v)
        (mulf (broadcastInDim s ![] hb (constant ⟨0, ![]⟩ .f32 0x3A83126F#32)) (mulf g g))) (broadcastInDim s ![] hb (constant ⟨0, ![]⟩ .f32 0x3C231ACC#32))))
        (broadcastInDim s ![] hb (constant ⟨0, ![]⟩ .f32 0x322BCC77#32))))
      (mulf (broadcastInDim s ![] hb (constant ⟨0, ![]⟩ .f32 0x3C23D70A#32)) w)) = changes w g m v := rfl

end Cert.AdamStep

end
-- ==== Proof.AdamPack.lean ====
/-
  The small weights packed as rows of 128 lanes: eight blocks of rows, and zeros below them. What the host slices out of the
  packed array is the block that was put there.
-/
module

public import proofs.«01_k».proof.Proof.Gen.StepSmallIdeal
public import Idealize.ShloMosaic.Lib.Pointwise
public import Idealize.ShloMosaic.Lib.Tactic
public import Idealize.ShloMosaic.Lib.Pipeline.Value

@[expose] public section

noncomputable section

namespace Cert.AdamPack

open Cert.StepSmallIdeal Cert.StepSmallIdeal.Gen Idealize.ShloMosaic

/-! ## Blocks of rows, stacked -/

section Stack

variable (p0 : S48x128.Idx → EReal) (p1 : S32x128.Idx → EReal) (p2 : S8x128.Idx → EReal) (p3 : S2048x128.Idx → EReal)
  (p4 p5 : S16x128.Idx → EReal) (p6 : S2048x128.Idx → EReal) (p7 : S16x128.Idx → EReal) (z : S376x128.Idx → EReal)

/-- The nine blocks, one below the other. -/
def stack : S4608x128.Idx → EReal :=
  concatenate S4608x128 0 [⟨S48x128, p0⟩, ⟨S32x128, p1⟩, ⟨S8x128, p2⟩, ⟨S2048x128, p3⟩, ⟨S16x128, p4⟩, ⟨S16x128, p5⟩, ⟨S2048x128, p6⟩, ⟨S16x128, p7⟩, ⟨S376x128, z⟩]
    concatenates_S48x128_S32x128_S8x128_S2048x128_S16x128_S16x128_S2048x128_S16x128_S376x128_S4608x128_d0

/-- Row `r` of the stack is a row of the block in which it falls. -/
theorem stack_at (r : Fin 4608) (c : Fin 128) : stack p0 p1 p2 p3 p4 p5 p6 p7 z (ix2 r c) =
    if h : r.val < 48 then p0 (ix2 ⟨r.val, h⟩ c)
    else if h : r.val - 48 < 32 then p1 (ix2 ⟨r.val - 48, h⟩ c)
    else if h : r.val - 80 < 8 then p2 (ix2 ⟨r.val - 80, h⟩ c)
    else if h : r.val - 88 < 2048 then p3 (ix2 ⟨r.val - 88, h⟩ c)
    else if h : r.val - 2136 < 16 then p4 (ix2 ⟨r.val - 2136, h⟩ c)
    else if h : r.val - 2152 < 16 then p5 (ix2 ⟨r.val - 2152, h⟩ c)
    else if h : r.val - 2168 < 2048 then p6 (ix2 ⟨r.val - 2168, h⟩ c)
    else if h : r.val - 4216 < 16 then p7 (ix2 ⟨r.val - 4216, h⟩ c)
    else z (ix2 ⟨r.val - 4232, by omega⟩ c) := by
  unfold stack
  pointwise
  simp only [Nat.sub_sub, Nat.reduceAdd]

variable (c : Fin 128)

theorem row0 (r : Fin 48) (h : 0 + r.val < 4608) : stack p0 p1 p2 p3 p4 p5 p6 p7 z (ix2 ⟨0 + r.val, h⟩ c) = p0 (ix2 r c) := by
  rw [stack_at]
  dsimp only
  rw [dif_pos (by omega)]
  exact congrArg (fun k => p0 (ix2 k c)) (Fin.ext (Nat.zero_add _))

theorem row1 (r : Fin 32) (h : 48 + r.val < 4608) : stack p0 p1 p2 p3 p4 p5 p6 p7 z (ix2 ⟨48 + r.val, h⟩ c) = p1 (ix2 r c) := by
  rw [stack_at]
  dsimp only
  rw [dif_neg (by omega), dif_pos (by omega)]
  exact congrArg (fun k => p1 (ix2 k c)) (Fin.ext (Nat.add_sub_cancel_left ..))

theorem row2 (r : Fin 8) (h : 80 + r.val < 4608) : stack p0 p1 p2 p3 p4 p5 p6 p7 z (ix2 ⟨80 + r.val, h⟩ c) = p2 (ix2 r c) := by
  rw [stack_at]
  dsimp only
  rw [dif_neg (by omega), dif_neg (by omega), dif_pos (by omega)]
  exact congrArg (fun k => p2 (ix2 k c)) (Fin.ext (Nat.add_sub_cancel_left ..))

theorem row3 (r : Fin 2048) (h : 88 + r.val < 4608) : stack p0 p1 p2 p3 p4 p5 p6 p7 z (ix2 ⟨88 + r.val, h⟩ c) = p3 (ix2 r c) := by
  rw [stack_at]
  dsimp only
  rw [dif_neg (by omega), dif_neg (by omega), dif_neg (by omega), dif_pos (by omega)]
  exact congrArg (fun k => p3 (ix2 k c)) (Fin.ext (Nat.add_sub_cancel_left ..))

theorem row4 (r : Fin 16) (h : 2136 + r.val < 4608) : stack p0 p1 p2 p3 p4 p5 p6 p7 z (ix2 ⟨2136 + r.val, h⟩ c) = p4 (ix2 r c) := by
  rw [stack_at]
  dsimp only
  rw [dif_neg (by omega), dif_neg (by omega), dif_neg (by omega), dif_neg (by omega), dif_pos (by omega)]
  exact congrArg (fun k => p4 (ix2 k c)) (Fin.ext (Nat.add_sub_cancel_left ..))

theorem row5 (r : Fin 16) (h : 2152 + r.val < 4608) : stack p0 p1 p2 p3 p4 p5 p6 p7 z (ix2 ⟨2152 + r.val, h⟩ c) = p5 (ix2 r c) := by
  rw [stack_at]
  dsimp only
  rw [dif_neg (by omega), dif_neg (by omega), dif_neg (by omega), dif_neg (by omega), dif_neg (by omega), dif_pos (by omega)]
  exact congrArg (fun k => p5 (ix2 k c)) (Fin.ext (Nat.add_sub_cancel_left ..))

theorem row6 (r : Fin 2048) (h : 2168 + r.val < 4608) : stack p0 p1 p2 p3 p4 p5 p6 p7 z (ix2 ⟨2168 + r.val, h⟩ c) = p6 (ix2 r c) := by
  rw [stack_at]
  dsimp only
  rw [dif_neg (by omega), dif_neg (by omega), dif_neg (by omega), dif_neg (by omega), dif_neg (by omega), dif_neg (by omega),
    dif_pos (by omega)]
  exact congrArg (fun k => p6 (ix2 k c)) (Fin.ext (Nat.add_sub_cancel_left ..))

theorem row7 (r : Fin 16) (h : 4216 + r.val < 4608) : stack p0 p1 p2 p3 p4 p5 p6 p7 z (ix2 ⟨4216 + r.val, h⟩ c) = p7 (ix2 r c) := by
  rw [stack_at]
  dsimp only
  rw [dif_neg (by omega), dif_neg (by omega), dif_neg (by omega), dif_neg (by omega), dif_neg (by omega), dif_neg (by omega),
    dif_neg (by omega), dif_pos (by omega)]
  exact congrArg (fun k => p7 (ix2 k c)) (Fin.ext (Nat.add_sub_cancel_left ..))

end Stack

/-- A slice of `n` rows from row `o` on, once each of them is known. -/
theorem slice_rows {n : Nat} (o : Nat) (A : S4608x128.Idx → EReal) (h : S4608x128.Slices ![o, 0] ⟨2, ![n, 128]⟩) (p : (⟨2, ![n, 128]⟩ : Shape).Idx → EReal)
    (hp : ∀ (r : Fin n) (c : Fin 128) (hr : o + r.val < 4608), A (ix2 ⟨o + r.val, hr⟩ c) = p (ix2 r c)) :
    extractStridedSlice ⟨2, ![n, 128]⟩ ![o, 0] A h = p := by
  funext i
  obtain ⟨r, c, rfl⟩ : ∃ (r : Fin n) (c : Fin 128), i = ix2 r c := ⟨i 0, i 1, eq_ix2 i⟩
  have hr : o + r.val < 4608 := Nat.lt_of_lt_of_le (Nat.add_lt_add_left r.isLt o) (h.2 0)
  refine Eq.trans (congrArg A ?_) (hp r c hr)
  funext a
  match a with
  | 0 => rfl
  | 1 => exact Fin.ext (Nat.zero_add _)

/-! ## The packed weights -/

section Pack

variable (a0 : S4x6x256.Idx → EReal) (a1 : S4x1024.Idx → EReal) (a2 : S4x8.Idx → EReal) (a3 : S4x4x128x128.Idx → EReal)
  (a4 : S4x4x128.Idx → EReal) (a5 : S4x512.Idx → EReal) (a6 : S4x4x128x128.Idx → EReal) (a7 : S4x512.Idx → EReal)

/-- The sinks, 32 numbers, stand in the first row of their block of eight. -/
def sinkLanes : S128.Idx → EReal :=
  pad S128 ![0] ![96] ![0] (shapeCast S32 a2 shapeCasts_S4x8_S32) (sitofp (F := Ideal) .f32 (constantI S_ 32 0#32)) pads_S32_S128_0960 h_S_
def sinkRows : S8x128.Idx → EReal :=
  pad S8x128 ![0, 0] ![7, 0] ![0, 0] (shapeCast S1x128 (sinkLanes a2) shapeCasts_S128_S1x128) (sitofp (F := Ideal) .f32 (constantI S_ 32 0#32))
    pads_S1x128_S8x128_070_000 h_S_

/-- The eight small weights as the host packs them. -/
def pack : S4608x128.Idx → EReal :=
  stack (shapeCast S48x128 a0 shapeCasts_S4x6x256_S48x128) (shapeCast S32x128 a1 shapeCasts_S4x1024_S32x128) (sinkRows a2)
    (shapeCast S2048x128 a3 shapeCasts_S4x4x128x128_S2048x128) (shapeCast S16x128 a4 shapeCasts_S4x4x128_S16x128)
    (shapeCast S16x128 a5 shapeCasts_S4x512_S16x128) (shapeCast S2048x128 a6 shapeCasts_S4x4x128x128_S2048x128)
    (shapeCast S16x128 a7 shapeCasts_S4x512_S16x128) (broadcastInDim S376x128 ![] bcast_S_S376x128 (constant (F := Ideal) S_ .f32 0x00000000#32))

theorem sinkRows_at (c : Fin 128) : sinkRows a2 (ix2 0 c) = sinkLanes a2 (ix1 c) := by
  unfold sinkRows
  pointwise

theorem sinkLanes_at (k : Fin 32) : sinkLanes a2 (ix1 (⟨k.val, by omega⟩ : Fin 128)) = shapeCast S32 a2 shapeCasts_S4x8_S32 (ix1 k) := by
  unfold sinkLanes
  generalize shapeCast S32 a2 shapeCasts_S4x8_S32 = x
  pointwise

end Pack

/-! ## What the host reads of a packed array, for each of the weights -/

section Read

variable (A : S4608x128.Idx → EReal)

def read0 : S4x6x256.Idx → EReal := shapeCast S4x6x256 (extractStridedSlice S48x128 ![0, 0] A slices_S4608x128_S48x128_0_0) shapeCasts_S48x128_S4x6x256
def read1 : S4x1024.Idx → EReal := shapeCast S4x1024 (extractStridedSlice S32x128 ![48, 0] A slices_S4608x128_S32x128_48_0) shapeCasts_S32x128_S4x1024
def read2 : S4x8.Idx → EReal :=
  shapeCast S4x8 (extractStridedSlice S32 ![0] (shapeCast S128 (extractStridedSlice S1x128 ![80, 0] A slices_S4608x128_S1x128_80_0) shapeCasts_S1x128_S128)
    slices_S128_S32_0) shapeCasts_S32_S4x8
def read3 : S4x4x128x128.Idx → EReal :=
  shapeCast S4x4x128x128 (extractStridedSlice S2048x128 ![88, 0] A slices_S4608x128_S2048x128_88_0) shapeCasts_S2048x128_S4x4x128x128
def read4 : S4x4x128.Idx → EReal := shapeCast S4x4x128 (extractStridedSlice S16x128 ![2136, 0] A slices_S4608x128_S16x128_2136_0) shapeCasts_S16x128_S4x4x128
def read5 : S4x512.Idx → EReal := shapeCast S4x512 (extractStridedSlice S16x128 ![2152, 0] A slices_S4608x128_S16x128_2152_0) shapeCasts_S16x128_S4x512
def read6 : S4x4x128x128.Idx → EReal :=
  shapeCast S4x4x128x128 (extractStridedSlice S2048x128 ![2168, 0] A slices_S4608x128_S2048x128_2168_0) shapeCasts_S2048x128_S4x4x128x128
def read7 : S4x512.Idx → EReal := shapeCast S4x512 (extractStridedSlice S16x128 ![4216, 0] A slices_S4608x128_S16x128_4216_0) shapeCasts_S16x128_S4x512

end Read

section ReadPack

variable (a0 : S4x6x256.Idx → EReal) (a1 : S4x1024.Idx → EReal) (a2 : S4x8.Idx → EReal) (a3 : S4x4x128x128.Idx → EReal)
  (a4 : S4x4x128.Idx → EReal) (a5 : S4x512.Idx → EReal) (a6 : S4x4x128x128.Idx → EReal) (a7 : S4x512.Idx → EReal)

theorem read0_pack : read0 (pack a0 a1 a2 a3 a4 a5 a6 a7) = a0 :=
  (congrArg (fun p => shapeCast _ p _) (slice_rows 0 _ _ _ fun r c h => row0 _ _ _ _ _ _ _ _ _ c r h)).trans (shapeCast_shapeCast _ _ _)
theorem read1_pack : read1 (pack a0 a1 a2 a3 a4 a5 a6 a7) = a1 :=
  (congrArg (fun p => shapeCast _ p _) (slice_rows 48 _ _ _ fun r c h => row1 _ _ _ _ _ _ _ _ _ c r h)).trans (shapeCast_shapeCast _ _ _)
theorem read3_pack : read3 (pack a0 a1 a2 a3 a4 a5 a6 a7) = a3 :=
  (congrArg (fun p => shapeCast _ p _) (slice_rows 88 _ _ _ fun r c h => row3 _ _ _ _ _ _ _ _ _ c r h)).trans (shapeCast_shapeCast _ _ _)
theorem read4_pack : read4 (pack a0 a1 a2 a3 a4 a5 a6 a7) = a4 :=
  (congrArg (fun p => shapeCast _ p _) (slice_rows 2136 _ _ _ fun r c h => row4 _ _ _ _ _ _ _ _ _ c r h)).trans (shapeCast_shapeCast _ _ _)
theorem read5_pack : read5 (pack a0 a1 a2 a3 a4 a5 a6 a7) = a5 :=
  (congrArg (fun p => shapeCast _ p _) (slice_rows 2152 _ _ _ fun r c h => row5 _ _ _ _ _ _ _ _ _ c r h)).trans (shapeCast_shapeCast _ _ _)
theorem read6_pack : read6 (pack a0 a1 a2 a3 a4 a5 a6 a7) = a6 :=
  (congrArg (fun p => shapeCast _ p _) (slice_rows 2168 _ _ _ fun r c h => row6 _ _ _ _ _ _ _ _ _ c r h)).trans (shapeCast_shapeCast _ _ _)
theorem read7_pack : read7 (pack a0 a1 a2 a3 a4 a5 a6 a7) = a7 :=
  (congrArg (fun p => shapeCast _ p _) (slice_rows 4216 _ _ _ fun r c h => row7 _ _ _ _ _ _ _ _ _ c r h)).trans (shapeCast_shapeCast _ _ _)

/-- Of the sinks' block the host reads the first row, and of that the first 32 lanes. -/
theorem read2_pack : read2 (pack a0 a1 a2 a3 a4 a5 a6 a7) = a2 := by
  have hrow : extractStridedSlice S1x128 ![80, 0] (pack a0 a1 a2 a3 a4 a5 a6 a7) slices_S4608x128_S1x128_80_0
      = shapeCast S1x128 (sinkLanes a2) shapeCasts_S128_S1x128 :=
    slice_rows 80 _ _ _ fun r c h => by
      obtain rfl : r = 0 := Subsingleton.elim _ _
      refine (row2 _ _ _ _ _ _ _ _ _ c 0 h).trans ((sinkRows_at a2 c).trans ?_)
      pointwise
  unfold read2
  rw [hrow, shapeCast_shapeCast]
  refine (congrArg (fun p => shapeCast _ p _) (funext fun i => ?_)).trans (shapeCast_shapeCast a2 shapeCasts_S4x8_S32 shapeCasts_S32_S4x8)
  obtain ⟨k, rfl⟩ : ∃ k : Fin 32, i = ix1 k := ⟨i 0, eq_ix1 i⟩
  refine Eq.trans ?_ (sinkLanes_at a2 k)
  pointwise

/-- All eight, of an array that is packed. -/
theorem reads {A : S4608x128.Idx → EReal} (h : A = pack a0 a1 a2 a3 a4 a5 a6 a7) : read0 A = a0 ∧ read1 A = a1 ∧ read2 A = a2 ∧ read3 A = a3 ∧ read4 A = a4
    ∧ read5 A = a5 ∧ read6 A = a6 ∧ read7 A = a7 := by
  subst h
  exact ⟨read0_pack .., read1_pack .., read2_pack .., read3_pack .., read4_pack .., read5_pack .., read6_pack .., read7_pack ..⟩

end ReadPack

end Cert.AdamPack

end
-- ==== Proof.AdamArray.lean ====
/-
  What the optimiser's call of the small weights leaves in its three packed arrays: the step of each packed number.
-/
module

public import proofs.«01_k».proof.Proof.AdamStep
public import proofs.«01_k».proof.Proof.AdamPack
public import proofs.«01_k».proof.Proof.Gen.StepSmallIdeal.Frame
public import Idealize.ShloMosaic.Lib.Tactic
public import Idealize.ShloMosaic.Lib.Pipeline.ReadBack
public import Idealize.ShloMosaic.Lib.Pipeline.ValueKit
public import Idealize.ShloMosaic.Lib.Pipeline.ValueKit.Acc
public import Idealize.ShloMosaic.Lib.Pipeline.ValueKit.Partial
public import Idealize.ShloMosaic.Lib.StableHlo.Run

@[expose] public section

noncomputable section

namespace Cert.AdamArray

open Cert.StepSmallIdeal Cert.StepSmallIdeal.Gen Idealize.ShloMosaic Idealize.ShloMosaic.TcCoe Idealize.SL.Sem
open Cert.AdamStep Cert.AdamPack

/-! ## The payloads of the body's stores, at an index -/

section Payloads

variable (w g m v : Vec Ideal S512x128 .f32) (r : Fin 512) (c : Fin 128)

theorem first_at : k0_pay2 (F := Ideal) g m (ix2 r c) = first (g (ix2 r c)) (m (ix2 r c)) := by
  unfold k0_pay2 k0_pay1
  pointwise
  rfl

theorem second_at : k0_pay3 (F := Ideal) g v (ix2 r c) = second (g (ix2 r c)) (v (ix2 r c)) := by
  unfold k0_pay3 k0_pay1
  pointwise
  rfl

theorem change_at : k0_pay4 (F := Ideal) g m v w (ix2 r c) = change (w (ix2 r c)) (g (ix2 r c)) (m (ix2 r c)) (v (ix2 r c)) := by
  unfold k0_pay4
  pointwise [first_at, second_at]
  rfl

end Payloads

variable (m : (ℓ : Loc nD τ sig) → Buf (Elt Ideal) ℓ) (e : Dev nD)

/-- The packed weights, gradients, first and second moments. -/
def ws : S4608x128.Idx → EReal := V m e main_v12
def gs : S4608x128.Idx → EReal := V m e main_v25
def ms : S4608x128.Idx → EReal := V m e main_v38
def vs : S4608x128.Idx → EReal := V m e main_v51

theorem lt9 (t : Fin cfg0.N) : t.val < 9 := Nat.lt_of_lt_of_eq t.isLt N_0

/-- Row `r` of point `t`'s block. -/
def row (t : Fin cfg0.N) (r : Fin 512) : Fin 4608 := ⟨t.val * 512 + r.val, by have := lt9 t; omega⟩

theorem index : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) := by
  decide +kernel

/-! ## The blocks of the four packed arrays -/

section Blocks

variable (t : Fin cfg0.N) (r : Fin 512) (c : Fin 128)

theorem block_w : (iblk m e 0 t : S512x128.Idx → EReal) (ix2 r c) = ws m e (ix2 (row t r) c) := by
  unfold iblk
  rw [View.read_apply]
  show V m e main_v12 _ = V m e main_v12 _
  congr 1
  blk_ext [index t]
  all_goals rfl

theorem block_g : (iblk m e 1 t : S512x128.Idx → EReal) (ix2 r c) = gs m e (ix2 (row t r) c) := by
  unfold iblk
  rw [View.read_apply]
  show V m e main_v25 _ = V m e main_v25 _
  congr 1
  blk_ext [index t]
  all_goals rfl

theorem block_m : (iblk m e 2 t : S512x128.Idx → EReal) (ix2 r c) = ms m e (ix2 (row t r) c) := by
  unfold iblk
  rw [View.read_apply]
  show V m e main_v38 _ = V m e main_v38 _
  congr 1
  blk_ext [index t]
  all_goals rfl

theorem block_v : (iblk m e 3 t : S512x128.Idx → EReal) (ix2 r c) = vs m e (ix2 (row t r) c) := by
  unfold iblk
  rw [View.read_apply]
  show V m e main_v51 _ = V m e main_v51 _
  congr 1
  blk_ext [index t]
  all_goals rfl

end Blocks

/-! ## The three results -/

theorem final_change : (dats m 0 e).arrAt 4 cfg0.N = changes (ws m e) (gs m e) (ms m e) (vs m e) := by
  refine (dats m 0 e).arrAt_eq_of_covers 4 _ (by decide +kernel) fun t hf y => ?_
  blk_simp
  rw [after0_4]
  frame_out
  obtain ⟨r, c, rfl⟩ : ∃ (r : Fin 512) (c : Fin 128), y = ix2 r c := ⟨y 0, y 1, eq_ix2 y⟩
  rw [show (win0_4.blk t).view.emb (ix2 r c) = ix2 (row t r) c from by blk_ext [index t, row]]
  show _ = change (ws m e (ix2 (row t r) c)) (gs m e (ix2 (row t r) c)) (ms m e (ix2 (row t r) c)) (vs m e (ix2 (row t r) c))
  rw [← block_w, ← block_g, ← block_m, ← block_v]
  exact change_at _ _ _ _ r c

theorem final_first : (dats m 0 e).arrAt 5 cfg0.N = firsts (gs m e) (ms m e) := by
  refine (dats m 0 e).arrAt_eq_of_covers 5 _ (by decide +kernel) fun t hf y => ?_
  blk_simp
  rw [after0_5]
  frame_out
  obtain ⟨r, c, rfl⟩ : ∃ (r : Fin 512) (c : Fin 128), y = ix2 r c := ⟨y 0, y 1, eq_ix2 y⟩
  rw [show (win0_5.blk t).view.emb (ix2 r c) = ix2 (row t r) c from by blk_ext [index t, row]]
  show _ = first (gs m e (ix2 (row t r) c)) (ms m e (ix2 (row t r) c))
  rw [← block_g, ← block_m]
  exact first_at _ _ r c

theorem final_second : (dats m 0 e).arrAt 6 cfg0.N = seconds (gs m e) (vs m e) := by
  refine (dats m 0 e).arrAt_eq_of_covers 6 _ (by decide +kernel) fun t hf y => ?_
  blk_simp
  rw [after0_6]
  frame_out
  obtain ⟨r, c, rfl⟩ : ∃ (r : Fin 512) (c : Fin 128), y = ix2 r c := ⟨y 0, y 1, eq_ix2 y⟩
  rw [show (win0_6.blk t).view.emb (ix2 r c) = ix2 (row t r) c from by blk_ext [index t, row]]
  show _ = second (gs m e (ix2 (row t r) c)) (vs m e (ix2 (row t r) c))
  rw [← block_g, ← block_v]
  exact second_at _ _ r c

end Cert.AdamArray

end
-- ==== Proof.AdamHost.lean ====
/-
  The packed arrays the host prepares for the optimiser's call of the small weights.
-/
module

public import proofs.«01_k».proof.Proof.AdamArray

@[expose] public section

noncomputable section

namespace Cert.AdamHost

open Cert.StepSmallIdeal Cert.StepSmallIdeal.Gen Idealize.ShloMosaic Idealize.ShloMosaic.TcCoe Idealize.SL.Sem
open Cert.AdamStep Cert.AdamPack Cert.AdamArray

variable (m : (ℓ : Loc nD τ sig) → Buf (Elt Ideal) ℓ) (e : Dev nD)

/-- An argument as launched. -/
def arg (a : Ref sig .tc) : Buf (Elt Ideal) ((e : Thread nD τ).loc a) := m ((e : Thread nD τ).loc a)

set_option maxHeartbeats 1600000 in
/-- The weights, the gradients and both moments are packed alike. -/
theorem packed : ws m e = pack (arg m e main_arg0) (arg m e main_arg1) (arg m e main_arg2) (arg m e main_arg3) (arg m e main_arg4) (arg m e main_arg5)
      (arg m e main_arg6) (arg m e main_arg7)
    ∧ gs m e = pack (arg m e main_arg8) (arg m e main_arg9) (arg m e main_arg10) (arg m e main_arg11) (arg m e main_arg12) (arg m e main_arg13)
      (arg m e main_arg14) (arg m e main_arg15)
    ∧ ms m e = pack (arg m e main_arg16) (arg m e main_arg17) (arg m e main_arg18) (arg m e main_arg19) (arg m e main_arg20) (arg m e main_arg21)
      (arg m e main_arg22) (arg m e main_arg23)
    ∧ vs m e = pack (arg m e main_arg24) (arg m e main_arg25) (arg m e main_arg26) (arg m e main_arg27) (arg m e main_arg28) (arg m e main_arg29)
      (arg m e main_arg30) (arg m e main_arg31) := by
  dsimp only [ws, gs, ms, vs, V, V0, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, List.flatten, List.append_eq, List.cons_append, List.nil_append,
    List.append_nil, StableHlo.TRef.binary, StableHlo.TRef.nullary, StableHlo.TRef.unary, StableHlo.TRef.toBuf, StableHlo.TRef.ofBuf]
  refine ⟨?_, ?_, ?_, ?_⟩
  all_goals after_results
  all_goals rfl

end Cert.AdamHost

end
-- ==== Proof.AdamTail.lean ====
/-
  What the host slices out of the three packed arrays after the optimiser's call of the small weights.
-/
module

public import proofs.«01_k».proof.Proof.AdamArray

@[expose] public section

noncomputable section

namespace Cert.AdamTail

open Cert.StepSmallIdeal Cert.StepSmallIdeal.Gen Idealize.ShloMosaic Idealize.ShloMosaic.TcCoe Idealize.SL.Sem
open Cert.AdamStep Cert.AdamPack Cert.AdamArray

variable (m : (ℓ : Loc nD τ sig) → Buf (Elt Ideal) ℓ) (e : Dev nD)

/-- A buffer after the host's last lines. -/
def left (b : Ref sig .tc) : Buf (Elt Ideal) ((e : Thread nD τ).loc b) := Pipeline.afterTail₀ cfgs (dats m) 0 (V0 m) [hostOps1] e b

/-- A packed array where the host reads it. -/
def final (b : Ref sig .tc) : Buf (Elt Ideal) ((e : Thread nD τ).loc b) :=
  Pipeline.withArrays spec0 e (V0 m e) (fun w => (dats m 0 e).arrAt w cfg0.N) (Proc.devRef .tc b)

theorem at_change : final m e main_v52_0 = changes (ws m e) (gs m e) (ms m e) (vs m e) :=
  (Pipeline.withArrays_arr spec0 launch0.win.arr_inj e (V0 m e) (fun w => (dats m 0 e).arrAt w cfg0.N) 4).trans (final_change m e)
theorem at_first : final m e main_v52_1 = firsts (gs m e) (ms m e) :=
  (Pipeline.withArrays_arr spec0 launch0.win.arr_inj e (V0 m e) (fun w => (dats m 0 e).arrAt w cfg0.N) 5).trans (final_first m e)
theorem at_second : final m e main_v52_2 = seconds (gs m e) (vs m e) :=
  (Pipeline.withArrays_arr spec0 launch0.win.arr_inj e (V0 m e) (fun w => (dats m 0 e).arrAt w cfg0.N) 6).trans (final_second m e)

set_option maxHeartbeats 4000000 in
/-- Each of the three arrays is read alike. -/
theorem tail : (left m e main_v54 = read0 (final m e main_v52_0) ∧ left m e main_v56 = read1 (final m e main_v52_0)
      ∧ left m e main_v60 = read2 (final m e main_v52_0) ∧ left m e main_v62 = read3 (final m e main_v52_0)
      ∧ left m e main_v64 = read4 (final m e main_v52_0) ∧ left m e main_v66 = read5 (final m e main_v52_0)
      ∧ left m e main_v68 = read6 (final m e main_v52_0) ∧ left m e main_v70 = read7 (final m e main_v52_0))
    ∧ (left m e main_v72 = read0 (final m e main_v52_1) ∧ left m e main_v74 = read1 (final m e main_v52_1)
      ∧ left m e main_v78 = read2 (final m e main_v52_1) ∧ left m e main_v80 = read3 (final m e main_v52_1)
      ∧ left m e main_v82 = read4 (final m e main_v52_1) ∧ left m e main_v84 = read5 (final m e main_v52_1)
      ∧ left m e main_v86 = read6 (final m e main_v52_1) ∧ left m e main_v88 = read7 (final m e main_v52_1))
    ∧ (left m e main_v90 = read0 (final m e main_v52_2) ∧ left m e main_v92 = read1 (final m e main_v52_2)
      ∧ left m e main_v96 = read2 (final m e main_v52_2) ∧ left m e main_v98 = read3 (final m e main_v52_2)
      ∧ left m e main_v100 = read4 (final m e main_v52_2) ∧ left m e main_v102 = read5 (final m e main_v52_2)
      ∧ left m e main_v104 = read6 (final m e main_v52_2) ∧ left m e main_v106 = read7 (final m e main_v52_2)) := by
  unfold left Pipeline.afterTail₀
  simp only [hostOps1, List.flatten_cons, List.flatten_nil, List.cons_append, List.nil_append, List.append_nil, StableHlo.TRef.binary, StableHlo.TRef.nullary, StableHlo.TRef.unary, StableHlo.TRef.toBuf, StableHlo.TRef.ofBuf, cast_eq]
  refine ⟨⟨?_, ?_, ?_, ?_, ?_, ?_, ?_, ?_⟩, ⟨?_, ?_, ?_, ?_, ?_, ?_, ?_, ?_⟩, ⟨?_, ?_, ?_, ?_, ?_, ?_, ?_, ?_⟩⟩
  all_goals after_results
  all_goals rfl

end Cert.AdamTail

end
-- ==== Proof.StepSmallEquation.lean ====
/-
  The value claim of the optimiser's call of the small weights: each weight's change and both its new moments, out of the packed
  arrays, are the reference's.
-/
module

public import proofs.«01_k».proof.Defs
public import proofs.«01_k».proof.Proof.AdamHost
public import proofs.«01_k».proof.Proof.AdamTail
public import proofs.«01_k».proof.Proof.Gen.StepSmallRefIdeal.Run

@[expose] public section

noncomputable section

namespace Cert.StepSmallEquation

open Idealize.ShloMosaic Idealize.ShloMosaic.TcCoe Idealize.SL.Sem
open Cert.AdamStep Cert.AdamPack Cert.AdamArray Cert.AdamHost Cert.AdamTail

section Kernel

open Cert.StepSmallIdeal Cert.StepSmallIdeal.Gen

variable (m : (ℓ : Loc nD τ sig) → Buf (Elt Ideal) ℓ) (e : Dev nD)

set_option maxHeartbeats 1600000 in
theorem changed : left m e main_v54 = changes (arg m e main_arg0) (arg m e main_arg8) (arg m e main_arg16) (arg m e main_arg24)
    ∧ left m e main_v56 = changes (arg m e main_arg1) (arg m e main_arg9) (arg m e main_arg17) (arg m e main_arg25)
    ∧ left m e main_v60 = changes (arg m e main_arg2) (arg m e main_arg10) (arg m e main_arg18) (arg m e main_arg26)
    ∧ left m e main_v62 = changes (arg m e main_arg3) (arg m e main_arg11) (arg m e main_arg19) (arg m e main_arg27)
    ∧ left m e main_v64 = changes (arg m e main_arg4) (arg m e main_arg12) (arg m e main_arg20) (arg m e main_arg28)
    ∧ left m e main_v66 = changes (arg m e main_arg5) (arg m e main_arg13) (arg m e main_arg21) (arg m e main_arg29)
    ∧ left m e main_v68 = changes (arg m e main_arg6) (arg m e main_arg14) (arg m e main_arg22) (arg m e main_arg30)
    ∧ left m e main_v70 = changes (arg m e main_arg7) (arg m e main_arg15) (arg m e main_arg23) (arg m e main_arg31) := by
  obtain ⟨hw, hg, hm, hv⟩ := packed m e
  obtain ⟨w0, w1, w2, w3, w4, w5, w6, w7⟩ := reads _ _ _ _ _ _ _ _ hw
  obtain ⟨g0, g1, g2, g3, g4, g5, g6, g7⟩ := reads _ _ _ _ _ _ _ _ hg
  obtain ⟨m0, m1, m2, m3, m4, m5, m6, m7⟩ := reads _ _ _ _ _ _ _ _ hm
  obtain ⟨v0, v1, v2, v3, v4, v5, v6, v7⟩ := reads _ _ _ _ _ _ _ _ hv
  obtain ⟨⟨t0, t1, t2, t3, t4, t5, t6, t7⟩, -⟩ := tail m e
  exact ⟨t0.trans ((congrArg read0 (at_change m e)).trans (changes_congr w0 g0 m0 v0)),
    t1.trans ((congrArg read1 (at_change m e)).trans (changes_congr w1 g1 m1 v1)),
    t2.trans ((congrArg read2 (at_change m e)).trans (changes_congr w2 g2 m2 v2)),
    t3.trans ((congrArg read3 (at_change m e)).trans (changes_congr w3 g3 m3 v3)),
    t4.trans ((congrArg read4 (at_change m e)).trans (changes_congr w4 g4 m4 v4)),
    t5.trans ((congrArg read5 (at_change m e)).trans (changes_congr w5 g5 m5 v5)),
    t6.trans ((congrArg read6 (at_change m e)).trans (changes_congr w6 g6 m6 v6)),
    t7.trans ((congrArg read7 (at_change m e)).trans (changes_congr w7 g7 m7 v7))⟩

set_option maxHeartbeats 1600000 in
theorem new_first : left m e main_v72 = firsts (arg m e main_arg8) (arg m e main_arg16) ∧ left m e main_v74 = firsts (arg m e main_arg9) (arg m e main_arg17)
    ∧ left m e main_v78 = firsts (arg m e main_arg10) (arg m e main_arg18) ∧ left m e main_v80 = firsts (arg m e main_arg11) (arg m e main_arg19)
    ∧ left m e main_v82 = firsts (arg m e main_arg12) (arg m e main_arg20) ∧ left m e main_v84 = firsts (arg m e main_arg13) (arg m e main_arg21)
    ∧ left m e main_v86 = firsts (arg m e main_arg14) (arg m e main_arg22) ∧ left m e main_v88 = firsts (arg m e main_arg15) (arg m e main_arg23) := by
  obtain ⟨-, hg, hm, -⟩ := packed m e
  obtain ⟨g0, g1, g2, g3, g4, g5, g6, g7⟩ := reads _ _ _ _ _ _ _ _ hg
  obtain ⟨m0, m1, m2, m3, m4, m5, m6, m7⟩ := reads _ _ _ _ _ _ _ _ hm
  obtain ⟨-, ⟨t0, t1, t2, t3, t4, t5, t6, t7⟩, -⟩ := tail m e
  exact ⟨t0.trans ((congrArg read0 (at_first m e)).trans (firsts_congr g0 m0)),
    t1.trans ((congrArg read1 (at_first m e)).trans (firsts_congr g1 m1)),
    t2.trans ((congrArg read2 (at_first m e)).trans (firsts_congr g2 m2)),
    t3.trans ((congrArg read3 (at_first m e)).trans (firsts_congr g3 m3)),
    t4.trans ((congrArg read4 (at_first m e)).trans (firsts_congr g4 m4)),
    t5.trans ((congrArg read5 (at_first m e)).trans (firsts_congr g5 m5)),
    t6.trans ((congrArg read6 (at_first m e)).trans (firsts_congr g6 m6)),
    t7.trans ((congrArg read7 (at_first m e)).trans (firsts_congr g7 m7))⟩

set_option maxHeartbeats 1600000 in
theorem new_second : left m e main_v90 = seconds (arg m e main_arg8) (arg m e main_arg24) ∧ left m e main_v92 = seconds (arg m e main_arg9) (arg m e main_arg25)
    ∧ left m e main_v96 = seconds (arg m e main_arg10) (arg m e main_arg26) ∧ left m e main_v98 = seconds (arg m e main_arg11) (arg m e main_arg27)
    ∧ left m e main_v100 = seconds (arg m e main_arg12) (arg m e main_arg28) ∧ left m e main_v102 = seconds (arg m e main_arg13) (arg m e main_arg29)
    ∧ left m e main_v104 = seconds (arg m e main_arg14) (arg m e main_arg30) ∧ left m e main_v106 = seconds (arg m e main_arg15) (arg m e main_arg31) := by
  obtain ⟨-, hg, -, hv⟩ := packed m e
  obtain ⟨g0, g1, g2, g3, g4, g5, g6, g7⟩ := reads _ _ _ _ _ _ _ _ hg
  obtain ⟨v0, v1, v2, v3, v4, v5, v6, v7⟩ := reads _ _ _ _ _ _ _ _ hv
  obtain ⟨-, -, ⟨t0, t1, t2, t3, t4, t5, t6, t7⟩⟩ := tail m e
  exact ⟨t0.trans ((congrArg read0 (at_second m e)).trans (seconds_congr g0 v0)),
    t1.trans ((congrArg read1 (at_second m e)).trans (seconds_congr g1 v1)),
    t2.trans ((congrArg read2 (at_second m e)).trans (seconds_congr g2 v2)),
    t3.trans ((congrArg read3 (at_second m e)).trans (seconds_congr g3 v3)),
    t4.trans ((congrArg read4 (at_second m e)).trans (seconds_congr g4 v4)),
    t5.trans ((congrArg read5 (at_second m e)).trans (seconds_congr g5 v5)),
    t6.trans ((congrArg read6 (at_second m e)).trans (seconds_congr g6 v6)),
    t7.trans ((congrArg read7 (at_second m e)).trans (seconds_congr g7 v7))⟩

/-- A result that the host's last lines write is in the final memory. -/
theorem mem_left {r : PUnit × MemSt nD τ sig (Elt Ideal)} (h : Pipeline.FramePost cfgs (dats m) 0 (Pipeline.afterTail₀ cfgs (dats m) 0 (V0 m) [hostOps1]) r)
    (b : Ref sig .tc) (hb : b ∈ Pipeline.restRefs sig spec0) {x : Buf (Elt Ideal) ((e : Thread nD τ).loc b)} (hx : left m e b = x) :
    r.2.mem ((e : Thread nD τ).loc b) = x := ((h e).2 b hb).trans hx

set_option maxHeartbeats 4000000 in
/-- The run of the kernel and its host: the weights' changes, the new first moments, the new second moments, and the arguments unchanged. -/
theorem run (ρ : Dev nD → PrngReg) : θ_run defs (onTc (τ := τ) (main (F := Ideal))) ⟨m, fun _ => 0, ρ⟩ fun r => ∀ e : Dev nD,
      r.2.mem ((e : Thread nD τ).loc main_v54) = changes (arg m e main_arg0) (arg m e main_arg8) (arg m e main_arg16) (arg m e main_arg24)
      ∧ r.2.mem ((e : Thread nD τ).loc main_v56) = changes (arg m e main_arg1) (arg m e main_arg9) (arg m e main_arg17) (arg m e main_arg25)
      ∧ r.2.mem ((e : Thread nD τ).loc main_v60) = changes (arg m e main_arg2) (arg m e main_arg10) (arg m e main_arg18) (arg m e main_arg26)
      ∧ r.2.mem ((e : Thread nD τ).loc main_v62) = changes (arg m e main_arg3) (arg m e main_arg11) (arg m e main_arg19) (arg m e main_arg27)
      ∧ r.2.mem ((e : Thread nD τ).loc main_v64) = changes (arg m e main_arg4) (arg m e main_arg12) (arg m e main_arg20) (arg m e main_arg28)
      ∧ r.2.mem ((e : Thread nD τ).loc main_v66) = changes (arg m e main_arg5) (arg m e main_arg13) (arg m e main_arg21) (arg m e main_arg29)
      ∧ r.2.mem ((e : Thread nD τ).loc main_v68) = changes (arg m e main_arg6) (arg m e main_arg14) (arg m e main_arg22) (arg m e main_arg30)
      ∧ r.2.mem ((e : Thread nD τ).loc main_v70) = changes (arg m e main_arg7) (arg m e main_arg15) (arg m e main_arg23) (arg m e main_arg31)
      ∧ r.2.mem ((e : Thread nD τ).loc main_v72) = firsts (arg m e main_arg8) (arg m e main_arg16)
      ∧ r.2.mem ((e : Thread nD τ).loc main_v74) = firsts (arg m e main_arg9) (arg m e main_arg17)
      ∧ r.2.mem ((e : Thread nD τ).loc main_v78) = firsts (arg m e main_arg10) (arg m e main_arg18)
      ∧ r.2.mem ((e : Thread nD τ).loc main_v80) = firsts (arg m e main_arg11) (arg m e main_arg19)
      ∧ r.2.mem ((e : Thread nD τ).loc main_v82) = firsts (arg m e main_arg12) (arg m e main_arg20)
      ∧ r.2.mem ((e : Thread nD τ).loc main_v84) = firsts (arg m e main_arg13) (arg m e main_arg21)
      ∧ r.2.mem ((e : Thread nD τ).loc main_v86) = firsts (arg m e main_arg14) (arg m e main_arg22)
      ∧ r.2.mem ((e : Thread nD τ).loc main_v88) = firsts (arg m e main_arg15) (arg m e main_arg23)
      ∧ r.2.mem ((e : Thread nD τ).loc main_v90) = seconds (arg m e main_arg8) (arg m e main_arg24)
      ∧ r.2.mem ((e : Thread nD τ).loc main_v92) = seconds (arg m e main_arg9) (arg m e main_arg25)
      ∧ r.2.mem ((e : Thread nD τ).loc main_v96) = seconds (arg m e main_arg10) (arg m e main_arg26)
      ∧ r.2.mem ((e : Thread nD τ).loc main_v98) = seconds (arg m e main_arg11) (arg m e main_arg27)
      ∧ r.2.mem ((e : Thread nD τ).loc main_v100) = seconds (arg m e main_arg12) (arg m e main_arg28)
      ∧ r.2.mem ((e : Thread nD τ).loc main_v102) = seconds (arg m e main_arg13) (arg m e main_arg29)
      ∧ r.2.mem ((e : Thread nD τ).loc main_v104) = seconds (arg m e main_arg14) (arg m e main_arg30)
      ∧ r.2.mem ((e : Thread nD τ).loc main_v106) = seconds (arg m e main_arg15) (arg m e main_arg31)
      ∧ r.2.mem ((e : Thread nD τ).loc main_arg0) = m ((e : Thread nD τ).loc main_arg0)
      ∧ r.2.mem ((e : Thread nD τ).loc main_arg1) = m ((e : Thread nD τ).loc main_arg1)
      ∧ r.2.mem ((e : Thread nD τ).loc main_arg2) = m ((e : Thread nD τ).loc main_arg2)
      ∧ r.2.mem ((e : Thread nD τ).loc main_arg3) = m ((e : Thread nD τ).loc main_arg3)
      ∧ r.2.mem ((e : Thread nD τ).loc main_arg4) = m ((e : Thread nD τ).loc main_arg4)
      ∧ r.2.mem ((e : Thread nD τ).loc main_arg5) = m ((e : Thread nD τ).loc main_arg5)
      ∧ r.2.mem ((e : Thread nD τ).loc main_arg6) = m ((e : Thread nD τ).loc main_arg6)
      ∧ r.2.mem ((e : Thread nD τ).loc main_arg7) = m ((e : Thread nD τ).loc main_arg7)
      ∧ r.2.mem ((e : Thread nD τ).loc main_arg8) = m ((e : Thread nD τ).loc main_arg8)
      ∧ r.2.mem ((e : Thread nD τ).loc main_arg9) = m ((e : Thread nD τ).loc main_arg9)
      ∧ r.2.mem ((e : Thread nD τ).loc main_arg10) = m ((e : Thread nD τ).loc main_arg10)
      ∧ r.2.mem ((e : Thread nD τ).loc main_arg11) = m ((e : Thread nD τ).loc main_arg11)
      ∧ r.2.mem ((e : Thread nD τ).loc main_arg12) = m ((e : Thread nD τ).loc main_arg12)
      ∧ r.2.mem ((e : Thread nD τ).loc main_arg13) = m ((e : Thread nD τ).loc main_arg13)
      ∧ r.2.mem ((e : Thread nD τ).loc main_arg14) = m ((e : Thread nD τ).loc main_arg14)
      ∧ r.2.mem ((e : Thread nD τ).loc main_arg15) = m ((e : Thread nD τ).loc main_arg15)
      ∧ r.2.mem ((e : Thread nD τ).loc main_arg16) = m ((e : Thread nD τ).loc main_arg16)
      ∧ r.2.mem ((e : Thread nD τ).loc main_arg17) = m ((e : Thread nD τ).loc main_arg17)
      ∧ r.2.mem ((e : Thread nD τ).loc main_arg18) = m ((e : Thread nD τ).loc main_arg18)
      ∧ r.2.mem ((e : Thread nD τ).loc main_arg19) = m ((e : Thread nD τ).loc main_arg19)
      ∧ r.2.mem ((e : Thread nD τ).loc main_arg20) = m ((e : Thread nD τ).loc main_arg20)
      ∧ r.2.mem ((e : Thread nD τ).loc main_arg21) = m ((e : Thread nD τ).loc main_arg21)
      ∧ r.2.mem ((e : Thread nD τ).loc main_arg22) = m ((e : Thread nD τ).loc main_arg22)
      ∧ r.2.mem ((e : Thread nD τ).loc main_arg23) = m ((e : Thread nD τ).loc main_arg23)
      ∧ r.2.mem ((e : Thread nD τ).loc main_arg24) = m ((e : Thread nD τ).loc main_arg24)
      ∧ r.2.mem ((e : Thread nD τ).loc main_arg25) = m ((e : Thread nD τ).loc main_arg25)
      ∧ r.2.mem ((e : Thread nD τ).loc main_arg26) = m ((e : Thread nD τ).loc main_arg26)
      ∧ r.2.mem ((e : Thread nD τ).loc main_arg27) = m ((e : Thread nD τ).loc main_arg27)
      ∧ r.2.mem ((e : Thread nD τ).loc main_arg28) = m ((e : Thread nD τ).loc main_arg28)
      ∧ r.2.mem ((e : Thread nD τ).loc main_arg29) = m ((e : Thread nD τ).loc main_arg29)
      ∧ r.2.mem ((e : Thread nD τ).loc main_arg30) = m ((e : Thread nD τ).loc main_arg30)
      ∧ r.2.mem ((e : Thread nD τ).loc main_arg31) = m ((e : Thread nD τ).loc main_arg31) := by
  refine (θ_run defs _ _).mono (fun r h e => ?_) (θ_run_and (run_main m ρ) (unchanged m ρ))
  obtain ⟨c0, c1, c2, c3, c4, c5, c6, c7⟩ := changed m e
  obtain ⟨f0, f1, f2, f3, f4, f5, f6, f7⟩ := new_first m e
  obtain ⟨s0, s1, s2, s3, s4, s5, s6, s7⟩ := new_second m e
  exact ⟨mem_left m e h.1 main_v54 (by decide) c0, mem_left m e h.1 main_v56 (by decide) c1, mem_left m e h.1 main_v60 (by decide) c2,
    mem_left m e h.1 main_v62 (by decide) c3, mem_left m e h.1 main_v64 (by decide) c4, mem_left m e h.1 main_v66 (by decide) c5,
    mem_left m e h.1 main_v68 (by decide) c6, mem_left m e h.1 main_v70 (by decide) c7, mem_left m e h.1 main_v72 (by decide) f0,
    mem_left m e h.1 main_v74 (by decide) f1, mem_left m e h.1 main_v78 (by decide) f2, mem_left m e h.1 main_v80 (by decide) f3,
    mem_left m e h.1 main_v82 (by decide) f4, mem_left m e h.1 main_v84 (by decide) f5, mem_left m e h.1 main_v86 (by decide) f6,
    mem_left m e h.1 main_v88 (by decide) f7, mem_left m e h.1 main_v90 (by decide) s0, mem_left m e h.1 main_v92 (by decide) s1,
    mem_left m e h.1 main_v96 (by decide) s2, mem_left m e h.1 main_v98 (by decide) s3, mem_left m e h.1 main_v100 (by decide) s4,
    mem_left m e h.1 main_v102 (by decide) s5, mem_left m e h.1 main_v104 (by decide) s6, mem_left m e h.1 main_v106 (by decide) s7, h.2 e⟩

end Kernel

set_option maxHeartbeats 4000000 in
/-- The kernel's twenty-four results and the reference's from memories that agree on the arguments. -/
theorem algebraic : Cert.algebraic_StepSmallIdeal_StepSmallRefIdeal (hStepSmallIdeal := Cert.StepSmallIdeal.Gen.facts)
    (hStepSmallRefIdeal := Cert.StepSmallRefIdeal.Gen.facts) := by
  intro m ρ m' ρ' _ hargs
  refine ⟨_, _, _, _, _, _, _, _, _, _, _, _, _, _, _, _, _, _, _, _, _, _, _, _, run m ρ, ?_⟩
  refine (θ_run (Cert.StepSmallRefIdeal.defs (F := Ideal)) _ _).mono (fun r h c => ?_) (Cert.StepSmallRefIdeal.Value.run (F := Ideal) m' ρ')
  obtain ⟨c0, c1, c2, c3, c4, c5, c6, c7, f0, f1, f2, f3, f4, f5, f6, f7, s0, s1, s2, s3, s4, s5, s6, s7, hkept⟩ := h c
  obtain ⟨w0, w1, w2, w3, w4, w5, w6, w7, g0, g1, g2, g3, g4, g5, g6, g7, m0, m1, m2, m3, m4, m5, m6, m7, v0, v1, v2, v3, v4, v5, v6, v7⟩ := hargs c
  exact ⟨c0.trans ((host_change _ _ _ _ _).trans (changes_congr w0 g0 m0 v0)), c1.trans ((host_change _ _ _ _ _).trans (changes_congr w1 g1 m1 v1)),
    c2.trans ((host_change _ _ _ _ _).trans (changes_congr w2 g2 m2 v2)), c3.trans ((host_change _ _ _ _ _).trans (changes_congr w3 g3 m3 v3)),
    c4.trans ((host_change _ _ _ _ _).trans (changes_congr w4 g4 m4 v4)), c5.trans ((host_change _ _ _ _ _).trans (changes_congr w5 g5 m5 v5)),
    c6.trans ((host_change _ _ _ _ _).trans (changes_congr w6 g6 m6 v6)), c7.trans ((host_change _ _ _ _ _).trans (changes_congr w7 g7 m7 v7)),
    f0.trans ((host_first _ _ _).trans (firsts_congr g0 m0)), f1.trans ((host_first _ _ _).trans (firsts_congr g1 m1)),
    f2.trans ((host_first _ _ _).trans (firsts_congr g2 m2)), f3.trans ((host_first _ _ _).trans (firsts_congr g3 m3)),
    f4.trans ((host_first _ _ _).trans (firsts_congr g4 m4)), f5.trans ((host_first _ _ _).trans (firsts_congr g5 m5)),
    f6.trans ((host_first _ _ _).trans (firsts_congr g6 m6)), f7.trans ((host_first _ _ _).trans (firsts_congr g7 m7)),
    s0.trans ((host_second _ _ _).trans (seconds_congr g0 v0)), s1.trans ((host_second _ _ _).trans (seconds_congr g1 v1)),
    s2.trans ((host_second _ _ _).trans (seconds_congr g2 v2)), s3.trans ((host_second _ _ _).trans (seconds_congr g3 v3)),
    s4.trans ((host_second _ _ _).trans (seconds_congr g4 v4)), s5.trans ((host_second _ _ _).trans (seconds_congr g5 v5)),
    s6.trans ((host_second _ _ _).trans (seconds_congr g6 v6)), s7.trans ((host_second _ _ _).trans (seconds_congr g7 v7)), hkept⟩

end Cert.StepSmallEquation

end
-- ==== Proof.lean ====
/- The claims about the calls of the training step, put together: the frames, the kernels' own texts and the values. -/
module

public import proofs.«01_k».proof.Defs
public import proofs.«01_k».proof.Proof.ReferenceFrame
public import proofs.«01_k».proof.Proof.Gen.MemoryBwd
public import proofs.«01_k».proof.Proof.Gen.MemoryBwd.Frame
public import proofs.«01_k».proof.Proof.Gen.MemoryBwdIdeal
public import proofs.«01_k».proof.Proof.Gen.MemoryBwdIdeal.Frame
public import proofs.«01_k».proof.Proof.Gen.MemoryGradIdeal
public import proofs.«01_k».proof.Proof.Gen.MemoryGradIdeal.Run
public import proofs.«01_k».proof.Proof.Gen.Pre_mem_finite
public import proofs.«01_k».proof.Proof.Gen.Pre_mem_fwd_finite
public import proofs.«01_k».proof.Proof.Gen.MlpDownDx
public import proofs.«01_k».proof.Proof.Gen.MlpDownDx.Frame
public import proofs.«01_k».proof.Proof.Gen.MlpDownDxIdeal
public import proofs.«01_k».proof.Proof.Gen.MlpDownDxIdeal.Frame
public import proofs.«01_k».proof.Proof.Gen.MlpDownDxIdeal.Value
public import proofs.«01_k».proof.Proof.Gen.MlpDownDxRefIdeal
public import proofs.«01_k».proof.Proof.Gen.MlpDownDxRefIdeal.Run
public import proofs.«01_k».proof.Proof.Gen.MlpDownDxRefIdeal.Read
public import proofs.«01_k».proof.Proof.Gen.MlpDownDw
public import proofs.«01_k».proof.Proof.Gen.MlpDownDw.Frame
public import proofs.«01_k».proof.Proof.Gen.MlpDownDwIdeal
public import proofs.«01_k».proof.Proof.Gen.MlpDownDwIdeal.Frame
public import proofs.«01_k».proof.Proof.Gen.MlpDownDwIdeal.Value
public import proofs.«01_k».proof.Proof.Gen.MlpDownDwRefIdeal
public import proofs.«01_k».proof.Proof.Gen.MlpDownDwRefIdeal.Run
public import proofs.«01_k».proof.Proof.Gen.MlpDownDwRefIdeal.Read
public import proofs.«01_k».proof.Proof.Gen.MlpUpDx
public import proofs.«01_k».proof.Proof.Gen.MlpUpDx.Frame
public import proofs.«01_k».proof.Proof.Gen.MlpUpDxIdeal
public import proofs.«01_k».proof.Proof.Gen.MlpUpDxIdeal.Frame
public import proofs.«01_k».proof.Proof.Gen.MlpUpDxIdeal.Value
public import proofs.«01_k».proof.Proof.Gen.MlpUpDxRefIdeal
public import proofs.«01_k».proof.Proof.Gen.MlpUpDxRefIdeal.Run
public import proofs.«01_k».proof.Proof.Gen.MlpUpDxRefIdeal.Read
public import proofs.«01_k».proof.Proof.Gen.MlpUpDw
public import proofs.«01_k».proof.Proof.Gen.MlpUpDw.Frame
public import proofs.«01_k».proof.Proof.Gen.MlpUpDwIdeal
public import proofs.«01_k».proof.Proof.Gen.MlpUpDwIdeal.Frame
public import proofs.«01_k».proof.Proof.Gen.MlpUpDwIdeal.Value
public import proofs.«01_k».proof.Proof.Gen.MlpUpDwRefIdeal
public import proofs.«01_k».proof.Proof.Gen.MlpUpDwRefIdeal.Run
public import proofs.«01_k».proof.Proof.Gen.MlpUpDwRefIdeal.Read
public import proofs.«01_k».proof.Proof.Gen.InProjDx
public import proofs.«01_k».proof.Proof.Gen.InProjDx.Frame
public import proofs.«01_k».proof.Proof.Gen.InProjDxIdeal
public import proofs.«01_k».proof.Proof.Gen.InProjDxIdeal.Frame
public import proofs.«01_k».proof.Proof.Gen.InProjDxIdeal.Value
public import proofs.«01_k».proof.Proof.Gen.InProjDxRefIdeal
public import proofs.«01_k».proof.Proof.Gen.InProjDxRefIdeal.Run
public import proofs.«01_k».proof.Proof.Gen.InProjDxRefIdeal.Read
public import proofs.«01_k».proof.Proof.Gen.InProjDw
public import proofs.«01_k».proof.Proof.Gen.InProjDw.Frame
public import proofs.«01_k».proof.Proof.Gen.InProjDwIdeal
public import proofs.«01_k».proof.Proof.Gen.InProjDwIdeal.Frame
public import proofs.«01_k».proof.Proof.Gen.InProjDwIdeal.Value
public import proofs.«01_k».proof.Proof.Gen.InProjDwRefIdeal
public import proofs.«01_k».proof.Proof.Gen.InProjDwRefIdeal.Run
public import proofs.«01_k».proof.Proof.Gen.InProjDwRefIdeal.Read
public import proofs.«01_k».proof.Proof.Gen.MlpUp
public import proofs.«01_k».proof.Proof.Gen.MlpUp.Frame
public import proofs.«01_k».proof.Proof.Gen.MlpUpIdeal
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.MlpUpRefIdeal.Read
public import proofs.«01_k».proof.Proof.Gen.MlpDown
public import proofs.«01_k».proof.Proof.Gen.MlpDown.Frame
public import proofs.«01_k».proof.Proof.Gen.MlpDownIdeal
public import proofs.«01_k».proof.Proof.Gen.MlpDownIdeal.Frame
public import proofs.«01_k».proof.Proof.Gen.MlpDownIdeal.Value
public import proofs.«01_k».proof.Proof.Gen.MlpDownRefIdeal
public import proofs.«01_k».proof.Proof.Gen.MlpDownRefIdeal.Run
public import proofs.«01_k».proof.Proof.Gen.MlpDownRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.GateBwd
public import proofs.«01_k».proof.Proof.Gen.GateBwd.Frame
public import proofs.«01_k».proof.Proof.Gen.GateBwdIdeal
public import proofs.«01_k».proof.Proof.Gen.GateBwdIdeal.Frame
public import proofs.«01_k».proof.Proof.Gen.GateBwdRefIdeal
public import proofs.«01_k».proof.Proof.Gen.GateBwdRefIdeal.Run
public import proofs.«01_k».proof.Proof.Gen.GateBwdRefIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.MemoryFwd
public import proofs.«01_k».proof.Proof.Gen.MemoryFwd.Frame
public import proofs.«01_k».proof.Proof.Gen.MemoryFwdIdeal
public import proofs.«01_k».proof.Proof.Gen.MemoryFwdIdeal.Frame
public import proofs.«01_k».proof.Proof.Gen.MemoryFwdIdeal.Value
public import proofs.«01_k».proof.Proof.Gen.MemoryFwdRefIdeal
public import proofs.«01_k».proof.Proof.Gen.MemoryFwdRefIdeal.Run
public import proofs.«01_k».proof.Proof.Gen.MemoryFwdRefIdeal.Read
public import proofs.«01_k».proof.Proof.Gen.GateFwd
public import proofs.«01_k».proof.Proof.Gen.GateFwd.Frame
public import proofs.«01_k».proof.Proof.Gen.GateFwdIdeal
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.BranchProjDx
public import proofs.«01_k».proof.Proof.Gen.BranchProjDx.Frame
public import proofs.«01_k».proof.Proof.Gen.BranchProjDxIdeal
public import proofs.«01_k».proof.Proof.Gen.BranchProjDxIdeal.Frame
public import proofs.«01_k».proof.Proof.Gen.BranchProjDxIdeal.Value
public import proofs.«01_k».proof.Proof.Gen.BranchProjDxRefIdeal
public import proofs.«01_k».proof.Proof.Gen.BranchProjDxRefIdeal.Run
public import proofs.«01_k».proof.Proof.Gen.BranchProjDxRefIdeal.Read
public import proofs.«01_k».proof.Proof.Gen.BranchProjDw
public import proofs.«01_k».proof.Proof.Gen.BranchProjDw.Frame
public import proofs.«01_k».proof.Proof.Gen.BranchProjDwIdeal
public import proofs.«01_k».proof.Proof.Gen.BranchProjDwIdeal.Frame
public import proofs.«01_k».proof.Proof.Gen.BranchProjDwIdeal.Value
public import proofs.«01_k».proof.Proof.Gen.BranchProjDwRefIdeal
public import proofs.«01_k».proof.Proof.Gen.BranchProjDwRefIdeal.Run
public import proofs.«01_k».proof.Proof.Gen.BranchProjDwRefIdeal.Read
public import proofs.«01_k».proof.Proof.Gen.OutProjDx
public import proofs.«01_k».proof.Proof.Gen.OutProjDx.Frame
public import proofs.«01_k».proof.Proof.Gen.OutProjDxIdeal
public import proofs.«01_k».proof.Proof.Gen.OutProjDxIdeal.Frame
public import proofs.«01_k».proof.Proof.Gen.OutProjDxIdeal.Value
public import proofs.«01_k».proof.Proof.Gen.OutProjDxRefIdeal
public import proofs.«01_k».proof.Proof.Gen.OutProjDxRefIdeal.Run
public import proofs.«01_k».proof.Proof.Gen.OutProjDxRefIdeal.Read
public import proofs.«01_k».proof.Proof.Gen.OutProjDw
public import proofs.«01_k».proof.Proof.Gen.OutProjDw.Frame
public import proofs.«01_k».proof.Proof.Gen.OutProjDwIdeal
public import proofs.«01_k».proof.Proof.Gen.OutProjDwIdeal.Frame
public import proofs.«01_k».proof.Proof.Gen.OutProjDwIdeal.Value
public import proofs.«01_k».proof.Proof.Gen.OutProjDwRefIdeal
public import proofs.«01_k».proof.Proof.Gen.OutProjDwRefIdeal.Run
public import proofs.«01_k».proof.Proof.Gen.OutProjDwRefIdeal.Read
public import proofs.«01_k».proof.Proof.Gen.MemQDx
public import proofs.«01_k».proof.Proof.Gen.MemQDx.Frame
public import proofs.«01_k».proof.Proof.Gen.MemQDxIdeal
public import proofs.«01_k».proof.Proof.Gen.MemQDxIdeal.Frame
public import proofs.«01_k».proof.Proof.Gen.MemQDxIdeal.Value
public import proofs.«01_k».proof.Proof.Gen.MemQDxRefIdeal
public import proofs.«01_k».proof.Proof.Gen.MemQDxRefIdeal.Run
public import proofs.«01_k».proof.Proof.Gen.MemQDxRefIdeal.Read
public import proofs.«01_k».proof.Proof.Gen.MemQDw
public import proofs.«01_k».proof.Proof.Gen.MemQDw.Frame
public import proofs.«01_k».proof.Proof.Gen.MemQDwIdeal
public import proofs.«01_k».proof.Proof.Gen.MemQDwIdeal.Frame
public import proofs.«01_k».proof.Proof.Gen.MemQDwIdeal.Value
public import proofs.«01_k».proof.Proof.Gen.MemQDwRefIdeal
public import proofs.«01_k».proof.Proof.Gen.MemQDwRefIdeal.Run
public import proofs.«01_k».proof.Proof.Gen.MemQDwRefIdeal.Read
public import proofs.«01_k».proof.Proof.Gen.MemODx
public import proofs.«01_k».proof.Proof.Gen.MemODx.Frame
public import proofs.«01_k».proof.Proof.Gen.MemODxIdeal
public import proofs.«01_k».proof.Proof.Gen.MemODxIdeal.Frame
public import proofs.«01_k».proof.Proof.Gen.MemODxIdeal.Value
public import proofs.«01_k».proof.Proof.Gen.MemODxRefIdeal
public import proofs.«01_k».proof.Proof.Gen.MemODxRefIdeal.Run
public import proofs.«01_k».proof.Proof.Gen.MemODxRefIdeal.Read
public import proofs.«01_k».proof.Proof.Gen.MemODw
public import proofs.«01_k».proof.Proof.Gen.MemODw.Frame
public import proofs.«01_k».proof.Proof.Gen.MemODwIdeal
public import proofs.«01_k».proof.Proof.Gen.MemODwIdeal.Frame
public import proofs.«01_k».proof.Proof.Gen.MemODwIdeal.Value
public import proofs.«01_k».proof.Proof.Gen.MemODwRefIdeal
public import proofs.«01_k».proof.Proof.Gen.MemODwRefIdeal.Run
public import proofs.«01_k».proof.Proof.Gen.MemODwRefIdeal.Read
public import proofs.«01_k».proof.Proof.Gen.MemKvDx
public import proofs.«01_k».proof.Proof.Gen.MemKvDx.Frame
public import proofs.«01_k».proof.Proof.Gen.MemKvDxIdeal
public import proofs.«01_k».proof.Proof.Gen.MemKvDxIdeal.Frame
public import proofs.«01_k».proof.Proof.Gen.MemKvDxIdeal.Value
public import proofs.«01_k».proof.Proof.Gen.MemKvDxRefIdeal
public import proofs.«01_k».proof.Proof.Gen.MemKvDxRefIdeal.Run
public import proofs.«01_k».proof.Proof.Gen.MemKvDxRefIdeal.Read
public import proofs.«01_k».proof.Proof.Gen.MemKvDw
public import proofs.«01_k».proof.Proof.Gen.MemKvDw.Frame
public import proofs.«01_k».proof.Proof.Gen.MemKvDwIdeal
public import proofs.«01_k».proof.Proof.Gen.MemKvDwIdeal.Frame
public import proofs.«01_k».proof.Proof.Gen.MemKvDwIdeal.Value
public import proofs.«01_k».proof.Proof.Gen.MemKvDwRefIdeal
public import proofs.«01_k».proof.Proof.Gen.MemKvDwRefIdeal.Run
public import proofs.«01_k».proof.Proof.Gen.MemKvDwRefIdeal.Read
public import proofs.«01_k».proof.Proof.Gen.BranchProj
public import proofs.«01_k».proof.Proof.Gen.BranchProj.Frame
public import proofs.«01_k».proof.Proof.Gen.BranchProjIdeal
public import proofs.«01_k».proof.Proof.Gen.BranchProjIdeal.Frame
public import proofs.«01_k».proof.Proof.Gen.BranchProjIdeal.Value
public import proofs.«01_k».proof.Proof.Gen.BranchProjRefIdeal
public import proofs.«01_k».proof.Proof.Gen.BranchProjRefIdeal.Run
public import proofs.«01_k».proof.Proof.Gen.BranchProjRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.MemQ
public import proofs.«01_k».proof.Proof.Gen.MemQ.Frame
public import proofs.«01_k».proof.Proof.Gen.MemQIdeal
public import proofs.«01_k».proof.Proof.Gen.MemQIdeal.Frame
public import proofs.«01_k».proof.Proof.Gen.MemQIdeal.Value
public import proofs.«01_k».proof.Proof.Gen.MemQRefIdeal
public import proofs.«01_k».proof.Proof.Gen.MemQRefIdeal.Run
public import proofs.«01_k».proof.Proof.Gen.MemQRefIdeal.Read
public import proofs.«01_k».proof.Proof.Gen.MemO
public import proofs.«01_k».proof.Proof.Gen.MemO.Frame
public import proofs.«01_k».proof.Proof.Gen.MemOIdeal
public import proofs.«01_k».proof.Proof.Gen.MemOIdeal.Frame
public import proofs.«01_k».proof.Proof.Gen.MemOIdeal.Value
public import proofs.«01_k».proof.Proof.Gen.MemORefIdeal
public import proofs.«01_k».proof.Proof.Gen.MemORefIdeal.Run
public import proofs.«01_k».proof.Proof.Gen.MemORefIdeal.Read
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvRefIdeal.Read
public import proofs.«01_k».proof.Proof.Gen.NormInBwd
public import proofs.«01_k».proof.Proof.Gen.NormInBwd.Frame
public import proofs.«01_k».proof.Proof.Gen.NormInBwdIdeal
public import proofs.«01_k».proof.Proof.Gen.NormInBwdIdeal.Frame
public import proofs.«01_k».proof.Proof.Gen.NormInBwdIdeal.Value
public import proofs.«01_k».proof.Proof.Gen.NormInBwdRefIdeal
public import proofs.«01_k».proof.Proof.Gen.NormInBwdRefIdeal.Run
public import proofs.«01_k».proof.Proof.Gen.NormInBwdRefIdeal.Read
public import proofs.«01_k».proof.Proof.Gen.NormIn
public import proofs.«01_k».proof.Proof.Gen.NormIn.Frame
public import proofs.«01_k».proof.Proof.Gen.NormInIdeal
public import proofs.«01_k».proof.Proof.Gen.NormInIdeal.Frame
public import proofs.«01_k».proof.Proof.Gen.NormInIdeal.Value
public import proofs.«01_k».proof.Proof.Gen.NormInRefIdeal
public import proofs.«01_k».proof.Proof.Gen.NormInRefIdeal.Run
public import proofs.«01_k».proof.Proof.Gen.NormInRefIdeal.Read
public import proofs.«01_k».proof.Proof.Gen.MemNormBwd
public import proofs.«01_k».proof.Proof.Gen.MemNormBwd.Frame
public import proofs.«01_k».proof.Proof.Gen.MemNormBwdIdeal
public import proofs.«01_k».proof.Proof.Gen.MemNormBwdIdeal.Frame
public import proofs.«01_k».proof.Proof.Gen.MemNormBwdIdeal.Value
public import proofs.«01_k».proof.Proof.Gen.MemNormBwdRefIdeal
public import proofs.«01_k».proof.Proof.Gen.MemNormBwdRefIdeal.Run
public import proofs.«01_k».proof.Proof.Gen.MemNormBwdRefIdeal.Read
public import proofs.«01_k».proof.Proof.Gen.MemNorm
public import proofs.«01_k».proof.Proof.Gen.MemNorm.Frame
public import proofs.«01_k».proof.Proof.Gen.MemNormIdeal
public import proofs.«01_k».proof.Proof.Gen.MemNormIdeal.Frame
public import proofs.«01_k».proof.Proof.Gen.MemNormIdeal.Value
public import proofs.«01_k».proof.Proof.Gen.MemNormRefIdeal
public import proofs.«01_k».proof.Proof.Gen.MemNormRefIdeal.Run
public import proofs.«01_k».proof.Proof.Gen.MemNormRefIdeal.Read
public import proofs.«01_k».proof.Proof.Gen.NormTopBwd
public import proofs.«01_k».proof.Proof.Gen.NormTopBwd.Frame
public import proofs.«01_k».proof.Proof.Gen.NormTopBwdIdeal
public import proofs.«01_k».proof.Proof.Gen.NormTopBwdIdeal.Frame
public import proofs.«01_k».proof.Proof.Gen.NormTopBwdIdeal.Value
public import proofs.«01_k».proof.Proof.Gen.NormTopBwdRefIdeal
public import proofs.«01_k».proof.Proof.Gen.NormTopBwdRefIdeal.Run
public import proofs.«01_k».proof.Proof.Gen.NormTopBwdRefIdeal.Read
public import proofs.«01_k».proof.Proof.Gen.StepSmall
public import proofs.«01_k».proof.Proof.Gen.StepSmall.Frame
public import proofs.«01_k».proof.Proof.Gen.StepSmallIdeal
public import proofs.«01_k».proof.Proof.Gen.StepSmallIdeal.Frame
public import proofs.«01_k».proof.Proof.Gen.StepSmallRefIdeal
public import proofs.«01_k».proof.Proof.Gen.StepSmallRefIdeal.Run
public import proofs.«01_k».proof.Proof.MemoryEquation
public import proofs.«01_k».proof.Proof.MlpDownDxEquation
public import proofs.«01_k».proof.Proof.MlpDownDwEquation
public import proofs.«01_k».proof.Proof.MlpUpDxEquation
public import proofs.«01_k».proof.Proof.MlpUpDwEquation
public import proofs.«01_k».proof.Proof.InProjDxEquation
public import proofs.«01_k».proof.Proof.InProjDwEquation
public import proofs.«01_k».proof.Proof.MlpUpEquation
public import proofs.«01_k».proof.Proof.MlpDownEquation
public import proofs.«01_k».proof.Proof.InProjEquation
public import proofs.«01_k».proof.Proof.NormBwdEquation
public import proofs.«01_k».proof.Proof.GateBwdEquation
public import proofs.«01_k».proof.Proof.LossHeadEquation
public import proofs.«01_k».proof.Proof.MemoryFwdEquation
public import proofs.«01_k».proof.Proof.GateFwdEquation
public import proofs.«01_k».proof.Proof.NormFwdEquation
public import proofs.«01_k».proof.Proof.BranchProjDxEquation
public import proofs.«01_k».proof.Proof.BranchProjDwEquation
public import proofs.«01_k».proof.Proof.OutProjDxEquation
public import proofs.«01_k».proof.Proof.OutProjDwEquation
public import proofs.«01_k».proof.Proof.MemQDxEquation
public import proofs.«01_k».proof.Proof.MemQDwEquation
public import proofs.«01_k».proof.Proof.MemODxEquation
public import proofs.«01_k».proof.Proof.MemODwEquation
public import proofs.«01_k».proof.Proof.MemKvDxEquation
public import proofs.«01_k».proof.Proof.MemKvDwEquation
public import proofs.«01_k».proof.Proof.BranchProjEquation
public import proofs.«01_k».proof.Proof.OutProjEquation
public import proofs.«01_k».proof.Proof.MemQEquation
public import proofs.«01_k».proof.Proof.MemOEquation
public import proofs.«01_k».proof.Proof.MemKvEquation
public import proofs.«01_k».proof.Proof.NormInBwdEquation
public import proofs.«01_k».proof.Proof.NormInEquation
public import proofs.«01_k».proof.Proof.MemNormBwdEquation
public import proofs.«01_k».proof.Proof.MemNormEquation
public import proofs.«01_k».proof.Proof.NormTopBwdEquation
public import proofs.«01_k».proof.Proof.StepSmallEquation
public import Idealize.ShloMosaic.Adequacy
public import Idealize.ShloMosaic.Init

@[expose] public section

noncomputable section

namespace Cert.Proof

open Idealize.ShloMosaic Idealize.SL.Sem

/-- Every claim of the certificate: the programs' side conditions, then the frames, the kernels' own texts and the values. -/
theorem claim : Cert.Claim :=
  ⟨Cert.MemoryBwd.Gen.facts,
    Cert.MemoryBwdIdeal.Gen.facts,
    Cert.MemoryGradIdeal.Gen.facts,
    Cert.MlpDownDx.Gen.facts,
    Cert.MlpDownDxIdeal.Gen.facts,
    Cert.MlpDownDxRefIdeal.Gen.facts,
    Cert.MlpDownDw.Gen.facts,
    Cert.MlpDownDwIdeal.Gen.facts,
    Cert.MlpDownDwRefIdeal.Gen.facts,
    Cert.MlpUpDx.Gen.facts,
    Cert.MlpUpDxIdeal.Gen.facts,
    Cert.MlpUpDxRefIdeal.Gen.facts,
    Cert.MlpUpDw.Gen.facts,
    Cert.MlpUpDwIdeal.Gen.facts,
    Cert.MlpUpDwRefIdeal.Gen.facts,
    Cert.InProjDx.Gen.facts,
    Cert.InProjDxIdeal.Gen.facts,
    Cert.InProjDxRefIdeal.Gen.facts,
    Cert.InProjDw.Gen.facts,
    Cert.InProjDwIdeal.Gen.facts,
    Cert.InProjDwRefIdeal.Gen.facts,
    Cert.MlpUp.Gen.facts,
    Cert.MlpUpIdeal.Gen.facts,
    Cert.MlpUpRefIdeal.Gen.facts,
    Cert.MlpDown.Gen.facts,
    Cert.MlpDownIdeal.Gen.facts,
    Cert.MlpDownRefIdeal.Gen.facts,
    Cert.InProj.Gen.facts,
    Cert.InProjIdeal.Gen.facts,
    Cert.InProjRefIdeal.Gen.facts,
    Cert.NormBwd.Gen.facts,
    Cert.NormBwdIdeal.Gen.facts,
    Cert.NormBwdRefIdeal.Gen.facts,
    Cert.GateBwd.Gen.facts,
    Cert.GateBwdIdeal.Gen.facts,
    Cert.GateBwdRefIdeal.Gen.facts,
    Cert.LossHead.Gen.facts,
    Cert.LossHeadIdeal.Gen.facts,
    Cert.LossHeadRefIdeal.Gen.facts,
    Cert.MemoryFwd.Gen.facts,
    Cert.MemoryFwdIdeal.Gen.facts,
    Cert.MemoryFwdRefIdeal.Gen.facts,
    Cert.GateFwd.Gen.facts,
    Cert.GateFwdIdeal.Gen.facts,
    Cert.GateFwdRefIdeal.Gen.facts,
    Cert.NormFwd.Gen.facts,
    Cert.NormFwdIdeal.Gen.facts,
    Cert.NormFwdRefIdeal.Gen.facts,
    Cert.BranchProjDx.Gen.facts,
    Cert.BranchProjDxIdeal.Gen.facts,
    Cert.BranchProjDxRefIdeal.Gen.facts,
    Cert.BranchProjDw.Gen.facts,
    Cert.BranchProjDwIdeal.Gen.facts,
    Cert.BranchProjDwRefIdeal.Gen.facts,
    Cert.OutProjDx.Gen.facts,
    Cert.OutProjDxIdeal.Gen.facts,
    Cert.OutProjDxRefIdeal.Gen.facts,
    Cert.OutProjDw.Gen.facts,
    Cert.OutProjDwIdeal.Gen.facts,
    Cert.OutProjDwRefIdeal.Gen.facts,
    Cert.MemQDx.Gen.facts,
    Cert.MemQDxIdeal.Gen.facts,
    Cert.MemQDxRefIdeal.Gen.facts,
    Cert.MemQDw.Gen.facts,
    Cert.MemQDwIdeal.Gen.facts,
    Cert.MemQDwRefIdeal.Gen.facts,
    Cert.MemODx.Gen.facts,
    Cert.MemODxIdeal.Gen.facts,
    Cert.MemODxRefIdeal.Gen.facts,
    Cert.MemODw.Gen.facts,
    Cert.MemODwIdeal.Gen.facts,
    Cert.MemODwRefIdeal.Gen.facts,
    Cert.MemKvDx.Gen.facts,
    Cert.MemKvDxIdeal.Gen.facts,
    Cert.MemKvDxRefIdeal.Gen.facts,
    Cert.MemKvDw.Gen.facts,
    Cert.MemKvDwIdeal.Gen.facts,
    Cert.MemKvDwRefIdeal.Gen.facts,
    Cert.BranchProj.Gen.facts,
    Cert.BranchProjIdeal.Gen.facts,
    Cert.BranchProjRefIdeal.Gen.facts,
    Cert.OutProj.Gen.facts,
    Cert.OutProjIdeal.Gen.facts,
    Cert.OutProjRefIdeal.Gen.facts,
    Cert.MemQ.Gen.facts,
    Cert.MemQIdeal.Gen.facts,
    Cert.MemQRefIdeal.Gen.facts,
    Cert.MemO.Gen.facts,
    Cert.MemOIdeal.Gen.facts,
    Cert.MemORefIdeal.Gen.facts,
    Cert.MemKv.Gen.facts,
    Cert.MemKvIdeal.Gen.facts,
    Cert.MemKvRefIdeal.Gen.facts,
    Cert.NormInBwd.Gen.facts,
    Cert.NormInBwdIdeal.Gen.facts,
    Cert.NormInBwdRefIdeal.Gen.facts,
    Cert.NormIn.Gen.facts,
    Cert.NormInIdeal.Gen.facts,
    Cert.NormInRefIdeal.Gen.facts,
    Cert.MemNormBwd.Gen.facts,
    Cert.MemNormBwdIdeal.Gen.facts,
    Cert.MemNormBwdRefIdeal.Gen.facts,
    Cert.MemNorm.Gen.facts,
    Cert.MemNormIdeal.Gen.facts,
    Cert.MemNormRefIdeal.Gen.facts,
    Cert.NormTopBwd.Gen.facts,
    Cert.NormTopBwdIdeal.Gen.facts,
    Cert.NormTopBwdRefIdeal.Gen.facts,
    Cert.StepSmall.Gen.facts,
    Cert.StepSmallIdeal.Gen.facts,
    Cert.StepSmallRefIdeal.Gen.facts,
    Cert.Pre_mem_finite.Gen.facts,
    Cert.Pre_mem_fwd_finite.Gen.facts,
    fun m ρ _ => Cert.MemoryBwd.Gen.frame m ρ,
    fun m ρ _ => Cert.MemoryBwdIdeal.Gen.frame m ρ,
    fun m ρ _ => Cert.MemoryBwdIdeal.Gen.frame m ρ,
    fun m ρ _ => ReferenceFrame.frame (Cert.MemoryGradIdeal.Value.run (F := Ideal) m ρ) fun _ _ h => h.2.2,
    fun m ρ _ => ReferenceFrame.frame (Cert.MemoryGradIdeal.Value.run (F := Ideal) m ρ) fun _ _ h => h.2.2,
    fun m ρ _ => Cert.MlpDownDx.Gen.frame m ρ,
    fun m ρ _ => Cert.MlpDownDxIdeal.Gen.frame m ρ,
    fun m ρ _ => ReferenceFrame.frame (Cert.MlpDownDxRefIdeal.Value.run (F := Ideal) m ρ) fun _ _ h => h.2,
    fun m ρ _ => Cert.MlpDownDw.Gen.frame m ρ,
    fun m ρ _ => Cert.MlpDownDwIdeal.Gen.frame m ρ,
    fun m ρ _ => ReferenceFrame.frame (Cert.MlpDownDwRefIdeal.Value.run (F := Ideal) m ρ) fun _ _ h => h.2,
    fun m ρ _ => Cert.MlpUpDx.Gen.frame m ρ,
    fun m ρ _ => Cert.MlpUpDxIdeal.Gen.frame m ρ,
    fun m ρ _ => ReferenceFrame.frame (Cert.MlpUpDxRefIdeal.Value.run (F := Ideal) m ρ) fun _ _ h => h.2,
    fun m ρ _ => Cert.MlpUpDw.Gen.frame m ρ,
    fun m ρ _ => Cert.MlpUpDwIdeal.Gen.frame m ρ,
    fun m ρ _ => ReferenceFrame.frame (Cert.MlpUpDwRefIdeal.Value.run (F := Ideal) m ρ) fun _ _ h => h.2,
    fun m ρ _ => Cert.InProjDx.Gen.frame m ρ,
    fun m ρ _ => Cert.InProjDxIdeal.Gen.frame m ρ,
    fun m ρ _ => ReferenceFrame.frame (Cert.InProjDxRefIdeal.Value.run (F := Ideal) m ρ) fun _ _ h => h.2,
    fun m ρ _ => Cert.InProjDw.Gen.frame m ρ,
    fun m ρ _ => Cert.InProjDwIdeal.Gen.frame m ρ,
    fun m ρ _ => ReferenceFrame.frame (Cert.InProjDwRefIdeal.Value.run (F := Ideal) m ρ) fun _ _ h => h.2,
    fun m ρ _ => Cert.MlpUp.Gen.frame m ρ,
    fun m ρ _ => Cert.MlpUpIdeal.Gen.frame m ρ,
    fun m ρ _ => ReferenceFrame.frame (Cert.MlpUpRefIdeal.Value.run (F := Ideal) m ρ) fun _ _ h => h.2,
    fun m ρ _ => Cert.MlpDown.Gen.frame m ρ,
    fun m ρ _ => Cert.MlpDownIdeal.Gen.frame m ρ,
    fun m ρ _ => ReferenceFrame.frame (Cert.MlpDownRefIdeal.Value.run (F := Ideal) m ρ) fun _ _ h => h.2,
    fun m ρ _ => Cert.InProj.Gen.frame m ρ,
    fun m ρ _ => Cert.InProjIdeal.Gen.frame m ρ,
    fun m ρ _ => ReferenceFrame.frame (Cert.InProjRefIdeal.Value.run (F := Ideal) m ρ) fun _ _ h => h.2,
    fun m ρ _ => Cert.NormBwd.Gen.frame m ρ,
    fun m ρ _ => Cert.NormBwdIdeal.Gen.frame m ρ,
    fun m ρ _ => ReferenceFrame.frame (Cert.NormBwdRefIdeal.Value.run (F := Ideal) m ρ) fun _ _ h => h.2.2.2.2,
    fun m ρ _ => Cert.GateBwd.Gen.frame m ρ,
    fun m ρ _ => Cert.GateBwdIdeal.Gen.frame m ρ,
    fun m ρ _ => ReferenceFrame.frame (Cert.GateBwdRefIdeal.Value.run (F := Ideal) m ρ) fun _ _ h => h.2.2,
    fun m ρ _ => Cert.LossHead.Gen.frame m ρ,
    fun m ρ _ => Cert.LossHeadIdeal.Gen.frame m ρ,
    fun m ρ _ => ReferenceFrame.frame (Cert.LossHeadRefIdeal.Value.run (F := Ideal) m ρ) fun _ _ h => h.2.2,
    fun m ρ _ => Cert.MemoryFwd.Gen.frame m ρ,
    fun m ρ _ => Cert.MemoryFwdIdeal.Gen.frame m ρ,
    fun m ρ _ => Cert.MemoryFwdIdeal.Gen.frame m ρ,
    fun m ρ _ => ReferenceFrame.frame (Cert.MemoryFwdRefIdeal.Value.run (F := Ideal) m ρ) fun _ _ h => h.2,
    fun m ρ _ => ReferenceFrame.frame (Cert.MemoryFwdRefIdeal.Value.run (F := Ideal) m ρ) fun _ _ h => h.2,
    fun m ρ _ => Cert.GateFwd.Gen.frame m ρ,
    fun m ρ _ => Cert.GateFwdIdeal.Gen.frame m ρ,
    fun m ρ _ => ReferenceFrame.frame (Cert.GateFwdRefIdeal.Value.run (F := Ideal) m ρ) fun _ _ h => h.2,
    fun m ρ _ => Cert.NormFwd.Gen.frame m ρ,
    fun m ρ _ => Cert.NormFwdIdeal.Gen.frame m ρ,
    fun m ρ _ => ReferenceFrame.frame (Cert.NormFwdRefIdeal.Value.run (F := Ideal) m ρ) fun _ _ h => h.2.2,
    fun m ρ _ => Cert.BranchProjDx.Gen.frame m ρ,
    fun m ρ _ => Cert.BranchProjDxIdeal.Gen.frame m ρ,
    fun m ρ _ => ReferenceFrame.frame (Cert.BranchProjDxRefIdeal.Value.run (F := Ideal) m ρ) fun _ _ h => h.2,
    fun m ρ _ => Cert.BranchProjDw.Gen.frame m ρ,
    fun m ρ _ => Cert.BranchProjDwIdeal.Gen.frame m ρ,
    fun m ρ _ => ReferenceFrame.frame (Cert.BranchProjDwRefIdeal.Value.run (F := Ideal) m ρ) fun _ _ h => h.2,
    fun m ρ _ => Cert.OutProjDx.Gen.frame m ρ,
    fun m ρ _ => Cert.OutProjDxIdeal.Gen.frame m ρ,
    fun m ρ _ => ReferenceFrame.frame (Cert.OutProjDxRefIdeal.Value.run (F := Ideal) m ρ) fun _ _ h => h.2,
    fun m ρ _ => Cert.OutProjDw.Gen.frame m ρ,
    fun m ρ _ => Cert.OutProjDwIdeal.Gen.frame m ρ,
    fun m ρ _ => ReferenceFrame.frame (Cert.OutProjDwRefIdeal.Value.run (F := Ideal) m ρ) fun _ _ h => h.2,
    fun m ρ _ => Cert.MemQDx.Gen.frame m ρ,
    fun m ρ _ => Cert.MemQDxIdeal.Gen.frame m ρ,
    fun m ρ _ => ReferenceFrame.frame (Cert.MemQDxRefIdeal.Value.run (F := Ideal) m ρ) fun _ _ h => h.2,
    fun m ρ _ => Cert.MemQDw.Gen.frame m ρ,
    fun m ρ _ => Cert.MemQDwIdeal.Gen.frame m ρ,
    fun m ρ _ => ReferenceFrame.frame (Cert.MemQDwRefIdeal.Value.run (F := Ideal) m ρ) fun _ _ h => h.2,
    fun m ρ _ => Cert.MemODx.Gen.frame m ρ,
    fun m ρ _ => Cert.MemODxIdeal.Gen.frame m ρ,
    fun m ρ _ => ReferenceFrame.frame (Cert.MemODxRefIdeal.Value.run (F := Ideal) m ρ) fun _ _ h => h.2,
    fun m ρ _ => Cert.MemODw.Gen.frame m ρ,
    fun m ρ _ => Cert.MemODwIdeal.Gen.frame m ρ,
    fun m ρ _ => ReferenceFrame.frame (Cert.MemODwRefIdeal.Value.run (F := Ideal) m ρ) fun _ _ h => h.2,
    fun m ρ _ => Cert.MemKvDx.Gen.frame m ρ,
    fun m ρ _ => Cert.MemKvDxIdeal.Gen.frame m ρ,
    fun m ρ _ => ReferenceFrame.frame (Cert.MemKvDxRefIdeal.Value.run (F := Ideal) m ρ) fun _ _ h => h.2,
    fun m ρ _ => Cert.MemKvDw.Gen.frame m ρ,
    fun m ρ _ => Cert.MemKvDwIdeal.Gen.frame m ρ,
    fun m ρ _ => ReferenceFrame.frame (Cert.MemKvDwRefIdeal.Value.run (F := Ideal) m ρ) fun _ _ h => h.2,
    fun m ρ _ => Cert.BranchProj.Gen.frame m ρ,
    fun m ρ _ => Cert.BranchProjIdeal.Gen.frame m ρ,
    fun m ρ _ => ReferenceFrame.frame (Cert.BranchProjRefIdeal.Value.run (F := Ideal) m ρ) fun _ _ h => h.2,
    fun m ρ _ => Cert.OutProj.Gen.frame m ρ,
    fun m ρ _ => Cert.OutProjIdeal.Gen.frame m ρ,
    fun m ρ _ => ReferenceFrame.frame (Cert.OutProjRefIdeal.Value.run (F := Ideal) m ρ) fun _ _ h => h.2,
    fun m ρ _ => Cert.MemQ.Gen.frame m ρ,
    fun m ρ _ => Cert.MemQIdeal.Gen.frame m ρ,
    fun m ρ _ => ReferenceFrame.frame (Cert.MemQRefIdeal.Value.run (F := Ideal) m ρ) fun _ _ h => h.2,
    fun m ρ _ => Cert.MemO.Gen.frame m ρ,
    fun m ρ _ => Cert.MemOIdeal.Gen.frame m ρ,
    fun m ρ _ => ReferenceFrame.frame (Cert.MemORefIdeal.Value.run (F := Ideal) m ρ) fun _ _ h => h.2,
    fun m ρ _ => Cert.MemKv.Gen.frame m ρ,
    fun m ρ _ => Cert.MemKvIdeal.Gen.frame m ρ,
    fun m ρ _ => ReferenceFrame.frame (Cert.MemKvRefIdeal.Value.run (F := Ideal) m ρ) fun _ _ h => h.2,
    fun m ρ _ => Cert.NormInBwd.Gen.frame m ρ,
    fun m ρ _ => Cert.NormInBwdIdeal.Gen.frame m ρ,
    fun m ρ _ => ReferenceFrame.frame (Cert.NormInBwdRefIdeal.Value.run (F := Ideal) m ρ) fun _ _ h => h.2.2,
    fun m ρ _ => Cert.NormIn.Gen.frame m ρ,
    fun m ρ _ => Cert.NormInIdeal.Gen.frame m ρ,
    fun m ρ _ => ReferenceFrame.frame (Cert.NormInRefIdeal.Value.run (F := Ideal) m ρ) fun _ _ h => h.2,
    fun m ρ _ => Cert.MemNormBwd.Gen.frame m ρ,
    fun m ρ _ => Cert.MemNormBwdIdeal.Gen.frame m ρ,
    fun m ρ _ => ReferenceFrame.frame (Cert.MemNormBwdRefIdeal.Value.run (F := Ideal) m ρ) fun _ _ h => h.2.2,
    fun m ρ _ => Cert.MemNorm.Gen.frame m ρ,
    fun m ρ _ => Cert.MemNormIdeal.Gen.frame m ρ,
    fun m ρ _ => ReferenceFrame.frame (Cert.MemNormRefIdeal.Value.run (F := Ideal) m ρ) fun _ _ h => h.2,
    fun m ρ _ => Cert.NormTopBwd.Gen.frame m ρ,
    fun m ρ _ => Cert.NormTopBwdIdeal.Gen.frame m ρ,
    fun m ρ _ => ReferenceFrame.frame (Cert.NormTopBwdRefIdeal.Value.run (F := Ideal) m ρ) fun _ _ h => h.2.2.2,
    fun m ρ _ => Cert.StepSmall.Gen.frame m ρ,
    fun m ρ _ => Cert.StepSmallIdeal.Gen.frame m ρ,
    fun m ρ _ => ReferenceFrame.frame (Cert.StepSmallRefIdeal.Value.run (F := Ideal) m ρ) fun _ _ h => h.2.2.2.2.2.2.2.2.2.2.2.2.2.2.2.2.2.2.2.2.2.2.2.2,
    trivial,
    Cert.MemoryEquation.algebraic,
    trivial,
    Cert.MlpDownDxEquation.algebraic,
    trivial,
    Cert.MlpDownDwEquation.algebraic,
    trivial,
    Cert.MlpUpDxEquation.algebraic,
    trivial,
    Cert.MlpUpDwEquation.algebraic,
    trivial,
    Cert.InProjDxEquation.algebraic,
    trivial,
    Cert.InProjDwEquation.algebraic,
    trivial,
    Cert.MlpUpEquation.algebraic,
    trivial,
    Cert.MlpDownEquation.algebraic,
    trivial,
    Cert.InProjEquation.algebraic,
    trivial,
    Cert.NormBwdEquation.algebraic,
    trivial,
    Cert.GateBwdEquation.algebraic,
    trivial,
    Cert.LossHeadEquation.algebraic,
    trivial,
    Cert.MemoryFwdEquation.algebraic,
    trivial,
    Cert.GateFwdEquation.algebraic,
    trivial,
    Cert.NormFwdEquation.algebraic,
    trivial,
    Cert.BranchProjDxEquation.algebraic,
    trivial,
    Cert.BranchProjDwEquation.algebraic,
    trivial,
    Cert.OutProjDxEquation.algebraic,
    trivial,
    Cert.OutProjDwEquation.algebraic,
    trivial,
    Cert.MemQDxEquation.algebraic,
    trivial,
    Cert.MemQDwEquation.algebraic,
    trivial,
    Cert.MemODxEquation.algebraic,
    trivial,
    Cert.MemODwEquation.algebraic,
    trivial,
    Cert.MemKvDxEquation.algebraic,
    trivial,
    Cert.MemKvDwEquation.algebraic,
    trivial,
    Cert.BranchProjEquation.algebraic,
    trivial,
    Cert.OutProjEquation.algebraic,
    trivial,
    Cert.MemQEquation.algebraic,
    trivial,
    Cert.MemOEquation.algebraic,
    trivial,
    Cert.MemKvEquation.algebraic,
    trivial,
    Cert.NormInBwdEquation.algebraic,
    trivial,
    Cert.NormInEquation.algebraic,
    trivial,
    Cert.MemNormBwdEquation.algebraic,
    trivial,
    Cert.MemNormEquation.algebraic,
    trivial,
    Cert.NormTopBwdEquation.algebraic,
    trivial,
    Cert.StepSmallEquation.algebraic⟩

end Cert.Proof

end
